-- ==== Defs.lean ====
def Pre_MmRes (m : (ℓ : Loc Cert.MmRes.nD Cert.MmRes.τ Cert.MmRes.sig) → Buf (Elt Bits) ℓ) : Prop :=
  True

def Pre_MmResIdeal (m : (ℓ : Loc Cert.MmResIdeal.nD Cert.MmResIdeal.τ Cert.MmResIdeal.sig) → Buf (Elt Ideal) ℓ) : Prop :=
  True

def Pre_MmResRefIdeal (m : (ℓ : Loc Cert.MmResRefIdeal.nD Cert.MmResRefIdeal.τ Cert.MmResRefIdeal.sig) → Buf (Elt Ideal) ℓ) : Prop :=
  True

def Pre_NormMm (m : (ℓ : Loc Cert.NormMm.nD Cert.NormMm.τ Cert.NormMm.sig) → Buf (Elt Bits) ℓ) : Prop :=
  True

def Pre_NormMmIdeal (m : (ℓ : Loc Cert.NormMmIdeal.nD Cert.NormMmIdeal.τ Cert.NormMmIdeal.sig) → Buf (Elt Ideal) ℓ) : Prop :=
  True

def Pre_NormMmRefIdeal (m : (ℓ : Loc Cert.NormMmRefIdeal.nD Cert.NormMmRefIdeal.τ Cert.NormMmRefIdeal.sig) → Buf (Elt Ideal) ℓ) : Prop :=
  True

def Pre_Ca (m : (ℓ : Loc Cert.Ca.nD Cert.Ca.τ Cert.Ca.sig) → Buf (Elt Bits) ℓ) : Prop :=
  True

def Pre_CaIdeal (m : (ℓ : Loc Cert.CaIdeal.nD Cert.CaIdeal.τ Cert.CaIdeal.sig) → Buf (Elt Ideal) ℓ) : Prop :=
  True

def Pre_CaRefIdeal (m : (ℓ : Loc Cert.CaRefIdeal.nD Cert.CaRefIdeal.τ Cert.CaRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutRefIdeal (m : (ℓ : Loc Cert.MixoutRefIdeal.nD Cert.MixoutRefIdeal.τ Cert.MixoutRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnRefIdeal (m : (ℓ : Loc Cert.HgrnRefIdeal.nD Cert.HgrnRefIdeal.τ Cert.HgrnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_MixoutS (m : (ℓ : Loc Cert.MixoutS.nD Cert.MixoutS.τ Cert.MixoutS.sig) → Buf (Elt Bits) ℓ) : Prop :=
  True

def Pre_MixoutSIdeal (m : (ℓ : Loc Cert.MixoutSIdeal.nD Cert.MixoutSIdeal.τ Cert.MixoutSIdeal.sig) → Buf (Elt Ideal) ℓ) : Prop :=
  True

def Pre_MixoutSRefIdeal (m : (ℓ : Loc Cert.MixoutSRefIdeal.nD Cert.MixoutSRefIdeal.τ Cert.MixoutSRefIdeal.sig) → Buf (Elt Ideal) ℓ) : Prop :=
  True

def Pre_CaS (m : (ℓ : Loc Cert.CaS.nD Cert.CaS.τ Cert.CaS.sig) → Buf (Elt Bits) ℓ) : Prop :=
  True

def Pre_CaSIdeal (m : (ℓ : Loc Cert.CaSIdeal.nD Cert.CaSIdeal.τ Cert.CaSIdeal.sig) → Buf (Elt Ideal) ℓ) : Prop :=
  True

def Pre_CaSRefIdeal (m : (ℓ : Loc Cert.CaSRefIdeal.nD Cert.CaSRefIdeal.τ Cert.CaSRefIdeal.sig) → Buf (Elt Ideal) ℓ) : Prop :=
  True

def Pre_MmResS (m : (ℓ : Loc Cert.MmResS.nD Cert.MmResS.τ Cert.MmResS.sig) → Buf (Elt Bits) ℓ) : Prop :=
  True

def Pre_MmResSIdeal (m : (ℓ : Loc Cert.MmResSIdeal.nD Cert.MmResSIdeal.τ Cert.MmResSIdeal.sig) → Buf (Elt Ideal) ℓ) : Prop :=
  True

def Pre_MmResSRefIdeal (m : (ℓ : Loc Cert.MmResSRefIdeal.nD Cert.MmResSRefIdeal.τ Cert.MmResSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_HgrnP (m : (ℓ : Loc Cert.HgrnP.nD Cert.HgrnP.τ Cert.HgrnP.sig) → Buf (Elt Bits) ℓ) : Prop :=
  True

def Pre_HgrnPIdeal (m : (ℓ : Loc Cert.HgrnPIdeal.nD Cert.HgrnPIdeal.τ Cert.HgrnPIdeal.sig) → Buf (Elt Ideal) ℓ) : Prop :=
  True

def Pre_NsaP (m : (ℓ : Loc Cert.NsaP.nD Cert.NsaP.τ Cert.NsaP.sig) → Buf (Elt Bits) ℓ) : Prop :=
  True

def Pre_NsaPIdeal (m : (ℓ : Loc Cert.NsaPIdeal.nD Cert.NsaPIdeal.τ Cert.NsaPIdeal.sig) → Buf (Elt Ideal) ℓ) : Prop :=
  True

def quiescent_MmRes [hMmRes : Cert.MmRes.Facts] : Prop :=
  ∀ (m : (ℓ : Loc Cert.MmRes.nD Cert.MmRes.τ Cert.MmRes.sig) → Buf (Elt Bits) ℓ) (g : Dev Cert.MmRes.nD → PrngReg), Pre_MmRes m →
    θ_run (Cert.MmRes.defs (F := Bits)) (onTc (τ := Cert.MmRes.τ) (Cert.MmRes.main (F := Bits))) ⟨m, fun _ => 0, g⟩ (fun r => (∀ c : Dev Cert.MmRes.nD,
      r.2.mem ((c.tc : Thread Cert.MmRes.nD Cert.MmRes.τ).loc Cert.MmRes.main_arg0) = m ((c.tc : Thread Cert.MmRes.nD Cert.MmRes.τ).loc Cert.MmRes.main_arg0)
      ∧ r.2.mem ((c.tc : Thread Cert.MmRes.nD Cert.MmRes.τ).loc Cert.MmRes.main_arg1) = m ((c.tc : Thread Cert.MmRes.nD Cert.MmRes.τ).loc Cert.MmRes.main_arg1)
      ∧ r.2.mem ((c.tc : Thread Cert.MmRes.nD Cert.MmRes.τ).loc Cert.MmRes.main_arg2) = m ((c.tc : Thread Cert.MmRes.nD Cert.MmRes.τ).loc Cert.MmRes.main_arg2))
      ∧ r.2.sem = fun _ => 0)

def quiescent_MmResIdeal [hMmResIdeal : Cert.MmResIdeal.Facts] : Prop :=
  ∀ (m : (ℓ : Loc Cert.MmResIdeal.nD Cert.MmResIdeal.τ Cert.MmResIdeal.sig) → Buf (Elt Ideal) ℓ) (g : Dev Cert.MmResIdeal.nD → PrngReg), Pre_MmResIdeal m →
    θ_run (Cert.MmResIdeal.defs (F := Ideal)) (onTc (τ := Cert.MmResIdeal.τ) (Cert.MmResIdeal.main (F := Ideal))) ⟨m, fun _ => 0, g⟩ (fun r => (∀ c : Dev Cert.MmResIdeal.nD,
      r.2.mem ((c.tc : Thread Cert.MmResIdeal.nD Cert.MmResIdeal.τ).loc Cert.MmResIdeal.main_arg0) = m ((c.tc : Thread Cert.MmResIdeal.nD Cert.MmResIdeal.τ).loc Cert.MmResIdeal.main_arg0)
      ∧ r.2.mem ((c.tc : Thread Cert.MmResIdeal.nD Cert.MmResIdeal.τ).loc Cert.MmResIdeal.main_arg1) = m ((c.tc : Thread Cert.MmResIdeal.nD Cert.MmResIdeal.τ).loc Cert.MmResIdeal.main_arg1)
      ∧ r.2.mem ((c.tc : Thread Cert.MmResIdeal.nD Cert.MmResIdeal.τ).loc Cert.MmResIdeal.main_arg2) = m ((c.tc : Thread Cert.MmResIdeal.nD Cert.MmResIdeal.τ).loc Cert.MmResIdeal.main_arg2))
      ∧ r.2.sem = fun _ => 0)

def quiescent_MmResRefIdeal [hMmResRefIdeal : Cert.MmResRefIdeal.Facts] : Prop :=
  ∀ (m : (ℓ : Loc Cert.MmResRefIdeal.nD Cert.MmResRefIdeal.τ Cert.MmResRefIdeal.sig) → Buf (Elt Ideal) ℓ) (g : Dev Cert.MmResRefIdeal.nD → PrngReg), Pre_MmResRefIdeal m →
    θ_run (Cert.MmResRefIdeal.defs (F := Ideal)) (onTc (τ := Cert.MmResRefIdeal.τ) (Cert.MmResRefIdeal.main (F := Ideal))) ⟨m, fun _ => 0, g⟩ (fun r => (∀ c : Dev Cert.MmResRefIdeal.nD,
      r.2.mem ((c.tc : Thread Cert.MmResRefIdeal.nD Cert.MmResRefIdeal.τ).loc Cert.MmResRefIdeal.main_arg0) = m ((c.tc : Thread Cert.MmResRefIdeal.nD Cert.MmResRefIdeal.τ).loc Cert.MmResRefIdeal.main_arg0)
      ∧ r.2.mem ((c.tc : Thread Cert.MmResRefIdeal.nD Cert.MmResRefIdeal.τ).loc Cert.MmResRefIdeal.main_arg1) = m ((c.tc : Thread Cert.MmResRefIdeal.nD Cert.MmResRefIdeal.τ).loc Cert.MmResRefIdeal.main_arg1)
      ∧ r.2.mem ((c.tc : Thread Cert.MmResRefIdeal.nD Cert.MmResRefIdeal.τ).loc Cert.MmResRefIdeal.main_arg2) = m ((c.tc : Thread Cert.MmResRefIdeal.nD Cert.MmResRefIdeal.τ).loc Cert.MmResRefIdeal.main_arg2))
      ∧ r.2.sem = fun _ => 0)

def quiescent_NormMm [hNormMm : Cert.NormMm.Facts] : Prop :=
  ∀ (m : (ℓ : Loc Cert.NormMm.nD Cert.NormMm.τ Cert.NormMm.sig) → Buf (Elt Bits) ℓ) (g : Dev Cert.NormMm.nD → PrngReg), Pre_NormMm m →
    θ_run (Cert.NormMm.defs (F := Bits)) (onTc (τ := Cert.NormMm.τ) (Cert.NormMm.main (F := Bits))) ⟨m, fun _ => 0, g⟩ (fun r => (∀ c : Dev Cert.NormMm.nD,
      r.2.mem ((c.tc : Thread Cert.NormMm.nD Cert.NormMm.τ).loc Cert.NormMm.main_arg0) = m ((c.tc : Thread Cert.NormMm.nD Cert.NormMm.τ).loc Cert.NormMm.main_arg0)
      ∧ r.2.mem ((c.tc : Thread Cert.NormMm.nD Cert.NormMm.τ).loc Cert.NormMm.main_arg1) = m ((c.tc : Thread Cert.NormMm.nD Cert.NormMm.τ).loc Cert.NormMm.main_arg1)
      ∧ r.2.mem ((c.tc : Thread Cert.NormMm.nD Cert.NormMm.τ).loc Cert.NormMm.main_arg2) = m ((c.tc : Thread Cert.NormMm.nD Cert.NormMm.τ).loc Cert.NormMm.main_arg2)
      ∧ r.2.mem ((c.tc : Thread Cert.NormMm.nD Cert.NormMm.τ).loc Cert.NormMm.main_arg3) = m ((c.tc : Thread Cert.NormMm.nD Cert.NormMm.τ).loc Cert.NormMm.main_arg3))
      ∧ r.2.sem = fun _ => 0)

def quiescent_NormMmIdeal [hNormMmIdeal : Cert.NormMmIdeal.Facts] : Prop :=
  ∀ (m : (ℓ : Loc Cert.NormMmIdeal.nD Cert.NormMmIdeal.τ Cert.NormMmIdeal.sig) → Buf (Elt Ideal) ℓ) (g : Dev Cert.NormMmIdeal.nD → PrngReg), Pre_NormMmIdeal m →
    θ_run (Cert.NormMmIdeal.defs (F := Ideal)) (onTc (τ := Cert.NormMmIdeal.τ) (Cert.NormMmIdeal.main (F := Ideal))) ⟨m, fun _ => 0, g⟩ (fun r => (∀ c : Dev Cert.NormMmIdeal.nD,
      r.2.mem ((c.tc : Thread Cert.NormMmIdeal.nD Cert.NormMmIdeal.τ).loc Cert.NormMmIdeal.main_arg0) = m ((c.tc : Thread Cert.NormMmIdeal.nD Cert.NormMmIdeal.τ).loc Cert.NormMmIdeal.main_arg0)
      ∧ r.2.mem ((c.tc : Thread Cert.NormMmIdeal.nD Cert.NormMmIdeal.τ).loc Cert.NormMmIdeal.main_arg1) = m ((c.tc : Thread Cert.NormMmIdeal.nD Cert.NormMmIdeal.τ).loc Cert.NormMmIdeal.main_arg1)
      ∧ r.2.mem ((c.tc : Thread Cert.NormMmIdeal.nD Cert.NormMmIdeal.τ).loc Cert.NormMmIdeal.main_arg2) = m ((c.tc : Thread Cert.NormMmIdeal.nD Cert.NormMmIdeal.τ).loc Cert.NormMmIdeal.main_arg2)
      ∧ r.2.mem ((c.tc : Thread Cert.NormMmIdeal.nD Cert.NormMmIdeal.τ).loc Cert.NormMmIdeal.main_arg3) = m ((c.tc : Thread Cert.NormMmIdeal.nD Cert.NormMmIdeal.τ).loc Cert.NormMmIdeal.main_arg3))
      ∧ r.2.sem = fun _ => 0)

def quiescent_NormMmRefIdeal [hNormMmRefIdeal : Cert.NormMmRefIdeal.Facts] : Prop :=
  ∀ (m : (ℓ : Loc Cert.NormMmRefIdeal.nD Cert.NormMmRefIdeal.τ Cert.NormMmRefIdeal.sig) → Buf (Elt Ideal) ℓ) (g : Dev Cert.NormMmRefIdeal.nD → PrngReg), Pre_NormMmRefIdeal m →
    θ_run (Cert.NormMmRefIdeal.defs (F := Ideal)) (onTc (τ := Cert.NormMmRefIdeal.τ) (Cert.NormMmRefIdeal.main (F := Ideal))) ⟨m, fun _ => 0, g⟩ (fun r => (∀ c : Dev Cert.NormMmRefIdeal.nD,
      r.2.mem ((c.tc : Thread Cert.NormMmRefIdeal.nD Cert.NormMmRefIdeal.τ).loc Cert.NormMmRefIdeal.main_arg0) = m ((c.tc : Thread Cert.NormMmRefIdeal.nD Cert.NormMmRefIdeal.τ).loc Cert.NormMmRefIdeal.main_arg0)
      ∧ r.2.mem ((c.tc : Thread Cert.NormMmRefIdeal.nD Cert.NormMmRefIdeal.τ).loc Cert.NormMmRefIdeal.main_arg1) = m ((c.tc : Thread Cert.NormMmRefIdeal.nD Cert.NormMmRefIdeal.τ).loc Cert.NormMmRefIdeal.main_arg1)
      ∧ r.2.mem ((c.tc : Thread Cert.NormMmRefIdeal.nD Cert.NormMmRefIdeal.τ).loc Cert.NormMmRefIdeal.main_arg2) = m ((c.tc : Thread Cert.NormMmRefIdeal.nD Cert.NormMmRefIdeal.τ).loc Cert.NormMmRefIdeal.main_arg2)
      ∧ r.2.mem ((c.tc : Thread Cert.NormMmRefIdeal.nD Cert.NormMmRefIdeal.τ).loc Cert.NormMmRefIdeal.main_arg3) = m ((c.tc : Thread Cert.NormMmRefIdeal.nD Cert.NormMmRefIdeal.τ).loc Cert.NormMmRefIdeal.main_arg3))
      ∧ r.2.sem = fun _ => 0)

def quiescent_Ca [hCa : Cert.Ca.Facts] : Prop :=
  ∀ (m : (ℓ : Loc Cert.Ca.nD Cert.Ca.τ Cert.Ca.sig) → Buf (Elt Bits) ℓ) (g : Dev Cert.Ca.nD → PrngReg), Pre_Ca m →
    θ_run (Cert.Ca.defs (F := Bits)) (onTc (τ := Cert.Ca.τ) (Cert.Ca.main (F := Bits))) ⟨m, fun _ => 0, g⟩ (fun r => (∀ c : Dev Cert.Ca.nD,
      r.2.mem ((c.tc : Thread Cert.Ca.nD Cert.Ca.τ).loc Cert.Ca.main_arg0) = m ((c.tc : Thread Cert.Ca.nD Cert.Ca.τ).loc Cert.Ca.main_arg0)
      ∧ r.2.mem ((c.tc : Thread Cert.Ca.nD Cert.Ca.τ).loc Cert.Ca.main_arg1) = m ((c.tc : Thread Cert.Ca.nD Cert.Ca.τ).loc Cert.Ca.main_arg1)
      ∧ r.2.mem ((c.tc : Thread Cert.Ca.nD Cert.Ca.τ).loc Cert.Ca.main_arg2) = m ((c.tc : Thread Cert.Ca.nD Cert.Ca.τ).loc Cert.Ca.main_arg2))
      ∧ r.2.sem = fun _ => 0)

def quiescent_CaIdeal [hCaIdeal : Cert.CaIdeal.Facts] : Prop :=
  ∀ (m : (ℓ : Loc Cert.CaIdeal.nD Cert.CaIdeal.τ Cert.CaIdeal.sig) → Buf (Elt Ideal) ℓ) (g : Dev Cert.CaIdeal.nD → PrngReg), Pre_CaIdeal m →
    θ_run (Cert.CaIdeal.defs (F := Ideal)) (onTc (τ := Cert.CaIdeal.τ) (Cert.CaIdeal.main (F := Ideal))) ⟨m, fun _ => 0, g⟩ (fun r => (∀ c : Dev Cert.CaIdeal.nD,
      r.2.mem ((c.tc : Thread Cert.CaIdeal.nD Cert.CaIdeal.τ).loc Cert.CaIdeal.main_arg0) = m ((c.tc : Thread Cert.CaIdeal.nD Cert.CaIdeal.τ).loc Cert.CaIdeal.main_arg0)
      ∧ r.2.mem ((c.tc : Thread Cert.CaIdeal.nD Cert.CaIdeal.τ).loc Cert.CaIdeal.main_arg1) = m ((c.tc : Thread Cert.CaIdeal.nD Cert.CaIdeal.τ).loc Cert.CaIdeal.main_arg1)
      ∧ r.2.mem ((c.tc : Thread Cert.CaIdeal.nD Cert.CaIdeal.τ).loc Cert.CaIdeal.main_arg2) = m ((c.tc : Thread Cert.CaIdeal.nD Cert.CaIdeal.τ).loc Cert.CaIdeal.main_arg2))
      ∧ r.2.sem = fun _ => 0)

def quiescent_CaRefIdeal [hCaRefIdeal : Cert.CaRefIdeal.Facts] : Prop :=
  ∀ (m : (ℓ : Loc Cert.CaRefIdeal.nD Cert.CaRefIdeal.τ Cert.CaRefIdeal.sig) → Buf (Elt Ideal) ℓ) (g : Dev Cert.CaRefIdeal.nD → PrngReg), Pre_CaRefIdeal m →
    θ_run (Cert.CaRefIdeal.defs (F := Ideal)) (onTc (τ := Cert.CaRefIdeal.τ) (Cert.CaRefIdeal.main (F := Ideal))) ⟨m, fun _ => 0, g⟩ (fun r => (∀ c : Dev Cert.CaRefIdeal.nD,
      r.2.mem ((c.tc : Thread Cert.CaRefIdeal.nD Cert.CaRefIdeal.τ).loc Cert.CaRefIdeal.main_arg0) = m ((c.tc : Thread Cert.CaRefIdeal.nD Cert.CaRefIdeal.τ).loc Cert.CaRefIdeal.main_arg0)
      ∧ r.2.mem ((c.tc : Thread Cert.CaRefIdeal.nD Cert.CaRefIdeal.τ).loc Cert.CaRefIdeal.main_arg1) = m ((c.tc : Thread Cert.CaRefIdeal.nD Cert.CaRefIdeal.τ).loc Cert.CaRefIdeal.main_arg1)
      ∧ r.2.mem ((c.tc : Thread Cert.CaRefIdeal.nD Cert.CaRefIdeal.τ).loc Cert.CaRefIdeal.main_arg2) = m ((c.tc : Thread Cert.CaRefIdeal.nD Cert.CaRefIdeal.τ).loc Cert.CaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2)
      ∧ r.2.mem ((c.tc : Thread Cert.Mixout.nD Cert.Mixout.τ).loc Cert.Mixout.main_arg3) = m ((c.tc : Thread Cert.Mixout.nD Cert.Mixout.τ).loc Cert.Mixout.main_arg3)
      ∧ r.2.mem ((c.tc : Thread Cert.Mixout.nD Cert.Mixout.τ).loc Cert.Mixout.main_arg4) = m ((c.tc : Thread Cert.Mixout.nD Cert.Mixout.τ).loc Cert.Mixout.main_arg4)
      ∧ r.2.mem ((c.tc : Thread Cert.Mixout.nD Cert.Mixout.τ).loc Cert.Mixout.main_arg5) = m ((c.tc : Thread Cert.Mixout.nD Cert.Mixout.τ).loc Cert.Mixout.main_arg5)
      ∧ r.2.mem ((c.tc : Thread Cert.Mixout.nD Cert.Mixout.τ).loc Cert.Mixout.main_arg6) = m ((c.tc : Thread Cert.Mixout.nD Cert.Mixout.τ).loc Cert.Mixout.main_arg6))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
      ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5)
      ∧ r.2.mem ((c.tc : Thread Cert.MixoutRefIdeal.nD Cert.MixoutRefIdeal.τ).loc Cert.MixoutRefIdeal.main_arg6) = m ((c.tc : Thread Cert.MixoutRefIdeal.nD Cert.MixoutRefIdeal.τ).loc Cert.MixoutRefIdeal.main_arg6))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def quiescent_MixoutS [hMixoutS : Cert.MixoutS.Facts] : Prop :=
  ∀ (m : (ℓ : Loc Cert.MixoutS.nD Cert.MixoutS.τ Cert.MixoutS.sig) → Buf (Elt Bits) ℓ) (g : Dev Cert.MixoutS.nD → PrngReg), Pre_MixoutS m →
    θ_run (Cert.MixoutS.defs (F := Bits)) (onTc (τ := Cert.MixoutS.τ) (Cert.MixoutS.main (F := Bits))) ⟨m, fun _ => 0, g⟩ (fun r => (∀ c : Dev Cert.MixoutS.nD,
      r.2.mem ((c.tc : Thread Cert.MixoutS.nD Cert.MixoutS.τ).loc Cert.MixoutS.main_arg0) = m ((c.tc : Thread Cert.MixoutS.nD Cert.MixoutS.τ).loc Cert.MixoutS.main_arg0)
      ∧ r.2.mem ((c.tc : Thread Cert.MixoutS.nD Cert.MixoutS.τ).loc Cert.MixoutS.main_arg1) = m ((c.tc : Thread Cert.MixoutS.nD Cert.MixoutS.τ).loc Cert.MixoutS.main_arg1)
      ∧ r.2.mem ((c.tc : Thread Cert.MixoutS.nD Cert.MixoutS.τ).loc Cert.MixoutS.main_arg2) = m ((c.tc : Thread Cert.MixoutS.nD Cert.MixoutS.τ).loc Cert.MixoutS.main_arg2)
      ∧ r.2.mem ((c.tc : Thread Cert.MixoutS.nD Cert.MixoutS.τ).loc Cert.MixoutS.main_arg3) = m ((c.tc : Thread Cert.MixoutS.nD Cert.MixoutS.τ).loc Cert.MixoutS.main_arg3)
      ∧ r.2.mem ((c.tc : Thread Cert.MixoutS.nD Cert.MixoutS.τ).loc Cert.MixoutS.main_arg4) = m ((c.tc : Thread Cert.MixoutS.nD Cert.MixoutS.τ).loc Cert.MixoutS.main_arg4)
      ∧ r.2.mem ((c.tc : Thread Cert.MixoutS.nD Cert.MixoutS.τ).loc Cert.MixoutS.main_arg5) = m ((c.tc : Thread Cert.MixoutS.nD Cert.MixoutS.τ).loc Cert.MixoutS.main_arg5)
      ∧ r.2.mem ((c.tc : Thread Cert.MixoutS.nD Cert.MixoutS.τ).loc Cert.MixoutS.main_arg6) = m ((c.tc : Thread Cert.MixoutS.nD Cert.MixoutS.τ).loc Cert.MixoutS.main_arg6))
      ∧ r.2.sem = fun _ => 0)

def quiescent_MixoutSIdeal [hMixoutSIdeal : Cert.MixoutSIdeal.Facts] : Prop :=
  ∀ (m : (ℓ : Loc Cert.MixoutSIdeal.nD Cert.MixoutSIdeal.τ Cert.MixoutSIdeal.sig) → Buf (Elt Ideal) ℓ) (g : Dev Cert.MixoutSIdeal.nD → PrngReg), Pre_MixoutSIdeal m →
    θ_run (Cert.MixoutSIdeal.defs (F := Ideal)) (onTc (τ := Cert.MixoutSIdeal.τ) (Cert.MixoutSIdeal.main (F := Ideal))) ⟨m, fun _ => 0, g⟩ (fun r => (∀ c : Dev Cert.MixoutSIdeal.nD,
      r.2.mem ((c.tc : Thread Cert.MixoutSIdeal.nD Cert.MixoutSIdeal.τ).loc Cert.MixoutSIdeal.main_arg0) = m ((c.tc : Thread Cert.MixoutSIdeal.nD Cert.MixoutSIdeal.τ).loc Cert.MixoutSIdeal.main_arg0)
      ∧ r.2.mem ((c.tc : Thread Cert.MixoutSIdeal.nD Cert.MixoutSIdeal.τ).loc Cert.MixoutSIdeal.main_arg1) = m ((c.tc : Thread Cert.MixoutSIdeal.nD Cert.MixoutSIdeal.τ).loc Cert.MixoutSIdeal.main_arg1)
      ∧ r.2.mem ((c.tc : Thread Cert.MixoutSIdeal.nD Cert.MixoutSIdeal.τ).loc Cert.MixoutSIdeal.main_arg2) = m ((c.tc : Thread Cert.MixoutSIdeal.nD Cert.MixoutSIdeal.τ).loc Cert.MixoutSIdeal.main_arg2)
      ∧ r.2.mem ((c.tc : Thread Cert.MixoutSIdeal.nD Cert.MixoutSIdeal.τ).loc Cert.MixoutSIdeal.main_arg3) = m ((c.tc : Thread Cert.MixoutSIdeal.nD Cert.MixoutSIdeal.τ).loc Cert.MixoutSIdeal.main_arg3)
      ∧ r.2.mem ((c.tc : Thread Cert.MixoutSIdeal.nD Cert.MixoutSIdeal.τ).loc Cert.MixoutSIdeal.main_arg4) = m ((c.tc : Thread Cert.MixoutSIdeal.nD Cert.MixoutSIdeal.τ).loc Cert.MixoutSIdeal.main_arg4)
      ∧ r.2.mem ((c.tc : Thread Cert.MixoutSIdeal.nD Cert.MixoutSIdeal.τ).loc Cert.MixoutSIdeal.main_arg5) = m ((c.tc : Thread Cert.MixoutSIdeal.nD Cert.MixoutSIdeal.τ).loc Cert.MixoutSIdeal.main_arg5)
      ∧ r.2.mem ((c.tc : Thread Cert.MixoutSIdeal.nD Cert.MixoutSIdeal.τ).loc Cert.MixoutSIdeal.main_arg6) = m ((c.tc : Thread Cert.MixoutSIdeal.nD Cert.MixoutSIdeal.τ).loc Cert.MixoutSIdeal.main_arg6))
      ∧ r.2.sem = fun _ => 0)

def quiescent_MixoutSRefIdeal [hMixoutSRefIdeal : Cert.MixoutSRefIdeal.Facts] : Prop :=
  ∀ (m : (ℓ : Loc Cert.MixoutSRefIdeal.nD Cert.MixoutSRefIdeal.τ Cert.MixoutSRefIdeal.sig) → Buf (Elt Ideal) ℓ) (g : Dev Cert.MixoutSRefIdeal.nD → PrngReg), Pre_MixoutSRefIdeal m →
    θ_run (Cert.MixoutSRefIdeal.defs (F := Ideal)) (onTc (τ := Cert.MixoutSRefIdeal.τ) (Cert.MixoutSRefIdeal.main (F := Ideal))) ⟨m, fun _ => 0, g⟩ (fun r => (∀ c : Dev Cert.MixoutSRefIdeal.nD,
      r.2.mem ((c.tc : Thread Cert.MixoutSRefIdeal.nD Cert.MixoutSRefIdeal.τ).loc Cert.MixoutSRefIdeal.main_arg0) = m ((c.tc : Thread Cert.MixoutSRefIdeal.nD Cert.MixoutSRefIdeal.τ).loc Cert.MixoutSRefIdeal.main_arg0)
      ∧ r.2.mem ((c.tc : Thread Cert.MixoutSRefIdeal.nD Cert.MixoutSRefIdeal.τ).loc Cert.MixoutSRefIdeal.main_arg1) = m ((c.tc : Thread Cert.MixoutSRefIdeal.nD Cert.MixoutSRefIdeal.τ).loc Cert.MixoutSRefIdeal.main_arg1)
      ∧ r.2.mem ((c.tc : Thread Cert.MixoutSRefIdeal.nD Cert.MixoutSRefIdeal.τ).loc Cert.MixoutSRefIdeal.main_arg2) = m ((c.tc : Thread Cert.MixoutSRefIdeal.nD Cert.MixoutSRefIdeal.τ).loc Cert.MixoutSRefIdeal.main_arg2)
      ∧ r.2.mem ((c.tc : Thread Cert.MixoutSRefIdeal.nD Cert.MixoutSRefIdeal.τ).loc Cert.MixoutSRefIdeal.main_arg3) = m ((c.tc : Thread Cert.MixoutSRefIdeal.nD Cert.MixoutSRefIdeal.τ).loc Cert.MixoutSRefIdeal.main_arg3)
      ∧ r.2.mem ((c.tc : Thread Cert.MixoutSRefIdeal.nD Cert.MixoutSRefIdeal.τ).loc Cert.MixoutSRefIdeal.main_arg4) = m ((c.tc : Thread Cert.MixoutSRefIdeal.nD Cert.MixoutSRefIdeal.τ).loc Cert.MixoutSRefIdeal.main_arg4)
      ∧ r.2.mem ((c.tc : Thread Cert.MixoutSRefIdeal.nD Cert.MixoutSRefIdeal.τ).loc Cert.MixoutSRefIdeal.main_arg5) = m ((c.tc : Thread Cert.MixoutSRefIdeal.nD Cert.MixoutSRefIdeal.τ).loc Cert.MixoutSRefIdeal.main_arg5)
      ∧ r.2.mem ((c.tc : Thread Cert.MixoutSRefIdeal.nD Cert.MixoutSRefIdeal.τ).loc Cert.MixoutSRefIdeal.main_arg6) = m ((c.tc : Thread Cert.MixoutSRefIdeal.nD Cert.MixoutSRefIdeal.τ).loc Cert.MixoutSRefIdeal.main_arg6))
      ∧ r.2.sem = fun _ => 0)

def quiescent_CaS [hCaS : Cert.CaS.Facts] : Prop :=
  ∀ (m : (ℓ : Loc Cert.CaS.nD Cert.CaS.τ Cert.CaS.sig) → Buf (Elt Bits) ℓ) (g : Dev Cert.CaS.nD → PrngReg), Pre_CaS m →
    θ_run (Cert.CaS.defs (F := Bits)) (onTc (τ := Cert.CaS.τ) (Cert.CaS.main (F := Bits))) ⟨m, fun _ => 0, g⟩ (fun r => (∀ c : Dev Cert.CaS.nD,
      r.2.mem ((c.tc : Thread Cert.CaS.nD Cert.CaS.τ).loc Cert.CaS.main_arg0) = m ((c.tc : Thread Cert.CaS.nD Cert.CaS.τ).loc Cert.CaS.main_arg0)
      ∧ r.2.mem ((c.tc : Thread Cert.CaS.nD Cert.CaS.τ).loc Cert.CaS.main_arg1) = m ((c.tc : Thread Cert.CaS.nD Cert.CaS.τ).loc Cert.CaS.main_arg1)
      ∧ r.2.mem ((c.tc : Thread Cert.CaS.nD Cert.CaS.τ).loc Cert.CaS.main_arg2) = m ((c.tc : Thread Cert.CaS.nD Cert.CaS.τ).loc Cert.CaS.main_arg2))
      ∧ r.2.sem = fun _ => 0)

def quiescent_CaSIdeal [hCaSIdeal : Cert.CaSIdeal.Facts] : Prop :=
  ∀ (m : (ℓ : Loc Cert.CaSIdeal.nD Cert.CaSIdeal.τ Cert.CaSIdeal.sig) → Buf (Elt Ideal) ℓ) (g : Dev Cert.CaSIdeal.nD → PrngReg), Pre_CaSIdeal m →
    θ_run (Cert.CaSIdeal.defs (F := Ideal)) (onTc (τ := Cert.CaSIdeal.τ) (Cert.CaSIdeal.main (F := Ideal))) ⟨m, fun _ => 0, g⟩ (fun r => (∀ c : Dev Cert.CaSIdeal.nD,
      r.2.mem ((c.tc : Thread Cert.CaSIdeal.nD Cert.CaSIdeal.τ).loc Cert.CaSIdeal.main_arg0) = m ((c.tc : Thread Cert.CaSIdeal.nD Cert.CaSIdeal.τ).loc Cert.CaSIdeal.main_arg0)
      ∧ r.2.mem ((c.tc : Thread Cert.CaSIdeal.nD Cert.CaSIdeal.τ).loc Cert.CaSIdeal.main_arg1) = m ((c.tc : Thread Cert.CaSIdeal.nD Cert.CaSIdeal.τ).loc Cert.CaSIdeal.main_arg1)
      ∧ r.2.mem ((c.tc : Thread Cert.CaSIdeal.nD Cert.CaSIdeal.τ).loc Cert.CaSIdeal.main_arg2) = m ((c.tc : Thread Cert.CaSIdeal.nD Cert.CaSIdeal.τ).loc Cert.CaSIdeal.main_arg2))
      ∧ r.2.sem = fun _ => 0)

def quiescent_CaSRefIdeal [hCaSRefIdeal : Cert.CaSRefIdeal.Facts] : Prop :=
  ∀ (m : (ℓ : Loc Cert.CaSRefIdeal.nD Cert.CaSRefIdeal.τ Cert.CaSRefIdeal.sig) → Buf (Elt Ideal) ℓ) (g : Dev Cert.CaSRefIdeal.nD → PrngReg), Pre_CaSRefIdeal m →
    θ_run (Cert.CaSRefIdeal.defs (F := Ideal)) (onTc (τ := Cert.CaSRefIdeal.τ) (Cert.CaSRefIdeal.main (F := Ideal))) ⟨m, fun _ => 0, g⟩ (fun r => (∀ c : Dev Cert.CaSRefIdeal.nD,
      r.2.mem ((c.tc : Thread Cert.CaSRefIdeal.nD Cert.CaSRefIdeal.τ).loc Cert.CaSRefIdeal.main_arg0) = m ((c.tc : Thread Cert.CaSRefIdeal.nD Cert.CaSRefIdeal.τ).loc Cert.CaSRefIdeal.main_arg0)
      ∧ r.2.mem ((c.tc : Thread Cert.CaSRefIdeal.nD Cert.CaSRefIdeal.τ).loc Cert.CaSRefIdeal.main_arg1) = m ((c.tc : Thread Cert.CaSRefIdeal.nD Cert.CaSRefIdeal.τ).loc Cert.CaSRefIdeal.main_arg1)
      ∧ r.2.mem ((c.tc : Thread Cert.CaSRefIdeal.nD Cert.CaSRefIdeal.τ).loc Cert.CaSRefIdeal.main_arg2) = m ((c.tc : Thread Cert.CaSRefIdeal.nD Cert.CaSRefIdeal.τ).loc Cert.CaSRefIdeal.main_arg2))
      ∧ r.2.sem = fun _ => 0)

def quiescent_MmResS [hMmResS : Cert.MmResS.Facts] : Prop :=
  ∀ (m : (ℓ : Loc Cert.MmResS.nD Cert.MmResS.τ Cert.MmResS.sig) → Buf (Elt Bits) ℓ) (g : Dev Cert.MmResS.nD → PrngReg), Pre_MmResS m →
    θ_run (Cert.MmResS.defs (F := Bits)) (onTc (τ := Cert.MmResS.τ) (Cert.MmResS.main (F := Bits))) ⟨m, fun _ => 0, g⟩ (fun r => (∀ c : Dev Cert.MmResS.nD,
      r.2.mem ((c.tc : Thread Cert.MmResS.nD Cert.MmResS.τ).loc Cert.MmResS.main_arg0) = m ((c.tc : Thread Cert.MmResS.nD Cert.MmResS.τ).loc Cert.MmResS.main_arg0)
      ∧ r.2.mem ((c.tc : Thread Cert.MmResS.nD Cert.MmResS.τ).loc Cert.MmResS.main_arg1) = m ((c.tc : Thread Cert.MmResS.nD Cert.MmResS.τ).loc Cert.MmResS.main_arg1)
      ∧ r.2.mem ((c.tc : Thread Cert.MmResS.nD Cert.MmResS.τ).loc Cert.MmResS.main_arg2) = m ((c.tc : Thread Cert.MmResS.nD Cert.MmResS.τ).loc Cert.MmResS.main_arg2))
      ∧ r.2.sem = fun _ => 0)

def quiescent_MmResSIdeal [hMmResSIdeal : Cert.MmResSIdeal.Facts] : Prop :=
  ∀ (m : (ℓ : Loc Cert.MmResSIdeal.nD Cert.MmResSIdeal.τ Cert.MmResSIdeal.sig) → Buf (Elt Ideal) ℓ) (g : Dev Cert.MmResSIdeal.nD → PrngReg), Pre_MmResSIdeal m →
    θ_run (Cert.MmResSIdeal.defs (F := Ideal)) (onTc (τ := Cert.MmResSIdeal.τ) (Cert.MmResSIdeal.main (F := Ideal))) ⟨m, fun _ => 0, g⟩ (fun r => (∀ c : Dev Cert.MmResSIdeal.nD,
      r.2.mem ((c.tc : Thread Cert.MmResSIdeal.nD Cert.MmResSIdeal.τ).loc Cert.MmResSIdeal.main_arg0) = m ((c.tc : Thread Cert.MmResSIdeal.nD Cert.MmResSIdeal.τ).loc Cert.MmResSIdeal.main_arg0)
      ∧ r.2.mem ((c.tc : Thread Cert.MmResSIdeal.nD Cert.MmResSIdeal.τ).loc Cert.MmResSIdeal.main_arg1) = m ((c.tc : Thread Cert.MmResSIdeal.nD Cert.MmResSIdeal.τ).loc Cert.MmResSIdeal.main_arg1)
      ∧ r.2.mem ((c.tc : Thread Cert.MmResSIdeal.nD Cert.MmResSIdeal.τ).loc Cert.MmResSIdeal.main_arg2) = m ((c.tc : Thread Cert.MmResSIdeal.nD Cert.MmResSIdeal.τ).loc Cert.MmResSIdeal.main_arg2))
      ∧ r.2.sem = fun _ => 0)

def quiescent_MmResSRefIdeal [hMmResSRefIdeal : Cert.MmResSRefIdeal.Facts] : Prop :=
  ∀ (m : (ℓ : Loc Cert.MmResSRefIdeal.nD Cert.MmResSRefIdeal.τ Cert.MmResSRefIdeal.sig) → Buf (Elt Ideal) ℓ) (g : Dev Cert.MmResSRefIdeal.nD → PrngReg), Pre_MmResSRefIdeal m →
    θ_run (Cert.MmResSRefIdeal.defs (F := Ideal)) (onTc (τ := Cert.MmResSRefIdeal.τ) (Cert.MmResSRefIdeal.main (F := Ideal))) ⟨m, fun _ => 0, g⟩ (fun r => (∀ c : Dev Cert.MmResSRefIdeal.nD,
      r.2.mem ((c.tc : Thread Cert.MmResSRefIdeal.nD Cert.MmResSRefIdeal.τ).loc Cert.MmResSRefIdeal.main_arg0) = m ((c.tc : Thread Cert.MmResSRefIdeal.nD Cert.MmResSRefIdeal.τ).loc Cert.MmResSRefIdeal.main_arg0)
      ∧ r.2.mem ((c.tc : Thread Cert.MmResSRefIdeal.nD Cert.MmResSRefIdeal.τ).loc Cert.MmResSRefIdeal.main_arg1) = m ((c.tc : Thread Cert.MmResSRefIdeal.nD Cert.MmResSRefIdeal.τ).loc Cert.MmResSRefIdeal.main_arg1)
      ∧ r.2.mem ((c.tc : Thread Cert.MmResSRefIdeal.nD Cert.MmResSRefIdeal.τ).loc Cert.MmResSRefIdeal.main_arg2) = m ((c.tc : Thread Cert.MmResSRefIdeal.nD Cert.MmResSRefIdeal.τ).loc Cert.MmResSRefIdeal.main_arg2))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_HgrnP [hHgrnP : Cert.HgrnP.Facts] : Prop :=
  ∀ (m : (ℓ : Loc Cert.HgrnP.nD Cert.HgrnP.τ Cert.HgrnP.sig) → Buf (Elt Bits) ℓ) (g : Dev Cert.HgrnP.nD → PrngReg), Pre_HgrnP m →
    θ_run (Cert.HgrnP.defs (F := Bits)) (onTc (τ := Cert.HgrnP.τ) (Cert.HgrnP.main (F := Bits))) ⟨m, fun _ => 0, g⟩ (fun r => (∀ c : Dev Cert.HgrnP.nD,
      r.2.mem ((c.tc : Thread Cert.HgrnP.nD Cert.HgrnP.τ).loc Cert.HgrnP.main_arg0) = m ((c.tc : Thread Cert.HgrnP.nD Cert.HgrnP.τ).loc Cert.HgrnP.main_arg0)
      ∧ r.2.mem ((c.tc : Thread Cert.HgrnP.nD Cert.HgrnP.τ).loc Cert.HgrnP.main_arg1) = m ((c.tc : Thread Cert.HgrnP.nD Cert.HgrnP.τ).loc Cert.HgrnP.main_arg1)
      ∧ r.2.mem ((c.tc : Thread Cert.HgrnP.nD Cert.HgrnP.τ).loc Cert.HgrnP.main_arg2) = m ((c.tc : Thread Cert.HgrnP.nD Cert.HgrnP.τ).loc Cert.HgrnP.main_arg2))
      ∧ r.2.sem = fun _ => 0)

def quiescent_HgrnPIdeal [hHgrnPIdeal : Cert.HgrnPIdeal.Facts] : Prop :=
  ∀ (m : (ℓ : Loc Cert.HgrnPIdeal.nD Cert.HgrnPIdeal.τ Cert.HgrnPIdeal.sig) → Buf (Elt Ideal) ℓ) (g : Dev Cert.HgrnPIdeal.nD → PrngReg), Pre_HgrnPIdeal m →
    θ_run (Cert.HgrnPIdeal.defs (F := Ideal)) (onTc (τ := Cert.HgrnPIdeal.τ) (Cert.HgrnPIdeal.main (F := Ideal))) ⟨m, fun _ => 0, g⟩ (fun r => (∀ c : Dev Cert.HgrnPIdeal.nD,
      r.2.mem ((c.tc : Thread Cert.HgrnPIdeal.nD Cert.HgrnPIdeal.τ).loc Cert.HgrnPIdeal.main_arg0) = m ((c.tc : Thread Cert.HgrnPIdeal.nD Cert.HgrnPIdeal.τ).loc Cert.HgrnPIdeal.main_arg0)
      ∧ r.2.mem ((c.tc : Thread Cert.HgrnPIdeal.nD Cert.HgrnPIdeal.τ).loc Cert.HgrnPIdeal.main_arg1) = m ((c.tc : Thread Cert.HgrnPIdeal.nD Cert.HgrnPIdeal.τ).loc Cert.HgrnPIdeal.main_arg1)
      ∧ r.2.mem ((c.tc : Thread Cert.HgrnPIdeal.nD Cert.HgrnPIdeal.τ).loc Cert.HgrnPIdeal.main_arg2) = m ((c.tc : Thread Cert.HgrnPIdeal.nD Cert.HgrnPIdeal.τ).loc Cert.HgrnPIdeal.main_arg2))
      ∧ r.2.sem = fun _ => 0)

def quiescent_NsaP [hNsaP : Cert.NsaP.Facts] : Prop :=
  ∀ (m : (ℓ : Loc Cert.NsaP.nD Cert.NsaP.τ Cert.NsaP.sig) → Buf (Elt Bits) ℓ) (g : Dev Cert.NsaP.nD → PrngReg), Pre_NsaP m →
    θ_run (Cert.NsaP.defs (F := Bits)) (onTc (τ := Cert.NsaP.τ) (Cert.NsaP.main (F := Bits))) ⟨m, fun _ => 0, g⟩ (fun r => (∀ c : Dev Cert.NsaP.nD,
      r.2.mem ((c.tc : Thread Cert.NsaP.nD Cert.NsaP.τ).loc Cert.NsaP.main_arg0) = m ((c.tc : Thread Cert.NsaP.nD Cert.NsaP.τ).loc Cert.NsaP.main_arg0)
      ∧ r.2.mem ((c.tc : Thread Cert.NsaP.nD Cert.NsaP.τ).loc Cert.NsaP.main_arg1) = m ((c.tc : Thread Cert.NsaP.nD Cert.NsaP.τ).loc Cert.NsaP.main_arg1)
      ∧ r.2.mem ((c.tc : Thread Cert.NsaP.nD Cert.NsaP.τ).loc Cert.NsaP.main_arg2) = m ((c.tc : Thread Cert.NsaP.nD Cert.NsaP.τ).loc Cert.NsaP.main_arg2)
      ∧ r.2.mem ((c.tc : Thread Cert.NsaP.nD Cert.NsaP.τ).loc Cert.NsaP.main_arg3) = m ((c.tc : Thread Cert.NsaP.nD Cert.NsaP.τ).loc Cert.NsaP.main_arg3)
      ∧ r.2.mem ((c.tc : Thread Cert.NsaP.nD Cert.NsaP.τ).loc Cert.NsaP.main_arg4) = m ((c.tc : Thread Cert.NsaP.nD Cert.NsaP.τ).loc Cert.NsaP.main_arg4)
      ∧ r.2.mem ((c.tc : Thread Cert.NsaP.nD Cert.NsaP.τ).loc Cert.NsaP.main_arg5) = m ((c.tc : Thread Cert.NsaP.nD Cert.NsaP.τ).loc Cert.NsaP.main_arg5)
      ∧ r.2.mem ((c.tc : Thread Cert.NsaP.nD Cert.NsaP.τ).loc Cert.NsaP.main_arg6) = m ((c.tc : Thread Cert.NsaP.nD Cert.NsaP.τ).loc Cert.NsaP.main_arg6)
      ∧ r.2.mem ((c.tc : Thread Cert.NsaP.nD Cert.NsaP.τ).loc Cert.NsaP.main_arg7) = m ((c.tc : Thread Cert.NsaP.nD Cert.NsaP.τ).loc Cert.NsaP.main_arg7)
      ∧ r.2.mem ((c.tc : Thread Cert.NsaP.nD Cert.NsaP.τ).loc Cert.NsaP.main_arg8) = m ((c.tc : Thread Cert.NsaP.nD Cert.NsaP.τ).loc Cert.NsaP.main_arg8))
      ∧ r.2.sem = fun _ => 0)

def quiescent_NsaPIdeal [hNsaPIdeal : Cert.NsaPIdeal.Facts] : Prop :=
  ∀ (m : (ℓ : Loc Cert.NsaPIdeal.nD Cert.NsaPIdeal.τ Cert.NsaPIdeal.sig) → Buf (Elt Ideal) ℓ) (g : Dev Cert.NsaPIdeal.nD → PrngReg), Pre_NsaPIdeal m →
    θ_run (Cert.NsaPIdeal.defs (F := Ideal)) (onTc (τ := Cert.NsaPIdeal.τ) (Cert.NsaPIdeal.main (F := Ideal))) ⟨m, fun _ => 0, g⟩ (fun r => (∀ c : Dev Cert.NsaPIdeal.nD,
      r.2.mem ((c.tc : Thread Cert.NsaPIdeal.nD Cert.NsaPIdeal.τ).loc Cert.NsaPIdeal.main_arg0) = m ((c.tc : Thread Cert.NsaPIdeal.nD Cert.NsaPIdeal.τ).loc Cert.NsaPIdeal.main_arg0)
      ∧ r.2.mem ((c.tc : Thread Cert.NsaPIdeal.nD Cert.NsaPIdeal.τ).loc Cert.NsaPIdeal.main_arg1) = m ((c.tc : Thread Cert.NsaPIdeal.nD Cert.NsaPIdeal.τ).loc Cert.NsaPIdeal.main_arg1)
      ∧ r.2.mem ((c.tc : Thread Cert.NsaPIdeal.nD Cert.NsaPIdeal.τ).loc Cert.NsaPIdeal.main_arg2) = m ((c.tc : Thread Cert.NsaPIdeal.nD Cert.NsaPIdeal.τ).loc Cert.NsaPIdeal.main_arg2)
      ∧ r.2.mem ((c.tc : Thread Cert.NsaPIdeal.nD Cert.NsaPIdeal.τ).loc Cert.NsaPIdeal.main_arg3) = m ((c.tc : Thread Cert.NsaPIdeal.nD Cert.NsaPIdeal.τ).loc Cert.NsaPIdeal.main_arg3)
      ∧ r.2.mem ((c.tc : Thread Cert.NsaPIdeal.nD Cert.NsaPIdeal.τ).loc Cert.NsaPIdeal.main_arg4) = m ((c.tc : Thread Cert.NsaPIdeal.nD Cert.NsaPIdeal.τ).loc Cert.NsaPIdeal.main_arg4)
      ∧ r.2.mem ((c.tc : Thread Cert.NsaPIdeal.nD Cert.NsaPIdeal.τ).loc Cert.NsaPIdeal.main_arg5) = m ((c.tc : Thread Cert.NsaPIdeal.nD Cert.NsaPIdeal.τ).loc Cert.NsaPIdeal.main_arg5)
      ∧ r.2.mem ((c.tc : Thread Cert.NsaPIdeal.nD Cert.NsaPIdeal.τ).loc Cert.NsaPIdeal.main_arg6) = m ((c.tc : Thread Cert.NsaPIdeal.nD Cert.NsaPIdeal.τ).loc Cert.NsaPIdeal.main_arg6)
      ∧ r.2.mem ((c.tc : Thread Cert.NsaPIdeal.nD Cert.NsaPIdeal.τ).loc Cert.NsaPIdeal.main_arg7) = m ((c.tc : Thread Cert.NsaPIdeal.nD Cert.NsaPIdeal.τ).loc Cert.NsaPIdeal.main_arg7)
      ∧ r.2.mem ((c.tc : Thread Cert.NsaPIdeal.nD Cert.NsaPIdeal.τ).loc Cert.NsaPIdeal.main_arg8) = m ((c.tc : Thread Cert.NsaPIdeal.nD Cert.NsaPIdeal.τ).loc Cert.NsaPIdeal.main_arg8))
      ∧ r.2.sem = fun _ => 0)

def preserves_MmRes_MmResIdeal : Prop :=
  True

def algebraic_MmResIdeal_MmResRefIdeal [hMmResIdeal : Cert.MmResIdeal.Facts] [hMmResRefIdeal : Cert.MmResRefIdeal.Facts] : Prop :=
  ∀ (m : (ℓ : Loc Cert.MmResIdeal.nD Cert.MmResIdeal.τ Cert.MmResIdeal.sig) → Buf (Elt Ideal) ℓ) (g : Dev Cert.MmResIdeal.nD → PrngReg)
    (m' : (ℓ : Loc Cert.MmResRefIdeal.nD Cert.MmResRefIdeal.τ Cert.MmResRefIdeal.sig) → Buf (Elt Ideal) ℓ) (g' : Dev Cert.MmResRefIdeal.nD → PrngReg), Pre_MmResIdeal m →
    (∀ c : Dev Cert.MmResIdeal.nD,
      m' ((c.tc : Thread Cert.MmResRefIdeal.nD Cert.MmResRefIdeal.τ).loc Cert.MmResRefIdeal.main_arg0) = m ((c.tc : Thread Cert.MmResIdeal.nD Cert.MmResIdeal.τ).loc Cert.MmResIdeal.main_arg0)
      ∧ m' ((c.tc : Thread Cert.MmResRefIdeal.nD Cert.MmResRefIdeal.τ).loc Cert.MmResRefIdeal.main_arg1) = m ((c.tc : Thread Cert.MmResIdeal.nD Cert.MmResIdeal.τ).loc Cert.MmResIdeal.main_arg1)
      ∧ m' ((c.tc : Thread Cert.MmResRefIdeal.nD Cert.MmResRefIdeal.τ).loc Cert.MmResRefIdeal.main_arg2) = m ((c.tc : Thread Cert.MmResIdeal.nD Cert.MmResIdeal.τ).loc Cert.MmResIdeal.main_arg2)) →
    ∃ (v0 : (c : Dev Cert.MmResIdeal.nD) → Buf (Elt Ideal) ((c.tc : Thread Cert.MmResIdeal.nD Cert.MmResIdeal.τ).loc Cert.MmResIdeal.main_v2)),
      θ_run (Cert.MmResIdeal.defs (F := Ideal)) (onTc (τ := Cert.MmResIdeal.τ) (Cert.MmResIdeal.main (F := Ideal))) ⟨m, fun _ => 0, g⟩ (fun r => ∀ c : Dev Cert.MmResIdeal.nD,
          r.2.mem ((c.tc : Thread Cert.MmResIdeal.nD Cert.MmResIdeal.τ).loc Cert.MmResIdeal.main_v2) = v0 c
          ∧ r.2.mem ((c.tc : Thread Cert.MmResIdeal.nD Cert.MmResIdeal.τ).loc Cert.MmResIdeal.main_arg0) = m ((c.tc : Thread Cert.MmResIdeal.nD Cert.MmResIdeal.τ).loc Cert.MmResIdeal.main_arg0)
          ∧ r.2.mem ((c.tc : Thread Cert.MmResIdeal.nD Cert.MmResIdeal.τ).loc Cert.MmResIdeal.main_arg1) = m ((c.tc : Thread Cert.MmResIdeal.nD Cert.MmResIdeal.τ).loc Cert.MmResIdeal.main_arg1)
          ∧ r.2.mem ((c.tc : Thread Cert.MmResIdeal.nD Cert.MmResIdeal.τ).loc Cert.MmResIdeal.main_arg2) = m ((c.tc : Thread Cert.MmResIdeal.nD Cert.MmResIdeal.τ).loc Cert.MmResIdeal.main_arg2))
      ∧ θ_run (Cert.MmResRefIdeal.defs (F := Ideal)) (onTc (τ := Cert.MmResRefIdeal.τ) (Cert.MmResRefIdeal.main (F := Ideal))) ⟨m', fun _ => 0, g'⟩ (fun r => ∀ c : Dev Cert.MmResRefIdeal.nD,
          r.2.mem ((c.tc : Thread Cert.MmResRefIdeal.nD Cert.MmResRefIdeal.τ).loc Cert.MmResRefIdeal.main_v3) = v0 c
          ∧ r.2.mem ((c.tc : Thread Cert.MmResRefIdeal.nD Cert.MmResRefIdeal.τ).loc Cert.MmResRefIdeal.main_arg0) = m' ((c.tc : Thread Cert.MmResRefIdeal.nD Cert.MmResRefIdeal.τ).loc Cert.MmResRefIdeal.main_arg0)
          ∧ r.2.mem ((c.tc : Thread Cert.MmResRefIdeal.nD Cert.MmResRefIdeal.τ).loc Cert.MmResRefIdeal.main_arg1) = m' ((c.tc : Thread Cert.MmResRefIdeal.nD Cert.MmResRefIdeal.τ).loc Cert.MmResRefIdeal.main_arg1)
          ∧ r.2.mem ((c.tc : Thread Cert.MmResRefIdeal.nD Cert.MmResRefIdeal.τ).loc Cert.MmResRefIdeal.main_arg2) = m' ((c.tc : Thread Cert.MmResRefIdeal.nD Cert.MmResRefIdeal.τ).loc Cert.MmResRefIdeal.main_arg2))

def preserves_NormMm_NormMmIdeal : Prop :=
  True

def algebraic_NormMmIdeal_NormMmRefIdeal [hNormMmIdeal : Cert.NormMmIdeal.Facts] [hNormMmRefIdeal : Cert.NormMmRefIdeal.Facts] : Prop :=
  ∀ (m : (ℓ : Loc Cert.NormMmIdeal.nD Cert.NormMmIdeal.τ Cert.NormMmIdeal.sig) → Buf (Elt Ideal) ℓ) (g : Dev Cert.NormMmIdeal.nD → PrngReg)
    (m' : (ℓ : Loc Cert.NormMmRefIdeal.nD Cert.NormMmRefIdeal.τ Cert.NormMmRefIdeal.sig) → Buf (Elt Ideal) ℓ) (g' : Dev Cert.NormMmRefIdeal.nD → PrngReg), Pre_NormMmIdeal m →
    (∀ c : Dev Cert.NormMmIdeal.nD,
      m' ((c.tc : Thread Cert.NormMmRefIdeal.nD Cert.NormMmRefIdeal.τ).loc Cert.NormMmRefIdeal.main_arg0) = m ((c.tc : Thread Cert.NormMmIdeal.nD Cert.NormMmIdeal.τ).loc Cert.NormMmIdeal.main_arg0)
      ∧ m' ((c.tc : Thread Cert.NormMmRefIdeal.nD Cert.NormMmRefIdeal.τ).loc Cert.NormMmRefIdeal.main_arg1) = m ((c.tc : Thread Cert.NormMmIdeal.nD Cert.NormMmIdeal.τ).loc Cert.NormMmIdeal.main_arg1)
      ∧ m' ((c.tc : Thread Cert.NormMmRefIdeal.nD Cert.NormMmRefIdeal.τ).loc Cert.NormMmRefIdeal.main_arg2) = m ((c.tc : Thread Cert.NormMmIdeal.nD Cert.NormMmIdeal.τ).loc Cert.NormMmIdeal.main_arg2)
      ∧ m' ((c.tc : Thread Cert.NormMmRefIdeal.nD Cert.NormMmRefIdeal.τ).loc Cert.NormMmRefIdeal.main_arg3) = m ((c.tc : Thread Cert.NormMmIdeal.nD Cert.NormMmIdeal.τ).loc Cert.NormMmIdeal.main_arg3)) →
    ∃ (v0 : (c : Dev Cert.NormMmIdeal.nD) → Buf (Elt Ideal) ((c.tc : Thread Cert.NormMmIdeal.nD Cert.NormMmIdeal.τ).loc Cert.NormMmIdeal.main_v7)),
      θ_run (Cert.NormMmIdeal.defs (F := Ideal)) (onTc (τ := Cert.NormMmIdeal.τ) (Cert.NormMmIdeal.main (F := Ideal))) ⟨m, fun _ => 0, g⟩ (fun r => ∀ c : Dev Cert.NormMmIdeal.nD,
          r.2.mem ((c.tc : Thread Cert.NormMmIdeal.nD Cert.NormMmIdeal.τ).loc Cert.NormMmIdeal.main_v7) = v0 c
          ∧ r.2.mem ((c.tc : Thread Cert.NormMmIdeal.nD Cert.NormMmIdeal.τ).loc Cert.NormMmIdeal.main_arg0) = m ((c.tc : Thread Cert.NormMmIdeal.nD Cert.NormMmIdeal.τ).loc Cert.NormMmIdeal.main_arg0)
          ∧ r.2.mem ((c.tc : Thread Cert.NormMmIdeal.nD Cert.NormMmIdeal.τ).loc Cert.NormMmIdeal.main_arg1) = m ((c.tc : Thread Cert.NormMmIdeal.nD Cert.NormMmIdeal.τ).loc Cert.NormMmIdeal.main_arg1)
          ∧ r.2.mem ((c.tc : Thread Cert.NormMmIdeal.nD Cert.NormMmIdeal.τ).loc Cert.NormMmIdeal.main_arg2) = m ((c.tc : Thread Cert.NormMmIdeal.nD Cert.NormMmIdeal.τ).loc Cert.NormMmIdeal.main_arg2)
          ∧ r.2.mem ((c.tc : Thread Cert.NormMmIdeal.nD Cert.NormMmIdeal.τ).loc Cert.NormMmIdeal.main_arg3) = m ((c.tc : Thread Cert.NormMmIdeal.nD Cert.NormMmIdeal.τ).loc Cert.NormMmIdeal.main_arg3))
      ∧ θ_run (Cert.NormMmRefIdeal.defs (F := Ideal)) (onTc (τ := Cert.NormMmRefIdeal.τ) (Cert.NormMmRefIdeal.main (F := Ideal))) ⟨m', fun _ => 0, g'⟩ (fun r => ∀ c : Dev Cert.NormMmRefIdeal.nD,
          r.2.mem ((c.tc : Thread Cert.NormMmRefIdeal.nD Cert.NormMmRefIdeal.τ).loc Cert.NormMmRefIdeal.main_v19) = v0 c
          ∧ r.2.mem ((c.tc : Thread Cert.NormMmRefIdeal.nD Cert.NormMmRefIdeal.τ).loc Cert.NormMmRefIdeal.main_arg0) = m' ((c.tc : Thread Cert.NormMmRefIdeal.nD Cert.NormMmRefIdeal.τ).loc Cert.NormMmRefIdeal.main_arg0)
          ∧ r.2.mem ((c.tc : Thread Cert.NormMmRefIdeal.nD Cert.NormMmRefIdeal.τ).loc Cert.NormMmRefIdeal.main_arg1) = m' ((c.tc : Thread Cert.NormMmRefIdeal.nD Cert.NormMmRefIdeal.τ).loc Cert.NormMmRefIdeal.main_arg1)
          ∧ r.2.mem ((c.tc : Thread Cert.NormMmRefIdeal.nD Cert.NormMmRefIdeal.τ).loc Cert.NormMmRefIdeal.main_arg2) = m' ((c.tc : Thread Cert.NormMmRefIdeal.nD Cert.NormMmRefIdeal.τ).loc Cert.NormMmRefIdeal.main_arg2)
          ∧ r.2.mem ((c.tc : Thread Cert.NormMmRefIdeal.nD Cert.NormMmRefIdeal.τ).loc Cert.NormMmRefIdeal.main_arg3) = m' ((c.tc : Thread Cert.NormMmRefIdeal.nD Cert.NormMmRefIdeal.τ).loc Cert.NormMmRefIdeal.main_arg3))

def preserves_Ca_CaIdeal : Prop :=
  True

def algebraic_CaIdeal_CaRefIdeal [hCaIdeal : Cert.CaIdeal.Facts] [hCaRefIdeal : Cert.CaRefIdeal.Facts] : Prop :=
  ∀ (m : (ℓ : Loc Cert.CaIdeal.nD Cert.CaIdeal.τ Cert.CaIdeal.sig) → Buf (Elt Ideal) ℓ) (g : Dev Cert.CaIdeal.nD → PrngReg)
    (m' : (ℓ : Loc Cert.CaRefIdeal.nD Cert.CaRefIdeal.τ Cert.CaRefIdeal.sig) → Buf (Elt Ideal) ℓ) (g' : Dev Cert.CaRefIdeal.nD → PrngReg), Pre_CaIdeal m →
    (∀ c : Dev Cert.CaIdeal.nD,
      m' ((c.tc : Thread Cert.CaRefIdeal.nD Cert.CaRefIdeal.τ).loc Cert.CaRefIdeal.main_arg0) = m ((c.tc : Thread Cert.CaIdeal.nD Cert.CaIdeal.τ).loc Cert.CaIdeal.main_arg0)
      ∧ m' ((c.tc : Thread Cert.CaRefIdeal.nD Cert.CaRefIdeal.τ).loc Cert.CaRefIdeal.main_arg1) = m ((c.tc : Thread Cert.CaIdeal.nD Cert.CaIdeal.τ).loc Cert.CaIdeal.main_arg1)
      ∧ m' ((c.tc : Thread Cert.CaRefIdeal.nD Cert.CaRefIdeal.τ).loc Cert.CaRefIdeal.main_arg2) = m ((c.tc : Thread Cert.CaIdeal.nD Cert.CaIdeal.τ).loc Cert.CaIdeal.main_arg2)) →
    ∃ (v0 : (c : Dev Cert.CaIdeal.nD) → Buf (Elt Ideal) ((c.tc : Thread Cert.CaIdeal.nD Cert.CaIdeal.τ).loc Cert.CaIdeal.main_v0)),
      θ_run (Cert.CaIdeal.defs (F := Ideal)) (onTc (τ := Cert.CaIdeal.τ) (Cert.CaIdeal.main (F := Ideal))) ⟨m, fun _ => 0, g⟩ (fun r => ∀ c : Dev Cert.CaIdeal.nD,
          r.2.mem ((c.tc : Thread Cert.CaIdeal.nD Cert.CaIdeal.τ).loc Cert.CaIdeal.main_v0) = v0 c
          ∧ r.2.mem ((c.tc : Thread Cert.CaIdeal.nD Cert.CaIdeal.τ).loc Cert.CaIdeal.main_arg0) = m ((c.tc : Thread Cert.CaIdeal.nD Cert.CaIdeal.τ).loc Cert.CaIdeal.main_arg0)
          ∧ r.2.mem ((c.tc : Thread Cert.CaIdeal.nD Cert.CaIdeal.τ).loc Cert.CaIdeal.main_arg1) = m ((c.tc : Thread Cert.CaIdeal.nD Cert.CaIdeal.τ).loc Cert.CaIdeal.main_arg1)
          ∧ r.2.mem ((c.tc : Thread Cert.CaIdeal.nD Cert.CaIdeal.τ).loc Cert.CaIdeal.main_arg2) = m ((c.tc : Thread Cert.CaIdeal.nD Cert.CaIdeal.τ).loc Cert.CaIdeal.main_arg2))
      ∧ θ_run (Cert.CaRefIdeal.defs (F := Ideal)) (onTc (τ := Cert.CaRefIdeal.τ) (Cert.CaRefIdeal.main (F := Ideal))) ⟨m', fun _ => 0, g'⟩ (fun r => ∀ c : Dev Cert.CaRefIdeal.nD,
          r.2.mem ((c.tc : Thread Cert.CaRefIdeal.nD Cert.CaRefIdeal.τ).loc Cert.CaRefIdeal.main_v19) = v0 c
          ∧ r.2.mem ((c.tc : Thread Cert.CaRefIdeal.nD Cert.CaRefIdeal.τ).loc Cert.CaRefIdeal.main_arg0) = m' ((c.tc : Thread Cert.CaRefIdeal.nD Cert.CaRefIdeal.τ).loc Cert.CaRefIdeal.main_arg0)
          ∧ r.2.mem ((c.tc : Thread Cert.CaRefIdeal.nD Cert.CaRefIdeal.τ).loc Cert.CaRefIdeal.main_arg1) = m' ((c.tc : Thread Cert.CaRefIdeal.nD Cert.CaRefIdeal.τ).loc Cert.CaRefIdeal.main_arg1)
          ∧ r.2.mem ((c.tc : Thread Cert.CaRefIdeal.nD Cert.CaRefIdeal.τ).loc Cert.CaRefIdeal.main_arg2) = m' ((c.tc : Thread Cert.CaRefIdeal.nD Cert.CaRefIdeal.τ).loc Cert.CaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mixout_MixoutIdeal : Prop :=
  True

def algebraic_MixoutIdeal_MixoutRefIdeal [hMixoutIdeal : Cert.MixoutIdeal.Facts] [hMixoutRefIdeal : Cert.MixoutRefIdeal.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)
      ∧ m' ((c.tc : Thread Cert.MixoutRefIdeal.nD Cert.MixoutRefIdeal.τ).loc Cert.MixoutRefIdeal.main_arg3) = m ((c.tc : Thread Cert.MixoutIdeal.nD Cert.MixoutIdeal.τ).loc Cert.MixoutIdeal.main_arg3)
      ∧ m' ((c.tc : Thread Cert.MixoutRefIdeal.nD Cert.MixoutRefIdeal.τ).loc Cert.MixoutRefIdeal.main_arg4) = m ((c.tc : Thread Cert.MixoutIdeal.nD Cert.MixoutIdeal.τ).loc Cert.MixoutIdeal.main_arg4)
      ∧ m' ((c.tc : Thread Cert.MixoutRefIdeal.nD Cert.MixoutRefIdeal.τ).loc Cert.MixoutRefIdeal.main_arg5) = m ((c.tc : Thread Cert.MixoutIdeal.nD Cert.MixoutIdeal.τ).loc Cert.MixoutIdeal.main_arg5)
      ∧ m' ((c.tc : Thread Cert.MixoutRefIdeal.nD Cert.MixoutRefIdeal.τ).loc Cert.MixoutRefIdeal.main_arg6) = m ((c.tc : Thread Cert.MixoutIdeal.nD Cert.MixoutIdeal.τ).loc Cert.MixoutIdeal.main_arg6)) →
    ∃ (v0 : (c : Dev Cert.MixoutIdeal.nD) → Buf (Elt Ideal) ((c.tc : Thread Cert.MixoutIdeal.nD Cert.MixoutIdeal.τ).loc Cert.MixoutIdeal.main_v18_0)) (v1 : (c : Dev Cert.MixoutIdeal.nD) → Buf (Elt Ideal) ((c.tc : Thread Cert.MixoutIdeal.nD Cert.MixoutIdeal.τ).loc Cert.MixoutIdeal.main_v18_1)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v18_0) = v0 c
          ∧ r.2.mem ((c.tc : Thread Cert.MixoutIdeal.nD Cert.MixoutIdeal.τ).loc Cert.MixoutIdeal.main_v18_1) = v1 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
          ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
          ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
          ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
          ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v20) = v0 c
          ∧ r.2.mem ((c.tc : Thread Cert.MixoutRefIdeal.nD Cert.MixoutRefIdeal.τ).loc Cert.MixoutRefIdeal.main_v39) = v1 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2)
          ∧ r.2.mem ((c.tc : Thread Cert.MixoutRefIdeal.nD Cert.MixoutRefIdeal.τ).loc Cert.MixoutRefIdeal.main_arg3) = m' ((c.tc : Thread Cert.MixoutRefIdeal.nD Cert.MixoutRefIdeal.τ).loc Cert.MixoutRefIdeal.main_arg3)
          ∧ r.2.mem ((c.tc : Thread Cert.MixoutRefIdeal.nD Cert.MixoutRefIdeal.τ).loc Cert.MixoutRefIdeal.main_arg4) = m' ((c.tc : Thread Cert.MixoutRefIdeal.nD Cert.MixoutRefIdeal.τ).loc Cert.MixoutRefIdeal.main_arg4)
          ∧ r.2.mem ((c.tc : Thread Cert.MixoutRefIdeal.nD Cert.MixoutRefIdeal.τ).loc Cert.MixoutRefIdeal.main_arg5) = m' ((c.tc : Thread Cert.MixoutRefIdeal.nD Cert.MixoutRefIdeal.τ).loc Cert.MixoutRefIdeal.main_arg5)
          ∧ r.2.mem ((c.tc : Thread Cert.MixoutRefIdeal.nD Cert.MixoutRefIdeal.τ).loc Cert.MixoutRefIdeal.main_arg6) = m' ((c.tc : Thread Cert.MixoutRefIdeal.nD Cert.MixoutRefIdeal.τ).loc Cert.MixoutRefIdeal.main_arg6))

def preserves_Hgrn_HgrnIdeal : Prop :=
  True

def algebraic_HgrnIdeal_HgrnRefIdeal [hHgrnIdeal : Cert.HgrnIdeal.Facts] [hHgrnRefIdeal : Cert.HgrnRefIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v19_0)) (v1 : (c : Dev Cert.HgrnIdeal.nD) → Buf (Elt Ideal) ((c.tc : Thread Cert.HgrnIdeal.nD Cert.HgrnIdeal.τ).loc Cert.HgrnIdeal.main_v19_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v19_0) = v0 c
          ∧ r.2.mem ((c.tc : Thread Cert.HgrnIdeal.nD Cert.HgrnIdeal.τ).loc Cert.HgrnIdeal.main_v19_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v119) = v0 c
          ∧ r.2.mem ((c.tc : Thread Cert.HgrnRefIdeal.nD Cert.HgrnRefIdeal.τ).loc Cert.HgrnRefIdeal.main_v97) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v82_0)) (v1 : (c : Dev Cert.ProjIdeal.nD) → Buf (Elt Ideal) ((c.tc : Thread Cert.ProjIdeal.nD Cert.ProjIdeal.τ).loc Cert.ProjIdeal.main_v82_1)) (v2 : (c : Dev Cert.ProjIdeal.nD) → Buf (Elt Ideal) ((c.tc : Thread Cert.ProjIdeal.nD Cert.ProjIdeal.τ).loc Cert.ProjIdeal.main_v82_2)) (v3 : (c : Dev Cert.ProjIdeal.nD) → Buf (Elt Ideal) ((c.tc : Thread Cert.ProjIdeal.nD Cert.ProjIdeal.τ).loc Cert.ProjIdeal.main_v82_3)) (v4 : (c : Dev Cert.ProjIdeal.nD) → Buf (Elt Ideal) ((c.tc : Thread Cert.ProjIdeal.nD Cert.ProjIdeal.τ).loc Cert.ProjIdeal.main_v82_4)) (v5 : (c : Dev Cert.ProjIdeal.nD) → Buf (Elt Ideal) ((c.tc : Thread Cert.ProjIdeal.nD Cert.ProjIdeal.τ).loc Cert.ProjIdeal.main_v82_5)) (v6 : (c : Dev Cert.ProjIdeal.nD) → Buf (Elt Ideal) ((c.tc : Thread Cert.ProjIdeal.nD Cert.ProjIdeal.τ).loc Cert.ProjIdeal.main_v82_6)) (v7 : (c : Dev Cert.ProjIdeal.nD) → Buf (Elt Ideal) ((c.tc : Thread Cert.ProjIdeal.nD Cert.ProjIdeal.τ).loc Cert.ProjIdeal.main_v82_7)) (v8 : (c : Dev Cert.ProjIdeal.nD) → Buf (Elt Ideal) ((c.tc : Thread Cert.ProjIdeal.nD Cert.ProjIdeal.τ).loc Cert.ProjIdeal.main_v82_8)) (v9 : (c : Dev Cert.ProjIdeal.nD) → Buf (Elt Ideal) ((c.tc : Thread Cert.ProjIdeal.nD Cert.ProjIdeal.τ).loc Cert.ProjIdeal.main_v82_9)) (v10 : (c : Dev Cert.ProjIdeal.nD) → Buf (Elt Ideal) ((c.tc : Thread Cert.ProjIdeal.nD Cert.ProjIdeal.τ).loc Cert.ProjIdeal.main_v82_10)) (v11 : (c : Dev Cert.ProjIdeal.nD) → Buf (Elt Ideal) ((c.tc : Thread Cert.ProjIdeal.nD Cert.ProjIdeal.τ).loc Cert.ProjIdeal.main_v82_11)) (v12 : (c : Dev Cert.ProjIdeal.nD) → Buf (Elt Ideal) ((c.tc : Thread Cert.ProjIdeal.nD Cert.ProjIdeal.τ).loc Cert.ProjIdeal.main_v82_12)) (v13 : (c : Dev Cert.ProjIdeal.nD) → Buf (Elt Ideal) ((c.tc : Thread Cert.ProjIdeal.nD Cert.ProjIdeal.τ).loc Cert.ProjIdeal.main_v82_13)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v82_0) = v0 c
          ∧ r.2.mem ((c.tc : Thread Cert.ProjIdeal.nD Cert.ProjIdeal.τ).loc Cert.ProjIdeal.main_v82_1) = v1 c
          ∧ r.2.mem ((c.tc : Thread Cert.ProjIdeal.nD Cert.ProjIdeal.τ).loc Cert.ProjIdeal.main_v82_2) = v2 c
          ∧ r.2.mem ((c.tc : Thread Cert.ProjIdeal.nD Cert.ProjIdeal.τ).loc Cert.ProjIdeal.main_v82_3) = v3 c
          ∧ r.2.mem ((c.tc : Thread Cert.ProjIdeal.nD Cert.ProjIdeal.τ).loc Cert.ProjIdeal.main_v82_4) = v4 c
          ∧ r.2.mem ((c.tc : Thread Cert.ProjIdeal.nD Cert.ProjIdeal.τ).loc Cert.ProjIdeal.main_v82_5) = v5 c
          ∧ r.2.mem ((c.tc : Thread Cert.ProjIdeal.nD Cert.ProjIdeal.τ).loc Cert.ProjIdeal.main_v82_6) = v6 c
          ∧ r.2.mem ((c.tc : Thread Cert.ProjIdeal.nD Cert.ProjIdeal.τ).loc Cert.ProjIdeal.main_v82_7) = v7 c
          ∧ r.2.mem ((c.tc : Thread Cert.ProjIdeal.nD Cert.ProjIdeal.τ).loc Cert.ProjIdeal.main_v82_8) = v8 c
          ∧ r.2.mem ((c.tc : Thread Cert.ProjIdeal.nD Cert.ProjIdeal.τ).loc Cert.ProjIdeal.main_v82_9) = v9 c
          ∧ r.2.mem ((c.tc : Thread Cert.ProjIdeal.nD Cert.ProjIdeal.τ).loc Cert.ProjIdeal.main_v82_10) = v10 c
          ∧ r.2.mem ((c.tc : Thread Cert.ProjIdeal.nD Cert.ProjIdeal.τ).loc Cert.ProjIdeal.main_v82_11) = v11 c
          ∧ r.2.mem ((c.tc : Thread Cert.ProjIdeal.nD Cert.ProjIdeal.τ).loc Cert.ProjIdeal.main_v82_12) = v12 c
          ∧ r.2.mem ((c.tc : Thread Cert.ProjIdeal.nD Cert.ProjIdeal.τ).loc Cert.ProjIdeal.main_v82_13) = v13 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v156) = v0 c
          ∧ r.2.mem ((c.tc : Thread Cert.ProjRefIdeal.nD Cert.ProjRefIdeal.τ).loc Cert.ProjRefIdeal.main_v162) = v1 c
          ∧ r.2.mem ((c.tc : Thread Cert.ProjRefIdeal.nD Cert.ProjRefIdeal.τ).loc Cert.ProjRefIdeal.main_v163) = v2 c
          ∧ r.2.mem ((c.tc : Thread Cert.ProjRefIdeal.nD Cert.ProjRefIdeal.τ).loc Cert.ProjRefIdeal.main_v164) = v3 c
          ∧ r.2.mem ((c.tc : Thread Cert.ProjRefIdeal.nD Cert.ProjRefIdeal.τ).loc Cert.ProjRefIdeal.main_v165) = v4 c
          ∧ r.2.mem ((c.tc : Thread Cert.ProjRefIdeal.nD Cert.ProjRefIdeal.τ).loc Cert.ProjRefIdeal.main_v166) = v5 c
          ∧ r.2.mem ((c.tc : Thread Cert.ProjRefIdeal.nD Cert.ProjRefIdeal.τ).loc Cert.ProjRefIdeal.main_v167) = v6 c
          ∧ r.2.mem ((c.tc : Thread Cert.ProjRefIdeal.nD Cert.ProjRefIdeal.τ).loc Cert.ProjRefIdeal.main_v168) = v7 c
          ∧ r.2.mem ((c.tc : Thread Cert.ProjRefIdeal.nD Cert.ProjRefIdeal.τ).loc Cert.ProjRefIdeal.main_v170) = v8 c
          ∧ r.2.mem ((c.tc : Thread Cert.ProjRefIdeal.nD Cert.ProjRefIdeal.τ).loc Cert.ProjRefIdeal.main_v172) = v9 c
          ∧ r.2.mem ((c.tc : Thread Cert.ProjRefIdeal.nD Cert.ProjRefIdeal.τ).loc Cert.ProjRefIdeal.main_v174) = v10 c
          ∧ r.2.mem ((c.tc : Thread Cert.ProjRefIdeal.nD Cert.ProjRefIdeal.τ).loc Cert.ProjRefIdeal.main_v176) = v11 c
          ∧ r.2.mem ((c.tc : Thread Cert.ProjRefIdeal.nD Cert.ProjRefIdeal.τ).loc Cert.ProjRefIdeal.main_v177) = v12 c
          ∧ r.2.mem ((c.tc : Thread Cert.ProjRefIdeal.nD Cert.ProjRefIdeal.τ).loc Cert.ProjRefIdeal.main_v178) = v13 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v65_0)) (v1 : (c : Dev Cert.ProjSIdeal.nD) → Buf (Elt Ideal) ((c.tc : Thread Cert.ProjSIdeal.nD Cert.ProjSIdeal.τ).loc Cert.ProjSIdeal.main_v65_1)) (v2 : (c : Dev Cert.ProjSIdeal.nD) → Buf (Elt Ideal) ((c.tc : Thread Cert.ProjSIdeal.nD Cert.ProjSIdeal.τ).loc Cert.ProjSIdeal.main_v65_2)) (v3 : (c : Dev Cert.ProjSIdeal.nD) → Buf (Elt Ideal) ((c.tc : Thread Cert.ProjSIdeal.nD Cert.ProjSIdeal.τ).loc Cert.ProjSIdeal.main_v65_3)) (v4 : (c : Dev Cert.ProjSIdeal.nD) → Buf (Elt Ideal) ((c.tc : Thread Cert.ProjSIdeal.nD Cert.ProjSIdeal.τ).loc Cert.ProjSIdeal.main_v65_4)) (v5 : (c : Dev Cert.ProjSIdeal.nD) → Buf (Elt Ideal) ((c.tc : Thread Cert.ProjSIdeal.nD Cert.ProjSIdeal.τ).loc Cert.ProjSIdeal.main_v65_5)) (v6 : (c : Dev Cert.ProjSIdeal.nD) → Buf (Elt Ideal) ((c.tc : Thread Cert.ProjSIdeal.nD Cert.ProjSIdeal.τ).loc Cert.ProjSIdeal.main_v65_6)) (v7 : (c : Dev Cert.ProjSIdeal.nD) → Buf (Elt Ideal) ((c.tc : Thread Cert.ProjSIdeal.nD Cert.ProjSIdeal.τ).loc Cert.ProjSIdeal.main_v65_7)) (v8 : (c : Dev Cert.ProjSIdeal.nD) → Buf (Elt Ideal) ((c.tc : Thread Cert.ProjSIdeal.nD Cert.ProjSIdeal.τ).loc Cert.ProjSIdeal.main_v65_8)) (v9 : (c : Dev Cert.ProjSIdeal.nD) → Buf (Elt Ideal) ((c.tc : Thread Cert.ProjSIdeal.nD Cert.ProjSIdeal.τ).loc Cert.ProjSIdeal.main_v65_9)) (v10 : (c : Dev Cert.ProjSIdeal.nD) → Buf (Elt Ideal) ((c.tc : Thread Cert.ProjSIdeal.nD Cert.ProjSIdeal.τ).loc Cert.ProjSIdeal.main_v65_10)) (v11 : (c : Dev Cert.ProjSIdeal.nD) → Buf (Elt Ideal) ((c.tc : Thread Cert.ProjSIdeal.nD Cert.ProjSIdeal.τ).loc Cert.ProjSIdeal.main_v65_11)) (v12 : (c : Dev Cert.ProjSIdeal.nD) → Buf (Elt Ideal) ((c.tc : Thread Cert.ProjSIdeal.nD Cert.ProjSIdeal.τ).loc Cert.ProjSIdeal.main_v65_12)) (v13 : (c : Dev Cert.ProjSIdeal.nD) → Buf (Elt Ideal) ((c.tc : Thread Cert.ProjSIdeal.nD Cert.ProjSIdeal.τ).loc Cert.ProjSIdeal.main_v65_13)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v65_0) = v0 c
          ∧ r.2.mem ((c.tc : Thread Cert.ProjSIdeal.nD Cert.ProjSIdeal.τ).loc Cert.ProjSIdeal.main_v65_1) = v1 c
          ∧ r.2.mem ((c.tc : Thread Cert.ProjSIdeal.nD Cert.ProjSIdeal.τ).loc Cert.ProjSIdeal.main_v65_2) = v2 c
          ∧ r.2.mem ((c.tc : Thread Cert.ProjSIdeal.nD Cert.ProjSIdeal.τ).loc Cert.ProjSIdeal.main_v65_3) = v3 c
          ∧ r.2.mem ((c.tc : Thread Cert.ProjSIdeal.nD Cert.ProjSIdeal.τ).loc Cert.ProjSIdeal.main_v65_4) = v4 c
          ∧ r.2.mem ((c.tc : Thread Cert.ProjSIdeal.nD Cert.ProjSIdeal.τ).loc Cert.ProjSIdeal.main_v65_5) = v5 c
          ∧ r.2.mem ((c.tc : Thread Cert.ProjSIdeal.nD Cert.ProjSIdeal.τ).loc Cert.ProjSIdeal.main_v65_6) = v6 c
          ∧ r.2.mem ((c.tc : Thread Cert.ProjSIdeal.nD Cert.ProjSIdeal.τ).loc Cert.ProjSIdeal.main_v65_7) = v7 c
          ∧ r.2.mem ((c.tc : Thread Cert.ProjSIdeal.nD Cert.ProjSIdeal.τ).loc Cert.ProjSIdeal.main_v65_8) = v8 c
          ∧ r.2.mem ((c.tc : Thread Cert.ProjSIdeal.nD Cert.ProjSIdeal.τ).loc Cert.ProjSIdeal.main_v65_9) = v9 c
          ∧ r.2.mem ((c.tc : Thread Cert.ProjSIdeal.nD Cert.ProjSIdeal.τ).loc Cert.ProjSIdeal.main_v65_10) = v10 c
          ∧ r.2.mem ((c.tc : Thread Cert.ProjSIdeal.nD Cert.ProjSIdeal.τ).loc Cert.ProjSIdeal.main_v65_11) = v11 c
          ∧ r.2.mem ((c.tc : Thread Cert.ProjSIdeal.nD Cert.ProjSIdeal.τ).loc Cert.ProjSIdeal.main_v65_12) = v12 c
          ∧ r.2.mem ((c.tc : Thread Cert.ProjSIdeal.nD Cert.ProjSIdeal.τ).loc Cert.ProjSIdeal.main_v65_13) = v13 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v151) = v0 c
          ∧ r.2.mem ((c.tc : Thread Cert.ProjSRefIdeal.nD Cert.ProjSRefIdeal.τ).loc Cert.ProjSRefIdeal.main_v157) = v1 c
          ∧ r.2.mem ((c.tc : Thread Cert.ProjSRefIdeal.nD Cert.ProjSRefIdeal.τ).loc Cert.ProjSRefIdeal.main_v158) = v2 c
          ∧ r.2.mem ((c.tc : Thread Cert.ProjSRefIdeal.nD Cert.ProjSRefIdeal.τ).loc Cert.ProjSRefIdeal.main_v159) = v3 c
          ∧ r.2.mem ((c.tc : Thread Cert.ProjSRefIdeal.nD Cert.ProjSRefIdeal.τ).loc Cert.ProjSRefIdeal.main_v160) = v4 c
          ∧ r.2.mem ((c.tc : Thread Cert.ProjSRefIdeal.nD Cert.ProjSRefIdeal.τ).loc Cert.ProjSRefIdeal.main_v161) = v5 c
          ∧ r.2.mem ((c.tc : Thread Cert.ProjSRefIdeal.nD Cert.ProjSRefIdeal.τ).loc Cert.ProjSRefIdeal.main_v162) = v6 c
          ∧ r.2.mem ((c.tc : Thread Cert.ProjSRefIdeal.nD Cert.ProjSRefIdeal.τ).loc Cert.ProjSRefIdeal.main_v163) = v7 c
          ∧ r.2.mem ((c.tc : Thread Cert.ProjSRefIdeal.nD Cert.ProjSRefIdeal.τ).loc Cert.ProjSRefIdeal.main_v165) = v8 c
          ∧ r.2.mem ((c.tc : Thread Cert.ProjSRefIdeal.nD Cert.ProjSRefIdeal.τ).loc Cert.ProjSRefIdeal.main_v167) = v9 c
          ∧ r.2.mem ((c.tc : Thread Cert.ProjSRefIdeal.nD Cert.ProjSRefIdeal.τ).loc Cert.ProjSRefIdeal.main_v169) = v10 c
          ∧ r.2.mem ((c.tc : Thread Cert.ProjSRefIdeal.nD Cert.ProjSRefIdeal.τ).loc Cert.ProjSRefIdeal.main_v171) = v11 c
          ∧ r.2.mem ((c.tc : Thread Cert.ProjSRefIdeal.nD Cert.ProjSRefIdeal.τ).loc Cert.ProjSRefIdeal.main_v172) = v12 c
          ∧ r.2.mem ((c.tc : Thread Cert.ProjSRefIdeal.nD Cert.ProjSRefIdeal.τ).loc Cert.ProjSRefIdeal.main_v173) = v13 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def preserves_MixoutS_MixoutSIdeal : Prop :=
  True

def algebraic_MixoutSIdeal_MixoutSRefIdeal [hMixoutSIdeal : Cert.MixoutSIdeal.Facts] [hMixoutSRefIdeal : Cert.MixoutSRefIdeal.Facts] : Prop :=
  ∀ (m : (ℓ : Loc Cert.MixoutSIdeal.nD Cert.MixoutSIdeal.τ Cert.MixoutSIdeal.sig) → Buf (Elt Ideal) ℓ) (g : Dev Cert.MixoutSIdeal.nD → PrngReg)
    (m' : (ℓ : Loc Cert.MixoutSRefIdeal.nD Cert.MixoutSRefIdeal.τ Cert.MixoutSRefIdeal.sig) → Buf (Elt Ideal) ℓ) (g' : Dev Cert.MixoutSRefIdeal.nD → PrngReg), Pre_MixoutSIdeal m →
    (∀ c : Dev Cert.MixoutSIdeal.nD,
      m' ((c.tc : Thread Cert.MixoutSRefIdeal.nD Cert.MixoutSRefIdeal.τ).loc Cert.MixoutSRefIdeal.main_arg0) = m ((c.tc : Thread Cert.MixoutSIdeal.nD Cert.MixoutSIdeal.τ).loc Cert.MixoutSIdeal.main_arg0)
      ∧ m' ((c.tc : Thread Cert.MixoutSRefIdeal.nD Cert.MixoutSRefIdeal.τ).loc Cert.MixoutSRefIdeal.main_arg1) = m ((c.tc : Thread Cert.MixoutSIdeal.nD Cert.MixoutSIdeal.τ).loc Cert.MixoutSIdeal.main_arg1)
      ∧ m' ((c.tc : Thread Cert.MixoutSRefIdeal.nD Cert.MixoutSRefIdeal.τ).loc Cert.MixoutSRefIdeal.main_arg2) = m ((c.tc : Thread Cert.MixoutSIdeal.nD Cert.MixoutSIdeal.τ).loc Cert.MixoutSIdeal.main_arg2)
      ∧ m' ((c.tc : Thread Cert.MixoutSRefIdeal.nD Cert.MixoutSRefIdeal.τ).loc Cert.MixoutSRefIdeal.main_arg3) = m ((c.tc : Thread Cert.MixoutSIdeal.nD Cert.MixoutSIdeal.τ).loc Cert.MixoutSIdeal.main_arg3)
      ∧ m' ((c.tc : Thread Cert.MixoutSRefIdeal.nD Cert.MixoutSRefIdeal.τ).loc Cert.MixoutSRefIdeal.main_arg4) = m ((c.tc : Thread Cert.MixoutSIdeal.nD Cert.MixoutSIdeal.τ).loc Cert.MixoutSIdeal.main_arg4)
      ∧ m' ((c.tc : Thread Cert.MixoutSRefIdeal.nD Cert.MixoutSRefIdeal.τ).loc Cert.MixoutSRefIdeal.main_arg5) = m ((c.tc : Thread Cert.MixoutSIdeal.nD Cert.MixoutSIdeal.τ).loc Cert.MixoutSIdeal.main_arg5)
      ∧ m' ((c.tc : Thread Cert.MixoutSRefIdeal.nD Cert.MixoutSRefIdeal.τ).loc Cert.MixoutSRefIdeal.main_arg6) = m ((c.tc : Thread Cert.MixoutSIdeal.nD Cert.MixoutSIdeal.τ).loc Cert.MixoutSIdeal.main_arg6)) →
    ∃ (v0 : (c : Dev Cert.MixoutSIdeal.nD) → Buf (Elt Ideal) ((c.tc : Thread Cert.MixoutSIdeal.nD Cert.MixoutSIdeal.τ).loc Cert.MixoutSIdeal.main_v18_0)) (v1 : (c : Dev Cert.MixoutSIdeal.nD) → Buf (Elt Ideal) ((c.tc : Thread Cert.MixoutSIdeal.nD Cert.MixoutSIdeal.τ).loc Cert.MixoutSIdeal.main_v18_1)),
      θ_run (Cert.MixoutSIdeal.defs (F := Ideal)) (onTc (τ := Cert.MixoutSIdeal.τ) (Cert.MixoutSIdeal.main (F := Ideal))) ⟨m, fun _ => 0, g⟩ (fun r => ∀ c : Dev Cert.MixoutSIdeal.nD,
          r.2.mem ((c.tc : Thread Cert.MixoutSIdeal.nD Cert.MixoutSIdeal.τ).loc Cert.MixoutSIdeal.main_v18_0) = v0 c
          ∧ r.2.mem ((c.tc : Thread Cert.MixoutSIdeal.nD Cert.MixoutSIdeal.τ).loc Cert.MixoutSIdeal.main_v18_1) = v1 c
          ∧ r.2.mem ((c.tc : Thread Cert.MixoutSIdeal.nD Cert.MixoutSIdeal.τ).loc Cert.MixoutSIdeal.main_arg0) = m ((c.tc : Thread Cert.MixoutSIdeal.nD Cert.MixoutSIdeal.τ).loc Cert.MixoutSIdeal.main_arg0)
          ∧ r.2.mem ((c.tc : Thread Cert.MixoutSIdeal.nD Cert.MixoutSIdeal.τ).loc Cert.MixoutSIdeal.main_arg1) = m ((c.tc : Thread Cert.MixoutSIdeal.nD Cert.MixoutSIdeal.τ).loc Cert.MixoutSIdeal.main_arg1)
          ∧ r.2.mem ((c.tc : Thread Cert.MixoutSIdeal.nD Cert.MixoutSIdeal.τ).loc Cert.MixoutSIdeal.main_arg2) = m ((c.tc : Thread Cert.MixoutSIdeal.nD Cert.MixoutSIdeal.τ).loc Cert.MixoutSIdeal.main_arg2)
          ∧ r.2.mem ((c.tc : Thread Cert.MixoutSIdeal.nD Cert.MixoutSIdeal.τ).loc Cert.MixoutSIdeal.main_arg3) = m ((c.tc : Thread Cert.MixoutSIdeal.nD Cert.MixoutSIdeal.τ).loc Cert.MixoutSIdeal.main_arg3)
          ∧ r.2.mem ((c.tc : Thread Cert.MixoutSIdeal.nD Cert.MixoutSIdeal.τ).loc Cert.MixoutSIdeal.main_arg4) = m ((c.tc : Thread Cert.MixoutSIdeal.nD Cert.MixoutSIdeal.τ).loc Cert.MixoutSIdeal.main_arg4)
          ∧ r.2.mem ((c.tc : Thread Cert.MixoutSIdeal.nD Cert.MixoutSIdeal.τ).loc Cert.MixoutSIdeal.main_arg5) = m ((c.tc : Thread Cert.MixoutSIdeal.nD Cert.MixoutSIdeal.τ).loc Cert.MixoutSIdeal.main_arg5)
          ∧ r.2.mem ((c.tc : Thread Cert.MixoutSIdeal.nD Cert.MixoutSIdeal.τ).loc Cert.MixoutSIdeal.main_arg6) = m ((c.tc : Thread Cert.MixoutSIdeal.nD Cert.MixoutSIdeal.τ).loc Cert.MixoutSIdeal.main_arg6))
      ∧ θ_run (Cert.MixoutSRefIdeal.defs (F := Ideal)) (onTc (τ := Cert.MixoutSRefIdeal.τ) (Cert.MixoutSRefIdeal.main (F := Ideal))) ⟨m', fun _ => 0, g'⟩ (fun r => ∀ c : Dev Cert.MixoutSRefIdeal.nD,
          r.2.mem ((c.tc : Thread Cert.MixoutSRefIdeal.nD Cert.MixoutSRefIdeal.τ).loc Cert.MixoutSRefIdeal.main_v20) = v0 c
          ∧ r.2.mem ((c.tc : Thread Cert.MixoutSRefIdeal.nD Cert.MixoutSRefIdeal.τ).loc Cert.MixoutSRefIdeal.main_v39) = v1 c
          ∧ r.2.mem ((c.tc : Thread Cert.MixoutSRefIdeal.nD Cert.MixoutSRefIdeal.τ).loc Cert.MixoutSRefIdeal.main_arg0) = m' ((c.tc : Thread Cert.MixoutSRefIdeal.nD Cert.MixoutSRefIdeal.τ).loc Cert.MixoutSRefIdeal.main_arg0)
          ∧ r.2.mem ((c.tc : Thread Cert.MixoutSRefIdeal.nD Cert.MixoutSRefIdeal.τ).loc Cert.MixoutSRefIdeal.main_arg1) = m' ((c.tc : Thread Cert.MixoutSRefIdeal.nD Cert.MixoutSRefIdeal.τ).loc Cert.MixoutSRefIdeal.main_arg1)
          ∧ r.2.mem ((c.tc : Thread Cert.MixoutSRefIdeal.nD Cert.MixoutSRefIdeal.τ).loc Cert.MixoutSRefIdeal.main_arg2) = m' ((c.tc : Thread Cert.MixoutSRefIdeal.nD Cert.MixoutSRefIdeal.τ).loc Cert.MixoutSRefIdeal.main_arg2)
          ∧ r.2.mem ((c.tc : Thread Cert.MixoutSRefIdeal.nD Cert.MixoutSRefIdeal.τ).loc Cert.MixoutSRefIdeal.main_arg3) = m' ((c.tc : Thread Cert.MixoutSRefIdeal.nD Cert.MixoutSRefIdeal.τ).loc Cert.MixoutSRefIdeal.main_arg3)
          ∧ r.2.mem ((c.tc : Thread Cert.MixoutSRefIdeal.nD Cert.MixoutSRefIdeal.τ).loc Cert.MixoutSRefIdeal.main_arg4) = m' ((c.tc : Thread Cert.MixoutSRefIdeal.nD Cert.MixoutSRefIdeal.τ).loc Cert.MixoutSRefIdeal.main_arg4)
          ∧ r.2.mem ((c.tc : Thread Cert.MixoutSRefIdeal.nD Cert.MixoutSRefIdeal.τ).loc Cert.MixoutSRefIdeal.main_arg5) = m' ((c.tc : Thread Cert.MixoutSRefIdeal.nD Cert.MixoutSRefIdeal.τ).loc Cert.MixoutSRefIdeal.main_arg5)
          ∧ r.2.mem ((c.tc : Thread Cert.MixoutSRefIdeal.nD Cert.MixoutSRefIdeal.τ).loc Cert.MixoutSRefIdeal.main_arg6) = m' ((c.tc : Thread Cert.MixoutSRefIdeal.nD Cert.MixoutSRefIdeal.τ).loc Cert.MixoutSRefIdeal.main_arg6))

def preserves_CaS_CaSIdeal : Prop :=
  True

def algebraic_CaSIdeal_CaSRefIdeal [hCaSIdeal : Cert.CaSIdeal.Facts] [hCaSRefIdeal : Cert.CaSRefIdeal.Facts] : Prop :=
  ∀ (m : (ℓ : Loc Cert.CaSIdeal.nD Cert.CaSIdeal.τ Cert.CaSIdeal.sig) → Buf (Elt Ideal) ℓ) (g : Dev Cert.CaSIdeal.nD → PrngReg)
    (m' : (ℓ : Loc Cert.CaSRefIdeal.nD Cert.CaSRefIdeal.τ Cert.CaSRefIdeal.sig) → Buf (Elt Ideal) ℓ) (g' : Dev Cert.CaSRefIdeal.nD → PrngReg), Pre_CaSIdeal m →
    (∀ c : Dev Cert.CaSIdeal.nD,
      m' ((c.tc : Thread Cert.CaSRefIdeal.nD Cert.CaSRefIdeal.τ).loc Cert.CaSRefIdeal.main_arg0) = m ((c.tc : Thread Cert.CaSIdeal.nD Cert.CaSIdeal.τ).loc Cert.CaSIdeal.main_arg0)
      ∧ m' ((c.tc : Thread Cert.CaSRefIdeal.nD Cert.CaSRefIdeal.τ).loc Cert.CaSRefIdeal.main_arg1) = m ((c.tc : Thread Cert.CaSIdeal.nD Cert.CaSIdeal.τ).loc Cert.CaSIdeal.main_arg1)
      ∧ m' ((c.tc : Thread Cert.CaSRefIdeal.nD Cert.CaSRefIdeal.τ).loc Cert.CaSRefIdeal.main_arg2) = m ((c.tc : Thread Cert.CaSIdeal.nD Cert.CaSIdeal.τ).loc Cert.CaSIdeal.main_arg2)) →
    ∃ (v0 : (c : Dev Cert.CaSIdeal.nD) → Buf (Elt Ideal) ((c.tc : Thread Cert.CaSIdeal.nD Cert.CaSIdeal.τ).loc Cert.CaSIdeal.main_v0)),
      θ_run (Cert.CaSIdeal.defs (F := Ideal)) (onTc (τ := Cert.CaSIdeal.τ) (Cert.CaSIdeal.main (F := Ideal))) ⟨m, fun _ => 0, g⟩ (fun r => ∀ c : Dev Cert.CaSIdeal.nD,
          r.2.mem ((c.tc : Thread Cert.CaSIdeal.nD Cert.CaSIdeal.τ).loc Cert.CaSIdeal.main_v0) = v0 c
          ∧ r.2.mem ((c.tc : Thread Cert.CaSIdeal.nD Cert.CaSIdeal.τ).loc Cert.CaSIdeal.main_arg0) = m ((c.tc : Thread Cert.CaSIdeal.nD Cert.CaSIdeal.τ).loc Cert.CaSIdeal.main_arg0)
          ∧ r.2.mem ((c.tc : Thread Cert.CaSIdeal.nD Cert.CaSIdeal.τ).loc Cert.CaSIdeal.main_arg1) = m ((c.tc : Thread Cert.CaSIdeal.nD Cert.CaSIdeal.τ).loc Cert.CaSIdeal.main_arg1)
          ∧ r.2.mem ((c.tc : Thread Cert.CaSIdeal.nD Cert.CaSIdeal.τ).loc Cert.CaSIdeal.main_arg2) = m ((c.tc : Thread Cert.CaSIdeal.nD Cert.CaSIdeal.τ).loc Cert.CaSIdeal.main_arg2))
      ∧ θ_run (Cert.CaSRefIdeal.defs (F := Ideal)) (onTc (τ := Cert.CaSRefIdeal.τ) (Cert.CaSRefIdeal.main (F := Ideal))) ⟨m', fun _ => 0, g'⟩ (fun r => ∀ c : Dev Cert.CaSRefIdeal.nD,
          r.2.mem ((c.tc : Thread Cert.CaSRefIdeal.nD Cert.CaSRefIdeal.τ).loc Cert.CaSRefIdeal.main_v19) = v0 c
          ∧ r.2.mem ((c.tc : Thread Cert.CaSRefIdeal.nD Cert.CaSRefIdeal.τ).loc Cert.CaSRefIdeal.main_arg0) = m' ((c.tc : Thread Cert.CaSRefIdeal.nD Cert.CaSRefIdeal.τ).loc Cert.CaSRefIdeal.main_arg0)
          ∧ r.2.mem ((c.tc : Thread Cert.CaSRefIdeal.nD Cert.CaSRefIdeal.τ).loc Cert.CaSRefIdeal.main_arg1) = m' ((c.tc : Thread Cert.CaSRefIdeal.nD Cert.CaSRefIdeal.τ).loc Cert.CaSRefIdeal.main_arg1)
          ∧ r.2.mem ((c.tc : Thread Cert.CaSRefIdeal.nD Cert.CaSRefIdeal.τ).loc Cert.CaSRefIdeal.main_arg2) = m' ((c.tc : Thread Cert.CaSRefIdeal.nD Cert.CaSRefIdeal.τ).loc Cert.CaSRefIdeal.main_arg2))

def preserves_MmResS_MmResSIdeal : Prop :=
  True

def algebraic_MmResSIdeal_MmResSRefIdeal [hMmResSIdeal : Cert.MmResSIdeal.Facts] [hMmResSRefIdeal : Cert.MmResSRefIdeal.Facts] : Prop :=
  ∀ (m : (ℓ : Loc Cert.MmResSIdeal.nD Cert.MmResSIdeal.τ Cert.MmResSIdeal.sig) → Buf (Elt Ideal) ℓ) (g : Dev Cert.MmResSIdeal.nD → PrngReg)
    (m' : (ℓ : Loc Cert.MmResSRefIdeal.nD Cert.MmResSRefIdeal.τ Cert.MmResSRefIdeal.sig) → Buf (Elt Ideal) ℓ) (g' : Dev Cert.MmResSRefIdeal.nD → PrngReg), Pre_MmResSIdeal m →
    (∀ c : Dev Cert.MmResSIdeal.nD,
      m' ((c.tc : Thread Cert.MmResSRefIdeal.nD Cert.MmResSRefIdeal.τ).loc Cert.MmResSRefIdeal.main_arg0) = m ((c.tc : Thread Cert.MmResSIdeal.nD Cert.MmResSIdeal.τ).loc Cert.MmResSIdeal.main_arg0)
      ∧ m' ((c.tc : Thread Cert.MmResSRefIdeal.nD Cert.MmResSRefIdeal.τ).loc Cert.MmResSRefIdeal.main_arg1) = m ((c.tc : Thread Cert.MmResSIdeal.nD Cert.MmResSIdeal.τ).loc Cert.MmResSIdeal.main_arg1)
      ∧ m' ((c.tc : Thread Cert.MmResSRefIdeal.nD Cert.MmResSRefIdeal.τ).loc Cert.MmResSRefIdeal.main_arg2) = m ((c.tc : Thread Cert.MmResSIdeal.nD Cert.MmResSIdeal.τ).loc Cert.MmResSIdeal.main_arg2)) →
    ∃ (v0 : (c : Dev Cert.MmResSIdeal.nD) → Buf (Elt Ideal) ((c.tc : Thread Cert.MmResSIdeal.nD Cert.MmResSIdeal.τ).loc Cert.MmResSIdeal.main_v2)),
      θ_run (Cert.MmResSIdeal.defs (F := Ideal)) (onTc (τ := Cert.MmResSIdeal.τ) (Cert.MmResSIdeal.main (F := Ideal))) ⟨m, fun _ => 0, g⟩ (fun r => ∀ c : Dev Cert.MmResSIdeal.nD,
          r.2.mem ((c.tc : Thread Cert.MmResSIdeal.nD Cert.MmResSIdeal.τ).loc Cert.MmResSIdeal.main_v2) = v0 c
          ∧ r.2.mem ((c.tc : Thread Cert.MmResSIdeal.nD Cert.MmResSIdeal.τ).loc Cert.MmResSIdeal.main_arg0) = m ((c.tc : Thread Cert.MmResSIdeal.nD Cert.MmResSIdeal.τ).loc Cert.MmResSIdeal.main_arg0)
          ∧ r.2.mem ((c.tc : Thread Cert.MmResSIdeal.nD Cert.MmResSIdeal.τ).loc Cert.MmResSIdeal.main_arg1) = m ((c.tc : Thread Cert.MmResSIdeal.nD Cert.MmResSIdeal.τ).loc Cert.MmResSIdeal.main_arg1)
          ∧ r.2.mem ((c.tc : Thread Cert.MmResSIdeal.nD Cert.MmResSIdeal.τ).loc Cert.MmResSIdeal.main_arg2) = m ((c.tc : Thread Cert.MmResSIdeal.nD Cert.MmResSIdeal.τ).loc Cert.MmResSIdeal.main_arg2))
      ∧ θ_run (Cert.MmResSRefIdeal.defs (F := Ideal)) (onTc (τ := Cert.MmResSRefIdeal.τ) (Cert.MmResSRefIdeal.main (F := Ideal))) ⟨m', fun _ => 0, g'⟩ (fun r => ∀ c : Dev Cert.MmResSRefIdeal.nD,
          r.2.mem ((c.tc : Thread Cert.MmResSRefIdeal.nD Cert.MmResSRefIdeal.τ).loc Cert.MmResSRefIdeal.main_v3) = v0 c
          ∧ r.2.mem ((c.tc : Thread Cert.MmResSRefIdeal.nD Cert.MmResSRefIdeal.τ).loc Cert.MmResSRefIdeal.main_arg0) = m' ((c.tc : Thread Cert.MmResSRefIdeal.nD Cert.MmResSRefIdeal.τ).loc Cert.MmResSRefIdeal.main_arg0)
          ∧ r.2.mem ((c.tc : Thread Cert.MmResSRefIdeal.nD Cert.MmResSRefIdeal.τ).loc Cert.MmResSRefIdeal.main_arg1) = m' ((c.tc : Thread Cert.MmResSRefIdeal.nD Cert.MmResSRefIdeal.τ).loc Cert.MmResSRefIdeal.main_arg1)
          ∧ r.2.mem ((c.tc : Thread Cert.MmResSRefIdeal.nD Cert.MmResSRefIdeal.τ).loc Cert.MmResSRefIdeal.main_arg2) = m' ((c.tc : Thread Cert.MmResSRefIdeal.nD Cert.MmResSRefIdeal.τ).loc Cert.MmResSRefIdeal.main_arg2))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v9)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v9) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v35) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_HgrnP_HgrnPIdeal : Prop :=
  True

def preserves_NsaP_NsaPIdeal : Prop :=
  True

def Claim : Prop :=
  ∃ (hMmRes : Cert.MmRes.Facts) (hMmResIdeal : Cert.MmResIdeal.Facts) (hMmResRefIdeal : Cert.MmResRefIdeal.Facts) (hNormMm : Cert.NormMm.Facts) (hNormMmIdeal : Cert.NormMmIdeal.Facts) (hNormMmRefIdeal : Cert.NormMmRefIdeal.Facts) (hCa : Cert.Ca.Facts) (hCaIdeal : Cert.CaIdeal.Facts) (hCaRefIdeal : Cert.CaRefIdeal.Facts) (hFfn : Cert.Ffn.Facts) (hFfnIdeal : Cert.FfnIdeal.Facts) (hFfnRefIdeal : Cert.FfnRefIdeal.Facts) (hMixout : Cert.Mixout.Facts) (hMixoutIdeal : Cert.MixoutIdeal.Facts) (hMixoutRefIdeal : Cert.MixoutRefIdeal.Facts) (hHgrn : Cert.Hgrn.Facts) (hHgrnIdeal : Cert.HgrnIdeal.Facts) (hHgrnRefIdeal : Cert.HgrnRefIdeal.Facts) (hProj : Cert.Proj.Facts) (hProjIdeal : Cert.ProjIdeal.Facts) (hProjRefIdeal : Cert.ProjRefIdeal.Facts) (hProjS : Cert.ProjS.Facts) (hProjSIdeal : Cert.ProjSIdeal.Facts) (hProjSRefIdeal : Cert.ProjSRefIdeal.Facts) (hMixoutS : Cert.MixoutS.Facts) (hMixoutSIdeal : Cert.MixoutSIdeal.Facts) (hMixoutSRefIdeal : Cert.MixoutSRefIdeal.Facts) (hCaS : Cert.CaS.Facts) (hCaSIdeal : Cert.CaSIdeal.Facts) (hCaSRefIdeal : Cert.CaSRefIdeal.Facts) (hMmResS : Cert.MmResS.Facts) (hMmResSIdeal : Cert.MmResSIdeal.Facts) (hMmResSRefIdeal : Cert.MmResSRefIdeal.Facts) (hFfnS : Cert.FfnS.Facts) (hFfnSIdeal : Cert.FfnSIdeal.Facts) (hFfnSRefIdeal : Cert.FfnSRefIdeal.Facts) (hHgrnP : Cert.HgrnP.Facts) (hHgrnPIdeal : Cert.HgrnPIdeal.Facts) (hNsaP : Cert.NsaP.Facts) (hNsaPIdeal : Cert.NsaPIdeal.Facts),
    quiescent_MmRes (hMmRes := hMmRes)
    ∧ quiescent_MmResIdeal (hMmResIdeal := hMmResIdeal)
    ∧ quiescent_MmResRefIdeal (hMmResRefIdeal := hMmResRefIdeal)
    ∧ quiescent_NormMm (hNormMm := hNormMm)
    ∧ quiescent_NormMmIdeal (hNormMmIdeal := hNormMmIdeal)
    ∧ quiescent_NormMmRefIdeal (hNormMmRefIdeal := hNormMmRefIdeal)
    ∧ quiescent_Ca (hCa := hCa)
    ∧ quiescent_CaIdeal (hCaIdeal := hCaIdeal)
    ∧ quiescent_CaRefIdeal (hCaRefIdeal := hCaRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mixout (hMixout := hMixout)
    ∧ quiescent_MixoutIdeal (hMixoutIdeal := hMixoutIdeal)
    ∧ quiescent_MixoutRefIdeal (hMixoutRefIdeal := hMixoutRefIdeal)
    ∧ quiescent_Hgrn (hHgrn := hHgrn)
    ∧ quiescent_HgrnIdeal (hHgrnIdeal := hHgrnIdeal)
    ∧ quiescent_HgrnRefIdeal (hHgrnRefIdeal := hHgrnRefIdeal)
    ∧ quiescent_Proj (hProj := hProj)
    ∧ quiescent_ProjIdeal (hProjIdeal := hProjIdeal)
    ∧ quiescent_ProjRefIdeal (hProjRefIdeal := hProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_MixoutS (hMixoutS := hMixoutS)
    ∧ quiescent_MixoutSIdeal (hMixoutSIdeal := hMixoutSIdeal)
    ∧ quiescent_MixoutSRefIdeal (hMixoutSRefIdeal := hMixoutSRefIdeal)
    ∧ quiescent_CaS (hCaS := hCaS)
    ∧ quiescent_CaSIdeal (hCaSIdeal := hCaSIdeal)
    ∧ quiescent_CaSRefIdeal (hCaSRefIdeal := hCaSRefIdeal)
    ∧ quiescent_MmResS (hMmResS := hMmResS)
    ∧ quiescent_MmResSIdeal (hMmResSIdeal := hMmResSIdeal)
    ∧ quiescent_MmResSRefIdeal (hMmResSRefIdeal := hMmResSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_HgrnP (hHgrnP := hHgrnP)
    ∧ quiescent_HgrnPIdeal (hHgrnPIdeal := hHgrnPIdeal)
    ∧ quiescent_NsaP (hNsaP := hNsaP)
    ∧ quiescent_NsaPIdeal (hNsaPIdeal := hNsaPIdeal)
    ∧ preserves_MmRes_MmResIdeal
    ∧ algebraic_MmResIdeal_MmResRefIdeal (hMmResIdeal := hMmResIdeal) (hMmResRefIdeal := hMmResRefIdeal)
    ∧ preserves_NormMm_NormMmIdeal
    ∧ algebraic_NormMmIdeal_NormMmRefIdeal (hNormMmIdeal := hNormMmIdeal) (hNormMmRefIdeal := hNormMmRefIdeal)
    ∧ preserves_Ca_CaIdeal
    ∧ algebraic_CaIdeal_CaRefIdeal (hCaIdeal := hCaIdeal) (hCaRefIdeal := hCaRefIdeal)
    ∧ preserves_Ffn_FfnIdeal
    ∧ algebraic_FfnIdeal_FfnRefIdeal (hFfnIdeal := hFfnIdeal) (hFfnRefIdeal := hFfnRefIdeal)
    ∧ preserves_Mixout_MixoutIdeal
    ∧ algebraic_MixoutIdeal_MixoutRefIdeal (hMixoutIdeal := hMixoutIdeal) (hMixoutRefIdeal := hMixoutRefIdeal)
    ∧ preserves_Hgrn_HgrnIdeal
    ∧ algebraic_HgrnIdeal_HgrnRefIdeal (hHgrnIdeal := hHgrnIdeal) (hHgrnRefIdeal := hHgrnRefIdeal)
    ∧ preserves_Proj_ProjIdeal
    ∧ algebraic_ProjIdeal_ProjRefIdeal (hProjIdeal := hProjIdeal) (hProjRefIdeal := hProjRefIdeal)
    ∧ preserves_ProjS_ProjSIdeal
    ∧ algebraic_ProjSIdeal_ProjSRefIdeal (hProjSIdeal := hProjSIdeal) (hProjSRefIdeal := hProjSRefIdeal)
    ∧ preserves_MixoutS_MixoutSIdeal
    ∧ algebraic_MixoutSIdeal_MixoutSRefIdeal (hMixoutSIdeal := hMixoutSIdeal) (hMixoutSRefIdeal := hMixoutSRefIdeal)
    ∧ preserves_CaS_CaSIdeal
    ∧ algebraic_CaSIdeal_CaSRefIdeal (hCaSIdeal := hCaSIdeal) (hCaSRefIdeal := hCaSRefIdeal)
    ∧ preserves_MmResS_MmResSIdeal
    ∧ algebraic_MmResSIdeal_MmResSRefIdeal (hMmResSIdeal := hMmResSIdeal) (hMmResSRefIdeal := hMmResSRefIdeal)
    ∧ preserves_FfnS_FfnSIdeal
    ∧ algebraic_FfnSIdeal_FfnSRefIdeal (hFfnSIdeal := hFfnSIdeal) (hFfnSRefIdeal := hFfnSRefIdeal)
    ∧ preserves_HgrnP_HgrnPIdeal
    ∧ preserves_NsaP_NsaPIdeal
-- ==== MmRes.lean ====
abbrev S32768x1024 : Shape := ⟨2, ![32768, 1024]⟩
abbrev S1x1024x1024 : Shape := ⟨3, ![1, 1024, 1024]⟩
abbrev S1024x1024 : Shape := ⟨2, ![1024, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1x1024x1024, .f32⟩
  | .hbm, ⟨2, _⟩ => ⟨S32768x1024, .f32⟩
  | .hbm, ⟨3, _⟩ => ⟨S1024x1024, .f32⟩
  | .hbm, ⟨4, _⟩ => ⟨S1024x1024, .bf16⟩
  | .hbm, ⟨5, _⟩ => ⟨S32768x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MmResRefIdeal.lean ====
abbrev S32768x1024 : Shape := ⟨2, ![32768, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1x1024x1024, .f32⟩
  | .hbm, ⟨2, _⟩ => ⟨S32768x1024, .f32⟩
  | .hbm, ⟨3, _⟩ => ⟨S32768x1024, .f32⟩
  | .hbm, ⟨4, _⟩ => ⟨S1024x1024, .f32⟩
  | .hbm, ⟨5, _⟩ => ⟨S32768x1024, .f32⟩
  | .hbm, ⟨6, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormMm.lean ====
abbrev S8x256x1024 : Shape := ⟨3, ![8, 256, 1024]⟩
abbrev S1x1024 : Shape := ⟨2, ![1, 1024]⟩
abbrev S1x1024x1024 : Shape := ⟨3, ![1, 1024, 1024]⟩
abbrev S1024x1024 : Shape := ⟨2, ![1024, 1024]⟩
abbrev S1024x2048 : Shape := ⟨2, ![1024, 2048]⟩
abbrev S2048x1024 : Shape := ⟨2, ![2048, 1024]⟩
abbrev S1024 : Shape := ⟨1, ![1024]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024x1024, .f32⟩
  | .hbm, ⟨6, _⟩ => ⟨S1024x2048, .f32⟩
  | .hbm, ⟨7, _⟩ => ⟨S1024x2048, .bf16⟩
  | .hbm, ⟨8, _⟩ => ⟨S2048x1024, .f32⟩
  | .hbm, ⟨9, _⟩ => ⟨S1024, .f32⟩
  | .hbm, ⟨10, _⟩ => ⟨S1x1024, .f32⟩
  | .hbm, ⟨11, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x2048, .f32⟩
  | .local _ .vmem, ⟨5, _⟩ => ⟨S256x2048, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormMmRefIdeal.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x256x2048 : Shape := ⟨3, ![8, 256, 2048]⟩
abbrev S2048x2048 : Shape := ⟨2, ![2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1024x1024, .f32⟩
  | .hbm, ⟨22, _⟩ => ⟨S8x256x1024, .f32⟩
  | .hbm, ⟨23, _⟩ => ⟨S1024x1024, .f32⟩
  | .hbm, ⟨24, _⟩ => ⟨S8x256x1024, .f32⟩
  | .hbm, ⟨25, _⟩ => ⟨S8x256x2048, .f32⟩
  | .hbm, ⟨26, _⟩ => ⟨S2048x2048, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Ca.lean ====
abbrev S8x4096x1024 : Shape := ⟨3, ![8, 4096, 1024]⟩
abbrev S8x256x1024 : Shape := ⟨3, ![8, 256, 1024]⟩
abbrev S1x256x1024 : Shape := ⟨3, ![1, 256, 1024]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x1024, .bf16⟩
  | .hbm, ⟨1, _⟩ => ⟨S8x256x1024, .f32⟩
  | .hbm, ⟨2, _⟩ => ⟨S8x256x1024, .f32⟩
  | .hbm, ⟨3, _⟩ => ⟨S8x4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CaRefIdeal.lean ====
abbrev S8x4096x1024 : Shape := ⟨3, ![8, 4096, 1024]⟩
abbrev S8x256x1024 : Shape := ⟨3, ![8, 256, 1024]⟩
abbrev S8x4096x4x256 : Shape := ⟨4, ![8, 4096, 4, 256]⟩
abbrev S8x256x4x256 : Shape := ⟨4, ![8, 256, 4, 256]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x256x1024, .f32⟩
  | .hbm, ⟨2, _⟩ => ⟨S8x256x1024, .f32⟩
  | .hbm, ⟨3, _⟩ => ⟨S8x4096x1024, .f32⟩
  | .hbm, ⟨4, _⟩ => ⟨S8x4096x4x256, .f32⟩
  | .hbm, ⟨5, _⟩ => ⟨S8x256x4x256, .f32⟩
  | .hbm, ⟨6, _⟩ => ⟨S8x256x4x256, .f32⟩
  | .hbm, ⟨7, _⟩ => ⟨S8x4x4096x256, .f32⟩
  | .hbm, ⟨8, _⟩ => ⟨S_, .f32⟩
  | .hbm, ⟨9, _⟩ => ⟨S8x4x4096, .f32⟩
  | .hbm, ⟨10, _⟩ => ⟨S_, .f32⟩
  | .hbm, ⟨11, _⟩ => ⟨S8x4x4096, .f32⟩
  | .hbm, ⟨12, _⟩ => ⟨S8x4x4096, .f32⟩
  | .hbm, ⟨13, _⟩ => ⟨S8x4x4096x1, .f32⟩
  | .hbm, ⟨14, _⟩ => ⟨S8x4x4096x256, .f32⟩
  | .hbm, ⟨15, _⟩ => ⟨S8x4x4096x256, .f32⟩
  | .hbm, ⟨16, _⟩ => ⟨S8x4x4096x256, .f32⟩
  | .hbm, ⟨17, _⟩ => ⟨S_, .f32⟩
  | .hbm, ⟨18, _⟩ => ⟨S8x4x4096, .f32⟩
  | .hbm, ⟨19, _⟩ => ⟨S8x4x4096x1, .f32⟩
  | .hbm, ⟨20, _⟩ => ⟨S8x4x4096x256, .f32⟩
  | .hbm, ⟨21, _⟩ => ⟨S8x4x4096x256, .f32⟩
  | .hbm, ⟨22, _⟩ => ⟨S8x4x256x4096, .f32⟩
  | .hbm, ⟨23, _⟩ => ⟨S8x4096x4x256, .f32⟩
  | .hbm, ⟨24, _⟩ => ⟨S8x4096x1024, .f32⟩
  | .hbm, ⟨25, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Ffn.lean ====
abbrev S32768x1024 : Shape := ⟨2, ![32768, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 16
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnIdeal.lean ====
abbrev S32768x1024 : Shape := ⟨2, ![32768, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 16
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S32768x1024 : Shape := ⟨2, ![32768, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S32768x2816 : Shape := ⟨2, ![32768, 2816]⟩
abbrev S2816x1024 : Shape := ⟨2, ![2816, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1024x2816, .f32⟩
  | .hbm, ⟨24, _⟩ => ⟨S32768x2816, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S1024x2816, .f32⟩
  | .hbm, ⟨35, _⟩ => ⟨S32768x2816, .f32⟩
  | .hbm, ⟨36, _⟩ => ⟨S32768x2816, .f32⟩
  | .hbm, ⟨37, _⟩ => ⟨S2816x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Mixout.lean ====
abbrev S32768x1024 : Shape := ⟨2, ![32768, 1024]⟩
abbrev S32768x512 : Shape := ⟨2, ![32768, 512]⟩
abbrev S1x512 : Shape := ⟨2, ![1, 512]⟩
abbrev S1x1024x1024 : Shape := ⟨3, ![1, 1024, 1024]⟩
abbrev S1x1024 : Shape := ⟨2, ![1, 1024]⟩
abbrev S512 : Shape := ⟨1, ![512]⟩
abbrev S2x4x64 : Shape := ⟨3, ![2, 4, 64]⟩
abbrev S4x2x64 : Shape := ⟨3, ![4, 2, 64]⟩
abbrev S1024x1024 : Shape := ⟨2, ![1024, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S1024 : Shape := ⟨1, ![1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 27
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x1024, .f32⟩
  | .hbm, ⟨7, _⟩ => ⟨S512, .f32⟩
  | .hbm, ⟨8, _⟩ => ⟨S2x4x64, .f32⟩
  | .hbm, ⟨9, _⟩ => ⟨S4x2x64, .f32⟩
  | .hbm, ⟨10, _⟩ => ⟨S512, .f32⟩
  | .hbm, ⟨11, _⟩ => ⟨S1x512, .f32⟩
  | .hbm, ⟨12, _⟩ => ⟨S1024x1024, .f32⟩
  | .hbm, ⟨13, _⟩ => ⟨S512x1024, .f32⟩
  | .hbm, ⟨14, _⟩ => ⟨S2x4x64x1024, .f32⟩
  | .hbm, ⟨15, _⟩ => ⟨S4x2x64x1024, .f32⟩
  | .hbm, ⟨16, _⟩ => ⟨S512x1024, .f32⟩
  | .hbm, ⟨17, _⟩ => ⟨S512x1024, .bf16⟩
  | .hbm, ⟨18, _⟩ => ⟨S1024x1024, .f32⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S32768x1024, .f32⟩
  | .hbm, ⟨26, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixoutRefIdeal.lean ====
abbrev S32768x1024 : Shape := ⟨2, ![32768, 1024]⟩
abbrev S32768x512 : Shape := ⟨2, ![32768, 512]⟩
abbrev S1x512 : Shape := ⟨2, ![1, 512]⟩
abbrev S1x1024x1024 : Shape := ⟨3, ![1, 1024, 1024]⟩
abbrev S1x1024 : Shape := ⟨2, ![1, 1024]⟩
abbrev S32768x4x2x64 : Shape := ⟨4, ![32768, 4, 2, 64]⟩
abbrev S32768x2x4x64 : Shape := ⟨4, ![32768, 2, 4, 64]⟩
abbrev S512 : Shape := ⟨1, ![512]⟩
abbrev S_ : Shape := ⟨0, ![]⟩
abbrev S32768 : Shape := ⟨1, ![32768]⟩
abbrev S32768x1 : Shape := ⟨2, ![32768, 1]⟩
abbrev S1024x1024 : Shape := ⟨2, ![1024, 1024]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x1024, .f32⟩
  | .hbm, ⟨7, _⟩ => ⟨S32768x4x2x64, .f32⟩
  | .hbm, ⟨8, _⟩ => ⟨S32768x2x4x64, .f32⟩
  | .hbm, ⟨9, _⟩ => ⟨S32768x512, .f32⟩
  | .hbm, ⟨10, _⟩ => ⟨S512, .f32⟩
  | .hbm, ⟨11, _⟩ => ⟨S32768x512, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x512, .f32⟩
  | .hbm, ⟨23, _⟩ => ⟨S32768x512, .f32⟩
  | .hbm, ⟨24, _⟩ => ⟨S1x512, .f32⟩
  | .hbm, ⟨25, _⟩ => ⟨S32768x512, .f32⟩
  | .hbm, ⟨26, _⟩ => ⟨S32768x512, .f32⟩
  | .hbm, ⟨27, _⟩ => ⟨S32768x1024, .f32⟩
  | .hbm, ⟨28, _⟩ => ⟨S1024x1024, .f32⟩
  | .hbm, ⟨29, _⟩ => ⟨S32768x1024, .f32⟩
  | .hbm, ⟨30, _⟩ => ⟨S32768x1024, .f32⟩
  | .hbm, ⟨31, _⟩ => ⟨S1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S1024x1024, .f32⟩
  | .hbm, ⟨49, _⟩ => ⟨S32768x1024, .f32⟩
  | .hbm, ⟨50, _⟩ => ⟨S_, .f32⟩
  | .hbm, ⟨51, _⟩ => ⟨S32768x1024, .f32⟩
  | .hbm, ⟨52, _⟩ => ⟨S32768x1024, .f32⟩
  | .hbm, ⟨53, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Hgrn.lean ====
abbrev S128x4x2048 : Shape := ⟨3, ![128, 4, 2048]⟩
abbrev S2x512 : Shape := ⟨2, ![2, 512]⟩
abbrev S1x512 : Shape := ⟨2, ![1, 512]⟩
abbrev S1x128x4x128x128 : Shape := ⟨5, ![1, 128, 4, 128, 128]⟩
abbrev S_ : Shape := ⟨0, ![]⟩
abbrev S512 : Shape := ⟨1, ![512]⟩
abbrev S128x8x2048 : Shape := ⟨3, ![128, 8, 2048]⟩
abbrev S128x4x128x128 : Shape := ⟨4, ![128, 4, 128, 128]⟩
abbrev S128x8x512 : Shape := ⟨3, ![128, 8, 512]⟩
abbrev S1x8x2048 : Shape := ⟨3, ![1, 8, 2048]⟩
abbrev S1x4x128x128 : Shape := ⟨4, ![1, 4, 128, 128]⟩
abbrev S1x8x512 : Shape := ⟨3, ![1, 8, 512]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S8x1 : Shape := ⟨2, ![8, 1]⟩
abbrev S1x8x128 : Shape := ⟨3, ![1, 8, 128]⟩
abbrev S8x128 : Shape := ⟨2, ![8, 128]⟩
abbrev S1x128 : Shape := ⟨2, ![1, 128]⟩
abbrev S8 : Shape := ⟨1, ![8]⟩
abbrev S8x512 : Shape := ⟨2, ![8, 512]⟩

abbrev nBuf : Space → Nat
  | .hbm => 32
  | .vmem => 11
  | .smem => 0
  | _ => 0

abbrev bufTy : (tb : Table) → Fin (tcTables nBuf tb) → BufTy
  | .hbm, ⟨0, _⟩ => ⟨S128x4x2048, .f32⟩
  | .hbm, ⟨1, _⟩ => ⟨S2x512, .f32⟩
  | .hbm, ⟨2, _⟩ => ⟨S1x512, .f32⟩
  | .hbm, ⟨3, _⟩ => ⟨S1x128x4x128x128, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .f32⟩
  | .hbm, ⟨18, _⟩ => ⟨S_, .f32⟩
  | .hbm, ⟨19, _⟩ => ⟨S_, .f32⟩
  | .hbm, ⟨20, _⟩ => ⟨S2x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S_, .i32⟩
  | .hbm, ⟨25, _⟩ => ⟨S_, .f32⟩
  | .hbm, ⟨26, _⟩ => ⟨S128x8x2048, .f32⟩
  | .hbm, ⟨27, _⟩ => ⟨S512, .f32⟩
  | .hbm, ⟨28, _⟩ => ⟨S1x512, .f32⟩
  | .hbm, ⟨29, _⟩ => ⟨S128x4x128x128, .f32⟩
  | .hbm, ⟨30, _⟩ => ⟨S128x8x512, .f32⟩
  | .hbm, ⟨31, _⟩ => ⟨S128x4x128x128, .f32⟩
  | .local _ .vmem, ⟨0, _⟩ => ⟨S1x8x2048, .f32⟩
  | .local _ .vmem, ⟨1, _⟩ => ⟨S1x8x2048, .f32⟩
  | .local _ .vmem, ⟨2, _⟩ => ⟨S1x512, .f32⟩
  | .local _ .vmem, ⟨3, _⟩ => ⟨S1x512, .f32⟩
  | .local _ .vmem, ⟨4, _⟩ => ⟨S1x4x128x128, .f32⟩
  | .local _ .vmem, ⟨5, _⟩ => ⟨S1x4x128x128, .f32⟩
  | .local _ .vmem, ⟨6, _⟩ => ⟨S1x8x512, .f32⟩
  | .local _ .vmem, ⟨7, _⟩ => ⟨S1x8x512, .f32⟩
  | .local _ .vmem, ⟨8, _⟩ => ⟨S1x4x128x128, .f32⟩
  | .local _ .vmem, ⟨9, _⟩ => ⟨S1x4x128x128, .f32⟩
  | .local _ .vmem, ⟨10, _⟩ => ⟨S4x128x128, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_386 : BitVec 32 := 0#32
  let v1089 : BitVec 1 := Scalar.cmpi .eq arg1 c0_i32_386
  let v1090 : BitVec 32 := Scalar.extui v1089
  let c0_i32_387 : BitVec 32 := 0#32
  let v1091 : BitVec 1 := Scalar.cmpi .ne v1090 c0_i32_387
  v1091

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== HgrnRefIdeal.lean ====
abbrev S128x4x2048 : Shape := ⟨3, ![128, 4, 2048]⟩
abbrev S2x512 : Shape := ⟨2, ![2, 512]⟩
abbrev S1x512 : Shape := ⟨2, ![1, 512]⟩
abbrev S1x128x4x128x128 : Shape := ⟨5, ![1, 128, 4, 128, 128]⟩
abbrev S_ : Shape := ⟨0, ![]⟩
abbrev S512 : Shape := ⟨1, ![512]⟩
abbrev S4x128 : Shape := ⟨2, ![4, 128]⟩
abbrev S128x4x512 : Shape := ⟨3, ![128, 4, 512]⟩
abbrev S128x4x4x128 : Shape := ⟨4, ![128, 4, 4, 128]⟩
abbrev S1x1x4x128 : Shape := ⟨4, ![1, 1, 4, 128]⟩
abbrev S128x32x4x128 : Shape := ⟨4, ![128, 32, 4, 128]⟩
abbrev S128x4x32x128 : Shape := ⟨4, ![128, 4, 32, 128]⟩
abbrev S128x4x128x128 : Shape := ⟨4, ![128, 4, 128, 128]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1 : Shape := ⟨3, ![32, 32, 1]⟩
abbrev S128x4x32x1x128 : Shape := ⟨5, ![128, 4, 32, 1, 128]⟩
abbrev S128x4x1x32x128 : Shape := ⟨5, ![128, 4, 1, 32, 128]⟩
abbrev S128x4x32x32x128 : Shape := ⟨5, ![128, 4, 32, 32, 128]⟩
abbrev S128x4x32x32 : Shape := ⟨4, ![128, 4, 32, 32]⟩
abbrev S128x4x1x128 : Shape := ⟨4, ![128, 4, 1, 128]⟩
abbrev S128x4x128 : Shape := ⟨3, ![128, 4, 128]⟩
abbrev S128x4x128x1 : Shape := ⟨4, ![128, 4, 128, 1]⟩
abbrev S128x4x4 : Shape := ⟨3, ![128, 4, 4]⟩
abbrev S128x4x4x1 : Shape := ⟨4, ![128, 4, 4, 1]⟩
abbrev S128x8x512 : Shape := ⟨3, ![128, 8, 512]⟩

abbrev nBuf : Space → Nat
  | .hbm => 163
  | .vmem => 0
  | .smem => 0
  | _ => 0

abbrev hbmTy0_0 (i : Nat) : BufTy := match i % 128 with
  | 0 => ⟨S128x4x2048, .f32⟩
  | 1 => ⟨S2x512, .f32⟩
  | 2 => ⟨S1x512, .f32⟩
  | 3 => ⟨S1x128x4x128x128, .f32⟩
  | 4 => ⟨S_, .f32⟩
  | 5 => ⟨S512, .f32⟩
  | 6 => ⟨S_, .f32⟩
  | 7 => ⟨S512, .f32⟩
  | 8 => ⟨S512, .f32⟩
  | 9 => ⟨S1x512, .f32⟩
  | 10 => ⟨S2x512, .f32⟩
  | 11 => ⟨S2x512, .f32⟩
  | 12 => ⟨S2x512, .f32⟩
  | 13 => ⟨S_, .f32⟩
  | 14 => ⟨S512, .f32⟩
  | 15 => ⟨S1x512, .f32⟩
  | 16 => ⟨S2x512, .f32⟩
  | 17 => ⟨S2x512, .f32⟩
  | 18 => ⟨S_, .f32⟩
  | 19 => ⟨S_, .f32⟩
  | 20 => ⟨S2x512, .f32⟩
  | 21 => ⟨S1x512, .f32⟩
  | 22 => ⟨S512, .f32⟩
  | 23 => ⟨S4x128, .f32⟩
  | 24 => ⟨S128x4x512, .f32⟩
  | 25 => ⟨S128x4x512, .f32⟩
  | 26 => ⟨S128x4x512, .f32⟩
  | 27 => ⟨S128x4x512, .f32⟩
  | 28 => ⟨S128x4x4x128, .f32⟩
  | 29 => ⟨S128x4x4x128, .f32⟩
  | 30 => ⟨S128x4x4x128, .f32⟩
  | 31 => ⟨S_, .f32⟩
  | 32 => ⟨S4x128, .f32⟩
  | 33 => ⟨S4x128, .f32⟩
  | 34 => ⟨S128x4x4x128, .f32⟩
  | 35 => ⟨S128x4x4x128, .f32⟩
  | 36 => ⟨S_, .f32⟩
  | 37 => ⟨S128x4x4x128, .f32⟩
  | 38 => ⟨S128x4x4x128, .f32⟩
  | 39 => ⟨S_, .f32⟩
  | 40 => ⟨S128x4x4x128, .f32⟩
  | 41 => ⟨S128x4x4x128, .f32⟩
  | 42 => ⟨S1x1x4x128, .f32⟩
  | 43 => ⟨S128x4x4x128, .f32⟩
  | 44 => ⟨S128x4x4x128, .f32⟩
  | 45 => ⟨S1x1x4x128, .f32⟩
  | 46 => ⟨S128x4x4x128, .f32⟩
  | 47 => ⟨S128x4x4x128, .f32⟩
  | 48 => ⟨S128x4x4x128, .f32⟩
  | 49 => ⟨S_, .f32⟩
  | 50 => ⟨S4x128, .f32⟩
  | 51 => ⟨S4x128, .f32⟩
  | 52 => ⟨S128x4x4x128, .f32⟩
  | 53 => ⟨S128x4x4x128, .f32⟩
  | 54 => ⟨S128x4x4x128, .f32⟩
  | 55 => ⟨S_, .f32⟩
  | 56 => ⟨S128x4x4x128, .f32⟩
  | 57 => ⟨S128x4x4x128, .f32⟩
  | 58 => ⟨S_, .f32⟩
  | 59 => ⟨S128x4x4x128, .f32⟩
  | 60 => ⟨S128x4x4x128, .f32⟩
  | 61 => ⟨S1x1x4x128, .f32⟩
  | 62 => ⟨S128x4x4x128, .f32⟩
  | 63 => ⟨S128x4x4x128, .f32⟩
  | 64 => ⟨S_, .i32⟩
  | 65 => ⟨S_, .f32⟩
  | 66 => ⟨S128x32x4x128, .f32⟩
  | 67 => ⟨S128x4x32x128, .f32⟩
  | 68 => ⟨S_, .i32⟩
  | 69 => ⟨S_, .f32⟩
  | 70 => ⟨S128x32x4x128, .f32⟩
  | 71 => ⟨S128x4x32x128, .f32⟩
  | 72 => ⟨S_, .i32⟩
  | 73 => ⟨S_, .f32⟩
  | 74 => ⟨S128x32x4x128, .f32⟩
  | 75 => ⟨S128x4x32x128, .f32⟩
  | 76 => ⟨S_, .i32⟩
  | 77 => ⟨S_, .f32⟩
  | 78 => ⟨S128x32x4x128, .f32⟩
  | 79 => ⟨S128x4x32x128, .f32⟩
  | 80 => ⟨S128x4x128x128, .f32⟩
  | 81 => ⟨S_, .f32⟩
  | 82 => ⟨S_, .f32⟩
  | 83 => ⟨S128x4x32x128, .f32⟩
  | 84 => ⟨S128x4x32x128, .f32⟩
  | 85 => ⟨S128x4x32x128, .f32⟩
  | 86 => ⟨S128x4x32x128, .f32⟩
  | 87 => ⟨S32, .i32⟩
  | 88 => ⟨S32x1, .i32⟩
  | 89 => ⟨S32, .i32⟩
  | 90 => ⟨S1x32, .i32⟩
  | 91 => ⟨S32x32, .i32⟩
  | 92 => ⟨S32x32, .i32⟩
  | 93 => ⟨S32x32, .i1⟩
  | 94 => ⟨S32x32x1, .i1⟩
  | 95 => ⟨S128x4x32x1x128, .f32⟩
  | 96 => ⟨S128x4x1x32x128, .f32⟩
  | 97 => ⟨S128x4x32x32x128, .f32⟩
  | 98 => ⟨S128x4x32x32x128, .f32⟩
  | 99 => ⟨S128x4x32x32x128, .f32⟩
  | 100 => ⟨S_, .f32⟩
  | 101 => ⟨S_, .f32⟩
  | 102 => ⟨S128x4x32x32x128, .i1⟩
  | 103 => ⟨S128x4x32x32x128, .f32⟩
  | 104 => ⟨S128x4x32x32x128, .f32⟩
  | 105 => ⟨S128x4x32x32x128, .f32⟩
  | 106 => ⟨S128x4x32x1x128, .f32⟩
  | 107 => ⟨S128x4x1x32x128, .f32⟩
  | 108 => ⟨S128x4x32x32x128, .f32⟩
  | 109 => ⟨S128x4x32x32x128, .f32⟩
  | 110 => ⟨S128x4x32x32x128, .f32⟩
  | 111 => ⟨S128x4x32x32x128, .f32⟩
  | 112 => ⟨S_, .f32⟩
  | 113 => ⟨S128x4x32x32, .f32⟩
  | 114 => ⟨S128x4x32x128, .f32⟩
  | 115 => ⟨S128x4x32x128, .f32⟩
  | 116 => ⟨S128x4x1x128, .f32⟩
  | 117 => ⟨S128x4x128, .f32⟩
  | 118 => ⟨S128x4x128, .f32⟩
  | 119 => ⟨S128x4x128x1, .f32⟩
  | 120 => ⟨S128x4x128x128, .f32⟩
  | 121 => ⟨S128x4x128x128, .f32⟩
  | 122 => ⟨S128x4x32x128, .f32⟩
  | 123 => ⟨S128x4x32x128, .f32⟩
  | 124 => ⟨S128x4x32x128, .f32⟩
  | 125 => ⟨S128x4x32x128, .f32⟩
  | 126 => ⟨S128x4x128x128, .f32⟩
  | 127 => ⟨S128x4x128x128, .f32⟩
  | _ => ⟨S128x4x2048, .f32⟩

abbrev hbmTy0_1 (i : Nat) : BufTy := match i % 128 with
  | 0 => ⟨S128x32x4x128, .f32⟩
  | 1 => ⟨S128x4x4x128, .f32⟩
  | 2 => ⟨S512, .f32⟩
  | 3 => ⟨S4x128, .f32⟩
  | 4 => ⟨S128x4x4x128, .f32⟩
  | 5 => ⟨S_, .f32⟩
  | 6 => ⟨S128x4x4, .f32⟩
  | 7 => ⟨S128x4x4x1, .f32⟩
  | 8 => ⟨S_, .f32⟩
  | 9 => ⟨S128x4x4x1, .f32⟩
  | 10 => ⟨S128x4x4x1, .f32⟩
  | 11 => ⟨S_, .f32⟩
  | 12 => ⟨S128x4x4x1, .f32⟩
  | 13 => ⟨S128x4x4x1, .f32⟩
  | 14 => ⟨S128x4x4x1, .f32⟩
  | 15 => ⟨S128x4x4x128, .f32⟩
  | 16 => ⟨S128x4x4x128, .f32⟩
  | 17 => ⟨S1x1x4x128, .f32⟩
  | 18 => ⟨S128x4x4x128, .f32⟩
  | 19 => ⟨S128x4x4x128, .f32⟩
  | 20 => ⟨S128x4x4x128, .f32⟩
  | 21 => ⟨S128x4x4x128, .f32⟩
  | 22 => ⟨S128x4x4x128, .f32⟩
  | 23 => ⟨S_, .f32⟩
  | 24 => ⟨S128x4x4x128, .f32⟩
  | 25 => ⟨S128x4x4x128, .f32⟩
  | 26 => ⟨S_, .f32⟩
  | 27 => ⟨S128x4x4x128, .f32⟩
  | 28 => ⟨S128x4x4x128, .f32⟩
  | 29 => ⟨S128x4x4x128, .f32⟩
  | 30 => ⟨S128x4x4x128, .f32⟩
  | 31 => ⟨S128x4x512, .f32⟩
  | 32 => ⟨S_, .i32⟩
  | 33 => ⟨S_, .f32⟩
  | 34 => ⟨S128x8x512, .f32⟩
  | _ => ⟨S128x4x2048, .f32⟩

abbrev hbmTy (i : Nat) : BufTy := match i / 128 with
  | 0 => hbmTy0_0 i
  | 1 => hbmTy0_1 i
  | _ => ⟨S128x4x2048, .f32⟩

abbrev bufTy : (tb : Table) → Fin (tcTables nBuf tb) → BufTy
  | .hbm, ⟨i, _⟩ => hbmTy i
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c : Ref sig .tc := ⟨.hbm, 64, rfl⟩
abbrev main_call1_v0 : Ref sig .tc := ⟨.hbm, 65, rfl⟩
abbrev main_v49 : Ref sig .tc := ⟨.hbm, 66, rfl⟩
abbrev main_v50 : Ref sig .tc := ⟨.hbm, 67, rfl⟩
abbrev main_c_8 : Ref sig .tc := ⟨.hbm, 68, rfl⟩
abbrev main_call2_v0 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_call3_v0 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_call4_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call5_call0_cst : Ref sig .tc := ⟨.hbm, 81, rfl⟩
abbrev main_call5_call0_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_12 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_13 : Ref sig .tc := ⟨.hbm, 133, rfl⟩
abbrev main_v103 : Ref sig .tc := ⟨.hbm, 134, rfl⟩
abbrev main_v104 : Ref sig .tc := ⟨.hbm, 135, rfl⟩
abbrev main_cst_14 : Ref sig .tc := ⟨.hbm, 136, rfl⟩
abbrev main_v105 : Ref sig .tc := ⟨.hbm, 137, rfl⟩
abbrev main_v106 : Ref sig .tc := ⟨.hbm, 138, rfl⟩
abbrev main_cst_15 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_call7_v0 : Ref sig .tc := ⟨.hbm, 149, rfl⟩
abbrev main_call7_v1 : Ref sig .tc := ⟨.hbm, 150, rfl⟩
abbrev main_call7_cst : Ref sig .tc := ⟨.hbm, 151, rfl⟩
abbrev main_call7_v2 : Ref sig .tc := ⟨.hbm, 152, rfl⟩
abbrev main_call7_v3 : Ref sig .tc := ⟨.hbm, 153, rfl⟩
abbrev main_call7_cst_0 : Ref sig .tc := ⟨.hbm, 154, rfl⟩
abbrev main_call7_v4 : Ref sig .tc := ⟨.hbm, 155, rfl⟩
abbrev main_call7_v5 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_c_16 : Ref sig .tc := ⟨.hbm, 160, rfl⟩
abbrev main_call8_v0 : Ref sig .tc := ⟨.hbm, 161, rfl⟩
abbrev main_v119 : Ref sig .tc := ⟨.hbm, 162, rfl⟩

abbrev nD : Nat := 1
abbrev τ : Topo := Topo.v7x

variable {F : FTy → Type} [FloatOps F]
-- ==== Proj.lean ====
abbrev S8x4096x1024 : Shape := ⟨3, ![8, 4096, 1024]⟩
abbrev S1x1024 : Shape := ⟨2, ![1, 1024]⟩
abbrev S1x1024x3352 : Shape := ⟨3, ![1, 1024, 3352]⟩
abbrev S128 : Shape := ⟨1, ![128]⟩
abbrev S4096 : Shape := ⟨1, ![4096]⟩
abbrev S_ : Shape := ⟨0, ![]⟩
abbrev S256 : Shape := ⟨1, ![256]⟩
abbrev S1x256 : Shape := ⟨2, ![1, 256]⟩
abbrev S4096x1 : Shape := ⟨2, ![4096, 1]⟩
abbrev S4096x256 : Shape := ⟨2, ![4096, 256]⟩
abbrev S32768x1024 : Shape := ⟨2, ![32768, 1024]⟩
abbrev S1024 : Shape := ⟨1, ![1024]⟩
abbrev S1024x3352 : Shape := ⟨2, ![1024, 3352]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x128 : Shape := ⟨2, ![1024, 128]⟩
abbrev S1024x64 : Shape := ⟨2, ![1024, 64]⟩
abbrev S1024x256 : Shape := ⟨2, ![1024, 256]⟩
abbrev S1024x24 : Shape := ⟨2, ![1024, 24]⟩
abbrev S1024x3712 : Shape := ⟨2, ![1024, 3712]⟩
abbrev S8 : Shape := ⟨1, ![8]⟩
abbrev S1x8 : Shape := ⟨2, ![1, 8]⟩
abbrev S4096x8 : Shape := ⟨2, ![4096, 8]⟩
abbrev S128x1 : Shape := ⟨2, ![128, 1]⟩
abbrev S4096x128 : Shape := ⟨2, ![4096, 128]⟩
abbrev S32768x512 : Shape := ⟨2, ![32768, 512]⟩
abbrev S32768x128 : Shape := ⟨2, ![32768, 128]⟩
abbrev S32768x256 : Shape := ⟨2, ![32768, 256]⟩
abbrev S32768x2048 : Shape := ⟨2, ![32768, 2048]⟩
abbrev S256x1024 : Shape := ⟨2, ![256, 1024]⟩
abbrev S256x128 : Shape := ⟨2, ![256, 128]⟩
abbrev S256x256 : Shape := ⟨2, ![256, 256]⟩
abbrev S256x512 : Shape := ⟨2, ![256, 512]⟩
abbrev S256x2048 : Shape := ⟨2, ![256, 2048]⟩
abbrev S256x1 : Shape := ⟨2, ![256, 1]⟩
abbrev S1024x2048 : Shape := ⟨2, ![1024, 2048]⟩

abbrev nBuf : Space → Nat
  | .hbm => 167
  | .vmem => 40
  | .smem => 0
  | _ => 0

abbrev hbmTy0_0 (i : Nat) : BufTy := match i % 128 with
  | 0 => ⟨S8x4096x1024, .f32⟩
  | 1 => ⟨S1x1024, .f32⟩
  | 2 => ⟨S1x1024x3352, .f32⟩
  | 3 => ⟨S128, .i32⟩
  | 4 => ⟨S128, .i1⟩
  | 5 => ⟨S128, .i1⟩
  | 6 => ⟨S128, .i1⟩
  | 7 => ⟨S128, .i1⟩
  | 8 => ⟨S128, .i1⟩
  | 9 => ⟨S128, .i1⟩
  | 10 => ⟨S4096, .i32⟩
  | 11 => ⟨S_, .i32⟩
  | 12 => ⟨S_, .i32⟩
  | 13 => ⟨S4096, .i32⟩
  | 14 => ⟨S4096, .i32⟩
  | 15 => ⟨S4096, .i32⟩
  | 16 => ⟨S_, .i32⟩
  | 17 => ⟨S4096, .i32⟩
  | 18 => ⟨S4096, .i1⟩
  | 19 => ⟨S4096, .i32⟩
  | 20 => ⟨S4096, .i32⟩
  | 21 => ⟨S_, .i32⟩
  | 22 => ⟨S4096, .i32⟩
  | 23 => ⟨S4096, .i1⟩
  | 24 => ⟨S4096, .i1⟩
  | 25 => ⟨S_, .i32⟩
  | 26 => ⟨S4096, .i32⟩
  | 27 => ⟨S4096, .i32⟩
  | 28 => ⟨S4096, .i32⟩
  | 29 => ⟨S256, .i32⟩
  | 30 => ⟨S1x256, .i32⟩
  | 31 => ⟨S_, .i32⟩
  | 32 => ⟨S1x256, .i32⟩
  | 33 => ⟨S1x256, .i1⟩
  | 34 => ⟨S1x256, .i32⟩
  | 35 => ⟨S_, .i32⟩
  | 36 => ⟨S1x256, .i32⟩
  | 37 => ⟨S1x256, .i1⟩
  | 38 => ⟨S1x256, .i1⟩
  | 39 => ⟨S1x256, .i32⟩
  | 40 => ⟨S_, .i32⟩
  | 41 => ⟨S1x256, .i32⟩
  | 42 => ⟨S1x256, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S1x256, .i32⟩
  | 50 => ⟨S1x256, .i32⟩
  | 51 => ⟨S_, .i32⟩
  | 52 => ⟨S1x256, .i32⟩
  | 53 => ⟨S1x256, .i1⟩
  | 54 => ⟨S_, .i32⟩
  | 55 => ⟨S1x256, .i32⟩
  | 56 => ⟨S1x256, .i1⟩
  | 57 => ⟨S_, .i32⟩
  | 58 => ⟨S_, .i1⟩
  | 59 => ⟨S1x256, .i1⟩
  | 60 => ⟨S1x256, .i1⟩
  | 61 => ⟨S1x256, .i1⟩
  | 62 => ⟨S1x256, .i32⟩
  | 63 => ⟨S1x256, .i32⟩
  | 64 => ⟨S1x256, .i32⟩
  | 65 => ⟨S4096x1, .i32⟩
  | 66 => ⟨S4096x256, .i32⟩
  | 67 => ⟨S4096x256, .i32⟩
  | 68 => ⟨S4096x256, .i1⟩
  | 69 => ⟨S4096x256, .i1⟩
  | 70 => ⟨S4096x256, .i1⟩
  | 71 => ⟨S4096x256, .f32⟩
  | 72 => ⟨S32768x1024, .f32⟩
  | 73 => ⟨S1024, .f32⟩
  | 74 => ⟨S1x1024, .f32⟩
  | 75 => ⟨S1024x3352, .f32⟩
  | 76 => ⟨S1024x512, .f32⟩
  | 77 => ⟨S1024x2x4x64, .f32⟩
  | 78 => ⟨S1024x4x2x64, .f32⟩
  | 79 => ⟨S1024x512, .f32⟩
  | 80 => ⟨S1024x128, .f32⟩
  | 81 => ⟨S_, .f32⟩
  | 82 => ⟨S1024x64, .f32⟩
  | 83 => ⟨S1024x64, .f32⟩
  | 84 => ⟨S1024x64, .f32⟩
  | 85 => ⟨S1024x256, .f32⟩
  | 86 => ⟨S1024x24, .f32⟩
  | 87 => ⟨S_, .i32⟩
  | 88 => ⟨S_, .f32⟩
  | 89 => ⟨S1024x128, .f32⟩
  | 90 => ⟨S1024x128, .f32⟩
  | 91 => ⟨S1024x128, .f32⟩
  | 92 => ⟨S1024x128, .f32⟩
  | 93 => ⟨S1024x128, .f32⟩
  | 94 => ⟨S1024x128, .f32⟩
  | 95 => ⟨S1024x128, .f32⟩
  | 96 => ⟨S1024x512, .f32⟩
  | 97 => ⟨S1024x512, .f32⟩
  | 98 => ⟨S1024x512, .f32⟩
  | 99 => ⟨S1024x512, .f32⟩
  | 100 => ⟨S1024x3712, .f32⟩
  | 101 => ⟨S1024x3712, .bf16⟩
  | 102 => ⟨S4096, .i32⟩
  | 103 => ⟨S8, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S4096, .f32⟩
  | 112 => ⟨S4096x1, .f32⟩
  | 113 => ⟨S1x8, .f32⟩
  | 114 => ⟨S4096x8, .f32⟩
  | 115 => ⟨S4096x8, .f32⟩
  | 116 => ⟨S4096x8, .f32⟩
  | 117 => ⟨S4096x8, .f32⟩
  | 118 => ⟨S4096x8, .f32⟩
  | 119 => ⟨S_, .i32⟩
  | 120 => ⟨S128, .i32⟩
  | 121 => ⟨S128, .i32⟩
  | 122 => ⟨S128, .i32⟩
  | 123 => ⟨S128x1, .i32⟩
  | 124 => ⟨S4096x128, .f32⟩
  | 125 => ⟨S_, .f32⟩
  | 126 => ⟨S_, .f32⟩
  | 127 => ⟨S4096x128, .i1⟩
  | _ => ⟨S8x4096x1024, .f32⟩

abbrev hbmTy0_1 (i : Nat) : BufTy := match i % 128 with
  | 0 => ⟨S4096x128, .f32⟩
  | 1 => ⟨S4096x128, .f32⟩
  | 2 => ⟨S_, .i32⟩
  | 3 => ⟨S128, .i32⟩
  | 4 => ⟨S128, .i32⟩
  | 5 => ⟨S128, .i32⟩
  | 6 => ⟨S128x1, .i32⟩
  | 7 => ⟨S4096x128, .f32⟩
  | 8 => ⟨S4096x128, .f32⟩
  | 9 => ⟨S_, .f32⟩
  | 10 => ⟨S_, .f32⟩
  | 11 => ⟨S4096x128, .i1⟩
  | 12 => ⟨S4096x128, .f32⟩
  | 13 => ⟨S4096x128, .f32⟩
  | 14 => ⟨S_, .i32⟩
  | 15 => ⟨S128, .i32⟩
  | 16 => ⟨S128, .i32⟩
  | 17 => ⟨S128, .i32⟩
  | 18 => ⟨S128x1, .i32⟩
  | 19 => ⟨S4096x128, .f32⟩
  | 20 => ⟨S_, .f32⟩
  | 21 => ⟨S_, .f32⟩
  | 22 => ⟨S4096x128, .i1⟩
  | 23 => ⟨S4096x128, .f32⟩
  | 24 => ⟨S4096x128, .f32⟩
  | 25 => ⟨S32768x512, .bf16⟩
  | 26 => ⟨S32768x512, .bf16⟩
  | 27 => ⟨S32768x128, .f32⟩
  | 28 => ⟨S32768x128, .f32⟩
  | 29 => ⟨S32768x128, .f32⟩
  | 30 => ⟨S32768x128, .f32⟩
  | 31 => ⟨S32768x128, .f32⟩
  | 32 => ⟨S32768x128, .f32⟩
  | 33 => ⟨S32768x256, .bf16⟩
  | 34 => ⟨S32768x128, .bf16⟩
  | 35 => ⟨S32768x128, .bf16⟩
  | 36 => ⟨S32768x128, .bf16⟩
  | 37 => ⟨S32768x2048, .f32⟩
  | 38 => ⟨S32768x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3712, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x256, .f32⟩
  | .local _ .vmem, ⟨11, _⟩ => ⟨S256x256, .f32⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x256, .bf16⟩
  | .local _ .vmem, ⟨29, _⟩ => ⟨S256x256, .bf16⟩
  | .local _ .vmem, ⟨30, _⟩ => ⟨S256x128, .bf16⟩
  | .local _ .vmem, ⟨31, _⟩ => ⟨S256x128, .bf16⟩
  | .local _ .vmem, ⟨32, _⟩ => ⟨S256x128, .bf16⟩
  | .local _ .vmem, ⟨33, _⟩ => ⟨S256x128, .bf16⟩
  | .local _ .vmem, ⟨34, _⟩ => ⟨S256x128, .bf16⟩
  | .local _ .vmem, ⟨35, _⟩ => ⟨S256x128, .bf16⟩
  | .local _ .vmem, ⟨36, _⟩ => ⟨S256x2048, .f32⟩
  | .local _ .vmem, ⟨37, _⟩ => ⟨S256x2048, .f32⟩
  | .local _ .vmem, ⟨38, _⟩ => ⟨S256x128, .f32⟩
  | .local _ .vmem, ⟨39, _⟩ => ⟨S256x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_v0 : Ref sig .tc := ⟨.hbm, 10, rfl⟩
abbrev main_c_6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c_7 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_8 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_9 : Ref sig .tc := ⟨.hbm, 40, rfl⟩
abbrev main_v11 : Ref sig .tc := ⟨.hbm, 41, rfl⟩
abbrev main_v12 : Ref sig .tc := ⟨.hbm, 42, rfl⟩
abbrev main_c_10 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_c_11 : Ref sig .tc := ⟨.hbm, 87, rfl⟩
abbrev main_call2_v0 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_12 : Ref sig .tc := ⟨.hbm, 105, rfl⟩
abbrev main_v51 : Ref sig .tc := ⟨.hbm, 106, rfl⟩
abbrev main_v52 : Ref sig .tc := ⟨.hbm, 107, rfl⟩
abbrev main_cst_13 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_c_14 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_15 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_v68 : Ref sig .tc := ⟨.hbm, 129, rfl⟩
abbrev main_c_16 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_cst_17 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_v75 : Ref sig .tc := ⟨.hbm, 141, rfl⟩
abbrev main_c_18 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_cst_19 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_v81 : Ref sig .tc := ⟨.hbm, 152, rfl⟩
abbrev main_v82_0 : Ref sig .tc := ⟨.hbm, 153, rfl⟩
abbrev main_v82_1 : Ref sig .tc := ⟨.hbm, 154, rfl⟩
abbrev main_v82_2 : Ref sig .tc := ⟨.hbm, 155, rfl⟩
abbrev main_v82_3 : Ref sig .tc := ⟨.hbm, 156, rfl⟩
abbrev main_v82_4 : Ref sig .tc := ⟨.hbm, 157, rfl⟩
abbrev main_v82_5 : Ref sig .tc := ⟨.hbm, 158, rfl⟩
abbrev main_v82_6 : Ref sig .tc := ⟨.hbm, 159, rfl⟩
abbrev main_v82_7 : Ref sig .tc := ⟨.hbm, 160, rfl⟩
abbrev main_v82_8 : Ref sig .tc := ⟨.hbm, 161, rfl⟩
abbrev main_v82_9 : Ref sig .tc := ⟨.hbm, 162, rfl⟩
abbrev main_v82_10 : Ref sig .tc := ⟨.hbm, 163, rfl⟩
abbrev main_v82_11 : Ref sig .tc := ⟨.hbm, 164, rfl⟩
abbrev main_v82_12 : Ref sig .tc := ⟨.hbm, 165, rfl⟩
abbrev main_v82_13 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ProjRefIdeal.lean ====
abbrev S8x4096x1024 : Shape := ⟨3, ![8, 4096, 1024]⟩
abbrev S1x1024 : Shape := ⟨2, ![1, 1024]⟩
abbrev S1x1024x3352 : Shape := ⟨3, ![1, 1024, 3352]⟩
abbrev S4096 : Shape := ⟨1, ![4096]⟩
abbrev S4096x1 : Shape := ⟨2, ![4096, 1]⟩
abbrev S_ : Shape := ⟨0, ![]⟩
abbrev S64 : Shape := ⟨1, ![64]⟩
abbrev S1x64 : Shape := ⟨2, ![1, 64]⟩
abbrev S4096x64 : Shape := ⟨2, ![4096, 64]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1024x3352 : Shape := ⟨2, ![1024, 3352]⟩
abbrev S8x4096x3352 : Shape := ⟨3, ![8, 4096, 3352]⟩
abbrev S8x4096x512 : Shape := ⟨3, ![8, 4096, 512]⟩
abbrev S8x4096x24 : Shape := ⟨3, ![8, 4096, 24]⟩
abbrev S8x4096x128 : Shape := ⟨3, ![8, 4096, 128]⟩
abbrev S8x4096x2x64 : Shape := ⟨4, ![8, 4096, 2, 64]⟩
abbrev S8 : Shape := ⟨1, ![8]⟩
abbrev S1x8 : Shape := ⟨2, ![1, 8]⟩
abbrev S4096x8 : Shape := ⟨2, ![4096, 8]⟩
abbrev S4096x1x8 : Shape := ⟨3, ![4096, 1, 8]⟩
abbrev S8x4096x2x8 : Shape := ⟨4, ![8, 4096, 2, 8]⟩
abbrev S1x4096x1x8 : Shape := ⟨4, ![1, 4096, 1, 8]⟩
abbrev S8x4096x2x48 : Shape := ⟨4, ![8, 4096, 2, 48]⟩
abbrev S8x4096x8x64 : Shape := ⟨4, ![8, 4096, 8, 64]⟩
abbrev S8x4096x8x8 : Shape := ⟨4, ![8, 4096, 8, 8]⟩
abbrev S8x4096x8x48 : Shape := ⟨4, ![8, 4096, 8, 48]⟩
abbrev S1x4096x64 : Shape := ⟨3, ![1, 4096, 64]⟩
abbrev S8x4096x64 : Shape := ⟨3, ![8, 4096, 64]⟩
abbrev S8x4096x1x64 : Shape := ⟨4, ![8, 4096, 1, 64]⟩
abbrev S8x4096x256 : Shape := ⟨3, ![8, 4096, 256]⟩
abbrev S8x4096x2048 : Shape := ⟨3, ![8, 4096, 2048]⟩
abbrev S8x4096x2x4x64 : Shape := ⟨5, ![8, 4096, 2, 4, 64]⟩
abbrev S8x4096x4x2x64 : Shape := ⟨5, ![8, 4096, 4, 2, 64]⟩
abbrev S32768x512 : Shape := ⟨2, ![32768, 512]⟩
abbrev S32768x128 : Shape := ⟨2, ![32768, 128]⟩
abbrev S32768x256 : Shape := ⟨2, ![32768, 256]⟩
abbrev S32768x2048 : Shape := ⟨2, ![32768, 2048]⟩

abbrev nBuf : Space → Nat
  | .hbm => 212
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x3352, .f32⟩
  | 3 => ⟨S4096, .i32⟩
  | 4 => ⟨S4096x1, .i32⟩
  | 5 => ⟨S_, .i32⟩
  | 6 => ⟨S_, .i32⟩
  | 7 => ⟨S4096x1, .i32⟩
  | 8 => ⟨S4096x1, .i32⟩
  | 9 => ⟨S4096x1, .i32⟩
  | 10 => ⟨S_, .i32⟩
  | 11 => ⟨S4096x1, .i32⟩
  | 12 => ⟨S4096x1, .i1⟩
  | 13 => ⟨S4096x1, .i32⟩
  | 14 => ⟨S4096x1, .i32⟩
  | 15 => ⟨S_, .i32⟩
  | 16 => ⟨S4096x1, .i32⟩
  | 17 => ⟨S4096x1, .i1⟩
  | 18 => ⟨S4096x1, .i1⟩
  | 19 => ⟨S_, .i32⟩
  | 20 => ⟨S4096x1, .i32⟩
  | 21 => ⟨S4096x1, .i32⟩
  | 22 => ⟨S4096x1, .i32⟩
  | 23 => ⟨S64, .i32⟩
  | 24 => ⟨S1x64, .i32⟩
  | 25 => ⟨S4096x64, .i32⟩
  | 26 => ⟨S4096x64, .i32⟩
  | 27 => ⟨S4096x64, .i1⟩
  | 28 => ⟨S4096x64, .f32⟩
  | 29 => ⟨S1024, .f32⟩
  | 30 => ⟨S8x4096x1024, .f32⟩
  | 31 => ⟨S_, .f32⟩
  | 32 => ⟨S8x4096, .f32⟩
  | 33 => ⟨S8x4096x1, .f32⟩
  | 34 => ⟨S_, .f32⟩
  | 35 => ⟨S8x4096x1, .f32⟩
  | 36 => ⟨S8x4096x1, .f32⟩
  | 37 => ⟨S_, .f32⟩
  | 38 => ⟨S8x4096x1, .f32⟩
  | 39 => ⟨S8x4096x1, .f32⟩
  | 40 => ⟨S8x4096x1, .f32⟩
  | 41 => ⟨S8x4096x1024, .f32⟩
  | 42 => ⟨S8x4096x1024, .f32⟩
  | 43 => ⟨S1x1x1024, .f32⟩
  | 44 => ⟨S8x4096x1024, .f32⟩
  | 45 => ⟨S8x4096x1024, .f32⟩
  | 46 => ⟨S1024x3352, .f32⟩
  | 47 => ⟨S8x4096x3352, .f32⟩
  | 48 => ⟨S8x4096x512, .f32⟩
  | 49 => ⟨S8x4096x24, .f32⟩
  | 50 => ⟨S8x4096x128, .f32⟩
  | 51 => ⟨S8x4096x128, .f32⟩
  | 52 => ⟨S8x4096x128, .f32⟩
  | 53 => ⟨S8x4096x128, .f32⟩
  | 54 => ⟨S8x4096x128, .f32⟩
  | 55 => ⟨S8x4096x128, .f32⟩
  | 56 => ⟨S8x4096x512, .f32⟩
  | 57 => ⟨S8x4096x512, .f32⟩
  | 58 => ⟨S8x4096x512, .f32⟩
  | 59 => ⟨S8x4096x512, .f32⟩
  | 60 => ⟨S8x4096x2x64, .f32⟩
  | 61 => ⟨S8, .f32⟩
  | 62 => ⟨S8, .f32⟩
  | 63 => ⟨S_, .f32⟩
  | 64 => ⟨S8, .f32⟩
  | 65 => ⟨S8, .f32⟩
  | 66 => ⟨S_, .f32⟩
  | 67 => ⟨S8, .f32⟩
  | 68 => ⟨S8, .f32⟩
  | 69 => ⟨S4096, .f32⟩
  | 70 => ⟨S4096x1, .f32⟩
  | 71 => ⟨S1x8, .f32⟩
  | 72 => ⟨S4096x8, .f32⟩
  | 73 => ⟨S4096x8, .f32⟩
  | 74 => ⟨S4096x8, .f32⟩
  | 75 => ⟨S4096x8, .f32⟩
  | 76 => ⟨S4096x1x8, .f32⟩
  | 77 => ⟨S4096x8, .f32⟩
  | 78 => ⟨S4096x1x8, .f32⟩
  | 79 => ⟨S8x4096x2x8, .f32⟩
  | 80 => ⟨S8x4096x2x8, .f32⟩
  | 81 => ⟨S1x4096x1x8, .f32⟩
  | 82 => ⟨S8x4096x2x8, .f32⟩
  | 83 => ⟨S8x4096x2x8, .f32⟩
  | 84 => ⟨S1x4096x1x8, .f32⟩
  | 85 => ⟨S8x4096x2x8, .f32⟩
  | 86 => ⟨S8x4096x2x8, .f32⟩
  | 87 => ⟨S8x4096x2x8, .f32⟩
  | 88 => ⟨S1x4096x1x8, .f32⟩
  | 89 => ⟨S8x4096x2x8, .f32⟩
  | 90 => ⟨S8x4096x2x8, .f32⟩
  | 91 => ⟨S1x4096x1x8, .f32⟩
  | 92 => ⟨S8x4096x2x8, .f32⟩
  | 93 => ⟨S8x4096x2x8, .f32⟩
  | 94 => ⟨S8x4096x2x8, .f32⟩
  | 95 => ⟨S8x4096x2x48, .f32⟩
  | 96 => ⟨S8x4096x2x64, .f32⟩
  | 97 => ⟨S8x4096x2x64, .f32⟩
  | 98 => ⟨S8, .f32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S4096, .f32⟩
  | 107 => ⟨S4096x1, .f32⟩
  | 108 => ⟨S1x8, .f32⟩
  | 109 => ⟨S4096x8, .f32⟩
  | 110 => ⟨S4096x8, .f32⟩
  | 111 => ⟨S4096x8, .f32⟩
  | 112 => ⟨S4096x8, .f32⟩
  | 113 => ⟨S4096x1x8, .f32⟩
  | 114 => ⟨S4096x8, .f32⟩
  | 115 => ⟨S4096x1x8, .f32⟩
  | 116 => ⟨S8x4096x2x8, .f32⟩
  | 117 => ⟨S8x4096x2x8, .f32⟩
  | 118 => ⟨S1x4096x1x8, .f32⟩
  | 119 => ⟨S8x4096x2x8, .f32⟩
  | 120 => ⟨S8x4096x2x8, .f32⟩
  | 121 => ⟨S1x4096x1x8, .f32⟩
  | 122 => ⟨S8x4096x2x8, .f32⟩
  | 123 => ⟨S8x4096x2x8, .f32⟩
  | 124 => ⟨S8x4096x2x8, .f32⟩
  | 125 => ⟨S1x4096x1x8, .f32⟩
  | 126 => ⟨S8x4096x2x8, .f32⟩
  | 127 => ⟨S8x4096x2x8, .f32⟩
  | _ => ⟨S8x4096x1024, .f32⟩

abbrev hbmTy0_1 (i : Nat) : BufTy := match i % 128 with
  | 0 => ⟨S1x4096x1x8, .f32⟩
  | 1 => ⟨S8x4096x2x8, .f32⟩
  | 2 => ⟨S8x4096x2x8, .f32⟩
  | 3 => ⟨S8x4096x2x8, .f32⟩
  | 4 => ⟨S8x4096x2x48, .f32⟩
  | 5 => ⟨S8x4096x2x64, .f32⟩
  | 6 => ⟨S8x4096x8x64, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S4096, .f32⟩
  | 16 => ⟨S4096x1, .f32⟩
  | 17 => ⟨S1x8, .f32⟩
  | 18 => ⟨S4096x8, .f32⟩
  | 19 => ⟨S4096x8, .f32⟩
  | 20 => ⟨S4096x8, .f32⟩
  | 21 => ⟨S4096x8, .f32⟩
  | 22 => ⟨S4096x1x8, .f32⟩
  | 23 => ⟨S4096x8, .f32⟩
  | 24 => ⟨S4096x1x8, .f32⟩
  | 25 => ⟨S8x4096x8x8, .f32⟩
  | 26 => ⟨S8x4096x8x8, .f32⟩
  | 27 => ⟨S1x4096x1x8, .f32⟩
  | 28 => ⟨S8x4096x8x8, .f32⟩
  | 29 => ⟨S8x4096x8x8, .f32⟩
  | 30 => ⟨S1x4096x1x8, .f32⟩
  | 31 => ⟨S8x4096x8x8, .f32⟩
  | 32 => ⟨S8x4096x8x8, .f32⟩
  | 33 => ⟨S8x4096x8x8, .f32⟩
  | 34 => ⟨S1x4096x1x8, .f32⟩
  | 35 => ⟨S8x4096x8x8, .f32⟩
  | 36 => ⟨S8x4096x8x8, .f32⟩
  | 37 => ⟨S1x4096x1x8, .f32⟩
  | 38 => ⟨S8x4096x8x8, .f32⟩
  | 39 => ⟨S8x4096x8x8, .f32⟩
  | 40 => ⟨S8x4096x8x8, .f32⟩
  | 41 => ⟨S8x4096x8x48, .f32⟩
  | 42 => ⟨S8x4096x8x64, .f32⟩
  | 43 => ⟨S1x4096x64, .f32⟩
  | 44 => ⟨S8x4096x64, .f32⟩
  | 45 => ⟨S8x4096x1x64, .f32⟩
  | 46 => ⟨S8x4096x64, .f32⟩
  | 47 => ⟨S8x4096x1x64, .f32⟩
  | 48 => ⟨S8x4096x64, .f32⟩
  | 49 => ⟨S8x4096x256, .f32⟩
  | 50 => ⟨S8x4096x2048, .f32⟩
  | 51 => ⟨S_, .i32⟩
  | 52 => ⟨S_, .f32⟩
  | 53 => ⟨S8x4096x128, .f32⟩
  | 54 => ⟨S_, .f32⟩
  | 55 => ⟨S8x4096x8x64, .f32⟩
  | 56 => ⟨S8x4096x8x64, .f32⟩
  | 57 => ⟨S8x4096x2x4x64, .f32⟩
  | 58 => ⟨S8x4096x4x2x64, .f32⟩
  | 59 => ⟨S32768x512, .f32⟩
  | 60 => ⟨S32768x512, .bf16⟩
  | 61 => ⟨S_, .f32⟩
  | 62 => ⟨S8x4096x8x64, .f32⟩
  | 63 => ⟨S8x4096x8x64, .f32⟩
  | 64 => ⟨S8x4096x2x4x64, .f32⟩
  | 65 => ⟨S8x4096x4x2x64, .f32⟩
  | 66 => ⟨S32768x512, .f32⟩
  | 67 => ⟨S32768x512, .bf16⟩
  | 68 => ⟨S32768x128, .f32⟩
  | 69 => ⟨S32768x128, .f32⟩
  | 70 => ⟨S32768x128, .f32⟩
  | 71 => ⟨S32768x128, .f32⟩
  | 72 => ⟨S32768x128, .f32⟩
  | 73 => ⟨S32768x128, .f32⟩
  | 74 => ⟨S32768x256, .f32⟩
  | 75 => ⟨S32768x256, .bf16⟩
  | 76 => ⟨S32768x128, .f32⟩
  | 77 => ⟨S32768x128, .bf16⟩
  | 78 => ⟨S32768x128, .f32⟩
  | 79 => ⟨S32768x128, .bf16⟩
  | 80 => ⟨S32768x128, .f32⟩
  | 81 => ⟨S32768x128, .bf16⟩
  | 82 => ⟨S32768x2048, .f32⟩
  | 83 => ⟨S32768x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_4 : Ref sig .tc := ⟨.hbm, 100, rfl⟩
abbrev main_v75 : Ref sig .tc := ⟨.hbm, 101, rfl⟩
abbrev main_v76 : Ref sig .tc := ⟨.hbm, 102, rfl⟩
abbrev main_cst_5 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_6 : Ref sig .tc := ⟨.hbm, 137, rfl⟩
abbrev main_v110 : Ref sig .tc := ⟨.hbm, 138, rfl⟩
abbrev main_v111 : Ref sig .tc := ⟨.hbm, 139, rfl⟩
abbrev main_cst_7 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_c_8 : Ref sig .tc := ⟨.hbm, 179, rfl⟩
abbrev main_call1_v0 : Ref sig .tc := ⟨.hbm, 180, rfl⟩
abbrev main_v150 : Ref sig .tc := ⟨.hbm, 181, rfl⟩
abbrev main_cst_9 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_10 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩

abbrev nD : Nat := 1
abbrev τ : Topo := Topo.v7x

variable {F : FTy → Type} [FloatOps F]
-- ==== ProjS.lean ====
abbrev S128x4x1024 : Shape := ⟨3, ![128, 4, 1024]⟩
abbrev S1x1024 : Shape := ⟨2, ![1, 1024]⟩
abbrev S1x1024x3352 : Shape := ⟨3, ![1, 1024, 3352]⟩
abbrev S128 : Shape := ⟨1, ![128]⟩
abbrev S512x1024 : Shape := ⟨2, ![512, 1024]⟩
abbrev S1024 : Shape := ⟨1, ![1024]⟩
abbrev S1024x3352 : Shape := ⟨2, ![1024, 3352]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x128 : Shape := ⟨2, ![1024, 128]⟩
abbrev S_ : Shape := ⟨0, ![]⟩
abbrev S1024x64 : Shape := ⟨2, ![1024, 64]⟩
abbrev S1024x256 : Shape := ⟨2, ![1024, 256]⟩
abbrev S1024x24 : Shape := ⟨2, ![1024, 24]⟩
abbrev S1024x3712 : Shape := ⟨2, ![1024, 3712]⟩
abbrev S512 : Shape := ⟨1, ![512]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S128x1 : Shape := ⟨2, ![128, 1]⟩
abbrev S512x128 : Shape := ⟨2, ![512, 128]⟩
abbrev S512x256 : Shape := ⟨2, ![512, 256]⟩
abbrev S512x512 : Shape := ⟨2, ![512, 512]⟩
abbrev S512x2048 : Shape := ⟨2, ![512, 2048]⟩
abbrev S1024x2048 : Shape := ⟨2, ![1024, 2048]⟩

abbrev nBuf : Space → Nat
  | .hbm => 132
  | .vmem => 21
  | .smem => 0
  | _ => 0

abbrev hbmTy0_0 (i : Nat) : BufTy := match i % 128 with
  | 0 => ⟨S128x4x1024, .f32⟩
  | 1 => ⟨S1x1024, .f32⟩
  | 2 => ⟨S1x1024x3352, .f32⟩
  | 3 => ⟨S128, .i32⟩
  | 4 => ⟨S128, .i1⟩
  | 5 => ⟨S128, .i1⟩
  | 6 => ⟨S128, .i1⟩
  | 7 => ⟨S128, .i1⟩
  | 8 => ⟨S128, .i1⟩
  | 9 => ⟨S128, .i1⟩
  | 10 => ⟨S512x1024, .f32⟩
  | 11 => ⟨S1024, .f32⟩
  | 12 => ⟨S1x1024, .f32⟩
  | 13 => ⟨S1024x3352, .f32⟩
  | 14 => ⟨S1024x512, .f32⟩
  | 15 => ⟨S1024x2x4x64, .f32⟩
  | 16 => ⟨S1024x4x2x64, .f32⟩
  | 17 => ⟨S1024x512, .f32⟩
  | 18 => ⟨S1024x128, .f32⟩
  | 19 => ⟨S_, .f32⟩
  | 20 => ⟨S1024x64, .f32⟩
  | 21 => ⟨S1024x64, .f32⟩
  | 22 => ⟨S1024x64, .f32⟩
  | 23 => ⟨S1024x256, .f32⟩
  | 24 => ⟨S1024x24, .f32⟩
  | 25 => ⟨S_, .i32⟩
  | 26 => ⟨S_, .f32⟩
  | 27 => ⟨S1024x128, .f32⟩
  | 28 => ⟨S1024x128, .f32⟩
  | 29 => ⟨S1024x128, .f32⟩
  | 30 => ⟨S1024x128, .f32⟩
  | 31 => ⟨S1024x128, .f32⟩
  | 32 => ⟨S1024x128, .f32⟩
  | 33 => ⟨S1024x128, .f32⟩
  | 34 => ⟨S1024x512, .f32⟩
  | 35 => ⟨S1024x512, .f32⟩
  | 36 => ⟨S1024x512, .f32⟩
  | 37 => ⟨S1024x512, .f32⟩
  | 38 => ⟨S1024x3712, .f32⟩
  | 39 => ⟨S1024x3712, .bf16⟩
  | 40 => ⟨S512, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S512, .i32⟩
  | 48 => ⟨S512, .i32⟩
  | 49 => ⟨S_, .i32⟩
  | 50 => ⟨S512, .i32⟩
  | 51 => ⟨S512, .i1⟩
  | 52 => ⟨S_, .i32⟩
  | 53 => ⟨S512, .i32⟩
  | 54 => ⟨S512, .i1⟩
  | 55 => ⟨S_, .i32⟩
  | 56 => ⟨S_, .i1⟩
  | 57 => ⟨S512, .i1⟩
  | 58 => ⟨S512, .i1⟩
  | 59 => ⟨S512, .i1⟩
  | 60 => ⟨S512, .i32⟩
  | 61 => ⟨S512, .i32⟩
  | 62 => ⟨S512, .i32⟩
  | 63 => ⟨S_, .i32⟩
  | 64 => ⟨S512, .i32⟩
  | 65 => ⟨S512, .i32⟩
  | 66 => ⟨S8, .f32⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S512, .f32⟩
  | 75 => ⟨S512x1, .f32⟩
  | 76 => ⟨S1x8, .f32⟩
  | 77 => ⟨S512x8, .f32⟩
  | 78 => ⟨S512x8, .f32⟩
  | 79 => ⟨S512x8, .f32⟩
  | 80 => ⟨S512x8, .f32⟩
  | 81 => ⟨S512x8, .f32⟩
  | 82 => ⟨S_, .i32⟩
  | 83 => ⟨S128, .i32⟩
  | 84 => ⟨S128, .i32⟩
  | 85 => ⟨S128, .i32⟩
  | 86 => ⟨S128x1, .i32⟩
  | 87 => ⟨S512x128, .f32⟩
  | 88 => ⟨S_, .f32⟩
  | 89 => ⟨S_, .f32⟩
  | 90 => ⟨S512x128, .i1⟩
  | 91 => ⟨S512x128, .f32⟩
  | 92 => ⟨S512x128, .f32⟩
  | 93 => ⟨S_, .i32⟩
  | 94 => ⟨S128, .i32⟩
  | 95 => ⟨S128, .i32⟩
  | 96 => ⟨S128, .i32⟩
  | 97 => ⟨S128x1, .i32⟩
  | 98 => ⟨S512x128, .f32⟩
  | 99 => ⟨S512x128, .f32⟩
  | 100 => ⟨S_, .f32⟩
  | 101 => ⟨S_, .f32⟩
  | 102 => ⟨S512x128, .i1⟩
  | 103 => ⟨S512x128, .f32⟩
  | 104 => ⟨S512x128, .f32⟩
  | 105 => ⟨S_, .i32⟩
  | 106 => ⟨S128, .i32⟩
  | 107 => ⟨S128, .i32⟩
  | 108 => ⟨S128, .i32⟩
  | 109 => ⟨S128x1, .i32⟩
  | 110 => ⟨S512x128, .f32⟩
  | 111 => ⟨S_, .f32⟩
  | 112 => ⟨S_, .f32⟩
  | 113 => ⟨S512x128, .i1⟩
  | 114 => ⟨S512x128, .f32⟩
  | 115 => ⟨S512x128, .f32⟩
  | 116 => ⟨S_, .f32⟩
  | 117 => ⟨S512x256, .f32⟩
  | 118 => ⟨S512x512, .bf16⟩
  | 119 => ⟨S512x512, .bf16⟩
  | 120 => ⟨S512x128, .f32⟩
  | 121 => ⟨S512x128, .f32⟩
  | 122 => ⟨S512x128, .f32⟩
  | 123 => ⟨S512x128, .f32⟩
  | 124 => ⟨S512x128, .f32⟩
  | 125 => ⟨S512x128, .f32⟩
  | 126 => ⟨S512x256, .bf16⟩
  | 127 => ⟨S512x128, .bf16⟩
  | _ => ⟨S128x4x1024, .f32⟩

abbrev hbmTy0_1 (i : Nat) : BufTy := match i % 128 with
  | 0 => ⟨S512x128, .bf16⟩
  | 1 => ⟨S512x128, .bf16⟩
  | 2 => ⟨S512x2048, .f32⟩
  | 3 => ⟨S512x128, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S1x1024, .f32⟩
  | .local _ .vmem, ⟨2, _⟩ => ⟨S1024x3712, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x256, .f32⟩
  | .local _ .vmem, ⟨7, _⟩ => ⟨S512x512, .bf16⟩
  | .local _ .vmem, ⟨8, _⟩ => ⟨S512x512, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x2048, .f32⟩
  | .local _ .vmem, ⟨20, _⟩ => ⟨S512x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v28 : Ref sig .tc := ⟨.hbm, 62, rfl⟩
abbrev main_c_8 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_9 : Ref sig .tc := ⟨.hbm, 68, rfl⟩
abbrev main_v33 : Ref sig .tc := ⟨.hbm, 69, rfl⟩
abbrev main_v34 : Ref sig .tc := ⟨.hbm, 70, rfl⟩
abbrev main_cst_10 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_11 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v50 : Ref sig .tc := ⟨.hbm, 92, rfl⟩
abbrev main_c_13 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_14 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v57 : Ref sig .tc := ⟨.hbm, 104, rfl⟩
abbrev main_c_15 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_16 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v63 : Ref sig .tc := ⟨.hbm, 115, rfl⟩
abbrev main_cst_17 : Ref sig .tc := ⟨.hbm, 116, rfl⟩
abbrev main_v64 : Ref sig .tc := ⟨.hbm, 117, rfl⟩
abbrev main_v65_0 : Ref sig .tc := ⟨.hbm, 118, rfl⟩
abbrev main_v65_1 : Ref sig .tc := ⟨.hbm, 119, rfl⟩
abbrev main_v65_2 : Ref sig .tc := ⟨.hbm, 120, rfl⟩
abbrev main_v65_3 : Ref sig .tc := ⟨.hbm, 121, rfl⟩
abbrev main_v65_4 : Ref sig .tc := ⟨.hbm, 122, rfl⟩
abbrev main_v65_5 : Ref sig .tc := ⟨.hbm, 123, rfl⟩
abbrev main_v65_6 : Ref sig .tc := ⟨.hbm, 124, rfl⟩
abbrev main_v65_7 : Ref sig .tc := ⟨.hbm, 125, rfl⟩
abbrev main_v65_8 : Ref sig .tc := ⟨.hbm, 126, rfl⟩
abbrev main_v65_9 : Ref sig .tc := ⟨.hbm, 127, rfl⟩
abbrev main_v65_10 : Ref sig .tc := ⟨.hbm, 128, rfl⟩
abbrev main_v65_11 : Ref sig .tc := ⟨.hbm, 129, rfl⟩
abbrev main_v65_12 : Ref sig .tc := ⟨.hbm, 130, rfl⟩
abbrev main_v65_13 : Ref sig .tc := ⟨.hbm, 131, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S512x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S512x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S512x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S512x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]
-- ==== ProjSRefIdeal.lean ====
abbrev S128x4x1024 : Shape := ⟨3, ![128, 4, 1024]⟩
abbrev S1x1024 : Shape := ⟨2, ![1, 1024]⟩
abbrev S1x1024x3352 : Shape := ⟨3, ![1, 1024, 3352]⟩
abbrev S4 : Shape := ⟨1, ![4]⟩
abbrev S_ : Shape := ⟨0, ![]⟩
abbrev S4x64 : Shape := ⟨2, ![4, 64]⟩
abbrev S1024 : Shape := ⟨1, ![1024]⟩
abbrev S128x4 : Shape := ⟨2, ![128, 4]⟩
abbrev S128x4x1 : Shape := ⟨3, ![128, 4, 1]⟩
abbrev S1x1x1024 : Shape := ⟨3, ![1, 1, 1024]⟩
abbrev S1024x3352 : Shape := ⟨2, ![1024, 3352]⟩
abbrev S128x4x3352 : Shape := ⟨3, ![128, 4, 3352]⟩
abbrev S128x4x512 : Shape := ⟨3, ![128, 4, 512]⟩
abbrev S128x4x24 : Shape := ⟨3, ![128, 4, 24]⟩
abbrev S128x4x128 : Shape := ⟨3, ![128, 4, 128]⟩
abbrev S128x4x2x64 : Shape := ⟨4, ![128, 4, 2, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x8 : Shape := ⟨3, ![4, 1, 8]⟩
abbrev S128x4x2x8 : Shape := ⟨4, ![128, 4, 2, 8]⟩
abbrev S1x4x1x8 : Shape := ⟨4, ![1, 4, 1, 8]⟩
abbrev S128x4x2x48 : Shape := ⟨4, ![128, 4, 2, 48]⟩
abbrev S128x4x8x64 : Shape := ⟨4, ![128, 4, 8, 64]⟩
abbrev S128x4x8x8 : Shape := ⟨4, ![128, 4, 8, 8]⟩
abbrev S128x4x8x48 : Shape := ⟨4, ![128, 4, 8, 48]⟩
abbrev S1x4x64 : Shape := ⟨3, ![1, 4, 64]⟩
abbrev S128x4x64 : Shape := ⟨3, ![128, 4, 64]⟩
abbrev S128x4x1x64 : Shape := ⟨4, ![128, 4, 1, 64]⟩
abbrev S128x4x256 : Shape := ⟨3, ![128, 4, 256]⟩
abbrev S128x4x2048 : Shape := ⟨3, ![128, 4, 2048]⟩
abbrev S128x4x2x4x64 : Shape := ⟨5, ![128, 4, 2, 4, 64]⟩
abbrev S128x4x4x2x64 : Shape := ⟨5, ![128, 4, 4, 2, 64]⟩
abbrev S512x512 : Shape := ⟨2, ![512, 512]⟩
abbrev S512x128 : Shape := ⟨2, ![512, 128]⟩
abbrev S512x256 : Shape := ⟨2, ![512, 256]⟩
abbrev S512x2048 : Shape := ⟨2, ![512, 2048]⟩

abbrev nBuf : Space → Nat
  | .hbm => 192
  | .vmem => 0
  | .smem => 0
  | _ => 0

abbrev hbmTy0_0 (i : Nat) : BufTy := match i % 128 with
  | 0 => ⟨S128x4x1024, .f32⟩
  | 1 => ⟨S1x1024, .f32⟩
  | 2 => ⟨S1x1024x3352, .f32⟩
  | 3 => ⟨S4, .i32⟩
  | 4 => ⟨S_, .i32⟩
  | 5 => ⟨S4, .i32⟩
  | 6 => ⟨S4, .i32⟩
  | 7 => ⟨S_, .f32⟩
  | 8 => ⟨S4x64, .f32⟩
  | 9 => ⟨S1024, .f32⟩
  | 10 => ⟨S128x4x1024, .f32⟩
  | 11 => ⟨S_, .f32⟩
  | 12 => ⟨S128x4, .f32⟩
  | 13 => ⟨S128x4x1, .f32⟩
  | 14 => ⟨S_, .f32⟩
  | 15 => ⟨S128x4x1, .f32⟩
  | 16 => ⟨S128x4x1, .f32⟩
  | 17 => ⟨S_, .f32⟩
  | 18 => ⟨S128x4x1, .f32⟩
  | 19 => ⟨S128x4x1, .f32⟩
  | 20 => ⟨S128x4x1, .f32⟩
  | 21 => ⟨S128x4x1024, .f32⟩
  | 22 => ⟨S128x4x1024, .f32⟩
  | 23 => ⟨S1x1x1024, .f32⟩
  | 24 => ⟨S128x4x1024, .f32⟩
  | 25 => ⟨S128x4x1024, .f32⟩
  | 26 => ⟨S1024x3352, .f32⟩
  | 27 => ⟨S128x4x3352, .f32⟩
  | 28 => ⟨S128x4x512, .f32⟩
  | 29 => ⟨S128x4x24, .f32⟩
  | 30 => ⟨S128x4x128, .f32⟩
  | 31 => ⟨S128x4x128, .f32⟩
  | 32 => ⟨S128x4x128, .f32⟩
  | 33 => ⟨S128x4x128, .f32⟩
  | 34 => ⟨S128x4x128, .f32⟩
  | 35 => ⟨S128x4x128, .f32⟩
  | 36 => ⟨S128x4x512, .f32⟩
  | 37 => ⟨S128x4x512, .f32⟩
  | 38 => ⟨S128x4x512, .f32⟩
  | 39 => ⟨S128x4x512, .f32⟩
  | 40 => ⟨S128x4x2x64, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S4, .f32⟩
  | 50 => ⟨S4x1, .f32⟩
  | 51 => ⟨S1x8, .f32⟩
  | 52 => ⟨S4x8, .f32⟩
  | 53 => ⟨S4x8, .f32⟩
  | 54 => ⟨S4x8, .f32⟩
  | 55 => ⟨S4x8, .f32⟩
  | 56 => ⟨S4x1x8, .f32⟩
  | 57 => ⟨S4x8, .f32⟩
  | 58 => ⟨S4x1x8, .f32⟩
  | 59 => ⟨S128x4x2x8, .f32⟩
  | 60 => ⟨S128x4x2x8, .f32⟩
  | 61 => ⟨S1x4x1x8, .f32⟩
  | 62 => ⟨S128x4x2x8, .f32⟩
  | 63 => ⟨S128x4x2x8, .f32⟩
  | 64 => ⟨S1x4x1x8, .f32⟩
  | 65 => ⟨S128x4x2x8, .f32⟩
  | 66 => ⟨S128x4x2x8, .f32⟩
  | 67 => ⟨S128x4x2x8, .f32⟩
  | 68 => ⟨S1x4x1x8, .f32⟩
  | 69 => ⟨S128x4x2x8, .f32⟩
  | 70 => ⟨S128x4x2x8, .f32⟩
  | 71 => ⟨S1x4x1x8, .f32⟩
  | 72 => ⟨S128x4x2x8, .f32⟩
  | 73 => ⟨S128x4x2x8, .f32⟩
  | 74 => ⟨S128x4x2x8, .f32⟩
  | 75 => ⟨S128x4x2x48, .f32⟩
  | 76 => ⟨S128x4x2x64, .f32⟩
  | 77 => ⟨S128x4x2x64, .f32⟩
  | 78 => ⟨S8, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S4, .f32⟩
  | 87 => ⟨S4x1, .f32⟩
  | 88 => ⟨S1x8, .f32⟩
  | 89 => ⟨S4x8, .f32⟩
  | 90 => ⟨S4x8, .f32⟩
  | 91 => ⟨S4x8, .f32⟩
  | 92 => ⟨S4x8, .f32⟩
  | 93 => ⟨S4x1x8, .f32⟩
  | 94 => ⟨S4x8, .f32⟩
  | 95 => ⟨S4x1x8, .f32⟩
  | 96 => ⟨S128x4x2x8, .f32⟩
  | 97 => ⟨S128x4x2x8, .f32⟩
  | 98 => ⟨S1x4x1x8, .f32⟩
  | 99 => ⟨S128x4x2x8, .f32⟩
  | 100 => ⟨S128x4x2x8, .f32⟩
  | 101 => ⟨S1x4x1x8, .f32⟩
  | 102 => ⟨S128x4x2x8, .f32⟩
  | 103 => ⟨S128x4x2x8, .f32⟩
  | 104 => ⟨S128x4x2x8, .f32⟩
  | 105 => ⟨S1x4x1x8, .f32⟩
  | 106 => ⟨S128x4x2x8, .f32⟩
  | 107 => ⟨S128x4x2x8, .f32⟩
  | 108 => ⟨S1x4x1x8, .f32⟩
  | 109 => ⟨S128x4x2x8, .f32⟩
  | 110 => ⟨S128x4x2x8, .f32⟩
  | 111 => ⟨S128x4x2x8, .f32⟩
  | 112 => ⟨S128x4x2x48, .f32⟩
  | 113 => ⟨S128x4x2x64, .f32⟩
  | 114 => ⟨S128x4x8x64, .f32⟩
  | 115 => ⟨S8, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S4, .f32⟩
  | 124 => ⟨S4x1, .f32⟩
  | 125 => ⟨S1x8, .f32⟩
  | 126 => ⟨S4x8, .f32⟩
  | 127 => ⟨S4x8, .f32⟩
  | _ => ⟨S128x4x1024, .f32⟩

abbrev hbmTy0_1 (i : Nat) : BufTy := match i % 128 with
  | 0 => ⟨S4x8, .f32⟩
  | 1 => ⟨S4x8, .f32⟩
  | 2 => ⟨S4x1x8, .f32⟩
  | 3 => ⟨S4x8, .f32⟩
  | 4 => ⟨S4x1x8, .f32⟩
  | 5 => ⟨S128x4x8x8, .f32⟩
  | 6 => ⟨S128x4x8x8, .f32⟩
  | 7 => ⟨S1x4x1x8, .f32⟩
  | 8 => ⟨S128x4x8x8, .f32⟩
  | 9 => ⟨S128x4x8x8, .f32⟩
  | 10 => ⟨S1x4x1x8, .f32⟩
  | 11 => ⟨S128x4x8x8, .f32⟩
  | 12 => ⟨S128x4x8x8, .f32⟩
  | 13 => ⟨S128x4x8x8, .f32⟩
  | 14 => ⟨S1x4x1x8, .f32⟩
  | 15 => ⟨S128x4x8x8, .f32⟩
  | 16 => ⟨S128x4x8x8, .f32⟩
  | 17 => ⟨S1x4x1x8, .f32⟩
  | 18 => ⟨S128x4x8x8, .f32⟩
  | 19 => ⟨S128x4x8x8, .f32⟩
  | 20 => ⟨S128x4x8x8, .f32⟩
  | 21 => ⟨S128x4x8x48, .f32⟩
  | 22 => ⟨S128x4x8x64, .f32⟩
  | 23 => ⟨S1x4x64, .f32⟩
  | 24 => ⟨S128x4x64, .f32⟩
  | 25 => ⟨S128x4x1x64, .f32⟩
  | 26 => ⟨S128x4x64, .f32⟩
  | 27 => ⟨S128x4x1x64, .f32⟩
  | 28 => ⟨S128x4x64, .f32⟩
  | 29 => ⟨S128x4x256, .f32⟩
  | 30 => ⟨S128x4x2048, .f32⟩
  | 31 => ⟨S_, .i32⟩
  | 32 => ⟨S_, .f32⟩
  | 33 => ⟨S128x4x128, .f32⟩
  | 34 => ⟨S_, .f32⟩
  | 35 => ⟨S128x4x8x64, .f32⟩
  | 36 => ⟨S128x4x8x64, .f32⟩
  | 37 => ⟨S128x4x2x4x64, .f32⟩
  | 38 => ⟨S128x4x4x2x64, .f32⟩
  | 39 => ⟨S512x512, .f32⟩
  | 40 => ⟨S512x512, .bf16⟩
  | 41 => ⟨S_, .f32⟩
  | 42 => ⟨S128x4x8x64, .f32⟩
  | 43 => ⟨S128x4x8x64, .f32⟩
  | 44 => ⟨S128x4x2x4x64, .f32⟩
  | 45 => ⟨S128x4x4x2x64, .f32⟩
  | 46 => ⟨S512x512, .f32⟩
  | 47 => ⟨S512x512, .bf16⟩
  | 48 => ⟨S512x128, .f32⟩
  | 49 => ⟨S512x128, .f32⟩
  | 50 => ⟨S512x128, .f32⟩
  | 51 => ⟨S512x128, .f32⟩
  | 52 => ⟨S512x128, .f32⟩
  | 53 => ⟨S512x128, .f32⟩
  | 54 => ⟨S512x256, .f32⟩
  | 55 => ⟨S512x256, .bf16⟩
  | 56 => ⟨S512x128, .f32⟩
  | 57 => ⟨S512x128, .bf16⟩
  | 58 => ⟨S512x128, .f32⟩
  | 59 => ⟨S512x128, .bf16⟩
  | 60 => ⟨S512x128, .f32⟩
  | 61 => ⟨S512x128, .bf16⟩
  | 62 => ⟨S512x2048, .f32⟩
  | 63 => ⟨S512x128, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_5 : Ref sig .tc := ⟨.hbm, 80, rfl⟩
abbrev main_v70 : Ref sig .tc := ⟨.hbm, 81, rfl⟩
abbrev main_v71 : Ref sig .tc := ⟨.hbm, 82, rfl⟩
abbrev main_cst_6 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_cst_7 : Ref sig .tc := ⟨.hbm, 117, rfl⟩
abbrev main_v105 : Ref sig .tc := ⟨.hbm, 118, rfl⟩
abbrev main_v106 : Ref sig .tc := ⟨.hbm, 119, rfl⟩
abbrev main_cst_8 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_c_9 : Ref sig .tc := ⟨.hbm, 159, rfl⟩
abbrev main_call0_v0 : Ref sig .tc := ⟨.hbm, 160, rfl⟩
abbrev main_v145 : Ref sig .tc := ⟨.hbm, 161, rfl⟩
abbrev main_cst_10 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_cst_11 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩

abbrev nD : Nat := 1
abbrev τ : Topo := Topo.v7x

variable {F : FTy → Type} [FloatOps F]
-- ==== MixoutS.lean ====
abbrev S512x1024 : Shape := ⟨2, ![512, 1024]⟩
abbrev S512x512 : Shape := ⟨2, ![512, 512]⟩
abbrev S1x512 : Shape := ⟨2, ![1, 512]⟩
abbrev S1x1024x1024 : Shape := ⟨3, ![1, 1024, 1024]⟩
abbrev S1x1024 : Shape := ⟨2, ![1, 1024]⟩
abbrev S512 : Shape := ⟨1, ![512]⟩
abbrev S2x4x64 : Shape := ⟨3, ![2, 4, 64]⟩
abbrev S4x2x64 : Shape := ⟨3, ![4, 2, 64]⟩
abbrev S1024x1024 : Shape := ⟨2, ![1024, 1024]⟩
abbrev S2x4x64x1024 : Shape := ⟨4, ![2, 4, 64, 1024]⟩
abbrev S4x2x64x1024 : Shape := ⟨4, ![4, 2, 64, 1024]⟩
abbrev S1024 : Shape := ⟨1, ![1024]⟩
abbrev S512x1 : Shape := ⟨2, ![512, 1]⟩

abbrev nBuf : Space → Nat
  | .hbm => 27
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x1024, .f32⟩
  | .hbm, ⟨7, _⟩ => ⟨S512, .f32⟩
  | .hbm, ⟨8, _⟩ => ⟨S2x4x64, .f32⟩
  | .hbm, ⟨9, _⟩ => ⟨S4x2x64, .f32⟩
  | .hbm, ⟨10, _⟩ => ⟨S512, .f32⟩
  | .hbm, ⟨11, _⟩ => ⟨S1x512, .f32⟩
  | .hbm, ⟨12, _⟩ => ⟨S1024x1024, .f32⟩
  | .hbm, ⟨13, _⟩ => ⟨S512x1024, .f32⟩
  | .hbm, ⟨14, _⟩ => ⟨S2x4x64x1024, .f32⟩
  | .hbm, ⟨15, _⟩ => ⟨S4x2x64x1024, .f32⟩
  | .hbm, ⟨16, _⟩ => ⟨S512x1024, .f32⟩
  | .hbm, ⟨17, _⟩ => ⟨S512x1024, .bf16⟩
  | .hbm, ⟨18, _⟩ => ⟨S1024x1024, .f32⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S512x1024, .f32⟩
  | .hbm, ⟨26, _⟩ => ⟨S512x1024, .bf16⟩
  | .local _ .vmem, ⟨0, _⟩ => ⟨S512x1024, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== MixoutSRefIdeal.lean ====
abbrev S512x1024 : Shape := ⟨2, ![512, 1024]⟩
abbrev S512x512 : Shape := ⟨2, ![512, 512]⟩
abbrev S1x512 : Shape := ⟨2, ![1, 512]⟩
abbrev S1x1024x1024 : Shape := ⟨3, ![1, 1024, 1024]⟩
abbrev S1x1024 : Shape := ⟨2, ![1, 1024]⟩
abbrev S512x4x2x64 : Shape := ⟨4, ![512, 4, 2, 64]⟩
abbrev S512x2x4x64 : Shape := ⟨4, ![512, 2, 4, 64]⟩
abbrev S512 : Shape := ⟨1, ![512]⟩
abbrev S_ : Shape := ⟨0, ![]⟩
abbrev S512x1 : Shape := ⟨2, ![512, 1]⟩
abbrev S1024x1024 : Shape := ⟨2, ![1024, 1024]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x1024, .f32⟩
  | .hbm, ⟨7, _⟩ => ⟨S512x4x2x64, .f32⟩
  | .hbm, ⟨8, _⟩ => ⟨S512x2x4x64, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x1, .f32⟩
  | .hbm, ⟨22, _⟩ => ⟨S512x512, .f32⟩
  | .hbm, ⟨23, _⟩ => ⟨S512x512, .f32⟩
  | .hbm, ⟨24, _⟩ => ⟨S1x512, .f32⟩
  | .hbm, ⟨25, _⟩ => ⟨S512x512, .f32⟩
  | .hbm, ⟨26, _⟩ => ⟨S512x512, .f32⟩
  | .hbm, ⟨27, _⟩ => ⟨S512x1024, .f32⟩
  | .hbm, ⟨28, _⟩ => ⟨S1024x1024, .f32⟩
  | .hbm, ⟨29, _⟩ => ⟨S512x1024, .f32⟩
  | .hbm, ⟨30, _⟩ => ⟨S512x1024, .f32⟩
  | .hbm, ⟨31, _⟩ => ⟨S1024, .f32⟩
  | .hbm, ⟨32, _⟩ => ⟨S512x1024, .f32⟩
  | .hbm, ⟨33, _⟩ => ⟨S_, .f32⟩
  | .hbm, ⟨34, _⟩ => ⟨S512, .f32⟩
  | .hbm, ⟨35, _⟩ => ⟨S512x1, .f32⟩
  | .hbm, ⟨36, _⟩ => ⟨S_, .f32⟩
  | .hbm, ⟨37, _⟩ => ⟨S512x1, .f32⟩
  | .hbm, ⟨38, _⟩ => ⟨S512x1, .f32⟩
  | .hbm, ⟨39, _⟩ => ⟨S_, .f32⟩
  | .hbm, ⟨40, _⟩ => ⟨S512x1, .f32⟩
  | .hbm, ⟨41, _⟩ => ⟨S512x1, .f32⟩
  | .hbm, ⟨42, _⟩ => ⟨S512x1, .f32⟩
  | .hbm, ⟨43, _⟩ => ⟨S512x1024, .f32⟩
  | .hbm, ⟨44, _⟩ => ⟨S512x1024, .f32⟩
  | .hbm, ⟨45, _⟩ => ⟨S1x1024, .f32⟩
  | .hbm, ⟨46, _⟩ => ⟨S512x1024, .f32⟩
  | .hbm, ⟨47, _⟩ => ⟨S512x1024, .f32⟩
  | .hbm, ⟨48, _⟩ => ⟨S1024x1024, .f32⟩
  | .hbm, ⟨49, _⟩ => ⟨S512x1024, .f32⟩
  | .hbm, ⟨50, _⟩ => ⟨S_, .f32⟩
  | .hbm, ⟨51, _⟩ => ⟨S512x1024, .f32⟩
  | .hbm, ⟨52, _⟩ => ⟨S512x1024, .f32⟩
  | .hbm, ⟨53, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== CaS.lean ====
abbrev S128x16x1024 : Shape := ⟨3, ![128, 16, 1024]⟩
abbrev S128x256x1024 : Shape := ⟨3, ![128, 256, 1024]⟩
abbrev S1x16x1024 : Shape := ⟨3, ![1, 16, 1024]⟩
abbrev S1x256x1024 : Shape := ⟨3, ![1, 256, 1024]⟩
abbrev S1x16x256 : Shape := ⟨3, ![1, 16, 256]⟩
abbrev S16x256 : Shape := ⟨2, ![16, 256]⟩
abbrev S1x256x256 : Shape := ⟨3, ![1, 256, 256]⟩
abbrev S256x256 : Shape := ⟨2, ![256, 256]⟩
abbrev S16 : Shape := ⟨1, ![16]⟩
abbrev S16x1 : Shape := ⟨2, ![16, 1]⟩
abbrev S16x1024 : Shape := ⟨2, ![16, 1024]⟩

abbrev nBuf : Space → Nat
  | .hbm => 4
  | .vmem => 8
  | .smem => 0
  | _ => 0

abbrev bufTy : (tb : Table) → Fin (tcTables nBuf tb) → BufTy
  | .hbm, ⟨0, _⟩ => ⟨S128x16x1024, .bf16⟩
  | .hbm, ⟨1, _⟩ => ⟨S128x256x1024, .f32⟩
  | .hbm, ⟨2, _⟩ => ⟨S128x256x1024, .f32⟩
  | .hbm, ⟨3, _⟩ => ⟨S128x16x1024, .bf16⟩
  | .local _ .vmem, ⟨0, _⟩ => ⟨S1x16x1024, .bf16⟩
  | .local _ .vmem, ⟨1, _⟩ => ⟨S1x16x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x16x1024, .bf16⟩
  | .local _ .vmem, ⟨7, _⟩ => ⟨S1x16x1024, .bf16⟩
  | _, _ => ⟨S128x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![128, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CaSRefIdeal.lean ====
abbrev S128x16x1024 : Shape := ⟨3, ![128, 16, 1024]⟩
abbrev S128x256x1024 : Shape := ⟨3, ![128, 256, 1024]⟩
abbrev S128x16x4x256 : Shape := ⟨4, ![128, 16, 4, 256]⟩
abbrev S128x256x4x256 : Shape := ⟨4, ![128, 256, 4, 256]⟩
abbrev S128x4x16x256 : Shape := ⟨4, ![128, 4, 16, 256]⟩
abbrev S_ : Shape := ⟨0, ![]⟩
abbrev S128x4x16 : Shape := ⟨3, ![128, 4, 16]⟩
abbrev S128x4x16x1 : Shape := ⟨4, ![128, 4, 16, 1]⟩
abbrev S128x4x256x16 : Shape := ⟨4, ![128, 4, 256, 16]⟩

abbrev nBuf : Space → Nat
  | .hbm => 26
  | .vmem => 0
  | .smem => 0
  | _ => 0

abbrev bufTy : (tb : Table) → Fin (tcTables nBuf tb) → BufTy
  | .hbm, ⟨0, _⟩ => ⟨S128x16x1024, .bf16⟩
  | .hbm, ⟨1, _⟩ => ⟨S128x256x1024, .f32⟩
  | .hbm, ⟨2, _⟩ => ⟨S128x256x1024, .f32⟩
  | .hbm, ⟨3, _⟩ => ⟨S128x16x1024, .f32⟩
  | .hbm, ⟨4, _⟩ => ⟨S128x16x4x256, .f32⟩
  | .hbm, ⟨5, _⟩ => ⟨S128x256x4x256, .f32⟩
  | .hbm, ⟨6, _⟩ => ⟨S128x256x4x256, .f32⟩
  | .hbm, ⟨7, _⟩ => ⟨S128x4x16x256, .f32⟩
  | .hbm, ⟨8, _⟩ => ⟨S_, .f32⟩
  | .hbm, ⟨9, _⟩ => ⟨S128x4x16, .f32⟩
  | .hbm, ⟨10, _⟩ => ⟨S_, .f32⟩
  | .hbm, ⟨11, _⟩ => ⟨S128x4x16, .f32⟩
  | .hbm, ⟨12, _⟩ => ⟨S128x4x16, .f32⟩
  | .hbm, ⟨13, _⟩ => ⟨S128x4x16x1, .f32⟩
  | .hbm, ⟨14, _⟩ => ⟨S128x4x16x256, .f32⟩
  | .hbm, ⟨15, _⟩ => ⟨S128x4x16x256, .f32⟩
  | .hbm, ⟨16, _⟩ => ⟨S128x4x16x256, .f32⟩
  | .hbm, ⟨17, _⟩ => ⟨S_, .f32⟩
  | .hbm, ⟨18, _⟩ => ⟨S128x4x16, .f32⟩
  | .hbm, ⟨19, _⟩ => ⟨S128x4x16x1, .f32⟩
  | .hbm, ⟨20, _⟩ => ⟨S128x4x16x256, .f32⟩
  | .hbm, ⟨21, _⟩ => ⟨S128x4x16x256, .f32⟩
  | .hbm, ⟨22, _⟩ => ⟨S128x4x256x16, .f32⟩
  | .hbm, ⟨23, _⟩ => ⟨S128x16x4x256, .f32⟩
  | .hbm, ⟨24, _⟩ => ⟨S128x16x1024, .f32⟩
  | .hbm, ⟨25, _⟩ => ⟨S128x16x1024, .bf16⟩
  | _, _ => ⟨S128x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== MmResS.lean ====
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 4
  | .smem => 0
  | _ => 0

abbrev bufTy : (tb : Table) → Fin (tcTables nBuf tb) → BufTy
  | .hbm, ⟨0, _⟩ => ⟨S512x1024, .bf16⟩
  | .hbm, ⟨1, _⟩ => ⟨S1x1024x1024, .f32⟩
  | .hbm, ⟨2, _⟩ => ⟨S512x1024, .f32⟩
  | .hbm, ⟨3, _⟩ => ⟨S1024x1024, .f32⟩
  | .hbm, ⟨4, _⟩ => ⟨S1024x1024, .bf16⟩
  | .hbm, ⟨5, _⟩ => ⟨S512x1024, .f32⟩
  | .local _ .vmem, ⟨0, _⟩ => ⟨S512x1024, .bf16⟩
  | .local _ .vmem, ⟨1, _⟩ => ⟨S1024x1024, .bf16⟩
  | .local _ .vmem, ⟨2, _⟩ => ⟨S512x1024, .f32⟩
  | .local _ .vmem, ⟨3, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== MmResSRefIdeal.lean ====
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1x1024x1024, .f32⟩
  | .hbm, ⟨2, _⟩ => ⟨S512x1024, .f32⟩
  | .hbm, ⟨3, _⟩ => ⟨S512x1024, .f32⟩
  | .hbm, ⟨4, _⟩ => ⟨S1024x1024, .f32⟩
  | .hbm, ⟨5, _⟩ => ⟨S512x1024, .f32⟩
  | .hbm, ⟨6, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnS.lean ====
abbrev S512x1024 : Shape := ⟨2, ![512, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 16
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSRefIdeal.lean ====
abbrev S512x1024 : Shape := ⟨2, ![512, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 56
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S512x1024, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x1024, .f32⟩
  | .hbm, ⟨19, _⟩ => ⟨S512x1024, .f32⟩
  | .hbm, ⟨20, _⟩ => ⟨S1x1024, .f32⟩
  | .hbm, ⟨21, _⟩ => ⟨S512x1024, .f32⟩
  | .hbm, ⟨22, _⟩ => ⟨S512x1024, .f32⟩
  | .hbm, ⟨23, _⟩ => ⟨S1024x2816, .f32⟩
  | .hbm, ⟨24, _⟩ => ⟨S512x2816, .f32⟩
  | .hbm, ⟨25, _⟩ => ⟨S512x2816, .f32⟩
  | .hbm, ⟨26, _⟩ => ⟨S512x2816, .f32⟩
  | .hbm, ⟨27, _⟩ => ⟨S_, .f32⟩
  | .hbm, ⟨28, _⟩ => ⟨S512x2816, .f32⟩
  | .hbm, ⟨29, _⟩ => ⟨S512x2816, .f32⟩
  | .hbm, ⟨30, _⟩ => ⟨S_, .f32⟩
  | .hbm, ⟨31, _⟩ => ⟨S512x2816, .f32⟩
  | .hbm, ⟨32, _⟩ => ⟨S512x2816, .f32⟩
  | .hbm, ⟨33, _⟩ => ⟨S512x2816, .f32⟩
  | .hbm, ⟨34, _⟩ => ⟨S1024x2816, .f32⟩
  | .hbm, ⟨35, _⟩ => ⟨S512x2816, .f32⟩
  | .hbm, ⟨36, _⟩ => ⟨S512x2816, .f32⟩
  | .hbm, ⟨37, _⟩ => ⟨S2816x1024, .f32⟩
  | .hbm, ⟨38, _⟩ => ⟨S512x1024, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512, .f32⟩
  | .hbm, ⟨43, _⟩ => ⟨S512x1, .f32⟩
  | .hbm, ⟨44, _⟩ => ⟨S_, .f32⟩
  | .hbm, ⟨45, _⟩ => ⟨S512x1, .f32⟩
  | .hbm, ⟨46, _⟩ => ⟨S512x1, .f32⟩
  | .hbm, ⟨47, _⟩ => ⟨S_, .f32⟩
  | .hbm, ⟨48, _⟩ => ⟨S512x1, .f32⟩
  | .hbm, ⟨49, _⟩ => ⟨S512x1, .f32⟩
  | .hbm, ⟨50, _⟩ => ⟨S512x1, .f32⟩
  | .hbm, ⟨51, _⟩ => ⟨S512x1024, .f32⟩
  | .hbm, ⟨52, _⟩ => ⟨S512x1024, .f32⟩
  | .hbm, ⟨53, _⟩ => ⟨S1x1024, .f32⟩
  | .hbm, ⟨54, _⟩ => ⟨S512x1024, .f32⟩
  | .hbm, ⟨55, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== HgrnP.lean ====
abbrev S8x4096x2048 : Shape := ⟨3, ![8, 4096, 2048]⟩
abbrev S2x512 : Shape := ⟨2, ![2, 512]⟩
abbrev S1x512 : Shape := ⟨2, ![1, 512]⟩
abbrev S_ : Shape := ⟨0, ![]⟩
abbrev S512 : Shape := ⟨1, ![512]⟩
abbrev S8x4x128x128 : Shape := ⟨4, ![8, 4, 128, 128]⟩
abbrev S8x4096x512 : Shape := ⟨3, ![8, 4096, 512]⟩
abbrev S1x128x2048 : Shape := ⟨3, ![1, 128, 2048]⟩
abbrev S1x4x128x128 : Shape := ⟨4, ![1, 4, 128, 128]⟩
abbrev S1x128x512 : Shape := ⟨3, ![1, 128, 512]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S128x1 : Shape := ⟨2, ![128, 1]⟩
abbrev S1x128 : Shape := ⟨2, ![1, 128]⟩
abbrev S64x128 : Shape := ⟨2, ![64, 128]⟩
abbrev S32x128 : Shape := ⟨2, ![32, 128]⟩
abbrev S16x128 : Shape := ⟨2, ![16, 128]⟩
abbrev S128 : Shape := ⟨1, ![128]⟩
abbrev S128x512 : Shape := ⟨2, ![128, 512]⟩

abbrev nBuf : Space → Nat
  | .hbm => 29
  | .vmem => 11
  | .smem => 0
  | _ => 0

abbrev bufTy : (tb : Table) → Fin (tcTables nBuf tb) → BufTy
  | .hbm, ⟨0, _⟩ => ⟨S8x4096x2048, .f32⟩
  | .hbm, ⟨1, _⟩ => ⟨S2x512, .f32⟩
  | .hbm, ⟨2, _⟩ => ⟨S1x512, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S_, .f32⟩
  | .hbm, ⟨18, _⟩ => ⟨S_, .f32⟩
  | .hbm, ⟨19, _⟩ => ⟨S2x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S_, .f32⟩
  | .hbm, ⟨24, _⟩ => ⟨S8x4x128x128, .f32⟩
  | .hbm, ⟨25, _⟩ => ⟨S512, .f32⟩
  | .hbm, ⟨26, _⟩ => ⟨S1x512, .f32⟩
  | .hbm, ⟨27, _⟩ => ⟨S8x4096x512, .f32⟩
  | .hbm, ⟨28, _⟩ => ⟨S8x4x128x128, .f32⟩
  | .local _ .vmem, ⟨0, _⟩ => ⟨S1x128x2048, .f32⟩
  | .local _ .vmem, ⟨1, _⟩ => ⟨S1x128x2048, .f32⟩
  | .local _ .vmem, ⟨2, _⟩ => ⟨S1x512, .f32⟩
  | .local _ .vmem, ⟨3, _⟩ => ⟨S1x512, .f32⟩
  | .local _ .vmem, ⟨4, _⟩ => ⟨S1x4x128x128, .f32⟩
  | .local _ .vmem, ⟨5, _⟩ => ⟨S1x4x128x128, .f32⟩
  | .local _ .vmem, ⟨6, _⟩ => ⟨S1x128x512, .f32⟩
  | .local _ .vmem, ⟨7, _⟩ => ⟨S1x128x512, .f32⟩
  | .local _ .vmem, ⟨8, _⟩ => ⟨S1x4x128x128, .f32⟩
  | .local _ .vmem, ⟨9, _⟩ => ⟨S1x4x128x128, .f32⟩
  | .local _ .vmem, ⟨10, _⟩ => ⟨S4x128x128, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v1991 : BitVec 1 := Scalar.cmpi .eq arg1 c31_i32
  let v1992 : BitVec 32 := Scalar.extui v1991
  let c0_i32_613 : BitVec 32 := 0#32
  let v1993 : BitVec 1 := Scalar.cmpi .ne v1992 c0_i32_613
  v1993

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== NsaP.lean ====
abbrev S8x4096x512 : Shape := ⟨3, ![8, 4096, 512]⟩
abbrev S8x4096x128 : Shape := ⟨3, ![8, 4096, 128]⟩
abbrev S8x256x128 : Shape := ⟨3, ![8, 256, 128]⟩
abbrev S8x4096x256 : Shape := ⟨3, ![8, 4096, 256]⟩
abbrev S1x128x512 : Shape := ⟨3, ![1, 128, 512]⟩
abbrev S1x128x128 : Shape := ⟨3, ![1, 128, 128]⟩
abbrev S1x256x128 : Shape := ⟨3, ![1, 256, 128]⟩
abbrev S1x4096x256 : Shape := ⟨3, ![1, 4096, 256]⟩
abbrev S1x4096x128 : Shape := ⟨3, ![1, 4096, 128]⟩
abbrev S256x128 : Shape := ⟨2, ![256, 128]⟩
abbrev S64x128 : Shape := ⟨2, ![64, 128]⟩
abbrev S128x128 : Shape := ⟨2, ![128, 128]⟩
abbrev S512x1 : Shape := ⟨2, ![512, 1]⟩
abbrev S512x128 : Shape := ⟨2, ![512, 128]⟩
abbrev S512x256 : Shape := ⟨2, ![512, 256]⟩
abbrev S512 : Shape := ⟨1, ![512]⟩
abbrev S256x512 : Shape := ⟨2, ![256, 512]⟩
abbrev S1x512 : Shape := ⟨2, ![1, 512]⟩
abbrev S1x128 : Shape := ⟨2, ![1, 128]⟩
abbrev S512x640 : Shape := ⟨2, ![512, 640]⟩
abbrev S1x640x128 : Shape := ⟨3, ![1, 640, 128]⟩
abbrev S640x128 : Shape := ⟨2, ![640, 128]⟩
abbrev S128x1 : Shape := ⟨2, ![128, 1]⟩
abbrev S128x512 : Shape := ⟨2, ![128, 512]⟩

abbrev nBuf : Space → Nat
  | .hbm => 10
  | .vmem => 22
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x128, .f32⟩
  | .hbm, ⟨3, _⟩ => ⟨S8x256x128, .bf16⟩
  | .hbm, ⟨4, _⟩ => ⟨S8x256x128, .bf16⟩
  | .hbm, ⟨5, _⟩ => ⟨S8x4096x256, .bf16⟩
  | .hbm, ⟨6, _⟩ => ⟨S8x4096x128, .bf16⟩
  | .hbm, ⟨7, _⟩ => ⟨S8x4096x128, .bf16⟩
  | .hbm, ⟨8, _⟩ => ⟨S8x4096x128, .bf16⟩
  | .hbm, ⟨9, _⟩ => ⟨S8x4096x512, .f32⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x128, .f32⟩
  | .local _ .vmem, ⟨5, _⟩ => ⟨S1x128x128, .f32⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x128x512, .f32⟩
  | .local _ .vmem, ⟨19, _⟩ => ⟨S1x128x512, .f32⟩
  | .local _ .vmem, ⟨20, _⟩ => ⟨S256x128, .f32⟩
  | .local _ .vmem, ⟨21, _⟩ => ⟨S64x128, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 32], ![false, false]⟩

@[reducible] def k0_t1_loop : Scf.Loop 32 :=
  let c0_i32_49 : BitVec 32 := 0#32
  let c64_i32_50 : BitVec 32 := 64#32
  let v130 : BitVec 32 := Scalar.addi c0_i32_49 c64_i32_50
  let c1_i32_51 : BitVec 32 := 1#32
  ⟨c0_i32_49, v130, c1_i32_51⟩
def k0_off1 (k0_t1 : Fin k0_t1_loop.trips) : Fin 2 → Nat :=
  let c0_i32_49 : BitVec 32 := 0#32
  let c1_i32_51 : BitVec 32 := 1#32
  let arg14 : BitVec 32 := Scf.iv c0_i32_49 c1_i32_51 k0_t1
  let v655 : Index := Scalar.indexCast arg14
  let c0_250 : Index := 0#32
  ![v655.toNat, 0]
@[reducible] def k0_t2_loop (i : grid0.Coords) : Scf.Loop 32 :=
  let c0_i32_77 : BitVec 32 := 0#32
  let arg1 : BitVec 32 := BitVec.ofNat 32 (i 1).val
  let c128_i32 : BitVec 32 := 128#32
  let v0 : BitVec 32 := Scalar.muli arg1 c128_i32
  let c0_i32_68 : BitVec 32 := 0#32
  let v155 : BitVec 1 := Scalar.cmpi .sgt v0 c0_i32_68
  let v156 : BitVec 32 := Scalar.extui v155
  let c0_i32_69 : BitVec 32 := 0#32
  let v157 : BitVec 1 := Scalar.cmpi .slt v0 c0_i32_69
  let v158 : BitVec 32 := Scalar.extui v157
  let v159 : BitVec 32 := Scalar.subi v156 v158
  let c256_i32 : BitVec 32 := 256#32
  let c0_i32_70 : BitVec 32 := 0#32
  let v160 : BitVec 1 := Scalar.cmpi .sgt c256_i32 c0_i32_70
  let v161 : BitVec 32 := Scalar.extui v160
  let c0_i32_71 : BitVec 32 := 0#32
  let v162 : BitVec 1 := Scalar.cmpi .slt c256_i32 c0_i32_71
  let v163 : BitVec 32 := Scalar.extui v162
  let v164 : BitVec 32 := Scalar.subi v161 v163
  let v165 : BitVec 1 := Scalar.cmpi .ne v159 v164
  let v166 : BitVec 32 := Scalar.remsi v0 c256_i32
  let c0_i32_72 : BitVec 32 := 0#32
  let v167 : BitVec 1 := Scalar.cmpi .ne v166 c0_i32_72
  let v168 : BitVec 1 := Scalar.andi v165 v167
  let v154 : BitVec 32 := Scalar.divsi v0 c256_i32
  let c1_i32_73 : BitVec 32 := 1#32
  let v169 : BitVec 32 := Scalar.subi v154 c1_i32_73
  let v170 : BitVec 32 := Scalar.select v168 v169 v154
  let v174 : BitVec 32 := Scalar.subi v170 c0_i32_77
  let c1_i32_78 : BitVec 32 := 1#32
  let v176 : BitVec 32 := Scalar.divsi v174 c1_i32_78
  let v177 : BitVec 32 := Scalar.muli v176 c1_i32_78
  let v178 : BitVec 32 := Scalar.addi c0_i32_77 v177
  let c1_i32_79 : BitVec 32 := 1#32
  ⟨c0_i32_77, v178, c1_i32_79⟩
def k0_mult1 (i : grid0.Coords) (k0_t2 : Fin (k0_t2_loop i).trips) : BitVec 32 :=
  let c0_i32_77 : BitVec 32 := 0#32
  let c1_i32_79 : BitVec 32 := 1#32
  let arg14 : BitVec 32 := Scf.iv c0_i32_77 c1_i32_79 k0_t2
  let c256_i32_250 : BitVec 32 := 256#32
  let v655 : BitVec 32 := Scalar.muli arg14 c256_i32_250
  v655
def k0_off2 (i : grid0.Coords) (k0_t2 : Fin (k0_t2_loop i).trips) : Fin 3 → Nat :=
  let c0_251 : Index := 0#32
  let c0_i32_77 : BitVec 32 := 0#32
  let c1_i32_79 : BitVec 32 := 1#32
  let arg14 : BitVec 32 := Scf.iv c0_i32_77 c1_i32_79 k0_t2
  let c256_i32_250 : BitVec 32 := 256#32
  let v655 : BitVec 32 := Scalar.muli arg14 c256_i32_250
  let v656 : BitVec 32 := v655
  let v657 : Index := Scalar.indexCast v656
  let c0_252 : Index := 0#32
  ![0, v657.toNat, 0]
def k0_off3 (i : grid0.Coords) (k0_t2 : Fin (k0_t2_loop i).trips) : Fin 3 → Nat :=
  let c0_256 : Index := 0#32
  let c0_i32_77 : BitVec 32 := 0#32
  let c1_i32_79 : BitVec 32 := 1#32
  let arg14 : BitVec 32 := Scf.iv c0_i32_77 c1_i32_79 k0_t2
  let c256_i32_250 : BitVec 32 := 256#32
  let v655 : BitVec 32 := Scalar.muli arg14 c256_i32_250
  let v656 : BitVec 32 := v655
  let v676 : Index := Scalar.indexCast v656
  let c0_257 : Index := 0#32
  ![0, v676.toNat, 0]
@[reducible] def k0_t3_loop (i : grid0.Coords) : Scf.Loop 32 :=
  let c0_i32_77 : BitVec 32 := 0#32
  let arg1 : BitVec 32 := BitVec.ofNat 32 (i 1).val
  let c128_i32 : BitVec 32 := 128#32
  let v0 : BitVec 32 := Scalar.muli arg1 c128_i32
  let c0_i32_68 : BitVec 32 := 0#32
  let v155 : BitVec 1 := Scalar.cmpi .sgt v0 c0_i32_68
  let v156 : BitVec 32 := Scalar.extui v155
  let c0_i32_69 : BitVec 32 := 0#32
  let v157 : BitVec 1 := Scalar.cmpi .slt v0 c0_i32_69
  let v158 : BitVec 32 := Scalar.extui v157
  let v159 : BitVec 32 := Scalar.subi v156 v158
  let c256_i32 : BitVec 32 := 256#32
  let c0_i32_70 : BitVec 32 := 0#32
  let v160 : BitVec 1 := Scalar.cmpi .sgt c256_i32 c0_i32_70
  let v161 : BitVec 32 := Scalar.extui v160
  let c0_i32_71 : BitVec 32 := 0#32
  let v162 : BitVec 1 := Scalar.cmpi .slt c256_i32 c0_i32_71
  let v163 : BitVec 32 := Scalar.extui v162
  let v164 : BitVec 32 := Scalar.subi v161 v163
  let v165 : BitVec 1 := Scalar.cmpi .ne v159 v164
  let v166 : BitVec 32 := Scalar.remsi v0 c256_i32
  let c0_i32_72 : BitVec 32 := 0#32
  let v167 : BitVec 1 := Scalar.cmpi .ne v166 c0_i32_72
  let v168 : BitVec 1 := Scalar.andi v165 v167
  let v154 : BitVec 32 := Scalar.divsi v0 c256_i32
  let c1_i32_73 : BitVec 32 := 1#32
  let v169 : BitVec 32 := Scalar.subi v154 c1_i32_73
  let v170 : BitVec 32 := Scalar.select v168 v169 v154
  let v174 : BitVec 32 := Scalar.subi v170 c0_i32_77
  let c1_i32_78 : BitVec 32 := 1#32
  let v176 : BitVec 32 := Scalar.divsi v174 c1_i32_78
  let v177 : BitVec 32 := Scalar.muli v176 c1_i32_78
  let v178 : BitVec 32 := Scalar.addi c0_i32_77 v177
  let v175 : BitVec 32 := Scalar.addi c0_i32_77 v174
  let c1_i32_80 : BitVec 32 := 1#32
  ⟨v178, v175, c1_i32_80⟩
def k0_mult2 (i : grid0.Coords) (k0_t3 : Fin (k0_t3_loop i).trips) : BitVec 32 :=
  let c0_i32_77 : BitVec 32 := 0#32
  let arg1 : BitVec 32 := BitVec.ofNat 32 (i 1).val
  let c128_i32 : BitVec 32 := 128#32
  let v0 : BitVec 32 := Scalar.muli arg1 c128_i32
  let c0_i32_68 : BitVec 32 := 0#32
  let v155 : BitVec 1 := Scalar.cmpi .sgt v0 c0_i32_68
  let v156 : BitVec 32 := Scalar.extui v155
  let c0_i32_69 : BitVec 32 := 0#32
  let v157 : BitVec 1 := Scalar.cmpi .slt v0 c0_i32_69
  let v158 : BitVec 32 := Scalar.extui v157
  let v159 : BitVec 32 := Scalar.subi v156 v158
  let c256_i32 : BitVec 32 := 256#32
  let c0_i32_70 : BitVec 32 := 0#32
  let v160 : BitVec 1 := Scalar.cmpi .sgt c256_i32 c0_i32_70
  let v161 : BitVec 32 := Scalar.extui v160
  let c0_i32_71 : BitVec 32 := 0#32
  let v162 : BitVec 1 := Scalar.cmpi .slt c256_i32 c0_i32_71
  let v163 : BitVec 32 := Scalar.extui v162
  let v164 : BitVec 32 := Scalar.subi v161 v163
  let v165 : BitVec 1 := Scalar.cmpi .ne v159 v164
  let v166 : BitVec 32 := Scalar.remsi v0 c256_i32
  let c0_i32_72 : BitVec 32 := 0#32
  let v167 : BitVec 1 := Scalar.cmpi .ne v166 c0_i32_72
  let v168 : BitVec 1 := Scalar.andi v165 v167
  let v154 : BitVec 32 := Scalar.divsi v0 c256_i32
  let c1_i32_73 : BitVec 32 := 1#32
  let v169 : BitVec 32 := Scalar.subi v154 c1_i32_73
  let v170 : BitVec 32 := Scalar.select v168 v169 v154
  let v174 : BitVec 32 := Scalar.subi v170 c0_i32_77
  let c1_i32_78 : BitVec 32 := 1#32
  let v176 : BitVec 32 := Scalar.divsi v174 c1_i32_78
  let v177 : BitVec 32 := Scalar.muli v176 c1_i32_78
  let v178 : BitVec 32 := Scalar.addi c0_i32_77 v177
  let c1_i32_80 : BitVec 32 := 1#32
  let arg14 : BitVec 32 := Scf.iv v178 c1_i32_80 k0_t3
  let c256_i32_250 : BitVec 32 := 256#32
  let v655 : BitVec 32 := Scalar.muli arg14 c256_i32_250
  v655
def k0_off4 (i : grid0.Coords) (k0_t3 : Fin (k0_t3_loop i).trips) : Fin 3 → Nat :=
  let c0_251 : Index := 0#32
  let c0_i32_77 : BitVec 32 := 0#32
  let arg1 : BitVec 32 := BitVec.ofNat 32 (i 1).val
  let c128_i32 : BitVec 32 := 128#32
  let v0 : BitVec 32 := Scalar.muli arg1 c128_i32
  let c0_i32_68 : BitVec 32 := 0#32
  let v155 : BitVec 1 := Scalar.cmpi .sgt v0 c0_i32_68
  let v156 : BitVec 32 := Scalar.extui v155
  let c0_i32_69 : BitVec 32 := 0#32
  let v157 : BitVec 1 := Scalar.cmpi .slt v0 c0_i32_69
  let v158 : BitVec 32 := Scalar.extui v157
  let v159 : BitVec 32 := Scalar.subi v156 v158
  let c256_i32 : BitVec 32 := 256#32
  let c0_i32_70 : BitVec 32 := 0#32
  let v160 : BitVec 1 := Scalar.cmpi .sgt c256_i32 c0_i32_70
  let v161 : BitVec 32 := Scalar.extui v160
  let c0_i32_71 : BitVec 32 := 0#32
  let v162 : BitVec 1 := Scalar.cmpi .slt c256_i32 c0_i32_71
  let v163 : BitVec 32 := Scalar.extui v162
  let v164 : BitVec 32 := Scalar.subi v161 v163
  let v165 : BitVec 1 := Scalar.cmpi .ne v159 v164
  let v166 : BitVec 32 := Scalar.remsi v0 c256_i32
  let c0_i32_72 : BitVec 32 := 0#32
  let v167 : BitVec 1 := Scalar.cmpi .ne v166 c0_i32_72
  let v168 : BitVec 1 := Scalar.andi v165 v167
  let v154 : BitVec 32 := Scalar.divsi v0 c256_i32
  let c1_i32_73 : BitVec 32 := 1#32
  let v169 : BitVec 32 := Scalar.subi v154 c1_i32_73
  let v170 : BitVec 32 := Scalar.select v168 v169 v154
  let v174 : BitVec 32 := Scalar.subi v170 c0_i32_77
  let c1_i32_78 : BitVec 32 := 1#32
  let v176 : BitVec 32 := Scalar.divsi v174 c1_i32_78
  let v177 : BitVec 32 := Scalar.muli v176 c1_i32_78
  let v178 : BitVec 32 := Scalar.addi c0_i32_77 v177
  let c1_i32_80 : BitVec 32 := 1#32
  let arg14 : BitVec 32 := Scf.iv v178 c1_i32_80 k0_t3
  let c256_i32_250 : BitVec 32 := 256#32
  let v655 : BitVec 32 := Scalar.muli arg14 c256_i32_250
  let v656 : BitVec 32 := v655
  let v657 : Index := Scalar.indexCast v656
  let c0_252 : Index := 0#32
  ![0, v657.toNat, 0]
def k0_off5 (i : grid0.Coords) (k0_t3 : Fin (k0_t3_loop i).trips) : Fin 3 → Nat :=
  let c0_256 : Index := 0#32
  let c0_i32_77 : BitVec 32 := 0#32
  let arg1 : BitVec 32 := BitVec.ofNat 32 (i 1).val
  let c128_i32 : BitVec 32 := 128#32
  let v0 : BitVec 32 := Scalar.muli arg1 c128_i32
  let c0_i32_68 : BitVec 32 := 0#32
  let v155 : BitVec 1 := Scalar.cmpi .sgt v0 c0_i32_68
  let v156 : BitVec 32 := Scalar.extui v155
  let c0_i32_69 : BitVec 32 := 0#32
  let v157 : BitVec 1 := Scalar.cmpi .slt v0 c0_i32_69
  let v158 : BitVec 32 := Scalar.extui v157
  let v159 : BitVec 32 := Scalar.subi v156 v158
  let c256_i32 : BitVec 32 := 256#32
  let c0_i32_70 : BitVec 32 := 0#32
  let v160 : BitVec 1 := Scalar.cmpi .sgt c256_i32 c0_i32_70
  let v161 : BitVec 32 := Scalar.extui v160
  let c0_i32_71 : BitVec 32 := 0#32
  let v162 : BitVec 1 := Scalar.cmpi .slt c256_i32 c0_i32_71
  let v163 : BitVec 32 := Scalar.extui v162
  let v164 : BitVec 32 := Scalar.subi v161 v163
  let v165 : BitVec 1 := Scalar.cmpi .ne v159 v164
  let v166 : BitVec 32 := Scalar.remsi v0 c256_i32
  let c0_i32_72 : BitVec 32 := 0#32
  let v167 : BitVec 1 := Scalar.cmpi .ne v166 c0_i32_72
  let v168 : BitVec 1 := Scalar.andi v165 v167
  let v154 : BitVec 32 := Scalar.divsi v0 c256_i32
  let c1_i32_73 : BitVec 32 := 1#32
  let v169 : BitVec 32 := Scalar.subi v154 c1_i32_73
  let v170 : BitVec 32 := Scalar.select v168 v169 v154
  let v174 : BitVec 32 := Scalar.subi v170 c0_i32_77
  let c1_i32_78 : BitVec 32 := 1#32
  let v176 : BitVec 32 := Scalar.divsi v174 c1_i32_78
  let v177 : BitVec 32 := Scalar.muli v176 c1_i32_78
  let v178 : BitVec 32 := Scalar.addi c0_i32_77 v177
  let c1_i32_80 : BitVec 32 := 1#32
  let arg14 : BitVec 32 := Scf.iv v178 c1_i32_80 k0_t3
  let c256_i32_250 : BitVec 32 := 256#32
  let v655 : BitVec 32 := Scalar.muli arg14 c256_i32_250
  let v656 : BitVec 32 := v655
  let v676 : Index := Scalar.indexCast v656
  let c0_257 : Index := 0#32
  ![0, v676.toNat, 0]
def k0_mult3 (i : grid0.Coords) : BitVec 32 :=
  let arg1 : BitVec 32 := BitVec.ofNat 32 (i 1).val
  let c128_i32 : BitVec 32 := 128#32
  let v0 : BitVec 32 := Scalar.muli arg1 c128_i32
  let c0_i32_68 : BitVec 32 := 0#32
  let v155 : BitVec 1 := Scalar.cmpi .sgt v0 c0_i32_68
  let v156 : BitVec 32 := Scalar.extui v155
  let c0_i32_69 : BitVec 32 := 0#32
  let v157 : BitVec 1 := Scalar.cmpi .slt v0 c0_i32_69
  let v158 : BitVec 32 := Scalar.extui v157
  let v159 : BitVec 32 := Scalar.subi v156 v158
  let c256_i32 : BitVec 32 := 256#32
  let c0_i32_70 : BitVec 32 := 0#32
  let v160 : BitVec 1 := Scalar.cmpi .sgt c256_i32 c0_i32_70
  let v161 : BitVec 32 := Scalar.extui v160
  let c0_i32_71 : BitVec 32 := 0#32
  let v162 : BitVec 1 := Scalar.cmpi .slt c256_i32 c0_i32_71
  let v163 : BitVec 32 := Scalar.extui v162
  let v164 : BitVec 32 := Scalar.subi v161 v163
  let v165 : BitVec 1 := Scalar.cmpi .ne v159 v164
  let v166 : BitVec 32 := Scalar.remsi v0 c256_i32
  let c0_i32_72 : BitVec 32 := 0#32
  let v167 : BitVec 1 := Scalar.cmpi .ne v166 c0_i32_72
  let v168 : BitVec 1 := Scalar.andi v165 v167
  let v154 : BitVec 32 := Scalar.divsi v0 c256_i32
  let c1_i32_73 : BitVec 32 := 1#32
  let v169 : BitVec 32 := Scalar.subi v154 c1_i32_73
  let v170 : BitVec 32 := Scalar.select v168 v169 v154
  let c256_i32_81 : BitVec 32 := 256#32
  let v181 : BitVec 32 := Scalar.muli v170 c256_i32_81
  v181
def k0_off6 (i : grid0.Coords) : Fin 3 → Nat :=
  let c0_82 : Index := 0#32
  let arg1 : BitVec 32 := BitVec.ofNat 32 (i 1).val
  let c128_i32 : BitVec 32 := 128#32
  let v0 : BitVec 32 := Scalar.muli arg1 c128_i32
  let c0_i32_68 : BitVec 32 := 0#32
  let v155 : BitVec 1 := Scalar.cmpi .sgt v0 c0_i32_68
  let v156 : BitVec 32 := Scalar.extui v155
  let c0_i32_69 : BitVec 32 := 0#32
  let v157 : BitVec 1 := Scalar.cmpi .slt v0 c0_i32_69
  let v158 : BitVec 32 := Scalar.extui v157
  let v159 : BitVec 32 := Scalar.subi v156 v158
  let c256_i32 : BitVec 32 := 256#32
  let c0_i32_70 : BitVec 32 := 0#32
  let v160 : BitVec 1 := Scalar.cmpi .sgt c256_i32 c0_i32_70
  let v161 : BitVec 32 := Scalar.extui v160
  let c0_i32_71 : BitVec 32 := 0#32
  let v162 : BitVec 1 := Scalar.cmpi .slt c256_i32 c0_i32_71
  let v163 : BitVec 32 := Scalar.extui v162
  let v164 : BitVec 32 := Scalar.subi v161 v163
  let v165 : BitVec 1 := Scalar.cmpi .ne v159 v164
  let v166 : BitVec 32 := Scalar.remsi v0 c256_i32
  let c0_i32_72 : BitVec 32 := 0#32
  let v167 : BitVec 1 := Scalar.cmpi .ne v166 c0_i32_72
  let v168 : BitVec 1 := Scalar.andi v165 v167
  let v154 : BitVec 32 := Scalar.divsi v0 c256_i32
  let c1_i32_73 : BitVec 32 := 1#32
  let v169 : BitVec 32 := Scalar.subi v154 c1_i32_73
  let v170 : BitVec 32 := Scalar.select v168 v169 v154
  let c256_i32_81 : BitVec 32 := 256#32
  let v181 : BitVec 32 := Scalar.muli v170 c256_i32_81
  let v182 : BitVec 32 := v181
  let v183 : Index := Scalar.indexCast v182
  let c0_83 : Index := 0#32
  ![0, v183.toNat, 0]
def k0_off7 (i : grid0.Coords) : Fin 3 → Nat :=
  let c0_88 : Index := 0#32
  let arg1 : BitVec 32 := BitVec.ofNat 32 (i 1).val
  let c128_i32 : BitVec 32 := 128#32
  let v0 : BitVec 32 := Scalar.muli arg1 c128_i32
  let c0_i32_68 : BitVec 32 := 0#32
  let v155 : BitVec 1 := Scalar.cmpi .sgt v0 c0_i32_68
  let v156 : BitVec 32 := Scalar.extui v155
  let c0_i32_69 : BitVec 32 := 0#32
  let v157 : BitVec 1 := Scalar.cmpi .slt v0 c0_i32_69
  let v158 : BitVec 32 := Scalar.extui v157
  let v159 : BitVec 32 := Scalar.subi v156 v158
  let c256_i32 : BitVec 32 := 256#32
  let c0_i32_70 : BitVec 32 := 0#32
  let v160 : BitVec 1 := Scalar.cmpi .sgt c256_i32 c0_i32_70
  let v161 : BitVec 32 := Scalar.extui v160
  let c0_i32_71 : BitVec 32 := 0#32
  let v162 : BitVec 1 := Scalar.cmpi .slt c256_i32 c0_i32_71
  let v163 : BitVec 32 := Scalar.extui v162
  let v164 : BitVec 32 := Scalar.subi v161 v163
  let v165 : BitVec 1 := Scalar.cmpi .ne v159 v164
  let v166 : BitVec 32 := Scalar.remsi v0 c256_i32
  let c0_i32_72 : BitVec 32 := 0#32
  let v167 : BitVec 1 := Scalar.cmpi .ne v166 c0_i32_72
  let v168 : BitVec 1 := Scalar.andi v165 v167
  let v154 : BitVec 32 := Scalar.divsi v0 c256_i32
  let c1_i32_73 : BitVec 32 := 1#32
  let v169 : BitVec 32 := Scalar.subi v154 c1_i32_73
  let v170 : BitVec 32 := Scalar.select v168 v169 v154
  let c256_i32_81 : BitVec 32 := 256#32
  let v181 : BitVec 32 := Scalar.muli v170 c256_i32_81
  let v182 : BitVec 32 := v181
  let v209 : Index := Scalar.indexCast v182
  let c0_89 : Index := 0#32
  ![0, v209.toNat, 0]
def k0_mult4 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v239 : BitVec 32 := Scalar.subi v0 c512_i32
  let c0_i32_108 : BitVec 32 := 0#32
  let v240 : BitVec 32 := Scalar.maxsi v239 c0_i32_108
  v240
def k0_off8 (i : grid0.Coords) : Fin 3 → Nat :=
  let c0_110 : Index := 0#32
  let arg1 : BitVec 32 := BitVec.ofNat 32 (i 1).val
  let c128_i32 : BitVec 32 := 128#32
  let v0 : BitVec 32 := Scalar.muli arg1 c128_i32
  let c512_i32 : BitVec 32 := 512#32
  let v239 : BitVec 32 := Scalar.subi v0 c512_i32
  let c0_i32_108 : BitVec 32 := 0#32
  let v240 : BitVec 32 := Scalar.maxsi v239 c0_i32_108
  let v241 : BitVec 32 := v240
  let v252 : Index := Scalar.indexCast v241
  let c0_111 : Index := 0#32
  ![0, v252.toNat, 0]
@[reducible] def k0_t4_loop : Scf.Loop 32 :=
  let c0_i32_173 : BitVec 32 := 0#32
  let c64_i32_174 : BitVec 32 := 64#32
  let v445 : BitVec 32 := Scalar.addi c0_i32_173 c64_i32_174
  let c1_i32_175 : BitVec 32 := 1#32
  ⟨c0_i32_173, v445, c1_i32_175⟩
def k0_off9 (k0_t4 : Fin k0_t4_loop.trips) : Fin 2 → Nat :=
  let c0_i32_173 : BitVec 32 := 0#32
  let c1_i32_175 : BitVec 32 := 1#32
  let arg14 : BitVec 32 := Scf.iv c0_i32_173 c1_i32_175 k0_t4
  let v655 : Index := Scalar.indexCast arg14
  let c0_250 : Index := 0#32
  ![v655.toNat, 0]
@[reducible] def k0_t5_loop (i : grid0.Coords) : Scf.Loop 32 :=
  let c0_i32_202 : BitVec 32 := 0#32
  let arg1 : BitVec 32 := BitVec.ofNat 32 (i 1).val
  let c128_i32 : BitVec 32 := 128#32
  let v0 : BitVec 32 := Scalar.muli arg1 c128_i32
  let c0_i32_193 : BitVec 32 := 0#32
  let v470 : BitVec 1 := Scalar.cmpi .sgt v0 c0_i32_193
  let v471 : BitVec 32 := Scalar.extui v470
  let c0_i32_194 : BitVec 32 := 0#32
  let v472 : BitVec 1 := Scalar.cmpi .slt v0 c0_i32_194
  let v473 : BitVec 32 := Scalar.extui v472
  let v474 : BitVec 32 := Scalar.subi v471 v473
  let c256_i32_192 : BitVec 32 := 256#32
  let c0_i32_195 : BitVec 32 := 0#32
  let v475 : BitVec 1 := Scalar.cmpi .sgt c256_i32_192 c0_i32_195
  let v476 : BitVec 32 := Scalar.extui v475
  let c0_i32_196 : BitVec 32 := 0#32
  let v477 : BitVec 1 := Scalar.cmpi .slt c256_i32_192 c0_i32_196
  let v478 : BitVec 32 := Scalar.extui v477
  let v479 : BitVec 32 := Scalar.subi v476 v478
  let v480 : BitVec 1 := Scalar.cmpi .ne v474 v479
  let v481 : BitVec 32 := Scalar.remsi v0 c256_i32_192
  let c0_i32_197 : BitVec 32 := 0#32
  let v482 : BitVec 1 := Scalar.cmpi .ne v481 c0_i32_197
  let v483 : BitVec 1 := Scalar.andi v480 v482
  let v469 : BitVec 32 := Scalar.divsi v0 c256_i32_192
  let c1_i32_198 : BitVec 32 := 1#32
  let v484 : BitVec 32 := Scalar.subi v469 c1_i32_198
  let v485 : BitVec 32 := Scalar.select v483 v484 v469
  let v489 : BitVec 32 := Scalar.subi v485 c0_i32_202
  let c1_i32_203 : BitVec 32 := 1#32
  let v491 : BitVec 32 := Scalar.divsi v489 c1_i32_203
  let v492 : BitVec 32 := Scalar.muli v491 c1_i32_203
  let v493 : BitVec 32 := Scalar.addi c0_i32_202 v492
  let c1_i32_204 : BitVec 32 := 1#32
  ⟨c0_i32_202, v493, c1_i32_204⟩
def k0_mult5 (i : grid0.Coords) (k0_t5 : Fin (k0_t5_loop i).trips) : BitVec 32 :=
  let c0_i32_202 : BitVec 32 := 0#32
  let c1_i32_204 : BitVec 32 := 1#32
  let arg14 : BitVec 32 := Scf.iv c0_i32_202 c1_i32_204 k0_t5
  let c256_i32_250 : BitVec 32 := 256#32
  let v655 : BitVec 32 := Scalar.muli arg14 c256_i32_250
  v655
def k0_off10 (i : grid0.Coords) (k0_t5 : Fin (k0_t5_loop i).trips) : Fin 3 → Nat :=
  let c0_251 : Index := 0#32
  let c0_i32_202 : BitVec 32 := 0#32
  let c1_i32_204 : BitVec 32 := 1#32
  let arg14 : BitVec 32 := Scf.iv c0_i32_202 c1_i32_204 k0_t5
  let c256_i32_250 : BitVec 32 := 256#32
  let v655 : BitVec 32 := Scalar.muli arg14 c256_i32_250
  let v656 : BitVec 32 := v655
  let v657 : Index := Scalar.indexCast v656
  let c128_252 : Index := 128#32
  ![0, v657.toNat, 128]
def k0_off11 (i : grid0.Coords) (k0_t5 : Fin (k0_t5_loop i).trips) : Fin 3 → Nat :=
  let c0_256 : Index := 0#32
  let c0_i32_202 : BitVec 32 := 0#32
  let c1_i32_204 : BitVec 32 := 1#32
  let arg14 : BitVec 32 := Scf.iv c0_i32_202 c1_i32_204 k0_t5
  let c256_i32_250 : BitVec 32 := 256#32
  let v655 : BitVec 32 := Scalar.muli arg14 c256_i32_250
  let v656 : BitVec 32 := v655
  let v676 : Index := Scalar.indexCast v656
  let c0_257 : Index := 0#32
  ![0, v676.toNat, 0]
@[reducible] def k0_t6_loop (i : grid0.Coords) : Scf.Loop 32 :=
  let c0_i32_202 : BitVec 32 := 0#32
  let arg1 : BitVec 32 := BitVec.ofNat 32 (i 1).val
  let c128_i32 : BitVec 32 := 128#32
  let v0 : BitVec 32 := Scalar.muli arg1 c128_i32
  let c0_i32_193 : BitVec 32 := 0#32
  let v470 : BitVec 1 := Scalar.cmpi .sgt v0 c0_i32_193
  let v471 : BitVec 32 := Scalar.extui v470
  let c0_i32_194 : BitVec 32 := 0#32
  let v472 : BitVec 1 := Scalar.cmpi .slt v0 c0_i32_194
  let v473 : BitVec 32 := Scalar.extui v472
  let v474 : BitVec 32 := Scalar.subi v471 v473
  let c256_i32_192 : BitVec 32 := 256#32
  let c0_i32_195 : BitVec 32 := 0#32
  let v475 : BitVec 1 := Scalar.cmpi .sgt c256_i32_192 c0_i32_195
  let v476 : BitVec 32 := Scalar.extui v475
  let c0_i32_196 : BitVec 32 := 0#32
  let v477 : BitVec 1 := Scalar.cmpi .slt c256_i32_192 c0_i32_196
  let v478 : BitVec 32 := Scalar.extui v477
  let v479 : BitVec 32 := Scalar.subi v476 v478
  let v480 : BitVec 1 := Scalar.cmpi .ne v474 v479
  let v481 : BitVec 32 := Scalar.remsi v0 c256_i32_192
  let c0_i32_197 : BitVec 32 := 0#32
  let v482 : BitVec 1 := Scalar.cmpi .ne v481 c0_i32_197
  let v483 : BitVec 1 := Scalar.andi v480 v482
  let v469 : BitVec 32 := Scalar.divsi v0 c256_i32_192
  let c1_i32_198 : BitVec 32 := 1#32
  let v484 : BitVec 32 := Scalar.subi v469 c1_i32_198
  let v485 : BitVec 32 := Scalar.select v483 v484 v469
  let v489 : BitVec 32 := Scalar.subi v485 c0_i32_202
  let c1_i32_203 : BitVec 32 := 1#32
  let v491 : BitVec 32 := Scalar.divsi v489 c1_i32_203
  let v492 : BitVec 32 := Scalar.muli v491 c1_i32_203
  let v493 : BitVec 32 := Scalar.addi c0_i32_202 v492
  let v490 : BitVec 32 := Scalar.addi c0_i32_202 v489
  let c1_i32_205 : BitVec 32 := 1#32
  ⟨v493, v490, c1_i32_205⟩
def k0_mult6 (i : grid0.Coords) (k0_t6 : Fin (k0_t6_loop i).trips) : BitVec 32 :=
  let c0_i32_202 : BitVec 32 := 0#32
  let arg1 : BitVec 32 := BitVec.ofNat 32 (i 1).val
  let c128_i32 : BitVec 32 := 128#32
  let v0 : BitVec 32 := Scalar.muli arg1 c128_i32
  let c0_i32_193 : BitVec 32 := 0#32
  let v470 : BitVec 1 := Scalar.cmpi .sgt v0 c0_i32_193
  let v471 : BitVec 32 := Scalar.extui v470
  let c0_i32_194 : BitVec 32 := 0#32
  let v472 : BitVec 1 := Scalar.cmpi .slt v0 c0_i32_194
  let v473 : BitVec 32 := Scalar.extui v472
  let v474 : BitVec 32 := Scalar.subi v471 v473
  let c256_i32_192 : BitVec 32 := 256#32
  let c0_i32_195 : BitVec 32 := 0#32
  let v475 : BitVec 1 := Scalar.cmpi .sgt c256_i32_192 c0_i32_195
  let v476 : BitVec 32 := Scalar.extui v475
  let c0_i32_196 : BitVec 32 := 0#32
  let v477 : BitVec 1 := Scalar.cmpi .slt c256_i32_192 c0_i32_196
  let v478 : BitVec 32 := Scalar.extui v477
  let v479 : BitVec 32 := Scalar.subi v476 v478
  let v480 : BitVec 1 := Scalar.cmpi .ne v474 v479
  let v481 : BitVec 32 := Scalar.remsi v0 c256_i32_192
  let c0_i32_197 : BitVec 32 := 0#32
  let v482 : BitVec 1 := Scalar.cmpi .ne v481 c0_i32_197
  let v483 : BitVec 1 := Scalar.andi v480 v482
  let v469 : BitVec 32 := Scalar.divsi v0 c256_i32_192
  let c1_i32_198 : BitVec 32 := 1#32
  let v484 : BitVec 32 := Scalar.subi v469 c1_i32_198
  let v485 : BitVec 32 := Scalar.select v483 v484 v469
  let v489 : BitVec 32 := Scalar.subi v485 c0_i32_202
  let c1_i32_203 : BitVec 32 := 1#32
  let v491 : BitVec 32 := Scalar.divsi v489 c1_i32_203
  let v492 : BitVec 32 := Scalar.muli v491 c1_i32_203
  let v493 : BitVec 32 := Scalar.addi c0_i32_202 v492
  let c1_i32_205 : BitVec 32 := 1#32
  let arg14 : BitVec 32 := Scf.iv v493 c1_i32_205 k0_t6
  let c256_i32_250 : BitVec 32 := 256#32
  let v655 : BitVec 32 := Scalar.muli arg14 c256_i32_250
  v655
def k0_off12 (i : grid0.Coords) (k0_t6 : Fin (k0_t6_loop i).trips) : Fin 3 → Nat :=
  let c0_251 : Index := 0#32
  let c0_i32_202 : BitVec 32 := 0#32
  let arg1 : BitVec 32 := BitVec.ofNat 32 (i 1).val
  let c128_i32 : BitVec 32 := 128#32
  let v0 : BitVec 32 := Scalar.muli arg1 c128_i32
  let c0_i32_193 : BitVec 32 := 0#32
  let v470 : BitVec 1 := Scalar.cmpi .sgt v0 c0_i32_193
  let v471 : BitVec 32 := Scalar.extui v470
  let c0_i32_194 : BitVec 32 := 0#32
  let v472 : BitVec 1 := Scalar.cmpi .slt v0 c0_i32_194
  let v473 : BitVec 32 := Scalar.extui v472
  let v474 : BitVec 32 := Scalar.subi v471 v473
  let c256_i32_192 : BitVec 32 := 256#32
  let c0_i32_195 : BitVec 32 := 0#32
  let v475 : BitVec 1 := Scalar.cmpi .sgt c256_i32_192 c0_i32_195
  let v476 : BitVec 32 := Scalar.extui v475
  let c0_i32_196 : BitVec 32 := 0#32
  let v477 : BitVec 1 := Scalar.cmpi .slt c256_i32_192 c0_i32_196
  let v478 : BitVec 32 := Scalar.extui v477
  let v479 : BitVec 32 := Scalar.subi v476 v478
  let v480 : BitVec 1 := Scalar.cmpi .ne v474 v479
  let v481 : BitVec 32 := Scalar.remsi v0 c256_i32_192
  let c0_i32_197 : BitVec 32 := 0#32
  let v482 : BitVec 1 := Scalar.cmpi .ne v481 c0_i32_197
  let v483 : BitVec 1 := Scalar.andi v480 v482
  let v469 : BitVec 32 := Scalar.divsi v0 c256_i32_192
  let c1_i32_198 : BitVec 32 := 1#32
  let v484 : BitVec 32 := Scalar.subi v469 c1_i32_198
  let v485 : BitVec 32 := Scalar.select v483 v484 v469
  let v489 : BitVec 32 := Scalar.subi v485 c0_i32_202
  let c1_i32_203 : BitVec 32 := 1#32
  let v491 : BitVec 32 := Scalar.divsi v489 c1_i32_203
  let v492 : BitVec 32 := Scalar.muli v491 c1_i32_203
  let v493 : BitVec 32 := Scalar.addi c0_i32_202 v492
  let c1_i32_205 : BitVec 32 := 1#32
  let arg14 : BitVec 32 := Scf.iv v493 c1_i32_205 k0_t6
  let c256_i32_250 : BitVec 32 := 256#32
  let v655 : BitVec 32 := Scalar.muli arg14 c256_i32_250
  let v656 : BitVec 32 := v655
  let v657 : Index := Scalar.indexCast v656
  let c128_252 : Index := 128#32
  ![0, v657.toNat, 128]
def k0_off13 (i : grid0.Coords) (k0_t6 : Fin (k0_t6_loop i).trips) : Fin 3 → Nat :=
  let c0_256 : Index := 0#32
  let c0_i32_202 : BitVec 32 := 0#32
  let arg1 : BitVec 32 := BitVec.ofNat 32 (i 1).val
  let c128_i32 : BitVec 32 := 128#32
  let v0 : BitVec 32 := Scalar.muli arg1 c128_i32
  let c0_i32_193 : BitVec 32 := 0#32
  let v470 : BitVec 1 := Scalar.cmpi .sgt v0 c0_i32_193
  let v471 : BitVec 32 := Scalar.extui v470
  let c0_i32_194 : BitVec 32 := 0#32
  let v472 : BitVec 1 := Scalar.cmpi .slt v0 c0_i32_194
  let v473 : BitVec 32 := Scalar.extui v472
  let v474 : BitVec 32 := Scalar.subi v471 v473
  let c256_i32_192 : BitVec 32 := 256#32
  let c0_i32_195 : BitVec 32 := 0#32
  let v475 : BitVec 1 := Scalar.cmpi .sgt c256_i32_192 c0_i32_195
  let v476 : BitVec 32 := Scalar.extui v475
  let c0_i32_196 : BitVec 32 := 0#32
  let v477 : BitVec 1 := Scalar.cmpi .slt c256_i32_192 c0_i32_196
  let v478 : BitVec 32 := Scalar.extui v477
  let v479 : BitVec 32 := Scalar.subi v476 v478
  let v480 : BitVec 1 := Scalar.cmpi .ne v474 v479
  let v481 : BitVec 32 := Scalar.remsi v0 c256_i32_192
  let c0_i32_197 : BitVec 32 := 0#32
  let v482 : BitVec 1 := Scalar.cmpi .ne v481 c0_i32_197
  let v483 : BitVec 1 := Scalar.andi v480 v482
  let v469 : BitVec 32 := Scalar.divsi v0 c256_i32_192
  let c1_i32_198 : BitVec 32 := 1#32
  let v484 : BitVec 32 := Scalar.subi v469 c1_i32_198
  let v485 : BitVec 32 := Scalar.select v483 v484 v469
  let v489 : BitVec 32 := Scalar.subi v485 c0_i32_202
  let c1_i32_203 : BitVec 32 := 1#32
  let v491 : BitVec 32 := Scalar.divsi v489 c1_i32_203
  let v492 : BitVec 32 := Scalar.muli v491 c1_i32_203
  let v493 : BitVec 32 := Scalar.addi c0_i32_202 v492
  let c1_i32_205 : BitVec 32 := 1#32
  let arg14 : BitVec 32 := Scf.iv v493 c1_i32_205 k0_t6
  let c256_i32_250 : BitVec 32 := 256#32
  let v655 : BitVec 32 := Scalar.muli arg14 c256_i32_250
  let v656 : BitVec 32 := v655
  let v676 : Index := Scalar.indexCast v656
  let c0_257 : Index := 0#32
  ![0, v676.toNat, 0]
def k0_mult7 (i : grid0.Coords) : BitVec 32 :=
  let arg1 : BitVec 32 := BitVec.ofNat 32 (i 1).val
  let c128_i32 : BitVec 32 := 128#32
  let v0 : BitVec 32 := Scalar.muli arg1 c128_i32
  let c0_i32_193 : BitVec 32 := 0#32
  let v470 : BitVec 1 := Scalar.cmpi .sgt v0 c0_i32_193
  let v471 : BitVec 32 := Scalar.extui v470
  let c0_i32_194 : BitVec 32 := 0#32
  let v472 : BitVec 1 := Scalar.cmpi .slt v0 c0_i32_194
  let v473 : BitVec 32 := Scalar.extui v472
  let v474 : BitVec 32 := Scalar.subi v471 v473
  let c256_i32_192 : BitVec 32 := 256#32
  let c0_i32_195 : BitVec 32 := 0#32
  let v475 : BitVec 1 := Scalar.cmpi .sgt c256_i32_192 c0_i32_195
  let v476 : BitVec 32 := Scalar.extui v475
  let c0_i32_196 : BitVec 32 := 0#32
  let v477 : BitVec 1 := Scalar.cmpi .slt c256_i32_192 c0_i32_196
  let v478 : BitVec 32 := Scalar.extui v477
  let v479 : BitVec 32 := Scalar.subi v476 v478
  let v480 : BitVec 1 := Scalar.cmpi .ne v474 v479
  let v481 : BitVec 32 := Scalar.remsi v0 c256_i32_192
  let c0_i32_197 : BitVec 32 := 0#32
  let v482 : BitVec 1 := Scalar.cmpi .ne v481 c0_i32_197
  let v483 : BitVec 1 := Scalar.andi v480 v482
  let v469 : BitVec 32 := Scalar.divsi v0 c256_i32_192
  let c1_i32_198 : BitVec 32 := 1#32
  let v484 : BitVec 32 := Scalar.subi v469 c1_i32_198
  let v485 : BitVec 32 := Scalar.select v483 v484 v469
  let c256_i32_206 : BitVec 32 := 256#32
  let v496 : BitVec 32 := Scalar.muli v485 c256_i32_206
  v496
def k0_off14 (i : grid0.Coords) : Fin 3 → Nat :=
  let c0_207 : Index := 0#32
  let arg1 : BitVec 32 := BitVec.ofNat 32 (i 1).val
  let c128_i32 : BitVec 32 := 128#32
  let v0 : BitVec 32 := Scalar.muli arg1 c128_i32
  let c0_i32_193 : BitVec 32 := 0#32
  let v470 : BitVec 1 := Scalar.cmpi .sgt v0 c0_i32_193
  let v471 : BitVec 32 := Scalar.extui v470
  let c0_i32_194 : BitVec 32 := 0#32
  let v472 : BitVec 1 := Scalar.cmpi .slt v0 c0_i32_194
  let v473 : BitVec 32 := Scalar.extui v472
  let v474 : BitVec 32 := Scalar.subi v471 v473
  let c256_i32_192 : BitVec 32 := 256#32
  let c0_i32_195 : BitVec 32 := 0#32
  let v475 : BitVec 1 := Scalar.cmpi .sgt c256_i32_192 c0_i32_195
  let v476 : BitVec 32 := Scalar.extui v475
  let c0_i32_196 : BitVec 32 := 0#32
  let v477 : BitVec 1 := Scalar.cmpi .slt c256_i32_192 c0_i32_196
  let v478 : BitVec 32 := Scalar.extui v477
  let v479 : BitVec 32 := Scalar.subi v476 v478
  let v480 : BitVec 1 := Scalar.cmpi .ne v474 v479
  let v481 : BitVec 32 := Scalar.remsi v0 c256_i32_192
  let c0_i32_197 : BitVec 32 := 0#32
  let v482 : BitVec 1 := Scalar.cmpi .ne v481 c0_i32_197
  let v483 : BitVec 1 := Scalar.andi v480 v482
  let v469 : BitVec 32 := Scalar.divsi v0 c256_i32_192
  let c1_i32_198 : BitVec 32 := 1#32
  let v484 : BitVec 32 := Scalar.subi v469 c1_i32_198
  let v485 : BitVec 32 := Scalar.select v483 v484 v469
  let c256_i32_206 : BitVec 32 := 256#32
  let v496 : BitVec 32 := Scalar.muli v485 c256_i32_206
  let v497 : BitVec 32 := v496
  let v498 : Index := Scalar.indexCast v497
  let c128_208 : Index := 128#32
  ![0, v498.toNat, 128]
def k0_mult8 (i : grid0.Coords) : BitVec 32 :=
  let arg1 : BitVec 32 := BitVec.ofNat 32 (i 1).val
  let c128_i32 : BitVec 32 := 128#32
  let v0 : BitVec 32 := Scalar.muli arg1 c128_i32
  let c512_i32_233 : BitVec 32 := 512#32
  let v554 : BitVec 32 := Scalar.subi v0 c512_i32_233
  let c0_i32_234 : BitVec 32 := 0#32
  let v555 : BitVec 32 := Scalar.maxsi v554 c0_i32_234
  v555
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Proof.MmRes.Value.lean ====
module

public import proofs.«01_k».proof.Proof.Gen.MmResIdeal.Value
public import proofs.«01_k».proof.Proof.Gen.MmResRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MmResIdeal.Value

open Cert.MmResIdeal Cert.MmResIdeal.Gen

variable (m : (ℓ : Loc nD τ sig) → Buf (Elt Ideal) ℓ)

/-- The reference's result as a function of the three argument arrays: residual plus product. -/
def REF (A : FVec Ideal S32768x1024 .bf16) (W : FVec Ideal S1x1024x1024 .f32) (R : FVec Ideal S32768x1024 .f32) :
    FVec Ideal S32768x1024 .f32 :=
  addf R (Host.dotGeneral (F := Ideal) (φ₁ := .f32) (φ₂ := .f32) Cert.MmResRefIdeal.dot_S32768x1024_S1024x1024_S32768x1024_1_0_0_1_n_n none
    (extf .f32 A Cert.MmResRefIdeal.Gen.bitsLt_bf16_f32)
    (shapeCast _ W Cert.MmResRefIdeal.Gen.shapeCasts_S1x1024x1024_S1024x1024))

/-- The block index of every window at every grid point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- What grid point `t` stores at index `y` of its block is the reference's value at the array index there. -/
theorem point (c : Dev nD) (t : Fin cfg0.N) (y : S256x1024.Idx) :
    k0_pay1 (F := Ideal) (iblk m c 2 t) (iblk m c 0 t) (iblk m c 1 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The result array after the run is the reference's function of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.MmResIdeal.Value

end
-- ==== Proof.MmRes.Claim.lean ====
module

public import proofs.«01_k».proof.Defs
public import proofs.«01_k».proof.Proof.MmRes.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.MmResIdeal.Value

/-- The reference runs to the end, leaves its arguments as they were and every semaphore counter at zero. -/
theorem still : Cert.quiescent_MmResRefIdeal := by
  intro m g _
  refine (θ_run _ _ _).mono (fun r h => ⟨fun c => ?_, sem_eq_zero_of_no_sems (sig := Cert.MmResRefIdeal.sig) (by decide) r.2⟩) (Cert.MmResRefIdeal.Value.run m g)
  obtain ⟨_, kr⟩ := h c
  exact kr

/-- Over the extended reals the kernel and the reference, started on the same arguments, both run to the end, leave
    the arguments as they were and end with equal results. -/
theorem agree : Cert.algebraic_MmResIdeal_MmResRefIdeal := by
  intro m g m' g' _ hag
  refine ⟨fun c => Cert.MmResIdeal.Value.REF (m ((c.tc : Thread Cert.MmResIdeal.nD Cert.MmResIdeal.τ).loc Cert.MmResIdeal.main_arg0)) (m ((c.tc : Thread Cert.MmResIdeal.nD Cert.MmResIdeal.τ).loc Cert.MmResIdeal.main_arg1)) (m ((c.tc : Thread Cert.MmResIdeal.nD Cert.MmResIdeal.τ).loc Cert.MmResIdeal.main_arg2)),
    (θ_run _ _ _).mono (fun _ h c => ?_) (Cert.MmResIdeal.Value.run_blocks m g),
    (θ_run _ _ _).mono (fun _ h c => ?_) (Cert.MmResRefIdeal.Value.run m' g')⟩
  · obtain ⟨k0, kr⟩ := h c
    exact ⟨k0.trans (final m c), kr⟩
  · obtain ⟨k0, kr⟩ := h c
    obtain ⟨h0, h1, h2⟩ := hag c
    have ek0 : Cert.MmResIdeal.Value.REF (m' ((c.tc : Thread Cert.MmResRefIdeal.nD Cert.MmResRefIdeal.τ).loc Cert.MmResRefIdeal.main_arg0)) (m' ((c.tc : Thread Cert.MmResRefIdeal.nD Cert.MmResRefIdeal.τ).loc Cert.MmResRefIdeal.main_arg1)) (m' ((c.tc : Thread Cert.MmResRefIdeal.nD Cert.MmResRefIdeal.τ).loc Cert.MmResRefIdeal.main_arg2))
        = Cert.MmResIdeal.Value.REF (m ((c.tc : Thread Cert.MmResIdeal.nD Cert.MmResIdeal.τ).loc Cert.MmResIdeal.main_arg0)) (m ((c.tc : Thread Cert.MmResIdeal.nD Cert.MmResIdeal.τ).loc Cert.MmResIdeal.main_arg1)) (m ((c.tc : Thread Cert.MmResIdeal.nD Cert.MmResIdeal.τ).loc Cert.MmResIdeal.main_arg2)) := by
      rw [h0, h1, h2]
    exact ⟨(k0.trans (by rfl)).trans ek0, kr⟩

end Cert.MmResIdeal.Value

end
-- ==== Proof.NormMm.Value.lean ====
module

public import proofs.«01_k».proof.Proof.Gen.NormMmIdeal.Value
public import proofs.«01_k».proof.Proof.Gen.NormMmRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormMmRefIdeal.Value

open Cert.NormMmRefIdeal Cert.NormMmRefIdeal.Gen

/-- The root mean square normalization of every row, scaled by the gains. -/
def RMS (X : FVec Ideal S8x256x1024 .f32) (g : FVec Ideal S1x1024 .f32) : FVec Ideal S8x256x1024 .f32 :=
  mulf (mulf X (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X X) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ g shapeCasts_S1x1024_S1024)))

/-- A product of normalized rows with a weight. -/
def MM (X : FVec Ideal S8x256x1024 .f32) (W : FVec Ideal S1x1024x1024 .f32) : FVec Ideal S8x256x1024 .f32 :=
  Host.dotGeneral (F := Ideal) (φ₁ := .f32) (φ₂ := .f32) dot_S8x256x1024_S1024x1024_S8x256x1024_2_0_01_1_n_n none X (shapeCast _ W shapeCasts_S1x1024x1024_S1024x1024)

/-- The reference's result: the keys and the values of every memory row, side by side. -/
def REF (X : FVec Ideal S8x256x1024 .f32) (g : FVec Ideal S1x1024 .f32) (K V : FVec Ideal S1x1024x1024 .f32) : FVec Ideal S2048x2048 .f32 :=
  shapeCast _ (concatenate S8x256x2048 2 [⟨S8x256x1024, MM (RMS X g) K⟩, ⟨S8x256x1024, MM (RMS X g) V⟩] concatenates_S8x256x1024_S8x256x1024_S8x256x2048_d2) shapeCasts_S8x256x2048_S2048x2048

/-- The normalization at an index. -/
theorem rms_apply (X g b i d) : RMS X g (ix3 b i d) = X (ix3 b i d) * Ideal.rsqrt (Ideal.div (∑ k, X (ix3 b i k) * X (ix3 b i k)) (Ideal.ofBits .f32 0x44800000#32) + Ideal.ofBits .f32 0x358637BD#32) * g (ix2 0 d) := by
  pointwise [RMS]
/-- The product at an index. -/
theorem mm_apply (X W b i n) : MM X W (ix3 b i n) = ∑ k, X (ix3 b i k) * W (ix3 0 k n) := by
  pointwise [MM]

/-- One output column: a row normalized, scaled by the gains and multiplied into a weight column. -/
def col (x g w : Fin 1024 → EReal) : EReal :=
  ∑ k, x k * Ideal.rsqrt (Ideal.div (∑ k, x k * x k) (Ideal.ofBits .f32 0x44800000#32) + Ideal.ofBits .f32 0x358637BD#32) * g k * w k

/-- The reference's result at an index of its left half. -/
theorem ref_left (X g K V) (r : Fin 2048) (n : Fin 1024) : REF X g K V (ix2 r ⟨n.val, by omega⟩)
    = col (fun k => X (ix3 ⟨r.val / 256, by omega⟩ ⟨r.val % 256, by omega⟩ k)) (fun k => g (ix2 0 k)) (fun k => K (ix3 0 k n)) := by
  pointwise [REF]
  simp only [mm_apply, rms_apply]
  rfl

/-- The reference's result at an index of its right half. -/
theorem ref_right (X g K V) (r : Fin 2048) (n : Fin 1024) : REF X g K V (ix2 r ⟨1024 + n.val, by omega⟩)
    = col (fun k => X (ix3 ⟨r.val / 256, by omega⟩ ⟨r.val % 256, by omega⟩ k)) (fun k => g (ix2 0 k)) (fun k => V (ix3 0 k n)) := by
  pointwise [REF]
  simp only [mm_apply, rms_apply]
  rfl

end Cert.NormMmRefIdeal.Value

namespace Cert.NormMmIdeal.Value

open Cert.NormMmIdeal Cert.NormMmIdeal.Gen Cert.NormMmRefIdeal.Value

variable (m : (ℓ : Loc nD τ sig) → Buf (Elt Ideal) ℓ)

/-- The block index of every window at every grid point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- The kernel's block at an index, from its three input blocks. -/
theorem pay_apply (a g w i n) : k0_pay1 (F := Ideal) a g w (ix2 i n)
    = col (fun k => a (ix2 i k)) (fun k => g (ix2 0 k)) (fun k => w (ix2 k n)) := by
  pointwise [k0_pay1]
  rfl

/-- The memory rows the region reads, at an index. -/
theorem v4_apply (c : Dev nD) (r : Fin 2048) (k : Fin 1024) : V m c main_v4 (ix2 r k)
    = m ((c : Thread nD τ).loc main_arg0) (ix3 ⟨r.val / 256, by omega⟩ ⟨r.val % 256, by omega⟩ k) := by
  entry_read; pointwise

/-- The gains the region reads, at an index. -/
theorem v6_apply (c : Dev nD) (k : Fin 1024) : V m c main_v6 (ix2 0 k) = m ((c : Thread nD τ).loc main_arg1) (ix2 0 k) := by
  entry_read; pointwise

/-- The left half of the weights the region reads. -/
theorem v3_left (c : Dev nD) (k : Fin 1024) (n : Fin 1024) : V m c main_v3 (ix2 k ⟨n.val, by omega⟩)
    = m ((c : Thread nD τ).loc main_arg2) (ix3 0 k n) := by
  entry_read; pointwise

/-- The right half of the weights the region reads. -/
theorem v3_right (c : Dev nD) (k : Fin 1024) (n : Fin 1024) : V m c main_v3 (ix2 k ⟨1024 + n.val, by omega⟩)
    = m ((c : Thread nD τ).loc main_arg3) (ix3 0 k n) := by
  entry_read; pointwise

/-- A row block at an index is the array's row there. -/
theorem blk0 (c : Dev nD) (t : Fin cfg0.N) (i : Fin 256) (k : Fin 1024) (r : Fin 2048) (hr : r.val = t.val * 256 + i.val) :
    iblk m c 0 t (ix2 i k) = m ((c : Thread nD τ).loc main_arg0) (ix3 ⟨r.val / 256, by omega⟩ ⟨r.val % 256, by omega⟩ k) :=
  Eq.trans (b := V m c main_v4 (ix2 r k)) (by blk_ext [iblk, idx t, hr]) (v4_apply m c r k)

/-- The gains' block is the whole row. -/
theorem blk1 (c : Dev nD) (t : Fin cfg0.N) (k : Fin 1024) : iblk m c 1 t (ix2 0 k) = m ((c : Thread nD τ).loc main_arg1) (ix2 0 k) :=
  Eq.trans (b := V m c main_v6 (ix2 0 k)) (by blk_ext [iblk, idx t]) (v6_apply m c k)

/-- The weights' block, its left half. -/
theorem blk2_left (c : Dev nD) (t : Fin cfg0.N) (k : Fin 1024) (n : Fin 1024) : iblk m c 2 t (ix2 k ⟨n.val, by omega⟩)
    = m ((c : Thread nD τ).loc main_arg2) (ix3 0 k n) :=
  Eq.trans (b := V m c main_v3 (ix2 k ⟨n.val, by omega⟩)) (by blk_ext [iblk, idx t]) (v3_left m c k n)

/-- The weights' block, its right half. -/
theorem blk2_right (c : Dev nD) (t : Fin cfg0.N) (k : Fin 1024) (n : Fin 1024) : iblk m c 2 t (ix2 k ⟨1024 + n.val, by omega⟩)
    = m ((c : Thread nD τ).loc main_arg3) (ix3 0 k n) :=
  Eq.trans (b := V m c main_v3 (ix2 k ⟨1024 + n.val, by omega⟩)) (by blk_ext [iblk, idx t]) (v3_right m c k n)

/-- A column lies in the left or in the right half. -/
theorem halves (n : Fin 2048) : (∃ a : Fin 1024, n = ⟨a.val, by omega⟩) ∨ (∃ a : Fin 1024, n = ⟨1024 + a.val, by omega⟩) := by
  by_cases h : n.val < 1024
  · exact .inl ⟨⟨n.val, h⟩, rfl⟩
  · exact .inr ⟨⟨n.val - 1024, by omega⟩, Fin.ext (by dsimp only; omega)⟩

/-- The result array after the run is the reference's function of the arguments. -/
theorem final (c : Dev nD) : (dats m 0 c).arrAt 3 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]; frame_out
  obtain ⟨i, n, rfl⟩ : ∃ i n, y = ix2 i n := ⟨_, _, eq_ix2 y⟩
  refine (pay_apply _ _ _ i n).trans ?_
  have ht := lt_of_lt_of_eq t.isLt N_0
  have he : ((cfg0.win 3).blk t).view.emb (ix2 i n) = ix2 ⟨t.val * 256 + i.val, by omega⟩ n := by
    funext k
    match k with
    | ⟨0, _⟩ => refine Fin.ext ?_; blk_simp [idx t]
    | ⟨1, _⟩ => refine Fin.ext ?_; blk_simp [idx t]
  rw [he]
  have e0 := fun k => blk0 m c t i k ⟨t.val * 256 + i.val, by omega⟩ rfl
  simp only [e0, blk1]
  obtain ⟨n', rfl⟩ | ⟨n', rfl⟩ := halves n
  · rw [ref_left]
    simp only [blk2_left]
  · rw [ref_right]
    simp only [blk2_right]

end Cert.NormMmIdeal.Value

end
-- ==== Proof.NormMm.Claim.lean ====
module

public import proofs.«01_k».proof.Defs
public import proofs.«01_k».proof.Proof.NormMm.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.NormMmIdeal.Value

/-- The reference runs to the end, leaves its arguments as they were and every semaphore counter at zero. -/
theorem still : Cert.quiescent_NormMmRefIdeal := by
  intro m g _
  refine (θ_run _ _ _).mono (fun r h => ⟨fun c => ?_, sem_eq_zero_of_no_sems (sig := Cert.NormMmRefIdeal.sig) (by decide) r.2⟩) (Cert.NormMmRefIdeal.Value.run m g)
  obtain ⟨_, kr⟩ := h c
  exact kr

/-- Over the extended reals the kernel and the reference, started on the same arguments, both run to the end, leave
    the arguments as they were and end with equal results. -/
theorem agree : Cert.algebraic_NormMmIdeal_NormMmRefIdeal := by
  intro m g m' g' _ hag
  refine ⟨fun c => Cert.NormMmRefIdeal.Value.REF (m ((c.tc : Thread Cert.NormMmIdeal.nD Cert.NormMmIdeal.τ).loc Cert.NormMmIdeal.main_arg0)) (m ((c.tc : Thread Cert.NormMmIdeal.nD Cert.NormMmIdeal.τ).loc Cert.NormMmIdeal.main_arg1)) (m ((c.tc : Thread Cert.NormMmIdeal.nD Cert.NormMmIdeal.τ).loc Cert.NormMmIdeal.main_arg2)) (m ((c.tc : Thread Cert.NormMmIdeal.nD Cert.NormMmIdeal.τ).loc Cert.NormMmIdeal.main_arg3)),
    (θ_run _ _ _).mono (fun _ h c => ?_) (Cert.NormMmIdeal.Value.run_blocks m g),
    (θ_run _ _ _).mono (fun _ h c => ?_) (Cert.NormMmRefIdeal.Value.run m' g')⟩
  · obtain ⟨k0, kr⟩ := h c
    exact ⟨k0.trans (final m c), kr⟩
  · obtain ⟨k0, kr⟩ := h c
    obtain ⟨h0, h1, h2, h3⟩ := hag c
    have ek0 : Cert.NormMmRefIdeal.Value.REF (m' ((c.tc : Thread Cert.NormMmRefIdeal.nD Cert.NormMmRefIdeal.τ).loc Cert.NormMmRefIdeal.main_arg0)) (m' ((c.tc : Thread Cert.NormMmRefIdeal.nD Cert.NormMmRefIdeal.τ).loc Cert.NormMmRefIdeal.main_arg1)) (m' ((c.tc : Thread Cert.NormMmRefIdeal.nD Cert.NormMmRefIdeal.τ).loc Cert.NormMmRefIdeal.main_arg2)) (m' ((c.tc : Thread Cert.NormMmRefIdeal.nD Cert.NormMmRefIdeal.τ).loc Cert.NormMmRefIdeal.main_arg3))
        = Cert.NormMmRefIdeal.Value.REF (m ((c.tc : Thread Cert.NormMmIdeal.nD Cert.NormMmIdeal.τ).loc Cert.NormMmIdeal.main_arg0)) (m ((c.tc : Thread Cert.NormMmIdeal.nD Cert.NormMmIdeal.τ).loc Cert.NormMmIdeal.main_arg1)) (m ((c.tc : Thread Cert.NormMmIdeal.nD Cert.NormMmIdeal.τ).loc Cert.NormMmIdeal.main_arg2)) (m ((c.tc : Thread Cert.NormMmIdeal.nD Cert.NormMmIdeal.τ).loc Cert.NormMmIdeal.main_arg3)) := by
      rw [h0, h1, h2, h3]
    exact ⟨(k0.trans (by rfl)).trans ek0, kr⟩

end Cert.NormMmIdeal.Value

end
-- ==== Proof.Ca.Value.lean ====
module

public import proofs.«01_k».proof.Proof.Gen.CaIdeal.Value
public import proofs.«01_k».proof.Proof.Gen.CaRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CaRefIdeal.Value

open Cert.CaRefIdeal Cert.CaRefIdeal.Gen

/-- The scores of every query against every memory row, per batch and head. -/
def SC (Q : FVec Ideal S8x4096x1024 .bf16) (K : FVec Ideal S8x256x1024 .f32) : FVec Ideal S8x4x4096x256 .f32 :=
  Host.dotGeneral (F := Ideal) (φ₁ := .f32) (φ₂ := .f32) dot_S8x4096x4x256_S8x256x4x256_S8x4x4096x256_3_3_1_1_02_02 none
    (shapeCast _ (extf .f32 Q bitsLt_bf16_f32) shapeCasts_S8x4096x1024_S8x4096x4x256)
    (shapeCast _ K shapeCasts_S8x256x1024_S8x256x4x256)

/-- The exponentials of the scores less their row's maximum. -/
def EX (s : FVec Ideal S8x4x4096x256 .f32) : FVec Ideal S8x4x4096x256 .f32 :=
  Host.exp (subf s (broadcastInDim S8x4x4096x256 ![0, 1, 2, 3] bcast_S8x4x4096x1_S8x4x4096x256_0_1_2_3
    (broadcastInDim S8x4x4096x1 ![0, 1, 2] bcast_S8x4x4096_S8x4x4096x1_0_1_2
      (maximumf (broadcastInDim S8x4x4096 ![] bcast_S_S8x4x4096 (constant S_ .f32 0xFF800000#32))
        (Host.reduce FloatOps.maximumf s (constant S_ .f32 0xFF800000#32) reducesTo_S8x4x4096x256_S8x4x4096_d3 h_S_)))))

/-- The softmax weights: the exponentials over their row's sum. -/
def SM (e : FVec Ideal S8x4x4096x256 .f32) : FVec Ideal S8x4x4096x256 .f32 :=
  Host.divf e (broadcastInDim S8x4x4096x256 ![0, 1, 2, 3] bcast_S8x4x4096x1_S8x4x4096x256_0_1_2_3
    (broadcastInDim S8x4x4096x1 ![0, 1, 2] bcast_S8x4x4096_S8x4x4096x1_0_1_2
      (Host.reduceAdd e (constant S_ .f32 0x00000000#32) reducesTo_S8x4x4096x256_S8x4x4096_d3 h_S_)))

/-- The reference's result: the weighted sums of the value rows, heads side by side. -/
def REF (Q : FVec Ideal S8x4096x1024 .bf16) (K V : FVec Ideal S8x256x1024 .f32) : FVec Ideal S8x4096x1024 .bf16 :=
  truncf .bf16 (shapeCast _ (transpose S8x4096x4x256 [0, 3, 1, 2]
    (Host.dotGeneral (F := Ideal) (φ₁ := .f32) (φ₂ := .f32) dot_S8x256x4x256_S8x4x4096x256_S8x4x256x4096_1_3_3_2_02_01 none
      (shapeCast _ V shapeCasts_S8x256x1024_S8x256x4x256) (SM (EX (SC Q K))))
    transposes_S8x4x256x4096_S8x4096x4x256_0_3_1_2) shapeCasts_S8x4096x4x256_S8x4096x1024) bitsLt_bf16_f32

/-- The greatest of a start value and a fold of `max` from that start value is the fold. -/
theorem max_fold {ι : Type} (b : EReal) (f : ι → EReal) (s : Finset ι) :
    max b (Finset.fold max b f s) = Finset.fold max b f s :=
  max_eq_right ((Finset.le_fold_max _).2 (Or.inl le_rfl))

/-- The softmax weight of entry `x` of a row of scores. -/
def wt (s : Fin 256 → EReal) (x : Fin 256) : EReal :=
  Ideal.div (Ideal.exp (s x - Finset.fold max (Ideal.ofBits FTy.f32 0xFF800000#32) s Finset.univ))
    (∑ x, Ideal.exp (s x - Finset.fold max (Ideal.ofBits FTy.f32 0xFF800000#32) s Finset.univ))

/-- One output of attention: the query row `q` against the memory rows `k`, softmax over the rows, and the
    weighted sum of the rows' values `v`. -/
def att (q : Fin 256 → EReal) (k : Fin 256 → Fin 256 → EReal) (v : Fin 256 → EReal) : EReal :=
  ∑ x, wt (fun x => ∑ d, q d * k x d) x * v x

/-- The column of lane `d` of head `h`. -/
def hcol (h : Fin 4) (d : Fin 256) : Fin 1024 := ⟨h.val * 256 + d.val, by omega⟩

/-- The score products at an index, from the head-split operands. -/
theorem qk_apply (A : FVec Ideal S8x4096x4x256 .f32) (B : FVec Ideal S8x256x4x256 .f32) (b : Fin 8) (h : Fin 4) (i : Fin 4096) (x : Fin 256) :
    Host.dotGeneral (F := Ideal) (φ₁ := .f32) (φ₂ := .f32) dot_S8x4096x4x256_S8x256x4x256_S8x4x4096x256_3_3_1_1_02_02 none
      A B (ix4 b h i x) = ∑ d, A (ix4 b i h d) * B (ix4 b x h d) := by
  pointwise

/-- The head-split queries at an index. -/
theorem q_apply (Q : FVec Ideal S8x4096x1024 .bf16) (b : Fin 8) (h : Fin 4) (i : Fin 4096) (d : Fin 256) :
    shapeCast S8x4096x4x256 (extf .f32 Q bitsLt_bf16_f32) shapeCasts_S8x4096x1024_S8x4096x4x256 (ix4 b i h d) = Q (ix3 b i (hcol h d)) := by
  pointwise [hcol]

/-- The head-split memory rows at an index. -/
theorem k_apply (K : FVec Ideal S8x256x1024 .f32) (b : Fin 8) (h : Fin 4) (x : Fin 256) (d : Fin 256) :
    shapeCast S8x256x4x256 K shapeCasts_S8x256x1024_S8x256x4x256 (ix4 b x h d) = K (ix3 b x (hcol h d)) := by
  pointwise [hcol]

/-- The scores at an index. -/
theorem sc_apply (Q : FVec Ideal S8x4096x1024 .bf16) (K : FVec Ideal S8x256x1024 .f32) (b : Fin 8) (h : Fin 4) (i : Fin 4096) (x : Fin 256) :
    SC Q K (ix4 b h i x) = ∑ d, Q (ix3 b i (hcol h d)) * K (ix3 b x (hcol h d)) := by
  rw [SC, qk_apply]
  simp only [q_apply, k_apply]

/-- The row maximum at an index. -/
theorem red_apply (s : FVec Ideal S8x4x4096x256 .f32) (b : Fin 8) (h : Fin 4) (i : Fin 4096) :
    Host.reduce FloatOps.maximumf s (constant S_ .f32 0xFF800000#32) reducesTo_S8x4x4096x256_S8x4x4096_d3 h_S_ (ix3 b h i)
    = Finset.fold max (Ideal.ofBits FTy.f32 0xFF800000#32) (fun x => s (ix4 b h i x)) Finset.univ := by
  pointwise

/-- The maximum with a filled array at an index. -/
theorem mx_apply (r : FVec Ideal S8x4x4096 .f32) (b : Fin 8) (h : Fin 4) (i : Fin 4096) :
    maximumf (broadcastInDim S8x4x4096 ![] bcast_S_S8x4x4096 (constant (F := Ideal) S_ .f32 0xFF800000#32)) r (ix3 b h i)
    = max (Ideal.ofBits FTy.f32 0xFF800000#32) (r (ix3 b h i)) := by
  pointwise

/-- A value per row, repeated along the row, at an index. -/
theorem bb_apply (r : FVec Ideal S8x4x4096 .f32) (b : Fin 8) (h : Fin 4) (i : Fin 4096) (x : Fin 256) :
    broadcastInDim S8x4x4096x256 ![0, 1, 2, 3] bcast_S8x4x4096x1_S8x4x4096x256_0_1_2_3
      (broadcastInDim S8x4x4096x1 ![0, 1, 2] bcast_S8x4x4096_S8x4x4096x1_0_1_2 r) (ix4 b h i x) = r (ix3 b h i) := by
  pointwise

/-- The exponential of a difference at an index. -/
theorem xs_apply (s r : FVec Ideal S8x4x4096x256 .f32) (j : S8x4x4096x256.Idx) :
    Host.exp (subf s r) j = Ideal.exp (s j - r j) := rfl

/-- The exponentials at an index. -/
theorem ex_apply (s : FVec Ideal S8x4x4096x256 .f32) (b : Fin 8) (h : Fin 4) (i : Fin 4096) (x : Fin 256) :
    EX s (ix4 b h i x) = Ideal.exp (s (ix4 b h i x) - Finset.fold max (Ideal.ofBits FTy.f32 0xFF800000#32) (fun x => s (ix4 b h i x)) Finset.univ) := by
  rw [EX, xs_apply, bb_apply, mx_apply, red_apply, max_fold]

/-- The softmax weights at an index. -/
theorem sm_apply (e : FVec Ideal S8x4x4096x256 .f32) (b : Fin 8) (h : Fin 4) (i : Fin 4096) (x : Fin 256) :
    SM e (ix4 b h i x) = Ideal.div (e (ix4 b h i x)) (∑ x, e (ix4 b h i x)) := by
  pointwise [SM]

/-- The softmax of the scores at an index, as one `wt`. -/
theorem w_apply (Q : FVec Ideal S8x4096x1024 .bf16) (K : FVec Ideal S8x256x1024 .f32) (b : Fin 8) (h : Fin 4) (i : Fin 4096) (x : Fin 256) :
    SM (EX (SC Q K)) (ix4 b h i x) = wt (fun x => ∑ d, Q (ix3 b i (hcol h d)) * K (ix3 b x (hcol h d))) x := by
  rw [sm_apply]
  simp only [ex_apply, sc_apply]
  rfl

/-- The value products and the reference's trailing layout at an index. -/
theorem pv_apply (V : FVec Ideal S8x256x1024 .f32) (w : FVec Ideal S8x4x4096x256 .f32) (b : Fin 8) (h : Fin 4) (i : Fin 4096) (d : Fin 256) :
    truncf .bf16 (shapeCast S8x4096x1024 (transpose S8x4096x4x256 [0, 3, 1, 2]
    (Host.dotGeneral (F := Ideal) (φ₁ := .f32) (φ₂ := .f32) dot_S8x256x4x256_S8x4x4096x256_S8x4x256x4096_1_3_3_2_02_01 none
      (shapeCast _ V shapeCasts_S8x256x1024_S8x256x4x256) w)
    transposes_S8x4x256x4096_S8x4096x4x256_0_3_1_2) shapeCasts_S8x4096x4x256_S8x4096x1024) bitsLt_bf16_f32 (ix3 b i (hcol h d))
    = ∑ x, w (ix4 b h i x) * V (ix3 b x (hcol h d)) := by
  pointwise [hcol]
  refine Finset.sum_congr rfl fun x _ => ?_
  rw [mul_comm]
  blk_ext

/-- The reference's result at an index, as one `att`. -/
theorem ref_apply (Q : FVec Ideal S8x4096x1024 .bf16) (K V : FVec Ideal S8x256x1024 .f32) (b : Fin 8) (i : Fin 4096) (h : Fin 4) (d : Fin 256) :
    REF Q K V (ix3 b i (hcol h d)) = att (fun d => Q (ix3 b i (hcol h d))) (fun x d => K (ix3 b x (hcol h d))) (fun x => V (ix3 b x (hcol h d))) := by
  unfold REF
  rw [pv_apply]
  simp only [w_apply]
  rfl

end Cert.CaRefIdeal.Value

namespace Cert.CaIdeal.Value

open Cert.CaIdeal Cert.CaIdeal.Gen Cert.CaRefIdeal.Value

variable (m : (ℓ : Loc nD τ sig) → Buf (Elt Ideal) ℓ)

/-- The block index of every window at every grid point. -/
theorem idx : ∀ t : Fin cfg0.N, win0_0.index t = ![t.val / 16, t.val % 16, 0] ∧ win0_1.index t = ![t.val / 16, 0, 0]
    ∧ win0_2.index t = ![t.val / 16, 0, 0] ∧ win0_3.index t = ![t.val / 16, t.val % 16, 0] :=
  (by decide +kernel : ∀ t : Fin grid0.N, _)

/-- One head of the kernel's block at an index: the first head. -/
theorem pay2_apply (a b v) (i j : Fin 256) : k0_pay2 (F := Ideal) a b v (ix2 i j)
    = att (fun d => a (ix3 0 i d)) (fun x d => b (ix3 0 x d)) (fun x => v (ix3 0 x j)) := by
  pointwise [k0_pay2]
  rfl

/-- The second head. -/
theorem pay4_apply (a b v) (i j : Fin 256) : k0_pay4 (F := Ideal) (k0_pay3 a b) v (ix2 i j)
    = att (fun d => a (ix3 0 i d)) (fun x d => b (ix3 0 x d)) (fun x => v (ix3 0 x j)) := by
  pointwise [k0_pay4, k0_pay3]
  rfl

/-- The third head. -/
theorem pay5_apply (a b v) (i j : Fin 256) : k0_pay5 (F := Ideal) a b v (ix2 i j)
    = att (fun d => a (ix3 0 i d)) (fun x d => b (ix3 0 x d)) (fun x => v (ix3 0 x j)) := by
  pointwise [k0_pay5]
  rfl

/-- The four heads side by side: the fourth head is finished here. -/
theorem pay1_apply (p q r e v) (i : Fin 256) (h : Fin 4) (j : Fin 256) : k0_pay1 (F := Ideal) p q r e v (ix3 0 i (hcol h j))
    = (if h.val = 0 then p (ix2 i j) else if h.val = 1 then q (ix2 i j) else if h.val = 2 then r (ix2 i j)
        else ∑ x, Ideal.div (e (ix2 i x)) (∑ x, e (ix2 i x)) * v (ix3 0 x j)) := by
  pointwise [k0_pay1, hcol]
  have hj := j.isLt
  by_cases h0 : h.val = 0
  · rw [dif_pos (by omega), if_pos h0]; blk_ext
  by_cases h1 : h.val = 1
  · rw [dif_neg (by omega), dif_pos (by omega), if_neg h0, if_pos h1]; blk_ext
  by_cases h2 : h.val = 2
  · rw [dif_neg (by omega), dif_neg (by omega), dif_pos (by omega), if_neg h0, if_neg h1, if_pos h2]; blk_ext
  rw [dif_neg (by omega), dif_neg (by omega), dif_neg (by omega), if_neg h0, if_neg h1, if_neg h2]
  refine Finset.sum_congr rfl fun x _ => ?_
  rw [show (⟨h.val * 256 + j.val - 256 - 256 - 256, by omega⟩ : Fin 256) = j from Fin.ext (by dsimp only; omega)]

/-- The fourth head's exponentials. -/
theorem pay6_apply (a b) (i x : Fin 256) : k0_pay6 (F := Ideal) a b (ix2 i x)
    = Ideal.exp (∑ d, a (ix3 0 i d) * b (ix3 0 x d)
      - Finset.fold max (Ideal.ofBits FTy.f32 0xFF800000#32) (fun x => ∑ d, a (ix3 0 i d) * b (ix3 0 x d)) Finset.univ) := by
  pointwise [k0_pay6]

/-- What grid point `t` stores, at row `i` and lane `j` of head `h`, from its blocks. -/
theorem block (c : Dev nD) (t : Fin cfg0.N) (i : Fin 256) (h : Fin 4) (j : Fin 256) :
    k0_pay1 (F := Ideal) (k0_pay2 (View.ld (iblk m c 0 t) r0_0) (View.ld (iblk m c 1 t) r0_0) (View.ld (iblk m c 2 t) r0_0)) (k0_pay4 (k0_pay3 (View.ld (iblk m c 0 t) r0_1) (View.ld (iblk m c 1 t) r0_1)) (View.ld (iblk m c 2 t) r0_1)) (k0_pay5 (View.ld (iblk m c 0 t) r0_2) (View.ld (iblk m c 1 t) r0_2) (View.ld (iblk m c 2 t) r0_2)) (k0_pay6 (View.ld (iblk m c 0 t) r0_3) (View.ld (iblk m c 1 t) r0_3)) (View.ld (iblk m c 2 t) r0_3) (ix3 0 i (hcol h j))
    = att (fun d => iblk m c 0 t (ix3 0 i (hcol h d))) (fun x d => iblk m c 1 t (ix3 0 x (hcol h d))) (fun x => iblk m c 2 t (ix3 0 x (hcol h j))) := by
  rw [pay1_apply, pay2_apply, pay4_apply, pay5_apply]
  simp only [pay6_apply]
  have hh : h = 0 ∨ h = 1 ∨ h = 2 ∨ h = 3 := by omega
  rcases hh with rfl | rfl | rfl | rfl
  · refine (if_pos rfl).trans ?_
    pointwise
    simp only [hcol]
    congr 1 <;> funext x <;> first | (funext d; blk_ext) | blk_ext
  · refine (if_neg (by decide)).trans ((if_pos rfl).trans ?_)
    pointwise
    congr 1 <;> funext x <;> first | (funext d; blk_ext) | blk_ext
  · refine (if_neg (by decide)).trans ((if_neg (by decide)).trans ((if_pos rfl).trans ?_))
    pointwise
    congr 1 <;> funext x <;> first | (funext d; blk_ext) | blk_ext
  · refine (if_neg (by decide)).trans ((if_neg (by decide)).trans ((if_neg (by decide)).trans ?_))
    pointwise
    refine Finset.sum_congr rfl fun x _ => ?_
    rfl

/-- Every column is a lane of a head. -/
theorem col_cases (n : Fin 1024) : ∃ h d, n = hcol h d :=
  ⟨⟨n.val / 256, by omega⟩, ⟨n.val % 256, by omega⟩, Fin.ext (by dsimp only [hcol]; omega)⟩

/-- The result array after the run is the reference's function of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨a, i, n, rfl⟩ : ∃ a i n, y = ix3 a i n := ⟨_, _, _, eq_ix3 y⟩
  obtain ⟨h, d, rfl⟩ := col_cases n
  obtain rfl : a = 0 := by omega
  refine (block m c t i h d).trans ?_
  have hd : ∃ (b : Fin 8) (r : Fin 4096), ((cfg0.win 3).blk t).view.emb (ix3 0 i (hcol h d)) = ix3 b r (hcol h d) ∧ b.val = t.val / 16 ∧ r.val = t.val % 16 * 256 + i.val := by
    have ht : t.val < 128 := lt_of_lt_of_eq t.isLt N_0
    refine ⟨⟨t.val / 16, by omega⟩, ⟨t.val % 16 * 256 + i.val, by omega⟩, ?_, rfl, rfl⟩
    funext k
    match k with
    | ⟨0, _⟩ => refine Fin.ext ?_; blk_simp [idx t]; exact Nat.add_zero _
    | ⟨1, _⟩ => refine Fin.ext ?_; blk_simp [idx t]
    | ⟨2, _⟩ => refine Fin.ext ?_; blk_simp [idx t]
  obtain ⟨b, r, e, hb, hr⟩ := hd
  rw [e, ref_apply]
  congr 1
  · funext k; blk_point [iblk, V, idx t]
  · funext x k; blk_point [iblk, V, idx t]
  · funext x; blk_point [iblk, V, idx t]

end Cert.CaIdeal.Value

end
-- ==== Proof.Ca.Claim.lean ====
module

public import proofs.«01_k».proof.Defs
public import proofs.«01_k».proof.Proof.Ca.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.CaIdeal.Value

/-- The reference runs to the end, leaves its arguments as they were and every semaphore counter at zero. -/
theorem still : Cert.quiescent_CaRefIdeal := by
  intro m g _
  refine (θ_run _ _ _).mono (fun r h => ⟨fun c => ?_, sem_eq_zero_of_no_sems (sig := Cert.CaRefIdeal.sig) (by decide) r.2⟩) (Cert.CaRefIdeal.Value.run m g)
  obtain ⟨_, kr⟩ := h c
  exact kr

/-- Over the extended reals the kernel and the reference, started on the same arguments, both run to the end, leave
    the arguments as they were and end with equal results. -/
theorem agree : Cert.algebraic_CaIdeal_CaRefIdeal := by
  intro m g m' g' _ hag
  refine ⟨fun c => Cert.CaRefIdeal.Value.REF (m ((c.tc : Thread Cert.CaIdeal.nD Cert.CaIdeal.τ).loc Cert.CaIdeal.main_arg0)) (m ((c.tc : Thread Cert.CaIdeal.nD Cert.CaIdeal.τ).loc Cert.CaIdeal.main_arg1)) (m ((c.tc : Thread Cert.CaIdeal.nD Cert.CaIdeal.τ).loc Cert.CaIdeal.main_arg2)),
    (θ_run _ _ _).mono (fun _ h c => ?_) (Cert.CaIdeal.Value.run_blocks m g),
    (θ_run _ _ _).mono (fun _ h c => ?_) (Cert.CaRefIdeal.Value.run m' g')⟩
  · obtain ⟨k0, kr⟩ := h c
    exact ⟨k0.trans (final m c), kr⟩
  · obtain ⟨k0, kr⟩ := h c
    obtain ⟨h0, h1, h2⟩ := hag c
    have ek0 : Cert.CaRefIdeal.Value.REF (m' ((c.tc : Thread Cert.CaRefIdeal.nD Cert.CaRefIdeal.τ).loc Cert.CaRefIdeal.main_arg0)) (m' ((c.tc : Thread Cert.CaRefIdeal.nD Cert.CaRefIdeal.τ).loc Cert.CaRefIdeal.main_arg1)) (m' ((c.tc : Thread Cert.CaRefIdeal.nD Cert.CaRefIdeal.τ).loc Cert.CaRefIdeal.main_arg2))
        = Cert.CaRefIdeal.Value.REF (m ((c.tc : Thread Cert.CaIdeal.nD Cert.CaIdeal.τ).loc Cert.CaIdeal.main_arg0)) (m ((c.tc : Thread Cert.CaIdeal.nD Cert.CaIdeal.τ).loc Cert.CaIdeal.main_arg1)) (m ((c.tc : Thread Cert.CaIdeal.nD Cert.CaIdeal.τ).loc Cert.CaIdeal.main_arg2)) := by
      rw [h0, h1, h2]
    exact ⟨(k0.trans (by rfl)).trans ek0, kr⟩

end Cert.CaIdeal.Value

end
-- ==== Proof.Ffn.Value.lean ====
module

public import proofs.«01_k».proof.Proof.Gen.FfnIdeal.Value
public import proofs.«01_k».proof.Proof.Gen.FfnRefIdeal.Run
public import Idealize.ShloMosaic.Lib.Pipeline.ValueKit
public import Idealize.ShloMosaic.Lib.Pointwise
public import Idealize.ShloMosaic.Lib.Pipeline.ReadBack
@[expose] public section

set_option maxRecDepth 16384

noncomputable section

open Idealize.ShloMosaic Idealize.ShloMosaic.TcCoe Idealize.SL.Sem
open Idealize.ShloMosaic.Pipeline (Dat)

namespace Cert.FfnRefIdeal.Value

open Cert.FfnRefIdeal Cert.FfnRefIdeal.Gen

/-- Every row divided by its root mean square. -/
def RMS (X : FVec Ideal S32768x1024 .f32) : FVec Ideal S32768x1024 .f32 :=
  mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))

/-- Rows scaled by the gains. -/
def SCL (X : FVec Ideal S32768x1024 .f32) (g : FVec Ideal S1024 .f32) : FVec Ideal S32768x1024 .f32 :=
  mulf X (broadcastInDim S32768x1024 ![0, 1] bcast_S1x1024_S32768x1024_0_1 (broadcastInDim S1x1024 ![1] bcast_S1024_S1x1024_1 g))

/-- The product of rows with the gate or the up weight. -/
def UP (X : FVec Ideal S32768x1024 .f32) (W : FVec Ideal S1x1024x2816 .f32) : FVec Ideal S32768x2816 .f32 :=
  Host.dotGeneral (F := Ideal) (φ₁ := .f32) (φ₂ := .f32) dot_S32768x1024_S1024x2816_S32768x2816_1_0_0_1_n_n none X (shapeCast _ W shapeCasts_S1x1024x2816_S1024x2816)

/-- The product of the hidden rows with the down weight. -/
def DOWN (X : FVec Ideal S32768x2816 .f32) (W : FVec Ideal S1x2816x1024 .f32) : FVec Ideal S32768x1024 .f32 :=
  Host.dotGeneral (F := Ideal) (φ₁ := .f32) (φ₂ := .f32) dot_S32768x2816_S2816x1024_S32768x1024_1_0_0_1_n_n none X (shapeCast _ W shapeCasts_S1x2816x1024_S2816x1024)

/-- The gated hidden rows, from the gate's and the up products. -/
def ACT (G U : FVec Ideal S32768x2816 .f32) : FVec Ideal S32768x2816 .f32 :=
  mulf (mulf G (Host.divf (broadcastInDim S32768x2816 ![] bcast_S_S32768x2816 (constant S_ .f32 0x3F800000#32)) (addf (broadcastInDim S32768x2816 ![] bcast_S_S32768x2816 (constant S_ .f32 0x3F800000#32)) (Host.exp (Host.negf G))))) U

/-- The rows after the feed-forward layer and its residual. -/
def Y (x : FVec Ideal S32768x1024 .f32) (g : FVec Ideal S1x1024 .f32) (wg wu : FVec Ideal S1x1024x2816 .f32) (wd : FVec Ideal S1x2816x1024 .f32) : FVec Ideal S32768x1024 .f32 :=
  addf x (DOWN (ACT (UP (SCL (RMS x) (shapeCast _ g shapeCasts_S1x1024_S1024)) wg) (UP (SCL (RMS x) (shapeCast _ g shapeCasts_S1x1024_S1024)) wu)) wd)

/-- The reference's result: the feed-forward layer with its residual and the final normalization. -/
def REF (x : FVec Ideal S32768x1024 .f32) (g : FVec Ideal S1x1024 .f32) (wg wu : FVec Ideal S1x1024x2816 .f32) (wd : FVec Ideal S1x2816x1024 .f32) (gf : FVec Ideal S1024 .f32) :
    FVec Ideal S32768x1024 .f32 :=
  SCL (RMS (Y x g wg wu wd)) gf

/-- The run's result is `REF` of the arguments. -/
theorem res_eq (m : (ℓ : Loc nD τ sig) → Buf (Elt Ideal) ℓ) (c : Dev nD) : res_main_v35 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-- A normalized, scaled entry of a row. -/
def nrm (x g : Fin 1024 → EReal) (k : Fin 1024) : EReal :=
  x k * Ideal.rsqrt (Ideal.div (∑ k, x k * x k) (Ideal.ofBits .f32 0x44800000#32) + Ideal.ofBits .f32 0x358637BD#32) * g k

/-- A hidden entry, from a normalized row and the columns of the gate and the up weight. -/
def hu (h wg wu : Fin 1024 → EReal) : EReal :=
  (∑ k, h k * wg k) * Ideal.logistic (∑ k, h k * wg k) * ∑ k, h k * wu k

/-- The normalization at an index. -/
theorem rms_apply (X r d) : RMS X (ix2 r d) = X (ix2 r d) * Ideal.rsqrt (Ideal.div (∑ k, X (ix2 r k) * X (ix2 r k)) (Ideal.ofBits .f32 0x44800000#32) + Ideal.ofBits .f32 0x358637BD#32) := by
  pointwise [RMS]
/-- The scaling at an index. -/
theorem scl_apply (X g r d) : SCL X g (ix2 r d) = X (ix2 r d) * g (ix1 d) := by
  pointwise [SCL]
/-- The gains as a vector. -/
theorem vec_apply (g : FVec Ideal S1x1024 .f32) (k : Fin 1024) : (shapeCast S1024 g shapeCasts_S1x1024_S1024) (ix1 k) = g (ix2 0 k) := by
  pointwise
/-- The product at an index. -/
theorem up_apply (X W r n) : UP X W (ix2 r n) = ∑ k, X (ix2 r k) * W (ix3 0 k n) := by
  pointwise [UP]
/-- The product at an index. -/
theorem down_apply (X W r n) : DOWN X W (ix2 r n) = ∑ k, X (ix2 r k) * W (ix3 0 k n) := by
  pointwise [DOWN]
/-- The gated entry at an index. -/
theorem act_apply (G U r n) : ACT G U (ix2 r n) = G (ix2 r n) * Ideal.logistic (G (ix2 r n)) * U (ix2 r n) := by
  pointwise [ACT]
  rfl
/-- The layer with its residual at an index. -/
theorem y_apply (x g wg wu wd r n) : Y x g wg wu wd (ix2 r n)
    = x (ix2 r n) + ∑ l, hu (nrm (fun k => x (ix2 r k)) (fun k => g (ix2 0 k))) (fun k => wg (ix3 0 k l)) (fun k => wu (ix3 0 k l)) * wd (ix3 0 l n) := by
  refine Eq.trans (b := x (ix2 r n) + DOWN _ wd (ix2 r n)) rfl ?_
  simp only [down_apply, act_apply, up_apply, scl_apply, rms_apply, vec_apply]
  rfl
/-- The result at an index. -/
theorem ref_apply (x g wg wu wd gf r n) : REF x g wg wu wd gf (ix2 r n) = nrm (fun n => Y x g wg wu wd (ix2 r n)) (fun k => gf (ix1 k)) n := by
  unfold REF
  rw [scl_apply, rms_apply]
  rfl

end Cert.FfnRefIdeal.Value

namespace Cert.FfnIdeal.Value

open Cert.FfnIdeal Cert.FfnIdeal.Gen Cert.FfnRefIdeal.Value

variable (m : (ℓ : Loc nD τ sig) → Buf (Elt Ideal) ℓ)

/-- The block index of every window at every grid point. -/
theorem idx : ∀ t : Fin cfg0.N, win0_0.index t = ![t.val / 2, 0] ∧ win0_1.index t = ![0, 0] ∧ win0_2.index t = ![0, t.val % 2]
    ∧ win0_3.index t = ![0, t.val % 2] ∧ win0_4.index t = ![t.val % 2, 0] ∧ win0_5.index t = ![0, 0] ∧ win0_6.index t = ![t.val / 2, 0] :=
  (by decide +kernel : ∀ t : Fin grid0.N, _)

/-- The normalized block at an index. -/
theorem pay1_apply (x g i n) : k0_pay1 (F := Ideal) x g (ix2 i n) = nrm (fun k => x (ix2 i k)) (fun k => g (ix2 0 k)) n := by
  pointwise [k0_pay1]
  rfl
/-- The accumulator's initial value. -/
theorem pay2_apply (i n) : k0_pay2 (F := Ideal) (ix2 i n) = 0 := by
  pointwise [k0_pay2]
/-- One accumulation at an index. -/
theorem pay3_apply (h wg wu acc wd i n) : k0_pay3 (F := Ideal) h wg wu acc wd (ix2 i n)
    = acc (ix2 i n) + ∑ l, hu (fun k => h (ix2 i k)) (fun k => wg (ix2 k l)) (fun k => wu (ix2 k l)) * wd (ix2 l n) := by
  pointwise [k0_pay3]
  rfl
/-- The written block at an index. -/
theorem pay4_apply (x acc g i n) : k0_pay4 (F := Ideal) x acc g (ix2 i n)
    = nrm (fun k => x (ix2 i k) + acc (ix2 i k)) (fun k => g (ix2 0 k)) n := by
  pointwise [k0_pay4]
  rfl

/-- The gate weight without its unit axis. -/
theorem v1_apply (c : Dev nD) (k : Fin 1024) (n : Fin 2816) : V m c main_v1 (ix2 k n) = m ((c : Thread nD τ).loc main_arg2) (ix3 0 k n) := by
  entry_read; pointwise
/-- The up weight without its unit axis. -/
theorem v3_apply (c : Dev nD) (k : Fin 1024) (n : Fin 2816) : V m c main_v3 (ix2 k n) = m ((c : Thread nD τ).loc main_arg3) (ix3 0 k n) := by
  entry_read; pointwise
/-- The down weight without its unit axis. -/
theorem v5_apply (c : Dev nD) (k : Fin 2816) (n : Fin 1024) : V m c main_v5 (ix2 k n) = m ((c : Thread nD τ).loc main_arg4) (ix3 0 k n) := by
  entry_read; pointwise
/-- The gains. -/
theorem v7_apply (c : Dev nD) (k : Fin 1024) : V m c main_v7 (ix2 0 k) = m ((c : Thread nD τ).loc main_arg1) (ix2 0 k) := by
  entry_read; pointwise
/-- The final gains. -/
theorem v8_apply (c : Dev nD) (k : Fin 1024) : V m c main_v8 (ix2 0 k) = m ((c : Thread nD τ).loc main_arg5) (ix1 k) := by
  entry_read; pointwise

/-- The rows' block. -/
theorem blk0 (c : Dev nD) (t : Fin cfg0.N) (i : Fin 512) (k : Fin 1024) (r : Fin 32768) (hr : r.val = t.val / 2 * 512 + i.val) :
    iblk m c 0 t (ix2 i k) = m ((c : Thread nD τ).loc main_arg0) (ix2 r k) := by
  blk_ext [iblk, V, idx t, hr]
/-- The gains' block. -/
theorem blk1 (c : Dev nD) (t : Fin cfg0.N) (k : Fin 1024) : iblk m c 1 t (ix2 0 k) = m ((c : Thread nD τ).loc main_arg1) (ix2 0 k) :=
  Eq.trans (b := V m c main_v7 (ix2 0 k)) (by blk_ext [iblk, idx t]) (v7_apply m c k)
/-- The gate weight's block. -/
theorem blk2 (c : Dev nD) (t : Fin cfg0.N) (k : Fin 1024) (l : Fin 1408) (q : Fin 2816) (hq : q.val = t.val % 2 * 1408 + l.val) :
    iblk m c 2 t (ix2 k l) = m ((c : Thread nD τ).loc main_arg2) (ix3 0 k q) :=
  Eq.trans (b := V m c main_v1 (ix2 k q)) (by blk_ext [iblk, idx t, hq]) (v1_apply m c k q)
/-- The up weight's block. -/
theorem blk3 (c : Dev nD) (t : Fin cfg0.N) (k : Fin 1024) (l : Fin 1408) (q : Fin 2816) (hq : q.val = t.val % 2 * 1408 + l.val) :
    iblk m c 3 t (ix2 k l) = m ((c : Thread nD τ).loc main_arg3) (ix3 0 k q) :=
  Eq.trans (b := V m c main_v3 (ix2 k q)) (by blk_ext [iblk, idx t, hq]) (v3_apply m c k q)
/-- The down weight's block. -/
theorem blk4 (c : Dev nD) (t : Fin cfg0.N) (l : Fin 1408) (n : Fin 1024) (q : Fin 2816) (hq : q.val = t.val % 2 * 1408 + l.val) :
    iblk m c 4 t (ix2 l n) = m ((c : Thread nD τ).loc main_arg4) (ix3 0 q n) :=
  Eq.trans (b := V m c main_v5 (ix2 q n)) (by blk_ext [iblk, idx t, hq]) (v5_apply m c q n)
/-- The final gains' block. -/
theorem blk5 (c : Dev nD) (t : Fin cfg0.N) (k : Fin 1024) : iblk m c 5 t (ix2 0 k) = m ((c : Thread nD τ).loc main_arg5) (ix1 k) :=
  Eq.trans (b := V m c main_v8 (ix2 0 k)) (by blk_ext [iblk, idx t]) (v8_apply m c k)

/-- What an even point leaves in the normalized rows' scratch. -/
theorem sc_A1 (c : Dev nD) (t : Fin cfg0.N) (h0 : t.val % 2 = 0) :
    (outsAt0 m c t.val t.isLt).2.1 = k0_pay1 (F := Ideal) (iblk m c 0 t) (iblk m c 1 t) := by
  rw [outsAt0_A m c t h0 (by omega)]; frame_out
/-- What an even point leaves in the accumulator. -/
theorem sc_A2 (c : Dev nD) (t : Fin cfg0.N) (h0 : t.val % 2 = 0) :
    (outsAt0 m c t.val t.isLt).2.2 = k0_pay3 (F := Ideal) (k0_pay1 (F := Ideal) (iblk m c 0 t) (iblk m c 1 t)) (iblk m c 2 t) (iblk m c 3 t) (k0_pay2 (F := Ideal)) (iblk m c 4 t) := by
  rw [outsAt0_A m c t h0 (by omega)]; frame_out
/-- What an odd point writes, from the two scratches the point before left. -/
theorem out_B (c : Dev nD) (t : Fin cfg0.N) (h1 : t.val % 2 = 1) :
    (outsAt0 m c t.val t.isLt).1 = k0_pay4 (F := Ideal) (iblk m c 0 t)
      (k0_pay3 (F := Ideal) (outsAt0 m c (t.val - 1) (Nat.lt_of_le_of_lt (Nat.sub_le _ _) t.isLt)).2.1 (iblk m c 2 t) (iblk m c 3 t)
        (outsAt0 m c (t.val - 1) (Nat.lt_of_le_of_lt (Nat.sub_le _ _) t.isLt)).2.2 (iblk m c 4 t)) (iblk m c 5 t) := by
  rw [outsAt0_B m c t (by omega) h1]; frame_out
  rw [read_unread_whole, read_unread_whole]

/-- One point's part of the hidden contraction, in the arguments. -/
theorem part (c : Dev nD) (t : Fin cfg0.N) (h : Fin 1024 → EReal) (n : Fin 1024) (e : Fin 1408 → Fin 2816) (he : ∀ l, (e l).val = t.val % 2 * 1408 + l.val) :
    (∑ l, hu h (fun k => iblk m c 2 t (ix2 k l)) (fun k => iblk m c 3 t (ix2 k l)) * iblk m c 4 t (ix2 l n) : EReal)
    = ∑ l, hu h (fun k => m ((c : Thread nD τ).loc main_arg2) (ix3 0 k (e l))) (fun k => m ((c : Thread nD τ).loc main_arg3) (ix3 0 k (e l)))
        * m ((c : Thread nD τ).loc main_arg4) (ix3 0 (e l) n) := by
  refine Fin.sum_fin_congr fun l => ?_
  have e2 := fun k => blk2 m c t k l (e l) (he l)
  have e3 := fun k => blk3 m c t k l (e l) (he l)
  simp only [e2, e3, blk4 m c t l n (e l) (he l)]

/-- What an odd point writes is the reference's value at the array index there. -/
theorem point (c : Dev nD) (t : Fin cfg0.N) (h1 : t.val % 2 = 1) (i : Fin 512) (n : Fin 1024) (r : Fin 32768) (hr : r.val = t.val / 2 * 512 + i.val) :
    (outsAt0 m c t.val t.isLt).1 (ix2 i n) = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r n) := by
  obtain ⟨s, hs⟩ : ∃ s : Fin cfg0.N, s.val = t.val - 1 := ⟨⟨t.val - 1, Nat.lt_of_le_of_lt (Nat.sub_le _ _) t.isLt⟩, rfl⟩
  have a1 := sc_A1 m c s (by omega)
  have a2 := sc_A2 m c s (by omega)
  simp only [hs] at a1 a2
  rw [out_B m c t h1, a1, a2, ref_apply]
  refine (pay4_apply _ _ _ i n).trans ?_
  have e0 := fun k => blk0 m c t i k r hr
  have e0' := fun k => blk0 m c s i k r (by omega)
  simp only [e0, blk5, y_apply, pay3_apply, pay2_apply, pay1_apply, e0', blk1, zero_add]
  congr 1; funext k; refine congrArg _ ?_
  rw [part m c s _ k (Fin.castAdd 1408) (fun l => by have := Fin.val_castAdd 1408 l; omega), part m c t _ k (Fin.natAdd 1408) (fun l => by have := Fin.val_natAdd 1408 l; omega)]
  exact (Fin.sum_univ_add (M := EReal) (a := 1408) (b := 1408) fun l =>
    hu (nrm (fun k => m ((c : Thread nD τ).loc main_arg0) (ix2 r k)) (fun k => m ((c : Thread nD τ).loc main_arg1) (ix2 0 k)))
      (fun k => m ((c : Thread nD τ).loc main_arg2) (ix3 0 k l)) (fun k => m ((c : Thread nD τ).loc main_arg3) (ix3 0 k l))
      * m ((c : Thread nD τ).loc main_arg4) (ix3 0 l k)).symm

/-- The result after the run is the reference's function of the arguments. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  obtain ⟨i, n, rfl⟩ : ∃ i n, y = ix2 i n := ⟨_, _, eq_ix2 y⟩
  have ht := lt_of_lt_of_eq t.isLt N_0
  have he : ((cfg0.win 6).blk t).view.emb (ix2 i n) = ix2 ⟨t.val / 2 * 512 + i.val, by omega⟩ n := by
    funext k
    match k with
    | ⟨0, _⟩ => refine Fin.ext ?_; blk_simp [idx t]
    | ⟨1, _⟩ => refine Fin.ext ?_; blk_simp [idx t]
  rw [he]
  exact point m c t ((flush0_6 t).mp hf) i n _ rfl

end Cert.FfnIdeal.Value

end
-- ==== Proof.Ffn.Claim.lean ====
module

public import proofs.«01_k».proof.Defs
public import proofs.«01_k».proof.Proof.Ffn.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.FfnIdeal.Value

/-- The reference runs to the end, leaves its arguments as they were and every semaphore counter at zero. -/
theorem still : Cert.quiescent_FfnRefIdeal := by
  intro m g _
  refine (θ_run _ _ _).mono (fun r h => ⟨fun c => ?_, sem_eq_zero_of_no_sems (sig := Cert.FfnRefIdeal.sig) (by decide) r.2⟩) (Cert.FfnRefIdeal.Value.run m g)
  obtain ⟨_, kr⟩ := h c
  exact kr

/-- Over the extended reals the kernel and the reference, started on the same arguments, both run to the end, leave
    the arguments as they were and end with equal results. -/
theorem agree : Cert.algebraic_FfnIdeal_FfnRefIdeal := by
  intro m g m' g' _ hag
  refine ⟨fun c => Cert.FfnRefIdeal.Value.REF (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)),
    (θ_run _ _ _).mono (fun _ h c => ?_) (Cert.FfnIdeal.Value.run_blocks m g),
    (θ_run _ _ _).mono (fun _ h c => ?_) (Cert.FfnRefIdeal.Value.run m' g')⟩
  · obtain ⟨k0, kr⟩ := h c
    exact ⟨k0.trans (final m c), kr⟩
  · obtain ⟨k0, kr⟩ := h c
    obtain ⟨h0, h1, h2, h3, h4, h5⟩ := hag c
    have ek0 : Cert.FfnRefIdeal.Value.REF (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5))
        = Cert.FfnRefIdeal.Value.REF (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) := by
      rw [h0, h1, h2, h3, h4, h5]
    exact ⟨(k0.trans (by rfl)).trans ek0, kr⟩

end Cert.FfnIdeal.Value

end
-- ==== Proof.Mixout.Value.lean ====
module

public import proofs.«01_k».proof.Proof.Gen.MixoutIdeal.Value
public import proofs.«01_k».proof.Proof.Gen.MixoutRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixoutRefIdeal.Value

open Cert.MixoutRefIdeal Cert.MixoutRefIdeal.Gen

/-- The attention output in the original order of its columns. -/
def ORD (o : FVec Ideal S32768x512 .f32) : FVec Ideal S32768x512 .f32 :=
  shapeCast _ (transpose S32768x2x4x64 [0, 2, 1, 3] (shapeCast _ o shapeCasts_S32768x512_S32768x4x2x64) transposes_S32768x4x2x64_S32768x2x4x64_0_2_1_3) shapeCasts_S32768x2x4x64_S32768x512

/-- The root mean square normalization of rows of 512, scaled by the gains. -/
def RMSa (X : FVec Ideal S32768x512 .f32) (g : FVec Ideal S1x512 .f32) : FVec Ideal S32768x512 .f32 :=
  mulf (mulf X (broadcastInDim S32768x512 ![0, 1] bcast_S32768x1_S32768x512_0_1 (Host.rsqrt (addf (Host.divf (broadcastInDim S32768x1 ![0] bcast_S32768_S32768x1_0 (Host.reduceAdd (mulf X X) (constant S_ .f32 0x00000000#32) reducesTo_S32768x512_S32768_d1 h_S_)) (broadcastInDim S32768x1 ![] bcast_S_S32768x1 (constant S_ .f32 0x44000000#32))) (broadcastInDim S32768x1 ![] bcast_S_S32768x1 (constant S_ .f32 0x358637BD#32)))))) (broadcastInDim S32768x512 ![0, 1] bcast_S1x512_S32768x512_0_1 (broadcastInDim S1x512 ![1] bcast_S512_S1x512_1 (shapeCast _ g shapeCasts_S1x512_S512)))

/-- The root mean square normalization of rows of 1024, scaled by the gains. -/
def RMSb (X : FVec Ideal S32768x1024 .f32) (g : FVec Ideal S1x1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ g shapeCasts_S1x1024_S1024)))

/-- A product of rows with a weight. -/
def MM (X : FVec Ideal S32768x1024 .f32) (W : FVec Ideal S1x1024x1024 .f32) : FVec Ideal S32768x1024 .f32 :=
  Host.dotGeneral (F := Ideal) (φ₁ := .f32) (φ₂ := .f32) dot_S32768x1024_S1024x1024_S32768x1024_1_0_0_1_n_n none X (shapeCast _ W shapeCasts_S1x1024x1024_S1024x1024)

/-- The two mixers' outputs side by side. -/
def CAT (X Y : FVec Ideal S32768x512 .f32) : FVec Ideal S32768x1024 .f32 :=
  concatenate S32768x1024 1 [⟨S32768x512, X⟩, ⟨S32768x512, Y⟩] concatenates_S32768x512_S32768x512_S32768x1024_d1

/-- The reference's first result: the residual plus the mixers' output through the output weight. -/
def REF1 (x : FVec Ideal S32768x1024 .f32) (o h : FVec Ideal S32768x512 .f32) (g : FVec Ideal S1x512 .f32) (W : FVec Ideal S1x1024x1024 .f32) :
    FVec Ideal S32768x1024 .f32 :=
  addf x (MM (CAT (RMSa (ORD o) g) h) W)

/-- The reference's second result: the scaled queries of the first result's normalized rows. -/
def REFq (x : FVec Ideal S32768x1024 .f32) (g : FVec Ideal S1x1024 .f32) (W : FVec Ideal S1x1024x1024 .f32) : FVec Ideal S32768x1024 .bf16 :=
  truncf .bf16 (mulf (MM (RMSb x g) W) (broadcastInDim S32768x1024 ![] bcast_S_S32768x1024 (constant S_ .f32 0x3D800000#32))) bitsLt_bf16_f32

/-- The reference's second result is `REFq` of its first. -/
theorem q_eq (m : (ℓ : Loc nD τ sig) → Buf (Elt Ideal) ℓ) (c : Dev nD) :
    res_main_v39 m c = REFq (REF1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := rfl

/-- Where column `n` of the original order stands in the paired order. -/
def pr (n : Fin 512) : Fin 512 := ⟨n.val / 64 % 4 * 128 + n.val / 256 * 64 + n.val % 64, by omega⟩
/-- The column of the original order that stands at `k` in the paired order. -/
def un (k : Fin 512) : Fin 512 := ⟨k.val / 64 % 2 * 256 + k.val / 128 * 64 + k.val % 64, by omega⟩
/-- The two orders undo each other. -/
theorem un_pr : ∀ n, un (pr n) = n := by decide +kernel
/-- The two orders undo each other. -/
theorem pr_un : ∀ n, pr (un n) = n := by decide +kernel
/-- The two orders are a bijection of the columns. -/
def ord : Fin 512 ≃ Fin 512 := ⟨pr, un, un_pr, pr_un⟩

/-- The original-order array at an index. -/
theorem ord_apply (o r n) : ORD o (ix2 r n) = o (ix2 r (pr n)) := by
  pointwise [ORD, pr]
/-- The normalization at an index. -/
theorem rmsa_apply (X g r d) : RMSa X g (ix2 r d) = X (ix2 r d) * Ideal.rsqrt (Ideal.div (∑ k, X (ix2 r k) * X (ix2 r k)) (Ideal.ofBits .f32 0x44000000#32) + Ideal.ofBits .f32 0x358637BD#32) * g (ix2 0 d) := by
  pointwise [RMSa]
/-- The normalization at an index. -/
theorem rmsb_apply (X g r d) : RMSb X g (ix2 r d) = X (ix2 r d) * Ideal.rsqrt (Ideal.div (∑ k, X (ix2 r k) * X (ix2 r k)) (Ideal.ofBits .f32 0x44800000#32) + Ideal.ofBits .f32 0x358637BD#32) * g (ix2 0 d) := by
  pointwise [RMSb]
/-- The product at an index. -/
theorem mm_apply (X W r n) : MM X W (ix2 r n) = ∑ k, X (ix2 r k) * W (ix3 0 k n) := by
  pointwise [MM]
/-- The left part of the concatenation. -/
theorem cat_left (X Y r) (k : Fin 512) : CAT X Y (ix2 r (Fin.castAdd 512 k)) = X (ix2 r k) := by
  pointwise [CAT]
  exact dif_pos k.isLt
/-- The right part of the concatenation. -/
theorem cat_right (X Y r) (k : Fin 512) : CAT X Y (ix2 r (Fin.natAdd 512 k)) = Y (ix2 r k) := by
  pointwise [CAT]
  refine (dif_neg (Nat.not_lt.2 (Nat.le_add_right 512 k.val))).trans ?_
  exact congrArg (fun q => Y (ix2 r q)) (Fin.ext (Nat.add_sub_cancel_left 512 k.val))

/-- One entry of the first result, from a row of every operand and a column of the two weight halves. -/
def x1 (x : EReal) (o g h w v : Fin 512 → EReal) : EReal :=
  x + ∑ k, o k * Ideal.rsqrt (Ideal.div (∑ k, o k * o k) (Ideal.ofBits .f32 0x44000000#32) + Ideal.ofBits .f32 0x358637BD#32) * g k * w k + ∑ k, h k * v k

/-- The entry does not depend on the order in which the attention columns are listed. -/
theorem x1_perm (e : Fin 512 ≃ Fin 512) (x : EReal) (o g h w v : Fin 512 → EReal) :
    x1 x (fun k => o (e k)) (fun k => g (e k)) h (fun k => w (e k)) v = x1 x o g h w v := by
  unfold x1
  rw [Equiv.sum_comp e (fun k => o k * o k)]
  rw [Equiv.sum_comp e (fun k => o k * Ideal.rsqrt (Ideal.div (∑ k, o k * o k) (Ideal.ofBits .f32 0x44000000#32) + Ideal.ofBits .f32 0x358637BD#32) * g k * w k)]

/-- Listing the attention output in paired order is listing the gains and weights so. -/
theorem x1_ord (x : EReal) (o g h w v : Fin 512 → EReal) :
    x1 x o (fun k => g (un k)) h (fun k => w (un k)) v = x1 x (fun k => o (pr k)) g h w v := by
  have e := x1_perm ord x o (fun k => g (un k)) h (fun k => w (un k)) v
  refine e.symm.trans ?_
  have hg : (fun k => g (un (ord k))) = g := funext fun k => congrArg g (un_pr k)
  have hw : (fun k => w (un (ord k))) = w := funext fun k => congrArg w (un_pr k)
  rw [hg, hw]
  rfl

/-- One entry of the second result, from a row of the first. -/
def qv (x g w : Fin 1024 → EReal) : EReal :=
  (∑ k, x k * Ideal.rsqrt (Ideal.div (∑ k, x k * x k) (Ideal.ofBits .f32 0x44800000#32) + Ideal.ofBits .f32 0x358637BD#32) * g k * w k) * Ideal.ofBits .f32 0x3D800000#32

/-- The first result at an index. -/
theorem ref1_apply (x o h g W r n) : REF1 x o h g W (ix2 r n)
    = x1 (x (ix2 r n)) (fun k => o (ix2 r (pr k))) (fun k => g (ix2 0 k)) (fun k => h (ix2 r k))
        (fun k => W (ix3 0 (Fin.castAdd 512 k) n)) (fun k => W (ix3 0 (Fin.natAdd 512 k) n)) := by
  refine Eq.trans (b := x (ix2 r n) + MM (CAT (RMSa (ORD o) g) h) W (ix2 r n)) rfl ?_
  rw [mm_apply, Fin.sum_univ_add (a := 512) (b := 512) (fun k => CAT (RMSa (ORD o) g) h (ix2 r k) * W (ix3 0 k n)), ← add_assoc]
  simp only [cat_left, cat_right, rmsa_apply, ord_apply]
  rfl

/-- The second result at an index. -/
theorem refq_apply (x g W r n) : REFq x g W (ix2 r n) = qv (fun k => x (ix2 r k)) (fun k => g (ix2 0 k)) (fun k => W (ix3 0 k n)) := by
  pointwise [REFq]
  simp only [mm_apply, rmsb_apply]
  rfl

end Cert.MixoutRefIdeal.Value

namespace Cert.MixoutIdeal.Value

open Cert.MixoutIdeal Cert.MixoutIdeal.Gen Cert.MixoutRefIdeal.Value

variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] :=
  (by decide +kernel : ∀ t : Fin grid0.N, _)

/-- The first result's block at an index, from its input blocks. -/
theorem pay2_apply (o g x w h v i n) : k0_pay2 (F := Ideal) o g x w h v (ix2 i n)
    = x1 (x (ix2 i n)) (fun k => o (ix2 i k)) (fun k => g (ix2 0 k)) (fun k => h (ix2 i k)) (fun k => w (ix2 k n)) (fun k => v (ix2 k n)) := by
  pointwise [k0_pay2]
  rfl

/-- The second result's block at an index, from the first's and its input blocks. -/
theorem pay1_apply (o g x w h v gc wq i n) :
    k0_pay1 (F := Ideal) (k0_pay2 o g x w h v) (k0_pay3 gc) (k0_pay4 o g x w h v) wq (ix2 i n)
    = qv (fun k => k0_pay2 (F := Ideal) o g x w h v (ix2 i k)) (fun k => gc (ix2 0 k)) (fun k => wq (ix2 k n)) := by
  pointwise [k0_pay1, k0_pay3, k0_pay4]
  rfl

/-- The gains in paired order. -/
theorem v4_apply (c : Dev nD) (k : Fin 512) : V m c main_v4 (ix2 0 k) = m ((c : Thread nD τ).loc main_arg3) (ix2 0 (un k)) := by
  entry_read; pointwise [un]
/-- The upper half of the weights, its rows in paired order. -/
theorem v10_apply (c : Dev nD) (k : Fin 512) (n : Fin 1024) : V m c main_v10 (ix2 k n) = m ((c : Thread nD τ).loc main_arg4) (ix3 0 (Fin.castAdd 512 (un k)) n) := by
  entry_read; pointwise [un]; rfl
/-- The lower half of the weights. -/
theorem v13_apply (c : Dev nD) (k : Fin 512) (n : Fin 1024) : V m c main_v13 (ix2 k n) = m ((c : Thread nD τ).loc main_arg4) (ix3 0 (Fin.natAdd 512 k) n) := by
  entry_read; pointwise; rfl
/-- The second gains. -/
theorem v17_apply (c : Dev nD) (k : Fin 1024) : V m c main_v17 (ix2 0 k) = m ((c : Thread nD τ).loc main_arg5) (ix2 0 k) := by
  entry_read; pointwise
/-- The query weights. -/
theorem v15_apply (c : Dev nD) (k n : Fin 1024) : V m c main_v15 (ix2 k n) = m ((c : Thread nD τ).loc main_arg6) (ix3 0 k n) := by
  entry_read; pointwise

/-- The residual's block. -/
theorem blk0 (c : Dev nD) (t : Fin cfg0.N) (i : Fin 256) (k : Fin 1024) (r : Fin 32768) (hr : r.val = t.val * 256 + i.val) :
    iblk m c 0 t (ix2 i k) = m ((c : Thread nD τ).loc main_arg0) (ix2 r k) := by
  blk_ext [iblk, V, idx t, hr]
/-- The attention output's block. -/
theorem blk1 (c : Dev nD) (t : Fin cfg0.N) (i : Fin 256) (k : Fin 512) (r : Fin 32768) (hr : r.val = t.val * 256 + i.val) :
    iblk m c 1 t (ix2 i k) = m ((c : Thread nD τ).loc main_arg1) (ix2 r k) := by
  blk_ext [iblk, V, idx t, hr]
/-- The recurrence output's block. -/
theorem blk2 (c : Dev nD) (t : Fin cfg0.N) (i : Fin 256) (k : Fin 512) (r : Fin 32768) (hr : r.val = t.val * 256 + i.val) :
    iblk m c 2 t (ix2 i k) = m ((c : Thread nD τ).loc main_arg2) (ix2 r k) := by
  blk_ext [iblk, V, idx t, hr]
/-- The gains' block. -/
theorem blk3 (c : Dev nD) (t : Fin cfg0.N) (k : Fin 512) : iblk m c 3 t (ix2 0 k) = m ((c : Thread nD τ).loc main_arg3) (ix2 0 (un k)) :=
  Eq.trans (b := V m c main_v4 (ix2 0 k)) (by blk_ext [iblk, idx t]) (v4_apply m c k)
/-- The upper weights' block. -/
theorem blk4 (c : Dev nD) (t : Fin cfg0.N) (k : Fin 512) (n : Fin 1024) : iblk m c 4 t (ix2 k n) = m ((c : Thread nD τ).loc main_arg4) (ix3 0 (Fin.castAdd 512 (un k)) n) :=
  Eq.trans (b := V m c main_v10 (ix2 k n)) (by blk_ext [iblk, idx t]) (v10_apply m c k n)
/-- The lower weights' block. -/
theorem blk5 (c : Dev nD) (t : Fin cfg0.N) (k : Fin 512) (n : Fin 1024) : iblk m c 5 t (ix2 k n) = m ((c : Thread nD τ).loc main_arg4) (ix3 0 (Fin.natAdd 512 k) n) :=
  Eq.trans (b := V m c main_v13 (ix2 k n)) (by blk_ext [iblk, idx t]) (v13_apply m c k n)
/-- The second gains' block. -/
theorem blk6 (c : Dev nD) (t : Fin cfg0.N) (k : Fin 1024) : iblk m c 6 t (ix2 0 k) = m ((c : Thread nD τ).loc main_arg5) (ix2 0 k) :=
  Eq.trans (b := V m c main_v17 (ix2 0 k)) (by blk_ext [iblk, idx t]) (v17_apply m c k)
/-- The query weights' block. -/
theorem blk7 (c : Dev nD) (t : Fin cfg0.N) (k n : Fin 1024) : iblk m c 7 t (ix2 k n) = m ((c : Thread nD τ).loc main_arg6) (ix3 0 k n) :=
  Eq.trans (b := V m c main_v15 (ix2 k n)) (by blk_ext [iblk, idx t]) (v15_apply m c k n)

/-- What grid point `t` computes for the first result is the reference's value at the array index there. -/
theorem point1 (c : Dev nD) (t : Fin cfg0.N) (i : Fin 256) (n : Fin 1024) (r : Fin 32768) (hr : r.val = t.val * 256 + i.val) :
    k0_pay2 (F := Ideal) (iblk m c 1 t) (iblk m c 3 t) (iblk m c 0 t) (iblk m c 4 t) (iblk m c 2 t) (iblk m c 5 t) (ix2 i n)
    = REF1 (m ((c : Thread nD τ).loc main_arg0)) (m ((c : Thread nD τ).loc main_arg1)) (m ((c : Thread nD τ).loc main_arg2)) (m ((c : Thread nD τ).loc main_arg3)) (m ((c : Thread nD τ).loc main_arg4)) (ix2 r n) := by
  refine (pay2_apply _ _ _ _ _ _ i n).trans ?_
  rw [ref1_apply, blk0 m c t i n r hr]
  have e1 := fun k => blk1 m c t i k r hr
  have e2 := fun k => blk2 m c t i k r hr
  simp only [e1, e2, blk3, blk4, blk5]
  exact x1_ord _ _ (fun k => m ((c : Thread nD τ).loc main_arg3) (ix2 0 k)) _ (fun k => m ((c : Thread nD τ).loc main_arg4) (ix3 0 (Fin.castAdd 512 k) n)) _

/-- Where a block of the first result lies. -/
theorem emb8 (t : Fin cfg0.N) (i : Fin 256) (n : Fin 1024) (r : Fin 32768) (hr : r.val = t.val * 256 + i.val) :
    ((cfg0.win 8).blk t).view.emb (ix2 i n) = ix2 r n := by
  funext k
  match k with
  | ⟨0, _⟩ => refine Fin.ext ?_; blk_simp [idx t, hr]
  | ⟨1, _⟩ => refine Fin.ext ?_; blk_simp [idx t]

/-- Where a block of the second result lies. -/
theorem emb9 (t : Fin cfg0.N) (i : Fin 256) (n : Fin 1024) (r : Fin 32768) (hr : r.val = t.val * 256 + i.val) :
    ((cfg0.win 9).blk t).view.emb (ix2 i n) = ix2 r n := by
  funext k
  match k with
  | ⟨0, _⟩ => refine Fin.ext ?_; blk_simp [idx t, hr]
  | ⟨1, _⟩ => refine Fin.ext ?_; blk_simp [idx t]

/-- The row of the array a block row stands at. -/
theorem rowOf (t : Fin cfg0.N) (i : Fin 256) : ∃ r : Fin 32768, r.val = t.val * 256 + i.val :=
  ⟨⟨t.val * 256 + i.val, by have := lt_of_lt_of_eq t.isLt N_0; omega⟩, rfl⟩

/-- The first result after the run is the reference's function of the arguments. -/
theorem final8 (c : Dev nD) : (dats m 0 c).arrAt 8 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; frame_out
  obtain ⟨i, n, rfl⟩ : ∃ i n, y = ix2 i n := ⟨_, _, eq_ix2 y⟩
  obtain ⟨r, hr⟩ := rowOf t i
  rw [emb8 t i n r hr]
  exact point1 m c t i n r hr

/-- The second result after the run is the reference's function of the arguments. -/
theorem final9 (c : Dev nD) : (dats m 0 c).arrAt 9 (cfgs 0).N = REFq (REF1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 9 _ (by decide +kernel) fun t _ y => ?_
  blk_simp
  rw [after0_9]; frame_out
  obtain ⟨i, n, rfl⟩ : ∃ i n, y = ix2 i n := ⟨_, _, eq_ix2 y⟩
  obtain ⟨r, hr⟩ := rowOf t i
  rw [emb9 t i n r hr, refq_apply]
  refine (pay1_apply _ _ _ _ _ _ _ _ i n).trans ?_
  have e1 := fun k => point1 m c t i k r hr
  simp only [e1, blk6, blk7]

end Cert.MixoutIdeal.Value

end
-- ==== Proof.Mixout.Claim.lean ====
module

public import proofs.«01_k».proof.Defs
public import proofs.«01_k».proof.Proof.Mixout.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.MixoutIdeal.Value

/-- The reference runs to the end, leaves its arguments as they were and every semaphore counter at zero. -/
theorem still : Cert.quiescent_MixoutRefIdeal := by
  intro m g _
  refine (θ_run _ _ _).mono (fun r h => ⟨fun c => ?_, sem_eq_zero_of_no_sems (sig := Cert.MixoutRefIdeal.sig) (by decide) r.2⟩) (Cert.MixoutRefIdeal.Value.run m g)
  obtain ⟨_, _, kr⟩ := h c
  exact kr

/-- Over the extended reals the kernel and the reference, started on the same arguments, both run to the end, leave
    the arguments as they were and end with equal results. -/
theorem agree : Cert.algebraic_MixoutIdeal_MixoutRefIdeal := by
  intro m g m' g' _ hag
  refine ⟨fun c => Cert.MixoutRefIdeal.Value.REF1 (m ((c.tc : Thread Cert.MixoutIdeal.nD Cert.MixoutIdeal.τ).loc Cert.MixoutIdeal.main_arg0)) (m ((c.tc : Thread Cert.MixoutIdeal.nD Cert.MixoutIdeal.τ).loc Cert.MixoutIdeal.main_arg1)) (m ((c.tc : Thread Cert.MixoutIdeal.nD Cert.MixoutIdeal.τ).loc Cert.MixoutIdeal.main_arg2)) (m ((c.tc : Thread Cert.MixoutIdeal.nD Cert.MixoutIdeal.τ).loc Cert.MixoutIdeal.main_arg3)) (m ((c.tc : Thread Cert.MixoutIdeal.nD Cert.MixoutIdeal.τ).loc Cert.MixoutIdeal.main_arg4)), fun c => Cert.MixoutRefIdeal.Value.REFq (Cert.MixoutRefIdeal.Value.REF1 (m ((c.tc : Thread Cert.MixoutIdeal.nD Cert.MixoutIdeal.τ).loc Cert.MixoutIdeal.main_arg0)) (m ((c.tc : Thread Cert.MixoutIdeal.nD Cert.MixoutIdeal.τ).loc Cert.MixoutIdeal.main_arg1)) (m ((c.tc : Thread Cert.MixoutIdeal.nD Cert.MixoutIdeal.τ).loc Cert.MixoutIdeal.main_arg2)) (m ((c.tc : Thread Cert.MixoutIdeal.nD Cert.MixoutIdeal.τ).loc Cert.MixoutIdeal.main_arg3)) (m ((c.tc : Thread Cert.MixoutIdeal.nD Cert.MixoutIdeal.τ).loc Cert.MixoutIdeal.main_arg4))) (m ((c.tc : Thread Cert.MixoutIdeal.nD Cert.MixoutIdeal.τ).loc Cert.MixoutIdeal.main_arg5)) (m ((c.tc : Thread Cert.MixoutIdeal.nD Cert.MixoutIdeal.τ).loc Cert.MixoutIdeal.main_arg6)),
    (θ_run _ _ _).mono (fun _ h c => ?_) (Cert.MixoutIdeal.Value.run_blocks m g),
    (θ_run _ _ _).mono (fun _ h c => ?_) (Cert.MixoutRefIdeal.Value.run m' g')⟩
  · obtain ⟨k0, k1, kr⟩ := h c
    exact ⟨k0.trans (final8 m c), k1.trans (final9 m c), kr⟩
  · obtain ⟨k0, k1, kr⟩ := h c
    obtain ⟨h0, h1, h2, h3, h4, h5, h6⟩ := hag c
    have ek0 : Cert.MixoutRefIdeal.Value.REF1 (m' ((c.tc : Thread Cert.MixoutRefIdeal.nD Cert.MixoutRefIdeal.τ).loc Cert.MixoutRefIdeal.main_arg0)) (m' ((c.tc : Thread Cert.MixoutRefIdeal.nD Cert.MixoutRefIdeal.τ).loc Cert.MixoutRefIdeal.main_arg1)) (m' ((c.tc : Thread Cert.MixoutRefIdeal.nD Cert.MixoutRefIdeal.τ).loc Cert.MixoutRefIdeal.main_arg2)) (m' ((c.tc : Thread Cert.MixoutRefIdeal.nD Cert.MixoutRefIdeal.τ).loc Cert.MixoutRefIdeal.main_arg3)) (m' ((c.tc : Thread Cert.MixoutRefIdeal.nD Cert.MixoutRefIdeal.τ).loc Cert.MixoutRefIdeal.main_arg4))
        = Cert.MixoutRefIdeal.Value.REF1 (m ((c.tc : Thread Cert.MixoutIdeal.nD Cert.MixoutIdeal.τ).loc Cert.MixoutIdeal.main_arg0)) (m ((c.tc : Thread Cert.MixoutIdeal.nD Cert.MixoutIdeal.τ).loc Cert.MixoutIdeal.main_arg1)) (m ((c.tc : Thread Cert.MixoutIdeal.nD Cert.MixoutIdeal.τ).loc Cert.MixoutIdeal.main_arg2)) (m ((c.tc : Thread Cert.MixoutIdeal.nD Cert.MixoutIdeal.τ).loc Cert.MixoutIdeal.main_arg3)) (m ((c.tc : Thread Cert.MixoutIdeal.nD Cert.MixoutIdeal.τ).loc Cert.MixoutIdeal.main_arg4)) := by
      rw [h0, h1, h2, h3, h4]
    have ek1 : Cert.MixoutRefIdeal.Value.REFq (Cert.MixoutRefIdeal.Value.REF1 (m' ((c.tc : Thread Cert.MixoutRefIdeal.nD Cert.MixoutRefIdeal.τ).loc Cert.MixoutRefIdeal.main_arg0)) (m' ((c.tc : Thread Cert.MixoutRefIdeal.nD Cert.MixoutRefIdeal.τ).loc Cert.MixoutRefIdeal.main_arg1)) (m' ((c.tc : Thread Cert.MixoutRefIdeal.nD Cert.MixoutRefIdeal.τ).loc Cert.MixoutRefIdeal.main_arg2)) (m' ((c.tc : Thread Cert.MixoutRefIdeal.nD Cert.MixoutRefIdeal.τ).loc Cert.MixoutRefIdeal.main_arg3)) (m' ((c.tc : Thread Cert.MixoutRefIdeal.nD Cert.MixoutRefIdeal.τ).loc Cert.MixoutRefIdeal.main_arg4))) (m' ((c.tc : Thread Cert.MixoutRefIdeal.nD Cert.MixoutRefIdeal.τ).loc Cert.MixoutRefIdeal.main_arg5)) (m' ((c.tc : Thread Cert.MixoutRefIdeal.nD Cert.MixoutRefIdeal.τ).loc Cert.MixoutRefIdeal.main_arg6))
        = Cert.MixoutRefIdeal.Value.REFq (Cert.MixoutRefIdeal.Value.REF1 (m ((c.tc : Thread Cert.MixoutIdeal.nD Cert.MixoutIdeal.τ).loc Cert.MixoutIdeal.main_arg0)) (m ((c.tc : Thread Cert.MixoutIdeal.nD Cert.MixoutIdeal.τ).loc Cert.MixoutIdeal.main_arg1)) (m ((c.tc : Thread Cert.MixoutIdeal.nD Cert.MixoutIdeal.τ).loc Cert.MixoutIdeal.main_arg2)) (m ((c.tc : Thread Cert.MixoutIdeal.nD Cert.MixoutIdeal.τ).loc Cert.MixoutIdeal.main_arg3)) (m ((c.tc : Thread Cert.MixoutIdeal.nD Cert.MixoutIdeal.τ).loc Cert.MixoutIdeal.main_arg4))) (m ((c.tc : Thread Cert.MixoutIdeal.nD Cert.MixoutIdeal.τ).loc Cert.MixoutIdeal.main_arg5)) (m ((c.tc : Thread Cert.MixoutIdeal.nD Cert.MixoutIdeal.τ).loc Cert.MixoutIdeal.main_arg6)) := by
      rw [h0, h1, h2, h3, h4, h5, h6]
    exact ⟨(k0.trans (by rfl)).trans ek0, (k1.trans (by rfl)).trans ek1, kr⟩

end Cert.MixoutIdeal.Value

end
-- ==== Proof.Hgrn.Spec.lean ====
module

public import Idealize.ShloMosaic.Lib.Pointwise

@[expose] public section

noncomputable section

open Idealize.ShloMosaic

/-! The mathematics of the gated linear recurrence on four tokens of one head, over the extended reals,
and the inequalities that make its decay exponents nonpositive. -/

namespace Cert.HgrnMath

/-- The logarithm of the forget gate with lower bound `l` at the gate input `z`. -/
def gateLog (l z : EReal) : EReal := Ideal.log (l + (1 - l) * Ideal.logistic z)

/-- The key that goes with the gate. -/
def key (l z : EReal) : EReal := (1 - l) * Ideal.logistic (-z)

/-- The running sum of four numbers. -/
def cum (f : Fin 4 → EReal) (t : Fin 4) : EReal := ∑ s, if s ≤ t then f s else 0

/-- The logistic function is not negative. -/
theorem logistic_nonneg (x : EReal) : 0 ≤ Ideal.logistic x := by
  unfold Ideal.logistic Ideal.div
  have h : (0 : EReal) ≤ Ideal.exp (-x) := by
    induction h : (-x) using EReal.rec with
    | bot => exact le_refl _
    | top => exact le_top
    | coe r =>
      show (0 : EReal) ≤ (Real.exp r : EReal)
      exact_mod_cast (Real.exp_pos r).le
  have h1 : (1 : EReal) ≤ 1 + Ideal.exp (-x) := le_add_of_nonneg_right h
  rw [if_neg (fun hz => by rw [hz] at h1; exact absurd h1 (by norm_num)), one_mul]
  exact EReal.inv_nonneg_of_nonneg (zero_le_one.trans h1)

/-- The logistic function is at most one. -/
theorem logistic_le_one (x : EReal) : Ideal.logistic x ≤ 1 := by
  unfold Ideal.logistic Ideal.div
  have h : (0 : EReal) ≤ Ideal.exp (-x) := by
    induction h : (-x) using EReal.rec with
    | bot => exact le_refl _
    | top => exact le_top
    | coe r =>
      show (0 : EReal) ≤ (Real.exp r : EReal)
      exact_mod_cast (Real.exp_pos r).le
  have h1 : (1 : EReal) ≤ 1 + Ideal.exp (-x) := le_add_of_nonneg_right h
  rw [if_neg (fun hz => by rw [hz] at h1; exact absurd h1 (by norm_num)), one_mul]
  generalize 1 + Ideal.exp (-x) = y at h1
  induction y using EReal.rec with
  | bot => exact absurd h1 (not_le.2 (EReal.bot_lt_coe 1))
  | top => simp
  | coe r =>
    have hr : (1 : ℝ) ≤ r := by exact_mod_cast h1
    rw [← EReal.coe_inv]
    exact_mod_cast inv_le_one_of_one_le₀ hr

/-- The log of a number up to one is not positive. -/
theorem log_nonpos {x : EReal} (h : x ≤ 1) : Ideal.log x ≤ 0 := by
  induction x using EReal.rec with
  | bot => exact bot_le
  | top => exact absurd h (not_le.2 (EReal.coe_lt_top 1))
  | coe r =>
    have hr : r ≤ 1 := by exact_mod_cast h
    show (if r ≤ 0 then (⊥ : EReal) else (Real.log r : EReal)) ≤ 0
    split
    · exact bot_le
    · next h0 => exact_mod_cast Real.log_nonpos (not_le.1 h0).le hr

/-- With a lower bound between zero and one, or none, the log of the gate is not positive. -/
theorem gateLog_nonpos {l : EReal} (h : l = ⊥ ∨ 0 ≤ l ∧ l ≤ 1) (z : EReal) : gateLog l z ≤ 0 := by
  refine log_nonpos ?_
  rcases h with rfl | ⟨h0, h1⟩
  · rw [EReal.bot_add]
    exact bot_le
  induction l using EReal.rec with
  | bot => simp at h0
  | top => exact absurd h1 (not_le.2 (EReal.coe_lt_top 1))
  | coe r =>
    have hr0 : (0 : ℝ) ≤ r := by exact_mod_cast h0
    have hr1 : r ≤ 1 := by exact_mod_cast h1
    have hs0 := logistic_nonneg z
    have hs1 := logistic_le_one z
    generalize Ideal.logistic z = y at hs0 hs1
    induction y using EReal.rec with
    | bot => simp at hs0
    | top => exact absurd hs1 (not_le.2 (EReal.coe_lt_top 1))
    | coe s =>
      have h2 : (0 : ℝ) ≤ s := by exact_mod_cast hs0
      have h3 : s ≤ 1 := by exact_mod_cast hs1
      have : r + (1 - r) * s ≤ 1 := by nlinarith
      exact_mod_cast this

/-- A number less a greater one is not positive. -/
theorem sub_nonpos_of_le {x y : EReal} (h : x ≤ y) : x - y ≤ 0 := by
  induction y using EReal.rec with
  | bot => rw [le_bot_iff.1 h]; exact bot_le
  | top => rw [EReal.sub_top]; exact bot_le
  | coe r =>
    induction x using EReal.rec with
    | bot => rw [EReal.bot_sub]; exact bot_le
    | top => simp at h
    | coe s =>
      have : s ≤ r := by exact_mod_cast h
      have : s - r ≤ 0 := by linarith
      exact_mod_cast this

/-- The running sum of nonpositive numbers does not grow. -/
theorem cum_anti {f : Fin 4 → EReal} (hf : ∀ s, f s ≤ 0) {s t : Fin 4} (h : s ≤ t) : cum f t ≤ cum f s := by
  refine Finset.sum_le_sum fun r _ => ?_
  by_cases h1 : r ≤ s
  · rw [if_pos h1, if_pos (h1.trans h)]
  · rw [if_neg h1]
    split
    · exact hf r
    · exact le_refl _

/-- So its exponents need no clamp. -/
theorem min_cum_sub {f : Fin 4 → EReal} (hf : ∀ s, f s ≤ 0) {s t : Fin 4} (h : s ≤ t) :
    min (cum f t - cum f s) 0 = cum f t - cum f s := min_eq_left (sub_nonpos_of_le (cum_anti hf h))

variable (l : Fin 128 → EReal) (q z v : Fin 4 → Fin 128 → EReal) (S : Fin 128 → Fin 128 → EReal)

/-- The running log of the gates, lane `n`. -/
def dec (n : Fin 128) (t : Fin 4) : EReal := cum (fun s => gateLog (l n) (z s n)) t

/-- The decayed score of token `t` against token `s`. -/
def score (t s : Fin 4) : EReal := ∑ n, q t n * key (l n) (z s n) * Ideal.exp (dec l z n t - dec l z n s)

/-- The recurrence's read-out: the state that came in, decayed, and the tokens up to this one. -/
def readOut (t : Fin 4) (e : Fin 128) : EReal :=
  (∑ n, q t n * Ideal.exp (dec l z n t) * S n e) + ∑ s, if s ≤ t then score l q z t s * v s e else 0

/-- The state after the four tokens. -/
def state (n e : Fin 128) : EReal :=
  Ideal.exp (dec l z n 3) * S n e + ∑ s, key (l n) (z s n) * Ideal.exp (dec l z n 3 - dec l z n s) * v s e

/-- The normalised and gated output. -/
def out (w : Fin 128 → EReal) (g : Fin 4 → Fin 128 → EReal) (t : Fin 4) (e : Fin 128) : EReal :=
  readOut l q z v S t e
      * Ideal.rsqrt (Ideal.div (∑ x, readOut l q z v S t x * readOut l q z v S t x) (Ideal.ofBits .f32 1124073472#32) + Ideal.ofBits .f32 897988541#32)
      * w e * (g t e * Ideal.logistic (g t e))

end Cert.HgrnMath

end
-- ==== Proof.Hgrn.Step.lean ====
module

public import proofs.«01_k».proof.Proof.Hgrn.Spec
public import proofs.«01_k».proof.Proof.Gen.HgrnIdeal.Skeleton
public import Idealize.ShloMosaic.Lib.Pointwise

@[expose] public section

set_option maxRecDepth 16384

noncomputable section

open Idealize.ShloMosaic Idealize.ShloMosaic.TcCoe Idealize.SL.Sem

/-! What the kernel's body computes for one head, entry by entry: the chunk has eight rows, of which the
first four are tokens. -/

namespace Cert.HgrnIdeal.Value

open Cert.HgrnIdeal Cert.HgrnIdeal.Gen Cert.HgrnMath

/-- The row numbers of a chunk. -/
def V3 : IVec S8x1 32 := iota .tc S8x1 32 [0] iota_S8x1_d0_w32

/-- Row `t` of the chunk turned back by `δ`. -/
def bk (t : Fin 8) (δ : Nat) : Fin 8 := ⟨(t.val + 8 - δ) % 8, Nat.mod_lt _ (by decide)⟩

/-- The rows before row `t` by `δ`, as the body adds them. -/
def part (q k b v : FVec Ideal S8x128 .f32) (δ : Nat) (t : Fin 8) (e : Fin 128) : EReal :=
  (∑ x : Fin 128, if δ ≤ t.val then q (ix2 t x) * k (ix2 (bk t δ) x) * Ideal.exp (min (b (ix2 t x) - b (ix2 (bk t δ) x)) 0) else 0) * v (ix2 (bk t δ) e)

/-- One offset's contribution, where the offset's condition selects it. -/
theorem part_sel (q k b v : FVec Ideal S8x128 .f32) (δ : Nat) (w : BitVec 32)
    (hw : ∀ t : Fin 8, (IntOp.cmpi CmpIPredicate.sge (IntOp.andi (BitVec.ofNat 32 t.val) 7#32) w = (1 : BitVec 1)) ↔ δ ≤ t.val) (t : Fin 8) (e : Fin 128) :
    part q k b v δ t e
      = (∑ x : Fin 128, Scalar.select (IntOp.cmpi CmpIPredicate.sge (IntOp.andi (BitVec.ofNat 32 t.val) 7#32) w)
          (q (ix2 t x) * k (ix2 ⟨(t.val + 8 - δ) % 8, Nat.mod_lt _ (by decide)⟩ x)
            * Ideal.exp (min (b (ix2 t x) - b (ix2 ⟨(t.val + 8 - δ) % 8, Nat.mod_lt _ (by decide)⟩ x)) 0)) 0)
        * v (ix2 ⟨(t.val + 8 - δ) % 8, Nat.mod_lt _ (by decide)⟩ e) := by
  refine congrArg (· * _) (Finset.sum_congr rfl fun x _ => ?_)
  unfold Scalar.select
  by_cases hh : δ ≤ t.val
  · rw [if_pos hh, if_pos ((hw t).2 hh)]
    rfl
  · rw [if_neg hh, if_neg (fun hc => hh ((hw t).1 hc))]

/-- The contribution of a token to itself. -/
theorem part_zero (q k b v : FVec Ideal S8x128 .f32) (t : Fin 8) (e : Fin 128) :
    part q k b v 0 t e
      = (∑ x : Fin 128, Scalar.select (IntOp.cmpi CmpIPredicate.sge (IntOp.andi (BitVec.ofNat 32 t.val) 7#32) 0#32)
          (q (ix2 t x) * k (ix2 t x) * Ideal.exp (min (b (ix2 t x) - b (ix2 t x)) 0)) 0) * v (ix2 t e) := by
  refine (part_sel q k b v 0 0#32 (by decide +kernel) t e).trans ?_
  have h : (⟨(t.val + 8 - 0) % 8, Nat.mod_lt _ (by decide)⟩ : Fin 8) = t := Fin.ext (by dsimp only; omega)
  rw [h]

/-- A row of the chunk is a token when its number is below four. -/
theorem selv (x y : EReal) (t : Fin 8) :
    Scalar.select (IntOp.cmpi CmpIPredicate.slt (IntOp.addi (Scalar.muli 0#32 8#32) (BitVec.ofNat 32 t.val)) 4#32) x y = if t.val < 4 then x else y := by
  have h : ∀ t : Fin 8, (IntOp.cmpi CmpIPredicate.slt (IntOp.addi (Scalar.muli 0#32 8#32) (BitVec.ofNat 32 t.val)) 4#32 = (1 : BitVec 1)) ↔ t.val < 4 := by
    decide +kernel
  unfold Scalar.select
  by_cases hh : t.val < 4
  · rw [if_pos hh, if_pos ((h t).2 hh)]
  · rw [if_neg hh, if_neg (fun hc => hh ((h t).1 hc))]

/-- The log of the gate, row by row. -/
theorem lg_at (i : grid0.Coords) (z : Vec Ideal S1x8x128 .f32) (lb : Vec Ideal S1x128 .f32) (t : Fin 8) (d : Fin 128) :
    k0_pay16 i z lb (ix2 t d) = if t.val < 4 then gateLog (lb (ix2 0 d)) (z (ix3 0 t d)) else 0 := by
  refine Eq.trans ?_ (selv _ _ t)
  unfold gateLog
  pointwise [k0_pay16, k0_pay10, k0_pay15, k0_pay12]

/-- The key, row by row. -/
theorem key_at (i : grid0.Coords) (z : Vec Ideal S1x8x128 .f32) (lb : Vec Ideal S1x128 .f32) (t : Fin 8) (d : Fin 128) :
    k0_pay19 (k0_pay10 i) (k0_pay17 lb) (k0_pay18 z) (ix2 t d) = if t.val < 4 then key (lb (ix2 0 d)) (z (ix3 0 t d)) else 0 := by
  refine Eq.trans (b := _) ?_ (selv _ _ t)
  unfold key
  rw [← zero_sub]
  pointwise [k0_pay19, k0_pay10, k0_pay17, k0_pay18, k0_pay15, k0_pay12]

/-- The product of a query and a key at a lane. -/
theorem qk_at (i : grid0.Coords) (q : FVec Ideal S8x128 .f32) (z : Vec Ideal S1x8x128 .f32) (lb : Vec Ideal S1x128 .f32) (t : Fin 8) (d : Fin 128) :
    k0_pay24 (k0_pay10 i) q (k0_pay17 lb) (k0_pay18 z) (ix2 t d) = q (ix2 t d) * k0_pay19 (k0_pay10 i) (k0_pay17 lb) (k0_pay18 z) (ix2 t d) := by
  pointwise [k0_pay24, k0_pay19]

/-- The difference of two running logs at a lane. -/
theorem bb_at (b : FVec Ideal S8x128 .f32) (t : Fin 8) (d : Fin 128) :
    k0_pay25 V3 b (ix2 t d) = k0_pay20 V3 b (ix2 t d) - k0_pay20 V3 b (ix2 t d) := by
  pointwise [k0_pay25]

/-- The state's part of the read-out. -/
theorem inter_at (q b : FVec Ideal S8x128 .f32) (st : Vec Ideal S1x128x128 .f32) (t : Fin 8) (e : Fin 128) :
    k0_pay22 V3 q b st (ix2 t e) = ∑ x, q (ix2 t x) * Ideal.exp (k0_pay20 V3 b (ix2 t x)) * st (ix3 0 e x) := by
  pointwise [k0_pay22, k0_pay21]

/-- The first two offsets together. -/
theorem part01 (q k b v o x y : FVec Ideal S8x128 .f32) (t : Fin 8) (e : Fin 128) (hx : ∀ n, x (ix2 t n) = q (ix2 t n) * k (ix2 t n))
    (hy : ∀ n, y (ix2 t n) = b (ix2 t n) - b (ix2 t n)) :
    k0_pay26 V3 q v k b o (k0_pay23 V3) x y (ix2 t e) = o (ix2 t e) + part q k b v 0 t e + part q k b v 1 t e := by
  rw [part_zero, part_sel _ _ _ _ 1 1#32 (by decide +kernel)]
  simp only [← hx, ← hy]
  pointwise [k0_pay26, k0_pay23, V3]

/-- The next two offsets together. -/
theorem part23 (q k b v o : FVec Ideal S8x128 .f32) (t : Fin 8) (e : Fin 128) :
    k0_pay31 V3 q v k b o (k0_pay27 v) (k0_pay28 V3) (k0_pay29 q k) (k0_pay30 b) (ix2 t e) = o (ix2 t e) + part q k b v 2 t e + part q k b v 3 t e := by
  rw [part_sel _ _ _ _ 2 2#32 (by decide +kernel), part_sel _ _ _ _ 3 3#32 (by decide +kernel)]
  pointwise [k0_pay31, k0_pay27, k0_pay28, k0_pay29, k0_pay30, V3]

/-- Offsets four and five together. -/
theorem part45 (q k b v o : FVec Ideal S8x128 .f32) (t : Fin 8) (e : Fin 128) :
    k0_pay36 V3 q v k b o (k0_pay32 v) (k0_pay33 V3) (k0_pay34 q k) (k0_pay35 b) (ix2 t e) = o (ix2 t e) + part q k b v 4 t e + part q k b v 5 t e := by
  rw [part_sel _ _ _ _ 4 4#32 (by decide +kernel), part_sel _ _ _ _ 5 5#32 (by decide +kernel)]
  pointwise [k0_pay36, k0_pay32, k0_pay33, k0_pay34, k0_pay35, V3]

/-- The last two offsets together. -/
theorem part67 (q k b v o : FVec Ideal S8x128 .f32) (t : Fin 8) (e : Fin 128) :
    k0_pay41 V3 q v k b o (k0_pay37 v) (k0_pay38 V3) (k0_pay39 q k) (k0_pay40 b) (ix2 t e) = o (ix2 t e) + part q k b v 6 t e + part q k b v 7 t e := by
  rw [part_sel _ _ _ _ 6 6#32 (by decide +kernel), part_sel _ _ _ _ 7 7#32 (by decide +kernel)]
  pointwise [k0_pay41, k0_pay37, k0_pay38, k0_pay39, k0_pay40, V3]

end Cert.HgrnIdeal.Value

end
-- ==== Proof.Hgrn.Head.lean ====
module

public import proofs.«01_k».proof.Proof.Hgrn.Step

@[expose] public section

set_option maxRecDepth 16384

noncomputable section

open Idealize.ShloMosaic Idealize.ShloMosaic.TcCoe Idealize.SL.Sem

/-! One head of the kernel's body, whole: the read-out, the gated output and the state, as the recurrence
on the four tokens states them. -/

namespace Cert.HgrnIdeal.Value

open Cert.HgrnIdeal Cert.HgrnIdeal.Gen Cert.HgrnMath

/-- Token `s` as a row of the chunk. -/
def up (s : Fin 4) : Fin 8 := s.castLE (by decide)

/-- The last token at or before row `t` of the chunk. -/
def row (t : Fin 8) : Fin 4 := ⟨min t.val 3, by omega⟩

/-- A token among the four is its own row. -/
theorem row_up (s : Fin 4) : row (up s) = s := Fin.ext (by show min s.val 3 = s.val; omega)

/-- The three turned and added copies are the running sum over the rows. -/
theorem cum_at (b : FVec Ideal S8x128 .f32) (d : Fin 128) (f : Fin 4 → EReal) (h0 : ∀ s, b (ix2 (up s) d) = f s)
    (h1 : ∀ t : Fin 8, 4 ≤ t.val → b (ix2 t d) = 0) (t : Fin 8) : k0_pay20 V3 b (ix2 t d) = cum f (row t) := by
  have e0 : b (ix2 (0 : Fin 8) d) = f 0 := h0 0
  have e1 : b (ix2 (1 : Fin 8) d) = f 1 := h0 1
  have e2 : b (ix2 (2 : Fin 8) d) = f 2 := h0 2
  have e3 : b (ix2 (3 : Fin 8) d) = f 3 := h0 3
  have e4 : b (ix2 (4 : Fin 8) d) = 0 := h1 4 (by decide)
  have e5 : b (ix2 (5 : Fin 8) d) = 0 := h1 5 (by decide)
  have e6 : b (ix2 (6 : Fin 8) d) = 0 := h1 6 (by decide)
  have e7 : b (ix2 (7 : Fin 8) d) = 0 := h1 7 (by decide)
  unfold cum row
  rw [Fin.sum_univ_four]
  pointwise [k0_pay20, V3]
  fin_cases t <;> simp [Scalar.select, IntOp.cmpi, e0, e1, e2, e3, e4, e5, e6, e7]
  all_goals ac_rfl

/-- The eight turned products, of which those from later rows are nothing, add up to the sum over the tokens so far. -/
theorem parts_at (q k b v : FVec Ideal S8x128 .f32) (t : Fin 4) (e : Fin 128) (o : EReal) :
    o + part q k b v 0 (up t) e + part q k b v 1 (up t) e + part q k b v 2 (up t) e + part q k b v 3 (up t) e
        + part q k b v 4 (up t) e + part q k b v 5 (up t) e + part q k b v 6 (up t) e + part q k b v 7 (up t) e
      = o + ∑ s, if s ≤ t then (∑ x : Fin 128, q (ix2 (up t) x) * k (ix2 (up s) x) * Ideal.exp (min (b (ix2 (up t) x) - b (ix2 (up s) x)) 0)) * v (ix2 (up s) e) else 0 := by
  have hlt : ∀ δ, t.val < δ → part q k b v δ (up t) e = 0 := fun δ h => by
    unfold part
    exact (congrArg (· * _) (Finset.sum_eq_zero fun x _ => if_neg (fun hh => absurd (show δ ≤ t.val from hh) (by omega)))).trans (zero_mul _)
  have hge : ∀ (δ : Nat) (s : Fin 4), δ + s.val = t.val → part q k b v δ (up t) e
      = (∑ x : Fin 128, q (ix2 (up t) x) * k (ix2 (up s) x) * Ideal.exp (min (b (ix2 (up t) x) - b (ix2 (up s) x)) 0)) * v (ix2 (up s) e) := fun δ s h => by
    have hb : bk (up t) δ = up s := Fin.ext (by show (t.val + 8 - δ) % 8 = s.val; omega)
    unfold part
    rw [hb]
    exact congrArg (· * _) (Finset.sum_congr rfl fun x _ => if_pos (by show δ ≤ t.val; omega))
  rw [Fin.sum_univ_four, hlt 4 (by omega), hlt 5 (by omega), hlt 6 (by omega), hlt 7 (by omega)]
  obtain rfl | rfl | rfl | rfl : t = 0 ∨ t = 1 ∨ t = 2 ∨ t = 3 := (by decide : ∀ t : Fin 4, t = 0 ∨ t = 1 ∨ t = 2 ∨ t = 3) t
  · rw [hge 0 0 rfl, hlt 1 (by decide), hlt 2 (by decide), hlt 3 (by decide), if_pos (by decide), if_neg (by decide), if_neg (by decide), if_neg (by decide)]
    simp only [add_zero]
  · rw [hge 0 1 rfl, hge 1 0 rfl, hlt 2 (by decide), hlt 3 (by decide), if_pos (by decide), if_pos (by decide), if_neg (by decide), if_neg (by decide)]
    simp only [add_zero]
    ac_rfl
  · rw [hge 0 2 rfl, hge 1 1 rfl, hge 2 0 rfl, hlt 3 (by decide), if_pos (by decide), if_pos (by decide), if_pos (by decide), if_neg (by decide)]
    simp only [add_zero]
    ac_rfl
  · rw [hge 0 3 rfl, hge 1 2 rfl, hge 2 1 rfl, hge 3 0 rfl, if_pos (by decide), if_pos (by decide), if_pos (by decide), if_pos (by decide)]
    simp only [add_zero]
    ac_rfl

variable (i : grid0.Coords) (Q Z W G : Vec Ideal S1x8x128 .f32) (L O : Vec Ideal S1x128 .f32) (T : Vec Ideal S1x128x128 .f32)

/-- The log of the gates of a head. -/
def lgK : FVec Ideal S8x128 .f32 := k0_pay16 i Z L

/-- The running log of the gates of a head. -/
def bK : FVec Ideal S8x128 .f32 := k0_pay20 V3 (lgK i Z L)

/-- The keys of a head. -/
def kK : FVec Ideal S8x128 .f32 := k0_pay19 (k0_pay10 i) (k0_pay17 L) (k0_pay18 Z)

/-- The read-out after the rows zero and one back. -/
def o1 (q v : FVec Ideal S8x128 .f32) : FVec Ideal S8x128 .f32 :=
  k0_pay26 V3 q v (kK i Z L) (bK i Z L) (k0_pay22 V3 q (lgK i Z L) T) (k0_pay23 V3)
    (k0_pay24 (k0_pay10 i) q (k0_pay17 L) (k0_pay18 Z)) (k0_pay25 V3 (lgK i Z L))

/-- The read-out after the rows two and three back. -/
def o3 (q v : FVec Ideal S8x128 .f32) : FVec Ideal S8x128 .f32 :=
  k0_pay31 V3 q v (kK i Z L) (bK i Z L) (o1 i Z L T q v) (k0_pay27 v) (k0_pay28 V3) (k0_pay29 q (kK i Z L)) (k0_pay30 (bK i Z L))

/-- The read-out after the rows four and five back. -/
def o5 (q v : FVec Ideal S8x128 .f32) : FVec Ideal S8x128 .f32 :=
  k0_pay36 V3 q v (kK i Z L) (bK i Z L) (o3 i Z L T q v) (k0_pay32 v) (k0_pay33 V3) (k0_pay34 q (kK i Z L)) (k0_pay35 (bK i Z L))

/-- The read-out of a head. -/
def o7 (q v : FVec Ideal S8x128 .f32) : FVec Ideal S8x128 .f32 :=
  k0_pay41 V3 q v (kK i Z L) (bK i Z L) (o5 i Z L T q v) (k0_pay37 v) (k0_pay38 V3) (k0_pay39 q (kK i Z L)) (k0_pay40 (bK i Z L))

/-- The gated output of a head. -/
def headO : FVec Ideal S8x128 .f32 := k0_pay44 (k0_pay14 G) (o7 i Z L T (k0_pay11 Q) (k0_pay13 W)) O

/-- The state a head leaves. -/
def headS : FVec Ideal S1x128x128 .f32 := k0_pay43 (k0_pay42 (k0_pay13 W) (kK i Z L) (bK i Z L) (k0_pay21 T))

/-- The lower bounds of a head's lanes. -/
def lane (w : Vec Ideal S1x128 .f32) (n : Fin 128) : EReal := w (ix2 0 n)

/-- The tokens of a head's lanes. -/
def tok (w : Vec Ideal S1x8x128 .f32) (s : Fin 4) (n : Fin 128) : EReal := w (ix3 0 (up s) n)

/-- The state a head starts from, which the scratch holds turned. -/
def start (w : Vec Ideal S1x128x128 .f32) (n e : Fin 128) : EReal := w (ix3 0 e n)

/-- The kernel's running log at a row: rows past the fourth keep the fourth's. -/
theorem bK_at (t : Fin 8) (n : Fin 128) : bK i Z L (ix2 t n) = dec (lane L) (tok Z) n (row t) :=
  cum_at _ _ _ (fun s => (lg_at i Z L (up s) n).trans (if_pos s.isLt)) (fun t h => (lg_at i Z L t n).trans (if_neg (by omega))) t

/-- The kernel's key at a token. -/
theorem kK_up (s : Fin 4) (n : Fin 128) : kK i Z L (ix2 (up s) n) = key (lane L n) (tok Z s n) :=
  (key_at i Z L (up s) n).trans (if_pos s.isLt)

/-- The kernel's key at a row past the fourth is zero. -/
theorem kK_pad (t : Fin 8) (h : 4 ≤ t.val) (n : Fin 128) : kK i Z L (ix2 t n) = 0 :=
  (key_at i Z L t n).trans (if_neg (by omega))

/-- The loaded queries at an index. -/
theorem q_at (t : Fin 8) (n : Fin 128) : k0_pay11 Q (ix2 t n) = Q (ix3 0 t n) := by
  pointwise [k0_pay11]

/-- The loaded values at an index. -/
theorem v_at (t : Fin 8) (n : Fin 128) : k0_pay13 W (ix2 t n) = W (ix3 0 t n) := by
  pointwise [k0_pay13]

/-- The loaded gates at an index. -/
theorem g_at (t : Fin 8) (n : Fin 128) : k0_pay14 G (ix2 t n) = G (ix3 0 t n) := by
  pointwise [k0_pay14]

/-- The norm and the gate at an index. -/
theorem norm_at (g o : FVec Ideal S8x128 .f32) (t : Fin 8) (d : Fin 128) :
    k0_pay44 g o O (ix2 t d)
      = o (ix2 t d) * Ideal.rsqrt (Ideal.div (∑ x : Fin 128, o (ix2 t x) * o (ix2 t x)) (Ideal.ofBits .f32 1124073472#32) + Ideal.ofBits .f32 897988541#32)
          * O (ix2 0 d) * (g (ix2 t d) * Ideal.logistic (g (ix2 t d))) := by
  pointwise [k0_pay44]

/-- The new state at an index, from values, keys and running logs. -/
theorem st_at (v k b : FVec Ideal S8x128 .f32) (e d : Fin 128) :
    k0_pay43 (k0_pay42 v k b (k0_pay21 T)) (ix3 0 e d)
      = Ideal.exp (b (ix2 7 d)) * T (ix3 0 e d) + ∑ x : Fin 8, v (ix2 x e) * (k (ix2 x d) * Ideal.exp (b (ix2 7 d) - b (ix2 x d))) := by
  pointwise [k0_pay43, k0_pay42, k0_pay21]

/-- The read-out of a head at a token is the recurrence's. -/
theorem o7_at (hl : ∀ n z, gateLog (lane L n) z ≤ 0) (t : Fin 4) (e : Fin 128) :
    o7 i Z L T (k0_pay11 Q) (k0_pay13 W) (ix2 (up t) e) = readOut (lane L) (tok Q) (tok Z) (tok W) (start T) t e := by
  refine (part67 _ _ _ _ _ (up t) e).trans ?_
  rw [show o5 i Z L T (k0_pay11 Q) (k0_pay13 W) (ix2 (up t) e) = _ from part45 _ _ _ _ _ (up t) e,
    show o3 i Z L T (k0_pay11 Q) (k0_pay13 W) (ix2 (up t) e) = _ from part23 _ _ _ _ _ (up t) e,
    show o1 i Z L T (k0_pay11 Q) (k0_pay13 W) (ix2 (up t) e) = _ from
      part01 _ _ _ _ _ _ _ (up t) e (fun n => qk_at i _ Z L (up t) n) (fun n => bb_at _ (up t) n), parts_at]
  unfold readOut
  refine congrArg₂ (· + ·) ((inter_at _ _ T (up t) e).trans (Finset.sum_congr rfl fun x _ => ?_)) (Finset.sum_congr rfl fun s _ => ?_)
  · rw [show k0_pay20 V3 (lgK i Z L) (ix2 (up t) x) = _ from bK_at i Z L (up t) x, row_up, q_at]
    rfl
  · by_cases hs : s ≤ t
    · rw [if_pos hs, if_pos hs, v_at]
      refine congrArg (· * _) (Finset.sum_congr rfl fun x _ => ?_)
      rw [bK_at, bK_at, row_up, row_up, kK_up, q_at]
      exact congrArg (fun y => _ * Ideal.exp y) (min_cum_sub (fun r => hl x _) hs)
    · rw [if_neg hs, if_neg hs]

/-- The gated output of a head at a token is the recurrence's. -/
theorem headO_at (hl : ∀ n z, gateLog (lane L n) z ≤ 0) (t : Fin 4) (e : Fin 128) :
    headO i Q Z W G L O T (ix2 (up t) e) = out (lane L) (tok Q) (tok Z) (tok W) (start T) (lane O) (tok G) t e := by
  refine (norm_at _ _ _ (up t) e).trans ?_
  simp only [o7_at i Q Z W L T hl, g_at]
  rfl

/-- In a row with no token the gate is zero, and so is the output. -/
theorem headO_pad (t : Fin 8) (hG : ∀ n, G (ix3 0 t n) = 0) (e : Fin 128) : headO i Q Z W G L O T (ix2 t e) = 0 := by
  refine (norm_at _ _ _ t e).trans ?_
  rw [g_at, hG, zero_mul, mul_zero]

/-- The state a head leaves is the recurrence's, turned. -/
theorem headS_at (e d : Fin 128) : headS i Z W L T (ix3 0 e d) = state (lane L) (tok Z) (tok W) (start T) d e := by
  refine (st_at T _ _ _ e d).trans ?_
  unfold state
  rw [bK_at, show row 7 = 3 from by decide]
  refine congrArg₂ (· + ·) rfl ?_
  rw [show (∑ x : Fin 8, k0_pay13 W (ix2 x e) * (kK i Z L (ix2 x d) * Ideal.exp (dec (lane L) (tok Z) d 3 - bK i Z L (ix2 x d)))) = _ from Fin.sum_univ_add (a := 4) (b := 4) _]
  have hz : ∀ s : Fin 4, k0_pay13 W (ix2 (Fin.natAdd 4 s) e) * (kK i Z L (ix2 (Fin.natAdd 4 s) d) * Ideal.exp (dec (lane L) (tok Z) d 3 - bK i Z L (ix2 (Fin.natAdd 4 s) d))) = 0 := fun s => by
    rw [kK_pad i Z L (Fin.natAdd 4 s) (by show 4 ≤ 4 + s.val; omega), zero_mul, mul_zero]
  rw [Finset.sum_eq_zero fun s _ => hz s, add_zero]
  refine Finset.sum_congr rfl fun s _ => ?_
  rw [show (Fin.castAdd 4 s : Fin 8) = up s from rfl, kK_up, bK_at, row_up, v_at, mul_comm]
  rfl

end Cert.HgrnIdeal.Value

end
-- ==== Proof.Hgrn.Body.lean ====
module

public import proofs.«01_k».proof.Proof.Hgrn.Head
public import proofs.«01_k».proof.Proof.Gen.HgrnIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! The body's four heads in terms of one: each is the same function of its own lanes of the blocks. -/

namespace Cert.HgrnIdeal.Value

open Cert.HgrnIdeal Cert.HgrnIdeal.Gen Cert.HgrnMath

section

variable (i : grid0.Coords) (x0 : Vec Ideal S1x8x2048 .f32) (x1 x2 : Vec Ideal S1x512 .f32) (x3 : Vec Ideal S1x4x128x128 .f32)

/-- The gated output of head 0 of a block. -/
def HO0 : FVec Ideal S8x128 .f32 :=
  headO i (View.ld x0 (Rect.unit ![0, 0, 0] ![1, 8, 128] inb_S1x8x2048_S1x8x128_0_0_0)) (View.ld x0 (Rect.unit ![0, 0, 512] ![1, 8, 128] inb_S1x8x2048_S1x8x128_0_0_512)) (View.ld x0 (Rect.unit ![0, 0, 1024] ![1, 8, 128] inb_S1x8x2048_S1x8x128_0_0_1024)) (View.ld x0 (Rect.unit ![0, 0, 1536] ![1, 8, 128] inb_S1x8x2048_S1x8x128_0_0_1536))
    (View.ld x1 (Rect.unit ![0, 0] ![1, 128] inb_S1x512_S1x128_0_0)) (View.ld x2 (Rect.unit ![0, 0] ![1, 128] inb_S1x512_S1x128_0_0)) (k0_pay6 (View.ld x3 (Rect.unit ![0, 0, 0, 0] ![1, 1, 128, 128] inb_S1x4x128x128_S1x1x128x128_0_0_0_0)))

/-- The state head 0 of a block leaves. -/
def HS0 : FVec Ideal S1x128x128 .f32 :=
  headS i (View.ld x0 (Rect.unit ![0, 0, 512] ![1, 8, 128] inb_S1x8x2048_S1x8x128_0_0_512)) (View.ld x0 (Rect.unit ![0, 0, 1024] ![1, 8, 128] inb_S1x8x2048_S1x8x128_0_0_1024)) (View.ld x1 (Rect.unit ![0, 0] ![1, 128] inb_S1x512_S1x128_0_0)) (k0_pay6 (View.ld x3 (Rect.unit ![0, 0, 0, 0] ![1, 1, 128, 128] inb_S1x4x128x128_S1x1x128x128_0_0_0_0)))

/-- The gated output of head 1 of a block. -/
def HO1 : FVec Ideal S8x128 .f32 :=
  headO i (View.ld x0 (Rect.unit ![0, 0, 128] ![1, 8, 128] inb_S1x8x2048_S1x8x128_0_0_128)) (View.ld x0 (Rect.unit ![0, 0, 640] ![1, 8, 128] inb_S1x8x2048_S1x8x128_0_0_640)) (View.ld x0 (Rect.unit ![0, 0, 1152] ![1, 8, 128] inb_S1x8x2048_S1x8x128_0_0_1152)) (View.ld x0 (Rect.unit ![0, 0, 1664] ![1, 8, 128] inb_S1x8x2048_S1x8x128_0_0_1664))
    (View.ld x1 (Rect.unit ![0, 128] ![1, 128] inb_S1x512_S1x128_0_128)) (View.ld x2 (Rect.unit ![0, 128] ![1, 128] inb_S1x512_S1x128_0_128)) (k0_pay7 (View.ld x3 (Rect.unit ![0, 1, 0, 0] ![1, 1, 128, 128] inb_S1x4x128x128_S1x1x128x128_0_1_0_0)))

/-- The state head 1 of a block leaves. -/
def HS1 : FVec Ideal S1x128x128 .f32 :=
  headS i (View.ld x0 (Rect.unit ![0, 0, 640] ![1, 8, 128] inb_S1x8x2048_S1x8x128_0_0_640)) (View.ld x0 (Rect.unit ![0, 0, 1152] ![1, 8, 128] inb_S1x8x2048_S1x8x128_0_0_1152)) (View.ld x1 (Rect.unit ![0, 128] ![1, 128] inb_S1x512_S1x128_0_128)) (k0_pay7 (View.ld x3 (Rect.unit ![0, 1, 0, 0] ![1, 1, 128, 128] inb_S1x4x128x128_S1x1x128x128_0_1_0_0)))

/-- The gated output of head 2 of a block. -/
def HO2 : FVec Ideal S8x128 .f32 :=
  headO i (View.ld x0 (Rect.unit ![0, 0, 256] ![1, 8, 128] inb_S1x8x2048_S1x8x128_0_0_256)) (View.ld x0 (Rect.unit ![0, 0, 768] ![1, 8, 128] inb_S1x8x2048_S1x8x128_0_0_768)) (View.ld x0 (Rect.unit ![0, 0, 1280] ![1, 8, 128] inb_S1x8x2048_S1x8x128_0_0_1280)) (View.ld x0 (Rect.unit ![0, 0, 1792] ![1, 8, 128] inb_S1x8x2048_S1x8x128_0_0_1792))
    (View.ld x1 (Rect.unit ![0, 256] ![1, 128] inb_S1x512_S1x128_0_256)) (View.ld x2 (Rect.unit ![0, 256] ![1, 128] inb_S1x512_S1x128_0_256)) (k0_pay8 (View.ld x3 (Rect.unit ![0, 2, 0, 0] ![1, 1, 128, 128] inb_S1x4x128x128_S1x1x128x128_0_2_0_0)))

/-- The state head 2 of a block leaves. -/
def HS2 : FVec Ideal S1x128x128 .f32 :=
  headS i (View.ld x0 (Rect.unit ![0, 0, 768] ![1, 8, 128] inb_S1x8x2048_S1x8x128_0_0_768)) (View.ld x0 (Rect.unit ![0, 0, 1280] ![1, 8, 128] inb_S1x8x2048_S1x8x128_0_0_1280)) (View.ld x1 (Rect.unit ![0, 256] ![1, 128] inb_S1x512_S1x128_0_256)) (k0_pay8 (View.ld x3 (Rect.unit ![0, 2, 0, 0] ![1, 1, 128, 128] inb_S1x4x128x128_S1x1x128x128_0_2_0_0)))

/-- The gated output of head 3 of a block. -/
def HO3 : FVec Ideal S8x128 .f32 :=
  headO i (View.ld x0 (Rect.unit ![0, 0, 384] ![1, 8, 128] inb_S1x8x2048_S1x8x128_0_0_384)) (View.ld x0 (Rect.unit ![0, 0, 896] ![1, 8, 128] inb_S1x8x2048_S1x8x128_0_0_896)) (View.ld x0 (Rect.unit ![0, 0, 1408] ![1, 8, 128] inb_S1x8x2048_S1x8x128_0_0_1408)) (View.ld x0 (Rect.unit ![0, 0, 1920] ![1, 8, 128] inb_S1x8x2048_S1x8x128_0_0_1920))
    (View.ld x1 (Rect.unit ![0, 384] ![1, 128] inb_S1x512_S1x128_0_384)) (View.ld x2 (Rect.unit ![0, 384] ![1, 128] inb_S1x512_S1x128_0_384)) (k0_pay9 (View.ld x3 (Rect.unit ![0, 3, 0, 0] ![1, 1, 128, 128] inb_S1x4x128x128_S1x1x128x128_0_3_0_0)))

/-- The state head 3 of a block leaves. -/
def HS3 : FVec Ideal S1x128x128 .f32 :=
  headS i (View.ld x0 (Rect.unit ![0, 0, 896] ![1, 8, 128] inb_S1x8x2048_S1x8x128_0_0_896)) (View.ld x0 (Rect.unit ![0, 0, 1408] ![1, 8, 128] inb_S1x8x2048_S1x8x128_0_0_1408)) (View.ld x1 (Rect.unit ![0, 384] ![1, 128] inb_S1x512_S1x128_0_384)) (k0_pay9 (View.ld x3 (Rect.unit ![0, 3, 0, 0] ![1, 1, 128, 128] inb_S1x4x128x128_S1x1x128x128_0_3_0_0)))

end

/-- Four heads' outputs side by side. -/
def CATO (a b c d : FVec Ideal S8x128 .f32) : FVec Ideal S1x8x512 .f32 :=
  shapeCast S1x8x512 (concatenate S8x512 1 [⟨S8x128, a⟩, ⟨S8x128, b⟩, ⟨S8x128, c⟩, ⟨S8x128, d⟩] concatenates_S8x128_S8x128_S8x128_S8x128_S8x512_d1) shapeCasts_S8x512_S1x8x512

variable (m : (ℓ : Loc nD τ sig) → Buf (Elt Ideal) ℓ) (c : Dev nD)

set_option maxHeartbeats 2000000 in
/-- The first result's block is the four heads' outputs side by side. -/
theorem out4_eq (t : Fin cfg0.N) (y) : (outsAt0 m c t).1 y
    = CATO (HO0 (grid0.coords t) (iblk m c 0 t) (iblk m c 1 t) (iblk m c 2 t) (iblk m c 3 t))
        (HO1 (grid0.coords t) (iblk m c 0 t) (iblk m c 1 t) (iblk m c 2 t) (iblk m c 3 t))
        (HO2 (grid0.coords t) (iblk m c 0 t) (iblk m c 1 t) (iblk m c 2 t) (iblk m c 3 t))
        (HO3 (grid0.coords t) (iblk m c 0 t) (iblk m c 1 t) (iblk m c 2 t) (iblk m c 3 t)) y := by
  unfold outsAt0; dsimp only; frame_open
  simp (disch := decide) only [↓ View.readCov_skip, ↓ View.readCov_cons_toLoadRect, ↓ View.readCov_fill]
  frame_out
  rfl

set_option maxHeartbeats 2000000 in
/-- The second result's block is the four heads' states, each turned. -/
theorem out5_eq (t : Fin cfg0.N) (y) : (outsAt0 m c t).2 y
    = View.canon [⟨Rect.unit ![0, 3, 0, 0] ![1, 1, 128, 128] inb_S1x4x128x128_S1x1x128x128_0_3_0_0, k0_pay5 (F := Ideal) (HS3 (grid0.coords t) (iblk m c 0 t) (iblk m c 1 t) (iblk m c 3 t))⟩,
        ⟨Rect.unit ![0, 2, 0, 0] ![1, 1, 128, 128] inb_S1x4x128x128_S1x1x128x128_0_2_0_0, k0_pay4 (F := Ideal) (HS2 (grid0.coords t) (iblk m c 0 t) (iblk m c 1 t) (iblk m c 3 t))⟩,
        ⟨Rect.unit ![0, 1, 0, 0] ![1, 1, 128, 128] inb_S1x4x128x128_S1x1x128x128_0_1_0_0, k0_pay3 (F := Ideal) (HS1 (grid0.coords t) (iblk m c 0 t) (iblk m c 1 t) (iblk m c 3 t))⟩,
        ⟨Rect.unit ![0, 0, 0, 0] ![1, 1, 128, 128] inb_S1x4x128x128_S1x1x128x128_0_0_0_0, k0_pay2 (F := Ideal) (HS0 (grid0.coords t) (iblk m c 0 t) (iblk m c 1 t) (iblk m c 3 t))⟩] y := by
  unfold outsAt0; dsimp only; frame_open
  simp (disch := decide) only [↓ View.readCov_skip, ↓ View.readCov_cons_toLoadRect, ↓ View.readCov_fill]
  frame_out
  rfl

end Cert.HgrnIdeal.Value

end
-- ==== Proof.Hgrn.Sum.lean ====
module

public import Idealize.ShloMosaic.Lib.Pointwise

@[expose] public section

noncomputable section

open Idealize.ShloMosaic

/-! The running sums of the reference over the extended reals: what a window sum holds at an index. -/

namespace Cert.HgrnMath

/-- A left fold of additions is the start plus the sum. -/
theorem foldl_add_eq {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A window sum from zero, as a sum over the window's positions. -/
theorem window_sum {s t u : Shape} (window strides lo hi : Fin s.rank → Nat) (x : FVec Ideal s .f32) (init : u.Idx → EReal)
    (h : s.ReduceWindows window strides lo hi t) (hu : 0 < u.numel) (h0 : init (Shape.Idx.first hu) = 0) (j : t.Idx) :
    Host.reduceWindowAdd (F := Ideal) (φ := .f32) window strides lo hi x init h hu j
      = ∑ i : (⟨s.rank, window⟩ : Shape).Idx,
          if hin : ∀ a, lo a ≤ (j (a.cast h.1.symm)).val * strides a + (i a).val ∧ (j (a.cast h.1.symm)).val * strides a + (i a).val - lo a < s.size a
          then x (fun a => ⟨(j (a.cast h.1.symm)).val * strides a + (i a).val - lo a, (hin a).2⟩) else 0 := by
  show Ideal.hostReduceWindowAdd window strides lo hi h x (init (Shape.Idx.first hu)) j = _
  unfold Ideal.hostReduceWindowAdd Host.reduceWindow
  dsimp only
  rw [foldl_add_eq, h0, zero_add, ← List.ofFn_eq_map, List.sum_ofFn]
  refine Eq.trans (Finset.sum_congr rfl fun n _ => ?_) (Equiv.sum_comp (⟨s.rank, window⟩ : Shape).rowMajor.symm (fun i => if hin : ∀ a, lo a ≤ (j (a.cast h.1.symm)).val * strides a + (i a).val ∧ (j (a.cast h.1.symm)).val * strides a + (i a).val - lo a < s.size a
          then x (fun a => ⟨(j (a.cast h.1.symm)).val * strides a + (i a).val - lo a, (hin a).2⟩) else 0))
  congr

/-- A sum over the places of a window that is as long as the axis and ends at place `t`. -/
theorem sum_window32 (f : Fin 32 → EReal) (t : Fin 32) :
    (∑ j : Fin 32, if h : 31 ≤ t.val + j.val then f ⟨t.val + j.val - 31, by omega⟩ else 0) = ∑ j : Fin 32, if j ≤ t then f j else 0 := by
  have e1 : (∑ j : Fin 32, if h : 31 ≤ t.val + j.val then f ⟨t.val + j.val - 31, by omega⟩ else 0)
      = ∑ j : Fin 32, if 31 ≤ t.val + j.val then f ⟨(t.val + j.val - 31) % 32, Nat.mod_lt _ (by decide)⟩ else 0 := by
    refine Finset.sum_congr rfl fun j _ => ?_
    by_cases h : 31 ≤ t.val + j.val
    · rw [dif_pos h, if_pos h]
      exact congrArg f (Fin.ext (by show t.val + j.val - 31 = (t.val + j.val - 31) % 32; omega))
    · rw [dif_neg h, if_neg h]
  rw [e1, ← Finset.sum_filter, ← Finset.sum_filter]
  refine Finset.sum_bij' (fun j _ => (⟨(t.val + j.val - 31) % 32, Nat.mod_lt _ (by decide)⟩ : Fin 32)) (fun j _ => (⟨(31 - t.val + j.val) % 32, Nat.mod_lt _ (by decide)⟩ : Fin 32)) ?_ ?_ ?_ ?_ ?_
  · intro j hj
    have := (Finset.mem_filter.1 hj).2
    refine Finset.mem_filter.2 ⟨Finset.mem_univ _, ?_⟩
    show (t.val + j.val - 31) % 32 ≤ t.val
    omega
  · intro j hj
    have : j.val ≤ t.val := (Finset.mem_filter.1 hj).2
    refine Finset.mem_filter.2 ⟨Finset.mem_univ _, ?_⟩
    show 31 ≤ t.val + (31 - t.val + j.val) % 32
    omega
  · intro j hj
    have := (Finset.mem_filter.1 hj).2
    refine Fin.ext ?_
    show (31 - t.val + (t.val + j.val - 31) % 32) % 32 = j.val
    omega
  · intro j hj
    have : j.val ≤ t.val := (Finset.mem_filter.1 hj).2
    refine Fin.ext ?_
    show (t.val + (31 - t.val + j.val) % 32 - 31) % 32 = j.val
    omega
  · intro j hj
    rfl

end Cert.HgrnMath

end
-- ==== Proof.Hgrn.Ref.lean ====
module

public import proofs.«01_k».proof.Proof.Hgrn.Spec
public import proofs.«01_k».proof.Proof.Hgrn.Sum
public import proofs.«01_k».proof.Proof.Gen.HgrnRefIdeal.Run
public import Idealize.ShloMosaic.Lib.Pointwise

@[expose] public section

set_option maxRecDepth 16384

noncomputable section

open Idealize.ShloMosaic Idealize.ShloMosaic.TcCoe Idealize.SL.Sem

/-! The reference's two results, part by part, and what each part holds at an index. -/

namespace Cert.HgrnRefIdeal.Value

open Cert.HgrnRefIdeal Cert.HgrnRefIdeal.Gen Cert.HgrnMath

/-- The exponentials of the gate logits less their maximum. -/
def EX (x : FVec Ideal S2x512 .f32) : FVec Ideal S2x512 .f32 :=
  Host.exp (subf x (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf x (constant S_ .f32 0xFF800000#32) reducesTo_S2x512_S512_d0 h_S_)))))

/-- The softmax of the gate logits over the layers. -/
def SMX (x : FVec Ideal S2x512 .f32) : FVec Ideal S2x512 .f32 :=
  Host.divf (EX x) (broadcastInDim S2x512 ![0, 1] bcast_S1x512_S2x512_0_1 (broadcastInDim S1x512 ![1] bcast_S512_S1x512_1 (Host.reduceAdd (EX x) (constant S_ .f32 0x00000000#32) reducesTo_S2x512_S512_d0 h_S_)))

/-- The running sum of the softmax over the layers. -/
def LBC (x : FVec Ideal S2x512 .f32) : FVec Ideal S2x512 .f32 :=
  Host.reduceWindowAdd ![2, 1] ![1, 1] ![1, 0] ![0, 0] (SMX x) (broadcastInDim S_ ![] bcast_S_S_ (constant S_ .f32 0x00000000#32)) reduceWindows_S2x512_S2x512_w2s1p1_0_w1s1p0_0 h_S_

/-- The lower bounds of the gates, by head. -/
def LB (x : FVec Ideal S2x512 .f32) : FVec Ideal S4x128 .f32 :=
  shapeCast _ (shapeCast _ (extractStridedSlice S1x512 ![0, 0] (LBC x) slices_S2x512_S1x512_0_0) shapeCasts_S1x512_S512) shapeCasts_S512_S4x128

/-- The queries by head. -/
def QP (hm : FVec Ideal S128x4x2048 .f32) : FVec Ideal S128x4x4x128 .f32 :=
  shapeCast _ (extractStridedSlice S128x4x512 ![0, 0, 0] hm slices_S128x4x2048_S128x4x512_0_0_0) shapeCasts_S128x4x512_S128x4x4x128

/-- The gate inputs by head. -/
def ZP (hm : FVec Ideal S128x4x2048 .f32) : FVec Ideal S128x4x4x128 .f32 :=
  shapeCast _ (extractStridedSlice S128x4x512 ![0, 0, 512] hm slices_S128x4x2048_S128x4x512_0_0_512) shapeCasts_S128x4x512_S128x4x4x128

/-- The values by head. -/
def VP (hm : FVec Ideal S128x4x2048 .f32) : FVec Ideal S128x4x4x128 .f32 :=
  shapeCast _ (extractStridedSlice S128x4x512 ![0, 0, 1024] hm slices_S128x4x2048_S128x4x512_0_0_1024) shapeCasts_S128x4x512_S128x4x4x128

/-- The output gates by head. -/
def GP (hm : FVec Ideal S128x4x2048 .f32) : FVec Ideal S128x4x4x128 .f32 :=
  shapeCast _ (extractStridedSlice S128x4x512 ![0, 0, 1536] hm slices_S128x4x2048_S128x4x512_0_0_1536) shapeCasts_S128x4x512_S128x4x4x128

/-- The logs of the forget gates. -/
def LG (hm : FVec Ideal S128x4x2048 .f32) (x : FVec Ideal S2x512 .f32) : FVec Ideal S128x4x4x128 .f32 :=
  Host.log (addf (broadcastInDim S128x4x4x128 ![0, 1, 2, 3] bcast_S1x1x4x128_S128x4x4x128_0_1_2_3 (broadcastInDim S1x1x4x128 ![2, 3] bcast_S4x128_S1x1x4x128_2_3 (LB x))) (mulf (broadcastInDim S128x4x4x128 ![0, 1, 2, 3] bcast_S1x1x4x128_S128x4x4x128_0_1_2_3 (broadcastInDim S1x1x4x128 ![2, 3] bcast_S4x128_S1x1x4x128_2_3 (subf (broadcastInDim S4x128 ![] bcast_S_S4x128 (constant S_ .f32 0x3F800000#32)) (LB x)))) (Host.divf (broadcastInDim S128x4x4x128 ![] bcast_S_S128x4x4x128 (constant S_ .f32 0x3F800000#32)) (addf (broadcastInDim S128x4x4x128 ![] bcast_S_S128x4x4x128 (constant S_ .f32 0x3F800000#32)) (Host.exp (Host.negf (ZP hm)))))))

/-- The keys. -/
def KP (hm : FVec Ideal S128x4x2048 .f32) (x : FVec Ideal S2x512 .f32) : FVec Ideal S128x4x4x128 .f32 :=
  mulf (broadcastInDim S128x4x4x128 ![0, 1, 2, 3] bcast_S1x1x4x128_S128x4x4x128_0_1_2_3 (broadcastInDim S1x1x4x128 ![2, 3] bcast_S4x128_S1x1x4x128_2_3 (subf (broadcastInDim S4x128 ![] bcast_S_S4x128 (constant S_ .f32 0x3F800000#32)) (LB x)))) (Host.divf (broadcastInDim S128x4x4x128 ![] bcast_S_S128x4x4x128 (constant S_ .f32 0x3F800000#32)) (addf (broadcastInDim S128x4x4x128 ![] bcast_S_S128x4x4x128 (constant S_ .f32 0x3F800000#32)) (Host.exp (Host.negf (Host.negf (ZP hm))))))

/-- A part cut into the one chunk of 32 tokens, the last 28 of them empty. -/
def CH (a : FVec Ideal S128x4x4x128 .f32) : FVec Ideal S128x4x32x128 .f32 :=
  transpose S128x4x32x128 [0, 2, 1, 3] (pad S128x32x4x128 ![0, 0, 0, 0] ![0, 28, 0, 0] ![0, 0, 0, 0] a (sitofp .f32 (constantI S_ 32 0#32)) pads_S128x4x4x128_S128x32x4x128_000_0280_000_000 h_S_) transposes_S128x32x4x128_S128x4x32x128_0_2_1_3

/-- The running logs of the gates along the chunk. -/
def CUM (hm : FVec Ideal S128x4x2048 .f32) (x : FVec Ideal S2x512 .f32) : FVec Ideal S128x4x32x128 .f32 :=
  Host.reduceWindowAdd ![1, 1, 32, 1] ![1, 1, 1, 1] ![0, 0, 31, 0] ![0, 0, 0, 0] (CH (LG hm x)) (broadcastInDim S_ ![] bcast_S_S_ (constant S_ .f32 0x00000000#32)) reduceWindows_S128x4x32x128_S128x4x32x128_w1s1p0_0_w1s1p0_0_w32s1p31_0_w1s1p0_0 h_S_

/-- The states that come in. -/
def S0 (s : FVec Ideal S1x128x4x128x128 .f32) : FVec Ideal S128x4x128x128 .f32 :=
  shapeCast _ s shapeCasts_S1x128x4x128x128_S128x4x128x128

/-- What the states that come in give to the read-out. -/
def INTER (hm : FVec Ideal S128x4x2048 .f32) (x : FVec Ideal S2x512 .f32) (s : FVec Ideal S1x128x4x128x128 .f32) : FVec Ideal S128x4x32x128 .f32 :=
  Host.dotGeneral dot_S128x4x32x128_S128x4x128x128_S128x4x32x128_3_2_2_3_01_01 none (mulf (CH (QP hm)) (Host.exp (CUM hm x))) (S0 s)

/-- The decayed scores within the chunk. -/
def SCORE (hm : FVec Ideal S128x4x2048 .f32) (x : FVec Ideal S2x512 .f32) : FVec Ideal S128x4x32x32 .f32 :=
  Host.reduceAdd (mulf (mulf (broadcastInDim S128x4x32x32x128 ![0, 1, 2, 3, 4] bcast_S128x4x32x1x128_S128x4x32x32x128_0_1_2_3_4 (broadcastInDim S128x4x32x1x128 ![0, 1, 2, 4] bcast_S128x4x32x128_S128x4x32x1x128_0_1_2_4 (CH (QP hm)))) (broadcastInDim S128x4x32x32x128 ![0, 1, 2, 3, 4] bcast_S128x4x1x32x128_S128x4x32x32x128_0_1_2_3_4 (broadcastInDim S128x4x1x32x128 ![0, 1, 3, 4] bcast_S128x4x32x128_S128x4x1x32x128_0_1_3_4 (CH (KP hm x))))) (Host.exp (select (broadcastInDim S128x4x32x32x128 ![2, 3, 4] bcast_S32x32x1_S128x4x32x32x128_2_3_4 (broadcastInDim S32x32x1 ![0, 1] bcast_S32x32_S32x32x1_0_1 (cmpi .sge (broadcastInDim S32x32 ![0, 1] bcast_S32x1_S32x32_0_1 (broadcastInDim S32x1 ![0] bcast_S32_S32x1_0 (iotaInDim S32 32 0))) (broadcastInDim S32x32 ![0, 1] bcast_S1x32_S32x32_0_1 (broadcastInDim S1x32 ![1] bcast_S32_S1x32_1 (iotaInDim S32 32 0)))))) (subf (broadcastInDim S128x4x32x32x128 ![0, 1, 2, 3, 4] bcast_S128x4x32x1x128_S128x4x32x32x128_0_1_2_3_4 (broadcastInDim S128x4x32x1x128 ![0, 1, 2, 4] bcast_S128x4x32x128_S128x4x32x1x128_0_1_2_4 (CUM hm x))) (broadcastInDim S128x4x32x32x128 ![0, 1, 2, 3, 4] bcast_S128x4x1x32x128_S128x4x32x32x128_0_1_2_3_4 (broadcastInDim S128x4x1x32x128 ![0, 1, 3, 4] bcast_S128x4x32x128_S128x4x1x32x128_0_1_3_4 (CUM hm x)))) (broadcastInDim S128x4x32x32x128 ![] bcast_S_S128x4x32x32x128 (id (constant S_ .f32 0xFF800000#32)))))) (constant S_ .f32 0x00000000#32) reducesTo_S128x4x32x32x128_S128x4x32x32_d4 h_S_

/-- What the chunk's own tokens give to the read-out. -/
def INTRA (hm : FVec Ideal S128x4x2048 .f32) (x : FVec Ideal S2x512 .f32) : FVec Ideal S128x4x32x128 .f32 :=
  Host.dotGeneral dot_S128x4x32x32_S128x4x32x128_S128x4x32x128_3_2_2_3_01_01 none (SCORE hm x) (CH (VP hm))

/-- The read-out of the four tokens. -/
def RO (hm : FVec Ideal S128x4x2048 .f32) (x : FVec Ideal S2x512 .f32) (s : FVec Ideal S1x128x4x128x128 .f32) : FVec Ideal S128x4x4x128 .f32 :=
  extractStridedSlice S128x4x4x128 ![0, 0, 0, 0] (transpose S128x32x4x128 [0, 2, 1, 3] (addf (INTER hm x s) (INTRA hm x)) transposes_S128x4x32x128_S128x32x4x128_0_2_1_3) slices_S128x32x4x128_S128x4x4x128_0_0_0_0

/-- The normalised and gated output of the four tokens. -/
def OUTU (hm : FVec Ideal S128x4x2048 .f32) (x : FVec Ideal S2x512 .f32) (w : FVec Ideal S1x512 .f32) (s : FVec Ideal S1x128x4x128x128 .f32) : FVec Ideal S128x4x4x128 .f32 :=
  mulf (mulf (mulf (RO hm x s) (broadcastInDim S128x4x4x128 ![0, 1, 2, 3] bcast_S128x4x4x1_S128x4x4x128_0_1_2_3 (Host.rsqrt (addf (Host.divf (broadcastInDim S128x4x4x1 ![0, 1, 2] bcast_S128x4x4_S128x4x4x1_0_1_2 (Host.reduceAdd (mulf (RO hm x s) (RO hm x s)) (constant S_ .f32 0x00000000#32) reducesTo_S128x4x4x128_S128x4x4_d3 h_S_)) (broadcastInDim S128x4x4x1 ![] bcast_S_S128x4x4x1 (constant S_ .f32 0x43000000#32))) (broadcastInDim S128x4x4x1 ![] bcast_S_S128x4x4x1 (constant S_ .f32 0x358637BD#32)))))) (broadcastInDim S128x4x4x128 ![0, 1, 2, 3] bcast_S1x1x4x128_S128x4x4x128_0_1_2_3 (broadcastInDim S1x1x4x128 ![2, 3] bcast_S4x128_S1x1x4x128_2_3 (shapeCast _ (shapeCast _ w shapeCasts_S1x512_S512) shapeCasts_S512_S4x128)))) (mulf (GP hm) (Host.divf (broadcastInDim S128x4x4x128 ![] bcast_S_S128x4x4x128 (constant S_ .f32 0x3F800000#32)) (addf (broadcastInDim S128x4x4x128 ![] bcast_S_S128x4x4x128 (constant S_ .f32 0x3F800000#32)) (Host.exp (Host.negf (GP hm))))))

/-- The reference's first result. -/
def OUTR (hm : FVec Ideal S128x4x2048 .f32) (x : FVec Ideal S2x512 .f32) (w : FVec Ideal S1x512 .f32) (s : FVec Ideal S1x128x4x128x128 .f32) : FVec Ideal S128x8x512 .f32 :=
  pad S128x8x512 ![0, 0, 0] ![0, 4, 0] ![0, 0, 0] (shapeCast _ (OUTU hm x w s) shapeCasts_S128x4x4x128_S128x4x512) (sitofp .f32 (constantI S_ 32 0#32)) pads_S128x4x512_S128x8x512_000_040_000 h_S_

/-- The reference's second result. -/
def STR (hm : FVec Ideal S128x4x2048 .f32) (x : FVec Ideal S2x512 .f32) (s : FVec Ideal S1x128x4x128x128 .f32) : FVec Ideal S128x4x128x128 .f32 :=
  addf (mulf (broadcastInDim S128x4x128x128 ![0, 1, 2, 3] bcast_S128x4x128x1_S128x4x128x128_0_1_2_3 (broadcastInDim S128x4x128x1 ![0, 1, 2] bcast_S128x4x128_S128x4x128x1_0_1_2 (Host.exp (shapeCast _ (extractStridedSlice S128x4x1x128 ![0, 0, 31, 0] (CUM hm x) slices_S128x4x32x128_S128x4x1x128_0_0_31_0) shapeCasts_S128x4x1x128_S128x4x128)))) (S0 s)) (Host.dotGeneral dot_S128x4x32x128_S128x4x32x128_S128x4x128x128_2_2_3_3_01_01 none (mulf (CH (KP hm x)) (Host.exp (subf (broadcastInDim S128x4x32x128 ![0, 1, 2, 3] bcast_S128x4x1x128_S128x4x32x128_0_1_2_3 (extractStridedSlice S128x4x1x128 ![0, 0, 31, 0] (CUM hm x) slices_S128x4x32x128_S128x4x1x128_0_0_31_0)) (CUM hm x)))) (CH (VP hm)))

/-- The first result as it is run is `OUTR` of the arguments. -/
theorem out_eq (m : (ℓ : Loc nD τ sig) → Buf (Elt Ideal) ℓ) (c : Dev nD) :
    res_main_v119 m c = OUTR (m ((c.tc : Thread nD τ).loc main_arg0)) (m ((c.tc : Thread nD τ).loc main_arg1)) (m ((c.tc : Thread nD τ).loc main_arg2)) (m ((c.tc : Thread nD τ).loc main_arg3)) := rfl

/-- The second result as it is run is `STR` of the arguments. -/
theorem state_eq (m : (ℓ : Loc nD τ sig) → Buf (Elt Ideal) ℓ) (c : Dev nD) :
    res_main_v97 m c = STR (m ((c.tc : Thread nD τ).loc main_arg0)) (m ((c.tc : Thread nD τ).loc main_arg1)) (m ((c.tc : Thread nD τ).loc main_arg3)) := rfl

variable (hm : FVec Ideal S128x4x2048 .f32) (x : FVec Ideal S2x512 .f32) (w : FVec Ideal S1x512 .f32) (s : FVec Ideal S1x128x4x128x128 .f32)
variable (b : Fin 128) (h : Fin 4) (n e : Fin 128)

/-- Lane `n` of head `h` among a row's 512 columns. -/
def hc (h : Fin 4) (n : Fin 128) : Fin 512 := ⟨h.val * 128 + n.val, by omega⟩

/-- Lane `n` of head `h` in part `j` of a row of the recurrence's inputs. -/
def pc (j h : Fin 4) (n : Fin 128) : Fin 2048 := ⟨j.val * 512 + h.val * 128 + n.val, by omega⟩

/-- The queries at an index. -/
theorem q_apply (t : Fin 4) : QP hm (ix4 b t h n) = hm (ix3 b t (pc 0 h n)) := by
  pointwise [QP, pc]

/-- The gate inputs at an index. -/
theorem z_apply (t : Fin 4) : ZP hm (ix4 b t h n) = hm (ix3 b t (pc 1 h n)) := by
  pointwise [ZP]
  refine congrArg (fun r => hm (ix3 b t r)) (Fin.ext ?_)
  dsimp only [pc]
  omega

/-- The values at an index. -/
theorem v_apply (t : Fin 4) : VP hm (ix4 b t h n) = hm (ix3 b t (pc 2 h n)) := by
  pointwise [VP]
  refine congrArg (fun r => hm (ix3 b t r)) (Fin.ext ?_)
  dsimp only [pc]
  omega

/-- The output gates at an index. -/
theorem g_apply (t : Fin 4) : GP hm (ix4 b t h n) = hm (ix3 b t (pc 3 h n)) := by
  pointwise [GP]
  refine congrArg (fun r => hm (ix3 b t r)) (Fin.ext ?_)
  dsimp only [pc]
  omega

/-- A head's lower bounds are a stretch of the first row. -/
theorem lb_apply : LB x (ix2 h n) = LBC x (ix2 0 (hc h n)) := by
  pointwise [LB, hc]

/-- The states that come in at an index. -/
theorem s0_apply : S0 s (ix4 b h n e) = s (ix5 0 b h n e) := by
  pointwise [S0]

/-- The log of the gate at an index. -/
theorem lg_apply (t : Fin 4) : LG hm x (ix4 b t h n) = gateLog (LB x (ix2 h n)) (ZP hm (ix4 b t h n)) := by
  pointwise [LG, gateLog, Ideal.logistic]

/-- The key at an index. -/
theorem k_apply (t : Fin 4) : KP hm x (ix4 b t h n) = key (LB x (ix2 h n)) (ZP hm (ix4 b t h n)) := by
  pointwise [KP, key, Ideal.logistic]

/-- The integer zero as a number. -/
theorem sito0 : (FloatOps.sitofp FTy.f32 0#32 : Ideal .f32) = (0 : EReal) := by
  simp [FloatOps.sitofp]

/-- A padded chunk at an index: the token, or zero past the fourth. -/
theorem ch_apply (a : FVec Ideal S128x4x4x128 .f32) (t : Fin 32) :
    CH a (ix4 b h t n) = if ht : t.val < 4 then a (ix4 b ⟨t.val, ht⟩ h n) else 0 := by
  pointwise [CH]
  simp only [sito0]

/-- The part of the read-out from the state that came in, at an index. -/
theorem inter_apply (t : Fin 32) : INTER hm x s (ix4 b h t e) = ∑ n, CH (QP hm) (ix4 b h t n) * Ideal.exp (CUM hm x (ix4 b h t n)) * S0 s (ix4 b h n e) := by
  pointwise [INTER]

/-- The part of the read-out from the chunk, at an index. -/
theorem intra_apply (t : Fin 32) : INTRA hm x (ix4 b h t e) = ∑ r, SCORE hm x (ix4 b h t r) * CH (VP hm) (ix4 b h r e) := by
  pointwise [INTRA]

/-- The mask of the chunk: token `t` sees token `r` when `r` is not after `t`. -/
theorem mask_apply : ∀ t r : Fin 32, IntOp.cmpi CmpIPredicate.sge (BitVec.ofNat 32 t.val) (BitVec.ofNat 32 r.val) = (if r ≤ t then 1#1 else 0#1) := by
  decide +kernel

/-- The scores at an index. -/
theorem score_apply (t r : Fin 32) : SCORE hm x (ix4 b h t r)
    = ∑ n, CH (QP hm) (ix4 b h t n) * CH (KP hm x) (ix4 b h r n) * Ideal.exp (if r ≤ t then CUM hm x (ix4 b h t n) - CUM hm x (ix4 b h r n) else ⊥) := by
  pointwise [SCORE]
  refine Finset.sum_congr rfl fun y _ => ?_
  rw [mask_apply t r]
  by_cases hr : r ≤ t
  · rw [if_pos hr, if_pos hr]
    rfl
  · rw [if_neg hr, if_neg hr]
    refine congrArg (fun v => CH (QP hm) (ix4 b h t y) * CH (KP hm x) (ix4 b h r y) * Ideal.exp v) ?_
    show Ideal.ofBits .f32 4286578688#32 = ⊥
    simp [Ideal.ofBits, Ideal.ieee]

/-- The read-out at an index. -/
theorem ro_apply (t : Fin 4) : RO hm x s (ix4 b t h e) = INTER hm x s (ix4 b h (t.castLE (by decide)) e) + INTRA hm x (ix4 b h (t.castLE (by decide)) e) := by
  pointwise [RO]
  rfl

/-- The normalised and gated output at an index. -/
theorem outu_apply (t : Fin 4) : OUTU hm x w s (ix4 b t h e)
    = RO hm x s (ix4 b t h e) * Ideal.rsqrt (Ideal.div (∑ n, RO hm x s (ix4 b t h n) * RO hm x s (ix4 b t h n)) (Ideal.ofBits .f32 1124073472#32) + Ideal.ofBits .f32 897988541#32)
        * w (ix2 0 (hc h e)) * (GP hm (ix4 b t h e) * Ideal.logistic (GP hm (ix4 b t h e))) := by
  pointwise [OUTU, hc, Ideal.logistic]

/-- The first result at an index, with its empty rows. -/
theorem outr_apply (t : Fin 8) : OUTR hm x w s (ix3 b t (hc h e)) = if ht : t.val < 4 then OUTU hm x w s (ix4 b ⟨t.val, ht⟩ h e) else 0 := by
  pointwise [OUTR, hc]
  simp only [sito0]
  by_cases ht : t.val < 4
  · rw [dif_pos ht, dif_pos ⟨ht, by omega⟩]
  · rw [dif_neg ht, dif_neg fun q => ht q.1]

/-- The second result at an index. -/
theorem str_apply : STR hm x s (ix4 b h n e)
    = Ideal.exp (CUM hm x (ix4 b h 31 n)) * S0 s (ix4 b h n e)
      + ∑ r, CH (KP hm x) (ix4 b h r n) * Ideal.exp (CUM hm x (ix4 b h 31 n) - CUM hm x (ix4 b h r n)) * CH (VP hm) (ix4 b h r e) := by
  pointwise [STR]

/-- The softmax over the two rows at an index. -/
theorem smx_apply (t : Fin 2) (c : Fin 512) : SMX x (ix2 t c) = Ideal.div (EX x (ix2 t c)) (EX x (ix2 0 c) + EX x (ix2 1 c)) := by
  pointwise [SMX]
  rw [Fin.sum_univ_two]

/-- The exponential is not negative. -/
theorem exp_nonneg (a : EReal) : 0 ≤ Ideal.exp a := by
  induction a using EReal.rec with
  | bot => exact le_refl _
  | top => exact le_top
  | coe r =>
    show (0 : EReal) ≤ (Real.exp r : EReal)
    exact_mod_cast (Real.exp_pos r).le

/-- The softmax's numerators are not negative. -/
theorem ex_nonneg (t : Fin 2) (c : Fin 512) : 0 ≤ EX x (ix2 t c) := by
  pointwise [EX]
  exact exp_nonneg _

/-- A quotient of a part by a whole is between zero and one, or no number. -/
theorem div_part {a c : EReal} (ha : 0 ≤ a) (hc : 0 ≤ c) : Ideal.div a (a + c) = ⊥ ∨ 0 ≤ Ideal.div a (a + c) ∧ Ideal.div a (a + c) ≤ 1 := by
  unfold Ideal.div
  by_cases hz : a + c = 0
  · have ha0 : a = 0 := le_antisymm (hz ▸ le_add_of_nonneg_right hc) ha
    rw [if_pos hz, if_neg (by rw [ha0]; exact lt_irrefl _)]
    exact Or.inl rfl
  · rw [if_neg hz]
    refine Or.inr ⟨EReal.mul_nonneg ha (EReal.inv_nonneg_of_nonneg (add_nonneg ha hc)), ?_⟩
    have hle : a ≤ a + c := le_add_of_nonneg_right hc
    generalize a + c = y at hz hle
    induction y using EReal.rec with
    | bot => exact absurd (ha.trans hle) (not_le.2 (EReal.bot_lt_coe 0))
    | top => simp
    | coe r =>
      induction a using EReal.rec with
      | bot => exact absurd ha (not_le.2 (EReal.bot_lt_coe 0))
      | top => exact absurd hle (not_le.2 (EReal.coe_lt_top r))
      | coe p =>
        have h0 : (0 : ℝ) ≤ p := by exact_mod_cast ha
        have h1 : p ≤ r := by exact_mod_cast hle
        have h2 : r ≠ 0 := fun q => hz (by rw [q]; rfl)
        rw [← EReal.coe_inv, ← EReal.coe_mul]
        have : p * r⁻¹ ≤ 1 := by
          rw [← div_eq_mul_inv]
          exact div_le_one_of_le₀ h1 (h0.trans h1)
        exact_mod_cast this

/-- The places of a window of two rows. -/
def win2 : (⟨2, ![2, 1]⟩ : Shape).Idx ≃ Fin 2 where
  toFun i := i 0
  invFun j := ix2 j 0
  left_inv i := by
    rw [eq_ix2 i]
    exact congrArg (ix2 _) (Subsingleton.elim _ _)
  right_inv j := rfl

/-- The running sum's first row is the softmax's first row. -/
theorem lbc_apply (c : Fin 512) : LBC x (ix2 0 c) = SMX x (ix2 0 c) := by
  rw [LBC, window_sum _ _ _ _ _ _ _ _ (by pointwise)]
  rw [← Equiv.sum_comp win2.symm, Fin.sum_univ_two]
  rw [dif_neg, dif_pos, zero_add]
  · refine congrArg (SMX x) ?_
    funext k
    match k with
    | ⟨0, _⟩ => rfl
    | ⟨1, _⟩ => exact Fin.ext (by show c.val * 1 + 0 - 0 = c.val; omega)
  · intro a
    match a with
    | ⟨0, _⟩ => exact ⟨(by decide : 1 ≤ 0 * 1 + 1), (by decide : 0 * 1 + 1 - 1 < 2)⟩
    | ⟨1, _⟩ => exact ⟨Nat.zero_le _, (by have := c.isLt; omega : c.val * 1 + 0 - 0 < 512)⟩
  · intro q
    exact absurd (q 0).1 (by decide : ¬ 1 ≤ 0 * 1 + 0)

/-- The lower bounds are between zero and one, or no number. -/
theorem lb_range : LB x (ix2 h n) = ⊥ ∨ 0 ≤ LB x (ix2 h n) ∧ LB x (ix2 h n) ≤ 1 := by
  rw [lb_apply, lbc_apply, smx_apply]
  exact div_part (ex_nonneg x 0 _) (ex_nonneg x 1 _)

/-- The places of a window of 32 tokens. -/
def win32 : (⟨4, ![1, 1, 32, 1]⟩ : Shape).Idx ≃ Fin 32 where
  toFun i := i 2
  invFun j := ix4 0 0 j 0
  left_inv i := by
    funext k
    match k with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv j := rfl

/-- The chunk's running log is the sum over the places up to it. -/
theorem cum32_apply (t : Fin 32) : CUM hm x (ix4 b h t n) = ∑ j : Fin 32, if j ≤ t then CH (LG hm x) (ix4 b h j n) else 0 := by
  rw [CUM, window_sum _ _ _ _ _ _ _ _ (by pointwise)]
  rw [← Equiv.sum_comp win32.symm]
  rw [← sum_window32 (fun j => CH (LG hm x) (ix4 b h j n)) t]
  refine Finset.sum_congr rfl fun j _ => ?_
  by_cases hj : 31 ≤ t.val + j.val
  · rw [dif_pos hj, dif_pos]
    · refine congrArg (CH (LG hm x)) ?_
      funext k
      match k with
      | ⟨0, _⟩ => exact Fin.ext (by show b.val * 1 + 0 - 0 = b.val; omega)
      | ⟨1, _⟩ => exact Fin.ext (by show h.val * 1 + 0 - 0 = h.val; omega)
      | ⟨2, _⟩ => exact Fin.ext (by show t.val * 1 + j.val - 31 = t.val + j.val - 31; omega)
      | ⟨3, _⟩ => exact Fin.ext (by show n.val * 1 + 0 - 0 = n.val; omega)
    · intro a
      match a with
      | ⟨0, _⟩ => exact ⟨Nat.zero_le _, (by have := b.isLt; omega : b.val * 1 + 0 - 0 < 128)⟩
      | ⟨1, _⟩ => exact ⟨Nat.zero_le _, (by have := h.isLt; omega : h.val * 1 + 0 - 0 < 4)⟩
      | ⟨2, _⟩ => exact ⟨(by omega : 31 ≤ t.val * 1 + j.val), (by omega : t.val * 1 + j.val - 31 < 32)⟩
      | ⟨3, _⟩ => exact ⟨Nat.zero_le _, (by have := n.isLt; omega : n.val * 1 + 0 - 0 < 128)⟩
  · rw [dif_neg hj, dif_neg]
    intro q
    have q2 : 31 ≤ t.val * 1 + j.val := (q 2).1
    omega

/-- Token `t` of the four as a place of the chunk. -/
def up32 (t : Fin 4) : Fin 32 := ⟨t.val, by omega⟩

/-- A sum over a chunk whose terms past the fourth are zero. -/
theorem sum_four (f : Fin 32 → EReal) (hf : ∀ j : Fin 32, 4 ≤ j.val → f j = 0) : ∑ j, f j = ∑ j : Fin 4, f (up32 j) := by
  symm
  refine Finset.sum_of_injOn up32 (fun a _ c _ q => Fin.ext (show (up32 a).val = (up32 c).val from congrArg Fin.val q)) (fun _ _ => Finset.mem_univ _) (fun j _ hj => ?_) fun _ _ => rfl
  refine hf j ?_
  by_contra hlt
  exact hj ⟨⟨j.val, by omega⟩, Finset.mem_univ _, rfl⟩

/-- A padded chunk at one of the four tokens. -/
theorem ch_up (a : FVec Ideal S128x4x4x128 .f32) (t : Fin 4) : CH a (ix4 b h (up32 t) n) = a (ix4 b t h n) := by
  rw [ch_apply, dif_pos (show (up32 t).val < 4 from t.isLt)]
  rfl

/-- A padded chunk past the four tokens. -/
theorem ch_past (a : FVec Ideal S128x4x4x128 .f32) (t : Fin 32) (ht : 4 ≤ t.val) : CH a (ix4 b h t n) = 0 := by
  rw [ch_apply, dif_neg (by omega)]

/-- The lanes of one head of one sequence. -/
def qs (t : Fin 4) (n : Fin 128) : EReal := hm (ix3 b t (pc 0 h n))
/-- The gate inputs of one head of one sequence. -/
def zs (t : Fin 4) (n : Fin 128) : EReal := hm (ix3 b t (pc 1 h n))
/-- The values of one head of one sequence. -/
def vs (t : Fin 4) (n : Fin 128) : EReal := hm (ix3 b t (pc 2 h n))
/-- The output gates of one head of one sequence. -/
def gs (t : Fin 4) (n : Fin 128) : EReal := hm (ix3 b t (pc 3 h n))
/-- The lower bounds of one head. -/
def ls (n : Fin 128) : EReal := LB x (ix2 h n)
/-- The state that comes in, of one head of one sequence. -/
def ss (n e : Fin 128) : EReal := s (ix5 0 b h n e)
/-- The gains of one head. -/
def ws (e : Fin 128) : EReal := w (ix2 0 (hc h e))

/-- The chunk's running log at one of the four tokens. -/
theorem cum_up (t : Fin 4) : CUM hm x (ix4 b h (up32 t) n) = dec (ls x h) (zs hm b h) n t := by
  rw [cum32_apply, sum_four]
  · unfold dec cum
    refine Finset.sum_congr rfl fun j _ => ?_
    have e1 : CH (LG hm x) (ix4 b h (up32 j) n) = gateLog (ls x h n) (zs hm b h j n) := by
      rw [ch_up, lg_apply, z_apply]
      rfl
    show _ = if j ≤ t then gateLog (ls x h n) (zs hm b h j n) else 0
    rw [← e1]
    rfl
  · intro j hj
    rw [ch_past _ _ _ _ _ hj, ite_self]

/-- The chunk's last running log is the fourth token's. -/
theorem cum_last : CUM hm x (ix4 b h 31 n) = dec (ls x h) (zs hm b h) n 3 := by
  rw [← cum_up, cum32_apply, cum32_apply, sum_four, sum_four]
  · refine Finset.sum_congr rfl fun j _ => ?_
    rw [if_pos, if_pos]
    · show j.val ≤ 3
      omega
    · show j.val ≤ 31
      omega
  · intro j hj
    rw [ch_past _ _ _ _ _ hj, ite_self]
  · intro j hj
    rw [ch_past _ _ _ _ _ hj, ite_self]

/-- The chunk's key at one of the four tokens. -/
theorem k_up (t : Fin 4) : CH (KP hm x) (ix4 b h (up32 t) n) = key (ls x h n) (zs hm b h t n) := by
  rw [ch_up, k_apply, z_apply]
  rfl

/-- The chunk's query at one of the four tokens. -/
theorem q_up (t : Fin 4) : CH (QP hm) (ix4 b h (up32 t) n) = qs hm b h t n := by
  rw [ch_up, q_apply]
  rfl

/-- The chunk's value at one of the four tokens. -/
theorem v_up (t : Fin 4) : CH (VP hm) (ix4 b h (up32 t) n) = vs hm b h t n := by
  rw [ch_up, v_apply]
  rfl

/-- The chunk's score between two of the four tokens. -/
theorem score_up (t r : Fin 4) : SCORE hm x (ix4 b h (up32 t) (up32 r)) = if r ≤ t then score (ls x h) (qs hm b h) (zs hm b h) t r else 0 := by
  rw [score_apply]
  by_cases hr : r ≤ t
  · rw [if_pos hr]
    unfold score
    refine Finset.sum_congr rfl fun y _ => ?_
    rw [if_pos (show up32 r ≤ up32 t from hr), q_up, k_up, cum_up, cum_up]
  · rw [if_neg hr]
    refine Finset.sum_eq_zero fun y _ => ?_
    rw [if_neg (fun q : up32 r ≤ up32 t => hr q), Ideal.exp_bot, mul_zero]

/-- The state's part of the read-out at one of the four tokens. -/
theorem inter_up (t : Fin 4) : INTER hm x s (ix4 b h (up32 t) e) = ∑ y, qs hm b h t y * Ideal.exp (dec (ls x h) (zs hm b h) y t) * ss s b h y e := by
  rw [inter_apply]
  refine Finset.sum_congr rfl fun y _ => ?_
  rw [q_up, cum_up, s0_apply]
  rfl

/-- The chunk's part of the read-out at one of the four tokens. -/
theorem intra_up (t : Fin 4) : INTRA hm x (ix4 b h (up32 t) e) = ∑ r, if r ≤ t then score (ls x h) (qs hm b h) (zs hm b h) t r * vs hm b h r e else 0 := by
  rw [intra_apply, sum_four]
  · refine Finset.sum_congr rfl fun r _ => ?_
    refine Eq.trans (congrArg₂ (· * ·) (score_up hm x b h t r) (v_up hm b h e r)) ?_
    by_cases hr : r ≤ t
    · rw [if_pos hr, if_pos hr]
    · rw [if_neg hr, if_neg hr, zero_mul]
  · intro j hj
    rw [ch_past _ _ _ _ _ hj, mul_zero]

/-- The read-out at one of the four tokens. -/
theorem ro_up (t : Fin 4) : RO hm x s (ix4 b t h e) = readOut (ls x h) (qs hm b h) (zs hm b h) (vs hm b h) (ss s b h) t e := by
  rw [ro_apply]
  exact congrArg₂ (· + ·) (inter_up hm x s b h e t) (intra_up hm x b h e t)

/-- The reference's first result at a token and a lane: the recurrence's output. -/
theorem outr_up (t : Fin 4) (t' : Fin 8) (ht : t'.val = t.val) : OUTR hm x w s (ix3 b t' (hc h e))
    = out (ls x h) (qs hm b h) (zs hm b h) (vs hm b h) (ss s b h) (ws w h) (gs hm b h) t e := by
  have e1 : (⟨t'.val, by omega⟩ : Fin 4) = t := Fin.ext ht
  rw [outr_apply, dif_pos (by omega), e1, outu_apply, g_apply]
  simp only [ro_up]
  rfl

/-- The reference's first result at a row past the four tokens is zero. -/
theorem outr_past (t : Fin 8) (ht : 4 ≤ t.val) : OUTR hm x w s (ix3 b t (hc h e)) = 0 := by
  rw [outr_apply, dif_neg (by omega)]

/-- The reference's second result: the state after the four tokens. -/
theorem str_up : STR hm x s (ix4 b h n e) = state (ls x h) (zs hm b h) (vs hm b h) (ss s b h) n e := by
  rw [str_apply, cum_last, s0_apply, sum_four]
  · unfold state
    refine congrArg₂ (· + ·) rfl (Finset.sum_congr rfl fun r _ => ?_)
    refine Eq.trans ?_ (congrArg₂ (· * ·) (congrArg₂ (· * ·) (k_up hm x b h n r) (congrArg (fun v => Ideal.exp (dec (ls x h) (zs hm b h) n 3 - v)) (cum_up hm x b h n r))) (v_up hm b h e r))
    rfl
  · intro j hj
    rw [ch_past _ _ _ _ _ hj, zero_mul, zero_mul]

end Cert.HgrnRefIdeal.Value

end
-- ==== Proof.Hgrn.Value.lean ====
module

public import proofs.«01_k».proof.Proof.Hgrn.Body
public import proofs.«01_k».proof.Proof.Hgrn.Ref
public import proofs.«01_k».proof.Proof.Gen.HgrnIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The recurrence's two result arrays: what each grid point stores is the recurrence of its own sequence. -/

namespace Cert.HgrnIdeal.Value

open Cert.HgrnIdeal Cert.HgrnIdeal.Gen Cert.HgrnMath
open Cert.HgrnRefIdeal.Value (hc pc LBC LB OUTR STR ls qs zs vs gs ss ws)

section

variable (i : grid0.Coords) (x0 : Vec Ideal S1x8x2048 .f32) (x1 x2 : Vec Ideal S1x512 .f32) (x3 : Vec Ideal S1x4x128x128 .f32)

/-- A load of 128 lanes of every token, at an index. -/
theorem ld3 (o : ℕ) (inb) (t : Fin 8) (n : Fin 128) (r : Fin 2048) (hr : r.val = o + n.val) :
    View.ld x0 (Rect.unit ![0, 0, o] ![1, 8, 128] inb) (ix3 0 t n) = x0 (ix3 0 t r) := by
  refine congrArg x0 (funext fun k => Fin.ext ?_)
  match k with
  | ⟨0, _⟩ => rfl
  | ⟨1, _⟩ => show 0 + 1 * t.val = t.val; omega
  | ⟨2, _⟩ => show o + 1 * n.val = r.val; omega

/-- A load of 128 lanes of a row, at an index. -/
theorem ld2 (x : Vec Ideal S1x512 .f32) (o : ℕ) (inb) (n : Fin 128) (r : Fin 512) (hr : r.val = o + n.val) :
    View.ld x (Rect.unit ![0, o] ![1, 128] inb) (ix2 0 n) = x (ix2 0 r) := by
  refine congrArg x (funext fun k => Fin.ext ?_)
  match k with
  | ⟨0, _⟩ => rfl
  | ⟨1, _⟩ => show o + 1 * n.val = r.val; omega

/-- Part `j` of head `h` of a block's tokens. -/
def bt (j h : Fin 4) (s : Fin 4) (n : Fin 128) : EReal := x0 (ix3 0 (up s) (pc j h n))

/-- Head `h` of a block's row of lanes. -/
def bl (h : Fin 4) (n : Fin 128) : EReal := x1 (ix2 0 (hc h n))

/-- Head `h` of a block's states. -/
def bs (h : Fin 4) (n e : Fin 128) : EReal := x3 (ix4 0 h n e)

/-- Part 0 of head 0 of the loaded tokens. -/
theorem tok00 : tok (View.ld x0 (Rect.unit ![0, 0, 0] ![1, 8, 128] inb_S1x8x2048_S1x8x128_0_0_0)) = bt x0 0 0 := by
  funext s n
  exact ld3 x0 0 _ (up s) n (pc 0 0 n) (by show 0 * 512 + 0 * 128 + n.val = _; omega)

/-- Part 1 of head 0 of the loaded tokens. -/
theorem tok01 : tok (View.ld x0 (Rect.unit ![0, 0, 512] ![1, 8, 128] inb_S1x8x2048_S1x8x128_0_0_512)) = bt x0 1 0 := by
  funext s n
  exact ld3 x0 512 _ (up s) n (pc 1 0 n) (by show 1 * 512 + 0 * 128 + n.val = _; omega)

/-- Part 2 of head 0 of the loaded tokens. -/
theorem tok02 : tok (View.ld x0 (Rect.unit ![0, 0, 1024] ![1, 8, 128] inb_S1x8x2048_S1x8x128_0_0_1024)) = bt x0 2 0 := by
  funext s n
  exact ld3 x0 1024 _ (up s) n (pc 2 0 n) (by show 2 * 512 + 0 * 128 + n.val = _; omega)

/-- Part 3 of head 0 of the loaded tokens. -/
theorem tok03 : tok (View.ld x0 (Rect.unit ![0, 0, 1536] ![1, 8, 128] inb_S1x8x2048_S1x8x128_0_0_1536)) = bt x0 3 0 := by
  funext s n
  exact ld3 x0 1536 _ (up s) n (pc 3 0 n) (by show 3 * 512 + 0 * 128 + n.val = _; omega)

/-- Head 0 of a loaded row. -/
theorem lane0 : lane (View.ld x1 (Rect.unit ![0, 0] ![1, 128] inb_S1x512_S1x128_0_0)) = bl x1 0 := by
  funext n
  exact ld2 x1 0 _ n (hc 0 n) (by show 0 * 128 + n.val = _; omega)

/-- Head 0 of the loaded states. -/
theorem start0 : start (k0_pay6 (View.ld x3 (Rect.unit ![0, 0, 0, 0] ![1, 1, 128, 128] inb_S1x4x128x128_S1x1x128x128_0_0_0_0))) = bs x3 0 := by
  funext n e
  unfold start bs
  pointwise [k0_pay6]
  blk_ext

/-- Head 0 of a block's first result, at a token. -/
theorem ho0_at (hl : ∀ n z, gateLog (bl x1 0 n) z ≤ 0) (t : Fin 4) (e : Fin 128) : HO0 i x0 x1 x2 x3 (ix2 (up t) e)
    = out (bl x1 0) (bt x0 0 0) (bt x0 1 0) (bt x0 2 0) (bs x3 0) (bl x2 0) (bt x0 3 0) t e := by
  unfold HO0
  rw [headO_at _ _ _ _ _ _ _ _ (by rw [lane0]; exact hl), tok00, tok01, tok02, tok03, lane0, lane0, start0]

/-- Head 0 of a block's first result, at a row whose gates are zero. -/
theorem ho0_pad (t : Fin 8) (hg : ∀ k, x0 (ix3 0 t k) = (0 : EReal)) (e : Fin 128) : HO0 i x0 x1 x2 x3 (ix2 t e) = 0 := by
  unfold HO0
  refine headO_pad _ _ _ _ _ _ _ _ _ (fun n => ?_) e
  exact (ld3 x0 1536 _ t n (pc 3 0 n) (by show 3 * 512 + 0 * 128 + n.val = _; omega)).trans (hg _)

/-- The state head 0 of a block leaves. -/
theorem hs0_at (e d : Fin 128) : HS0 i x0 x1 x3 (ix3 0 e d)
    = state (bl x1 0) (bt x0 1 0) (bt x0 2 0) (bs x3 0) d e := by
  unfold HS0
  rw [headS_at, tok01, tok02, lane0, start0]

/-- Part 0 of head 1 of the loaded tokens. -/
theorem tok10 : tok (View.ld x0 (Rect.unit ![0, 0, 128] ![1, 8, 128] inb_S1x8x2048_S1x8x128_0_0_128)) = bt x0 0 1 := by
  funext s n
  exact ld3 x0 128 _ (up s) n (pc 0 1 n) (by show 0 * 512 + 1 * 128 + n.val = _; omega)

/-- Part 1 of head 1 of the loaded tokens. -/
theorem tok11 : tok (View.ld x0 (Rect.unit ![0, 0, 640] ![1, 8, 128] inb_S1x8x2048_S1x8x128_0_0_640)) = bt x0 1 1 := by
  funext s n
  exact ld3 x0 640 _ (up s) n (pc 1 1 n) (by show 1 * 512 + 1 * 128 + n.val = _; omega)

/-- Part 2 of head 1 of the loaded tokens. -/
theorem tok12 : tok (View.ld x0 (Rect.unit ![0, 0, 1152] ![1, 8, 128] inb_S1x8x2048_S1x8x128_0_0_1152)) = bt x0 2 1 := by
  funext s n
  exact ld3 x0 1152 _ (up s) n (pc 2 1 n) (by show 2 * 512 + 1 * 128 + n.val = _; omega)

/-- Part 3 of head 1 of the loaded tokens. -/
theorem tok13 : tok (View.ld x0 (Rect.unit ![0, 0, 1664] ![1, 8, 128] inb_S1x8x2048_S1x8x128_0_0_1664)) = bt x0 3 1 := by
  funext s n
  exact ld3 x0 1664 _ (up s) n (pc 3 1 n) (by show 3 * 512 + 1 * 128 + n.val = _; omega)

/-- Head 1 of a loaded row. -/
theorem lane1 : lane (View.ld x1 (Rect.unit ![0, 128] ![1, 128] inb_S1x512_S1x128_0_128)) = bl x1 1 := by
  funext n
  exact ld2 x1 128 _ n (hc 1 n) (by show 1 * 128 + n.val = _; omega)

/-- Head 1 of the loaded states. -/
theorem start1 : start (k0_pay7 (View.ld x3 (Rect.unit ![0, 1, 0, 0] ![1, 1, 128, 128] inb_S1x4x128x128_S1x1x128x128_0_1_0_0))) = bs x3 1 := by
  funext n e
  unfold start bs
  pointwise [k0_pay7]
  blk_ext

/-- Head 1 of a block's first result, at a token. -/
theorem ho1_at (hl : ∀ n z, gateLog (bl x1 1 n) z ≤ 0) (t : Fin 4) (e : Fin 128) : HO1 i x0 x1 x2 x3 (ix2 (up t) e)
    = out (bl x1 1) (bt x0 0 1) (bt x0 1 1) (bt x0 2 1) (bs x3 1) (bl x2 1) (bt x0 3 1) t e := by
  unfold HO1
  rw [headO_at _ _ _ _ _ _ _ _ (by rw [lane1]; exact hl), tok10, tok11, tok12, tok13, lane1, lane1, start1]

/-- Head 1 of a block's first result, at a row whose gates are zero. -/
theorem ho1_pad (t : Fin 8) (hg : ∀ k, x0 (ix3 0 t k) = (0 : EReal)) (e : Fin 128) : HO1 i x0 x1 x2 x3 (ix2 t e) = 0 := by
  unfold HO1
  refine headO_pad _ _ _ _ _ _ _ _ _ (fun n => ?_) e
  exact (ld3 x0 1664 _ t n (pc 3 1 n) (by show 3 * 512 + 1 * 128 + n.val = _; omega)).trans (hg _)

/-- The state head 1 of a block leaves. -/
theorem hs1_at (e d : Fin 128) : HS1 i x0 x1 x3 (ix3 0 e d)
    = state (bl x1 1) (bt x0 1 1) (bt x0 2 1) (bs x3 1) d e := by
  unfold HS1
  rw [headS_at, tok11, tok12, lane1, start1]

/-- Part 0 of head 2 of the loaded tokens. -/
theorem tok20 : tok (View.ld x0 (Rect.unit ![0, 0, 256] ![1, 8, 128] inb_S1x8x2048_S1x8x128_0_0_256)) = bt x0 0 2 := by
  funext s n
  exact ld3 x0 256 _ (up s) n (pc 0 2 n) (by show 0 * 512 + 2 * 128 + n.val = _; omega)

/-- Part 1 of head 2 of the loaded tokens. -/
theorem tok21 : tok (View.ld x0 (Rect.unit ![0, 0, 768] ![1, 8, 128] inb_S1x8x2048_S1x8x128_0_0_768)) = bt x0 1 2 := by
  funext s n
  exact ld3 x0 768 _ (up s) n (pc 1 2 n) (by show 1 * 512 + 2 * 128 + n.val = _; omega)

/-- Part 2 of head 2 of the loaded tokens. -/
theorem tok22 : tok (View.ld x0 (Rect.unit ![0, 0, 1280] ![1, 8, 128] inb_S1x8x2048_S1x8x128_0_0_1280)) = bt x0 2 2 := by
  funext s n
  exact ld3 x0 1280 _ (up s) n (pc 2 2 n) (by show 2 * 512 + 2 * 128 + n.val = _; omega)

/-- Part 3 of head 2 of the loaded tokens. -/
theorem tok23 : tok (View.ld x0 (Rect.unit ![0, 0, 1792] ![1, 8, 128] inb_S1x8x2048_S1x8x128_0_0_1792)) = bt x0 3 2 := by
  funext s n
  exact ld3 x0 1792 _ (up s) n (pc 3 2 n) (by show 3 * 512 + 2 * 128 + n.val = _; omega)

/-- Head 2 of a loaded row. -/
theorem lane2 : lane (View.ld x1 (Rect.unit ![0, 256] ![1, 128] inb_S1x512_S1x128_0_256)) = bl x1 2 := by
  funext n
  exact ld2 x1 256 _ n (hc 2 n) (by show 2 * 128 + n.val = _; omega)

/-- Head 2 of the loaded states. -/
theorem start2 : start (k0_pay8 (View.ld x3 (Rect.unit ![0, 2, 0, 0] ![1, 1, 128, 128] inb_S1x4x128x128_S1x1x128x128_0_2_0_0))) = bs x3 2 := by
  funext n e
  unfold start bs
  pointwise [k0_pay8]
  blk_ext

/-- Head 2 of a block's first result, at a token. -/
theorem ho2_at (hl : ∀ n z, gateLog (bl x1 2 n) z ≤ 0) (t : Fin 4) (e : Fin 128) : HO2 i x0 x1 x2 x3 (ix2 (up t) e)
    = out (bl x1 2) (bt x0 0 2) (bt x0 1 2) (bt x0 2 2) (bs x3 2) (bl x2 2) (bt x0 3 2) t e := by
  unfold HO2
  rw [headO_at _ _ _ _ _ _ _ _ (by rw [lane2]; exact hl), tok20, tok21, tok22, tok23, lane2, lane2, start2]

/-- Head 2 of a block's first result, at a row whose gates are zero. -/
theorem ho2_pad (t : Fin 8) (hg : ∀ k, x0 (ix3 0 t k) = (0 : EReal)) (e : Fin 128) : HO2 i x0 x1 x2 x3 (ix2 t e) = 0 := by
  unfold HO2
  refine headO_pad _ _ _ _ _ _ _ _ _ (fun n => ?_) e
  exact (ld3 x0 1792 _ t n (pc 3 2 n) (by show 3 * 512 + 2 * 128 + n.val = _; omega)).trans (hg _)

/-- The state head 2 of a block leaves. -/
theorem hs2_at (e d : Fin 128) : HS2 i x0 x1 x3 (ix3 0 e d)
    = state (bl x1 2) (bt x0 1 2) (bt x0 2 2) (bs x3 2) d e := by
  unfold HS2
  rw [headS_at, tok21, tok22, lane2, start2]

/-- Part 0 of head 3 of the loaded tokens. -/
theorem tok30 : tok (View.ld x0 (Rect.unit ![0, 0, 384] ![1, 8, 128] inb_S1x8x2048_S1x8x128_0_0_384)) = bt x0 0 3 := by
  funext s n
  exact ld3 x0 384 _ (up s) n (pc 0 3 n) (by show 0 * 512 + 3 * 128 + n.val = _; omega)

/-- Part 1 of head 3 of the loaded tokens. -/
theorem tok31 : tok (View.ld x0 (Rect.unit ![0, 0, 896] ![1, 8, 128] inb_S1x8x2048_S1x8x128_0_0_896)) = bt x0 1 3 := by
  funext s n
  exact ld3 x0 896 _ (up s) n (pc 1 3 n) (by show 1 * 512 + 3 * 128 + n.val = _; omega)

/-- Part 2 of head 3 of the loaded tokens. -/
theorem tok32 : tok (View.ld x0 (Rect.unit ![0, 0, 1408] ![1, 8, 128] inb_S1x8x2048_S1x8x128_0_0_1408)) = bt x0 2 3 := by
  funext s n
  exact ld3 x0 1408 _ (up s) n (pc 2 3 n) (by show 2 * 512 + 3 * 128 + n.val = _; omega)

/-- Part 3 of head 3 of the loaded tokens. -/
theorem tok33 : tok (View.ld x0 (Rect.unit ![0, 0, 1920] ![1, 8, 128] inb_S1x8x2048_S1x8x128_0_0_1920)) = bt x0 3 3 := by
  funext s n
  exact ld3 x0 1920 _ (up s) n (pc 3 3 n) (by show 3 * 512 + 3 * 128 + n.val = _; omega)

/-- Head 3 of a loaded row. -/
theorem lane3 : lane (View.ld x1 (Rect.unit ![0, 384] ![1, 128] inb_S1x512_S1x128_0_384)) = bl x1 3 := by
  funext n
  exact ld2 x1 384 _ n (hc 3 n) (by show 3 * 128 + n.val = _; omega)

/-- Head 3 of the loaded states. -/
theorem start3 : start (k0_pay9 (View.ld x3 (Rect.unit ![0, 3, 0, 0] ![1, 1, 128, 128] inb_S1x4x128x128_S1x1x128x128_0_3_0_0))) = bs x3 3 := by
  funext n e
  unfold start bs
  pointwise [k0_pay9]
  blk_ext

/-- Head 3 of a block's first result, at a token. -/
theorem ho3_at (hl : ∀ n z, gateLog (bl x1 3 n) z ≤ 0) (t : Fin 4) (e : Fin 128) : HO3 i x0 x1 x2 x3 (ix2 (up t) e)
    = out (bl x1 3) (bt x0 0 3) (bt x0 1 3) (bt x0 2 3) (bs x3 3) (bl x2 3) (bt x0 3 3) t e := by
  unfold HO3
  rw [headO_at _ _ _ _ _ _ _ _ (by rw [lane3]; exact hl), tok30, tok31, tok32, tok33, lane3, lane3, start3]

/-- Head 3 of a block's first result, at a row whose gates are zero. -/
theorem ho3_pad (t : Fin 8) (hg : ∀ k, x0 (ix3 0 t k) = (0 : EReal)) (e : Fin 128) : HO3 i x0 x1 x2 x3 (ix2 t e) = 0 := by
  unfold HO3
  refine headO_pad _ _ _ _ _ _ _ _ _ (fun n => ?_) e
  exact (ld3 x0 1920 _ t n (pc 3 3 n) (by show 3 * 512 + 3 * 128 + n.val = _; omega)).trans (hg _)

/-- The state head 3 of a block leaves. -/
theorem hs3_at (e d : Fin 128) : HS3 i x0 x1 x3 (ix3 0 e d)
    = state (bl x1 3) (bt x0 1 3) (bt x0 2 3) (bs x3 3) d e := by
  unfold HS3
  rw [headS_at, tok31, tok32, lane3, start3]

end

/-- Four heads' outputs side by side at a lane of a head. -/
theorem cato_apply (a b c d : FVec Ideal S8x128 .f32) (t : Fin 8) (h : Fin 4) (e : Fin 128) : CATO a b c d (ix3 0 t (hc h e))
    = if h.val = 0 then a (ix2 t e) else if h.val = 1 then b (ix2 t e) else if h.val = 2 then c (ix2 t e) else d (ix2 t e) := by
  obtain ⟨n, hn⟩ : ∃ n : Fin 512, n = hc h e := ⟨_, rfl⟩
  have hv : n.val = h.val * 128 + e.val := congrArg Fin.val hn
  rw [← hn]
  pointwise [CATO]
  by_cases h0 : h.val = 0
  · rw [dif_pos (by omega), if_pos h0]; exact congrArg (fun r => a (ix2 t r)) (Fin.ext (by dsimp only; omega))
  by_cases h1 : h.val = 1
  · rw [dif_neg (by omega), dif_pos (by omega), if_neg h0, if_pos h1]; exact congrArg (fun r => b (ix2 t r)) (Fin.ext (by dsimp only; omega))
  by_cases h2 : h.val = 2
  · rw [dif_neg (by omega), dif_neg (by omega), dif_pos (by omega), if_neg h0, if_neg h1, if_pos h2]; exact congrArg (fun r => c (ix2 t r)) (Fin.ext (by dsimp only; omega))
  rw [dif_neg (by omega), dif_neg (by omega), dif_neg (by omega), if_neg h0, if_neg h1, if_neg h2]; exact congrArg (fun r => d (ix2 t r)) (Fin.ext (by dsimp only; omega))

/-- The stored state of head 0 is the computed one, turned. -/
theorem turn0 (w : FVec Ideal S1x128x128 .f32) (n e : Fin 128) : k0_pay2 (F := Ideal) w (ix4 0 0 n e) = w (ix3 0 e n) := by
  pointwise [k0_pay2]

/-- The stored state of head 1 is the computed one, turned. -/
theorem turn1 (w : FVec Ideal S1x128x128 .f32) (n e : Fin 128) : k0_pay3 (F := Ideal) w (ix4 0 0 n e) = w (ix3 0 e n) := by
  pointwise [k0_pay3]

/-- The stored state of head 2 is the computed one, turned. -/
theorem turn2 (w : FVec Ideal S1x128x128 .f32) (n e : Fin 128) : k0_pay4 (F := Ideal) w (ix4 0 0 n e) = w (ix3 0 e n) := by
  pointwise [k0_pay4]

/-- The stored state of head 3 is the computed one, turned. -/
theorem turn3 (w : FVec Ideal S1x128x128 .f32) (n e : Fin 128) : k0_pay5 (F := Ideal) w (ix4 0 0 n e) = w (ix3 0 e n) := by
  pointwise [k0_pay5]

variable (m : (ℓ : Loc nD τ sig) → Buf (Elt Ideal) ℓ) (c : Dev nD)

/-- The block index of each window at a grid point: the point's sequence, or the whole array. -/
theorem idx : ∀ t : Fin cfg0.N, win0_0.index t = ![t.val, 0, 0] ∧ win0_1.index t = ![0, 0] ∧ win0_2.index t = ![0, 0]
    ∧ win0_3.index t = ![t.val, 0, 0, 0] ∧ win0_4.index t = ![t.val, 0, 0] ∧ win0_5.index t = ![t.val, 0, 0, 0] :=
  (by decide +kernel : ∀ t : Fin grid0.N, _)

set_option maxHeartbeats 4000000 in
/-- What the kernel finds in its lower bounds. -/
theorem v14 : V m c main_v14 = (shapeCast S1x512 (shapeCast S512 (extractStridedSlice S1x512 ![0, 0] (LBC (m ((c.tc : Thread nD τ).loc main_arg1))) slices_S2x512_S1x512_0_0) shapeCasts_S1x512_S512) shapeCasts_S512_S1x512 : FVec Ideal S1x512 .f32) := by
  delta Gen.V
  simp only [List.flatten_cons, List.flatten_nil, List.append_nil, StableHlo.after_append]
  simp only [hostOps0, hostOps0_1, hostOps0_2, hostOps0_3, hostOps0_4, StableHlo.TRef.nullary, StableHlo.TRef.unary, StableHlo.TRef.binary, StableHlo.TRef.ternary, StableHlo.TRef.toBuf, StableHlo.TRef.ofBuf, cast_eq]
  after_results_simp
  after_results_loop
  rfl

set_option maxHeartbeats 4000000 in
/-- What it finds in the recurrence's inputs. -/
theorem v15 : V m c main_v15 = (pad S128x8x2048 ![0, 0, 0] ![0, 4, 0] ![0, 0, 0] (m ((c.tc : Thread nD τ).loc main_arg0)) (sitofp .f32 (constantI S_ 32 0#32)) pads_S128x4x2048_S128x8x2048_000_040_000 h_S_ : FVec Ideal S128x8x2048 .f32) := by
  delta Gen.V
  simp only [List.flatten_cons, List.flatten_nil, List.append_nil, StableHlo.after_append]
  simp only [hostOps0, hostOps0_1, hostOps0_2, hostOps0_3, hostOps0_4, StableHlo.TRef.nullary, StableHlo.TRef.unary, StableHlo.TRef.binary, StableHlo.TRef.ternary, StableHlo.TRef.toBuf, StableHlo.TRef.ofBuf, cast_eq]
  after_results_simp
  after_results_loop

set_option maxHeartbeats 4000000 in
/-- What it finds in the gains. -/
theorem v17 : V m c main_v17 = (shapeCast S1x512 (shapeCast S512 (m ((c.tc : Thread nD τ).loc main_arg2)) shapeCasts_S1x512_S512) shapeCasts_S512_S1x512 : FVec Ideal S1x512 .f32) := by
  delta Gen.V
  simp only [List.flatten_cons, List.flatten_nil, List.append_nil, StableHlo.after_append]
  simp only [hostOps0, hostOps0_1, hostOps0_2, hostOps0_3, hostOps0_4, StableHlo.TRef.nullary, StableHlo.TRef.unary, StableHlo.TRef.binary, StableHlo.TRef.ternary, StableHlo.TRef.toBuf, StableHlo.TRef.ofBuf, cast_eq]
  after_results_simp
  after_results_loop
  rfl

set_option maxHeartbeats 4000000 in
/-- What it finds in the states. -/
theorem v18 : V m c main_v18 = (shapeCast S128x4x128x128 (m ((c.tc : Thread nD τ).loc main_arg3)) shapeCasts_S1x128x4x128x128_S128x4x128x128 : FVec Ideal S128x4x128x128 .f32) := by
  delta Gen.V
  simp only [List.flatten_cons, List.flatten_nil, List.append_nil, StableHlo.after_append]
  simp only [hostOps0, hostOps0_1, hostOps0_2, hostOps0_3, hostOps0_4, StableHlo.TRef.nullary, StableHlo.TRef.unary, StableHlo.TRef.binary, StableHlo.TRef.ternary, StableHlo.TRef.toBuf, StableHlo.TRef.ofBuf, cast_eq]
  after_results_simp
  after_results_loop
  rfl

/-- The states at an index. -/
theorem cast_apply (x : FVec Ideal S1x128x4x128x128 .f32) (b : Fin 128) (h : Fin 4) (n e : Fin 128) :
    shapeCast S128x4x128x128 x shapeCasts_S1x128x4x128x128_S128x4x128x128 (ix4 b h n e) = x (ix5 0 b h n e) := by
  pointwise

/-- The padded inputs at an index. -/
theorem pad_apply (x : FVec Ideal S128x4x2048 .f32) (b : Fin 128) (s : Fin 8) (k : Fin 2048) :
    (pad S128x8x2048 ![0, 0, 0] ![0, 4, 0] ![0, 0, 0] x (sitofp .f32 (constantI S_ 32 0#32)) pads_S128x4x2048_S128x8x2048_000_040_000 h_S_ : FVec Ideal S128x8x2048 .f32) (ix3 b s k)
    = if hs : s.val < 4 then x (ix3 b ⟨s.val, hs⟩ k) else (0 : EReal) := by
  pointwise
  simp only [Cert.HgrnRefIdeal.Value.sito0]

/-- The kernel's lower bounds at a lane of a head. -/
theorem v14_apply (h : Fin 4) (n : Fin 128) : V m c main_v14 (ix2 0 (hc h n)) = ls (m ((c.tc : Thread nD τ).loc main_arg1)) h n := by
  rw [v14]
  refine Eq.trans ?_ (Cert.HgrnRefIdeal.Value.lb_apply (m ((c.tc : Thread nD τ).loc main_arg1)) h n).symm
  pointwise

/-- The kernel's inputs at an index: the token, or zero past the fourth. -/
theorem v15_apply (b : Fin 128) (s : Fin 8) (k : Fin 2048) : V m c main_v15 (ix3 b s k) = if hs : s.val < 4 then (m ((c.tc : Thread nD τ).loc main_arg0)) (ix3 b ⟨s.val, hs⟩ k) else (0 : EReal) := by
  rw [v15]
  exact pad_apply _ b s k

/-- The kernel's gains at a lane of a head. -/
theorem v17_apply (h : Fin 4) (n : Fin 128) : V m c main_v17 (ix2 0 (hc h n)) = ws (m ((c.tc : Thread nD τ).loc main_arg2)) h n := by
  rw [v17]
  unfold ws
  pointwise

/-- The kernel's states at an index. -/
theorem v18_apply (b : Fin 128) (h : Fin 4) (n e : Fin 128) : V m c main_v18 (ix4 b h n e) = ss (m ((c.tc : Thread nD τ).loc main_arg3)) b h n e := by
  rw [v18]
  exact cast_apply _ b h n e

/-- The inputs’ block of a grid point is its sequence. -/
theorem blk0 (t : Fin cfg0.N) (b : Fin 128) (hb : b.val = t.val) (s : Fin 8) (k : Fin 2048) : iblk m c 0 t (ix3 0 s k) = V m c main_v15 (ix3 b s k) := by
  blk_ext [iblk, idx t, hb]

/-- The lower bounds’ block is all of them. -/
theorem blk1 (t : Fin cfg0.N) (h : Fin 4) : bl (iblk m c 1 t) h = ls (m ((c.tc : Thread nD τ).loc main_arg1)) h := by
  funext n
  exact Eq.trans (b := V m c main_v14 (ix2 0 (hc h n))) (by unfold bl; blk_ext [iblk, idx t]) (v14_apply m c h n)

/-- The gains’ block is all of them. -/
theorem blk2 (t : Fin cfg0.N) (h : Fin 4) : bl (iblk m c 2 t) h = ws (m ((c.tc : Thread nD τ).loc main_arg2)) h := by
  funext n
  exact Eq.trans (b := V m c main_v17 (ix2 0 (hc h n))) (by unfold bl; blk_ext [iblk, idx t]) (v17_apply m c h n)

/-- The states’ block of a grid point is its sequence's. -/
theorem blk3 (t : Fin cfg0.N) (b : Fin 128) (hb : b.val = t.val) (h : Fin 4) : bs (iblk m c 3 t) h = ss (m ((c.tc : Thread nD τ).loc main_arg3)) b h := by
  funext n e
  exact Eq.trans (b := V m c main_v18 (ix4 b h n e)) (by unfold bs; blk_ext [iblk, idx t, hb]) (v18_apply m c b h n e)

/-- A part of a head of a block's tokens, from the arguments. -/
theorem tokB (t : Fin cfg0.N) (b : Fin 128) (hb : b.val = t.val) (j h s : Fin 4) (n : Fin 128) : bt (iblk m c 0 t) j h s n = (m ((c.tc : Thread nD τ).loc main_arg0)) (ix3 b s (pc j h n)) := by
  unfold bt
  rw [blk0 m c t b hb, v15_apply, dif_pos (show (up s).val < 4 from s.isLt)]
  rfl

/-- A block's rows past the four tokens are zero. -/
theorem padB (t : Fin cfg0.N) (b : Fin 128) (hb : b.val = t.val) (s : Fin 8) (hs : 4 ≤ s.val) (k : Fin 2048) : iblk m c 0 t (ix3 0 s k) = (0 : EReal) := by
  rw [blk0 m c t b hb, v15_apply, dif_neg (by omega)]

/-- With the layer's lower bounds the log of a gate is not positive. -/
theorem lbB (h : Fin 4) (n : Fin 128) (z : EReal) : gateLog (ls (m ((c.tc : Thread nD τ).loc main_arg1)) h n) z ≤ 0 :=
  gateLog_nonpos (Cert.HgrnRefIdeal.Value.lb_range (m ((c.tc : Thread nD τ).loc main_arg1)) h n) z

/-- Every lane is a lane of a head. -/
theorem lane_cases (n : Fin 512) : ∃ h d, n = hc h d :=
  ⟨⟨n.val / 128, by omega⟩, ⟨n.val % 128, by omega⟩, Fin.ext (by dsimp only [hc]; omega)⟩

/-- What a grid point stores in the first result. -/
theorem block4 (t : Fin cfg0.N) (b : Fin 128) (hb : b.val = t.val) (r : Fin 8) (h : Fin 4) (e : Fin 128) : (outsAt0 m c t).1 (ix3 0 r (hc h e))
    = OUTR (m ((c.tc : Thread nD τ).loc main_arg0)) (m ((c.tc : Thread nD τ).loc main_arg1)) (m ((c.tc : Thread nD τ).loc main_arg2)) (m ((c.tc : Thread nD τ).loc main_arg3)) (ix3 b r (hc h e)) := by
  rw [out4_eq, cato_apply]
  have hh : h = 0 ∨ h = 1 ∨ h = 2 ∨ h = 3 := by omega
  by_cases hr : r.val < 4
  · obtain ⟨q, rfl⟩ : ∃ q : Fin 4, r = up q := ⟨⟨r.val, hr⟩, rfl⟩
    rw [Cert.HgrnRefIdeal.Value.outr_up _ _ _ _ b h e q (up q) rfl]
    have eq0 : ∀ h, bt (iblk m c 0 t) 0 h = qs (m ((c.tc : Thread nD τ).loc main_arg0)) b h := fun h => by funext s n; exact tokB m c t b hb 0 h s n
    have eq1 : ∀ h, bt (iblk m c 0 t) 1 h = zs (m ((c.tc : Thread nD τ).loc main_arg0)) b h := fun h => by funext s n; exact tokB m c t b hb 1 h s n
    have eq2 : ∀ h, bt (iblk m c 0 t) 2 h = vs (m ((c.tc : Thread nD τ).loc main_arg0)) b h := fun h => by funext s n; exact tokB m c t b hb 2 h s n
    have eq3 : ∀ h, bt (iblk m c 0 t) 3 h = gs (m ((c.tc : Thread nD τ).loc main_arg0)) b h := fun h => by funext s n; exact tokB m c t b hb 3 h s n
    have hl : ∀ h n z, gateLog (bl (iblk m c 1 t) h n) z ≤ 0 := fun h n z => by rw [blk1]; exact lbB m c h n z
    rcases hh with rfl | rfl | rfl | rfl
    · refine ((if_pos rfl)).trans ?_
      rw [ho0_at _ _ _ _ _ (hl 0), eq0, eq1, eq2, eq3, blk1, blk2, blk3 m c t b hb]
    · refine ((if_neg (by decide)).trans (if_pos rfl)).trans ?_
      rw [ho1_at _ _ _ _ _ (hl 1), eq0, eq1, eq2, eq3, blk1, blk2, blk3 m c t b hb]
    · refine ((if_neg (by decide)).trans ((if_neg (by decide)).trans (if_pos rfl))).trans ?_
      rw [ho2_at _ _ _ _ _ (hl 2), eq0, eq1, eq2, eq3, blk1, blk2, blk3 m c t b hb]
    · refine ((if_neg (by decide)).trans ((if_neg (by decide)).trans (if_neg (by decide)))).trans ?_
      rw [ho3_at _ _ _ _ _ (hl 3), eq0, eq1, eq2, eq3, blk1, blk2, blk3 m c t b hb]
  · rw [Cert.HgrnRefIdeal.Value.outr_past _ _ _ _ b h e r (by omega)]
    rcases hh with rfl | rfl | rfl | rfl
    · exact ((if_pos rfl)).trans (ho0_pad _ _ _ _ _ r (padB m c t b hb r (by omega)) e)
    · exact ((if_neg (by decide)).trans (if_pos rfl)).trans (ho1_pad _ _ _ _ _ r (padB m c t b hb r (by omega)) e)
    · exact ((if_neg (by decide)).trans ((if_neg (by decide)).trans (if_pos rfl))).trans (ho2_pad _ _ _ _ _ r (padB m c t b hb r (by omega)) e)
    · exact ((if_neg (by decide)).trans ((if_neg (by decide)).trans (if_neg (by decide)))).trans (ho3_pad _ _ _ _ _ r (padB m c t b hb r (by omega)) e)

/-- What a grid point stores in the second result. -/
theorem block5 (t : Fin cfg0.N) (b : Fin 128) (hb : b.val = t.val) (h : Fin 4) (n e : Fin 128) : (outsAt0 m c t).2 (ix4 0 h n e)
    = STR (m ((c.tc : Thread nD τ).loc main_arg0)) (m ((c.tc : Thread nD τ).loc main_arg1)) (m ((c.tc : Thread nD τ).loc main_arg3)) (ix4 b h n e) := by
  rw [out5_eq, Cert.HgrnRefIdeal.Value.str_up]
  have eq1 : ∀ h, bt (iblk m c 0 t) 1 h = zs (m ((c.tc : Thread nD τ).loc main_arg0)) b h := fun h => by funext s n; exact tokB m c t b hb 1 h s n
  have eq2 : ∀ h, bt (iblk m c 0 t) 2 h = vs (m ((c.tc : Thread nD τ).loc main_arg0)) b h := fun h => by funext s n; exact tokB m c t b hb 2 h s n
  have s0 : h.val = 0 → k0_pay2 (F := Ideal) (HS0 (grid0.coords t) (iblk m c 0 t) (iblk m c 1 t) (iblk m c 3 t)) (ix4 0 0 n e)
      = state (ls (m ((c.tc : Thread nD τ).loc main_arg1)) h) (zs (m ((c.tc : Thread nD τ).loc main_arg0)) b h) (vs (m ((c.tc : Thread nD τ).loc main_arg0)) b h) (ss (m ((c.tc : Thread nD τ).loc main_arg3)) b h) n e := fun q => by
    obtain rfl : h = 0 := Fin.ext q
    rw [turn0, hs0_at, eq1, eq2, blk1, blk3 m c t b hb]
  have s1 : h.val = 1 → k0_pay3 (F := Ideal) (HS1 (grid0.coords t) (iblk m c 0 t) (iblk m c 1 t) (iblk m c 3 t)) (ix4 0 0 n e)
      = state (ls (m ((c.tc : Thread nD τ).loc main_arg1)) h) (zs (m ((c.tc : Thread nD τ).loc main_arg0)) b h) (vs (m ((c.tc : Thread nD τ).loc main_arg0)) b h) (ss (m ((c.tc : Thread nD τ).loc main_arg3)) b h) n e := fun q => by
    obtain rfl : h = 1 := Fin.ext q
    rw [turn1, hs1_at, eq1, eq2, blk1, blk3 m c t b hb]
  have s2 : h.val = 2 → k0_pay4 (F := Ideal) (HS2 (grid0.coords t) (iblk m c 0 t) (iblk m c 1 t) (iblk m c 3 t)) (ix4 0 0 n e)
      = state (ls (m ((c.tc : Thread nD τ).loc main_arg1)) h) (zs (m ((c.tc : Thread nD τ).loc main_arg0)) b h) (vs (m ((c.tc : Thread nD τ).loc main_arg0)) b h) (ss (m ((c.tc : Thread nD τ).loc main_arg3)) b h) n e := fun q => by
    obtain rfl : h = 2 := Fin.ext q
    rw [turn2, hs2_at, eq1, eq2, blk1, blk3 m c t b hb]
  have s3 : h.val = 3 → k0_pay5 (F := Ideal) (HS3 (grid0.coords t) (iblk m c 0 t) (iblk m c 1 t) (iblk m c 3 t)) (ix4 0 0 n e)
      = state (ls (m ((c.tc : Thread nD τ).loc main_arg1)) h) (zs (m ((c.tc : Thread nD τ).loc main_arg0)) b h) (vs (m ((c.tc : Thread nD τ).loc main_arg0)) b h) (ss (m ((c.tc : Thread nD τ).loc main_arg3)) b h) n e := fun q => by
    obtain rfl : h = 3 := Fin.ext q
    rw [turn3, hs3_at, eq1, eq2, blk1, blk3 m c t b hb]
  refine View.canon_eq_of_allAt _ _ _ (View.cover_of_tiled_head _ _ _ (by rfl) _) ?_
  refine View.allAt_cons_unit _ _ _ _ _ (fun x hx => ?_) ?_
  · obtain ⟨a0, a1, a2, a3, rfl⟩ : ∃ a0 a1 a2 a3, x = ix4 a0 a1 a2 a3 := ⟨_, _, _, _, eq_ix4 x⟩
    obtain rfl : a0 = 0 := Subsingleton.elim (α := Fin 1) _ _
    obtain rfl : a1 = 0 := Subsingleton.elim (α := Fin 1) _ _
    obtain rfl : a2 = n := Fin.ext (by have q : n.val = 0 + a2.val := hx 2; omega)
    obtain rfl : a3 = e := Fin.ext (by have q : e.val = 0 + a3.val := hx 3; omega)
    exact s3 (hx 1)
  refine View.allAt_cons_unit _ _ _ _ _ (fun x hx => ?_) ?_
  · obtain ⟨a0, a1, a2, a3, rfl⟩ : ∃ a0 a1 a2 a3, x = ix4 a0 a1 a2 a3 := ⟨_, _, _, _, eq_ix4 x⟩
    obtain rfl : a0 = 0 := Subsingleton.elim (α := Fin 1) _ _
    obtain rfl : a1 = 0 := Subsingleton.elim (α := Fin 1) _ _
    obtain rfl : a2 = n := Fin.ext (by have q : n.val = 0 + a2.val := hx 2; omega)
    obtain rfl : a3 = e := Fin.ext (by have q : e.val = 0 + a3.val := hx 3; omega)
    exact s2 (hx 1)
  refine View.allAt_cons_unit _ _ _ _ _ (fun x hx => ?_) ?_
  · obtain ⟨a0, a1, a2, a3, rfl⟩ : ∃ a0 a1 a2 a3, x = ix4 a0 a1 a2 a3 := ⟨_, _, _, _, eq_ix4 x⟩
    obtain rfl : a0 = 0 := Subsingleton.elim (α := Fin 1) _ _
    obtain rfl : a1 = 0 := Subsingleton.elim (α := Fin 1) _ _
    obtain rfl : a2 = n := Fin.ext (by have q : n.val = 0 + a2.val := hx 2; omega)
    obtain rfl : a3 = e := Fin.ext (by have q : e.val = 0 + a3.val := hx 3; omega)
    exact s1 (hx 1)
  refine View.allAt_cons_unit _ _ _ _ _ (fun x hx => ?_) ?_
  · obtain ⟨a0, a1, a2, a3, rfl⟩ : ∃ a0 a1 a2 a3, x = ix4 a0 a1 a2 a3 := ⟨_, _, _, _, eq_ix4 x⟩
    obtain rfl : a0 = 0 := Subsingleton.elim (α := Fin 1) _ _
    obtain rfl : a1 = 0 := Subsingleton.elim (α := Fin 1) _ _
    obtain rfl : a2 = n := Fin.ext (by have q : n.val = 0 + a2.val := hx 2; omega)
    obtain rfl : a3 = e := Fin.ext (by have q : e.val = 0 + a3.val := hx 3; omega)
    exact s0 (hx 1)
  exact View.allAt_nil _ _

/-- The first result array after the run is the reference's function of the arguments. -/
theorem final4 : (dats m 0 c).arrAt 4 (cfgs 0).N = OUTR (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4]
  obtain ⟨a, r, n, rfl⟩ : ∃ a r n, y = ix3 a r n := ⟨_, _, _, eq_ix3 y⟩
  obtain ⟨h, d, rfl⟩ := lane_cases n
  obtain rfl : a = 0 := Subsingleton.elim (α := Fin 1) _ _
  refine (block4 m c t ⟨t.val, lt_of_lt_of_eq t.isLt N_0⟩ rfl r h d).trans (congrArg _ ?_)
  symm
  funext k
  match k with
  | ⟨0, _⟩ => refine Fin.ext ?_; blk_simp [idx t]; try exact Nat.add_zero _
  | ⟨1, _⟩ => refine Fin.ext ?_; blk_simp [idx t]
  | ⟨2, _⟩ => refine Fin.ext ?_; blk_simp [idx t]

/-- The second result array after the run is the reference's function of the arguments. -/
theorem final5 : (dats m 0 c).arrAt 5 (cfgs 0).N = STR (m ((c.tc : Thread nD τ).loc main_arg0)) (m ((c.tc : Thread nD τ).loc main_arg1)) (m ((c.tc : Thread nD τ).loc main_arg3)) := by
  refine (dats m 0 c).arrAt_eq_of_covers 5 _ (by decide +kernel) fun t _ y => ?_
  blk_simp
  rw [after0_5]
  obtain ⟨a, h, n, e, rfl⟩ : ∃ a h n e, y = ix4 a h n e := ⟨_, _, _, _, eq_ix4 y⟩
  obtain rfl : a = 0 := Subsingleton.elim (α := Fin 1) _ _
  refine (block5 m c t ⟨t.val, lt_of_lt_of_eq t.isLt N_0⟩ rfl h n e).trans (congrArg _ ?_)
  symm
  funext k
  match k with
  | ⟨0, _⟩ => refine Fin.ext ?_; blk_simp [idx t]; try exact Nat.add_zero _
  | ⟨1, _⟩ => refine Fin.ext ?_; blk_simp [idx t]
  | ⟨2, _⟩ => refine Fin.ext ?_; blk_simp [idx t]
  | ⟨3, _⟩ => refine Fin.ext ?_; blk_simp [idx t]

end Cert.HgrnIdeal.Value

end
-- ==== Proof.Hgrn.Claim.lean ====
module

public import proofs.«01_k».proof.Defs
public import proofs.«01_k».proof.Proof.Hgrn.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem

namespace Cert.HgrnIdeal.Value

/-- The reference runs to the end, leaves its arguments as they were and every semaphore counter at zero. -/
theorem still : Cert.quiescent_HgrnRefIdeal := by
  intro m g _
  refine (θ_run _ _ _).mono (fun r h => ⟨fun c => ?_, sem_eq_zero_of_no_sems (sig := Cert.HgrnRefIdeal.sig) (by decide) r.2⟩) (Cert.HgrnRefIdeal.Value.run m g)
  obtain ⟨_, _, kr⟩ := h c
  exact kr

/-- Over the extended reals the kernel and the reference, started on the same arguments, both run to the end, leave
    the arguments as they were and end with equal results. -/
theorem agree : Cert.algebraic_HgrnIdeal_HgrnRefIdeal := by
  intro m g m' g' _ hag
  refine ⟨fun c => Cert.HgrnRefIdeal.Value.OUTR (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)), fun c => Cert.HgrnRefIdeal.Value.STR (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg3)),
    (θ_run _ _ _).mono (fun _ h c => ?_) (Cert.HgrnIdeal.Value.run_blocks m g),
    (θ_run _ _ _).mono (fun _ h c => ?_) (Cert.HgrnRefIdeal.Value.run m' g')⟩
  · obtain ⟨k0, k1, kr⟩ := h c
    exact ⟨k0.trans (final4 m c), k1.trans (final5 m c), kr⟩
  · obtain ⟨k0, k1, kr⟩ := h c
    obtain ⟨h0, h1, h2, h3⟩ := hag c
    have ek0 : Cert.HgrnRefIdeal.Value.OUTR (m' ((c.tc : Thread Cert.HgrnRefIdeal.nD Cert.HgrnRefIdeal.τ).loc Cert.HgrnRefIdeal.main_arg0)) (m' ((c.tc : Thread Cert.HgrnRefIdeal.nD Cert.HgrnRefIdeal.τ).loc Cert.HgrnRefIdeal.main_arg1)) (m' ((c.tc : Thread Cert.HgrnRefIdeal.nD Cert.HgrnRefIdeal.τ).loc Cert.HgrnRefIdeal.main_arg2)) (m' ((c.tc : Thread Cert.HgrnRefIdeal.nD Cert.HgrnRefIdeal.τ).loc Cert.HgrnRefIdeal.main_arg3))
        = Cert.HgrnRefIdeal.Value.OUTR (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) := by
      rw [h0, h1, h2, h3]
    have ek1 : Cert.HgrnRefIdeal.Value.STR (m' ((c.tc : Thread Cert.HgrnRefIdeal.nD Cert.HgrnRefIdeal.τ).loc Cert.HgrnRefIdeal.main_arg0)) (m' ((c.tc : Thread Cert.HgrnRefIdeal.nD Cert.HgrnRefIdeal.τ).loc Cert.HgrnRefIdeal.main_arg1)) (m' ((c.tc : Thread Cert.HgrnRefIdeal.nD Cert.HgrnRefIdeal.τ).loc Cert.HgrnRefIdeal.main_arg3))
        = Cert.HgrnRefIdeal.Value.STR (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg3)) := by
      rw [h0, h1, h3]
    exact ⟨(k0.trans (by rfl)).trans ek0, (k1.trans (by rfl)).trans ek1, kr⟩

end Cert.HgrnIdeal.Value

end
-- ==== Proof.Rope.lean ====
module

public import Idealize.ShloMosaic.Lib.Pipeline.ValueKit
public import Idealize.ShloMosaic.Lib.Pointwise

@[expose] public section

noncomputable section

open Idealize.ShloMosaic

namespace Cert.Rope

/-- One head's rotary embedding: the first eight lanes are rotated against the next eight, the others kept. -/
def rp (y : Fin 64 → EReal) (cs sn : Fin 8 → EReal) (d : Fin 64) : EReal :=
  if h : d.val < 8 then y d * cs ⟨d.val, h⟩ - y ⟨d.val + 8, by omega⟩ * sn ⟨d.val, h⟩
  else if h' : d.val < 16 then y ⟨d.val - 8, by omega⟩ * sn ⟨d.val - 8, by omega⟩ + y d * cs ⟨d.val - 8, by omega⟩
  else y d

/-- The cosine table's entry at lane `d` of a head. -/
def tC (cs : Fin 8 → EReal) (d : Fin 64) : EReal := if d.val < 16 then cs ⟨d.val % 8, by omega⟩ else 1
/-- The entry at lane `d` of the table that multiplies the row rotated one way. -/
def tA (sn : Fin 8 → EReal) (d : Fin 64) : EReal := if d.val < 8 then -sn ⟨d.val % 8, by omega⟩ else 0
/-- The entry at lane `d` of the table that multiplies the row rotated the other way. -/
def tB (sn : Fin 8 → EReal) (d : Fin 64) : EReal := if 8 ≤ d.val ∧ d.val < 16 then sn ⟨d.val % 8, by omega⟩ else 0

/-- A row times the first table plus its two rotations times the other two is the rotary embedding. -/
theorem tables (y : Fin 64 → EReal) (cs sn : Fin 8 → EReal) (d : Fin 64) (a b : EReal)
    (ha : ∀ h : d.val < 8, a = y ⟨d.val + 8, by omega⟩) (hb : ∀ h : 8 ≤ d.val, b = y ⟨d.val - 8, by omega⟩) :
    y d * tC cs d + a * tA sn d + b * tB sn d = rp y cs sn d := by
  unfold rp tC tA tB
  by_cases h : d.val < 8
  · have h1 : d.val < 16 := by omega
    have h2 : ¬ (8 ≤ d.val ∧ d.val < 16) := by omega
    have e : (⟨d.val % 8, by omega⟩ : Fin 8) = ⟨d.val, h⟩ := Fin.ext (by dsimp only; omega)
    rw [if_pos h1, if_pos h, if_neg h2, dif_pos h, e, ha h, mul_zero, add_zero, mul_neg, sub_eq_add_neg]
  · by_cases h1 : d.val < 16
    · have h2 : 8 ≤ d.val ∧ d.val < 16 := by omega
      have e : (⟨d.val % 8, by omega⟩ : Fin 8) = ⟨d.val - 8, by omega⟩ := Fin.ext (by dsimp only; omega)
      rw [if_pos h1, if_neg h, if_pos h2, dif_neg h, dif_pos h1, e, hb h2.1, mul_zero, add_zero, add_comm]
    · have h2 : ¬ (8 ≤ d.val ∧ d.val < 16) := by omega
      rw [if_neg h1, if_neg h, if_neg h2, dif_neg h, dif_neg h1, mul_zero, add_zero, mul_zero, add_zero, mul_one]

/-- Scaling every lane by a finite constant that is at least zero scales the rotary embedding. -/
theorem rp_scale (y : Fin 64 → EReal) (cs sn : Fin 8 → EReal) (d : Fin 64) (s : EReal) (h0 : 0 ≤ s) (ht : s ≠ ⊤) :
    rp (fun e => y e * s) cs sn d = rp y cs sn d * s := by
  unfold rp
  by_cases h : d.val < 8
  · rw [dif_pos h, dif_pos h, sub_eq_add_neg, sub_eq_add_neg, EReal.right_distrib_of_nonneg_of_ne_top h0 ht, EReal.neg_mul,
      mul_right_comm, mul_right_comm (y ⟨d.val + 8, by omega⟩)]
  · by_cases h1 : d.val < 16
    · rw [dif_neg h, dif_pos h1, dif_neg h, dif_pos h1, EReal.right_distrib_of_nonneg_of_ne_top h0 ht, mul_right_comm, mul_right_comm (y d)]
    · rw [dif_neg h, dif_neg h1, dif_neg h, dif_neg h1]

/-- One output column: a row normalized, scaled by the gains and multiplied into a weight column. -/
def col (x g w : Fin 1024 → EReal) : EReal :=
  ∑ k, x k * Ideal.rsqrt (Ideal.div (∑ k, x k * x k) (Ideal.ofBits .f32 0x44800000#32) + Ideal.ofBits .f32 0x358637BD#32) * g k * w k

/-- Lane `d` of head `h`, heads of 64 lanes side by side. -/
def hc {W : ℕ} (H : ℕ) (e : H * 64 = W) (h : Fin H) (d : Fin 64) : Fin W := ⟨h.val * 64 + d.val, by omega⟩

/-- Every column is a lane of a head. -/
theorem heads {W : ℕ} (H : ℕ) (e : H * 64 = W) (n : Fin W) : ∃ h d, n = hc H e h d :=
  ⟨⟨n.val / 64, by omega⟩, ⟨n.val % 64, by omega⟩, Fin.ext (by dsimp only [hc]; omega)⟩

/-- A column of the weight, `n` columns after column `o`. -/
def at' (o : ℕ) {W : ℕ} (n : Fin W) (h : o + W ≤ 3352) : Fin 3352 := ⟨o + n.val, by omega⟩

/-- Two lanes with equal numbers are one lane. -/
theorem lane_eq {n : ℕ} (a b : ℕ) (ha : a < n) (hb : b < n) (e : a = b) : (⟨a, ha⟩ : Fin n) = ⟨b, hb⟩ := Fin.ext e

/-- The integer zero as a real. -/
theorem zero_int : (FloatOps.sitofp .f32 (0#32) : Ideal .f32) = (0 : EReal) := by
  simp [FloatOps.sitofp]

end Cert.Rope

end
-- ==== Proof.Proj.Ref.lean ====
module

public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import proofs.«01_k».proof.Proof.Rope

@[expose] public section

set_option maxRecDepth 16384

noncomputable section

open Idealize.ShloMosaic Idealize.ShloMosaic.TcCoe Idealize.SL.Sem
open Idealize.ShloMosaic.Pipeline (Dat)

namespace Cert.ProjRefIdeal.Value

open Cert.ProjRefIdeal Cert.ProjRefIdeal.Gen Cert.Rope

/-- The root mean square normalization of every row, scaled by the gains. -/
def RMS (X : FVec Ideal S8x4096x1024 .f32) (g : FVec Ideal S1x1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))

/-- The projections of every row, all columns side by side. -/
def MM (X : FVec Ideal S8x4096x1024 .f32) (W : FVec Ideal S1x1024x3352 .f32) : FVec Ideal S8x4096x3352 .f32 :=
  Host.dotGeneral (F := Ideal) (φ₁ := .f32) (φ₂ := .f32) dot_S8x4096x1024_S1024x3352_S8x4096x3352_2_0_01_1_n_n none X (shapeCast _ W shapeCasts_S1x1024x3352_S1024x3352)

/-- The positions of the tokens. -/
def POS : IVec S4096 32 := iotaInDim S4096 32 0

/-- The rotation angle of every position and lane. -/
def ANG : FVec Ideal S4096x8 .f32 :=
  mulf (broadcastInDim S4096x8 ![0, 1] bcast_S4096x1_S4096x8_0_1 (broadcastInDim S4096x1 ![0] bcast_S4096_S4096x1_0 (sitofp .f32 POS))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- The cosines of the angles. -/
def COS : FVec Ideal S4096x1x8 .f32 := broadcastInDim S4096x1x8 ![0, 2] bcast_S4096x8_S4096x1x8_0_2 (Host.cos ANG)
/-- The sines of the angles. -/
def SIN : FVec Ideal S4096x1x8 .f32 := broadcastInDim S4096x1x8 ![0, 2] bcast_S4096x8_S4096x1x8_0_2 (Host.sin ANG)

/-- The rotary embedding of 2 heads. -/
def ROPE2 (Y : FVec Ideal S8x4096x2x64 .f32) : FVec Ideal S8x4096x2x64 .f32 :=
  concatenate S8x4096x2x64 3 [⟨S8x4096x2x8, subf (mulf (extractStridedSlice S8x4096x2x8 ![0, 0, 0, 0] Y slices_S8x4096x2x64_S8x4096x2x8_0_0_0_0) (broadcastInDim S8x4096x2x8 ![0, 1, 2, 3] bcast_S1x4096x1x8_S8x4096x2x8_0_1_2_3 (broadcastInDim S1x4096x1x8 ![1, 2, 3] bcast_S4096x1x8_S1x4096x1x8_1_2_3 COS))) (mulf (extractStridedSlice S8x4096x2x8 ![0, 0, 0, 8] Y slices_S8x4096x2x64_S8x4096x2x8_0_0_0_8) (broadcastInDim S8x4096x2x8 ![0, 1, 2, 3] bcast_S1x4096x1x8_S8x4096x2x8_0_1_2_3 (broadcastInDim S1x4096x1x8 ![1, 2, 3] bcast_S4096x1x8_S1x4096x1x8_1_2_3 SIN)))⟩,
    ⟨S8x4096x2x8, addf (mulf (extractStridedSlice S8x4096x2x8 ![0, 0, 0, 0] Y slices_S8x4096x2x64_S8x4096x2x8_0_0_0_0) (broadcastInDim S8x4096x2x8 ![0, 1, 2, 3] bcast_S1x4096x1x8_S8x4096x2x8_0_1_2_3 (broadcastInDim S1x4096x1x8 ![1, 2, 3] bcast_S4096x1x8_S1x4096x1x8_1_2_3 SIN))) (mulf (extractStridedSlice S8x4096x2x8 ![0, 0, 0, 8] Y slices_S8x4096x2x64_S8x4096x2x8_0_0_0_8) (broadcastInDim S8x4096x2x8 ![0, 1, 2, 3] bcast_S1x4096x1x8_S8x4096x2x8_0_1_2_3 (broadcastInDim S1x4096x1x8 ![1, 2, 3] bcast_S4096x1x8_S1x4096x1x8_1_2_3 COS)))⟩,
    ⟨S8x4096x2x48, extractStridedSlice S8x4096x2x48 ![0, 0, 0, 16] Y slices_S8x4096x2x64_S8x4096x2x48_0_0_0_16⟩] concatenates_S8x4096x2x8_S8x4096x2x8_S8x4096x2x48_S8x4096x2x64_d3

/-- The rotary embedding of 8 heads. -/
def ROPE8 (Y : FVec Ideal S8x4096x8x64 .f32) : FVec Ideal S8x4096x8x64 .f32 :=
  concatenate S8x4096x8x64 3 [⟨S8x4096x8x8, subf (mulf (extractStridedSlice S8x4096x8x8 ![0, 0, 0, 0] Y slices_S8x4096x8x64_S8x4096x8x8_0_0_0_0) (broadcastInDim S8x4096x8x8 ![0, 1, 2, 3] bcast_S1x4096x1x8_S8x4096x8x8_0_1_2_3 (broadcastInDim S1x4096x1x8 ![1, 2, 3] bcast_S4096x1x8_S1x4096x1x8_1_2_3 COS))) (mulf (extractStridedSlice S8x4096x8x8 ![0, 0, 0, 8] Y slices_S8x4096x8x64_S8x4096x8x8_0_0_0_8) (broadcastInDim S8x4096x8x8 ![0, 1, 2, 3] bcast_S1x4096x1x8_S8x4096x8x8_0_1_2_3 (broadcastInDim S1x4096x1x8 ![1, 2, 3] bcast_S4096x1x8_S1x4096x1x8_1_2_3 SIN)))⟩,
    ⟨S8x4096x8x8, addf (mulf (extractStridedSlice S8x4096x8x8 ![0, 0, 0, 0] Y slices_S8x4096x8x64_S8x4096x8x8_0_0_0_0) (broadcastInDim S8x4096x8x8 ![0, 1, 2, 3] bcast_S1x4096x1x8_S8x4096x8x8_0_1_2_3 (broadcastInDim S1x4096x1x8 ![1, 2, 3] bcast_S4096x1x8_S1x4096x1x8_1_2_3 SIN))) (mulf (extractStridedSlice S8x4096x8x8 ![0, 0, 0, 8] Y slices_S8x4096x8x64_S8x4096x8x8_0_0_0_8) (broadcastInDim S8x4096x8x8 ![0, 1, 2, 3] bcast_S1x4096x1x8_S8x4096x8x8_0_1_2_3 (broadcastInDim S1x4096x1x8 ![1, 2, 3] bcast_S4096x1x8_S1x4096x1x8_1_2_3 COS)))⟩,
    ⟨S8x4096x8x48, extractStridedSlice S8x4096x8x48 ![0, 0, 0, 16] Y slices_S8x4096x8x64_S8x4096x8x48_0_0_0_16⟩] concatenates_S8x4096x8x8_S8x4096x8x8_S8x4096x8x48_S8x4096x8x64_d3

/-- The columns from 792 on, split into heads. -/
def KS (M : FVec Ideal S8x4096x3352 .f32) : FVec Ideal S8x4096x2x64 .f32 :=
  shapeCast _ (extractStridedSlice S8x4096x128 ![0, 0, 792] M slices_S8x4096x3352_S8x4096x128_0_0_792) shapeCasts_S8x4096x128_S8x4096x2x64

/-- The columns from 1048 on, split into heads. -/
def KW (M : FVec Ideal S8x4096x3352 .f32) : FVec Ideal S8x4096x2x64 .f32 :=
  shapeCast _ (extractStridedSlice S8x4096x128 ![0, 0, 1048] M slices_S8x4096x3352_S8x4096x128_0_0_1048) shapeCasts_S8x4096x128_S8x4096x2x64

/-- The columns from 0 on, split into heads. -/
def Q (M : FVec Ideal S8x4096x3352 .f32) : FVec Ideal S8x4096x8x64 .f32 :=
  shapeCast _ (extractStridedSlice S8x4096x512 ![0, 0, 0] M slices_S8x4096x3352_S8x4096x512_0_0_0) shapeCasts_S8x4096x512_S8x4096x8x64

/-- The queries scaled and regrouped, the heads that share a rank side by side. -/
def RANK (Y : FVec Ideal S8x4096x8x64 .f32) : FVec Ideal S32768x512 .bf16 :=
  truncf .bf16 (shapeCast _ (transpose S8x4096x4x2x64 [0, 1, 3, 2, 4] (shapeCast _ (mulf Y (broadcastInDim S8x4096x8x64 ![] bcast_S_S8x4096x8x64 (constant S_ .f32 0x3E000000#32))) shapeCasts_S8x4096x8x64_S8x4096x2x4x64) transposes_S8x4096x2x4x64_S8x4096x4x2x64_0_1_3_2_4) shapeCasts_S8x4096x4x2x64_S32768x512) bitsLt_bf16_f32

/-- The columns from 536 on. -/
def KC (M : FVec Ideal S8x4096x3352 .f32) : FVec Ideal S32768x128 .f32 :=
  shapeCast _ (extractStridedSlice S8x4096x128 ![0, 0, 536] M slices_S8x4096x3352_S8x4096x128_0_0_536) shapeCasts_S8x4096x128_S32768x128

/-- The columns from 664 on. -/
def VC (M : FVec Ideal S8x4096x3352 .f32) : FVec Ideal S32768x128 .f32 :=
  shapeCast _ (extractStridedSlice S8x4096x128 ![0, 0, 664] M slices_S8x4096x3352_S8x4096x128_0_0_664) shapeCasts_S8x4096x128_S32768x128

/-- The columns from 920 on. -/
def VS (M : FVec Ideal S8x4096x3352 .f32) : FVec Ideal S32768x128 .f32 :=
  shapeCast _ (extractStridedSlice S8x4096x128 ![0, 0, 920] M slices_S8x4096x3352_S8x4096x128_0_0_920) shapeCasts_S8x4096x128_S32768x128

/-- The columns from 1176 on. -/
def VW (M : FVec Ideal S8x4096x3352 .f32) : FVec Ideal S32768x128 .f32 :=
  shapeCast _ (extractStridedSlice S8x4096x128 ![0, 0, 1176] M slices_S8x4096x3352_S8x4096x128_0_0_1176) shapeCasts_S8x4096x128_S32768x128

/-- Two rotated heads side by side. -/
def FLAT (Y : FVec Ideal S8x4096x2x64 .f32) : FVec Ideal S32768x128 .f32 := shapeCast _ Y shapeCasts_S8x4096x2x64_S32768x128

/-- A value rounded for storage. -/
def CUT (Y : FVec Ideal S32768x128 .f32) : FVec Ideal S32768x128 .bf16 := truncf .bf16 Y bitsLt_bf16_f32

/-- The positions as a column. -/
def COLP : IVec S4096x1 32 := broadcastInDim S4096x1 ![0] bcast_S4096_S4096x1_0 POS
/-- The positions' quotients by the block length. -/
def QUO : IVec S4096x1 32 := Host.divsi COLP (broadcastInDim S4096x1 ![] bcast_S_S4096x1 (id (constantI S_ 32 64#32)))

/-- Each position's block, as a row with a one at the block's lane. -/
def HOT : FVec Ideal S4096x64 .f32 := uitofp .f32 (cmpi .eq (broadcastInDim S4096x64 ![0, 1] bcast_S4096x1_S4096x64_0_1 (select (andi (cmpi .ne (signi COLP) (broadcastInDim S4096x1 ![] bcast_S_S4096x1 (signi (id (constantI S_ 32 64#32))))) (cmpi .ne (Host.remsi COLP (broadcastInDim S4096x1 ![] bcast_S_S4096x1 (id (constantI S_ 32 64#32)))) (broadcastInDim S4096x1 ![] bcast_S_S4096x1 (constantI S_ 32 0#32)))) (subi QUO (broadcastInDim S4096x1 ![] bcast_S_S4096x1 (constantI S_ 32 1#32))) QUO)) (broadcastInDim S4096x64 ![0, 1] bcast_S1x64_S4096x64_0_1 (broadcastInDim S1x64 ![1] bcast_S64_S1x64_1 (iotaInDim S64 32 0))))

/-- The block rows repeated over the batch. -/
def HOTB : FVec Ideal S8x4096x64 .f32 :=
  broadcastInDim S8x4096x64 ![0, 1, 2] bcast_S1x4096x64_S8x4096x64_0_1_2 (broadcastInDim S1x4096x64 ![1, 2] bcast_S4096x64_S1x4096x64_1_2 HOT)

/-- The selection keys, each head beside the block row. -/
def AUG (Y : FVec Ideal S8x4096x2x64 .f32) : FVec Ideal S32768x256 .bf16 :=
  truncf .bf16 (shapeCast _ (concatenate S8x4096x256 2 [⟨S8x4096x64, shapeCast S8x4096x64 (extractStridedSlice S8x4096x1x64 ![0, 0, 0, 0] Y slices_S8x4096x2x64_S8x4096x1x64_0_0_0_0) shapeCasts_S8x4096x1x64_S8x4096x64⟩,
    ⟨S8x4096x64, HOTB⟩, ⟨S8x4096x64, HOTB⟩,
    ⟨S8x4096x64, shapeCast S8x4096x64 (extractStridedSlice S8x4096x1x64 ![0, 0, 1, 0] Y slices_S8x4096x2x64_S8x4096x1x64_0_0_1_0) shapeCasts_S8x4096x1x64_S8x4096x64⟩] concatenates_S8x4096x64_S8x4096x64_S8x4096x64_S8x4096x64_S8x4096x256_d2) shapeCasts_S8x4096x256_S32768x256) bitsLt_bf16_f32

/-- The recurrence's four inputs side by side. -/
def HM (M : FVec Ideal S8x4096x3352 .f32) : FVec Ideal S32768x2048 .f32 :=
  shapeCast _ (concatenate S8x4096x2048 2 [⟨S8x4096x512, extractStridedSlice S8x4096x512 ![0, 0, 1304] M slices_S8x4096x3352_S8x4096x512_0_0_1304⟩, ⟨S8x4096x512, extractStridedSlice S8x4096x512 ![0, 0, 1816] M slices_S8x4096x3352_S8x4096x512_0_0_1816⟩, ⟨S8x4096x512, extractStridedSlice S8x4096x512 ![0, 0, 2328] M slices_S8x4096x3352_S8x4096x512_0_0_2328⟩, ⟨S8x4096x512, extractStridedSlice S8x4096x512 ![0, 0, 2840] M slices_S8x4096x3352_S8x4096x512_0_0_2840⟩] concatenates_S8x4096x512_S8x4096x512_S8x4096x512_S8x4096x512_S8x4096x2048_d2) shapeCasts_S8x4096x2048_S32768x2048

/-- The gates, padded with zeros. -/
def GT (M : FVec Ideal S8x4096x3352 .f32) : FVec Ideal S32768x128 .f32 :=
  shapeCast _ (pad S8x4096x128 ![0, 0, 0] ![0, 0, 104] ![0, 0, 0] (extractStridedSlice S8x4096x24 ![0, 0, 512] M slices_S8x4096x3352_S8x4096x24_0_0_512) (sitofp .f32 (constantI S_ 32 0#32)) pads_S8x4096x24_S8x4096x128_000_000_01040 h_S_) shapeCasts_S8x4096x128_S32768x128

/-- The normalization at an index. -/
theorem rms_apply (X g b i d) : RMS X g (ix3 b i d) = X (ix3 b i d) * Ideal.rsqrt (Ideal.div (∑ k, X (ix3 b i k) * X (ix3 b i k)) (Ideal.ofBits .f32 0x44800000#32) + Ideal.ofBits .f32 0x358637BD#32) * g (ix2 0 d) := by
  pointwise [RMS]
/-- The product at an index. -/
theorem mm_apply (X W b i n) : MM X W (ix3 b i n) = ∑ k, X (ix3 b i k) * W (ix3 0 k n) := by
  pointwise [MM]
/-- A projected column at an index. -/
theorem lin_apply (X g W b i n) : MM (RMS X g) W (ix3 b i n) = col (fun k => X (ix3 b i k)) (fun k => g (ix2 0 k)) (fun k => W (ix3 0 k n)) := by
  rw [mm_apply]; simp only [rms_apply]; rfl
/-- The cosines at an index. -/
theorem cos_apply (t z j) : COS (ix3 t z j) = Ideal.cos (ANG (ix2 t j)) := by
  pointwise [COS]
/-- The sines at an index. -/
theorem sin_apply (t z j) : SIN (ix3 t z j) = Ideal.sin (ANG (ix2 t j)) := by
  pointwise [SIN]

/-- The rotary embedding at an index, one head's `rp`. -/
theorem rope2_apply (Y b t h d) : ROPE2 Y (ix4 b t h d)
    = rp (fun e => Y (ix4 b t h e)) (fun j => Ideal.cos (ANG (ix2 t j))) (fun j => Ideal.sin (ANG (ix2 t j))) d := by
  pointwise [ROPE2]
  unfold rp
  by_cases h1 : d.val < 8
  · rw [dif_pos h1, dif_pos h1, cos_apply, sin_apply, lane_eq (8 + d.val) (d.val + 8) _ _ (by omega)]
  · by_cases h2 : d.val < 16
    · rw [dif_neg h1, dif_pos (by omega), dif_neg h1, dif_pos h2, cos_apply, sin_apply, lane_eq (8 + (d.val - 8)) d.val _ _ (by omega)]
    · rw [dif_neg h1, dif_neg (by omega), dif_neg h1, dif_neg h2, lane_eq (16 + (d.val - 8 - 8)) d.val _ _ (by omega)]

/-- The rotary embedding at an index, one head's `rp`. -/
theorem rope8_apply (Y b t h d) : ROPE8 Y (ix4 b t h d)
    = rp (fun e => Y (ix4 b t h e)) (fun j => Ideal.cos (ANG (ix2 t j))) (fun j => Ideal.sin (ANG (ix2 t j))) d := by
  pointwise [ROPE8]
  unfold rp
  by_cases h1 : d.val < 8
  · rw [dif_pos h1, dif_pos h1, cos_apply, sin_apply, lane_eq (8 + d.val) (d.val + 8) _ _ (by omega)]
  · by_cases h2 : d.val < 16
    · rw [dif_neg h1, dif_pos (by omega), dif_neg h1, dif_pos h2, cos_apply, sin_apply, lane_eq (8 + (d.val - 8)) d.val _ _ (by omega)]
    · rw [dif_neg h1, dif_neg (by omega), dif_neg h1, dif_neg h2, lane_eq (16 + (d.val - 8 - 8)) d.val _ _ (by omega)]

/-- The split columns at an index. -/
theorem ks_apply (M b t h d) : KS M (ix4 b t h d) = M (ix3 b t (at' 792 (hc (W := 128) 2 rfl h d) (by omega))) := by
  pointwise [KS, at', hc]

/-- The split columns at an index. -/
theorem kw_apply (M b t h d) : KW M (ix4 b t h d) = M (ix3 b t (at' 1048 (hc (W := 128) 2 rfl h d) (by omega))) := by
  pointwise [KW, at', hc]

/-- The split columns at an index. -/
theorem q_apply (M b t h d) : Q M (ix4 b t h d) = M (ix3 b t (at' 0 (hc (W := 512) 8 rfl h d) (by omega))) := by
  pointwise [Q, at', hc]

/-- The regrouped queries at an index. -/
theorem rank_apply (Y) (r : Fin 32768) (h : Fin 8) (d : Fin 64) : RANK Y (ix2 r (hc (W := 512) 8 rfl h d))
    = Y (ix4 ⟨r.val / 4096, by omega⟩ ⟨r.val % 4096, by omega⟩ ⟨h.val % 2 * 4 + h.val / 2, by omega⟩ d) * Ideal.ofBits .f32 0x3E000000#32 := by
  pointwise [RANK, hc]
  rw [lane_eq ((h.val * 64 + d.val) / 64 % 2 * 4 + (h.val * 64 + d.val) / 128) (h.val % 2 * 4 + h.val / 2) _ (by omega) (by omega)]

/-- The columns at an index. -/
theorem kc_apply (M) (r : Fin 32768) (n : Fin 128) : KC M (ix2 r n) = M (ix3 ⟨r.val / 4096, by omega⟩ ⟨r.val % 4096, by omega⟩ (at' 536 n (by omega))) := by
  pointwise [KC, at']

/-- The columns at an index. -/
theorem vc_apply (M) (r : Fin 32768) (n : Fin 128) : VC M (ix2 r n) = M (ix3 ⟨r.val / 4096, by omega⟩ ⟨r.val % 4096, by omega⟩ (at' 664 n (by omega))) := by
  pointwise [VC, at']

/-- The columns at an index. -/
theorem vs_apply (M) (r : Fin 32768) (n : Fin 128) : VS M (ix2 r n) = M (ix3 ⟨r.val / 4096, by omega⟩ ⟨r.val % 4096, by omega⟩ (at' 920 n (by omega))) := by
  pointwise [VS, at']

/-- The columns at an index. -/
theorem vw_apply (M) (r : Fin 32768) (n : Fin 128) : VW M (ix2 r n) = M (ix3 ⟨r.val / 4096, by omega⟩ ⟨r.val % 4096, by omega⟩ (at' 1176 n (by omega))) := by
  pointwise [VW, at']

/-- The two heads at an index. -/
theorem flat_apply (Y) (r : Fin 32768) (h : Fin 2) (d : Fin 64) : FLAT Y (ix2 r (hc (W := 128) 2 rfl h d))
    = Y (ix4 ⟨r.val / 4096, by omega⟩ ⟨r.val % 4096, by omega⟩ h d) := by
  pointwise [FLAT, hc]
/-- The repeated block rows at an index. -/
theorem hotb_apply (b t e) : HOTB (ix3 b t e) = HOT (ix2 t e) := by
  pointwise [HOTB]
/-- The augmented keys at an index. -/
theorem aug_apply (Y) (r : Fin 32768) (h : Fin 4) (d : Fin 64) : AUG Y (ix2 r (hc (W := 256) 4 rfl h d))
    = if h.val = 0 then Y (ix4 ⟨r.val / 4096, by omega⟩ ⟨r.val % 4096, by omega⟩ 0 d)
      else if h.val = 3 then Y (ix4 ⟨r.val / 4096, by omega⟩ ⟨r.val % 4096, by omega⟩ 1 d)
      else HOT (ix2 ⟨r.val % 4096, by omega⟩ d) := by
  pointwise [AUG, hc]
  obtain e | e | e | e : h.val = 0 ∨ h.val = 1 ∨ h.val = 2 ∨ h.val = 3 := by omega
  · rw [dif_pos (show h.val * 64 + d.val < 64 by omega), if_pos e, lane_eq (n := 64) (h.val * 64 + d.val) d.val _ _ (by omega)]
  · rw [dif_neg (show ¬ h.val * 64 + d.val < 64 by omega), dif_pos (show h.val * 64 + d.val - 64 < 64 by omega), if_neg (show ¬ h.val = 0 by omega), if_neg (show ¬ h.val = 3 by omega), lane_eq (h.val * 64 + d.val - 64) d.val _ _ (by omega), hotb_apply]
  · rw [dif_neg (show ¬ h.val * 64 + d.val < 64 by omega), dif_neg (show ¬ h.val * 64 + d.val - 64 < 64 by omega), dif_pos (show h.val * 64 + d.val - 64 - 64 < 64 by omega), if_neg (show ¬ h.val = 0 by omega), if_neg (show ¬ h.val = 3 by omega), lane_eq (h.val * 64 + d.val - 64 - 64) d.val _ _ (by omega), hotb_apply]
  · rw [dif_neg (show ¬ h.val * 64 + d.val < 64 by omega), dif_neg (show ¬ h.val * 64 + d.val - 64 < 64 by omega), dif_neg (show ¬ h.val * 64 + d.val - 64 - 64 < 64 by omega), if_neg (show ¬ h.val = 0 by omega), if_pos e, lane_eq (h.val * 64 + d.val - 64 - 64 - 64) d.val _ _ (by omega)]
/-- The recurrence's inputs at an index. -/
theorem hm_apply (M) (r : Fin 32768) (n : Fin 2048) : HM M (ix2 r n) = M (ix3 ⟨r.val / 4096, by omega⟩ ⟨r.val % 4096, by omega⟩ (at' 1304 n (by omega))) := by
  pointwise [HM, at']
  by_cases h1 : n.val < 512
  · rw [dif_pos h1]
  · by_cases h2 : n.val < 1024
    · rw [dif_neg h1, dif_pos (show n.val - 512 < 512 by omega)]; exact congrArg (fun q => M (ix3 _ _ q)) (lane_eq _ _ _ _ (by omega))
    · by_cases h3 : n.val < 1536
      · rw [dif_neg h1, dif_neg (show ¬ n.val - 512 < 512 by omega), dif_pos (show n.val - 512 - 512 < 512 by omega)]; exact congrArg (fun q => M (ix3 _ _ q)) (lane_eq _ _ _ _ (by omega))
      · rw [dif_neg h1, dif_neg (show ¬ n.val - 512 < 512 by omega), dif_neg (show ¬ n.val - 512 - 512 < 512 by omega)]; exact congrArg (fun q => M (ix3 _ _ q)) (lane_eq _ _ _ _ (by omega))
/-- The gates at an index. -/
theorem gt_apply (M) (r : Fin 32768) (n : Fin 128) : GT M (ix2 r n)
    = if h : n.val < 24 then M (ix3 ⟨r.val / 4096, by omega⟩ ⟨r.val % 4096, by omega⟩ ⟨512 + n.val, by omega⟩) else 0 := by
  pointwise [GT]
  split_ifs with a b b
  · rfl
  · exact absurd a.2.2 b
  · exact absurd ⟨by omega, by omega, b⟩ a
  · exact zero_int

end Cert.ProjRefIdeal.Value

end
-- ==== Proof.Proj.Weight.lean ====
module

public import proofs.«01_k».proof.Proof.Gen.ProjIdeal.Value
public import proofs.«01_k».proof.Proof.Proj.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Value
open Cert.ProjIdeal Cert.ProjIdeal.Gen Cert.ProjRefIdeal.Value Cert.Rope
variable (m : (ℓ : Loc nD τ sig) → Buf (Elt Ideal) ℓ)

set_option maxHeartbeats 4000000 in
/-- The rows at the region's entry. -/
theorem x_apply (c : Dev nD) (r : Fin 32768) (k : Fin 1024) : V m c main_v21 (ix2 r k) = m ((c : Thread nD τ).loc main_arg0) (ix3 ⟨r.val / 4096, by omega⟩ ⟨r.val % 4096, by omega⟩ k) := by
  delta Gen.V
  simp only [List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, StableHlo.TRef.nullary, StableHlo.TRef.unary, StableHlo.TRef.binary, StableHlo.TRef.ternary, StableHlo.TRef.toBuf, StableHlo.TRef.ofBuf, cast_eq]
  after_results_simp
  after_results_loop
  pointwise

set_option maxHeartbeats 4000000 in
/-- The gains at the region's entry. -/
theorem g_apply (c : Dev nD) (k : Fin 1024) : V m c main_v23 (ix2 0 k) = m ((c : Thread nD τ).loc main_arg1) (ix2 0 k) := by
  delta Gen.V
  simp only [List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, StableHlo.TRef.nullary, StableHlo.TRef.unary, StableHlo.TRef.binary, StableHlo.TRef.ternary, StableHlo.TRef.toBuf, StableHlo.TRef.ofBuf, cast_eq]
  after_results_simp
  after_results_loop
  pointwise

/-- The prepared weight as its thirteen pieces side by side. -/
def wsel (p0 : S1024x512.Idx → EReal) (p1 : S1024x128.Idx → EReal) (p2 : S1024x128.Idx → EReal) (p3 : S1024x128.Idx → EReal) (p4 : S1024x128.Idx → EReal) (p5 : S1024x128.Idx → EReal) (p6 : S1024x128.Idx → EReal) (p7 : S1024x256.Idx → EReal) (p8 : S1024x512.Idx → EReal) (p9 : S1024x512.Idx → EReal) (p10 : S1024x512.Idx → EReal) (p11 : S1024x512.Idx → EReal) (p12 : S1024x128.Idx → EReal) (k : Fin 1024) (n : Fin 3712) : EReal :=
  if h0 : n.val < 512 then p0 (ix2 k ⟨n.val, h0⟩)
  else if h1 : n.val - 512 < 128 then p1 (ix2 k ⟨n.val - 512, h1⟩)
  else if h2 : n.val - 512 - 128 < 128 then p2 (ix2 k ⟨n.val - 512 - 128, h2⟩)
  else if h3 : n.val - 512 - 128 - 128 < 128 then p3 (ix2 k ⟨n.val - 512 - 128 - 128, h3⟩)
  else if h4 : n.val - 512 - 128 - 128 - 128 < 128 then p4 (ix2 k ⟨n.val - 512 - 128 - 128 - 128, h4⟩)
  else if h5 : n.val - 512 - 128 - 128 - 128 - 128 < 128 then p5 (ix2 k ⟨n.val - 512 - 128 - 128 - 128 - 128, h5⟩)
  else if h6 : n.val - 512 - 128 - 128 - 128 - 128 - 128 < 128 then p6 (ix2 k ⟨n.val - 512 - 128 - 128 - 128 - 128 - 128, h6⟩)
  else if h7 : n.val - 512 - 128 - 128 - 128 - 128 - 128 - 128 < 256 then p7 (ix2 k ⟨n.val - 512 - 128 - 128 - 128 - 128 - 128 - 128, h7⟩)
  else if h8 : n.val - 512 - 128 - 128 - 128 - 128 - 128 - 128 - 256 < 512 then p8 (ix2 k ⟨n.val - 512 - 128 - 128 - 128 - 128 - 128 - 128 - 256, h8⟩)
  else if h9 : n.val - 512 - 128 - 128 - 128 - 128 - 128 - 128 - 256 - 512 < 512 then p9 (ix2 k ⟨n.val - 512 - 128 - 128 - 128 - 128 - 128 - 128 - 256 - 512, h9⟩)
  else if h10 : n.val - 512 - 128 - 128 - 128 - 128 - 128 - 128 - 256 - 512 - 512 < 512 then p10 (ix2 k ⟨n.val - 512 - 128 - 128 - 128 - 128 - 128 - 128 - 256 - 512 - 512, h10⟩)
  else if h11 : n.val - 512 - 128 - 128 - 128 - 128 - 128 - 128 - 256 - 512 - 512 - 512 < 512 then p11 (ix2 k ⟨n.val - 512 - 128 - 128 - 128 - 128 - 128 - 128 - 256 - 512 - 512 - 512, h11⟩)
  else p12 (ix2 k ⟨n.val - 512 - 128 - 128 - 128 - 128 - 128 - 128 - 256 - 512 - 512 - 512 - 512, by omega⟩)

/-- The augmented group as its four heads side by side. -/
def asel (p0 p1 p2 p3 : S1024x64.Idx → EReal) (k : Fin 1024) (n : Fin 256) : EReal :=
  if h0 : n.val < 64 then p0 (ix2 k ⟨n.val, h0⟩)
  else if h1 : n.val - 64 < 64 then p1 (ix2 k ⟨n.val - 64, h1⟩)
  else if h2 : n.val - 64 - 64 < 64 then p2 (ix2 k ⟨n.val - 64 - 64, h2⟩)
  else p3 (ix2 k ⟨n.val - 64 - 64 - 64, by omega⟩)

/-- A line of operations run in two parts. -/
theorem two (p : ℕ) (ops : List (HloOp τ sig (Elt Ideal))) (W : Valuation τ sig (Elt Ideal)) : StableHlo.after ops W = StableHlo.after (ops.drop p) (StableHlo.after (ops.take p) W) := by
  rw [← StableHlo.after_append, List.take_append_drop]

set_option maxHeartbeats 4000000 in
/-- The operations that join the weight's pieces. -/
theorem cat_apply (W : Valuation τ sig (Elt Ideal)) (k : Fin 1024) (n : Fin 3712) : StableHlo.after (hostOps0_6.drop 10) W (Proc.devRef .tc main_v47) (ix2 k n)
    = wsel (W (Proc.devRef .tc main_v28)) (W (Proc.devRef .tc main_v36)) (W (Proc.devRef .tc main_v37)) (W (Proc.devRef .tc main_v38)) (W (Proc.devRef .tc main_v39)) (W (Proc.devRef .tc main_v40)) (W (Proc.devRef .tc main_v41)) (W (Proc.devRef .tc main_v33)) (W (Proc.devRef .tc main_v42)) (W (Proc.devRef .tc main_v43)) (W (Proc.devRef .tc main_v44)) (W (Proc.devRef .tc main_v45)) (W (Proc.devRef .tc main_v35)) k n := by
  simp only [hostOps0_6, List.take_succ_cons, List.take_zero, List.drop_succ_cons, List.drop_zero, StableHlo.after_cons, StableHlo.after_nil]
  after_results_steps
  pointwise [wsel]
  try rfl

set_option maxHeartbeats 4000000 in
/-- The operation that joins the augmented group's heads. -/
theorem augcat_apply (W : Valuation τ sig (Elt Ideal)) (k : Fin 1024) (n : Fin 256) : StableHlo.after (hostOps0_4.drop 20) W (Proc.devRef .tc main_v33) (ix2 k n)
    = asel (W (Proc.devRef .tc main_v31)) (W (Proc.devRef .tc main_v30)) (W (Proc.devRef .tc main_v30)) (W (Proc.devRef .tc main_v32)) k n := by
  simp only [hostOps0_4, List.take_succ_cons, List.take_zero, List.drop_succ_cons, List.drop_zero, StableHlo.after_cons, StableHlo.after_nil]
  after_results_steps
  pointwise [asel]
  try rfl

set_option maxHeartbeats 4000000 in
/-- The later operations leave the weight alone. -/
theorem keep_w (W : Valuation τ sig (Elt Ideal)) : StableHlo.after hostOps0_11 (StableHlo.after hostOps0_10 (StableHlo.after hostOps0_9 (StableHlo.after hostOps0_8 (StableHlo.after hostOps0_7 W)))) (Proc.devRef .tc main_v47) = W (Proc.devRef .tc main_v47) := by
  simp only [hostOps0_7, hostOps0_8, hostOps0_9, hostOps0_10, hostOps0_11, StableHlo.TRef.nullary, StableHlo.TRef.unary, StableHlo.TRef.binary, StableHlo.TRef.ternary, StableHlo.TRef.toBuf, StableHlo.TRef.ofBuf, cast_eq]
  after_results_simp

/-- What the buffers hold before the weight is prepared. -/
def U0 (c : Dev nD) : Valuation τ sig (Elt Ideal) := (StableHlo.after hostOps0_3 (StableHlo.after hostOps0_2 (StableHlo.after hostOps0_1 (StableHlo.after hostOps0 (fun b => m (c, b))))))

set_option maxHeartbeats 4000000 in
/-- The weight is as launched by then. -/
theorem arg2_eq (c : Dev nD) : U0 m c (Proc.devRef .tc main_arg2) = m ((c : Thread nD τ).loc main_arg2) := by
  unfold U0
  simp only [hostOps0, hostOps0_1, hostOps0_2, hostOps0_3, StableHlo.TRef.nullary, StableHlo.TRef.unary, StableHlo.TRef.binary, StableHlo.TRef.ternary, StableHlo.TRef.toBuf, StableHlo.TRef.ofBuf, cast_eq]
  after_results_simp

/-- What the buffers hold when the weight's pieces are ready. -/
def U (c : Dev nD) : Valuation τ sig (Elt Ideal) :=
  StableHlo.after (hostOps0_6.take 10) (StableHlo.after hostOps0_5 (StableHlo.after hostOps0_4 (U0 m c)))

set_option maxHeartbeats 4000000 in
/-- The prepared weight. -/
theorem w_eq (c : Dev nD) (k : Fin 1024) (n : Fin 3712) : V m c main_v47 (ix2 k n) = wsel (U m c (Proc.devRef .tc main_v28)) (U m c (Proc.devRef .tc main_v36)) (U m c (Proc.devRef .tc main_v37)) (U m c (Proc.devRef .tc main_v38)) (U m c (Proc.devRef .tc main_v39)) (U m c (Proc.devRef .tc main_v40)) (U m c (Proc.devRef .tc main_v41)) (U m c (Proc.devRef .tc main_v33)) (U m c (Proc.devRef .tc main_v42)) (U m c (Proc.devRef .tc main_v43)) (U m c (Proc.devRef .tc main_v44)) (U m c (Proc.devRef .tc main_v45)) (U m c (Proc.devRef .tc main_v35)) k n := by
  delta Gen.V
  simp only [List.flatten_cons, List.flatten_nil, List.append_nil, StableHlo.after_append]
  rw [keep_w, two 10 hostOps0_6, cat_apply]
  rfl

set_option maxHeartbeats 4000000 in
/-- A plain piece. -/
theorem u1 (c : Dev nD) (k : Fin 1024) (n : Fin 128) : U m c (Proc.devRef .tc main_v36) (ix2 k n) = m ((c : Thread nD τ).loc main_arg2) (ix3 0 k ⟨536 + n.val, by omega⟩) := by
  unfold U
  simp only [hostOps0_4, hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u2 (c : Dev nD) (k : Fin 1024) (n : Fin 128) : U m c (Proc.devRef .tc main_v37) (ix2 k n) = m ((c : Thread nD τ).loc main_arg2) (ix3 0 k ⟨664 + n.val, by omega⟩) := by
  unfold U
  simp only [hostOps0_4, hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u3 (c : Dev nD) (k : Fin 1024) (n : Fin 128) : U m c (Proc.devRef .tc main_v38) (ix2 k n) = m ((c : Thread nD τ).loc main_arg2) (ix3 0 k ⟨792 + n.val, by omega⟩) := by
  unfold U
  simp only [hostOps0_4, hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u4 (c : Dev nD) (k : Fin 1024) (n : Fin 128) : U m c (Proc.devRef .tc main_v39) (ix2 k n) = m ((c : Thread nD τ).loc main_arg2) (ix3 0 k ⟨920 + n.val, by omega⟩) := by
  unfold U
  simp only [hostOps0_4, hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u5 (c : Dev nD) (k : Fin 1024) (n : Fin 128) : U m c (Proc.devRef .tc main_v40) (ix2 k n) = m ((c : Thread nD τ).loc main_arg2) (ix3 0 k ⟨1048 + n.val, by omega⟩) := by
  unfold U
  simp only [hostOps0_4, hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u6 (c : Dev nD) (k : Fin 1024) (n : Fin 128) : U m c (Proc.devRef .tc main_v41) (ix2 k n) = m ((c : Thread nD τ).loc main_arg2) (ix3 0 k ⟨1176 + n.val, by omega⟩) := by
  unfold U
  simp only [hostOps0_4, hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u8 (c : Dev nD) (k : Fin 1024) (n : Fin 512) : U m c (Proc.devRef .tc main_v42) (ix2 k n) = m ((c : Thread nD τ).loc main_arg2) (ix3 0 k ⟨1304 + n.val, by omega⟩) := by
  unfold U
  simp only [hostOps0_4, hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u9 (c : Dev nD) (k : Fin 1024) (n : Fin 512) : U m c (Proc.devRef .tc main_v43) (ix2 k n) = m ((c : Thread nD τ).loc main_arg2) (ix3 0 k ⟨1816 + n.val, by omega⟩) := by
  unfold U
  simp only [hostOps0_4, hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u10 (c : Dev nD) (k : Fin 1024) (n : Fin 512) : U m c (Proc.devRef .tc main_v44) (ix2 k n) = m ((c : Thread nD τ).loc main_arg2) (ix3 0 k ⟨2328 + n.val, by omega⟩) := by
  unfold U
  simp only [hostOps0_4, hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u11 (c : Dev nD) (k : Fin 1024) (n : Fin 512) : U m c (Proc.devRef .tc main_v45) (ix2 k n) = m ((c : Thread nD τ).loc main_arg2) (ix3 0 k ⟨2840 + n.val, by omega⟩) := by
  unfold U
  simp only [hostOps0_4, hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- The paired query columns. -/
theorem u0 (c : Dev nD) (k : Fin 1024) (h : Fin 8) (d : Fin 64) : U m c (Proc.devRef .tc main_v28) (ix2 k ⟨h.val * 64 + d.val, by omega⟩) = m ((c : Thread nD τ).loc main_arg2) (ix3 0 k ⟨(h.val % 2 * 4 + h.val / 2) * 64 + d.val, by omega⟩) := by
  unfold U
  simp only [hostOps0_4, hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact (congrFun (arg2_eq m c) _).trans <| congrArg (fun q => m ((c : Thread nD τ).loc main_arg2) (ix3 0 k q)) (lane_eq _ _ _ _ (by omega))

set_option maxHeartbeats 4000000 in
/-- The gates' columns. -/
theorem u12 (c : Dev nD) (k : Fin 1024) (n : Fin 128) : U m c (Proc.devRef .tc main_v35) (ix2 k n) = if h : n.val < 24 then m ((c : Thread nD τ).loc main_arg2) (ix3 0 k ⟨512 + n.val, by omega⟩) else (0 : EReal) := by
  unfold U
  simp only [hostOps0_4, hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  split_ifs with a
  · exact congrFun (arg2_eq m c) _
  · exact zero_int

set_option maxHeartbeats 4000000 in
/-- The operations between leave the augmented group alone. -/
theorem keep_a (W : Valuation τ sig (Elt Ideal)) : StableHlo.after (hostOps0_6.take 10) (StableHlo.after hostOps0_5 W) (Proc.devRef .tc main_v33) = W (Proc.devRef .tc main_v33) := by
  simp only [hostOps0_5, hostOps0_6, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp

set_option maxHeartbeats 4000000 in
/-- The augmented columns. -/
theorem u7 (c : Dev nD) (k : Fin 1024) (h : Fin 4) (d : Fin 64) : U m c (Proc.devRef .tc main_v33) (ix2 k ⟨h.val * 64 + d.val, by omega⟩) = if h.val = 0 then m ((c : Thread nD τ).loc main_arg2) (ix3 0 k ⟨792 + d.val, by omega⟩) else if h.val = 3 then m ((c : Thread nD τ).loc main_arg2) (ix3 0 k ⟨856 + d.val, by omega⟩) else (0 : EReal) := by
  unfold U
  rw [keep_a, two 20 hostOps0_4, augcat_apply, asel]
  simp only [hostOps0_4, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  split_ifs <;> first
    | (exfalso; omega)
    | exact Ideal.ofBits_zero_f32
    | with_reducible rfl
    | (refine (congrFun (arg2_eq m c) _).trans ?_; exact congrArg (fun q => m ((c : Thread nD τ).loc main_arg2) (ix3 0 k q)) (lane_eq _ _ _ _ (by dsimp only; omega)))
    | (refine (congrFun (arg2_eq m c) _).trans ?_; exact congrArg (fun q => m ((c : Thread nD τ).loc main_arg2) (ix3 0 k q)) (lane_eq _ _ _ _ (by omega)))

set_option maxHeartbeats 4000000 in
/-- The weight's paired query columns. -/
theorem wq_apply (c : Dev nD) (k : Fin 1024) (h : Fin 8) (d : Fin 64) : V m c main_v47 (ix2 k ⟨h.val * 64 + d.val, by omega⟩) = m ((c : Thread nD τ).loc main_arg2) (ix3 0 k ⟨(h.val % 2 * 4 + h.val / 2) * 64 + d.val, by omega⟩) := by
  rw [w_eq, wsel]
  rw [dif_pos (show (h.val * 64 + d.val) < 512 by omega)]
  exact u0 m c k h d

set_option maxHeartbeats 4000000 in
/-- A plain group of the weight's columns. -/
theorem w1_apply (c : Dev nD) (k : Fin 1024) (n : Fin 128) : V m c main_v47 (ix2 k ⟨512 + n.val, by omega⟩) = m ((c : Thread nD τ).loc main_arg2) (ix3 0 k (at' 536 n (by omega))) := by
  rw [w_eq, wsel]
  rw [dif_neg (show ¬ (512 + n.val) < 512 by omega), dif_pos (show (512 + n.val) - 512 < 128 by omega)]
  rw [u1]
  exact congrArg (fun q => m ((c : Thread nD τ).loc main_arg2) (ix3 0 k q)) (lane_eq _ _ _ _ (by dsimp only; omega))

set_option maxHeartbeats 4000000 in
/-- A plain group of the weight's columns. -/
theorem w2_apply (c : Dev nD) (k : Fin 1024) (n : Fin 128) : V m c main_v47 (ix2 k ⟨640 + n.val, by omega⟩) = m ((c : Thread nD τ).loc main_arg2) (ix3 0 k (at' 664 n (by omega))) := by
  rw [w_eq, wsel]
  rw [dif_neg (show ¬ (640 + n.val) < 512 by omega), dif_neg (show ¬ (640 + n.val) - 512 < 128 by omega), dif_pos (show (640 + n.val) - 512 - 128 < 128 by omega)]
  rw [u2]
  exact congrArg (fun q => m ((c : Thread nD τ).loc main_arg2) (ix3 0 k q)) (lane_eq _ _ _ _ (by dsimp only; omega))

set_option maxHeartbeats 4000000 in
/-- A plain group of the weight's columns. -/
theorem w3_apply (c : Dev nD) (k : Fin 1024) (n : Fin 128) : V m c main_v47 (ix2 k ⟨768 + n.val, by omega⟩) = m ((c : Thread nD τ).loc main_arg2) (ix3 0 k (at' 792 n (by omega))) := by
  rw [w_eq, wsel]
  rw [dif_neg (show ¬ (768 + n.val) < 512 by omega), dif_neg (show ¬ (768 + n.val) - 512 < 128 by omega), dif_neg (show ¬ (768 + n.val) - 512 - 128 < 128 by omega), dif_pos (show (768 + n.val) - 512 - 128 - 128 < 128 by omega)]
  rw [u3]
  exact congrArg (fun q => m ((c : Thread nD τ).loc main_arg2) (ix3 0 k q)) (lane_eq _ _ _ _ (by dsimp only; omega))

set_option maxHeartbeats 4000000 in
/-- A plain group of the weight's columns. -/
theorem w4_apply (c : Dev nD) (k : Fin 1024) (n : Fin 128) : V m c main_v47 (ix2 k ⟨896 + n.val, by omega⟩) = m ((c : Thread nD τ).loc main_arg2) (ix3 0 k (at' 920 n (by omega))) := by
  rw [w_eq, wsel]
  rw [dif_neg (show ¬ (896 + n.val) < 512 by omega), dif_neg (show ¬ (896 + n.val) - 512 < 128 by omega), dif_neg (show ¬ (896 + n.val) - 512 - 128 < 128 by omega), dif_neg (show ¬ (896 + n.val) - 512 - 128 - 128 < 128 by omega), dif_pos (show (896 + n.val) - 512 - 128 - 128 - 128 < 128 by omega)]
  rw [u4]
  exact congrArg (fun q => m ((c : Thread nD τ).loc main_arg2) (ix3 0 k q)) (lane_eq _ _ _ _ (by dsimp only; omega))

set_option maxHeartbeats 4000000 in
/-- A plain group of the weight's columns. -/
theorem w5_apply (c : Dev nD) (k : Fin 1024) (n : Fin 128) : V m c main_v47 (ix2 k ⟨1024 + n.val, by omega⟩) = m ((c : Thread nD τ).loc main_arg2) (ix3 0 k (at' 1048 n (by omega))) := by
  rw [w_eq, wsel]
  rw [dif_neg (show ¬ (1024 + n.val) < 512 by omega), dif_neg (show ¬ (1024 + n.val) - 512 < 128 by omega), dif_neg (show ¬ (1024 + n.val) - 512 - 128 < 128 by omega), dif_neg (show ¬ (1024 + n.val) - 512 - 128 - 128 < 128 by omega), dif_neg (show ¬ (1024 + n.val) - 512 - 128 - 128 - 128 < 128 by omega), dif_pos (show (1024 + n.val) - 512 - 128 - 128 - 128 - 128 < 128 by omega)]
  rw [u5]
  exact congrArg (fun q => m ((c : Thread nD τ).loc main_arg2) (ix3 0 k q)) (lane_eq _ _ _ _ (by dsimp only; omega))

set_option maxHeartbeats 4000000 in
/-- A plain group of the weight's columns. -/
theorem w6_apply (c : Dev nD) (k : Fin 1024) (n : Fin 128) : V m c main_v47 (ix2 k ⟨1152 + n.val, by omega⟩) = m ((c : Thread nD τ).loc main_arg2) (ix3 0 k (at' 1176 n (by omega))) := by
  rw [w_eq, wsel]
  rw [dif_neg (show ¬ (1152 + n.val) < 512 by omega), dif_neg (show ¬ (1152 + n.val) - 512 < 128 by omega), dif_neg (show ¬ (1152 + n.val) - 512 - 128 < 128 by omega), dif_neg (show ¬ (1152 + n.val) - 512 - 128 - 128 < 128 by omega), dif_neg (show ¬ (1152 + n.val) - 512 - 128 - 128 - 128 < 128 by omega), dif_neg (show ¬ (1152 + n.val) - 512 - 128 - 128 - 128 - 128 < 128 by omega), dif_pos (show (1152 + n.val) - 512 - 128 - 128 - 128 - 128 - 128 < 128 by omega)]
  rw [u6]
  exact congrArg (fun q => m ((c : Thread nD τ).loc main_arg2) (ix3 0 k q)) (lane_eq _ _ _ _ (by dsimp only; omega))

set_option maxHeartbeats 4000000 in
/-- The weight's augmented columns. -/
theorem wa_apply (c : Dev nD) (k : Fin 1024) (h : Fin 4) (d : Fin 64) : V m c main_v47 (ix2 k ⟨1280 + (h.val * 64 + d.val), by omega⟩) = if h.val = 0 then m ((c : Thread nD τ).loc main_arg2) (ix3 0 k ⟨792 + d.val, by omega⟩) else if h.val = 3 then m ((c : Thread nD τ).loc main_arg2) (ix3 0 k ⟨856 + d.val, by omega⟩) else (0 : EReal) := by
  rw [w_eq, wsel]
  rw [dif_neg (show ¬ (1280 + (h.val * 64 + d.val)) < 512 by omega), dif_neg (show ¬ (1280 + (h.val * 64 + d.val)) - 512 < 128 by omega), dif_neg (show ¬ (1280 + (h.val * 64 + d.val)) - 512 - 128 < 128 by omega), dif_neg (show ¬ (1280 + (h.val * 64 + d.val)) - 512 - 128 - 128 < 128 by omega), dif_neg (show ¬ (1280 + (h.val * 64 + d.val)) - 512 - 128 - 128 - 128 < 128 by omega), dif_neg (show ¬ (1280 + (h.val * 64 + d.val)) - 512 - 128 - 128 - 128 - 128 < 128 by omega), dif_neg (show ¬ (1280 + (h.val * 64 + d.val)) - 512 - 128 - 128 - 128 - 128 - 128 < 128 by omega), dif_pos (show (1280 + (h.val * 64 + d.val)) - 512 - 128 - 128 - 128 - 128 - 128 - 128 < 256 by omega)]
  rw [lane_eq ((1280 + (h.val * 64 + d.val)) - 512 - 128 - 128 - 128 - 128 - 128 - 128) (h.val * 64 + d.val) _ _ (by omega)]
  exact u7 m c k h d

set_option maxHeartbeats 4000000 in
/-- The weight's columns for the recurrence. -/
theorem wh_apply (c : Dev nD) (k : Fin 1024) (n : Fin 2048) : V m c main_v47 (ix2 k ⟨1536 + n.val, by omega⟩) = m ((c : Thread nD τ).loc main_arg2) (ix3 0 k (at' 1304 n (by omega))) := by
  obtain a | a | a | a : n.val < 512 ∨ (512 ≤ n.val ∧ n.val < 1024) ∨ (1024 ≤ n.val ∧ n.val < 1536) ∨ 1536 ≤ n.val := by omega
  · rw [w_eq, wsel]
    rw [dif_neg (show ¬ (1536 + n.val) < 512 by omega), dif_neg (show ¬ (1536 + n.val) - 512 < 128 by omega), dif_neg (show ¬ (1536 + n.val) - 512 - 128 < 128 by omega), dif_neg (show ¬ (1536 + n.val) - 512 - 128 - 128 < 128 by omega), dif_neg (show ¬ (1536 + n.val) - 512 - 128 - 128 - 128 < 128 by omega), dif_neg (show ¬ (1536 + n.val) - 512 - 128 - 128 - 128 - 128 < 128 by omega), dif_neg (show ¬ (1536 + n.val) - 512 - 128 - 128 - 128 - 128 - 128 < 128 by omega), dif_neg (show ¬ (1536 + n.val) - 512 - 128 - 128 - 128 - 128 - 128 - 128 < 256 by omega), dif_pos (show (1536 + n.val) - 512 - 128 - 128 - 128 - 128 - 128 - 128 - 256 < 512 by omega)]
    rw [u8]
    exact congrArg (fun q => m ((c : Thread nD τ).loc main_arg2) (ix3 0 k q)) (lane_eq _ _ _ _ (by dsimp only; omega))
  · rw [w_eq, wsel]
    rw [dif_neg (show ¬ (1536 + n.val) < 512 by omega), dif_neg (show ¬ (1536 + n.val) - 512 < 128 by omega), dif_neg (show ¬ (1536 + n.val) - 512 - 128 < 128 by omega), dif_neg (show ¬ (1536 + n.val) - 512 - 128 - 128 < 128 by omega), dif_neg (show ¬ (1536 + n.val) - 512 - 128 - 128 - 128 < 128 by omega), dif_neg (show ¬ (1536 + n.val) - 512 - 128 - 128 - 128 - 128 < 128 by omega), dif_neg (show ¬ (1536 + n.val) - 512 - 128 - 128 - 128 - 128 - 128 < 128 by omega), dif_neg (show ¬ (1536 + n.val) - 512 - 128 - 128 - 128 - 128 - 128 - 128 < 256 by omega), dif_neg (show ¬ (1536 + n.val) - 512 - 128 - 128 - 128 - 128 - 128 - 128 - 256 < 512 by omega), dif_pos (show (1536 + n.val) - 512 - 128 - 128 - 128 - 128 - 128 - 128 - 256 - 512 < 512 by omega)]
    rw [u9]
    exact congrArg (fun q => m ((c : Thread nD τ).loc main_arg2) (ix3 0 k q)) (lane_eq _ _ _ _ (by dsimp only; omega))
  · rw [w_eq, wsel]
    rw [dif_neg (show ¬ (1536 + n.val) < 512 by omega), dif_neg (show ¬ (1536 + n.val) - 512 < 128 by omega), dif_neg (show ¬ (1536 + n.val) - 512 - 128 < 128 by omega), dif_neg (show ¬ (1536 + n.val) - 512 - 128 - 128 < 128 by omega), dif_neg (show ¬ (1536 + n.val) - 512 - 128 - 128 - 128 < 128 by omega), dif_neg (show ¬ (1536 + n.val) - 512 - 128 - 128 - 128 - 128 < 128 by omega), dif_neg (show ¬ (1536 + n.val) - 512 - 128 - 128 - 128 - 128 - 128 < 128 by omega), dif_neg (show ¬ (1536 + n.val) - 512 - 128 - 128 - 128 - 128 - 128 - 128 < 256 by omega), dif_neg (show ¬ (1536 + n.val) - 512 - 128 - 128 - 128 - 128 - 128 - 128 - 256 < 512 by omega), dif_neg (show ¬ (1536 + n.val) - 512 - 128 - 128 - 128 - 128 - 128 - 128 - 256 - 512 < 512 by omega), dif_pos (show (1536 + n.val) - 512 - 128 - 128 - 128 - 128 - 128 - 128 - 256 - 512 - 512 < 512 by omega)]
    rw [u10]
    exact congrArg (fun q => m ((c : Thread nD τ).loc main_arg2) (ix3 0 k q)) (lane_eq _ _ _ _ (by dsimp only; omega))
  · rw [w_eq, wsel]
    rw [dif_neg (show ¬ (1536 + n.val) < 512 by omega), dif_neg (show ¬ (1536 + n.val) - 512 < 128 by omega), dif_neg (show ¬ (1536 + n.val) - 512 - 128 < 128 by omega), dif_neg (show ¬ (1536 + n.val) - 512 - 128 - 128 < 128 by omega), dif_neg (show ¬ (1536 + n.val) - 512 - 128 - 128 - 128 < 128 by omega), dif_neg (show ¬ (1536 + n.val) - 512 - 128 - 128 - 128 - 128 < 128 by omega), dif_neg (show ¬ (1536 + n.val) - 512 - 128 - 128 - 128 - 128 - 128 < 128 by omega), dif_neg (show ¬ (1536 + n.val) - 512 - 128 - 128 - 128 - 128 - 128 - 128 < 256 by omega), dif_neg (show ¬ (1536 + n.val) - 512 - 128 - 128 - 128 - 128 - 128 - 128 - 256 < 512 by omega), dif_neg (show ¬ (1536 + n.val) - 512 - 128 - 128 - 128 - 128 - 128 - 128 - 256 - 512 < 512 by omega), dif_neg (show ¬ (1536 + n.val) - 512 - 128 - 128 - 128 - 128 - 128 - 128 - 256 - 512 - 512 < 512 by omega), dif_pos (show (1536 + n.val) - 512 - 128 - 128 - 128 - 128 - 128 - 128 - 256 - 512 - 512 - 512 < 512 by omega)]
    rw [u11]
    exact congrArg (fun q => m ((c : Thread nD τ).loc main_arg2) (ix3 0 k q)) (lane_eq _ _ _ _ (by dsimp only; omega))

set_option maxHeartbeats 4000000 in
/-- The weight's columns for the gates. -/
theorem wg_apply (c : Dev nD) (k : Fin 1024) (n : Fin 128) : V m c main_v47 (ix2 k ⟨3584 + n.val, by omega⟩) = if h : n.val < 24 then m ((c : Thread nD τ).loc main_arg2) (ix3 0 k ⟨512 + n.val, by omega⟩) else (0 : EReal) := by
  rw [w_eq, wsel]
  rw [dif_neg (show ¬ (3584 + n.val) < 512 by omega), dif_neg (show ¬ (3584 + n.val) - 512 < 128 by omega), dif_neg (show ¬ (3584 + n.val) - 512 - 128 < 128 by omega), dif_neg (show ¬ (3584 + n.val) - 512 - 128 - 128 < 128 by omega), dif_neg (show ¬ (3584 + n.val) - 512 - 128 - 128 - 128 < 128 by omega), dif_neg (show ¬ (3584 + n.val) - 512 - 128 - 128 - 128 - 128 < 128 by omega), dif_neg (show ¬ (3584 + n.val) - 512 - 128 - 128 - 128 - 128 - 128 < 128 by omega), dif_neg (show ¬ (3584 + n.val) - 512 - 128 - 128 - 128 - 128 - 128 - 128 < 256 by omega), dif_neg (show ¬ (3584 + n.val) - 512 - 128 - 128 - 128 - 128 - 128 - 128 - 256 < 512 by omega), dif_neg (show ¬ (3584 + n.val) - 512 - 128 - 128 - 128 - 128 - 128 - 128 - 256 - 512 < 512 by omega), dif_neg (show ¬ (3584 + n.val) - 512 - 128 - 128 - 128 - 128 - 128 - 128 - 256 - 512 - 512 < 512 by omega), dif_neg (show ¬ (3584 + n.val) - 512 - 128 - 128 - 128 - 128 - 128 - 128 - 256 - 512 - 512 - 512 < 512 by omega)]
  rw [lane_eq ((3584 + n.val) - 512 - 128 - 128 - 128 - 128 - 128 - 128 - 256 - 512 - 512 - 512 - 512) n.val _ _ (by omega)]
  exact u12 m c k n

end Cert.ProjIdeal.Value

end
-- ==== Proof.Proj.Table.lean ====
module

public import proofs.«01_k».proof.Proof.Gen.ProjIdeal.Value
public import proofs.«01_k».proof.Proof.Proj.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Value
open Cert.ProjIdeal Cert.ProjIdeal.Gen Cert.ProjRefIdeal.Value Cert.Rope
variable (m : (ℓ : Loc nD τ sig) → Buf (Elt Ideal) ℓ)

/-- A column of the gathered table is the column of the source that the index list names. -/
theorem gat_apply (x : S4096x8.Idx → EReal) (idx : IVec S128x1 32) (t : Fin 4096) (n : Fin 128) (k : Fin 8) (hk : idx (ix2 n 0) = BitVec.ofNat 32 k.val) :
    Host.gather gather_S4096x8_S128x1_S4096x128_0_1_n_n_1_1_40961 x idx (ix2 t n) = x (ix2 t k) := by
  unfold Host.gather
  refine congrArg x (funext fun a => Fin.ext ?_)
  show (gather_S4096x8_S128x1_S4096x128_0_1_n_n_1_1_40961).start (ix2 t n) idx a + (gather_S4096x8_S128x1_S4096x128_0_1_n_n_1_1_40961).batchCoord (ix2 t n) a + (gather_S4096x8_S128x1_S4096x128_0_1_n_n_1_1_40961).offCoord (ix2 t n) a = _
  obtain rfl | rfl : a = (0 : Fin 2) ∨ a = (1 : Fin 2) := by
    match a with
    | ⟨0, _⟩ => exact Or.inl rfl
    | ⟨1, _⟩ => exact Or.inr rfl
  · rw [GatherDims.batchCoord_eq_zero _ _ _ List.not_mem_nil]
    unfold GatherDims.start
    rw [dif_neg (show (0 : Fin 2) ∉ (gather_S4096x8_S128x1_S4096x128_0_1_n_n_1_1_40961).startIndexMap by decide)]
    simp only [Nat.zero_add]
    rfl
  · rw [GatherDims.batchCoord_eq_zero _ _ _ List.not_mem_nil, GatherDims.offCoord_eq_zero _ _ _ (by decide)]
    simp only [Nat.add_zero]
    unfold GatherDims.start
    have e : ∀ q, (gather_S4096x8_S128x1_S4096x128_0_1_n_n_1_1_40961).siIdx (ix2 t n) q = ix2 n (0 : Fin 1) := fun q => by
      funext b
      match b with
      | ⟨0, _⟩ => rfl
      | ⟨1, _⟩ => exact @Subsingleton.elim (Fin 1) _ _ _
    rw [dif_pos (show (1 : Fin 2) ∈ (gather_S4096x8_S128x1_S4096x128_0_1_n_n_1_1_40961).startIndexMap by decide), e, hk]
    show min (BitVec.ofNat 32 k.val).toInt.toNat 7 = k.val
    exact (by decide : ∀ k : Fin 8, min (BitVec.ofNat 32 k.val).toInt.toNat 7 = k.val) k

/-- A choice by a decided bit. -/
theorem sel_if (p : Prop) [Decidable p] (a b : EReal) : Scalar.select (if p then 1#1 else 0#1) a b = if p then a else b := by
  split <;> rfl

/-- The lanes' frequency numbers. -/
theorem lit0_eq : ∀ n : Fin 128, lit0 (S128.rowMajor (ix1 n)) = BitVec.ofNat 32 (n.val % 8) := by decide +kernel
/-- The lanes the cosines fill. -/
theorem lit1_eq : ∀ n : Fin 128, lit1 (S128.rowMajor (ix1 n)) = if n.val % 64 < 16 then 1#1 else 0#1 := by decide +kernel
/-- The lanes the negated sines fill. -/
theorem lit2_eq : ∀ n : Fin 128, lit2 (S128.rowMajor (ix1 n)) = if n.val % 64 < 8 then 1#1 else 0#1 := by decide +kernel
/-- The lanes the sines fill. -/
theorem lit3_eq : ∀ n : Fin 128, lit3 (S128.rowMajor (ix1 n)) = if 8 ≤ n.val % 64 ∧ n.val % 64 < 16 then 1#1 else 0#1 := by decide +kernel

set_option maxHeartbeats 4000000 in
/-- A rotary table at the region's entry. -/
theorem tc_apply (c : Dev nD) (t : Fin 4096) (h : Fin 2) (d : Fin 64) : V m c main_v68 (ix2 t (hc (W := 128) 2 rfl h d)) = tC (fun j => Ideal.cos (ANG (ix2 ⟨t.val % 4096, by omega⟩ j))) d := by
  delta Gen.V
  simp only [List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, StableHlo.TRef.nullary, StableHlo.TRef.unary, StableHlo.TRef.binary, StableHlo.TRef.ternary, StableHlo.TRef.toBuf, StableHlo.TRef.ofBuf, cast_eq]
  after_results_simp
  after_results_loop
  pointwise [hc]
  rw [lit1_eq, gat_apply _ _ t _ ⟨d.val % 8, by omega⟩ (by pointwise; exact (lit0_eq ⟨h.val * 64 + d.val, by omega⟩).trans (congrArg (BitVec.ofNat 32) (by dsimp only; omega))), sel_if]
  have hd : (h.val * 64 + d.val) % 64 = d.val := by omega
  simp only [hd]
  unfold tC
  by_cases e : d.val < 16
  · rw [if_pos e, if_pos e]
    pointwise [ANG, POS]
    rw [Nat.mod_eq_of_lt t.isLt]
  · rw [if_neg e, if_neg e]
    exact Ideal.ofBits_one_f32

set_option maxHeartbeats 4000000 in
/-- A rotary table at the region's entry. -/
theorem ta_apply (c : Dev nD) (t : Fin 4096) (h : Fin 2) (d : Fin 64) : V m c main_v75 (ix2 t (hc (W := 128) 2 rfl h d)) = tA (fun j => Ideal.sin (ANG (ix2 ⟨t.val % 4096, by omega⟩ j))) d := by
  delta Gen.V
  simp only [List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, StableHlo.TRef.nullary, StableHlo.TRef.unary, StableHlo.TRef.binary, StableHlo.TRef.ternary, StableHlo.TRef.toBuf, StableHlo.TRef.ofBuf, cast_eq]
  after_results_simp
  after_results_loop
  pointwise [hc]
  rw [lit2_eq, gat_apply _ _ t _ ⟨d.val % 8, by omega⟩ (by pointwise; exact (lit0_eq ⟨h.val * 64 + d.val, by omega⟩).trans (congrArg (BitVec.ofNat 32) (by dsimp only; omega))), sel_if]
  have hd : (h.val * 64 + d.val) % 64 = d.val := by omega
  simp only [hd]
  unfold tA
  by_cases e : d.val < 8
  · rw [if_pos e, if_pos e]
    pointwise [ANG, POS]
    rw [Nat.mod_eq_of_lt t.isLt]
  · rw [if_neg e, if_neg e]
    exact Ideal.ofBits_zero_f32

set_option maxHeartbeats 4000000 in
/-- A rotary table at the region's entry. -/
theorem tb_apply (c : Dev nD) (t : Fin 4096) (h : Fin 2) (d : Fin 64) : V m c main_v81 (ix2 t (hc (W := 128) 2 rfl h d)) = tB (fun j => Ideal.sin (ANG (ix2 ⟨t.val % 4096, by omega⟩ j))) d := by
  delta Gen.V
  simp only [List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, StableHlo.TRef.nullary, StableHlo.TRef.unary, StableHlo.TRef.binary, StableHlo.TRef.ternary, StableHlo.TRef.toBuf, StableHlo.TRef.ofBuf, cast_eq]
  after_results_simp
  after_results_loop
  pointwise [hc]
  rw [lit3_eq, gat_apply _ _ t _ ⟨d.val % 8, by omega⟩ (by pointwise; exact (lit0_eq ⟨h.val * 64 + d.val, by omega⟩).trans (congrArg (BitVec.ofNat 32) (by dsimp only; omega))), sel_if]
  have hd : (h.val * 64 + d.val) % 64 = d.val := by omega
  simp only [hd]
  unfold tB
  by_cases e : 8 ≤ d.val ∧ d.val < 16
  · rw [if_pos e, if_pos e]
    pointwise [ANG, POS]
    rw [Nat.mod_eq_of_lt t.isLt]
  · rw [if_neg e, if_neg e]
    exact Ideal.ofBits_zero_f32

end Cert.ProjIdeal.Value

end
-- ==== Proof.Proj.Pay.lean ====
module

public import proofs.«01_k».proof.Proof.Gen.ProjIdeal.Value
public import proofs.«01_k».proof.Proof.Proj.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Value
open Cert.ProjIdeal Cert.ProjIdeal.Gen Cert.ProjRefIdeal.Value Cert.Rope

/-- The queries' scale is one eighth. -/
theorem scale_eq  : Ideal.ofBits .f32 0x3E000000#32 = ((1 / 8 : ℝ) : EReal) := by
  simp [Ideal.ofBits, Ideal.ieee, -EReal.coe_mul]; norm_num

/-- The scale is at least zero. -/
theorem scale_nonneg  : 0 ≤ Ideal.ofBits .f32 0x3E000000#32 := by
  rw [scale_eq]; exact_mod_cast (by norm_num : (0 : ℝ) ≤ 1 / 8)

/-- The scale is finite. -/
theorem scale_top  : Ideal.ofBits .f32 0x3E000000#32 ≠ ⊤ := by
  rw [scale_eq]; exact EReal.coe_ne_top _

/-- The normalized block at an index. -/
theorem pay4_apply (x g i k) : k0_pay4 (F := Ideal) x g (ix2 i k) = x (ix2 i k) * Ideal.rsqrt (Ideal.div (∑ k, x (ix2 i k) * x (ix2 i k)) (Ideal.ofBits .f32 0x44800000#32) + Ideal.ofBits .f32 0x358637BD#32) * g (ix2 0 k) := by
  pointwise [k0_pay4]

/-- The normalized block, read through the loads. -/
theorem x23 (x0 x1 x2 x3 x4 x5 x6 i k) : k0_pay23 (F := Ideal) x0 x1 x2 x3 x4 x5 x6 (ix2 i k) = k0_pay4 (F := Ideal) x0 x1 (ix2 i k) := by
  pointwise [k0_pay23, k0_pay4]

/-- A table's block, read through the load. -/
theorem x24 (x0 x1 x2 x3 x4 x5 x6 i k) : k0_pay24 (F := Ideal) x0 x1 x2 x3 x4 x5 x6 (ix2 i k) = x3 (ix2 i k) := by
  pointwise [k0_pay24, k0_pay5]

/-- A table's block, read through the load. -/
theorem x25 (x0 x1 x2 x3 x4 x5 x6 i k) : k0_pay25 (F := Ideal) x0 x1 x2 x3 x4 x5 x6 (ix2 i k) = x4 (ix2 i k) := by
  pointwise [k0_pay25, k0_pay6]

/-- A table's block, read through the load. -/
theorem x26 (x0 x1 x2 x3 x4 x5 x6 i k) : k0_pay26 (F := Ideal) x0 x1 x2 x3 x4 x5 x6 (ix2 i k) = x5 (ix2 i k) := by
  pointwise [k0_pay26, k0_pay7]

/-- A group of the weight's columns, loaded. -/
theorem ld3 (w : Vec Ideal S1024x3712 .bf16) (k : Fin 1024) (n : Fin 512) : View.ld w r0_3 (ix2 k n) = w (ix2 k ⟨n.val, by omega⟩) := by
  pointwise

/-- A group of the weight's columns, loaded. -/
theorem ld5 (w : Vec Ideal S1024x3712 .bf16) (k : Fin 1024) (n : Fin 128) : View.ld w r0_5 (ix2 k n) = w (ix2 k ⟨512 + n.val, by omega⟩) := by
  pointwise

/-- A group of the weight's columns, loaded. -/
theorem ld6 (w : Vec Ideal S1024x3712 .bf16) (k : Fin 1024) (n : Fin 128) : View.ld w r0_6 (ix2 k n) = w (ix2 k ⟨640 + n.val, by omega⟩) := by
  pointwise

/-- A group of the weight's columns, loaded. -/
theorem ld7 (w : Vec Ideal S1024x3712 .bf16) (k : Fin 1024) (n : Fin 128) : View.ld w r0_7 (ix2 k n) = w (ix2 k ⟨768 + n.val, by omega⟩) := by
  pointwise

/-- A group of the weight's columns, loaded. -/
theorem ld8 (w : Vec Ideal S1024x3712 .bf16) (k : Fin 1024) (n : Fin 128) : View.ld w r0_8 (ix2 k n) = w (ix2 k ⟨896 + n.val, by omega⟩) := by
  pointwise

/-- A group of the weight's columns, loaded. -/
theorem ld9 (w : Vec Ideal S1024x3712 .bf16) (k : Fin 1024) (n : Fin 128) : View.ld w r0_9 (ix2 k n) = w (ix2 k ⟨1024 + n.val, by omega⟩) := by
  pointwise

/-- A group of the weight's columns, loaded. -/
theorem ld10 (w : Vec Ideal S1024x3712 .bf16) (k : Fin 1024) (n : Fin 128) : View.ld w r0_10 (ix2 k n) = w (ix2 k ⟨1152 + n.val, by omega⟩) := by
  pointwise

/-- A group of the weight's columns, loaded. -/
theorem ld11 (w : Vec Ideal S1024x3712 .bf16) (k : Fin 1024) (n : Fin 256) : View.ld w r0_11 (ix2 k n) = w (ix2 k ⟨1280 + n.val, by omega⟩) := by
  pointwise

/-- A group of the weight's columns, loaded. -/
theorem ld13 (w : Vec Ideal S1024x3712 .bf16) (k : Fin 1024) (n : Fin 2048) : View.ld w r0_13 (ix2 k n) = w (ix2 k ⟨1536 + n.val, by omega⟩) := by
  pointwise

/-- A group of the weight's columns, loaded. -/
theorem ld15 (w : Vec Ideal S1024x3712 .bf16) (k : Fin 1024) (n : Fin 128) : View.ld w r0_15 (ix2 k n) = w (ix2 k ⟨3584 + n.val, by omega⟩) := by
  pointwise

/-- A plain product's block at an index. -/
theorem pay13_apply (x w i n) : k0_pay13 (F := Ideal) x w (ix2 i n) = ∑ k, x (ix2 i k) * w (ix2 k n) := by
  pointwise [k0_pay13]

/-- A plain product's block at an index. -/
theorem pay14_apply (x w i n) : k0_pay14 (F := Ideal) x w (ix2 i n) = ∑ k, x (ix2 i k) * w (ix2 k n) := by
  pointwise [k0_pay14]

/-- A plain product's block at an index. -/
theorem pay16_apply (x w i n) : k0_pay16 (F := Ideal) x w (ix2 i n) = ∑ k, x (ix2 i k) * w (ix2 k n) := by
  pointwise [k0_pay16]

/-- A plain product's block at an index. -/
theorem pay17_apply (x w i n) : k0_pay17 (F := Ideal) x w (ix2 i n) = ∑ k, x (ix2 i k) * w (ix2 k n) := by
  pointwise [k0_pay17, k0_pay16]

/-- A plain product's block at an index. -/
theorem pay20_apply (x w i n) : k0_pay20 (F := Ideal) x w (ix2 i n) = ∑ k, x (ix2 i k) * w (ix2 k n) := by
  pointwise [k0_pay20]

/-- A plain product's block at an index. -/
theorem pay21_apply (x w i n) : k0_pay21 (F := Ideal) x w (ix2 i n) = ∑ k, x (ix2 i k) * w (ix2 k n) := by
  pointwise [k0_pay21, k0_pay20]

/-- A plain product's block at an index. -/
theorem pay2_apply (x w i n) : k0_pay2 (F := Ideal) x w (ix2 i n) = ∑ k, x (ix2 i k) * w (ix2 k n) := by
  pointwise [k0_pay2]

/-- A plain product's block at an index. -/
theorem pay3_apply (x w i n) : k0_pay3 (F := Ideal) x w (ix2 i n) = ∑ k, x (ix2 i k) * w (ix2 k n) := by
  pointwise [k0_pay3]

/-- The scaled queries' block at an index. -/
theorem pay8_apply (x g w i n) : k0_pay8 (F := Ideal) x g w (ix2 i n) = (∑ k, k0_pay4 (F := Ideal) x g (ix2 i k) * w (ix2 k n)) * Ideal.ofBits .f32 0x3E000000#32 := by
  pointwise [k0_pay8]

/-- The scaled queries' block at an index. -/
theorem pay9_apply (x g w i n) : k0_pay9 (F := Ideal) x g w (ix2 i n) = (∑ k, k0_pay4 (F := Ideal) x g (ix2 i k) * w (ix2 k n)) * Ideal.ofBits .f32 0x3E000000#32 := by
  pointwise [k0_pay9, k0_pay8]

/-- Four copies of 128 lanes side by side: lane `d` of head `h` is lane `d` of the head of the same parity. -/
theorem tile8 (f : Fin 128 → EReal) (h : Fin 8) (d : Fin 64) :
    (if h0 : h.val * 64 + d.val < 128 then f ⟨h.val * 64 + d.val, h0⟩
     else if h1 : h.val * 64 + d.val - 128 < 128 then f ⟨h.val * 64 + d.val - 128, h1⟩
     else if h2 : h.val * 64 + d.val - 128 - 128 < 128 then f ⟨h.val * 64 + d.val - 128 - 128, h2⟩
     else f ⟨h.val * 64 + d.val - 128 - 128 - 128, by omega⟩) = f (hc (W := 128) 2 rfl ⟨h.val % 2, by omega⟩ d) := by
  unfold hc
  split_ifs <;> exact congrArg f (lane_eq _ _ _ _ (by dsimp only; omega))

/-- Two copies of 128 lanes side by side. -/
theorem tile4 (f : Fin 128 → EReal) (h : Fin 4) (d : Fin 64) :
    (if h0 : h.val * 64 + d.val < 128 then f ⟨h.val * 64 + d.val, h0⟩
     else f ⟨h.val * 64 + d.val - 128, by omega⟩) = f (hc (W := 128) 2 rfl ⟨h.val % 2, by omega⟩ d) := by
  unfold hc
  split_ifs <;> exact congrArg f (lane_eq _ _ _ _ (by dsimp only; omega))

/-- The third table repeated for the query heads. -/
theorem pay10_apply (q i) (h : Fin 8) (d : Fin 64) : k0_pay10 (F := Ideal) q (ix2 i (hc (W := 512) 8 rfl h d)) = q (ix2 i (hc (W := 128) 2 rfl ⟨h.val % 2, by omega⟩ d)) := by
  pointwise [k0_pay10, k0_pay7, hc]
  exact tile8 (fun n => q (ix2 i n)) h d

/-- The first two terms of the rotated queries. -/
theorem pay11_apply (x g a b w i) (h : Fin 8) (d : Fin 64) : k0_pay11 (F := Ideal) x g a b w (ix2 i (hc (W := 512) 8 rfl h d)) = k0_pay8 (F := Ideal) x g w (ix2 i (hc (W := 512) 8 rfl h d)) * a (ix2 i (hc (W := 128) 2 rfl ⟨h.val % 2, by omega⟩ d)) + k0_pay8 (F := Ideal) x g w (ix2 i ⟨(h.val * 64 + d.val + 512 - 504) % 512, by omega⟩) * b (ix2 i (hc (W := 128) 2 rfl ⟨h.val % 2, by omega⟩ d)) := by
  pointwise [k0_pay11, k0_pay5, k0_pay6, hc]
  exact congrArg₂ (· + ·) (congrArg₂ (· * ·) rfl (tile8 (fun n => a (ix2 i n)) h d)) (congrArg₂ (· * ·) rfl (tile8 (fun n => b (ix2 i n)) h d))

/-- The rotated queries from their first two terms. -/
theorem pay12_raw (q x p i) (h : Fin 8) (d : Fin 64) : k0_pay12 (F := Ideal) q x p 8#32 (ix2 i (hc (W := 512) 8 rfl h d)) = p (ix2 i (hc (W := 512) 8 rfl h d)) + q (ix2 i ⟨(h.val * 64 + d.val + 512 - 8) % 512, by omega⟩) * x (ix2 i (hc (W := 512) 8 rfl h d)) := by
  pointwise [k0_pay12, hc]

/-- The rotated queries at a lane of a head. -/
theorem pay12_apply (x g c a b w i) (h : Fin 8) (d : Fin 64) (cs sn : Fin 8 → EReal)
    (hC : c (ix2 i (hc (W := 128) 2 rfl ⟨h.val % 2, by omega⟩ d)) = tC cs d) (hA : a (ix2 i (hc (W := 128) 2 rfl ⟨h.val % 2, by omega⟩ d)) = tA sn d) (hB : b (ix2 i (hc (W := 128) 2 rfl ⟨h.val % 2, by omega⟩ d)) = tB sn d) : k0_pay12 (F := Ideal) (k0_pay8 (F := Ideal) x g w) (k0_pay10 (F := Ideal) b) (k0_pay11 (F := Ideal) x g c a w) 8#32 (ix2 i (hc (W := 512) 8 rfl h d))
    = rp (fun e => (∑ k, k0_pay4 (F := Ideal) x g (ix2 i k) * w (ix2 k (hc (W := 512) 8 rfl h e))) * Ideal.ofBits .f32 0x3E000000#32) cs sn d := by
  rw [pay12_raw, pay11_apply, pay10_apply, hC, hA, hB]
  have e := tables (fun e => k0_pay8 (F := Ideal) x g w (ix2 i (hc (W := 512) 8 rfl h e))) cs sn d
    (k0_pay8 (F := Ideal) x g w (ix2 i ⟨(h.val * 64 + d.val + 512 - 504) % 512, by omega⟩))
    (k0_pay8 (F := Ideal) x g w (ix2 i ⟨(h.val * 64 + d.val + 512 - 8) % 512, by omega⟩))
    (fun q => congrArg (fun n => k0_pay8 (F := Ideal) x g w (ix2 i n)) (lane_eq _ _ _ _ (by dsimp only; omega)))
    (fun q => congrArg (fun n => k0_pay8 (F := Ideal) x g w (ix2 i n)) (lane_eq _ _ _ _ (by dsimp only; omega)))
  refine e.trans (congrArg (fun y => rp y cs sn d) (funext fun e => pay8_apply x g w i _))

/-- The three terms of rotated keys. -/
theorem pay15_raw (x c a b w i) (h : Fin 2) (d : Fin 64) : k0_pay15 (F := Ideal) x c a b w (ix2 i (hc (W := 128) 2 rfl h d))
    = (∑ k, x (ix2 i k) * w (ix2 k (hc (W := 128) 2 rfl h d))) * c (ix2 i (hc (W := 128) 2 rfl h d)) + (∑ k, x (ix2 i k) * w (ix2 k ⟨(h.val * 64 + d.val + 128 - 120) % 128, by omega⟩)) * a (ix2 i (hc (W := 128) 2 rfl h d)) + (∑ k, x (ix2 i k) * w (ix2 k ⟨(h.val * 64 + d.val + 128 - 8) % 128, by omega⟩)) * b (ix2 i (hc (W := 128) 2 rfl h d)) := by
  pointwise [k0_pay15, hc]

/-- Rotated keys at a lane of a head. -/
theorem pay15_apply (x c a b w i) (h : Fin 2) (d : Fin 64) (cs sn : Fin 8 → EReal)
    (hC : c (ix2 i (hc (W := 128) 2 rfl h d)) = tC cs d) (hA : a (ix2 i (hc (W := 128) 2 rfl h d)) = tA sn d) (hB : b (ix2 i (hc (W := 128) 2 rfl h d)) = tB sn d) : k0_pay15 (F := Ideal) x c a b w (ix2 i (hc (W := 128) 2 rfl h d))
    = rp (fun e => ∑ k, x (ix2 i k) * w (ix2 k (hc (W := 128) 2 rfl h e))) cs sn d := by
  rw [pay15_raw, hC, hA, hB]
  exact tables (fun e => ∑ k, x (ix2 i k) * w (ix2 k (hc (W := 128) 2 rfl h e))) cs sn d _ _
    (fun q => congrArg (fun n : Fin 128 => ∑ k, x (ix2 i k) * w (ix2 k n)) (lane_eq _ _ _ _ (by dsimp only; omega)))
    (fun q => congrArg (fun n : Fin 128 => ∑ k, x (ix2 i k) * w (ix2 k n)) (lane_eq _ _ _ _ (by dsimp only; omega)))

/-- The three terms of rotated keys. -/
theorem pay18_raw (x c a b w i) (h : Fin 2) (d : Fin 64) : k0_pay18 (F := Ideal) x c a b w (ix2 i (hc (W := 128) 2 rfl h d))
    = (∑ k, x (ix2 i k) * w (ix2 k (hc (W := 128) 2 rfl h d))) * c (ix2 i (hc (W := 128) 2 rfl h d)) + (∑ k, x (ix2 i k) * w (ix2 k ⟨(h.val * 64 + d.val + 128 - 120) % 128, by omega⟩)) * a (ix2 i (hc (W := 128) 2 rfl h d)) + (∑ k, x (ix2 i k) * w (ix2 k ⟨(h.val * 64 + d.val + 128 - 8) % 128, by omega⟩)) * b (ix2 i (hc (W := 128) 2 rfl h d)) := by
  pointwise [k0_pay18, hc]

/-- Rotated keys at a lane of a head. -/
theorem pay18_apply (x c a b w i) (h : Fin 2) (d : Fin 64) (cs sn : Fin 8 → EReal)
    (hC : c (ix2 i (hc (W := 128) 2 rfl h d)) = tC cs d) (hA : a (ix2 i (hc (W := 128) 2 rfl h d)) = tA sn d) (hB : b (ix2 i (hc (W := 128) 2 rfl h d)) = tB sn d) : k0_pay18 (F := Ideal) x c a b w (ix2 i (hc (W := 128) 2 rfl h d))
    = rp (fun e => ∑ k, x (ix2 i k) * w (ix2 k (hc (W := 128) 2 rfl h e))) cs sn d := by
  rw [pay18_raw, hC, hA, hB]
  exact tables (fun e => ∑ k, x (ix2 i k) * w (ix2 k (hc (W := 128) 2 rfl h e))) cs sn d _ _
    (fun q => congrArg (fun n : Fin 128 => ∑ k, x (ix2 i k) * w (ix2 k n)) (lane_eq _ _ _ _ (by dsimp only; omega)))
    (fun q => congrArg (fun n : Fin 128 => ∑ k, x (ix2 i k) * w (ix2 k n)) (lane_eq _ _ _ _ (by dsimp only; omega)))

/-- The three terms of rotated keys. -/
theorem pay19_raw (x c a b w i) (h : Fin 2) (d : Fin 64) : k0_pay19 (F := Ideal) x c a b w (ix2 i (hc (W := 128) 2 rfl h d))
    = (∑ k, x (ix2 i k) * w (ix2 k (hc (W := 128) 2 rfl h d))) * c (ix2 i (hc (W := 128) 2 rfl h d)) + (∑ k, x (ix2 i k) * w (ix2 k ⟨(h.val * 64 + d.val + 128 - 120) % 128, by omega⟩)) * a (ix2 i (hc (W := 128) 2 rfl h d)) + (∑ k, x (ix2 i k) * w (ix2 k ⟨(h.val * 64 + d.val + 128 - 8) % 128, by omega⟩)) * b (ix2 i (hc (W := 128) 2 rfl h d)) := by
  pointwise [k0_pay19, k0_pay18, hc]

/-- Rotated keys at a lane of a head. -/
theorem pay19_apply (x c a b w i) (h : Fin 2) (d : Fin 64) (cs sn : Fin 8 → EReal)
    (hC : c (ix2 i (hc (W := 128) 2 rfl h d)) = tC cs d) (hA : a (ix2 i (hc (W := 128) 2 rfl h d)) = tA sn d) (hB : b (ix2 i (hc (W := 128) 2 rfl h d)) = tB sn d) : k0_pay19 (F := Ideal) x c a b w (ix2 i (hc (W := 128) 2 rfl h d))
    = rp (fun e => ∑ k, x (ix2 i k) * w (ix2 k (hc (W := 128) 2 rfl h e))) cs sn d := by
  rw [pay19_raw, hC, hA, hB]
  exact tables (fun e => ∑ k, x (ix2 i k) * w (ix2 k (hc (W := 128) 2 rfl h e))) cs sn d _ _
    (fun q => congrArg (fun n : Fin 128 => ∑ k, x (ix2 i k) * w (ix2 k n)) (lane_eq _ _ _ _ (by dsimp only; omega)))
    (fun q => congrArg (fun n : Fin 128 => ∑ k, x (ix2 i k) * w (ix2 k n)) (lane_eq _ _ _ _ (by dsimp only; omega)))

/-- The three terms of rotated keys. -/
theorem pay22_raw (x c a b w i) (h : Fin 4) (d : Fin 64) : k0_pay22 (F := Ideal) x c a b w (ix2 i (hc (W := 256) 4 rfl h d))
    = (∑ k, x (ix2 i k) * w (ix2 k (hc (W := 256) 4 rfl h d))) * c (ix2 i (hc (W := 128) 2 rfl ⟨h.val % 2, by omega⟩ d)) + (∑ k, x (ix2 i k) * w (ix2 k ⟨(h.val * 64 + d.val + 256 - 248) % 256, by omega⟩)) * a (ix2 i (hc (W := 128) 2 rfl ⟨h.val % 2, by omega⟩ d)) + (∑ k, x (ix2 i k) * w (ix2 k ⟨(h.val * 64 + d.val + 256 - 8) % 256, by omega⟩)) * b (ix2 i (hc (W := 128) 2 rfl ⟨h.val % 2, by omega⟩ d)) := by
  pointwise [k0_pay22, hc]
  exact congrArg₂ (· + ·) (congrArg₂ (· + ·) (congrArg₂ (· * ·) rfl (tile4 (fun n => c (ix2 i n)) h d)) (congrArg₂ (· * ·) rfl (tile4 (fun n => a (ix2 i n)) h d))) (congrArg₂ (· * ·) rfl (tile4 (fun n => b (ix2 i n)) h d))

/-- Rotated keys at a lane of a head. -/
theorem pay22_apply (x c a b w i) (h : Fin 4) (d : Fin 64) (cs sn : Fin 8 → EReal)
    (hC : c (ix2 i (hc (W := 128) 2 rfl ⟨h.val % 2, by omega⟩ d)) = tC cs d) (hA : a (ix2 i (hc (W := 128) 2 rfl ⟨h.val % 2, by omega⟩ d)) = tA sn d) (hB : b (ix2 i (hc (W := 128) 2 rfl ⟨h.val % 2, by omega⟩ d)) = tB sn d) : k0_pay22 (F := Ideal) x c a b w (ix2 i (hc (W := 256) 4 rfl h d))
    = rp (fun e => ∑ k, x (ix2 i k) * w (ix2 k (hc (W := 256) 4 rfl h e))) cs sn d := by
  rw [pay22_raw, hC, hA, hB]
  exact tables (fun e => ∑ k, x (ix2 i k) * w (ix2 k (hc (W := 256) 4 rfl h e))) cs sn d _ _
    (fun q => congrArg (fun n : Fin 256 => ∑ k, x (ix2 i k) * w (ix2 k n)) (lane_eq _ _ _ _ (by dsimp only; omega)))
    (fun q => congrArg (fun n : Fin 256 => ∑ k, x (ix2 i k) * w (ix2 k n)) (lane_eq _ _ _ _ (by dsimp only; omega)))

/-- The keys beside the block rows at an index. -/
theorem pay1_apply (y z i n) : k0_pay1 (F := Ideal) y z (ix2 i n) = y (ix2 i n) + z (ix2 i n) := by
  pointwise [k0_pay1]

end Cert.ProjIdeal.Value

end
-- ==== Proof.Proj.Hot.lean ====
module

public import proofs.«01_k».proof.Proof.Gen.ProjIdeal.Value
public import proofs.«01_k».proof.Proof.Proj.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Value
open Cert.ProjIdeal Cert.ProjIdeal.Gen Cert.ProjRefIdeal.Value Cert.Rope
variable (m : (ℓ : Loc nD τ sig) → Buf (Elt Ideal) ℓ)

/-- The number of the block that position `64 a + b` lies in. -/
theorem quo_eq : ∀ a b : Fin 64, (Scalar.select
            (IntOp.andi
              (IntOp.cmpi CmpIPredicate.ne
                ((if BitVec.ofNat 32 (a.val * 64 + b.val) = 0 then 0 else if (BitVec.ofNat 32 (a.val * 64 + b.val)).msb = true then -1 else 1) : BitVec 32)
                (if (64#32) = 0 then 0
                else if BitVec.msb (64#32) = true then -1 else 1))
              (IntOp.cmpi CmpIPredicate.ne
                (IntOp.remsi ArithUnit.host (BitVec.ofNat 32 (a.val * 64 + b.val)) (64#32)) 0#32))
            (IntOp.subi (IntOp.divsi ArithUnit.host (BitVec.ofNat 32 (a.val * 64 + b.val)) (64#32)) 1#32)
            (IntOp.divsi ArithUnit.host (BitVec.ofNat 32 (a.val * 64 + b.val)) (64#32))) = BitVec.ofNat 32 (a.val) := by decide +kernel

/-- A lane's number within its head, as the remainder rounded towards minus infinity. -/
theorem rem_eq : ∀ n : Fin 256, (Scalar.select
            (IntOp.andi
              (IntOp.cmpi CmpIPredicate.ne
                (IntOp.cmpi CmpIPredicate.slt
                  (IntOp.remsi ArithUnit.host (IntOp.subi (BitVec.ofNat 32 n.val) 64#32)
                    (Scalar.select (IntOp.cmpi CmpIPredicate.eq (64#32) 0#32) (1#32)
                      (64#32)))
                  0#32)
                (IntOp.cmpi CmpIPredicate.slt
                  (Scalar.select (IntOp.cmpi CmpIPredicate.eq (64#32) 0#32) (1#32)
                    (64#32))
                  0#32))
              (IntOp.cmpi CmpIPredicate.ne
                (IntOp.remsi ArithUnit.host (IntOp.subi (BitVec.ofNat 32 n.val) 64#32)
                  (Scalar.select (IntOp.cmpi CmpIPredicate.eq (64#32) 0#32) (1#32)
                    (64#32)))
                0#32))
            (IntOp.addi
              (IntOp.remsi ArithUnit.host (IntOp.subi (BitVec.ofNat 32 n.val) 64#32)
                (Scalar.select (IntOp.cmpi CmpIPredicate.eq (64#32) 0#32) (1#32)
                  (64#32)))
              (Scalar.select (IntOp.cmpi CmpIPredicate.eq (64#32) 0#32) (1#32)
                (64#32)))
            (IntOp.remsi ArithUnit.host (IntOp.subi (BitVec.ofNat 32 n.val) 64#32)
              (Scalar.select (IntOp.cmpi CmpIPredicate.eq (64#32) 0#32) (1#32)
                (64#32)))) = BitVec.ofNat 32 (n.val % 64) := by decide +kernel

/-- The two middle heads of four. -/
theorem mid_eq : ∀ n : Fin 256, IntOp.andi (IntOp.cmpi CmpIPredicate.sge (BitVec.ofNat 32 n.val) 64#32) (IntOp.cmpi CmpIPredicate.slt (BitVec.ofNat 32 n.val) 192#32)
    = if 64 ≤ n.val ∧ n.val < 192 then 1#1 else 0#1 := by decide +kernel

/-- A bit masked off is zero. -/
theorem off (b : BitVec 1) : (FloatOps.uitofp FTy.f32 (IntOp.andi 0#1 b) : Ideal .f32) = (0 : EReal) := by
  rw [(by revert b; decide : IntOp.andi 0#1 b = 0#1)]
  simp [FloatOps.uitofp]

/-- A bit masked on is kept. -/
theorem kept : ∀ b : BitVec 1, IntOp.andi 1#1 b = b := by decide

/-- Equality of two words does not depend on the order they are named in. -/
theorem eq_comm_bit (a b : BitVec 32) : IntOp.cmpi CmpIPredicate.eq a b = IntOp.cmpi CmpIPredicate.eq b a := by
  exact congrArg BitVec.ofBool (Bool.beq_comm)

set_option maxHeartbeats 4000000 in
/-- The block rows at the region's entry. -/
theorem oh_apply (c : Dev nD) (t : Fin 4096) (h : Fin 4) (d : Fin 64) : V m c main_v20 (ix2 t (hc (W := 256) 4 rfl h d)) = if h.val = 0 then 0 else if h.val = 3 then 0 else HOT (ix2 ⟨t.val % 4096, by omega⟩ d) := by
  delta Gen.V
  simp only [List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, StableHlo.TRef.nullary, StableHlo.TRef.unary, StableHlo.TRef.binary, StableHlo.TRef.ternary, StableHlo.TRef.toBuf, StableHlo.TRef.ofBuf, cast_eq]
  after_results_simp
  after_results_loop
  pointwise [hc, HOT, QUO, COLP, POS]
  have hs : id (constantI S_ 32 64#32) ix0 = 64#32 := rfl
  have hs' : id (constantI ProjRefIdeal.S_ 32 64#32) ix0 = 64#32 := rfl
  have hr := rem_eq ⟨h.val * 64 + d.val, by omega⟩
  have hm := mid_eq ⟨h.val * 64 + d.val, by omega⟩
  have hq := quo_eq ⟨t.val / 64, by omega⟩ ⟨t.val % 64, by omega⟩
  have ht : t.val % 4096 = t.val := by omega
  have hd : (h.val * 64 + d.val) % 64 = d.val := by omega
  have hz : t.val / 64 * 64 + t.val % 64 = t.val := by omega
  dsimp only at hr hm hq
  rw [hz] at hq
  rw [hd] at hr
  simp only [hs, hs', ht]
  rw [hr, hm, hq]
  by_cases e0 : h.val = 0
  · rw [if_neg (show ¬ (64 ≤ h.val * 64 + d.val ∧ h.val * 64 + d.val < 192) by omega), if_pos e0]
    exact off _
  · by_cases e3 : h.val = 3
    · rw [if_neg (show ¬ (64 ≤ h.val * 64 + d.val ∧ h.val * 64 + d.val < 192) by omega), if_neg e0, if_pos e3]
      exact off _
    · rw [if_pos (show 64 ≤ h.val * 64 + d.val ∧ h.val * 64 + d.val < 192 by omega), if_neg e0, if_neg e3, kept, eq_comm_bit]
      exact congrArg (fun q => (FloatOps.uitofp FTy.f32 (IntOp.cmpi .eq q (BitVec.ofNat 32 d.val)) : Ideal .f32)) hq

end Cert.ProjIdeal.Value

end
-- ==== Proof.Proj.Value.lean ====
module

public import proofs.«01_k».proof.Proof.Proj.Weight
public import proofs.«01_k».proof.Proof.Proj.Table
public import proofs.«01_k».proof.Proof.Proj.Pay
public import proofs.«01_k».proof.Proof.Proj.Hot
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Value
open Cert.ProjIdeal Cert.ProjIdeal.Gen Cert.ProjRefIdeal.Value Cert.Rope
variable (m : (ℓ : Loc nD τ sig) → Buf (Elt Ideal) ℓ)

/-- A window's block index at every grid point. -/
theorem idx0 : ∀ t : Fin cfg0.N, win0_0.index t = ![t.val, 0] :=
  (by decide +kernel : ∀ t : Fin grid0.N, _)
/-- A window's block index at every grid point. -/
theorem idx1 : ∀ t : Fin cfg0.N, win0_1.index t = ![0, 0] :=
  (by decide +kernel : ∀ t : Fin grid0.N, _)
/-- A window's block index at every grid point. -/
theorem idx2 : ∀ t : Fin cfg0.N, win0_2.index t = ![0, 0] :=
  (by decide +kernel : ∀ t : Fin grid0.N, _)
/-- A window's block index at every grid point. -/
theorem idx3 : ∀ t : Fin cfg0.N, win0_3.index t = ![t.val % 16, 0] :=
  (by decide +kernel : ∀ t : Fin grid0.N, _)
/-- A window's block index at every grid point. -/
theorem idx4 : ∀ t : Fin cfg0.N, win0_4.index t = ![t.val % 16, 0] :=
  (by decide +kernel : ∀ t : Fin grid0.N, _)
/-- A window's block index at every grid point. -/
theorem idx5 : ∀ t : Fin cfg0.N, win0_5.index t = ![t.val % 16, 0] :=
  (by decide +kernel : ∀ t : Fin grid0.N, _)
/-- A window's block index at every grid point. -/
theorem idx6 : ∀ t : Fin cfg0.N, win0_6.index t = ![t.val % 16, 0] :=
  (by decide +kernel : ∀ t : Fin grid0.N, _)
/-- A window's block index at every grid point. -/
theorem idx7 : ∀ t : Fin cfg0.N, win0_7.index t = ![t.val, 0] :=
  (by decide +kernel : ∀ t : Fin grid0.N, _)
/-- A window's block index at every grid point. -/
theorem idx8 : ∀ t : Fin cfg0.N, win0_8.index t = ![t.val, 0] :=
  (by decide +kernel : ∀ t : Fin grid0.N, _)
/-- A window's block index at every grid point. -/
theorem idx9 : ∀ t : Fin cfg0.N, win0_9.index t = ![t.val, 0] :=
  (by decide +kernel : ∀ t : Fin grid0.N, _)
/-- A window's block index at every grid point. -/
theorem idx10 : ∀ t : Fin cfg0.N, win0_10.index t = ![t.val, 0] :=
  (by decide +kernel : ∀ t : Fin grid0.N, _)
/-- A window's block index at every grid point. -/
theorem idx11 : ∀ t : Fin cfg0.N, win0_11.index t = ![t.val, 0] :=
  (by decide +kernel : ∀ t : Fin grid0.N, _)
/-- A window's block index at every grid point. -/
theorem idx12 : ∀ t : Fin cfg0.N, win0_12.index t = ![t.val, 0] :=
  (by decide +kernel : ∀ t : Fin grid0.N, _)
/-- A window's block index at every grid point. -/
theorem idx13 : ∀ t : Fin cfg0.N, win0_13.index t = ![t.val, 0] :=
  (by decide +kernel : ∀ t : Fin grid0.N, _)
/-- A window's block index at every grid point. -/
theorem idx14 : ∀ t : Fin cfg0.N, win0_14.index t = ![t.val, 0] :=
  (by decide +kernel : ∀ t : Fin grid0.N, _)
/-- A window's block index at every grid point. -/
theorem idx15 : ∀ t : Fin cfg0.N, win0_15.index t = ![t.val, 0] :=
  (by decide +kernel : ∀ t : Fin grid0.N, _)
/-- A window's block index at every grid point. -/
theorem idx16 : ∀ t : Fin cfg0.N, win0_16.index t = ![t.val, 0] :=
  (by decide +kernel : ∀ t : Fin grid0.N, _)
/-- A window's block index at every grid point. -/
theorem idx17 : ∀ t : Fin cfg0.N, win0_17.index t = ![t.val, 0] :=
  (by decide +kernel : ∀ t : Fin grid0.N, _)
/-- A window's block index at every grid point. -/
theorem idx18 : ∀ t : Fin cfg0.N, win0_18.index t = ![t.val, 0] :=
  (by decide +kernel : ∀ t : Fin grid0.N, _)
/-- A window's block index at every grid point. -/
theorem idx19 : ∀ t : Fin cfg0.N, win0_19.index t = ![t.val, 0] :=
  (by decide +kernel : ∀ t : Fin grid0.N, _)
/-- A window's block index at every grid point. -/
theorem idx20 : ∀ t : Fin cfg0.N, win0_20.index t = ![t.val, 0] :=
  (by decide +kernel : ∀ t : Fin grid0.N, _)

/-- The row of the array a block row stands at. -/
theorem rowOf (t : Fin cfg0.N) (i : Fin 256) : ∃ r : Fin 32768, r.val = t.val * 256 + i.val :=
  ⟨⟨t.val * 256 + i.val, by have := lt_of_lt_of_eq t.isLt N_0; omega⟩, rfl⟩

/-- The rows' block. -/
theorem blk0 (c : Dev nD) (t : Fin cfg0.N) (i : Fin 256) (r : Fin 32768) (hr : r.val = t.val * 256 + i.val) (k : Fin 1024) : iblk m c 0 t (ix2 i k) = (m ((c : Thread nD τ).loc main_arg0)) (ix3 ⟨r.val / 4096, by omega⟩ ⟨r.val % 4096, by omega⟩ k) :=
  Eq.trans (b := V m c main_v21 (ix2 r k)) (by blk_ext [iblk, idx0 t, hr]) (x_apply m c r k)
/-- The gains' block. -/
theorem blk1 (c : Dev nD) (t : Fin cfg0.N) (k : Fin 1024) : iblk m c 1 t (ix2 0 k) = (m ((c : Thread nD τ).loc main_arg1)) (ix2 0 k) :=
  Eq.trans (b := V m c main_v23 (ix2 0 k)) (by blk_ext [iblk, idx1 t]) (g_apply m c k)
/-- The weight's block. -/
theorem blk2 (c : Dev nD) (t : Fin cfg0.N) (k : Fin 1024) (n : Fin 3712) : iblk m c 2 t (ix2 k n) = V m c main_v47 (ix2 k n) := by
  blk_ext [iblk, idx2 t]
/-- A table's block. -/
theorem blk3 (c : Dev nD) (t : Fin cfg0.N) (i : Fin 256) (r : Fin 32768) (hr : r.val = t.val * 256 + i.val) (h : Fin 2) (d : Fin 64) : iblk m c 3 t (ix2 i (hc (W := 128) 2 rfl h d)) = tC (fun j => Ideal.cos (ANG (ix2 ⟨r.val % 4096, by omega⟩ j))) d := by
  have hr : r.val % 4096 = t.val % 16 * 256 + i.val := by omega
  refine Eq.trans (b := V m c main_v68 (ix2 ⟨r.val % 4096, by omega⟩ (hc (W := 128) 2 rfl h d))) (by blk_ext [iblk, idx3 t, hr]) ?_
  refine (tc_apply m c ⟨r.val % 4096, by omega⟩ h d).trans ?_
  rw [lane_eq (r.val % 4096 % 4096) (r.val % 4096) _ _ (by omega)]

/-- A table's block. -/
theorem blk4 (c : Dev nD) (t : Fin cfg0.N) (i : Fin 256) (r : Fin 32768) (hr : r.val = t.val * 256 + i.val) (h : Fin 2) (d : Fin 64) : iblk m c 4 t (ix2 i (hc (W := 128) 2 rfl h d)) = tA (fun j => Ideal.sin (ANG (ix2 ⟨r.val % 4096, by omega⟩ j))) d := by
  have hr : r.val % 4096 = t.val % 16 * 256 + i.val := by omega
  refine Eq.trans (b := V m c main_v75 (ix2 ⟨r.val % 4096, by omega⟩ (hc (W := 128) 2 rfl h d))) (by blk_ext [iblk, idx4 t, hr]) ?_
  refine (ta_apply m c ⟨r.val % 4096, by omega⟩ h d).trans ?_
  rw [lane_eq (r.val % 4096 % 4096) (r.val % 4096) _ _ (by omega)]

/-- A table's block. -/
theorem blk5 (c : Dev nD) (t : Fin cfg0.N) (i : Fin 256) (r : Fin 32768) (hr : r.val = t.val * 256 + i.val) (h : Fin 2) (d : Fin 64) : iblk m c 5 t (ix2 i (hc (W := 128) 2 rfl h d)) = tB (fun j => Ideal.sin (ANG (ix2 ⟨r.val % 4096, by omega⟩ j))) d := by
  have hr : r.val % 4096 = t.val % 16 * 256 + i.val := by omega
  refine Eq.trans (b := V m c main_v81 (ix2 ⟨r.val % 4096, by omega⟩ (hc (W := 128) 2 rfl h d))) (by blk_ext [iblk, idx5 t, hr]) ?_
  refine (tb_apply m c ⟨r.val % 4096, by omega⟩ h d).trans ?_
  rw [lane_eq (r.val % 4096 % 4096) (r.val % 4096) _ _ (by omega)]

/-- The block rows' block. -/
theorem blk6 (c : Dev nD) (t : Fin cfg0.N) (i : Fin 256) (r : Fin 32768) (hr : r.val = t.val * 256 + i.val) (h : Fin 4) (d : Fin 64) : iblk m c 6 t (ix2 i (hc (W := 256) 4 rfl h d)) = if h.val = 0 then 0 else if h.val = 3 then 0 else HOT (ix2 ⟨r.val % 4096, by omega⟩ d) := by
  have hr : r.val % 4096 = t.val % 16 * 256 + i.val := by omega
  refine Eq.trans (b := V m c main_v20 (ix2 ⟨r.val % 4096, by omega⟩ (hc (W := 256) 4 rfl h d))) (by blk_ext [iblk, idx6 t, hr]) ?_
  refine (oh_apply m c ⟨r.val % 4096, by omega⟩ h d).trans ?_
  rw [lane_eq (r.val % 4096 % 4096) (r.val % 4096) _ _ (by omega)]

/-- A projected column of a block is the reference's at the row there. -/
theorem plain (c : Dev nD) (t : Fin cfg0.N) (i : Fin 256) (r : Fin 32768) (hr : r.val = t.val * 256 + i.val) (w : Fin 1024 → EReal) (j : Fin 3352)
    (hw : ∀ k, w k = (m ((c : Thread nD τ).loc main_arg2)) (ix3 0 k j)) : ∑ k, k0_pay4 (F := Ideal) (iblk m c 0 t) (iblk m c 1 t) (ix2 i k) * w k = (MM (RMS (m ((c : Thread nD τ).loc main_arg0)) (m ((c : Thread nD τ).loc main_arg1))) (m ((c : Thread nD τ).loc main_arg2))) (ix3 ⟨r.val / 4096, by omega⟩ ⟨r.val % 4096, by omega⟩ j) := by
  rw [lin_apply]
  have e0 := fun k => blk0 m c t i r hr k
  simp only [pay4_apply, e0, blk1, hw]
  rfl

/-- The same of the normalized block read through the loads. -/
theorem plain23 (c : Dev nD) (t : Fin cfg0.N) (i : Fin 256) (r : Fin 32768) (hr : r.val = t.val * 256 + i.val) (w : Fin 1024 → EReal) (j : Fin 3352)
    (hw : ∀ k, w k = (m ((c : Thread nD τ).loc main_arg2)) (ix3 0 k j)) : ∑ k, k0_pay23 (F := Ideal) (iblk m c 0 t) (iblk m c 1 t) (iblk m c 2 t) (iblk m c 3 t) (iblk m c 4 t) (iblk m c 5 t) (iblk m c 6 t) (ix2 i k) * w k = (MM (RMS (m ((c : Thread nD τ).loc main_arg0)) (m ((c : Thread nD τ).loc main_arg1))) (m ((c : Thread nD τ).loc main_arg2))) (ix3 ⟨r.val / 4096, by omega⟩ ⟨r.val % 4096, by omega⟩ j) := by
  simp only [x23]
  exact plain m c t i r hr w j hw

/-- A zero column projects to zero. -/
theorem zero23 (c : Dev nD) (t : Fin cfg0.N) (i : Fin 256) (w : Fin 1024 → EReal) (hw : ∀ k, w k = 0) : ∑ k, k0_pay23 (F := Ideal) (iblk m c 0 t) (iblk m c 1 t) (iblk m c 2 t) (iblk m c 3 t) (iblk m c 4 t) (iblk m c 5 t) (iblk m c 6 t) (ix2 i k) * w k = 0 := by
  refine Finset.sum_eq_zero fun k _ => ?_
  rw [hw k, mul_zero]

/-- The rotary embedding of zeros is zero. -/
theorem rp_zero (cs sn : Fin 8 → EReal) (d : Fin 64) : rp (fun _ => 0) cs sn d = 0 := by
  unfold rp
  split_ifs <;> simp

/-- The stored value at an index. -/
theorem cut_apply (Y) (r : Fin 32768) (n : Fin 128) : CUT Y (ix2 r n) = Y (ix2 r n) := by
  pointwise [CUT]

/-- Where a block of a result lies. -/
theorem emb7 (t : Fin cfg0.N) (i : Fin 256) (n : Fin 512) (r : Fin 32768) (hr : r.val = t.val * 256 + i.val) :
    ((cfg0.win 7).blk t).view.emb (ix2 i n) = ix2 r n := by
  funext k
  match k with
  | ⟨0, _⟩ => refine Fin.ext ?_; blk_simp [idx7 t, hr]
  | ⟨1, _⟩ => refine Fin.ext ?_; blk_simp [idx7 t]

/-- Where a block of a result lies. -/
theorem emb8 (t : Fin cfg0.N) (i : Fin 256) (n : Fin 512) (r : Fin 32768) (hr : r.val = t.val * 256 + i.val) :
    ((cfg0.win 8).blk t).view.emb (ix2 i n) = ix2 r n := by
  funext k
  match k with
  | ⟨0, _⟩ => refine Fin.ext ?_; blk_simp [idx8 t, hr]
  | ⟨1, _⟩ => refine Fin.ext ?_; blk_simp [idx8 t]

/-- Where a block of a result lies. -/
theorem emb9 (t : Fin cfg0.N) (i : Fin 256) (n : Fin 128) (r : Fin 32768) (hr : r.val = t.val * 256 + i.val) :
    ((cfg0.win 9).blk t).view.emb (ix2 i n) = ix2 r n := by
  funext k
  match k with
  | ⟨0, _⟩ => refine Fin.ext ?_; blk_simp [idx9 t, hr]
  | ⟨1, _⟩ => refine Fin.ext ?_; blk_simp [idx9 t]

/-- Where a block of a result lies. -/
theorem emb10 (t : Fin cfg0.N) (i : Fin 256) (n : Fin 128) (r : Fin 32768) (hr : r.val = t.val * 256 + i.val) :
    ((cfg0.win 10).blk t).view.emb (ix2 i n) = ix2 r n := by
  funext k
  match k with
  | ⟨0, _⟩ => refine Fin.ext ?_; blk_simp [idx10 t, hr]
  | ⟨1, _⟩ => refine Fin.ext ?_; blk_simp [idx10 t]

/-- Where a block of a result lies. -/
theorem emb11 (t : Fin cfg0.N) (i : Fin 256) (n : Fin 128) (r : Fin 32768) (hr : r.val = t.val * 256 + i.val) :
    ((cfg0.win 11).blk t).view.emb (ix2 i n) = ix2 r n := by
  funext k
  match k with
  | ⟨0, _⟩ => refine Fin.ext ?_; blk_simp [idx11 t, hr]
  | ⟨1, _⟩ => refine Fin.ext ?_; blk_simp [idx11 t]

/-- Where a block of a result lies. -/
theorem emb12 (t : Fin cfg0.N) (i : Fin 256) (n : Fin 128) (r : Fin 32768) (hr : r.val = t.val * 256 + i.val) :
    ((cfg0.win 12).blk t).view.emb (ix2 i n) = ix2 r n := by
  funext k
  match k with
  | ⟨0, _⟩ => refine Fin.ext ?_; blk_simp [idx12 t, hr]
  | ⟨1, _⟩ => refine Fin.ext ?_; blk_simp [idx12 t]

/-- Where a block of a result lies. -/
theorem emb13 (t : Fin cfg0.N) (i : Fin 256) (n : Fin 128) (r : Fin 32768) (hr : r.val = t.val * 256 + i.val) :
    ((cfg0.win 13).blk t).view.emb (ix2 i n) = ix2 r n := by
  funext k
  match k with
  | ⟨0, _⟩ => refine Fin.ext ?_; blk_simp [idx13 t, hr]
  | ⟨1, _⟩ => refine Fin.ext ?_; blk_simp [idx13 t]

/-- Where a block of a result lies. -/
theorem emb14 (t : Fin cfg0.N) (i : Fin 256) (n : Fin 128) (r : Fin 32768) (hr : r.val = t.val * 256 + i.val) :
    ((cfg0.win 14).blk t).view.emb (ix2 i n) = ix2 r n := by
  funext k
  match k with
  | ⟨0, _⟩ => refine Fin.ext ?_; blk_simp [idx14 t, hr]
  | ⟨1, _⟩ => refine Fin.ext ?_; blk_simp [idx14 t]

/-- Where a block of a result lies. -/
theorem emb15 (t : Fin cfg0.N) (i : Fin 256) (n : Fin 256) (r : Fin 32768) (hr : r.val = t.val * 256 + i.val) :
    ((cfg0.win 15).blk t).view.emb (ix2 i n) = ix2 r n := by
  funext k
  match k with
  | ⟨0, _⟩ => refine Fin.ext ?_; blk_simp [idx15 t, hr]
  | ⟨1, _⟩ => refine Fin.ext ?_; blk_simp [idx15 t]

/-- Where a block of a result lies. -/
theorem emb16 (t : Fin cfg0.N) (i : Fin 256) (n : Fin 128) (r : Fin 32768) (hr : r.val = t.val * 256 + i.val) :
    ((cfg0.win 16).blk t).view.emb (ix2 i n) = ix2 r n := by
  funext k
  match k with
  | ⟨0, _⟩ => refine Fin.ext ?_; blk_simp [idx16 t, hr]
  | ⟨1, _⟩ => refine Fin.ext ?_; blk_simp [idx16 t]

/-- Where a block of a result lies. -/
theorem emb17 (t : Fin cfg0.N) (i : Fin 256) (n : Fin 128) (r : Fin 32768) (hr : r.val = t.val * 256 + i.val) :
    ((cfg0.win 17).blk t).view.emb (ix2 i n) = ix2 r n := by
  funext k
  match k with
  | ⟨0, _⟩ => refine Fin.ext ?_; blk_simp [idx17 t, hr]
  | ⟨1, _⟩ => refine Fin.ext ?_; blk_simp [idx17 t]

/-- Where a block of a result lies. -/
theorem emb18 (t : Fin cfg0.N) (i : Fin 256) (n : Fin 128) (r : Fin 32768) (hr : r.val = t.val * 256 + i.val) :
    ((cfg0.win 18).blk t).view.emb (ix2 i n) = ix2 r n := by
  funext k
  match k with
  | ⟨0, _⟩ => refine Fin.ext ?_; blk_simp [idx18 t, hr]
  | ⟨1, _⟩ => refine Fin.ext ?_; blk_simp [idx18 t]

/-- Where a block of a result lies. -/
theorem emb19 (t : Fin cfg0.N) (i : Fin 256) (n : Fin 2048) (r : Fin 32768) (hr : r.val = t.val * 256 + i.val) :
    ((cfg0.win 19).blk t).view.emb (ix2 i n) = ix2 r n := by
  funext k
  match k with
  | ⟨0, _⟩ => refine Fin.ext ?_; blk_simp [idx19 t, hr]
  | ⟨1, _⟩ => refine Fin.ext ?_; blk_simp [idx19 t]

/-- Where a block of a result lies. -/
theorem emb20 (t : Fin cfg0.N) (i : Fin 256) (n : Fin 128) (r : Fin 32768) (hr : r.val = t.val * 256 + i.val) :
    ((cfg0.win 20).blk t).view.emb (ix2 i n) = ix2 r n := by
  funext k
  match k with
  | ⟨0, _⟩ => refine Fin.ext ?_; blk_simp [idx20 t, hr]
  | ⟨1, _⟩ => refine Fin.ext ?_; blk_simp [idx20 t]

set_option maxHeartbeats 4000000 in
/-- A result after the run is the reference's function of the arguments. -/
theorem final7 (c : Dev nD) : (dats m 0 c).arrAt 7 (cfgs 0).N = RANK (Q (MM (RMS (m ((c : Thread nD τ).loc main_arg0)) (m ((c : Thread nD τ).loc main_arg1))) (m ((c : Thread nD τ).loc main_arg2)))) := by
  refine (dats m 0 c).arrAt_eq_of_covers 7 _ (by decide +kernel) fun t _ y => ?_
  blk_simp
  rw [after0_7]; frame_out
  obtain ⟨i, n, rfl⟩ : ∃ i n, y = ix2 i n := ⟨_, _, eq_ix2 y⟩
  obtain ⟨r, hr⟩ := rowOf t i
  rw [emb7 t i n r hr]
  obtain ⟨h, d, rfl⟩ := heads 8 rfl n
  rw [rank_apply, q_apply]
  refine (pay9_apply _ _ _ i _).trans (congrArg (· * Ideal.ofBits .f32 0x3E000000#32) ?_)
  exact plain m c t i r hr _ _ (fun k => (ld3 _ k _).trans ((blk2 m c t k _).trans ((wq_apply m c k h d).trans (congrArg (fun q => (m ((c : Thread nD τ).loc main_arg2)) (ix3 0 k q)) (lane_eq _ _ _ _ (by dsimp only [hc]; omega))))))

set_option maxHeartbeats 4000000 in
/-- A result after the run is the reference's function of the arguments. -/
theorem final8 (c : Dev nD) : (dats m 0 c).arrAt 8 (cfgs 0).N = RANK (ROPE8 (Q (MM (RMS (m ((c : Thread nD τ).loc main_arg0)) (m ((c : Thread nD τ).loc main_arg1))) (m ((c : Thread nD τ).loc main_arg2))))) := by
  refine (dats m 0 c).arrAt_eq_of_covers 8 _ (by decide +kernel) fun t _ y => ?_
  blk_simp
  rw [after0_8]; frame_out
  obtain ⟨i, n, rfl⟩ : ∃ i n, y = ix2 i n := ⟨_, _, eq_ix2 y⟩
  obtain ⟨r, hr⟩ := rowOf t i
  rw [emb8 t i n r hr]
  obtain ⟨h, d, rfl⟩ := heads 8 rfl n
  rw [rank_apply, rope8_apply, ← rp_scale _ _ _ _ _ scale_nonneg scale_top]
  simp only [q_apply]
  refine (pay12_apply _ _ _ _ _ _ i h d _ _ (blk3 m c t i r hr ⟨h.val % 2, by omega⟩ d) (blk4 m c t i r hr ⟨h.val % 2, by omega⟩ d) (blk5 m c t i r hr ⟨h.val % 2, by omega⟩ d)).trans ?_
  exact congrArg (fun y => rp y _ _ d) (funext fun e => congrArg (· * Ideal.ofBits .f32 0x3E000000#32) (plain m c t i r hr _ _ (fun k => (ld3 _ k _).trans ((blk2 m c t k _).trans ((wq_apply m c k h e).trans (congrArg (fun q => (m ((c : Thread nD τ).loc main_arg2)) (ix3 0 k q)) (lane_eq _ _ _ _ (by dsimp only [hc]; omega))))))))

set_option maxHeartbeats 4000000 in
/-- A result after the run is the reference's function of the arguments. -/
theorem final9 (c : Dev nD) : (dats m 0 c).arrAt 9 (cfgs 0).N = KC (MM (RMS (m ((c : Thread nD τ).loc main_arg0)) (m ((c : Thread nD τ).loc main_arg1))) (m ((c : Thread nD τ).loc main_arg2))) := by
  refine (dats m 0 c).arrAt_eq_of_covers 9 _ (by decide +kernel) fun t _ y => ?_
  blk_simp
  rw [after0_9]; frame_out
  obtain ⟨i, n, rfl⟩ : ∃ i n, y = ix2 i n := ⟨_, _, eq_ix2 y⟩
  obtain ⟨r, hr⟩ := rowOf t i
  rw [emb9 t i n r hr]
  rw [kc_apply]
  refine (pay13_apply _ _ i n).trans ?_
  exact plain23 m c t i r hr _ _ (fun k => (ld5 _ k n).trans ((blk2 m c t k _).trans (w1_apply m c k n)))

set_option maxHeartbeats 4000000 in
/-- A result after the run is the reference's function of the arguments. -/
theorem final10 (c : Dev nD) : (dats m 0 c).arrAt 10 (cfgs 0).N = VC (MM (RMS (m ((c : Thread nD τ).loc main_arg0)) (m ((c : Thread nD τ).loc main_arg1))) (m ((c : Thread nD τ).loc main_arg2))) := by
  refine (dats m 0 c).arrAt_eq_of_covers 10 _ (by decide +kernel) fun t _ y => ?_
  blk_simp
  rw [after0_10]; frame_out
  obtain ⟨i, n, rfl⟩ : ∃ i n, y = ix2 i n := ⟨_, _, eq_ix2 y⟩
  obtain ⟨r, hr⟩ := rowOf t i
  rw [emb10 t i n r hr]
  rw [vc_apply]
  refine (pay14_apply _ _ i n).trans ?_
  exact plain23 m c t i r hr _ _ (fun k => (ld6 _ k n).trans ((blk2 m c t k _).trans (w2_apply m c k n)))

set_option maxHeartbeats 4000000 in
/-- A result after the run is the reference's function of the arguments. -/
theorem final12 (c : Dev nD) : (dats m 0 c).arrAt 12 (cfgs 0).N = VS (MM (RMS (m ((c : Thread nD τ).loc main_arg0)) (m ((c : Thread nD τ).loc main_arg1))) (m ((c : Thread nD τ).loc main_arg2))) := by
  refine (dats m 0 c).arrAt_eq_of_covers 12 _ (by decide +kernel) fun t _ y => ?_
  blk_simp
  rw [after0_12]; frame_out
  obtain ⟨i, n, rfl⟩ : ∃ i n, y = ix2 i n := ⟨_, _, eq_ix2 y⟩
  obtain ⟨r, hr⟩ := rowOf t i
  rw [emb12 t i n r hr]
  rw [vs_apply]
  refine (pay16_apply _ _ i n).trans ?_
  exact plain23 m c t i r hr _ _ (fun k => (ld8 _ k n).trans ((blk2 m c t k _).trans (w4_apply m c k n)))

set_option maxHeartbeats 4000000 in
/-- A result after the run is the reference's function of the arguments. -/
theorem final14 (c : Dev nD) : (dats m 0 c).arrAt 14 (cfgs 0).N = VW (MM (RMS (m ((c : Thread nD τ).loc main_arg0)) (m ((c : Thread nD τ).loc main_arg1))) (m ((c : Thread nD τ).loc main_arg2))) := by
  refine (dats m 0 c).arrAt_eq_of_covers 14 _ (by decide +kernel) fun t _ y => ?_
  blk_simp
  rw [after0_14]; frame_out
  obtain ⟨i, n, rfl⟩ : ∃ i n, y = ix2 i n := ⟨_, _, eq_ix2 y⟩
  obtain ⟨r, hr⟩ := rowOf t i
  rw [emb14 t i n r hr]
  rw [vw_apply]
  refine (pay20_apply _ _ i n).trans ?_
  exact plain23 m c t i r hr _ _ (fun k => (ld10 _ k n).trans ((blk2 m c t k _).trans (w6_apply m c k n)))

set_option maxHeartbeats 4000000 in
/-- A result after the run is the reference's function of the arguments. -/
theorem final16 (c : Dev nD) : (dats m 0 c).arrAt 16 (cfgs 0).N = CUT (VS (MM (RMS (m ((c : Thread nD τ).loc main_arg0)) (m ((c : Thread nD τ).loc main_arg1))) (m ((c : Thread nD τ).loc main_arg2)))) := by
  refine (dats m 0 c).arrAt_eq_of_covers 16 _ (by decide +kernel) fun t _ y => ?_
  blk_simp
  rw [after0_16]; frame_out
  obtain ⟨i, n, rfl⟩ : ∃ i n, y = ix2 i n := ⟨_, _, eq_ix2 y⟩
  obtain ⟨r, hr⟩ := rowOf t i
  rw [emb16 t i n r hr]
  rw [cut_apply, vs_apply]
  refine (pay17_apply _ _ i n).trans ?_
  exact plain23 m c t i r hr _ _ (fun k => (ld8 _ k n).trans ((blk2 m c t k _).trans (w4_apply m c k n)))

set_option maxHeartbeats 4000000 in
/-- A result after the run is the reference's function of the arguments. -/
theorem final18 (c : Dev nD) : (dats m 0 c).arrAt 18 (cfgs 0).N = CUT (VW (MM (RMS (m ((c : Thread nD τ).loc main_arg0)) (m ((c : Thread nD τ).loc main_arg1))) (m ((c : Thread nD τ).loc main_arg2)))) := by
  refine (dats m 0 c).arrAt_eq_of_covers 18 _ (by decide +kernel) fun t _ y => ?_
  blk_simp
  rw [after0_18]; frame_out
  obtain ⟨i, n, rfl⟩ : ∃ i n, y = ix2 i n := ⟨_, _, eq_ix2 y⟩
  obtain ⟨r, hr⟩ := rowOf t i
  rw [emb18 t i n r hr]
  rw [cut_apply, vw_apply]
  refine (pay21_apply _ _ i n).trans ?_
  exact plain23 m c t i r hr _ _ (fun k => (ld10 _ k n).trans ((blk2 m c t k _).trans (w6_apply m c k n)))

set_option maxHeartbeats 4000000 in
/-- A result after the run is the reference's function of the arguments. -/
theorem final19 (c : Dev nD) : (dats m 0 c).arrAt 19 (cfgs 0).N = HM (MM (RMS (m ((c : Thread nD τ).loc main_arg0)) (m ((c : Thread nD τ).loc main_arg1))) (m ((c : Thread nD τ).loc main_arg2))) := by
  refine (dats m 0 c).arrAt_eq_of_covers 19 _ (by decide +kernel) fun t _ y => ?_
  blk_simp
  rw [after0_19]; frame_out
  obtain ⟨i, n, rfl⟩ : ∃ i n, y = ix2 i n := ⟨_, _, eq_ix2 y⟩
  obtain ⟨r, hr⟩ := rowOf t i
  rw [emb19 t i n r hr]
  rw [hm_apply]
  refine (pay2_apply _ _ i n).trans ?_
  exact plain23 m c t i r hr _ _ (fun k => (ld13 _ k n).trans ((blk2 m c t k _).trans (wh_apply m c k n)))

set_option maxHeartbeats 4000000 in
/-- A result after the run is the reference's function of the arguments. -/
theorem final11 (c : Dev nD) : (dats m 0 c).arrAt 11 (cfgs 0).N = FLAT (ROPE2 (KS (MM (RMS (m ((c : Thread nD τ).loc main_arg0)) (m ((c : Thread nD τ).loc main_arg1))) (m ((c : Thread nD τ).loc main_arg2))))) := by
  refine (dats m 0 c).arrAt_eq_of_covers 11 _ (by decide +kernel) fun t _ y => ?_
  blk_simp
  rw [after0_11]; frame_out
  obtain ⟨i, n, rfl⟩ : ∃ i n, y = ix2 i n := ⟨_, _, eq_ix2 y⟩
  obtain ⟨r, hr⟩ := rowOf t i
  rw [emb11 t i n r hr]
  obtain ⟨h, d, rfl⟩ := heads 2 rfl n
  rw [flat_apply, rope2_apply]
  simp only [ks_apply]
  refine (pay15_apply _ _ _ _ _ i h d _ _ ((x24 _ _ _ _ _ _ _ i _).trans (blk3 m c t i r hr h d)) ((x25 _ _ _ _ _ _ _ i _).trans (blk4 m c t i r hr h d)) ((x26 _ _ _ _ _ _ _ i _).trans (blk5 m c t i r hr h d))).trans ?_
  exact congrArg (fun y => rp y _ _ d) (funext fun e => plain23 m c t i r hr _ _ (fun k => (ld7 _ k (hc (W := 128) 2 rfl h e)).trans ((blk2 m c t k _).trans (w3_apply m c k (hc (W := 128) 2 rfl h e)))))

set_option maxHeartbeats 4000000 in
/-- A result after the run is the reference's function of the arguments. -/
theorem final13 (c : Dev nD) : (dats m 0 c).arrAt 13 (cfgs 0).N = FLAT (ROPE2 (KW (MM (RMS (m ((c : Thread nD τ).loc main_arg0)) (m ((c : Thread nD τ).loc main_arg1))) (m ((c : Thread nD τ).loc main_arg2))))) := by
  refine (dats m 0 c).arrAt_eq_of_covers 13 _ (by decide +kernel) fun t _ y => ?_
  blk_simp
  rw [after0_13]; frame_out
  obtain ⟨i, n, rfl⟩ : ∃ i n, y = ix2 i n := ⟨_, _, eq_ix2 y⟩
  obtain ⟨r, hr⟩ := rowOf t i
  rw [emb13 t i n r hr]
  obtain ⟨h, d, rfl⟩ := heads 2 rfl n
  rw [flat_apply, rope2_apply]
  simp only [kw_apply]
  refine (pay18_apply _ _ _ _ _ i h d _ _ ((x24 _ _ _ _ _ _ _ i _).trans (blk3 m c t i r hr h d)) ((x25 _ _ _ _ _ _ _ i _).trans (blk4 m c t i r hr h d)) ((x26 _ _ _ _ _ _ _ i _).trans (blk5 m c t i r hr h d))).trans ?_
  exact congrArg (fun y => rp y _ _ d) (funext fun e => plain23 m c t i r hr _ _ (fun k => (ld9 _ k (hc (W := 128) 2 rfl h e)).trans ((blk2 m c t k _).trans (w5_apply m c k (hc (W := 128) 2 rfl h e)))))

set_option maxHeartbeats 4000000 in
/-- A result after the run is the reference's function of the arguments. -/
theorem final17 (c : Dev nD) : (dats m 0 c).arrAt 17 (cfgs 0).N = CUT (FLAT (ROPE2 (KW (MM (RMS (m ((c : Thread nD τ).loc main_arg0)) (m ((c : Thread nD τ).loc main_arg1))) (m ((c : Thread nD τ).loc main_arg2)))))) := by
  refine (dats m 0 c).arrAt_eq_of_covers 17 _ (by decide +kernel) fun t _ y => ?_
  blk_simp
  rw [after0_17]; frame_out
  obtain ⟨i, n, rfl⟩ : ∃ i n, y = ix2 i n := ⟨_, _, eq_ix2 y⟩
  obtain ⟨r, hr⟩ := rowOf t i
  rw [emb17 t i n r hr]
  obtain ⟨h, d, rfl⟩ := heads 2 rfl n
  rw [cut_apply, flat_apply, rope2_apply]
  simp only [kw_apply]
  refine (pay19_apply _ _ _ _ _ i h d _ _ ((x24 _ _ _ _ _ _ _ i _).trans (blk3 m c t i r hr h d)) ((x25 _ _ _ _ _ _ _ i _).trans (blk4 m c t i r hr h d)) ((x26 _ _ _ _ _ _ _ i _).trans (blk5 m c t i r hr h d))).trans ?_
  exact congrArg (fun y => rp y _ _ d) (funext fun e => plain23 m c t i r hr _ _ (fun k => (ld9 _ k (hc (W := 128) 2 rfl h e)).trans ((blk2 m c t k _).trans (w5_apply m c k (hc (W := 128) 2 rfl h e)))))

set_option maxHeartbeats 4000000 in
/-- A result after the run is the reference's function of the arguments. -/
theorem final15 (c : Dev nD) : (dats m 0 c).arrAt 15 (cfgs 0).N = AUG (ROPE2 (KS (MM (RMS (m ((c : Thread nD τ).loc main_arg0)) (m ((c : Thread nD τ).loc main_arg1))) (m ((c : Thread nD τ).loc main_arg2))))) := by
  refine (dats m 0 c).arrAt_eq_of_covers 15 _ (by decide +kernel) fun t _ y => ?_
  blk_simp
  rw [after0_15]; frame_out
  obtain ⟨i, n, rfl⟩ : ∃ i n, y = ix2 i n := ⟨_, _, eq_ix2 y⟩
  obtain ⟨r, hr⟩ := rowOf t i
  rw [emb15 t i n r hr]
  obtain ⟨h, d, rfl⟩ := heads 4 rfl n
  rw [aug_apply]
  refine (pay1_apply _ _ i _).trans ?_
  have e6 := blk6 m c t i r hr h d
  have ep := pay22_apply (k0_pay23 (F := Ideal) (iblk m c 0 t) (iblk m c 1 t) (iblk m c 2 t) (iblk m c 3 t) (iblk m c 4 t) (iblk m c 5 t) (iblk m c 6 t)) (k0_pay24 (F := Ideal) (iblk m c 0 t) (iblk m c 1 t) (iblk m c 2 t) (iblk m c 3 t) (iblk m c 4 t) (iblk m c 5 t) (iblk m c 6 t)) (k0_pay25 (F := Ideal) (iblk m c 0 t) (iblk m c 1 t) (iblk m c 2 t) (iblk m c 3 t) (iblk m c 4 t) (iblk m c 5 t) (iblk m c 6 t)) (k0_pay26 (F := Ideal) (iblk m c 0 t) (iblk m c 1 t) (iblk m c 2 t) (iblk m c 3 t) (iblk m c 4 t) (iblk m c 5 t) (iblk m c 6 t)) (View.ld (iblk m c 2 t) r0_11) i h d _ _ ((x24 _ _ _ _ _ _ _ i _).trans (blk3 m c t i r hr ⟨h.val % 2, by omega⟩ d)) ((x25 _ _ _ _ _ _ _ i _).trans (blk4 m c t i r hr ⟨h.val % 2, by omega⟩ d)) ((x26 _ _ _ _ _ _ _ i _).trans (blk5 m c t i r hr ⟨h.val % 2, by omega⟩ d))
  have hw := fun (e : Fin 64) (k : Fin 1024) => (ld11 (iblk m c 2 t) k (hc (W := 256) 4 rfl h e)).trans ((blk2 m c t k _).trans (wa_apply m c k h e))
  obtain e | e | e : h.val = 0 ∨ h.val = 3 ∨ (¬ h.val = 0 ∧ ¬ h.val = 3) := by omega
  · rw [if_pos e] at e6 ⊢; simp only [if_pos e] at hw
    rw [rope2_apply]
    simp only [ks_apply]
    refine (congrArg₂ (· + ·) ep e6).trans ?_
    rw [add_zero]
    exact congrArg (fun y => rp y _ _ d) (funext fun e => plain23 m c t i r hr _ _ (fun k => (hw e k).trans (congrArg (fun q => (m ((c : Thread nD τ).loc main_arg2)) (ix3 0 k q)) (lane_eq _ _ _ _ (by dsimp only [hc]; omega)))))
  · rw [if_neg (show ¬ h.val = 0 by omega), if_pos e] at e6 ⊢; simp only [if_neg (show ¬ h.val = 0 by omega), if_pos e] at hw
    rw [rope2_apply]
    simp only [ks_apply]
    refine (congrArg₂ (· + ·) ep e6).trans ?_
    rw [add_zero]
    exact congrArg (fun y => rp y _ _ d) (funext fun e => plain23 m c t i r hr _ _ (fun k => (hw e k).trans (congrArg (fun q => (m ((c : Thread nD τ).loc main_arg2)) (ix3 0 k q)) (lane_eq _ _ _ _ (by dsimp only [hc]; omega)))))
  · rw [if_neg e.1, if_neg e.2] at e6 ⊢
    simp only [if_neg e.1, if_neg e.2] at hw
    refine (congrArg₂ (· + ·) ep e6).trans ?_
    have ez := funext fun f => zero23 m c t i _ (hw f)
    refine (congrArg (· + _) ((congrArg (fun y => rp y _ _ d) ez).trans (rp_zero _ _ d))).trans ?_
    exact zero_add _

set_option maxHeartbeats 4000000 in
/-- A result after the run is the reference's function of the arguments. -/
theorem final20 (c : Dev nD) : (dats m 0 c).arrAt 20 (cfgs 0).N = GT (MM (RMS (m ((c : Thread nD τ).loc main_arg0)) (m ((c : Thread nD τ).loc main_arg1))) (m ((c : Thread nD τ).loc main_arg2))) := by
  refine (dats m 0 c).arrAt_eq_of_covers 20 _ (by decide +kernel) fun t _ y => ?_
  blk_simp
  rw [after0_20]; frame_out
  obtain ⟨i, n, rfl⟩ : ∃ i n, y = ix2 i n := ⟨_, _, eq_ix2 y⟩
  obtain ⟨r, hr⟩ := rowOf t i
  rw [emb20 t i n r hr]
  rw [gt_apply]
  refine (pay3_apply _ _ i n).trans ?_
  have hw := fun k => (ld15 (iblk m c 2 t) k n).trans ((blk2 m c t k _).trans (wg_apply m c k n))
  by_cases e : n.val < 24
  · simp only [dif_pos e] at hw ⊢
    exact plain23 m c t i r hr _ _ hw
  · simp only [dif_neg e] at hw ⊢
    exact zero23 m c t i _ hw

end Cert.ProjIdeal.Value

end
-- ==== Proof.Proj.Claim.lean ====
module

public import proofs.«01_k».proof.Defs
public import proofs.«01_k».proof.Proof.Proj.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem

namespace Cert.ProjIdeal.Value

/-- The reference runs to the end, leaves its arguments as they were and every semaphore counter at zero. -/
theorem still : Cert.quiescent_ProjRefIdeal := by
  intro m g _
  refine (θ_run _ _ _).mono (fun r h => ⟨fun c => ?_, sem_eq_zero_of_no_sems (sig := Cert.ProjRefIdeal.sig) (by decide) r.2⟩) (Cert.ProjRefIdeal.Value.run m g)
  obtain ⟨_, _, _, _, _, _, _, _, _, _, _, _, _, _, kr⟩ := h c
  exact kr

/-- Over the extended reals the kernel and the reference, started on the same arguments, both run to the end, leave
    the arguments as they were and end with equal results. -/
theorem agree : Cert.algebraic_ProjIdeal_ProjRefIdeal := by
  intro m g m' g' _ hag
  refine ⟨fun c => Cert.ProjRefIdeal.Value.RANK (Cert.ProjRefIdeal.Value.Q (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2)))), fun c => Cert.ProjRefIdeal.Value.RANK (Cert.ProjRefIdeal.Value.ROPE8 (Cert.ProjRefIdeal.Value.Q (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))))), fun c => Cert.ProjRefIdeal.Value.KC (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))), fun c => Cert.ProjRefIdeal.Value.VC (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))), fun c => Cert.ProjRefIdeal.Value.FLAT (Cert.ProjRefIdeal.Value.ROPE2 (Cert.ProjRefIdeal.Value.KS (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))))), fun c => Cert.ProjRefIdeal.Value.VS (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))), fun c => Cert.ProjRefIdeal.Value.FLAT (Cert.ProjRefIdeal.Value.ROPE2 (Cert.ProjRefIdeal.Value.KW (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))))), fun c => Cert.ProjRefIdeal.Value.VW (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))), fun c => Cert.ProjRefIdeal.Value.AUG (Cert.ProjRefIdeal.Value.ROPE2 (Cert.ProjRefIdeal.Value.KS (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))))), fun c => Cert.ProjRefIdeal.Value.CUT (Cert.ProjRefIdeal.Value.VS (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2)))), fun c => Cert.ProjRefIdeal.Value.CUT (Cert.ProjRefIdeal.Value.FLAT (Cert.ProjRefIdeal.Value.ROPE2 (Cert.ProjRefIdeal.Value.KW (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2)))))), fun c => Cert.ProjRefIdeal.Value.CUT (Cert.ProjRefIdeal.Value.VW (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2)))), fun c => Cert.ProjRefIdeal.Value.HM (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))), fun c => Cert.ProjRefIdeal.Value.GT (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))),
    (θ_run _ _ _).mono (fun _ h c => ?_) (Cert.ProjIdeal.Value.run_blocks m g),
    (θ_run _ _ _).mono (fun _ h c => ?_) (Cert.ProjRefIdeal.Value.run m' g')⟩
  · obtain ⟨k0, k1, k2, k3, k4, k5, k6, k7, k8, k9, k10, k11, k12, k13, kr⟩ := h c
    exact ⟨k0.trans (final7 m c), k1.trans (final8 m c), k2.trans (final9 m c), k3.trans (final10 m c), k4.trans (final11 m c), k5.trans (final12 m c), k6.trans (final13 m c), k7.trans (final14 m c), k8.trans (final15 m c), k9.trans (final16 m c), k10.trans (final17 m c), k11.trans (final18 m c), k12.trans (final19 m c), k13.trans (final20 m c), kr⟩
  · obtain ⟨k0, k1, k2, k3, k4, k5, k6, k7, k8, k9, k10, k11, k12, k13, kr⟩ := h c
    obtain ⟨h0, h1, h2⟩ := hag c
    have ek0 : Cert.ProjRefIdeal.Value.RANK (Cert.ProjRefIdeal.Value.Q (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2))))
        = Cert.ProjRefIdeal.Value.RANK (Cert.ProjRefIdeal.Value.Q (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2)))) := by
      rw [h0, h1, h2]
    have ek1 : Cert.ProjRefIdeal.Value.RANK (Cert.ProjRefIdeal.Value.ROPE8 (Cert.ProjRefIdeal.Value.Q (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)))))
        = Cert.ProjRefIdeal.Value.RANK (Cert.ProjRefIdeal.Value.ROPE8 (Cert.ProjRefIdeal.Value.Q (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))))) := by
      rw [h0, h1, h2]
    have ek2 : Cert.ProjRefIdeal.Value.KC (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)))
        = Cert.ProjRefIdeal.Value.KC (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))) := by
      rw [h0, h1, h2]
    have ek3 : Cert.ProjRefIdeal.Value.VC (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)))
        = Cert.ProjRefIdeal.Value.VC (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))) := by
      rw [h0, h1, h2]
    have ek4 : Cert.ProjRefIdeal.Value.FLAT (Cert.ProjRefIdeal.Value.ROPE2 (Cert.ProjRefIdeal.Value.KS (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)))))
        = Cert.ProjRefIdeal.Value.FLAT (Cert.ProjRefIdeal.Value.ROPE2 (Cert.ProjRefIdeal.Value.KS (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))))) := by
      rw [h0, h1, h2]
    have ek5 : Cert.ProjRefIdeal.Value.VS (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)))
        = Cert.ProjRefIdeal.Value.VS (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))) := by
      rw [h0, h1, h2]
    have ek6 : Cert.ProjRefIdeal.Value.FLAT (Cert.ProjRefIdeal.Value.ROPE2 (Cert.ProjRefIdeal.Value.KW (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)))))
        = Cert.ProjRefIdeal.Value.FLAT (Cert.ProjRefIdeal.Value.ROPE2 (Cert.ProjRefIdeal.Value.KW (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))))) := by
      rw [h0, h1, h2]
    have ek7 : Cert.ProjRefIdeal.Value.VW (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)))
        = Cert.ProjRefIdeal.Value.VW (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))) := by
      rw [h0, h1, h2]
    have ek8 : Cert.ProjRefIdeal.Value.AUG (Cert.ProjRefIdeal.Value.ROPE2 (Cert.ProjRefIdeal.Value.KS (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)))))
        = Cert.ProjRefIdeal.Value.AUG (Cert.ProjRefIdeal.Value.ROPE2 (Cert.ProjRefIdeal.Value.KS (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))))) := by
      rw [h0, h1, h2]
    have ek9 : Cert.ProjRefIdeal.Value.CUT (Cert.ProjRefIdeal.Value.VS (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2))))
        = Cert.ProjRefIdeal.Value.CUT (Cert.ProjRefIdeal.Value.VS (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2)))) := by
      rw [h0, h1, h2]
    have ek10 : Cert.ProjRefIdeal.Value.CUT (Cert.ProjRefIdeal.Value.FLAT (Cert.ProjRefIdeal.Value.ROPE2 (Cert.ProjRefIdeal.Value.KW (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2))))))
        = Cert.ProjRefIdeal.Value.CUT (Cert.ProjRefIdeal.Value.FLAT (Cert.ProjRefIdeal.Value.ROPE2 (Cert.ProjRefIdeal.Value.KW (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2)))))) := by
      rw [h0, h1, h2]
    have ek11 : Cert.ProjRefIdeal.Value.CUT (Cert.ProjRefIdeal.Value.VW (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2))))
        = Cert.ProjRefIdeal.Value.CUT (Cert.ProjRefIdeal.Value.VW (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2)))) := by
      rw [h0, h1, h2]
    have ek12 : Cert.ProjRefIdeal.Value.HM (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)))
        = Cert.ProjRefIdeal.Value.HM (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))) := by
      rw [h0, h1, h2]
    have ek13 : Cert.ProjRefIdeal.Value.GT (Cert.ProjRefIdeal.Value.MM (Cert.ProjRefIdeal.Value.RMS (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))) (m' ((c.tc : Thread Cert.ProjRefIdeal.nD Cert.ProjRefIdeal.τ).loc Cert.ProjRefIdeal.main_arg2)))
        = Cert.ProjRefIdeal.Value.GT (Cert.ProjRefIdeal.Value.MM (Cert.ProjRefIdeal.Value.RMS (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg2))) := by
      rw [h0, h1, h2]
    exact ⟨(k0.trans (by rfl)).trans ek0, (k1.trans (by rfl)).trans ek1, (k2.trans (by rfl)).trans ek2, (k3.trans (by rfl)).trans ek3, (k4.trans (by rfl)).trans ek4, (k5.trans (by rfl)).trans ek5, (k6.trans (by rfl)).trans ek6, (k7.trans (by rfl)).trans ek7, (k8.trans (by rfl)).trans ek8, (k9.trans (by rfl)).trans ek9, (k10.trans (by rfl)).trans ek10, (k11.trans (by rfl)).trans ek11, (k12.trans (by rfl)).trans ek12, (k13.trans (by rfl)).trans ek13, kr⟩

end Cert.ProjIdeal.Value

end
-- ==== Proof.ProjS.Ref.lean ====
module

public import proofs.«01_k».proof.Proof.Gen.ProjSIdeal.Value
public import proofs.«01_k».proof.Proof.Gen.ProjSRefIdeal.Run
public import Idealize.ShloMosaic.Lib.Pipeline.ValueKit
public import Idealize.ShloMosaic.Lib.Pointwise
public import proofs.«01_k».proof.Proof.Rope

@[expose] public section

set_option maxRecDepth 16384

noncomputable section

open Idealize.ShloMosaic Idealize.ShloMosaic.TcCoe Idealize.SL.Sem
open Idealize.ShloMosaic.Pipeline (Dat)

namespace Cert.ProjSRefIdeal.Value

open Cert.ProjSRefIdeal Cert.ProjSRefIdeal.Gen Cert.Rope

/-- The root mean square normalization of every row, scaled by the gains. -/
def RMS (X : FVec Ideal S128x4x1024 .f32) (g : FVec Ideal S1x1024 .f32) : FVec Ideal S128x4x1024 .f32 :=
  mulf (mulf X (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf X X) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ g shapeCasts_S1x1024_S1024)))

/-- The projections of every row, all columns side by side. -/
def MM (X : FVec Ideal S128x4x1024 .f32) (W : FVec Ideal S1x1024x3352 .f32) : FVec Ideal S128x4x3352 .f32 :=
  Host.dotGeneral (F := Ideal) (φ₁ := .f32) (φ₂ := .f32) dot_S128x4x1024_S1024x3352_S128x4x3352_2_0_01_1_n_n none X (shapeCast _ W shapeCasts_S1x1024x3352_S1024x3352)

/-- The positions of the tokens. -/
def POS : IVec S4 32 := addi (broadcastInDim S4 ![] bcast_S_S4 (constantI S_ 32 8192#32)) (iotaInDim S4 32 0)

/-- The rotation angle of every position and lane. -/
def ANG : FVec Ideal S4x8 .f32 :=
  mulf (broadcastInDim S4x8 ![0, 1] bcast_S4x1_S4x8_0_1 (broadcastInDim S4x1 ![0] bcast_S4_S4x1_0 (sitofp .f32 POS))) (broadcastInDim S4x8 ![0, 1] bcast_S1x8_S4x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- The cosines of the angles. -/
def COS : FVec Ideal S4x1x8 .f32 := broadcastInDim S4x1x8 ![0, 2] bcast_S4x8_S4x1x8_0_2 (Host.cos ANG)
/-- The sines of the angles. -/
def SIN : FVec Ideal S4x1x8 .f32 := broadcastInDim S4x1x8 ![0, 2] bcast_S4x8_S4x1x8_0_2 (Host.sin ANG)

/-- The rotary embedding of 2 heads. -/
def ROPE2 (Y : FVec Ideal S128x4x2x64 .f32) : FVec Ideal S128x4x2x64 .f32 :=
  concatenate S128x4x2x64 3 [⟨S128x4x2x8, subf (mulf (extractStridedSlice S128x4x2x8 ![0, 0, 0, 0] Y slices_S128x4x2x64_S128x4x2x8_0_0_0_0) (broadcastInDim S128x4x2x8 ![0, 1, 2, 3] bcast_S1x4x1x8_S128x4x2x8_0_1_2_3 (broadcastInDim S1x4x1x8 ![1, 2, 3] bcast_S4x1x8_S1x4x1x8_1_2_3 COS))) (mulf (extractStridedSlice S128x4x2x8 ![0, 0, 0, 8] Y slices_S128x4x2x64_S128x4x2x8_0_0_0_8) (broadcastInDim S128x4x2x8 ![0, 1, 2, 3] bcast_S1x4x1x8_S128x4x2x8_0_1_2_3 (broadcastInDim S1x4x1x8 ![1, 2, 3] bcast_S4x1x8_S1x4x1x8_1_2_3 SIN)))⟩,
    ⟨S128x4x2x8, addf (mulf (extractStridedSlice S128x4x2x8 ![0, 0, 0, 0] Y slices_S128x4x2x64_S128x4x2x8_0_0_0_0) (broadcastInDim S128x4x2x8 ![0, 1, 2, 3] bcast_S1x4x1x8_S128x4x2x8_0_1_2_3 (broadcastInDim S1x4x1x8 ![1, 2, 3] bcast_S4x1x8_S1x4x1x8_1_2_3 SIN))) (mulf (extractStridedSlice S128x4x2x8 ![0, 0, 0, 8] Y slices_S128x4x2x64_S128x4x2x8_0_0_0_8) (broadcastInDim S128x4x2x8 ![0, 1, 2, 3] bcast_S1x4x1x8_S128x4x2x8_0_1_2_3 (broadcastInDim S1x4x1x8 ![1, 2, 3] bcast_S4x1x8_S1x4x1x8_1_2_3 COS)))⟩,
    ⟨S128x4x2x48, extractStridedSlice S128x4x2x48 ![0, 0, 0, 16] Y slices_S128x4x2x64_S128x4x2x48_0_0_0_16⟩] concatenates_S128x4x2x8_S128x4x2x8_S128x4x2x48_S128x4x2x64_d3

/-- The rotary embedding of 8 heads. -/
def ROPE8 (Y : FVec Ideal S128x4x8x64 .f32) : FVec Ideal S128x4x8x64 .f32 :=
  concatenate S128x4x8x64 3 [⟨S128x4x8x8, subf (mulf (extractStridedSlice S128x4x8x8 ![0, 0, 0, 0] Y slices_S128x4x8x64_S128x4x8x8_0_0_0_0) (broadcastInDim S128x4x8x8 ![0, 1, 2, 3] bcast_S1x4x1x8_S128x4x8x8_0_1_2_3 (broadcastInDim S1x4x1x8 ![1, 2, 3] bcast_S4x1x8_S1x4x1x8_1_2_3 COS))) (mulf (extractStridedSlice S128x4x8x8 ![0, 0, 0, 8] Y slices_S128x4x8x64_S128x4x8x8_0_0_0_8) (broadcastInDim S128x4x8x8 ![0, 1, 2, 3] bcast_S1x4x1x8_S128x4x8x8_0_1_2_3 (broadcastInDim S1x4x1x8 ![1, 2, 3] bcast_S4x1x8_S1x4x1x8_1_2_3 SIN)))⟩,
    ⟨S128x4x8x8, addf (mulf (extractStridedSlice S128x4x8x8 ![0, 0, 0, 0] Y slices_S128x4x8x64_S128x4x8x8_0_0_0_0) (broadcastInDim S128x4x8x8 ![0, 1, 2, 3] bcast_S1x4x1x8_S128x4x8x8_0_1_2_3 (broadcastInDim S1x4x1x8 ![1, 2, 3] bcast_S4x1x8_S1x4x1x8_1_2_3 SIN))) (mulf (extractStridedSlice S128x4x8x8 ![0, 0, 0, 8] Y slices_S128x4x8x64_S128x4x8x8_0_0_0_8) (broadcastInDim S128x4x8x8 ![0, 1, 2, 3] bcast_S1x4x1x8_S128x4x8x8_0_1_2_3 (broadcastInDim S1x4x1x8 ![1, 2, 3] bcast_S4x1x8_S1x4x1x8_1_2_3 COS)))⟩,
    ⟨S128x4x8x48, extractStridedSlice S128x4x8x48 ![0, 0, 0, 16] Y slices_S128x4x8x64_S128x4x8x48_0_0_0_16⟩] concatenates_S128x4x8x8_S128x4x8x8_S128x4x8x48_S128x4x8x64_d3

/-- The columns from 792 on, split into heads. -/
def KS (M : FVec Ideal S128x4x3352 .f32) : FVec Ideal S128x4x2x64 .f32 :=
  shapeCast _ (extractStridedSlice S128x4x128 ![0, 0, 792] M slices_S128x4x3352_S128x4x128_0_0_792) shapeCasts_S128x4x128_S128x4x2x64

/-- The columns from 1048 on, split into heads. -/
def KW (M : FVec Ideal S128x4x3352 .f32) : FVec Ideal S128x4x2x64 .f32 :=
  shapeCast _ (extractStridedSlice S128x4x128 ![0, 0, 1048] M slices_S128x4x3352_S128x4x128_0_0_1048) shapeCasts_S128x4x128_S128x4x2x64

/-- The columns from 0 on, split into heads. -/
def Q (M : FVec Ideal S128x4x3352 .f32) : FVec Ideal S128x4x8x64 .f32 :=
  shapeCast _ (extractStridedSlice S128x4x512 ![0, 0, 0] M slices_S128x4x3352_S128x4x512_0_0_0) shapeCasts_S128x4x512_S128x4x8x64

/-- The queries scaled and regrouped, the heads that share a rank side by side. -/
def RANK (Y : FVec Ideal S128x4x8x64 .f32) : FVec Ideal S512x512 .bf16 :=
  truncf .bf16 (shapeCast _ (transpose S128x4x4x2x64 [0, 1, 3, 2, 4] (shapeCast _ (mulf Y (broadcastInDim S128x4x8x64 ![] bcast_S_S128x4x8x64 (constant S_ .f32 0x3E000000#32))) shapeCasts_S128x4x8x64_S128x4x2x4x64) transposes_S128x4x2x4x64_S128x4x4x2x64_0_1_3_2_4) shapeCasts_S128x4x4x2x64_S512x512) bitsLt_bf16_f32

/-- The columns from 536 on. -/
def KC (M : FVec Ideal S128x4x3352 .f32) : FVec Ideal S512x128 .f32 :=
  shapeCast _ (extractStridedSlice S128x4x128 ![0, 0, 536] M slices_S128x4x3352_S128x4x128_0_0_536) shapeCasts_S128x4x128_S512x128

/-- The columns from 664 on. -/
def VC (M : FVec Ideal S128x4x3352 .f32) : FVec Ideal S512x128 .f32 :=
  shapeCast _ (extractStridedSlice S128x4x128 ![0, 0, 664] M slices_S128x4x3352_S128x4x128_0_0_664) shapeCasts_S128x4x128_S512x128

/-- The columns from 920 on. -/
def VS (M : FVec Ideal S128x4x3352 .f32) : FVec Ideal S512x128 .f32 :=
  shapeCast _ (extractStridedSlice S128x4x128 ![0, 0, 920] M slices_S128x4x3352_S128x4x128_0_0_920) shapeCasts_S128x4x128_S512x128

/-- The columns from 1176 on. -/
def VW (M : FVec Ideal S128x4x3352 .f32) : FVec Ideal S512x128 .f32 :=
  shapeCast _ (extractStridedSlice S128x4x128 ![0, 0, 1176] M slices_S128x4x3352_S128x4x128_0_0_1176) shapeCasts_S128x4x128_S512x128

/-- Two rotated heads side by side. -/
def FLAT (Y : FVec Ideal S128x4x2x64 .f32) : FVec Ideal S512x128 .f32 := shapeCast _ Y shapeCasts_S128x4x2x64_S512x128

/-- A value rounded for storage. -/
def CUT (Y : FVec Ideal S512x128 .f32) : FVec Ideal S512x128 .bf16 := truncf .bf16 Y bitsLt_bf16_f32

/-- The block rows of the sample tokens, all zero. -/
def HOT : FVec Ideal S4x64 .f32 := broadcastInDim S4x64 ![] bcast_S_S4x64 (constant S_ .f32 0x00000000#32)

/-- The block rows repeated over the batch. -/
def HOTB : FVec Ideal S128x4x64 .f32 :=
  broadcastInDim S128x4x64 ![0, 1, 2] bcast_S1x4x64_S128x4x64_0_1_2 (broadcastInDim S1x4x64 ![1, 2] bcast_S4x64_S1x4x64_1_2 HOT)

/-- The selection keys, each head beside the block row. -/
def AUG (Y : FVec Ideal S128x4x2x64 .f32) : FVec Ideal S512x256 .bf16 :=
  truncf .bf16 (shapeCast _ (concatenate S128x4x256 2 [⟨S128x4x64, shapeCast S128x4x64 (extractStridedSlice S128x4x1x64 ![0, 0, 0, 0] Y slices_S128x4x2x64_S128x4x1x64_0_0_0_0) shapeCasts_S128x4x1x64_S128x4x64⟩,
    ⟨S128x4x64, HOTB⟩, ⟨S128x4x64, HOTB⟩,
    ⟨S128x4x64, shapeCast S128x4x64 (extractStridedSlice S128x4x1x64 ![0, 0, 1, 0] Y slices_S128x4x2x64_S128x4x1x64_0_0_1_0) shapeCasts_S128x4x1x64_S128x4x64⟩] concatenates_S128x4x64_S128x4x64_S128x4x64_S128x4x64_S128x4x256_d2) shapeCasts_S128x4x256_S512x256) bitsLt_bf16_f32

/-- The recurrence's four inputs side by side. -/
def HM (M : FVec Ideal S128x4x3352 .f32) : FVec Ideal S512x2048 .f32 :=
  shapeCast _ (concatenate S128x4x2048 2 [⟨S128x4x512, extractStridedSlice S128x4x512 ![0, 0, 1304] M slices_S128x4x3352_S128x4x512_0_0_1304⟩, ⟨S128x4x512, extractStridedSlice S128x4x512 ![0, 0, 1816] M slices_S128x4x3352_S128x4x512_0_0_1816⟩, ⟨S128x4x512, extractStridedSlice S128x4x512 ![0, 0, 2328] M slices_S128x4x3352_S128x4x512_0_0_2328⟩, ⟨S128x4x512, extractStridedSlice S128x4x512 ![0, 0, 2840] M slices_S128x4x3352_S128x4x512_0_0_2840⟩] concatenates_S128x4x512_S128x4x512_S128x4x512_S128x4x512_S128x4x2048_d2) shapeCasts_S128x4x2048_S512x2048

/-- The gates, padded with zeros. -/
def GT (M : FVec Ideal S128x4x3352 .f32) : FVec Ideal S512x128 .f32 :=
  shapeCast _ (pad S128x4x128 ![0, 0, 0] ![0, 0, 104] ![0, 0, 0] (extractStridedSlice S128x4x24 ![0, 0, 512] M slices_S128x4x3352_S128x4x24_0_0_512) (sitofp .f32 (constantI S_ 32 0#32)) pads_S128x4x24_S128x4x128_000_000_01040 h_S_) shapeCasts_S128x4x128_S512x128

/-- The normalization at an index. -/
theorem rms_apply (X g b i d) : RMS X g (ix3 b i d) = X (ix3 b i d) * Ideal.rsqrt (Ideal.div (∑ k, X (ix3 b i k) * X (ix3 b i k)) (Ideal.ofBits .f32 0x44800000#32) + Ideal.ofBits .f32 0x358637BD#32) * g (ix2 0 d) := by
  pointwise [RMS]
/-- The product at an index. -/
theorem mm_apply (X W b i n) : MM X W (ix3 b i n) = ∑ k, X (ix3 b i k) * W (ix3 0 k n) := by
  pointwise [MM]
/-- A projected column at an index. -/
theorem lin_apply (X g W b i n) : MM (RMS X g) W (ix3 b i n) = col (fun k => X (ix3 b i k)) (fun k => g (ix2 0 k)) (fun k => W (ix3 0 k n)) := by
  rw [mm_apply]; simp only [rms_apply]; rfl
/-- The cosines at an index. -/
theorem cos_apply (t z j) : COS (ix3 t z j) = Ideal.cos (ANG (ix2 t j)) := by
  pointwise [COS]
/-- The sines at an index. -/
theorem sin_apply (t z j) : SIN (ix3 t z j) = Ideal.sin (ANG (ix2 t j)) := by
  pointwise [SIN]

/-- The rotary embedding at an index, one head's `rp`. -/
theorem rope2_apply (Y b t h d) : ROPE2 Y (ix4 b t h d)
    = rp (fun e => Y (ix4 b t h e)) (fun j => Ideal.cos (ANG (ix2 t j))) (fun j => Ideal.sin (ANG (ix2 t j))) d := by
  pointwise [ROPE2]
  unfold rp
  by_cases h1 : d.val < 8
  · rw [dif_pos h1, dif_pos h1, cos_apply, sin_apply, lane_eq (8 + d.val) (d.val + 8) _ _ (by omega)]
  · by_cases h2 : d.val < 16
    · rw [dif_neg h1, dif_pos (by omega), dif_neg h1, dif_pos h2, cos_apply, sin_apply, lane_eq (8 + (d.val - 8)) d.val _ _ (by omega)]
    · rw [dif_neg h1, dif_neg (by omega), dif_neg h1, dif_neg h2, lane_eq (16 + (d.val - 8 - 8)) d.val _ _ (by omega)]

/-- The rotary embedding at an index, one head's `rp`. -/
theorem rope8_apply (Y b t h d) : ROPE8 Y (ix4 b t h d)
    = rp (fun e => Y (ix4 b t h e)) (fun j => Ideal.cos (ANG (ix2 t j))) (fun j => Ideal.sin (ANG (ix2 t j))) d := by
  pointwise [ROPE8]
  unfold rp
  by_cases h1 : d.val < 8
  · rw [dif_pos h1, dif_pos h1, cos_apply, sin_apply, lane_eq (8 + d.val) (d.val + 8) _ _ (by omega)]
  · by_cases h2 : d.val < 16
    · rw [dif_neg h1, dif_pos (by omega), dif_neg h1, dif_pos h2, cos_apply, sin_apply, lane_eq (8 + (d.val - 8)) d.val _ _ (by omega)]
    · rw [dif_neg h1, dif_neg (by omega), dif_neg h1, dif_neg h2, lane_eq (16 + (d.val - 8 - 8)) d.val _ _ (by omega)]

/-- The split columns at an index. -/
theorem ks_apply (M b t h d) : KS M (ix4 b t h d) = M (ix3 b t (at' 792 (hc (W := 128) 2 rfl h d) (by omega))) := by
  pointwise [KS, at', hc]

/-- The split columns at an index. -/
theorem kw_apply (M b t h d) : KW M (ix4 b t h d) = M (ix3 b t (at' 1048 (hc (W := 128) 2 rfl h d) (by omega))) := by
  pointwise [KW, at', hc]

/-- The split columns at an index. -/
theorem q_apply (M b t h d) : Q M (ix4 b t h d) = M (ix3 b t (at' 0 (hc (W := 512) 8 rfl h d) (by omega))) := by
  pointwise [Q, at', hc]

/-- The regrouped queries at an index. -/
theorem rank_apply (Y) (r : Fin 512) (h : Fin 8) (d : Fin 64) : RANK Y (ix2 r (hc (W := 512) 8 rfl h d))
    = Y (ix4 ⟨r.val / 4, by omega⟩ ⟨r.val % 4, by omega⟩ ⟨h.val % 2 * 4 + h.val / 2, by omega⟩ d) * Ideal.ofBits .f32 0x3E000000#32 := by
  pointwise [RANK, hc]
  rw [lane_eq ((h.val * 64 + d.val) / 64 % 2 * 4 + (h.val * 64 + d.val) / 128) (h.val % 2 * 4 + h.val / 2) _ (by omega) (by omega)]

/-- The columns at an index. -/
theorem kc_apply (M) (r : Fin 512) (n : Fin 128) : KC M (ix2 r n) = M (ix3 ⟨r.val / 4, by omega⟩ ⟨r.val % 4, by omega⟩ (at' 536 n (by omega))) := by
  pointwise [KC, at']

/-- The columns at an index. -/
theorem vc_apply (M) (r : Fin 512) (n : Fin 128) : VC M (ix2 r n) = M (ix3 ⟨r.val / 4, by omega⟩ ⟨r.val % 4, by omega⟩ (at' 664 n (by omega))) := by
  pointwise [VC, at']

/-- The columns at an index. -/
theorem vs_apply (M) (r : Fin 512) (n : Fin 128) : VS M (ix2 r n) = M (ix3 ⟨r.val / 4, by omega⟩ ⟨r.val % 4, by omega⟩ (at' 920 n (by omega))) := by
  pointwise [VS, at']

/-- The columns at an index. -/
theorem vw_apply (M) (r : Fin 512) (n : Fin 128) : VW M (ix2 r n) = M (ix3 ⟨r.val / 4, by omega⟩ ⟨r.val % 4, by omega⟩ (at' 1176 n (by omega))) := by
  pointwise [VW, at']

/-- The two heads at an index. -/
theorem flat_apply (Y) (r : Fin 512) (h : Fin 2) (d : Fin 64) : FLAT Y (ix2 r (hc (W := 128) 2 rfl h d))
    = Y (ix4 ⟨r.val / 4, by omega⟩ ⟨r.val % 4, by omega⟩ h d) := by
  pointwise [FLAT, hc]
/-- The repeated block rows at an index. -/
theorem hotb_apply (b t e) : HOTB (ix3 b t e) = HOT (ix2 t e) := by
  pointwise [HOTB]
/-- The augmented keys at an index. -/
theorem aug_apply (Y) (r : Fin 512) (h : Fin 4) (d : Fin 64) : AUG Y (ix2 r (hc (W := 256) 4 rfl h d))
    = if h.val = 0 then Y (ix4 ⟨r.val / 4, by omega⟩ ⟨r.val % 4, by omega⟩ 0 d)
      else if h.val = 3 then Y (ix4 ⟨r.val / 4, by omega⟩ ⟨r.val % 4, by omega⟩ 1 d)
      else HOT (ix2 ⟨r.val % 4, by omega⟩ d) := by
  pointwise [AUG, hc]
  obtain e | e | e | e : h.val = 0 ∨ h.val = 1 ∨ h.val = 2 ∨ h.val = 3 := by omega
  · rw [dif_pos (show h.val * 64 + d.val < 64 by omega), if_pos e, lane_eq (n := 64) (h.val * 64 + d.val) d.val _ _ (by omega)]
  · rw [dif_neg (show ¬ h.val * 64 + d.val < 64 by omega), dif_pos (show h.val * 64 + d.val - 64 < 64 by omega), if_neg (show ¬ h.val = 0 by omega), if_neg (show ¬ h.val = 3 by omega), lane_eq (h.val * 64 + d.val - 64) d.val _ _ (by omega), hotb_apply]
  · rw [dif_neg (show ¬ h.val * 64 + d.val < 64 by omega), dif_neg (show ¬ h.val * 64 + d.val - 64 < 64 by omega), dif_pos (show h.val * 64 + d.val - 64 - 64 < 64 by omega), if_neg (show ¬ h.val = 0 by omega), if_neg (show ¬ h.val = 3 by omega), lane_eq (h.val * 64 + d.val - 64 - 64) d.val _ _ (by omega), hotb_apply]
  · rw [dif_neg (show ¬ h.val * 64 + d.val < 64 by omega), dif_neg (show ¬ h.val * 64 + d.val - 64 < 64 by omega), dif_neg (show ¬ h.val * 64 + d.val - 64 - 64 < 64 by omega), if_neg (show ¬ h.val = 0 by omega), if_pos e, lane_eq (h.val * 64 + d.val - 64 - 64 - 64) d.val _ _ (by omega)]
/-- The recurrence's inputs at an index. -/
theorem hm_apply (M) (r : Fin 512) (n : Fin 2048) : HM M (ix2 r n) = M (ix3 ⟨r.val / 4, by omega⟩ ⟨r.val % 4, by omega⟩ (at' 1304 n (by omega))) := by
  pointwise [HM, at']
  by_cases h1 : n.val < 512
  · rw [dif_pos h1]
  · by_cases h2 : n.val < 1024
    · rw [dif_neg h1, dif_pos (show n.val - 512 < 512 by omega)]; exact congrArg (fun q => M (ix3 _ _ q)) (lane_eq _ _ _ _ (by omega))
    · by_cases h3 : n.val < 1536
      · rw [dif_neg h1, dif_neg (show ¬ n.val - 512 < 512 by omega), dif_pos (show n.val - 512 - 512 < 512 by omega)]; exact congrArg (fun q => M (ix3 _ _ q)) (lane_eq _ _ _ _ (by omega))
      · rw [dif_neg h1, dif_neg (show ¬ n.val - 512 < 512 by omega), dif_neg (show ¬ n.val - 512 - 512 < 512 by omega)]; exact congrArg (fun q => M (ix3 _ _ q)) (lane_eq _ _ _ _ (by omega))
/-- The gates at an index. -/
theorem gt_apply (M) (r : Fin 512) (n : Fin 128) : GT M (ix2 r n)
    = if h : n.val < 24 then M (ix3 ⟨r.val / 4, by omega⟩ ⟨r.val % 4, by omega⟩ ⟨512 + n.val, by omega⟩) else 0 := by
  pointwise [GT]
  split_ifs with a b b
  · rfl
  · exact absurd a.2.2 b
  · exact absurd ⟨by omega, by omega, b⟩ a
  · exact zero_int

end Cert.ProjSRefIdeal.Value

end
-- ==== Proof.ProjS.Weight.lean ====
module

public import proofs.«01_k».proof.Proof.Gen.ProjSIdeal.Value
public import proofs.«01_k».proof.Proof.ProjS.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjSIdeal.Value
open Cert.ProjSIdeal Cert.ProjSIdeal.Gen Cert.ProjSRefIdeal.Value Cert.Rope
variable (m : (ℓ : Loc nD τ sig) → Buf (Elt Ideal) ℓ)

set_option maxHeartbeats 4000000 in
/-- The rows at the region's entry. -/
theorem x_apply (c : Dev nD) (r : Fin 512) (k : Fin 1024) : V m c main_v0 (ix2 r k) = m ((c : Thread nD τ).loc main_arg0) (ix3 ⟨r.val / 4, by omega⟩ ⟨r.val % 4, by omega⟩ k) := by
  delta Gen.V
  simp only [List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, StableHlo.TRef.nullary, StableHlo.TRef.unary, StableHlo.TRef.binary, StableHlo.TRef.ternary, StableHlo.TRef.toBuf, StableHlo.TRef.ofBuf, cast_eq]
  after_results_simp
  after_results_loop
  pointwise

set_option maxHeartbeats 4000000 in
/-- The gains at the region's entry. -/
theorem g_apply (c : Dev nD) (k : Fin 1024) : V m c main_v2 (ix2 0 k) = m ((c : Thread nD τ).loc main_arg1) (ix2 0 k) := by
  delta Gen.V
  simp only [List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, StableHlo.TRef.nullary, StableHlo.TRef.unary, StableHlo.TRef.binary, StableHlo.TRef.ternary, StableHlo.TRef.toBuf, StableHlo.TRef.ofBuf, cast_eq]
  after_results_simp
  after_results_loop
  pointwise

/-- The prepared weight as its thirteen pieces side by side. -/
def wsel (p0 : S1024x512.Idx → EReal) (p1 : S1024x128.Idx → EReal) (p2 : S1024x128.Idx → EReal) (p3 : S1024x128.Idx → EReal) (p4 : S1024x128.Idx → EReal) (p5 : S1024x128.Idx → EReal) (p6 : S1024x128.Idx → EReal) (p7 : S1024x256.Idx → EReal) (p8 : S1024x512.Idx → EReal) (p9 : S1024x512.Idx → EReal) (p10 : S1024x512.Idx → EReal) (p11 : S1024x512.Idx → EReal) (p12 : S1024x128.Idx → EReal) (k : Fin 1024) (n : Fin 3712) : EReal :=
  if h0 : n.val < 512 then p0 (ix2 k ⟨n.val, h0⟩)
  else if h1 : n.val - 512 < 128 then p1 (ix2 k ⟨n.val - 512, h1⟩)
  else if h2 : n.val - 512 - 128 < 128 then p2 (ix2 k ⟨n.val - 512 - 128, h2⟩)
  else if h3 : n.val - 512 - 128 - 128 < 128 then p3 (ix2 k ⟨n.val - 512 - 128 - 128, h3⟩)
  else if h4 : n.val - 512 - 128 - 128 - 128 < 128 then p4 (ix2 k ⟨n.val - 512 - 128 - 128 - 128, h4⟩)
  else if h5 : n.val - 512 - 128 - 128 - 128 - 128 < 128 then p5 (ix2 k ⟨n.val - 512 - 128 - 128 - 128 - 128, h5⟩)
  else if h6 : n.val - 512 - 128 - 128 - 128 - 128 - 128 < 128 then p6 (ix2 k ⟨n.val - 512 - 128 - 128 - 128 - 128 - 128, h6⟩)
  else if h7 : n.val - 512 - 128 - 128 - 128 - 128 - 128 - 128 < 256 then p7 (ix2 k ⟨n.val - 512 - 128 - 128 - 128 - 128 - 128 - 128, h7⟩)
  else if h8 : n.val - 512 - 128 - 128 - 128 - 128 - 128 - 128 - 256 < 512 then p8 (ix2 k ⟨n.val - 512 - 128 - 128 - 128 - 128 - 128 - 128 - 256, h8⟩)
  else if h9 : n.val - 512 - 128 - 128 - 128 - 128 - 128 - 128 - 256 - 512 < 512 then p9 (ix2 k ⟨n.val - 512 - 128 - 128 - 128 - 128 - 128 - 128 - 256 - 512, h9⟩)
  else if h10 : n.val - 512 - 128 - 128 - 128 - 128 - 128 - 128 - 256 - 512 - 512 < 512 then p10 (ix2 k ⟨n.val - 512 - 128 - 128 - 128 - 128 - 128 - 128 - 256 - 512 - 512, h10⟩)
  else if h11 : n.val - 512 - 128 - 128 - 128 - 128 - 128 - 128 - 256 - 512 - 512 - 512 < 512 then p11 (ix2 k ⟨n.val - 512 - 128 - 128 - 128 - 128 - 128 - 128 - 256 - 512 - 512 - 512, h11⟩)
  else p12 (ix2 k ⟨n.val - 512 - 128 - 128 - 128 - 128 - 128 - 128 - 256 - 512 - 512 - 512 - 512, by omega⟩)

/-- The augmented group as its four heads side by side. -/
def asel (p0 p1 p2 p3 : S1024x64.Idx → EReal) (k : Fin 1024) (n : Fin 256) : EReal :=
  if h0 : n.val < 64 then p0 (ix2 k ⟨n.val, h0⟩)
  else if h1 : n.val - 64 < 64 then p1 (ix2 k ⟨n.val - 64, h1⟩)
  else if h2 : n.val - 64 - 64 < 64 then p2 (ix2 k ⟨n.val - 64 - 64, h2⟩)
  else p3 (ix2 k ⟨n.val - 64 - 64 - 64, by omega⟩)

/-- A line of operations run in two parts. -/
theorem two (p : ℕ) (ops : List (HloOp τ sig (Elt Ideal))) (W : Valuation τ sig (Elt Ideal)) : StableHlo.after ops W = StableHlo.after (ops.drop p) (StableHlo.after (ops.take p) W) := by
  rw [← StableHlo.after_append, List.take_append_drop]

set_option maxHeartbeats 4000000 in
/-- The operations that join the weight's pieces. -/
theorem cat_apply (W : Valuation τ sig (Elt Ideal)) (k : Fin 1024) (n : Fin 3712) : StableHlo.after (hostOps0_2.drop 10) W (Proc.devRef .tc main_v26) (ix2 k n)
    = wsel (W (Proc.devRef .tc main_v7)) (W (Proc.devRef .tc main_v15)) (W (Proc.devRef .tc main_v16)) (W (Proc.devRef .tc main_v17)) (W (Proc.devRef .tc main_v18)) (W (Proc.devRef .tc main_v19)) (W (Proc.devRef .tc main_v20)) (W (Proc.devRef .tc main_v12)) (W (Proc.devRef .tc main_v21)) (W (Proc.devRef .tc main_v22)) (W (Proc.devRef .tc main_v23)) (W (Proc.devRef .tc main_v24)) (W (Proc.devRef .tc main_v14)) k n := by
  simp only [hostOps0_2, List.take_succ_cons, List.take_zero, List.drop_succ_cons, List.drop_zero, StableHlo.after_cons, StableHlo.after_nil]
  after_results_steps
  pointwise [wsel]
  try rfl

set_option maxHeartbeats 4000000 in
/-- The operation that joins the augmented group's heads. -/
theorem augcat_apply (W : Valuation τ sig (Elt Ideal)) (k : Fin 1024) (n : Fin 256) : StableHlo.after (hostOps0.drop 20) W (Proc.devRef .tc main_v12) (ix2 k n)
    = asel (W (Proc.devRef .tc main_v10)) (W (Proc.devRef .tc main_v9)) (W (Proc.devRef .tc main_v9)) (W (Proc.devRef .tc main_v11)) k n := by
  simp only [hostOps0, List.take_succ_cons, List.take_zero, List.drop_succ_cons, List.drop_zero, StableHlo.after_cons, StableHlo.after_nil]
  after_results_steps
  pointwise [asel]
  try rfl

set_option maxHeartbeats 4000000 in
/-- The later operations leave the weight alone. -/
theorem keep_w (W : Valuation τ sig (Elt Ideal)) : StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 W))))))) (Proc.devRef .tc main_v26) = W (Proc.devRef .tc main_v26) := by
  simp only [hostOps0_3, hostOps0_4, hostOps0_5, hostOps0_6, hostOps0_7, hostOps0_8, hostOps0_9, hostOps0_10, StableHlo.TRef.nullary, StableHlo.TRef.unary, StableHlo.TRef.binary, StableHlo.TRef.ternary, StableHlo.TRef.toBuf, StableHlo.TRef.ofBuf, cast_eq]
  after_results_simp

/-- What the buffers hold before the weight is prepared. -/
def U0 (c : Dev nD) : Valuation τ sig (Elt Ideal) := (fun b => m (c, b))

set_option maxHeartbeats 4000000 in
/-- The weight is as launched by then. -/
theorem arg2_eq (c : Dev nD) : U0 m c (Proc.devRef .tc main_arg2) = m ((c : Thread nD τ).loc main_arg2) := by
  unfold U0
  rfl

/-- What the buffers hold when the weight's pieces are ready. -/
def U (c : Dev nD) : Valuation τ sig (Elt Ideal) :=
  StableHlo.after (hostOps0_2.take 10) (StableHlo.after hostOps0_1 (StableHlo.after hostOps0 (U0 m c)))

set_option maxHeartbeats 4000000 in
/-- The prepared weight. -/
theorem w_eq (c : Dev nD) (k : Fin 1024) (n : Fin 3712) : V m c main_v26 (ix2 k n) = wsel (U m c (Proc.devRef .tc main_v7)) (U m c (Proc.devRef .tc main_v15)) (U m c (Proc.devRef .tc main_v16)) (U m c (Proc.devRef .tc main_v17)) (U m c (Proc.devRef .tc main_v18)) (U m c (Proc.devRef .tc main_v19)) (U m c (Proc.devRef .tc main_v20)) (U m c (Proc.devRef .tc main_v12)) (U m c (Proc.devRef .tc main_v21)) (U m c (Proc.devRef .tc main_v22)) (U m c (Proc.devRef .tc main_v23)) (U m c (Proc.devRef .tc main_v24)) (U m c (Proc.devRef .tc main_v14)) k n := by
  delta Gen.V
  simp only [List.flatten_cons, List.flatten_nil, List.append_nil, StableHlo.after_append]
  rw [keep_w, two 10 hostOps0_2, cat_apply]
  rfl

set_option maxHeartbeats 4000000 in
/-- A plain piece. -/
theorem u1 (c : Dev nD) (k : Fin 1024) (n : Fin 128) : U m c (Proc.devRef .tc main_v15) (ix2 k n) = m ((c : Thread nD τ).loc main_arg2) (ix3 0 k ⟨536 + n.val, by omega⟩) := by
  unfold U
  simp only [hostOps0, hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u2 (c : Dev nD) (k : Fin 1024) (n : Fin 128) : U m c (Proc.devRef .tc main_v16) (ix2 k n) = m ((c : Thread nD τ).loc main_arg2) (ix3 0 k ⟨664 + n.val, by omega⟩) := by
  unfold U
  simp only [hostOps0, hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u3 (c : Dev nD) (k : Fin 1024) (n : Fin 128) : U m c (Proc.devRef .tc main_v17) (ix2 k n) = m ((c : Thread nD τ).loc main_arg2) (ix3 0 k ⟨792 + n.val, by omega⟩) := by
  unfold U
  simp only [hostOps0, hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u4 (c : Dev nD) (k : Fin 1024) (n : Fin 128) : U m c (Proc.devRef .tc main_v18) (ix2 k n) = m ((c : Thread nD τ).loc main_arg2) (ix3 0 k ⟨920 + n.val, by omega⟩) := by
  unfold U
  simp only [hostOps0, hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u5 (c : Dev nD) (k : Fin 1024) (n : Fin 128) : U m c (Proc.devRef .tc main_v19) (ix2 k n) = m ((c : Thread nD τ).loc main_arg2) (ix3 0 k ⟨1048 + n.val, by omega⟩) := by
  unfold U
  simp only [hostOps0, hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u6 (c : Dev nD) (k : Fin 1024) (n : Fin 128) : U m c (Proc.devRef .tc main_v20) (ix2 k n) = m ((c : Thread nD τ).loc main_arg2) (ix3 0 k ⟨1176 + n.val, by omega⟩) := by
  unfold U
  simp only [hostOps0, hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u8 (c : Dev nD) (k : Fin 1024) (n : Fin 512) : U m c (Proc.devRef .tc main_v21) (ix2 k n) = m ((c : Thread nD τ).loc main_arg2) (ix3 0 k ⟨1304 + n.val, by omega⟩) := by
  unfold U
  simp only [hostOps0, hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u9 (c : Dev nD) (k : Fin 1024) (n : Fin 512) : U m c (Proc.devRef .tc main_v22) (ix2 k n) = m ((c : Thread nD τ).loc main_arg2) (ix3 0 k ⟨1816 + n.val, by omega⟩) := by
  unfold U
  simp only [hostOps0, hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u10 (c : Dev nD) (k : Fin 1024) (n : Fin 512) : U m c (Proc.devRef .tc main_v23) (ix2 k n) = m ((c : Thread nD τ).loc main_arg2) (ix3 0 k ⟨2328 + n.val, by omega⟩) := by
  unfold U
  simp only [hostOps0, hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- A plain piece. -/
theorem u11 (c : Dev nD) (k : Fin 1024) (n : Fin 512) : U m c (Proc.devRef .tc main_v24) (ix2 k n) = m ((c : Thread nD τ).loc main_arg2) (ix3 0 k ⟨2840 + n.val, by omega⟩) := by
  unfold U
  simp only [hostOps0, hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact congrFun (arg2_eq m c) _

set_option maxHeartbeats 4000000 in
/-- The paired query columns. -/
theorem u0 (c : Dev nD) (k : Fin 1024) (h : Fin 8) (d : Fin 64) : U m c (Proc.devRef .tc main_v7) (ix2 k ⟨h.val * 64 + d.val, by omega⟩) = m ((c : Thread nD τ).loc main_arg2) (ix3 0 k ⟨(h.val % 2 * 4 + h.val / 2) * 64 + d.val, by omega⟩) := by
  unfold U
  simp only [hostOps0, hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  exact (congrFun (arg2_eq m c) _).trans <| congrArg (fun q => m ((c : Thread nD τ).loc main_arg2) (ix3 0 k q)) (lane_eq _ _ _ _ (by omega))

set_option maxHeartbeats 4000000 in
/-- The gates' columns. -/
theorem u12 (c : Dev nD) (k : Fin 1024) (n : Fin 128) : U m c (Proc.devRef .tc main_v14) (ix2 k n) = if h : n.val < 24 then m ((c : Thread nD τ).loc main_arg2) (ix3 0 k ⟨512 + n.val, by omega⟩) else (0 : EReal) := by
  unfold U
  simp only [hostOps0, hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  split_ifs with a
  · exact congrFun (arg2_eq m c) _
  · exact zero_int

set_option maxHeartbeats 4000000 in
/-- The operations between leave the augmented group alone. -/
theorem keep_a (W : Valuation τ sig (Elt Ideal)) : StableHlo.after (hostOps0_2.take 10) (StableHlo.after hostOps0_1 W) (Proc.devRef .tc main_v12) = W (Proc.devRef .tc main_v12) := by
  simp only [hostOps0_1, hostOps0_2, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp

set_option maxHeartbeats 4000000 in
/-- The augmented columns. -/
theorem u7 (c : Dev nD) (k : Fin 1024) (h : Fin 4) (d : Fin 64) : U m c (Proc.devRef .tc main_v12) (ix2 k ⟨h.val * 64 + d.val, by omega⟩) = if h.val = 0 then m ((c : Thread nD τ).loc main_arg2) (ix3 0 k ⟨792 + d.val, by omega⟩) else if h.val = 3 then m ((c : Thread nD τ).loc main_arg2) (ix3 0 k ⟨856 + d.val, by omega⟩) else (0 : EReal) := by
  unfold U
  rw [keep_a, two 20 hostOps0, augcat_apply, asel]
  simp only [hostOps0, List.take_succ_cons, List.take_zero, List.drop_succ_cons, List.drop_zero, StableHlo.TRef.nullary, StableHlo.TRef.unary, StableHlo.TRef.binary, StableHlo.TRef.ternary, StableHlo.TRef.toBuf, StableHlo.TRef.ofBuf, cast_eq]
  after_results_simp
  pointwise
  split_ifs <;> first
    | (exfalso; omega)
    | exact Ideal.ofBits_zero_f32
    | with_reducible rfl
    | (refine (congrFun (arg2_eq m c) _).trans ?_; exact congrArg (fun q => m ((c : Thread nD τ).loc main_arg2) (ix3 0 k q)) (lane_eq _ _ _ _ (by dsimp only; omega)))
    | (refine (congrFun (arg2_eq m c) _).trans ?_; exact congrArg (fun q => m ((c : Thread nD τ).loc main_arg2) (ix3 0 k q)) (lane_eq _ _ _ _ (by omega)))

set_option maxHeartbeats 4000000 in
/-- The weight's paired query columns. -/
theorem wq_apply (c : Dev nD) (k : Fin 1024) (h : Fin 8) (d : Fin 64) : V m c main_v26 (ix2 k ⟨h.val * 64 + d.val, by omega⟩) = m ((c : Thread nD τ).loc main_arg2) (ix3 0 k ⟨(h.val % 2 * 4 + h.val / 2) * 64 + d.val, by omega⟩) := by
  rw [w_eq, wsel]
  rw [dif_pos (show (h.val * 64 + d.val) < 512 by omega)]
  exact u0 m c k h d

set_option maxHeartbeats 4000000 in
/-- A plain group of the weight's columns. -/
theorem w1_apply (c : Dev nD) (k : Fin 1024) (n : Fin 128) : V m c main_v26 (ix2 k ⟨512 + n.val, by omega⟩) = m ((c : Thread nD τ).loc main_arg2) (ix3 0 k (at' 536 n (by omega))) := by
  rw [w_eq, wsel]
  rw [dif_neg (show ¬ (512 + n.val) < 512 by omega), dif_pos (show (512 + n.val) - 512 < 128 by omega)]
  rw [u1]
  exact congrArg (fun q => m ((c : Thread nD τ).loc main_arg2) (ix3 0 k q)) (lane_eq _ _ _ _ (by dsimp only; omega))

set_option maxHeartbeats 4000000 in
/-- A plain group of the weight's columns. -/
theorem w2_apply (c : Dev nD) (k : Fin 1024) (n : Fin 128) : V m c main_v26 (ix2 k ⟨640 + n.val, by omega⟩) = m ((c : Thread nD τ).loc main_arg2) (ix3 0 k (at' 664 n (by omega))) := by
  rw [w_eq, wsel]
  rw [dif_neg (show ¬ (640 + n.val) < 512 by omega), dif_neg (show ¬ (640 + n.val) - 512 < 128 by omega), dif_pos (show (640 + n.val) - 512 - 128 < 128 by omega)]
  rw [u2]
  exact congrArg (fun q => m ((c : Thread nD τ).loc main_arg2) (ix3 0 k q)) (lane_eq _ _ _ _ (by dsimp only; omega))

set_option maxHeartbeats 4000000 in
/-- A plain group of the weight's columns. -/
theorem w3_apply (c : Dev nD) (k : Fin 1024) (n : Fin 128) : V m c main_v26 (ix2 k ⟨768 + n.val, by omega⟩) = m ((c : Thread nD τ).loc main_arg2) (ix3 0 k (at' 792 n (by omega))) := by
  rw [w_eq, wsel]
  rw [dif_neg (show ¬ (768 + n.val) < 512 by omega), dif_neg (show ¬ (768 + n.val) - 512 < 128 by omega), dif_neg (show ¬ (768 + n.val) - 512 - 128 < 128 by omega), dif_pos (show (768 + n.val) - 512 - 128 - 128 < 128 by omega)]
  rw [u3]
  exact congrArg (fun q => m ((c : Thread nD τ).loc main_arg2) (ix3 0 k q)) (lane_eq _ _ _ _ (by dsimp only; omega))

set_option maxHeartbeats 4000000 in
/-- A plain group of the weight's columns. -/
theorem w4_apply (c : Dev nD) (k : Fin 1024) (n : Fin 128) : V m c main_v26 (ix2 k ⟨896 + n.val, by omega⟩) = m ((c : Thread nD τ).loc main_arg2) (ix3 0 k (at' 920 n (by omega))) := by
  rw [w_eq, wsel]
  rw [dif_neg (show ¬ (896 + n.val) < 512 by omega), dif_neg (show ¬ (896 + n.val) - 512 < 128 by omega), dif_neg (show ¬ (896 + n.val) - 512 - 128 < 128 by omega), dif_neg (show ¬ (896 + n.val) - 512 - 128 - 128 < 128 by omega), dif_pos (show (896 + n.val) - 512 - 128 - 128 - 128 < 128 by omega)]
  rw [u4]
  exact congrArg (fun q => m ((c : Thread nD τ).loc main_arg2) (ix3 0 k q)) (lane_eq _ _ _ _ (by dsimp only; omega))

set_option maxHeartbeats 4000000 in
/-- A plain group of the weight's columns. -/
theorem w5_apply (c : Dev nD) (k : Fin 1024) (n : Fin 128) : V m c main_v26 (ix2 k ⟨1024 + n.val, by omega⟩) = m ((c : Thread nD τ).loc main_arg2) (ix3 0 k (at' 1048 n (by omega))) := by
  rw [w_eq, wsel]
  rw [dif_neg (show ¬ (1024 + n.val) < 512 by omega), dif_neg (show ¬ (1024 + n.val) - 512 < 128 by omega), dif_neg (show ¬ (1024 + n.val) - 512 - 128 < 128 by omega), dif_neg (show ¬ (1024 + n.val) - 512 - 128 - 128 < 128 by omega), dif_neg (show ¬ (1024 + n.val) - 512 - 128 - 128 - 128 < 128 by omega), dif_pos (show (1024 + n.val) - 512 - 128 - 128 - 128 - 128 < 128 by omega)]
  rw [u5]
  exact congrArg (fun q => m ((c : Thread nD τ).loc main_arg2) (ix3 0 k q)) (lane_eq _ _ _ _ (by dsimp only; omega))

set_option maxHeartbeats 4000000 in
/-- A plain group of the weight's columns. -/
theorem w6_apply (c : Dev nD) (k : Fin 1024) (n : Fin 128) : V m c main_v26 (ix2 k ⟨1152 + n.val, by omega⟩) = m ((c : Thread nD τ).loc main_arg2) (ix3 0 k (at' 1176 n (by omega))) := by
  rw [w_eq, wsel]
  rw [dif_neg (show ¬ (1152 + n.val) < 512 by omega), dif_neg (show ¬ (1152 + n.val) - 512 < 128 by omega), dif_neg (show ¬ (1152 + n.val) - 512 - 128 < 128 by omega), dif_neg (show ¬ (1152 + n.val) - 512 - 128 - 128 < 128 by omega), dif_neg (show ¬ (1152 + n.val) - 512 - 128 - 128 - 128 < 128 by omega), dif_neg (show ¬ (1152 + n.val) - 512 - 128 - 128 - 128 - 128 < 128 by omega), dif_pos (show (1152 + n.val) - 512 - 128 - 128 - 128 - 128 - 128 < 128 by omega)]
  rw [u6]
  exact congrArg (fun q => m ((c : Thread nD τ).loc main_arg2) (ix3 0 k q)) (lane_eq _ _ _ _ (by dsimp only; omega))

set_option maxHeartbeats 4000000 in
/-- The weight's augmented columns. -/
theorem wa_apply (c : Dev nD) (k : Fin 1024) (h : Fin 4) (d : Fin 64) : V m c main_v26 (ix2 k ⟨1280 + (h.val * 64 + d.val), by omega⟩) = if h.val = 0 then m ((c : Thread nD τ).loc main_arg2) (ix3 0 k ⟨792 + d.val, by omega⟩) else if h.val = 3 then m ((c : Thread nD τ).loc main_arg2) (ix3 0 k ⟨856 + d.val, by omega⟩) else (0 : EReal) := by
  rw [w_eq, wsel]
  rw [dif_neg (show ¬ (1280 + (h.val * 64 + d.val)) < 512 by omega), dif_neg (show ¬ (1280 + (h.val * 64 + d.val)) - 512 < 128 by omega), dif_neg (show ¬ (1280 + (h.val * 64 + d.val)) - 512 - 128 < 128 by omega), dif_neg (show ¬ (1280 + (h.val * 64 + d.val)) - 512 - 128 - 128 < 128 by omega), dif_neg (show ¬ (1280 + (h.val * 64 + d.val)) - 512 - 128 - 128 - 128 < 128 by omega), dif_neg (show ¬ (1280 + (h.val * 64 + d.val)) - 512 - 128 - 128 - 128 - 128 < 128 by omega), dif_neg (show ¬ (1280 + (h.val * 64 + d.val)) - 512 - 128 - 128 - 128 - 128 - 128 < 128 by omega), dif_pos (show (1280 + (h.val * 64 + d.val)) - 512 - 128 - 128 - 128 - 128 - 128 - 128 < 256 by omega)]
  rw [lane_eq ((1280 + (h.val * 64 + d.val)) - 512 - 128 - 128 - 128 - 128 - 128 - 128) (h.val * 64 + d.val) _ _ (by omega)]
  exact u7 m c k h d

set_option maxHeartbeats 4000000 in
/-- The weight's columns for the recurrence. -/
theorem wh_apply (c : Dev nD) (k : Fin 1024) (n : Fin 2048) : V m c main_v26 (ix2 k ⟨1536 + n.val, by omega⟩) = m ((c : Thread nD τ).loc main_arg2) (ix3 0 k (at' 1304 n (by omega))) := by
  obtain a | a | a | a : n.val < 512 ∨ (512 ≤ n.val ∧ n.val < 1024) ∨ (1024 ≤ n.val ∧ n.val < 1536) ∨ 1536 ≤ n.val := by omega
  · rw [w_eq, wsel]
    rw [dif_neg (show ¬ (1536 + n.val) < 512 by omega), dif_neg (show ¬ (1536 + n.val) - 512 < 128 by omega), dif_neg (show ¬ (1536 + n.val) - 512 - 128 < 128 by omega), dif_neg (show ¬ (1536 + n.val) - 512 - 128 - 128 < 128 by omega), dif_neg (show ¬ (1536 + n.val) - 512 - 128 - 128 - 128 < 128 by omega), dif_neg (show ¬ (1536 + n.val) - 512 - 128 - 128 - 128 - 128 < 128 by omega), dif_neg (show ¬ (1536 + n.val) - 512 - 128 - 128 - 128 - 128 - 128 < 128 by omega), dif_neg (show ¬ (1536 + n.val) - 512 - 128 - 128 - 128 - 128 - 128 - 128 < 256 by omega), dif_pos (show (1536 + n.val) - 512 - 128 - 128 - 128 - 128 - 128 - 128 - 256 < 512 by omega)]
    rw [u8]
    exact congrArg (fun q => m ((c : Thread nD τ).loc main_arg2) (ix3 0 k q)) (lane_eq _ _ _ _ (by dsimp only; omega))
  · rw [w_eq, wsel]
    rw [dif_neg (show ¬ (1536 + n.val) < 512 by omega), dif_neg (show ¬ (1536 + n.val) - 512 < 128 by omega), dif_neg (show ¬ (1536 + n.val) - 512 - 128 < 128 by omega), dif_neg (show ¬ (1536 + n.val) - 512 - 128 - 128 < 128 by omega), dif_neg (show ¬ (1536 + n.val) - 512 - 128 - 128 - 128 < 128 by omega), dif_neg (show ¬ (1536 + n.val) - 512 - 128 - 128 - 128 - 128 < 128 by omega), dif_neg (show ¬ (1536 + n.val) - 512 - 128 - 128 - 128 - 128 - 128 < 128 by omega), dif_neg (show ¬ (1536 + n.val) - 512 - 128 - 128 - 128 - 128 - 128 - 128 < 256 by omega), dif_neg (show ¬ (1536 + n.val) - 512 - 128 - 128 - 128 - 128 - 128 - 128 - 256 < 512 by omega), dif_pos (show (1536 + n.val) - 512 - 128 - 128 - 128 - 128 - 128 - 128 - 256 - 512 < 512 by omega)]
    rw [u9]
    exact congrArg (fun q => m ((c : Thread nD τ).loc main_arg2) (ix3 0 k q)) (lane_eq _ _ _ _ (by dsimp only; omega))
  · rw [w_eq, wsel]
    rw [dif_neg (show ¬ (1536 + n.val) < 512 by omega), dif_neg (show ¬ (1536 + n.val) - 512 < 128 by omega), dif_neg (show ¬ (1536 + n.val) - 512 - 128 < 128 by omega), dif_neg (show ¬ (1536 + n.val) - 512 - 128 - 128 < 128 by omega), dif_neg (show ¬ (1536 + n.val) - 512 - 128 - 128 - 128 < 128 by omega), dif_neg (show ¬ (1536 + n.val) - 512 - 128 - 128 - 128 - 128 < 128 by omega), dif_neg (show ¬ (1536 + n.val) - 512 - 128 - 128 - 128 - 128 - 128 < 128 by omega), dif_neg (show ¬ (1536 + n.val) - 512 - 128 - 128 - 128 - 128 - 128 - 128 < 256 by omega), dif_neg (show ¬ (1536 + n.val) - 512 - 128 - 128 - 128 - 128 - 128 - 128 - 256 < 512 by omega), dif_neg (show ¬ (1536 + n.val) - 512 - 128 - 128 - 128 - 128 - 128 - 128 - 256 - 512 < 512 by omega), dif_pos (show (1536 + n.val) - 512 - 128 - 128 - 128 - 128 - 128 - 128 - 256 - 512 - 512 < 512 by omega)]
    rw [u10]
    exact congrArg (fun q => m ((c : Thread nD τ).loc main_arg2) (ix3 0 k q)) (lane_eq _ _ _ _ (by dsimp only; omega))
  · rw [w_eq, wsel]
    rw [dif_neg (show ¬ (1536 + n.val) < 512 by omega), dif_neg (show ¬ (1536 + n.val) - 512 < 128 by omega), dif_neg (show ¬ (1536 + n.val) - 512 - 128 < 128 by omega), dif_neg (show ¬ (1536 + n.val) - 512 - 128 - 128 < 128 by omega), dif_neg (show ¬ (1536 + n.val) - 512 - 128 - 128 - 128 < 128 by omega), dif_neg (show ¬ (1536 + n.val) - 512 - 128 - 128 - 128 - 128 < 128 by omega), dif_neg (show ¬ (1536 + n.val) - 512 - 128 - 128 - 128 - 128 - 128 < 128 by omega), dif_neg (show ¬ (1536 + n.val) - 512 - 128 - 128 - 128 - 128 - 128 - 128 < 256 by omega), dif_neg (show ¬ (1536 + n.val) - 512 - 128 - 128 - 128 - 128 - 128 - 128 - 256 < 512 by omega), dif_neg (show ¬ (1536 + n.val) - 512 - 128 - 128 - 128 - 128 - 128 - 128 - 256 - 512 < 512 by omega), dif_neg (show ¬ (1536 + n.val) - 512 - 128 - 128 - 128 - 128 - 128 - 128 - 256 - 512 - 512 < 512 by omega), dif_pos (show (1536 + n.val) - 512 - 128 - 128 - 128 - 128 - 128 - 128 - 256 - 512 - 512 - 512 < 512 by omega)]
    rw [u11]
    exact congrArg (fun q => m ((c : Thread nD τ).loc main_arg2) (ix3 0 k q)) (lane_eq _ _ _ _ (by dsimp only; omega))

set_option maxHeartbeats 4000000 in
/-- The weight's columns for the gates. -/
theorem wg_apply (c : Dev nD) (k : Fin 1024) (n : Fin 128) : V m c main_v26 (ix2 k ⟨3584 + n.val, by omega⟩) = if h : n.val < 24 then m ((c : Thread nD τ).loc main_arg2) (ix3 0 k ⟨512 + n.val, by omega⟩) else (0 : EReal) := by
  rw [w_eq, wsel]
  rw [dif_neg (show ¬ (3584 + n.val) < 512 by omega), dif_neg (show ¬ (3584 + n.val) - 512 < 128 by omega), dif_neg (show ¬ (3584 + n.val) - 512 - 128 < 128 by omega), dif_neg (show ¬ (3584 + n.val) - 512 - 128 - 128 < 128 by omega), dif_neg (show ¬ (3584 + n.val) - 512 - 128 - 128 - 128 < 128 by omega), dif_neg (show ¬ (3584 + n.val) - 512 - 128 - 128 - 128 - 128 < 128 by omega), dif_neg (show ¬ (3584 + n.val) - 512 - 128 - 128 - 128 - 128 - 128 < 128 by omega), dif_neg (show ¬ (3584 + n.val) - 512 - 128 - 128 - 128 - 128 - 128 - 128 < 256 by omega), dif_neg (show ¬ (3584 + n.val) - 512 - 128 - 128 - 128 - 128 - 128 - 128 - 256 < 512 by omega), dif_neg (show ¬ (3584 + n.val) - 512 - 128 - 128 - 128 - 128 - 128 - 128 - 256 - 512 < 512 by omega), dif_neg (show ¬ (3584 + n.val) - 512 - 128 - 128 - 128 - 128 - 128 - 128 - 256 - 512 - 512 < 512 by omega), dif_neg (show ¬ (3584 + n.val) - 512 - 128 - 128 - 128 - 128 - 128 - 128 - 256 - 512 - 512 - 512 < 512 by omega)]
  rw [lane_eq ((3584 + n.val) - 512 - 128 - 128 - 128 - 128 - 128 - 128 - 256 - 512 - 512 - 512 - 512) n.val _ _ (by omega)]
  exact u12 m c k n

end Cert.ProjSIdeal.Value

end
-- ==== Proof.ProjS.Table.lean ====
module

public import proofs.«01_k».proof.Proof.Gen.ProjSIdeal.Value
public import proofs.«01_k».proof.Proof.ProjS.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjSIdeal.Value
open Cert.ProjSIdeal Cert.ProjSIdeal.Gen Cert.ProjSRefIdeal.Value Cert.Rope
variable (m : (ℓ : Loc nD τ sig) → Buf (Elt Ideal) ℓ)

/-- A column of the gathered table is the column of the source that the index list names. -/
theorem gat_apply (x : S512x8.Idx → EReal) (idx : IVec S128x1 32) (t : Fin 512) (n : Fin 128) (k : Fin 8) (hk : idx (ix2 n 0) = BitVec.ofNat 32 k.val) :
    Host.gather gather_S512x8_S128x1_S512x128_0_1_n_n_1_1_5121 x idx (ix2 t n) = x (ix2 t k) := by
  unfold Host.gather
  refine congrArg x (funext fun a => Fin.ext ?_)
  show (gather_S512x8_S128x1_S512x128_0_1_n_n_1_1_5121).start (ix2 t n) idx a + (gather_S512x8_S128x1_S512x128_0_1_n_n_1_1_5121).batchCoord (ix2 t n) a + (gather_S512x8_S128x1_S512x128_0_1_n_n_1_1_5121).offCoord (ix2 t n) a = _
  obtain rfl | rfl : a = (0 : Fin 2) ∨ a = (1 : Fin 2) := by
    match a with
    | ⟨0, _⟩ => exact Or.inl rfl
    | ⟨1, _⟩ => exact Or.inr rfl
  · rw [GatherDims.batchCoord_eq_zero _ _ _ List.not_mem_nil]
    unfold GatherDims.start
    rw [dif_neg (show (0 : Fin 2) ∉ (gather_S512x8_S128x1_S512x128_0_1_n_n_1_1_5121).startIndexMap by decide)]
    simp only [Nat.zero_add]
    rfl
  · rw [GatherDims.batchCoord_eq_zero _ _ _ List.not_mem_nil, GatherDims.offCoord_eq_zero _ _ _ (by decide)]
    simp only [Nat.add_zero]
    unfold GatherDims.start
    have e : ∀ q, (gather_S512x8_S128x1_S512x128_0_1_n_n_1_1_5121).siIdx (ix2 t n) q = ix2 n (0 : Fin 1) := fun q => by
      funext b
      match b with
      | ⟨0, _⟩ => rfl
      | ⟨1, _⟩ => exact @Subsingleton.elim (Fin 1) _ _ _
    rw [dif_pos (show (1 : Fin 2) ∈ (gather_S512x8_S128x1_S512x128_0_1_n_n_1_1_5121).startIndexMap by decide), e, hk]
    show min (BitVec.ofNat 32 k.val).toInt.toNat 7 = k.val
    exact (by decide : ∀ k : Fin 8, min (BitVec.ofNat 32 k.val).toInt.toNat 7 = k.val) k

/-- A row's position is the sequence's first plus the row's number within its sequence. -/
theorem posS : ∀ t : Fin 512, IntOp.addi (8192#32) (Scalar.select (IntOp.andi (IntOp.cmpi CmpIPredicate.ne (IntOp.cmpi CmpIPredicate.slt (IntOp.remsi ArithUnit.host (BitVec.ofNat 32 t.val) (Scalar.select (IntOp.cmpi CmpIPredicate.eq (4#32) 0#32) (1#32) (4#32))) 0#32) (IntOp.cmpi CmpIPredicate.slt (Scalar.select (IntOp.cmpi CmpIPredicate.eq (4#32) 0#32) (1#32) (4#32)) 0#32)) (IntOp.cmpi CmpIPredicate.ne (IntOp.remsi ArithUnit.host (BitVec.ofNat 32 t.val) (Scalar.select (IntOp.cmpi CmpIPredicate.eq (4#32) 0#32) (1#32) (4#32))) 0#32)) (IntOp.addi (IntOp.remsi ArithUnit.host (BitVec.ofNat 32 t.val) (Scalar.select (IntOp.cmpi CmpIPredicate.eq (4#32) 0#32) (1#32) (4#32))) (Scalar.select (IntOp.cmpi CmpIPredicate.eq (4#32) 0#32) (1#32) (4#32))) (IntOp.remsi ArithUnit.host (BitVec.ofNat 32 t.val) (Scalar.select (IntOp.cmpi CmpIPredicate.eq (4#32) 0#32) (1#32) (4#32))))
    = IntOp.addi (8192#32) (BitVec.ofNat 32 (t.val % 4)) := by decide +kernel

/-- A choice by a decided bit. -/
theorem sel_if (p : Prop) [Decidable p] (a b : EReal) : Scalar.select (if p then 1#1 else 0#1) a b = if p then a else b := by
  split <;> rfl

/-- The lanes' frequency numbers. -/
theorem lit0_eq : ∀ n : Fin 128, lit0 (S128.rowMajor (ix1 n)) = BitVec.ofNat 32 (n.val % 8) := by decide +kernel
/-- The lanes the cosines fill. -/
theorem lit1_eq : ∀ n : Fin 128, lit1 (S128.rowMajor (ix1 n)) = if n.val % 64 < 16 then 1#1 else 0#1 := by decide +kernel
/-- The lanes the negated sines fill. -/
theorem lit2_eq : ∀ n : Fin 128, lit2 (S128.rowMajor (ix1 n)) = if n.val % 64 < 8 then 1#1 else 0#1 := by decide +kernel
/-- The lanes the sines fill. -/
theorem lit3_eq : ∀ n : Fin 128, lit3 (S128.rowMajor (ix1 n)) = if 8 ≤ n.val % 64 ∧ n.val % 64 < 16 then 1#1 else 0#1 := by decide +kernel

set_option maxHeartbeats 4000000 in
/-- A rotary table at the region's entry. -/
theorem tc_apply (c : Dev nD) (t : Fin 512) (h : Fin 2) (d : Fin 64) : V m c main_v50 (ix2 t (hc (W := 128) 2 rfl h d)) = tC (fun j => Ideal.cos (ANG (ix2 ⟨t.val % 4, by omega⟩ j))) d := by
  delta Gen.V
  simp only [List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, StableHlo.TRef.nullary, StableHlo.TRef.unary, StableHlo.TRef.binary, StableHlo.TRef.ternary, StableHlo.TRef.toBuf, StableHlo.TRef.ofBuf, cast_eq]
  after_results_simp
  after_results_loop
  pointwise [hc]
  rw [lit1_eq, gat_apply _ _ t _ ⟨d.val % 8, by omega⟩ (by pointwise; exact (lit0_eq ⟨h.val * 64 + d.val, by omega⟩).trans (congrArg (BitVec.ofNat 32) (by dsimp only; omega))), sel_if]
  have hd : (h.val * 64 + d.val) % 64 = d.val := by omega
  simp only [hd]
  unfold tC
  by_cases e : d.val < 16
  · rw [if_pos e, if_pos e]
    pointwise [ANG, POS]
    exact congrArg (fun p => Ideal.cos ((FloatOps.sitofp .f32 p : Ideal .f32) * _ : EReal)) (posS t)
  · rw [if_neg e, if_neg e]
    exact Ideal.ofBits_one_f32

set_option maxHeartbeats 4000000 in
/-- A rotary table at the region's entry. -/
theorem ta_apply (c : Dev nD) (t : Fin 512) (h : Fin 2) (d : Fin 64) : V m c main_v57 (ix2 t (hc (W := 128) 2 rfl h d)) = tA (fun j => Ideal.sin (ANG (ix2 ⟨t.val % 4, by omega⟩ j))) d := by
  delta Gen.V
  simp only [List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, StableHlo.TRef.nullary, StableHlo.TRef.unary, StableHlo.TRef.binary, StableHlo.TRef.ternary, StableHlo.TRef.toBuf, StableHlo.TRef.ofBuf, cast_eq]
  after_results_simp
  after_results_loop
  pointwise [hc]
  rw [lit2_eq, gat_apply _ _ t _ ⟨d.val % 8, by omega⟩ (by pointwise; exact (lit0_eq ⟨h.val * 64 + d.val, by omega⟩).trans (congrArg (BitVec.ofNat 32) (by dsimp only; omega))), sel_if]
  have hd : (h.val * 64 + d.val) % 64 = d.val := by omega
  simp only [hd]
  unfold tA
  by_cases e : d.val < 8
  · rw [if_pos e, if_pos e]
    pointwise [ANG, POS]
    exact congrArg (fun p => -Ideal.sin ((FloatOps.sitofp .f32 p : Ideal .f32) * _ : EReal)) (posS t)
  · rw [if_neg e, if_neg e]
    exact Ideal.ofBits_zero_f32

set_option maxHeartbeats 4000000 in
/-- A rotary table at the region's entry. -/
theorem tb_apply (c : Dev nD) (t : Fin 512) (h : Fin 2) (d : Fin 64) : V m c main_v63 (ix2 t (hc (W := 128) 2 rfl h d)) = tB (fun j => Ideal.sin (ANG (ix2 ⟨t.val % 4, by omega⟩ j))) d := by
  delta Gen.V
  simp only [List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, StableHlo.TRef.nullary, StableHlo.TRef.unary, StableHlo.TRef.binary, StableHlo.TRef.ternary, StableHlo.TRef.toBuf, StableHlo.TRef.ofBuf, cast_eq]
  after_results_simp
  after_results_loop
  pointwise [hc]
  rw [lit3_eq, gat_apply _ _ t _ ⟨d.val % 8, by omega⟩ (by pointwise; exact (lit0_eq ⟨h.val * 64 + d.val, by omega⟩).trans (congrArg (BitVec.ofNat 32) (by dsimp only; omega))), sel_if]
  have hd : (h.val * 64 + d.val) % 64 = d.val := by omega
  simp only [hd]
  unfold tB
  by_cases e : 8 ≤ d.val ∧ d.val < 16
  · rw [if_pos e, if_pos e]
    pointwise [ANG, POS]
    exact congrArg (fun p => Ideal.sin ((FloatOps.sitofp .f32 p : Ideal .f32) * _ : EReal)) (posS t)
  · rw [if_neg e, if_neg e]
    exact Ideal.ofBits_zero_f32

end Cert.ProjSIdeal.Value

end
-- ==== Proof.ProjS.Pay.lean ====
module

public import proofs.«01_k».proof.Proof.Gen.ProjSIdeal.Value
public import proofs.«01_k».proof.Proof.ProjS.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjSIdeal.Value
open Cert.ProjSIdeal Cert.ProjSIdeal.Gen Cert.ProjSRefIdeal.Value Cert.Rope

/-- The queries' scale is one eighth. -/
theorem scale_eq  : Ideal.ofBits .f32 0x3E000000#32 = ((1 / 8 : ℝ) : EReal) := by
  simp [Ideal.ofBits, Ideal.ieee, -EReal.coe_mul]; norm_num

/-- The scale is at least zero. -/
theorem scale_nonneg  : 0 ≤ Ideal.ofBits .f32 0x3E000000#32 := by
  rw [scale_eq]; exact_mod_cast (by norm_num : (0 : ℝ) ≤ 1 / 8)

/-- The scale is finite. -/
theorem scale_top  : Ideal.ofBits .f32 0x3E000000#32 ≠ ⊤ := by
  rw [scale_eq]; exact EReal.coe_ne_top _

/-- The normalized block at an index. -/
theorem pay4_apply (x g i k) : k0_pay4 (F := Ideal) x g (ix2 i k) = x (ix2 i k) * Ideal.rsqrt (Ideal.div (∑ k, x (ix2 i k) * x (ix2 i k)) (Ideal.ofBits .f32 0x44800000#32) + Ideal.ofBits .f32 0x358637BD#32) * g (ix2 0 k) := by
  pointwise [k0_pay4]

/-- The normalized block, read through the loads. -/
theorem x23 (x0 x1 x2 x3 x4 x5 x6 i k) : k0_pay23 (F := Ideal) x0 x1 x2 x3 x4 x5 x6 (ix2 i k) = k0_pay4 (F := Ideal) x0 x1 (ix2 i k) := by
  pointwise [k0_pay23, k0_pay4]

/-- A table's block, read through the load. -/
theorem x24 (x0 x1 x2 x3 x4 x5 x6 i k) : k0_pay24 (F := Ideal) x0 x1 x2 x3 x4 x5 x6 (ix2 i k) = x3 (ix2 i k) := by
  pointwise [k0_pay24, k0_pay5]

/-- A table's block, read through the load. -/
theorem x25 (x0 x1 x2 x3 x4 x5 x6 i k) : k0_pay25 (F := Ideal) x0 x1 x2 x3 x4 x5 x6 (ix2 i k) = x4 (ix2 i k) := by
  pointwise [k0_pay25, k0_pay6]

/-- A table's block, read through the load. -/
theorem x26 (x0 x1 x2 x3 x4 x5 x6 i k) : k0_pay26 (F := Ideal) x0 x1 x2 x3 x4 x5 x6 (ix2 i k) = x5 (ix2 i k) := by
  pointwise [k0_pay26, k0_pay7]

/-- A group of the weight's columns, loaded. -/
theorem ld3 (w : Vec Ideal S1024x3712 .bf16) (k : Fin 1024) (n : Fin 512) : View.ld w r0_3 (ix2 k n) = w (ix2 k ⟨n.val, by omega⟩) := by
  pointwise

/-- A group of the weight's columns, loaded. -/
theorem ld5 (w : Vec Ideal S1024x3712 .bf16) (k : Fin 1024) (n : Fin 128) : View.ld w r0_5 (ix2 k n) = w (ix2 k ⟨512 + n.val, by omega⟩) := by
  pointwise

/-- A group of the weight's columns, loaded. -/
theorem ld6 (w : Vec Ideal S1024x3712 .bf16) (k : Fin 1024) (n : Fin 128) : View.ld w r0_6 (ix2 k n) = w (ix2 k ⟨640 + n.val, by omega⟩) := by
  pointwise

/-- A group of the weight's columns, loaded. -/
theorem ld7 (w : Vec Ideal S1024x3712 .bf16) (k : Fin 1024) (n : Fin 128) : View.ld w r0_7 (ix2 k n) = w (ix2 k ⟨768 + n.val, by omega⟩) := by
  pointwise

/-- A group of the weight's columns, loaded. -/
theorem ld8 (w : Vec Ideal S1024x3712 .bf16) (k : Fin 1024) (n : Fin 128) : View.ld w r0_8 (ix2 k n) = w (ix2 k ⟨896 + n.val, by omega⟩) := by
  pointwise

/-- A group of the weight's columns, loaded. -/
theorem ld9 (w : Vec Ideal S1024x3712 .bf16) (k : Fin 1024) (n : Fin 128) : View.ld w r0_9 (ix2 k n) = w (ix2 k ⟨1024 + n.val, by omega⟩) := by
  pointwise

/-- A group of the weight's columns, loaded. -/
theorem ld10 (w : Vec Ideal S1024x3712 .bf16) (k : Fin 1024) (n : Fin 128) : View.ld w r0_10 (ix2 k n) = w (ix2 k ⟨1152 + n.val, by omega⟩) := by
  pointwise

/-- A group of the weight's columns, loaded. -/
theorem ld11 (w : Vec Ideal S1024x3712 .bf16) (k : Fin 1024) (n : Fin 256) : View.ld w r0_11 (ix2 k n) = w (ix2 k ⟨1280 + n.val, by omega⟩) := by
  pointwise

/-- A group of the weight's columns, loaded. -/
theorem ld13 (w : Vec Ideal S1024x3712 .bf16) (k : Fin 1024) (n : Fin 2048) : View.ld w r0_13 (ix2 k n) = w (ix2 k ⟨1536 + n.val, by omega⟩) := by
  pointwise

/-- A group of the weight's columns, loaded. -/
theorem ld15 (w : Vec Ideal S1024x3712 .bf16) (k : Fin 1024) (n : Fin 128) : View.ld w r0_15 (ix2 k n) = w (ix2 k ⟨3584 + n.val, by omega⟩) := by
  pointwise

/-- A plain product's block at an index. -/
theorem pay13_apply (x w i n) : k0_pay13 (F := Ideal) x w (ix2 i n) = ∑ k, x (ix2 i k) * w (ix2 k n) := by
  pointwise [k0_pay13]

/-- A plain product's block at an index. -/
theorem pay14_apply (x w i n) : k0_pay14 (F := Ideal) x w (ix2 i n) = ∑ k, x (ix2 i k) * w (ix2 k n) := by
  pointwise [k0_pay14]

/-- A plain product's block at an index. -/
theorem pay16_apply (x w i n) : k0_pay16 (F := Ideal) x w (ix2 i n) = ∑ k, x (ix2 i k) * w (ix2 k n) := by
  pointwise [k0_pay16]

/-- A plain product's block at an index. -/
theorem pay17_apply (x w i n) : k0_pay17 (F := Ideal) x w (ix2 i n) = ∑ k, x (ix2 i k) * w (ix2 k n) := by
  pointwise [k0_pay17, k0_pay16]

/-- A plain product's block at an index. -/
theorem pay20_apply (x w i n) : k0_pay20 (F := Ideal) x w (ix2 i n) = ∑ k, x (ix2 i k) * w (ix2 k n) := by
  pointwise [k0_pay20]

/-- A plain product's block at an index. -/
theorem pay21_apply (x w i n) : k0_pay21 (F := Ideal) x w (ix2 i n) = ∑ k, x (ix2 i k) * w (ix2 k n) := by
  pointwise [k0_pay21, k0_pay20]

/-- A plain product's block at an index. -/
theorem pay2_apply (x w i n) : k0_pay2 (F := Ideal) x w (ix2 i n) = ∑ k, x (ix2 i k) * w (ix2 k n) := by
  pointwise [k0_pay2]

/-- A plain product's block at an index. -/
theorem pay3_apply (x w i n) : k0_pay3 (F := Ideal) x w (ix2 i n) = ∑ k, x (ix2 i k) * w (ix2 k n) := by
  pointwise [k0_pay3]

/-- The scaled queries' block at an index. -/
theorem pay8_apply (x g w i n) : k0_pay8 (F := Ideal) x g w (ix2 i n) = (∑ k, k0_pay4 (F := Ideal) x g (ix2 i k) * w (ix2 k n)) * Ideal.ofBits .f32 0x3E000000#32 := by
  pointwise [k0_pay8]

/-- The scaled queries' block at an index. -/
theorem pay9_apply (x g w i n) : k0_pay9 (F := Ideal) x g w (ix2 i n) = (∑ k, k0_pay4 (F := Ideal) x g (ix2 i k) * w (ix2 k n)) * Ideal.ofBits .f32 0x3E000000#32 := by
  pointwise [k0_pay9, k0_pay8]

/-- Four copies of 128 lanes side by side: lane `d` of head `h` is lane `d` of the head of the same parity. -/
theorem tile8 (f : Fin 128 → EReal) (h : Fin 8) (d : Fin 64) :
    (if h0 : h.val * 64 + d.val < 128 then f ⟨h.val * 64 + d.val, h0⟩
     else if h1 : h.val * 64 + d.val - 128 < 128 then f ⟨h.val * 64 + d.val - 128, h1⟩
     else if h2 : h.val * 64 + d.val - 128 - 128 < 128 then f ⟨h.val * 64 + d.val - 128 - 128, h2⟩
     else f ⟨h.val * 64 + d.val - 128 - 128 - 128, by omega⟩) = f (hc (W := 128) 2 rfl ⟨h.val % 2, by omega⟩ d) := by
  unfold hc
  split_ifs <;> exact congrArg f (lane_eq _ _ _ _ (by dsimp only; omega))

/-- Two copies of 128 lanes side by side. -/
theorem tile4 (f : Fin 128 → EReal) (h : Fin 4) (d : Fin 64) :
    (if h0 : h.val * 64 + d.val < 128 then f ⟨h.val * 64 + d.val, h0⟩
     else f ⟨h.val * 64 + d.val - 128, by omega⟩) = f (hc (W := 128) 2 rfl ⟨h.val % 2, by omega⟩ d) := by
  unfold hc
  split_ifs <;> exact congrArg f (lane_eq _ _ _ _ (by dsimp only; omega))

/-- The third table repeated for the query heads. -/
theorem pay10_apply (q i) (h : Fin 8) (d : Fin 64) : k0_pay10 (F := Ideal) q (ix2 i (hc (W := 512) 8 rfl h d)) = q (ix2 i (hc (W := 128) 2 rfl ⟨h.val % 2, by omega⟩ d)) := by
  pointwise [k0_pay10, k0_pay7, hc]
  exact tile8 (fun n => q (ix2 i n)) h d

/-- The first two terms of the rotated queries. -/
theorem pay11_apply (x g a b w i) (h : Fin 8) (d : Fin 64) : k0_pay11 (F := Ideal) x g a b w (ix2 i (hc (W := 512) 8 rfl h d)) = k0_pay8 (F := Ideal) x g w (ix2 i (hc (W := 512) 8 rfl h d)) * a (ix2 i (hc (W := 128) 2 rfl ⟨h.val % 2, by omega⟩ d)) + k0_pay8 (F := Ideal) x g w (ix2 i ⟨(h.val * 64 + d.val + 512 - 504) % 512, by omega⟩) * b (ix2 i (hc (W := 128) 2 rfl ⟨h.val % 2, by omega⟩ d)) := by
  pointwise [k0_pay11, k0_pay5, k0_pay6, hc]
  exact congrArg₂ (· + ·) (congrArg₂ (· * ·) rfl (tile8 (fun n => a (ix2 i n)) h d)) (congrArg₂ (· * ·) rfl (tile8 (fun n => b (ix2 i n)) h d))

/-- The rotated queries from their first two terms. -/
theorem pay12_raw (q x p i) (h : Fin 8) (d : Fin 64) : k0_pay12 (F := Ideal) q x p 8#32 (ix2 i (hc (W := 512) 8 rfl h d)) = p (ix2 i (hc (W := 512) 8 rfl h d)) + q (ix2 i ⟨(h.val * 64 + d.val + 512 - 8) % 512, by omega⟩) * x (ix2 i (hc (W := 512) 8 rfl h d)) := by
  pointwise [k0_pay12, hc]

/-- The rotated queries at a lane of a head. -/
theorem pay12_apply (x g c a b w i) (h : Fin 8) (d : Fin 64) (cs sn : Fin 8 → EReal)
    (hC : c (ix2 i (hc (W := 128) 2 rfl ⟨h.val % 2, by omega⟩ d)) = tC cs d) (hA : a (ix2 i (hc (W := 128) 2 rfl ⟨h.val % 2, by omega⟩ d)) = tA sn d) (hB : b (ix2 i (hc (W := 128) 2 rfl ⟨h.val % 2, by omega⟩ d)) = tB sn d) : k0_pay12 (F := Ideal) (k0_pay8 (F := Ideal) x g w) (k0_pay10 (F := Ideal) b) (k0_pay11 (F := Ideal) x g c a w) 8#32 (ix2 i (hc (W := 512) 8 rfl h d))
    = rp (fun e => (∑ k, k0_pay4 (F := Ideal) x g (ix2 i k) * w (ix2 k (hc (W := 512) 8 rfl h e))) * Ideal.ofBits .f32 0x3E000000#32) cs sn d := by
  rw [pay12_raw, pay11_apply, pay10_apply, hC, hA, hB]
  have e := tables (fun e => k0_pay8 (F := Ideal) x g w (ix2 i (hc (W := 512) 8 rfl h e))) cs sn d
    (k0_pay8 (F := Ideal) x g w (ix2 i ⟨(h.val * 64 + d.val + 512 - 504) % 512, by omega⟩))
    (k0_pay8 (F := Ideal) x g w (ix2 i ⟨(h.val * 64 + d.val + 512 - 8) % 512, by omega⟩))
    (fun q => congrArg (fun n => k0_pay8 (F := Ideal) x g w (ix2 i n)) (lane_eq _ _ _ _ (by dsimp only; omega)))
    (fun q => congrArg (fun n => k0_pay8 (F := Ideal) x g w (ix2 i n)) (lane_eq _ _ _ _ (by dsimp only; omega)))
  refine e.trans (congrArg (fun y => rp y cs sn d) (funext fun e => pay8_apply x g w i _))

/-- The three terms of rotated keys. -/
theorem pay15_raw (x c a b w i) (h : Fin 2) (d : Fin 64) : k0_pay15 (F := Ideal) x c a b w (ix2 i (hc (W := 128) 2 rfl h d))
    = (∑ k, x (ix2 i k) * w (ix2 k (hc (W := 128) 2 rfl h d))) * c (ix2 i (hc (W := 128) 2 rfl h d)) + (∑ k, x (ix2 i k) * w (ix2 k ⟨(h.val * 64 + d.val + 128 - 120) % 128, by omega⟩)) * a (ix2 i (hc (W := 128) 2 rfl h d)) + (∑ k, x (ix2 i k) * w (ix2 k ⟨(h.val * 64 + d.val + 128 - 8) % 128, by omega⟩)) * b (ix2 i (hc (W := 128) 2 rfl h d)) := by
  pointwise [k0_pay15, hc]

/-- Rotated keys at a lane of a head. -/
theorem pay15_apply (x c a b w i) (h : Fin 2) (d : Fin 64) (cs sn : Fin 8 → EReal)
    (hC : c (ix2 i (hc (W := 128) 2 rfl h d)) = tC cs d) (hA : a (ix2 i (hc (W := 128) 2 rfl h d)) = tA sn d) (hB : b (ix2 i (hc (W := 128) 2 rfl h d)) = tB sn d) : k0_pay15 (F := Ideal) x c a b w (ix2 i (hc (W := 128) 2 rfl h d))
    = rp (fun e => ∑ k, x (ix2 i k) * w (ix2 k (hc (W := 128) 2 rfl h e))) cs sn d := by
  rw [pay15_raw, hC, hA, hB]
  exact tables (fun e => ∑ k, x (ix2 i k) * w (ix2 k (hc (W := 128) 2 rfl h e))) cs sn d _ _
    (fun q => congrArg (fun n : Fin 128 => ∑ k, x (ix2 i k) * w (ix2 k n)) (lane_eq _ _ _ _ (by dsimp only; omega)))
    (fun q => congrArg (fun n : Fin 128 => ∑ k, x (ix2 i k) * w (ix2 k n)) (lane_eq _ _ _ _ (by dsimp only; omega)))

/-- The three terms of rotated keys. -/
theorem pay18_raw (x c a b w i) (h : Fin 2) (d : Fin 64) : k0_pay18 (F := Ideal) x c a b w (ix2 i (hc (W := 128) 2 rfl h d))
    = (∑ k, x (ix2 i k) * w (ix2 k (hc (W := 128) 2 rfl h d))) * c (ix2 i (hc (W := 128) 2 rfl h d)) + (∑ k, x (ix2 i k) * w (ix2 k ⟨(h.val * 64 + d.val + 128 - 120) % 128, by omega⟩)) * a (ix2 i (hc (W := 128) 2 rfl h d)) + (∑ k, x (ix2 i k) * w (ix2 k ⟨(h.val * 64 + d.val + 128 - 8) % 128, by omega⟩)) * b (ix2 i (hc (W := 128) 2 rfl h d)) := by
  pointwise [k0_pay18, hc]

/-- Rotated keys at a lane of a head. -/
theorem pay18_apply (x c a b w i) (h : Fin 2) (d : Fin 64) (cs sn : Fin 8 → EReal)
    (hC : c (ix2 i (hc (W := 128) 2 rfl h d)) = tC cs d) (hA : a (ix2 i (hc (W := 128) 2 rfl h d)) = tA sn d) (hB : b (ix2 i (hc (W := 128) 2 rfl h d)) = tB sn d) : k0_pay18 (F := Ideal) x c a b w (ix2 i (hc (W := 128) 2 rfl h d))
    = rp (fun e => ∑ k, x (ix2 i k) * w (ix2 k (hc (W := 128) 2 rfl h e))) cs sn d := by
  rw [pay18_raw, hC, hA, hB]
  exact tables (fun e => ∑ k, x (ix2 i k) * w (ix2 k (hc (W := 128) 2 rfl h e))) cs sn d _ _
    (fun q => congrArg (fun n : Fin 128 => ∑ k, x (ix2 i k) * w (ix2 k n)) (lane_eq _ _ _ _ (by dsimp only; omega)))
    (fun q => congrArg (fun n : Fin 128 => ∑ k, x (ix2 i k) * w (ix2 k n)) (lane_eq _ _ _ _ (by dsimp only; omega)))

/-- The three terms of rotated keys. -/
theorem pay19_raw (x c a b w i) (h : Fin 2) (d : Fin 64) : k0_pay19 (F := Ideal) x c a b w (ix2 i (hc (W := 128) 2 rfl h d))
    = (∑ k, x (ix2 i k) * w (ix2 k (hc (W := 128) 2 rfl h d))) * c (ix2 i (hc (W := 128) 2 rfl h d)) + (∑ k, x (ix2 i k) * w (ix2 k ⟨(h.val * 64 + d.val + 128 - 120) % 128, by omega⟩)) * a (ix2 i (hc (W := 128) 2 rfl h d)) + (∑ k, x (ix2 i k) * w (ix2 k ⟨(h.val * 64 + d.val + 128 - 8) % 128, by omega⟩)) * b (ix2 i (hc (W := 128) 2 rfl h d)) := by
  pointwise [k0_pay19, k0_pay18, hc]

/-- Rotated keys at a lane of a head. -/
theorem pay19_apply (x c a b w i) (h : Fin 2) (d : Fin 64) (cs sn : Fin 8 → EReal)
    (hC : c (ix2 i (hc (W := 128) 2 rfl h d)) = tC cs d) (hA : a (ix2 i (hc (W := 128) 2 rfl h d)) = tA sn d) (hB : b (ix2 i (hc (W := 128) 2 rfl h d)) = tB sn d) : k0_pay19 (F := Ideal) x c a b w (ix2 i (hc (W := 128) 2 rfl h d))
    = rp (fun e => ∑ k, x (ix2 i k) * w (ix2 k (hc (W := 128) 2 rfl h e))) cs sn d := by
  rw [pay19_raw, hC, hA, hB]
  exact tables (fun e => ∑ k, x (ix2 i k) * w (ix2 k (hc (W := 128) 2 rfl h e))) cs sn d _ _
    (fun q => congrArg (fun n : Fin 128 => ∑ k, x (ix2 i k) * w (ix2 k n)) (lane_eq _ _ _ _ (by dsimp only; omega)))
    (fun q => congrArg (fun n : Fin 128 => ∑ k, x (ix2 i k) * w (ix2 k n)) (lane_eq _ _ _ _ (by dsimp only; omega)))

/-- The three terms of rotated keys. -/
theorem pay22_raw (x c a b w i) (h : Fin 4) (d : Fin 64) : k0_pay22 (F := Ideal) x c a b w (ix2 i (hc (W := 256) 4 rfl h d))
    = (∑ k, x (ix2 i k) * w (ix2 k (hc (W := 256) 4 rfl h d))) * c (ix2 i (hc (W := 128) 2 rfl ⟨h.val % 2, by omega⟩ d)) + (∑ k, x (ix2 i k) * w (ix2 k ⟨(h.val * 64 + d.val + 256 - 248) % 256, by omega⟩)) * a (ix2 i (hc (W := 128) 2 rfl ⟨h.val % 2, by omega⟩ d)) + (∑ k, x (ix2 i k) * w (ix2 k ⟨(h.val * 64 + d.val + 256 - 8) % 256, by omega⟩)) * b (ix2 i (hc (W := 128) 2 rfl ⟨h.val % 2, by omega⟩ d)) := by
  pointwise [k0_pay22, hc]
  exact congrArg₂ (· + ·) (congrArg₂ (· + ·) (congrArg₂ (· * ·) rfl (tile4 (fun n => c (ix2 i n)) h d)) (congrArg₂ (· * ·) rfl (tile4 (fun n => a (ix2 i n)) h d))) (congrArg₂ (· * ·) rfl (tile4 (fun n => b (ix2 i n)) h d))

/-- Rotated keys at a lane of a head. -/
theorem pay22_apply (x c a b w i) (h : Fin 4) (d : Fin 64) (cs sn : Fin 8 → EReal)
    (hC : c (ix2 i (hc (W := 128) 2 rfl ⟨h.val % 2, by omega⟩ d)) = tC cs d) (hA : a (ix2 i (hc (W := 128) 2 rfl ⟨h.val % 2, by omega⟩ d)) = tA sn d) (hB : b (ix2 i (hc (W := 128) 2 rfl ⟨h.val % 2, by omega⟩ d)) = tB sn d) : k0_pay22 (F := Ideal) x c a b w (ix2 i (hc (W := 256) 4 rfl h d))
    = rp (fun e => ∑ k, x (ix2 i k) * w (ix2 k (hc (W := 256) 4 rfl h e))) cs sn d := by
  rw [pay22_raw, hC, hA, hB]
  exact tables (fun e => ∑ k, x (ix2 i k) * w (ix2 k (hc (W := 256) 4 rfl h e))) cs sn d _ _
    (fun q => congrArg (fun n : Fin 256 => ∑ k, x (ix2 i k) * w (ix2 k n)) (lane_eq _ _ _ _ (by dsimp only; omega)))
    (fun q => congrArg (fun n : Fin 256 => ∑ k, x (ix2 i k) * w (ix2 k n)) (lane_eq _ _ _ _ (by dsimp only; omega)))

/-- The keys beside the block rows at an index. -/
theorem pay1_apply (y z i n) : k0_pay1 (F := Ideal) y z (ix2 i n) = y (ix2 i n) + z (ix2 i n) := by
  pointwise [k0_pay1]

end Cert.ProjSIdeal.Value

end
-- ==== Proof.ProjS.Hot.lean ====
module

public import proofs.«01_k».proof.Proof.Gen.ProjSIdeal.Value
public import proofs.«01_k».proof.Proof.ProjS.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjSIdeal.Value
open Cert.ProjSIdeal Cert.ProjSIdeal.Gen Cert.ProjSRefIdeal.Value Cert.Rope
variable (m : (ℓ : Loc nD τ sig) → Buf (Elt Ideal) ℓ)

set_option maxHeartbeats 4000000 in
/-- The block rows at the region's entry: the samples have none. -/
theorem oh_apply (c : Dev nD) (t : Fin 512) (h : Fin 4) (d : Fin 64) : V m c main_v64 (ix2 t (hc (W := 256) 4 rfl h d)) = if h.val = 0 then 0 else if h.val = 3 then 0 else HOT (ix2 ⟨t.val % 4, by omega⟩ d) := by
  delta Gen.V
  simp only [List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, StableHlo.TRef.nullary, StableHlo.TRef.unary, StableHlo.TRef.binary, StableHlo.TRef.ternary, StableHlo.TRef.toBuf, StableHlo.TRef.ofBuf, cast_eq]
  after_results_simp
  after_results_loop
  pointwise [HOT]
  split_ifs <;> rfl

end Cert.ProjSIdeal.Value

end
-- ==== Proof.ProjS.Value.lean ====
module

public import proofs.«01_k».proof.Proof.ProjS.Weight
public import proofs.«01_k».proof.Proof.ProjS.Table
public import proofs.«01_k».proof.Proof.ProjS.Pay
public import proofs.«01_k».proof.Proof.ProjS.Hot
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjSIdeal.Value
open Cert.ProjSIdeal Cert.ProjSIdeal.Gen Cert.ProjSRefIdeal.Value Cert.Rope
variable (m : (ℓ : Loc nD τ sig) → Buf (Elt Ideal) ℓ)

/-- A window's block index at every grid point. -/
theorem idx0 : ∀ t : Fin cfg0.N, win0_0.index t = ![t.val, 0] :=
  (by decide +kernel : ∀ t : Fin grid0.N, _)
/-- A window's block index at every grid point. -/
theorem idx1 : ∀ t : Fin cfg0.N, win0_1.index t = ![0, 0] :=
  (by decide +kernel : ∀ t : Fin grid0.N, _)
/-- A window's block index at every grid point. -/
theorem idx2 : ∀ t : Fin cfg0.N, win0_2.index t = ![0, 0] :=
  (by decide +kernel : ∀ t : Fin grid0.N, _)
/-- A window's block index at every grid point. -/
theorem idx3 : ∀ t : Fin cfg0.N, win0_3.index t = ![0, 0] :=
  (by decide +kernel : ∀ t : Fin grid0.N, _)
/-- A window's block index at every grid point. -/
theorem idx4 : ∀ t : Fin cfg0.N, win0_4.index t = ![0, 0] :=
  (by decide +kernel : ∀ t : Fin grid0.N, _)
/-- A window's block index at every grid point. -/
theorem idx5 : ∀ t : Fin cfg0.N, win0_5.index t = ![0, 0] :=
  (by decide +kernel : ∀ t : Fin grid0.N, _)
/-- A window's block index at every grid point. -/
theorem idx6 : ∀ t : Fin cfg0.N, win0_6.index t = ![0, 0] :=
  (by decide +kernel : ∀ t : Fin grid0.N, _)
/-- A window's block index at every grid point. -/
theorem idx7 : ∀ t : Fin cfg0.N, win0_7.index t = ![t.val, 0] :=
  (by decide +kernel : ∀ t : Fin grid0.N, _)
/-- A window's block index at every grid point. -/
theorem idx8 : ∀ t : Fin cfg0.N, win0_8.index t = ![t.val, 0] :=
  (by decide +kernel : ∀ t : Fin grid0.N, _)
/-- A window's block index at every grid point. -/
theorem idx9 : ∀ t : Fin cfg0.N, win0_9.index t = ![t.val, 0] :=
  (by decide +kernel : ∀ t : Fin grid0.N, _)
/-- A window's block index at every grid point. -/
theorem idx10 : ∀ t : Fin cfg0.N, win0_10.index t = ![t.val, 0] :=
  (by decide +kernel : ∀ t : Fin grid0.N, _)
/-- A window's block index at every grid point. -/
theorem idx11 : ∀ t : Fin cfg0.N, win0_11.index t = ![t.val, 0] :=
  (by decide +kernel : ∀ t : Fin grid0.N, _)
/-- A window's block index at every grid point. -/
theorem idx12 : ∀ t : Fin cfg0.N, win0_12.index t = ![t.val, 0] :=
  (by decide +kernel : ∀ t : Fin grid0.N, _)
/-- A window's block index at every grid point. -/
theorem idx13 : ∀ t : Fin cfg0.N, win0_13.index t = ![t.val, 0] :=
  (by decide +kernel : ∀ t : Fin grid0.N, _)
/-- A window's block index at every grid point. -/
theorem idx14 : ∀ t : Fin cfg0.N, win0_14.index t = ![t.val, 0] :=
  (by decide +kernel : ∀ t : Fin grid0.N, _)
/-- A window's block index at every grid point. -/
theorem idx15 : ∀ t : Fin cfg0.N, win0_15.index t = ![t.val, 0] :=
  (by decide +kernel : ∀ t : Fin grid0.N, _)
/-- A window's block index at every grid point. -/
theorem idx16 : ∀ t : Fin cfg0.N, win0_16.index t = ![t.val, 0] :=
  (by decide +kernel : ∀ t : Fin grid0.N, _)
/-- A window's block index at every grid point. -/
theorem idx17 : ∀ t : Fin cfg0.N, win0_17.index t = ![t.val, 0] :=
  (by decide +kernel : ∀ t : Fin grid0.N, _)
/-- A window's block index at every grid point. -/
theorem idx18 : ∀ t : Fin cfg0.N, win0_18.index t = ![t.val, 0] :=
  (by decide +kernel : ∀ t : Fin grid0.N, _)
/-- A window's block index at every grid point. -/
theorem idx19 : ∀ t : Fin cfg0.N, win0_19.index t = ![t.val, 0] :=
  (by decide +kernel : ∀ t : Fin grid0.N, _)
/-- A window's block index at every grid point. -/
theorem idx20 : ∀ t : Fin cfg0.N, win0_20.index t = ![t.val, 0] :=
  (by decide +kernel : ∀ t : Fin grid0.N, _)

/-- The row of the array a block row stands at. -/
theorem rowOf (t : Fin cfg0.N) (i : Fin 512) : ∃ r : Fin 512, r.val = t.val * 512 + i.val :=
  ⟨⟨t.val * 512 + i.val, by have := lt_of_lt_of_eq t.isLt N_0; omega⟩, rfl⟩

/-- The rows' block. -/
theorem blk0 (c : Dev nD) (t : Fin cfg0.N) (i : Fin 512) (r : Fin 512) (hr : r.val = t.val * 512 + i.val) (k : Fin 1024) : iblk m c 0 t (ix2 i k) = (m ((c : Thread nD τ).loc main_arg0)) (ix3 ⟨r.val / 4, by omega⟩ ⟨r.val % 4, by omega⟩ k) :=
  Eq.trans (b := V m c main_v0 (ix2 r k)) (by blk_ext [iblk, idx0 t, hr]) (x_apply m c r k)
/-- The gains' block. -/
theorem blk1 (c : Dev nD) (t : Fin cfg0.N) (k : Fin 1024) : iblk m c 1 t (ix2 0 k) = (m ((c : Thread nD τ).loc main_arg1)) (ix2 0 k) :=
  Eq.trans (b := V m c main_v2 (ix2 0 k)) (by blk_ext [iblk, idx1 t]) (g_apply m c k)
/-- The weight's block. -/
theorem blk2 (c : Dev nD) (t : Fin cfg0.N) (k : Fin 1024) (n : Fin 3712) : iblk m c 2 t (ix2 k n) = V m c main_v26 (ix2 k n) := by
  blk_ext [iblk, idx2 t]
/-- A table's block. -/
theorem blk3 (c : Dev nD) (t : Fin cfg0.N) (i : Fin 512) (r : Fin 512) (hr : r.val = t.val * 512 + i.val) (h : Fin 2) (d : Fin 64) : iblk m c 3 t (ix2 i (hc (W := 128) 2 rfl h d)) = tC (fun j => Ideal.cos (ANG (ix2 ⟨r.val % 4, by omega⟩ j))) d := by
  have ht : t.val = 0 := by have := lt_of_lt_of_eq t.isLt N_0; omega
  have hr : r.val = i.val := by omega
  refine Eq.trans (b := V m c main_v50 (ix2 r (hc (W := 128) 2 rfl h d))) (by blk_ext [iblk, idx3 t, hr]) ?_
  exact tc_apply m c r h d

/-- A table's block. -/
theorem blk4 (c : Dev nD) (t : Fin cfg0.N) (i : Fin 512) (r : Fin 512) (hr : r.val = t.val * 512 + i.val) (h : Fin 2) (d : Fin 64) : iblk m c 4 t (ix2 i (hc (W := 128) 2 rfl h d)) = tA (fun j => Ideal.sin (ANG (ix2 ⟨r.val % 4, by omega⟩ j))) d := by
  have ht : t.val = 0 := by have := lt_of_lt_of_eq t.isLt N_0; omega
  have hr : r.val = i.val := by omega
  refine Eq.trans (b := V m c main_v57 (ix2 r (hc (W := 128) 2 rfl h d))) (by blk_ext [iblk, idx4 t, hr]) ?_
  exact ta_apply m c r h d

/-- A table's block. -/
theorem blk5 (c : Dev nD) (t : Fin cfg0.N) (i : Fin 512) (r : Fin 512) (hr : r.val = t.val * 512 + i.val) (h : Fin 2) (d : Fin 64) : iblk m c 5 t (ix2 i (hc (W := 128) 2 rfl h d)) = tB (fun j => Ideal.sin (ANG (ix2 ⟨r.val % 4, by omega⟩ j))) d := by
  have ht : t.val = 0 := by have := lt_of_lt_of_eq t.isLt N_0; omega
  have hr : r.val = i.val := by omega
  refine Eq.trans (b := V m c main_v63 (ix2 r (hc (W := 128) 2 rfl h d))) (by blk_ext [iblk, idx5 t, hr]) ?_
  exact tb_apply m c r h d

/-- The block rows' block. -/
theorem blk6 (c : Dev nD) (t : Fin cfg0.N) (i : Fin 512) (r : Fin 512) (hr : r.val = t.val * 512 + i.val) (h : Fin 4) (d : Fin 64) : iblk m c 6 t (ix2 i (hc (W := 256) 4 rfl h d)) = if h.val = 0 then 0 else if h.val = 3 then 0 else HOT (ix2 ⟨r.val % 4, by omega⟩ d) := by
  have ht : t.val = 0 := by have := lt_of_lt_of_eq t.isLt N_0; omega
  have hr : r.val = i.val := by omega
  refine Eq.trans (b := V m c main_v64 (ix2 r (hc (W := 256) 4 rfl h d))) (by blk_ext [iblk, idx6 t, hr]) ?_
  exact oh_apply m c r h d

/-- A projected column of a block is the reference's at the row there. -/
theorem plain (c : Dev nD) (t : Fin cfg0.N) (i : Fin 512) (r : Fin 512) (hr : r.val = t.val * 512 + i.val) (w : Fin 1024 → EReal) (j : Fin 3352)
    (hw : ∀ k, w k = (m ((c : Thread nD τ).loc main_arg2)) (ix3 0 k j)) : ∑ k, k0_pay4 (F := Ideal) (iblk m c 0 t) (iblk m c 1 t) (ix2 i k) * w k = (MM (RMS (m ((c : Thread nD τ).loc main_arg0)) (m ((c : Thread nD τ).loc main_arg1))) (m ((c : Thread nD τ).loc main_arg2))) (ix3 ⟨r.val / 4, by omega⟩ ⟨r.val % 4, by omega⟩ j) := by
  rw [lin_apply]
  have e0 := fun k => blk0 m c t i r hr k
  simp only [pay4_apply, e0, blk1, hw]
  rfl

/-- The same of the normalized block read through the loads. -/
theorem plain23 (c : Dev nD) (t : Fin cfg0.N) (i : Fin 512) (r : Fin 512) (hr : r.val = t.val * 512 + i.val) (w : Fin 1024 → EReal) (j : Fin 3352)
    (hw : ∀ k, w k = (m ((c : Thread nD τ).loc main_arg2)) (ix3 0 k j)) : ∑ k, k0_pay23 (F := Ideal) (iblk m c 0 t) (iblk m c 1 t) (iblk m c 2 t) (iblk m c 3 t) (iblk m c 4 t) (iblk m c 5 t) (iblk m c 6 t) (ix2 i k) * w k = (MM (RMS (m ((c : Thread nD τ).loc main_arg0)) (m ((c : Thread nD τ).loc main_arg1))) (m ((c : Thread nD τ).loc main_arg2))) (ix3 ⟨r.val / 4, by omega⟩ ⟨r.val % 4, by omega⟩ j) := by
  simp only [x23]
  exact plain m c t i r hr w j hw

/-- A zero column projects to zero. -/
theorem zero23 (c : Dev nD) (t : Fin cfg0.N) (i : Fin 512) (w : Fin 1024 → EReal) (hw : ∀ k, w k = 0) : ∑ k, k0_pay23 (F := Ideal) (iblk m c 0 t) (iblk m c 1 t) (iblk m c 2 t) (iblk m c 3 t) (iblk m c 4 t) (iblk m c 5 t) (iblk m c 6 t) (ix2 i k) * w k = 0 := by
  refine Finset.sum_eq_zero fun k _ => ?_
  rw [hw k, mul_zero]

/-- The rotary embedding of zeros is zero. -/
theorem rp_zero (cs sn : Fin 8 → EReal) (d : Fin 64) : rp (fun _ => 0) cs sn d = 0 := by
  unfold rp
  split_ifs <;> simp

/-- The stored value at an index. -/
theorem cut_apply (Y) (r : Fin 512) (n : Fin 128) : CUT Y (ix2 r n) = Y (ix2 r n) := by
  pointwise [CUT]

/-- Where a block of a result lies. -/
theorem emb7 (t : Fin cfg0.N) (i : Fin 512) (n : Fin 512) (r : Fin 512) (hr : r.val = t.val * 512 + i.val) :
    ((cfg0.win 7).blk t).view.emb (ix2 i n) = ix2 r n := by
  funext k
  match k with
  | ⟨0, _⟩ => refine Fin.ext ?_; blk_simp [idx7 t, hr]
  | ⟨1, _⟩ => refine Fin.ext ?_; blk_simp [idx7 t]

/-- Where a block of a result lies. -/
theorem emb8 (t : Fin cfg0.N) (i : Fin 512) (n : Fin 512) (r : Fin 512) (hr : r.val = t.val * 512 + i.val) :
    ((cfg0.win 8).blk t).view.emb (ix2 i n) = ix2 r n := by
  funext k
  match k with
  | ⟨0, _⟩ => refine Fin.ext ?_; blk_simp [idx8 t, hr]
  | ⟨1, _⟩ => refine Fin.ext ?_; blk_simp [idx8 t]

/-- Where a block of a result lies. -/
theorem emb9 (t : Fin cfg0.N) (i : Fin 512) (n : Fin 128) (r : Fin 512) (hr : r.val = t.val * 512 + i.val) :
    ((cfg0.win 9).blk t).view.emb (ix2 i n) = ix2 r n := by
  funext k
  match k with
  | ⟨0, _⟩ => refine Fin.ext ?_; blk_simp [idx9 t, hr]
  | ⟨1, _⟩ => refine Fin.ext ?_; blk_simp [idx9 t]

/-- Where a block of a result lies. -/
theorem emb10 (t : Fin cfg0.N) (i : Fin 512) (n : Fin 128) (r : Fin 512) (hr : r.val = t.val * 512 + i.val) :
    ((cfg0.win 10).blk t).view.emb (ix2 i n) = ix2 r n := by
  funext k
  match k with
  | ⟨0, _⟩ => refine Fin.ext ?_; blk_simp [idx10 t, hr]
  | ⟨1, _⟩ => refine Fin.ext ?_; blk_simp [idx10 t]

/-- Where a block of a result lies. -/
theorem emb11 (t : Fin cfg0.N) (i : Fin 512) (n : Fin 128) (r : Fin 512) (hr : r.val = t.val * 512 + i.val) :
    ((cfg0.win 11).blk t).view.emb (ix2 i n) = ix2 r n := by
  funext k
  match k with
  | ⟨0, _⟩ => refine Fin.ext ?_; blk_simp [idx11 t, hr]
  | ⟨1, _⟩ => refine Fin.ext ?_; blk_simp [idx11 t]

/-- Where a block of a result lies. -/
theorem emb12 (t : Fin cfg0.N) (i : Fin 512) (n : Fin 128) (r : Fin 512) (hr : r.val = t.val * 512 + i.val) :
    ((cfg0.win 12).blk t).view.emb (ix2 i n) = ix2 r n := by
  funext k
  match k with
  | ⟨0, _⟩ => refine Fin.ext ?_; blk_simp [idx12 t, hr]
  | ⟨1, _⟩ => refine Fin.ext ?_; blk_simp [idx12 t]

/-- Where a block of a result lies. -/
theorem emb13 (t : Fin cfg0.N) (i : Fin 512) (n : Fin 128) (r : Fin 512) (hr : r.val = t.val * 512 + i.val) :
    ((cfg0.win 13).blk t).view.emb (ix2 i n) = ix2 r n := by
  funext k
  match k with
  | ⟨0, _⟩ => refine Fin.ext ?_; blk_simp [idx13 t, hr]
  | ⟨1, _⟩ => refine Fin.ext ?_; blk_simp [idx13 t]

/-- Where a block of a result lies. -/
theorem emb14 (t : Fin cfg0.N) (i : Fin 512) (n : Fin 128) (r : Fin 512) (hr : r.val = t.val * 512 + i.val) :
    ((cfg0.win 14).blk t).view.emb (ix2 i n) = ix2 r n := by
  funext k
  match k with
  | ⟨0, _⟩ => refine Fin.ext ?_; blk_simp [idx14 t, hr]
  | ⟨1, _⟩ => refine Fin.ext ?_; blk_simp [idx14 t]

/-- Where a block of a result lies. -/
theorem emb15 (t : Fin cfg0.N) (i : Fin 512) (n : Fin 256) (r : Fin 512) (hr : r.val = t.val * 512 + i.val) :
    ((cfg0.win 15).blk t).view.emb (ix2 i n) = ix2 r n := by
  funext k
  match k with
  | ⟨0, _⟩ => refine Fin.ext ?_; blk_simp [idx15 t, hr]
  | ⟨1, _⟩ => refine Fin.ext ?_; blk_simp [idx15 t]

/-- Where a block of a result lies. -/
theorem emb16 (t : Fin cfg0.N) (i : Fin 512) (n : Fin 128) (r : Fin 512) (hr : r.val = t.val * 512 + i.val) :
    ((cfg0.win 16).blk t).view.emb (ix2 i n) = ix2 r n := by
  funext k
  match k with
  | ⟨0, _⟩ => refine Fin.ext ?_; blk_simp [idx16 t, hr]
  | ⟨1, _⟩ => refine Fin.ext ?_; blk_simp [idx16 t]

/-- Where a block of a result lies. -/
theorem emb17 (t : Fin cfg0.N) (i : Fin 512) (n : Fin 128) (r : Fin 512) (hr : r.val = t.val * 512 + i.val) :
    ((cfg0.win 17).blk t).view.emb (ix2 i n) = ix2 r n := by
  funext k
  match k with
  | ⟨0, _⟩ => refine Fin.ext ?_; blk_simp [idx17 t, hr]
  | ⟨1, _⟩ => refine Fin.ext ?_; blk_simp [idx17 t]

/-- Where a block of a result lies. -/
theorem emb18 (t : Fin cfg0.N) (i : Fin 512) (n : Fin 128) (r : Fin 512) (hr : r.val = t.val * 512 + i.val) :
    ((cfg0.win 18).blk t).view.emb (ix2 i n) = ix2 r n := by
  funext k
  match k with
  | ⟨0, _⟩ => refine Fin.ext ?_; blk_simp [idx18 t, hr]
  | ⟨1, _⟩ => refine Fin.ext ?_; blk_simp [idx18 t]

/-- Where a block of a result lies. -/
theorem emb19 (t : Fin cfg0.N) (i : Fin 512) (n : Fin 2048) (r : Fin 512) (hr : r.val = t.val * 512 + i.val) :
    ((cfg0.win 19).blk t).view.emb (ix2 i n) = ix2 r n := by
  funext k
  match k with
  | ⟨0, _⟩ => refine Fin.ext ?_; blk_simp [idx19 t, hr]
  | ⟨1, _⟩ => refine Fin.ext ?_; blk_simp [idx19 t]

/-- Where a block of a result lies. -/
theorem emb20 (t : Fin cfg0.N) (i : Fin 512) (n : Fin 128) (r : Fin 512) (hr : r.val = t.val * 512 + i.val) :
    ((cfg0.win 20).blk t).view.emb (ix2 i n) = ix2 r n := by
  funext k
  match k with
  | ⟨0, _⟩ => refine Fin.ext ?_; blk_simp [idx20 t, hr]
  | ⟨1, _⟩ => refine Fin.ext ?_; blk_simp [idx20 t]

set_option maxHeartbeats 4000000 in
/-- A result after the run is the reference's function of the arguments. -/
theorem final7 (c : Dev nD) : (dats m 0 c).arrAt 7 (cfgs 0).N = RANK (Q (MM (RMS (m ((c : Thread nD τ).loc main_arg0)) (m ((c : Thread nD τ).loc main_arg1))) (m ((c : Thread nD τ).loc main_arg2)))) := by
  refine (dats m 0 c).arrAt_eq_of_covers 7 _ (by decide +kernel) fun t _ y => ?_
  blk_simp
  rw [after0_7]; frame_out
  obtain ⟨i, n, rfl⟩ : ∃ i n, y = ix2 i n := ⟨_, _, eq_ix2 y⟩
  obtain ⟨r, hr⟩ := rowOf t i
  rw [emb7 t i n r hr]
  obtain ⟨h, d, rfl⟩ := heads 8 rfl n
  rw [rank_apply, q_apply]
  refine (pay9_apply _ _ _ i _).trans (congrArg (· * Ideal.ofBits .f32 0x3E000000#32) ?_)
  exact plain m c t i r hr _ _ (fun k => (ld3 _ k _).trans ((blk2 m c t k _).trans ((wq_apply m c k h d).trans (congrArg (fun q => (m ((c : Thread nD τ).loc main_arg2)) (ix3 0 k q)) (lane_eq _ _ _ _ (by dsimp only [hc]; omega))))))

set_option maxHeartbeats 4000000 in
/-- A result after the run is the reference's function of the arguments. -/
theorem final8 (c : Dev nD) : (dats m 0 c).arrAt 8 (cfgs 0).N = RANK (ROPE8 (Q (MM (RMS (m ((c : Thread nD τ).loc main_arg0)) (m ((c : Thread nD τ).loc main_arg1))) (m ((c : Thread nD τ).loc main_arg2))))) := by
  refine (dats m 0 c).arrAt_eq_of_covers 8 _ (by decide +kernel) fun t _ y => ?_
  blk_simp
  rw [after0_8]; frame_out
  obtain ⟨i, n, rfl⟩ : ∃ i n, y = ix2 i n := ⟨_, _, eq_ix2 y⟩
  obtain ⟨r, hr⟩ := rowOf t i
  rw [emb8 t i n r hr]
  obtain ⟨h, d, rfl⟩ := heads 8 rfl n
  rw [rank_apply, rope8_apply, ← rp_scale _ _ _ _ _ scale_nonneg scale_top]
  simp only [q_apply]
  refine (pay12_apply _ _ _ _ _ _ i h d _ _ (blk3 m c t i r hr ⟨h.val % 2, by omega⟩ d) (blk4 m c t i r hr ⟨h.val % 2, by omega⟩ d) (blk5 m c t i r hr ⟨h.val % 2, by omega⟩ d)).trans ?_
  exact congrArg (fun y => rp y _ _ d) (funext fun e => congrArg (· * Ideal.ofBits .f32 0x3E000000#32) (plain m c t i r hr _ _ (fun k => (ld3 _ k _).trans ((blk2 m c t k _).trans ((wq_apply m c k h e).trans (congrArg (fun q => (m ((c : Thread nD τ).loc main_arg2)) (ix3 0 k q)) (lane_eq _ _ _ _ (by dsimp only [hc]; omega))))))))

set_option maxHeartbeats 4000000 in
/-- A result after the run is the reference's function of the arguments. -/
theorem final9 (c : Dev nD) : (dats m 0 c).arrAt 9 (cfgs 0).N = KC (MM (RMS (m ((c : Thread nD τ).loc main_arg0)) (m ((c : Thread nD τ).loc main_arg1))) (m ((c : Thread nD τ).loc main_arg2))) := by
  refine (dats m 0 c).arrAt_eq_of_covers 9 _ (by decide +kernel) fun t _ y => ?_
  blk_simp
  rw [after0_9]; frame_out
  obtain ⟨i, n, rfl⟩ : ∃ i n, y = ix2 i n := ⟨_, _, eq_ix2 y⟩
  obtain ⟨r, hr⟩ := rowOf t i
  rw [emb9 t i n r hr]
  rw [kc_apply]
  refine (pay13_apply _ _ i n).trans ?_
  exact plain23 m c t i r hr _ _ (fun k => (ld5 _ k n).trans ((blk2 m c t k _).trans (w1_apply m c k n)))

set_option maxHeartbeats 4000000 in
/-- A result after the run is the reference's function of the arguments. -/
theorem final10 (c : Dev nD) : (dats m 0 c).arrAt 10 (cfgs 0).N = VC (MM (RMS (m ((c : Thread nD τ).loc main_arg0)) (m ((c : Thread nD τ).loc main_arg1))) (m ((c : Thread nD τ).loc main_arg2))) := by
  refine (dats m 0 c).arrAt_eq_of_covers 10 _ (by decide +kernel) fun t _ y => ?_
  blk_simp
  rw [after0_10]; frame_out
  obtain ⟨i, n, rfl⟩ : ∃ i n, y = ix2 i n := ⟨_, _, eq_ix2 y⟩
  obtain ⟨r, hr⟩ := rowOf t i
  rw [emb10 t i n r hr]
  rw [vc_apply]
  refine (pay14_apply _ _ i n).trans ?_
  exact plain23 m c t i r hr _ _ (fun k => (ld6 _ k n).trans ((blk2 m c t k _).trans (w2_apply m c k n)))

set_option maxHeartbeats 4000000 in
/-- A result after the run is the reference's function of the arguments. -/
theorem final12 (c : Dev nD) : (dats m 0 c).arrAt 12 (cfgs 0).N = VS (MM (RMS (m ((c : Thread nD τ).loc main_arg0)) (m ((c : Thread nD τ).loc main_arg1))) (m ((c : Thread nD τ).loc main_arg2))) := by
  refine (dats m 0 c).arrAt_eq_of_covers 12 _ (by decide +kernel) fun t _ y => ?_
  blk_simp
  rw [after0_12]; frame_out
  obtain ⟨i, n, rfl⟩ : ∃ i n, y = ix2 i n := ⟨_, _, eq_ix2 y⟩
  obtain ⟨r, hr⟩ := rowOf t i
  rw [emb12 t i n r hr]
  rw [vs_apply]
  refine (pay16_apply _ _ i n).trans ?_
  exact plain23 m c t i r hr _ _ (fun k => (ld8 _ k n).trans ((blk2 m c t k _).trans (w4_apply m c k n)))

set_option maxHeartbeats 4000000 in
/-- A result after the run is the reference's function of the arguments. -/
theorem final14 (c : Dev nD) : (dats m 0 c).arrAt 14 (cfgs 0).N = VW (MM (RMS (m ((c : Thread nD τ).loc main_arg0)) (m ((c : Thread nD τ).loc main_arg1))) (m ((c : Thread nD τ).loc main_arg2))) := by
  refine (dats m 0 c).arrAt_eq_of_covers 14 _ (by decide +kernel) fun t _ y => ?_
  blk_simp
  rw [after0_14]; frame_out
  obtain ⟨i, n, rfl⟩ : ∃ i n, y = ix2 i n := ⟨_, _, eq_ix2 y⟩
  obtain ⟨r, hr⟩ := rowOf t i
  rw [emb14 t i n r hr]
  rw [vw_apply]
  refine (pay20_apply _ _ i n).trans ?_
  exact plain23 m c t i r hr _ _ (fun k => (ld10 _ k n).trans ((blk2 m c t k _).trans (w6_apply m c k n)))

set_option maxHeartbeats 4000000 in
/-- A result after the run is the reference's function of the arguments. -/
theorem final16 (c : Dev nD) : (dats m 0 c).arrAt 16 (cfgs 0).N = CUT (VS (MM (RMS (m ((c : Thread nD τ).loc main_arg0)) (m ((c : Thread nD τ).loc main_arg1))) (m ((c : Thread nD τ).loc main_arg2)))) := by
  refine (dats m 0 c).arrAt_eq_of_covers 16 _ (by decide +kernel) fun t _ y => ?_
  blk_simp
  rw [after0_16]; frame_out
  obtain ⟨i, n, rfl⟩ : ∃ i n, y = ix2 i n := ⟨_, _, eq_ix2 y⟩
  obtain ⟨r, hr⟩ := rowOf t i
  rw [emb16 t i n r hr]
  rw [cut_apply, vs_apply]
  refine (pay17_apply _ _ i n).trans ?_
  exact plain23 m c t i r hr _ _ (fun k => (ld8 _ k n).trans ((blk2 m c t k _).trans (w4_apply m c k n)))

set_option maxHeartbeats 4000000 in
/-- A result after the run is the reference's function of the arguments. -/
theorem final18 (c : Dev nD) : (dats m 0 c).arrAt 18 (cfgs 0).N = CUT (VW (MM (RMS (m ((c : Thread nD τ).loc main_arg0)) (m ((c : Thread nD τ).loc main_arg1))) (m ((c : Thread nD τ).loc main_arg2)))) := by
  refine (dats m 0 c).arrAt_eq_of_covers 18 _ (by decide +kernel) fun t _ y => ?_
  blk_simp
  rw [after0_18]; frame_out
  obtain ⟨i, n, rfl⟩ : ∃ i n, y = ix2 i n := ⟨_, _, eq_ix2 y⟩
  obtain ⟨r, hr⟩ := rowOf t i
  rw [emb18 t i n r hr]
  rw [cut_apply, vw_apply]
  refine (pay21_apply _ _ i n).trans ?_
  exact plain23 m c t i r hr _ _ (fun k => (ld10 _ k n).trans ((blk2 m c t k _).trans (w6_apply m c k n)))

set_option maxHeartbeats 4000000 in
/-- A result after the run is the reference's function of the arguments. -/
theorem final19 (c : Dev nD) : (dats m 0 c).arrAt 19 (cfgs 0).N = HM (MM (RMS (m ((c : Thread nD τ).loc main_arg0)) (m ((c : Thread nD τ).loc main_arg1))) (m ((c : Thread nD τ).loc main_arg2))) := by
  refine (dats m 0 c).arrAt_eq_of_covers 19 _ (by decide +kernel) fun t _ y => ?_
  blk_simp
  rw [after0_19]; frame_out
  obtain ⟨i, n, rfl⟩ : ∃ i n, y = ix2 i n := ⟨_, _, eq_ix2 y⟩
  obtain ⟨r, hr⟩ := rowOf t i
  rw [emb19 t i n r hr]
  rw [hm_apply]
  refine (pay2_apply _ _ i n).trans ?_
  exact plain23 m c t i r hr _ _ (fun k => (ld13 _ k n).trans ((blk2 m c t k _).trans (wh_apply m c k n)))

set_option maxHeartbeats 4000000 in
/-- A result after the run is the reference's function of the arguments. -/
theorem final11 (c : Dev nD) : (dats m 0 c).arrAt 11 (cfgs 0).N = FLAT (ROPE2 (KS (MM (RMS (m ((c : Thread nD τ).loc main_arg0)) (m ((c : Thread nD τ).loc main_arg1))) (m ((c : Thread nD τ).loc main_arg2))))) := by
  refine (dats m 0 c).arrAt_eq_of_covers 11 _ (by decide +kernel) fun t _ y => ?_
  blk_simp
  rw [after0_11]; frame_out
  obtain ⟨i, n, rfl⟩ : ∃ i n, y = ix2 i n := ⟨_, _, eq_ix2 y⟩
  obtain ⟨r, hr⟩ := rowOf t i
  rw [emb11 t i n r hr]
  obtain ⟨h, d, rfl⟩ := heads 2 rfl n
  rw [flat_apply, rope2_apply]
  simp only [ks_apply]
  refine (pay15_apply _ _ _ _ _ i h d _ _ ((x24 _ _ _ _ _ _ _ i _).trans (blk3 m c t i r hr h d)) ((x25 _ _ _ _ _ _ _ i _).trans (blk4 m c t i r hr h d)) ((x26 _ _ _ _ _ _ _ i _).trans (blk5 m c t i r hr h d))).trans ?_
  exact congrArg (fun y => rp y _ _ d) (funext fun e => plain23 m c t i r hr _ _ (fun k => (ld7 _ k (hc (W := 128) 2 rfl h e)).trans ((blk2 m c t k _).trans (w3_apply m c k (hc (W := 128) 2 rfl h e)))))

set_option maxHeartbeats 4000000 in
/-- A result after the run is the reference's function of the arguments. -/
theorem final13 (c : Dev nD) : (dats m 0 c).arrAt 13 (cfgs 0).N = FLAT (ROPE2 (KW (MM (RMS (m ((c : Thread nD τ).loc main_arg0)) (m ((c : Thread nD τ).loc main_arg1))) (m ((c : Thread nD τ).loc main_arg2))))) := by
  refine (dats m 0 c).arrAt_eq_of_covers 13 _ (by decide +kernel) fun t _ y => ?_
  blk_simp
  rw [after0_13]; frame_out
  obtain ⟨i, n, rfl⟩ : ∃ i n, y = ix2 i n := ⟨_, _, eq_ix2 y⟩
  obtain ⟨r, hr⟩ := rowOf t i
  rw [emb13 t i n r hr]
  obtain ⟨h, d, rfl⟩ := heads 2 rfl n
  rw [flat_apply, rope2_apply]
  simp only [kw_apply]
  refine (pay18_apply _ _ _ _ _ i h d _ _ ((x24 _ _ _ _ _ _ _ i _).trans (blk3 m c t i r hr h d)) ((x25 _ _ _ _ _ _ _ i _).trans (blk4 m c t i r hr h d)) ((x26 _ _ _ _ _ _ _ i _).trans (blk5 m c t i r hr h d))).trans ?_
  exact congrArg (fun y => rp y _ _ d) (funext fun e => plain23 m c t i r hr _ _ (fun k => (ld9 _ k (hc (W := 128) 2 rfl h e)).trans ((blk2 m c t k _).trans (w5_apply m c k (hc (W := 128) 2 rfl h e)))))

set_option maxHeartbeats 4000000 in
/-- A result after the run is the reference's function of the arguments. -/
theorem final17 (c : Dev nD) : (dats m 0 c).arrAt 17 (cfgs 0).N = CUT (FLAT (ROPE2 (KW (MM (RMS (m ((c : Thread nD τ).loc main_arg0)) (m ((c : Thread nD τ).loc main_arg1))) (m ((c : Thread nD τ).loc main_arg2)))))) := by
  refine (dats m 0 c).arrAt_eq_of_covers 17 _ (by decide +kernel) fun t _ y => ?_
  blk_simp
  rw [after0_17]; frame_out
  obtain ⟨i, n, rfl⟩ : ∃ i n, y = ix2 i n := ⟨_, _, eq_ix2 y⟩
  obtain ⟨r, hr⟩ := rowOf t i
  rw [emb17 t i n r hr]
  obtain ⟨h, d, rfl⟩ := heads 2 rfl n
  rw [cut_apply, flat_apply, rope2_apply]
  simp only [kw_apply]
  refine (pay19_apply _ _ _ _ _ i h d _ _ ((x24 _ _ _ _ _ _ _ i _).trans (blk3 m c t i r hr h d)) ((x25 _ _ _ _ _ _ _ i _).trans (blk4 m c t i r hr h d)) ((x26 _ _ _ _ _ _ _ i _).trans (blk5 m c t i r hr h d))).trans ?_
  exact congrArg (fun y => rp y _ _ d) (funext fun e => plain23 m c t i r hr _ _ (fun k => (ld9 _ k (hc (W := 128) 2 rfl h e)).trans ((blk2 m c t k _).trans (w5_apply m c k (hc (W := 128) 2 rfl h e)))))

set_option maxHeartbeats 4000000 in
/-- A result after the run is the reference's function of the arguments. -/
theorem final15 (c : Dev nD) : (dats m 0 c).arrAt 15 (cfgs 0).N = AUG (ROPE2 (KS (MM (RMS (m ((c : Thread nD τ).loc main_arg0)) (m ((c : Thread nD τ).loc main_arg1))) (m ((c : Thread nD τ).loc main_arg2))))) := by
  refine (dats m 0 c).arrAt_eq_of_covers 15 _ (by decide +kernel) fun t _ y => ?_
  blk_simp
  rw [after0_15]; frame_out
  obtain ⟨i, n, rfl⟩ : ∃ i n, y = ix2 i n := ⟨_, _, eq_ix2 y⟩
  obtain ⟨r, hr⟩ := rowOf t i
  rw [emb15 t i n r hr]
  obtain ⟨h, d, rfl⟩ := heads 4 rfl n
  rw [aug_apply]
  refine (pay1_apply _ _ i _).trans ?_
  have e6 := blk6 m c t i r hr h d
  have ep := pay22_apply (k0_pay23 (F := Ideal) (iblk m c 0 t) (iblk m c 1 t) (iblk m c 2 t) (iblk m c 3 t) (iblk m c 4 t) (iblk m c 5 t) (iblk m c 6 t)) (k0_pay24 (F := Ideal) (iblk m c 0 t) (iblk m c 1 t) (iblk m c 2 t) (iblk m c 3 t) (iblk m c 4 t) (iblk m c 5 t) (iblk m c 6 t)) (k0_pay25 (F := Ideal) (iblk m c 0 t) (iblk m c 1 t) (iblk m c 2 t) (iblk m c 3 t) (iblk m c 4 t) (iblk m c 5 t) (iblk m c 6 t)) (k0_pay26 (F := Ideal) (iblk m c 0 t) (iblk m c 1 t) (iblk m c 2 t) (iblk m c 3 t) (iblk m c 4 t) (iblk m c 5 t) (iblk m c 6 t)) (View.ld (iblk m c 2 t) r0_11) i h d _ _ ((x24 _ _ _ _ _ _ _ i _).trans (blk3 m c t i r hr ⟨h.val % 2, by omega⟩ d)) ((x25 _ _ _ _ _ _ _ i _).trans (blk4 m c t i r hr ⟨h.val % 2, by omega⟩ d)) ((x26 _ _ _ _ _ _ _ i _).trans (blk5 m c t i r hr ⟨h.val % 2, by omega⟩ d))
  have hw := fun (e : Fin 64) (k : Fin 1024) => (ld11 (iblk m c 2 t) k (hc (W := 256) 4 rfl h e)).trans ((blk2 m c t k _).trans (wa_apply m c k h e))
  obtain e | e | e : h.val = 0 ∨ h.val = 3 ∨ (¬ h.val = 0 ∧ ¬ h.val = 3) := by omega
  · rw [if_pos e] at e6 ⊢; simp only [if_pos e] at hw
    rw [rope2_apply]
    simp only [ks_apply]
    refine (congrArg₂ (· + ·) ep e6).trans ?_
    rw [add_zero]
    exact congrArg (fun y => rp y _ _ d) (funext fun e => plain23 m c t i r hr _ _ (fun k => (hw e k).trans (congrArg (fun q => (m ((c : Thread nD τ).loc main_arg2)) (ix3 0 k q)) (lane_eq _ _ _ _ (by dsimp only [hc]; omega)))))
  · rw [if_neg (show ¬ h.val = 0 by omega), if_pos e] at e6 ⊢; simp only [if_neg (show ¬ h.val = 0 by omega), if_pos e] at hw
    rw [rope2_apply]
    simp only [ks_apply]
    refine (congrArg₂ (· + ·) ep e6).trans ?_
    rw [add_zero]
    exact congrArg (fun y => rp y _ _ d) (funext fun e => plain23 m c t i r hr _ _ (fun k => (hw e k).trans (congrArg (fun q => (m ((c : Thread nD τ).loc main_arg2)) (ix3 0 k q)) (lane_eq _ _ _ _ (by dsimp only [hc]; omega)))))
  · rw [if_neg e.1, if_neg e.2] at e6 ⊢
    simp only [if_neg e.1, if_neg e.2] at hw
    refine (congrArg₂ (· + ·) ep e6).trans ?_
    have ez := funext fun f => zero23 m c t i _ (hw f)
    refine (congrArg (· + _) ((congrArg (fun y => rp y _ _ d) ez).trans (rp_zero _ _ d))).trans ?_
    exact zero_add _

set_option maxHeartbeats 4000000 in
/-- A result after the run is the reference's function of the arguments. -/
theorem final20 (c : Dev nD) : (dats m 0 c).arrAt 20 (cfgs 0).N = GT (MM (RMS (m ((c : Thread nD τ).loc main_arg0)) (m ((c : Thread nD τ).loc main_arg1))) (m ((c : Thread nD τ).loc main_arg2))) := by
  refine (dats m 0 c).arrAt_eq_of_covers 20 _ (by decide +kernel) fun t _ y => ?_
  blk_simp
  rw [after0_20]; frame_out
  obtain ⟨i, n, rfl⟩ : ∃ i n, y = ix2 i n := ⟨_, _, eq_ix2 y⟩
  obtain ⟨r, hr⟩ := rowOf t i
  rw [emb20 t i n r hr]
  rw [gt_apply]
  refine (pay3_apply _ _ i n).trans ?_
  have hw := fun k => (ld15 (iblk m c 2 t) k n).trans ((blk2 m c t k _).trans (wg_apply m c k n))
  by_cases e : n.val < 24
  · simp only [dif_pos e] at hw ⊢
    exact plain23 m c t i r hr _ _ hw
  · simp only [dif_neg e] at hw ⊢
    exact zero23 m c t i _ hw

end Cert.ProjSIdeal.Value

end
-- ==== Proof.ProjS.Claim.lean ====
module

public import proofs.«01_k».proof.Defs
public import proofs.«01_k».proof.Proof.ProjS.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem

namespace Cert.ProjSIdeal.Value

/-- The reference runs to the end, leaves its arguments as they were and every semaphore counter at zero. -/
theorem still : Cert.quiescent_ProjSRefIdeal := by
  intro m g _
  refine (θ_run _ _ _).mono (fun r h => ⟨fun c => ?_, sem_eq_zero_of_no_sems (sig := Cert.ProjSRefIdeal.sig) (by decide) r.2⟩) (Cert.ProjSRefIdeal.Value.run m g)
  obtain ⟨_, _, _, _, _, _, _, _, _, _, _, _, _, _, kr⟩ := h c
  exact kr

/-- Over the extended reals the kernel and the reference, started on the same arguments, both run to the end, leave
    the arguments as they were and end with equal results. -/
theorem agree : Cert.algebraic_ProjSIdeal_ProjSRefIdeal := by
  intro m g m' g' _ hag
  refine ⟨fun c => Cert.ProjSRefIdeal.Value.RANK (Cert.ProjSRefIdeal.Value.Q (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2)))), fun c => Cert.ProjSRefIdeal.Value.RANK (Cert.ProjSRefIdeal.Value.ROPE8 (Cert.ProjSRefIdeal.Value.Q (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))))), fun c => Cert.ProjSRefIdeal.Value.KC (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))), fun c => Cert.ProjSRefIdeal.Value.VC (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))), fun c => Cert.ProjSRefIdeal.Value.FLAT (Cert.ProjSRefIdeal.Value.ROPE2 (Cert.ProjSRefIdeal.Value.KS (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))))), fun c => Cert.ProjSRefIdeal.Value.VS (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))), fun c => Cert.ProjSRefIdeal.Value.FLAT (Cert.ProjSRefIdeal.Value.ROPE2 (Cert.ProjSRefIdeal.Value.KW (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))))), fun c => Cert.ProjSRefIdeal.Value.VW (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))), fun c => Cert.ProjSRefIdeal.Value.AUG (Cert.ProjSRefIdeal.Value.ROPE2 (Cert.ProjSRefIdeal.Value.KS (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))))), fun c => Cert.ProjSRefIdeal.Value.CUT (Cert.ProjSRefIdeal.Value.VS (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2)))), fun c => Cert.ProjSRefIdeal.Value.CUT (Cert.ProjSRefIdeal.Value.FLAT (Cert.ProjSRefIdeal.Value.ROPE2 (Cert.ProjSRefIdeal.Value.KW (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2)))))), fun c => Cert.ProjSRefIdeal.Value.CUT (Cert.ProjSRefIdeal.Value.VW (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2)))), fun c => Cert.ProjSRefIdeal.Value.HM (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))), fun c => Cert.ProjSRefIdeal.Value.GT (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))),
    (θ_run _ _ _).mono (fun _ h c => ?_) (Cert.ProjSIdeal.Value.run_blocks m g),
    (θ_run _ _ _).mono (fun _ h c => ?_) (Cert.ProjSRefIdeal.Value.run m' g')⟩
  · obtain ⟨k0, k1, k2, k3, k4, k5, k6, k7, k8, k9, k10, k11, k12, k13, kr⟩ := h c
    exact ⟨k0.trans (final7 m c), k1.trans (final8 m c), k2.trans (final9 m c), k3.trans (final10 m c), k4.trans (final11 m c), k5.trans (final12 m c), k6.trans (final13 m c), k7.trans (final14 m c), k8.trans (final15 m c), k9.trans (final16 m c), k10.trans (final17 m c), k11.trans (final18 m c), k12.trans (final19 m c), k13.trans (final20 m c), kr⟩
  · obtain ⟨k0, k1, k2, k3, k4, k5, k6, k7, k8, k9, k10, k11, k12, k13, kr⟩ := h c
    obtain ⟨h0, h1, h2⟩ := hag c
    have ek0 : Cert.ProjSRefIdeal.Value.RANK (Cert.ProjSRefIdeal.Value.Q (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2))))
        = Cert.ProjSRefIdeal.Value.RANK (Cert.ProjSRefIdeal.Value.Q (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2)))) := by
      rw [h0, h1, h2]
    have ek1 : Cert.ProjSRefIdeal.Value.RANK (Cert.ProjSRefIdeal.Value.ROPE8 (Cert.ProjSRefIdeal.Value.Q (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2)))))
        = Cert.ProjSRefIdeal.Value.RANK (Cert.ProjSRefIdeal.Value.ROPE8 (Cert.ProjSRefIdeal.Value.Q (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))))) := by
      rw [h0, h1, h2]
    have ek2 : Cert.ProjSRefIdeal.Value.KC (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2)))
        = Cert.ProjSRefIdeal.Value.KC (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))) := by
      rw [h0, h1, h2]
    have ek3 : Cert.ProjSRefIdeal.Value.VC (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2)))
        = Cert.ProjSRefIdeal.Value.VC (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))) := by
      rw [h0, h1, h2]
    have ek4 : Cert.ProjSRefIdeal.Value.FLAT (Cert.ProjSRefIdeal.Value.ROPE2 (Cert.ProjSRefIdeal.Value.KS (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2)))))
        = Cert.ProjSRefIdeal.Value.FLAT (Cert.ProjSRefIdeal.Value.ROPE2 (Cert.ProjSRefIdeal.Value.KS (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))))) := by
      rw [h0, h1, h2]
    have ek5 : Cert.ProjSRefIdeal.Value.VS (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2)))
        = Cert.ProjSRefIdeal.Value.VS (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))) := by
      rw [h0, h1, h2]
    have ek6 : Cert.ProjSRefIdeal.Value.FLAT (Cert.ProjSRefIdeal.Value.ROPE2 (Cert.ProjSRefIdeal.Value.KW (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2)))))
        = Cert.ProjSRefIdeal.Value.FLAT (Cert.ProjSRefIdeal.Value.ROPE2 (Cert.ProjSRefIdeal.Value.KW (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))))) := by
      rw [h0, h1, h2]
    have ek7 : Cert.ProjSRefIdeal.Value.VW (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2)))
        = Cert.ProjSRefIdeal.Value.VW (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))) := by
      rw [h0, h1, h2]
    have ek8 : Cert.ProjSRefIdeal.Value.AUG (Cert.ProjSRefIdeal.Value.ROPE2 (Cert.ProjSRefIdeal.Value.KS (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2)))))
        = Cert.ProjSRefIdeal.Value.AUG (Cert.ProjSRefIdeal.Value.ROPE2 (Cert.ProjSRefIdeal.Value.KS (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))))) := by
      rw [h0, h1, h2]
    have ek9 : Cert.ProjSRefIdeal.Value.CUT (Cert.ProjSRefIdeal.Value.VS (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2))))
        = Cert.ProjSRefIdeal.Value.CUT (Cert.ProjSRefIdeal.Value.VS (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2)))) := by
      rw [h0, h1, h2]
    have ek10 : Cert.ProjSRefIdeal.Value.CUT (Cert.ProjSRefIdeal.Value.FLAT (Cert.ProjSRefIdeal.Value.ROPE2 (Cert.ProjSRefIdeal.Value.KW (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2))))))
        = Cert.ProjSRefIdeal.Value.CUT (Cert.ProjSRefIdeal.Value.FLAT (Cert.ProjSRefIdeal.Value.ROPE2 (Cert.ProjSRefIdeal.Value.KW (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2)))))) := by
      rw [h0, h1, h2]
    have ek11 : Cert.ProjSRefIdeal.Value.CUT (Cert.ProjSRefIdeal.Value.VW (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2))))
        = Cert.ProjSRefIdeal.Value.CUT (Cert.ProjSRefIdeal.Value.VW (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2)))) := by
      rw [h0, h1, h2]
    have ek12 : Cert.ProjSRefIdeal.Value.HM (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2)))
        = Cert.ProjSRefIdeal.Value.HM (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))) := by
      rw [h0, h1, h2]
    have ek13 : Cert.ProjSRefIdeal.Value.GT (Cert.ProjSRefIdeal.Value.MM (Cert.ProjSRefIdeal.Value.RMS (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1))) (m' ((c.tc : Thread Cert.ProjSRefIdeal.nD Cert.ProjSRefIdeal.τ).loc Cert.ProjSRefIdeal.main_arg2)))
        = Cert.ProjSRefIdeal.Value.GT (Cert.ProjSRefIdeal.Value.MM (Cert.ProjSRefIdeal.Value.RMS (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) (m ((c.tc : Thread Cert.ProjSIdeal.nD Cert.ProjSIdeal.τ).loc Cert.ProjSIdeal.main_arg2))) := by
      rw [h0, h1, h2]
    exact ⟨(k0.trans (by rfl)).trans ek0, (k1.trans (by rfl)).trans ek1, (k2.trans (by rfl)).trans ek2, (k3.trans (by rfl)).trans ek3, (k4.trans (by rfl)).trans ek4, (k5.trans (by rfl)).trans ek5, (k6.trans (by rfl)).trans ek6, (k7.trans (by rfl)).trans ek7, (k8.trans (by rfl)).trans ek8, (k9.trans (by rfl)).trans ek9, (k10.trans (by rfl)).trans ek10, (k11.trans (by rfl)).trans ek11, (k12.trans (by rfl)).trans ek12, (k13.trans (by rfl)).trans ek13, kr⟩

end Cert.ProjSIdeal.Value

end
-- ==== Proof.MixoutS.Value.lean ====
module

public import proofs.«01_k».proof.Proof.Gen.MixoutSIdeal.Value
public import proofs.«01_k».proof.Proof.Gen.MixoutSRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixoutSRefIdeal.Value

open Cert.MixoutSRefIdeal Cert.MixoutSRefIdeal.Gen

/-- The attention output in the original order of its columns. -/
def ORD (o : FVec Ideal S512x512 .f32) : FVec Ideal S512x512 .f32 :=
  shapeCast _ (transpose S512x2x4x64 [0, 2, 1, 3] (shapeCast _ o shapeCasts_S512x512_S512x4x2x64) transposes_S512x4x2x64_S512x2x4x64_0_2_1_3) shapeCasts_S512x2x4x64_S512x512

/-- The root mean square normalization of rows of 512, scaled by the gains. -/
def RMSa (X : FVec Ideal S512x512 .f32) (g : FVec Ideal S1x512 .f32) : FVec Ideal S512x512 .f32 :=
  mulf (mulf X (broadcastInDim S512x512 ![0, 1] bcast_S512x1_S512x512_0_1 (Host.rsqrt (addf (Host.divf (broadcastInDim S512x1 ![0] bcast_S512_S512x1_0 (Host.reduceAdd (mulf X X) (constant S_ .f32 0x00000000#32) reducesTo_S512x512_S512_d1 h_S_)) (broadcastInDim S512x1 ![] bcast_S_S512x1 (constant S_ .f32 0x44000000#32))) (broadcastInDim S512x1 ![] bcast_S_S512x1 (constant S_ .f32 0x358637BD#32)))))) (broadcastInDim S512x512 ![0, 1] bcast_S1x512_S512x512_0_1 (broadcastInDim S1x512 ![1] bcast_S512_S1x512_1 (shapeCast _ g shapeCasts_S1x512_S512)))

/-- The root mean square normalization of rows of 1024, scaled by the gains. -/
def RMSb (X : FVec Ideal S512x1024 .f32) (g : FVec Ideal S1x1024 .f32) : FVec Ideal S512x1024 .f32 :=
  mulf (mulf X (broadcastInDim S512x1024 ![0, 1] bcast_S512x1_S512x1024_0_1 (Host.rsqrt (addf (Host.divf (broadcastInDim S512x1 ![0] bcast_S512_S512x1_0 (Host.reduceAdd (mulf X X) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 (shapeCast _ g shapeCasts_S1x1024_S1024)))

/-- A product of rows with a weight. -/
def MM (X : FVec Ideal S512x1024 .f32) (W : FVec Ideal S1x1024x1024 .f32) : FVec Ideal S512x1024 .f32 :=
  Host.dotGeneral (F := Ideal) (φ₁ := .f32) (φ₂ := .f32) dot_S512x1024_S1024x1024_S512x1024_1_0_0_1_n_n none X (shapeCast _ W shapeCasts_S1x1024x1024_S1024x1024)

/-- The two mixers' outputs side by side. -/
def CAT (X Y : FVec Ideal S512x512 .f32) : FVec Ideal S512x1024 .f32 :=
  concatenate S512x1024 1 [⟨S512x512, X⟩, ⟨S512x512, Y⟩] concatenates_S512x512_S512x512_S512x1024_d1

/-- The reference's first result: the residual plus the mixers' output through the output weight. -/
def REF1 (x : FVec Ideal S512x1024 .f32) (o h : FVec Ideal S512x512 .f32) (g : FVec Ideal S1x512 .f32) (W : FVec Ideal S1x1024x1024 .f32) :
    FVec Ideal S512x1024 .f32 :=
  addf x (MM (CAT (RMSa (ORD o) g) h) W)

/-- The reference's second result: the scaled queries of the first result's normalized rows. -/
def REFq (x : FVec Ideal S512x1024 .f32) (g : FVec Ideal S1x1024 .f32) (W : FVec Ideal S1x1024x1024 .f32) : FVec Ideal S512x1024 .bf16 :=
  truncf .bf16 (mulf (MM (RMSb x g) W) (broadcastInDim S512x1024 ![] bcast_S_S512x1024 (constant S_ .f32 0x3D800000#32))) bitsLt_bf16_f32

/-- The reference's second result is `REFq` of its first. -/
theorem q_eq (m : (ℓ : Loc nD τ sig) → Buf (Elt Ideal) ℓ) (c : Dev nD) :
    res_main_v39 m c = REFq (REF1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := rfl

/-- Where column `n` of the original order stands in the paired order. -/
def pr (n : Fin 512) : Fin 512 := ⟨n.val / 64 % 4 * 128 + n.val / 256 * 64 + n.val % 64, by omega⟩
/-- The column of the original order that stands at `k` in the paired order. -/
def un (k : Fin 512) : Fin 512 := ⟨k.val / 64 % 2 * 256 + k.val / 128 * 64 + k.val % 64, by omega⟩
/-- The two orders undo each other. -/
theorem un_pr : ∀ n, un (pr n) = n := by decide +kernel
/-- The two orders undo each other. -/
theorem pr_un : ∀ n, pr (un n) = n := by decide +kernel
/-- The two orders are a bijection of the columns. -/
def ord : Fin 512 ≃ Fin 512 := ⟨pr, un, un_pr, pr_un⟩

/-- The original-order array at an index. -/
theorem ord_apply (o r n) : ORD o (ix2 r n) = o (ix2 r (pr n)) := by
  pointwise [ORD, pr]
/-- The normalization at an index. -/
theorem rmsa_apply (X g r d) : RMSa X g (ix2 r d) = X (ix2 r d) * Ideal.rsqrt (Ideal.div (∑ k, X (ix2 r k) * X (ix2 r k)) (Ideal.ofBits .f32 0x44000000#32) + Ideal.ofBits .f32 0x358637BD#32) * g (ix2 0 d) := by
  pointwise [RMSa]
/-- The normalization at an index. -/
theorem rmsb_apply (X g r d) : RMSb X g (ix2 r d) = X (ix2 r d) * Ideal.rsqrt (Ideal.div (∑ k, X (ix2 r k) * X (ix2 r k)) (Ideal.ofBits .f32 0x44800000#32) + Ideal.ofBits .f32 0x358637BD#32) * g (ix2 0 d) := by
  pointwise [RMSb]
/-- The product at an index. -/
theorem mm_apply (X W r n) : MM X W (ix2 r n) = ∑ k, X (ix2 r k) * W (ix3 0 k n) := by
  pointwise [MM]
/-- The left part of the concatenation. -/
theorem cat_left (X Y r) (k : Fin 512) : CAT X Y (ix2 r (Fin.castAdd 512 k)) = X (ix2 r k) := by
  pointwise [CAT]
  exact dif_pos k.isLt
/-- The right part of the concatenation. -/
theorem cat_right (X Y r) (k : Fin 512) : CAT X Y (ix2 r (Fin.natAdd 512 k)) = Y (ix2 r k) := by
  pointwise [CAT]
  refine (dif_neg (Nat.not_lt.2 (Nat.le_add_right 512 k.val))).trans ?_
  exact congrArg (fun q => Y (ix2 r q)) (Fin.ext (Nat.add_sub_cancel_left 512 k.val))

/-- One entry of the first result, from a row of every operand and a column of the two weight halves. -/
def x1 (x : EReal) (o g h w v : Fin 512 → EReal) : EReal :=
  x + ∑ k, o k * Ideal.rsqrt (Ideal.div (∑ k, o k * o k) (Ideal.ofBits .f32 0x44000000#32) + Ideal.ofBits .f32 0x358637BD#32) * g k * w k + ∑ k, h k * v k

/-- The entry does not depend on the order in which the attention columns are listed. -/
theorem x1_perm (e : Fin 512 ≃ Fin 512) (x : EReal) (o g h w v : Fin 512 → EReal) :
    x1 x (fun k => o (e k)) (fun k => g (e k)) h (fun k => w (e k)) v = x1 x o g h w v := by
  unfold x1
  rw [Equiv.sum_comp e (fun k => o k * o k)]
  rw [Equiv.sum_comp e (fun k => o k * Ideal.rsqrt (Ideal.div (∑ k, o k * o k) (Ideal.ofBits .f32 0x44000000#32) + Ideal.ofBits .f32 0x358637BD#32) * g k * w k)]

/-- Listing the attention output in paired order is listing the gains and weights so. -/
theorem x1_ord (x : EReal) (o g h w v : Fin 512 → EReal) :
    x1 x o (fun k => g (un k)) h (fun k => w (un k)) v = x1 x (fun k => o (pr k)) g h w v := by
  have e := x1_perm ord x o (fun k => g (un k)) h (fun k => w (un k)) v
  refine e.symm.trans ?_
  have hg : (fun k => g (un (ord k))) = g := funext fun k => congrArg g (un_pr k)
  have hw : (fun k => w (un (ord k))) = w := funext fun k => congrArg w (un_pr k)
  rw [hg, hw]
  rfl

/-- One entry of the second result, from a row of the first. -/
def qv (x g w : Fin 1024 → EReal) : EReal :=
  (∑ k, x k * Ideal.rsqrt (Ideal.div (∑ k, x k * x k) (Ideal.ofBits .f32 0x44800000#32) + Ideal.ofBits .f32 0x358637BD#32) * g k * w k) * Ideal.ofBits .f32 0x3D800000#32

/-- The first result at an index. -/
theorem ref1_apply (x o h g W r n) : REF1 x o h g W (ix2 r n)
    = x1 (x (ix2 r n)) (fun k => o (ix2 r (pr k))) (fun k => g (ix2 0 k)) (fun k => h (ix2 r k))
        (fun k => W (ix3 0 (Fin.castAdd 512 k) n)) (fun k => W (ix3 0 (Fin.natAdd 512 k) n)) := by
  refine Eq.trans (b := x (ix2 r n) + MM (CAT (RMSa (ORD o) g) h) W (ix2 r n)) rfl ?_
  rw [mm_apply, Fin.sum_univ_add (a := 512) (b := 512) (fun k => CAT (RMSa (ORD o) g) h (ix2 r k) * W (ix3 0 k n)), ← add_assoc]
  simp only [cat_left, cat_right, rmsa_apply, ord_apply]
  rfl

/-- The second result at an index. -/
theorem refq_apply (x g W r n) : REFq x g W (ix2 r n) = qv (fun k => x (ix2 r k)) (fun k => g (ix2 0 k)) (fun k => W (ix3 0 k n)) := by
  pointwise [REFq]
  simp only [mm_apply, rmsb_apply]
  rfl

end Cert.MixoutSRefIdeal.Value

namespace Cert.MixoutSIdeal.Value

open Cert.MixoutSIdeal Cert.MixoutSIdeal.Gen Cert.MixoutSRefIdeal.Value

variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] :=
  (by decide +kernel : ∀ t : Fin grid0.N, _)

/-- The first result's block at an index, from its input blocks. -/
theorem pay2_apply (o g x w h v i n) : k0_pay2 (F := Ideal) o g x w h v (ix2 i n)
    = x1 (x (ix2 i n)) (fun k => o (ix2 i k)) (fun k => g (ix2 0 k)) (fun k => h (ix2 i k)) (fun k => w (ix2 k n)) (fun k => v (ix2 k n)) := by
  pointwise [k0_pay2]
  rfl

/-- The second result's block at an index, from the first's and its input blocks. -/
theorem pay1_apply (o g x w h v gc wq i n) :
    k0_pay1 (F := Ideal) (k0_pay2 o g x w h v) (k0_pay3 gc) (k0_pay4 o g x w h v) wq (ix2 i n)
    = qv (fun k => k0_pay2 (F := Ideal) o g x w h v (ix2 i k)) (fun k => gc (ix2 0 k)) (fun k => wq (ix2 k n)) := by
  pointwise [k0_pay1, k0_pay3, k0_pay4]
  rfl

/-- The gains in paired order. -/
theorem v4_apply (c : Dev nD) (k : Fin 512) : V m c main_v4 (ix2 0 k) = m ((c : Thread nD τ).loc main_arg3) (ix2 0 (un k)) := by
  entry_read; pointwise [un]
/-- The upper half of the weights, its rows in paired order. -/
theorem v10_apply (c : Dev nD) (k : Fin 512) (n : Fin 1024) : V m c main_v10 (ix2 k n) = m ((c : Thread nD τ).loc main_arg4) (ix3 0 (Fin.castAdd 512 (un k)) n) := by
  entry_read; pointwise [un]; rfl
/-- The lower half of the weights. -/
theorem v13_apply (c : Dev nD) (k : Fin 512) (n : Fin 1024) : V m c main_v13 (ix2 k n) = m ((c : Thread nD τ).loc main_arg4) (ix3 0 (Fin.natAdd 512 k) n) := by
  entry_read; pointwise; rfl
/-- The second gains. -/
theorem v17_apply (c : Dev nD) (k : Fin 1024) : V m c main_v17 (ix2 0 k) = m ((c : Thread nD τ).loc main_arg5) (ix2 0 k) := by
  entry_read; pointwise
/-- The query weights. -/
theorem v15_apply (c : Dev nD) (k n : Fin 1024) : V m c main_v15 (ix2 k n) = m ((c : Thread nD τ).loc main_arg6) (ix3 0 k n) := by
  entry_read; pointwise

/-- The residual's block. -/
theorem blk0 (c : Dev nD) (t : Fin cfg0.N) (i : Fin 512) (k : Fin 1024) (r : Fin 512) (hr : r.val = t.val * 512 + i.val) :
    iblk m c 0 t (ix2 i k) = m ((c : Thread nD τ).loc main_arg0) (ix2 r k) := by
  blk_ext [iblk, V, idx t, hr]
/-- The attention output's block. -/
theorem blk1 (c : Dev nD) (t : Fin cfg0.N) (i : Fin 512) (k : Fin 512) (r : Fin 512) (hr : r.val = t.val * 512 + i.val) :
    iblk m c 1 t (ix2 i k) = m ((c : Thread nD τ).loc main_arg1) (ix2 r k) := by
  blk_ext [iblk, V, idx t, hr]
/-- The recurrence output's block. -/
theorem blk2 (c : Dev nD) (t : Fin cfg0.N) (i : Fin 512) (k : Fin 512) (r : Fin 512) (hr : r.val = t.val * 512 + i.val) :
    iblk m c 2 t (ix2 i k) = m ((c : Thread nD τ).loc main_arg2) (ix2 r k) := by
  blk_ext [iblk, V, idx t, hr]
/-- The gains' block. -/
theorem blk3 (c : Dev nD) (t : Fin cfg0.N) (k : Fin 512) : iblk m c 3 t (ix2 0 k) = m ((c : Thread nD τ).loc main_arg3) (ix2 0 (un k)) :=
  Eq.trans (b := V m c main_v4 (ix2 0 k)) (by blk_ext [iblk, idx t]) (v4_apply m c k)
/-- The upper weights' block. -/
theorem blk4 (c : Dev nD) (t : Fin cfg0.N) (k : Fin 512) (n : Fin 1024) : iblk m c 4 t (ix2 k n) = m ((c : Thread nD τ).loc main_arg4) (ix3 0 (Fin.castAdd 512 (un k)) n) :=
  Eq.trans (b := V m c main_v10 (ix2 k n)) (by blk_ext [iblk, idx t]) (v10_apply m c k n)
/-- The lower weights' block. -/
theorem blk5 (c : Dev nD) (t : Fin cfg0.N) (k : Fin 512) (n : Fin 1024) : iblk m c 5 t (ix2 k n) = m ((c : Thread nD τ).loc main_arg4) (ix3 0 (Fin.natAdd 512 k) n) :=
  Eq.trans (b := V m c main_v13 (ix2 k n)) (by blk_ext [iblk, idx t]) (v13_apply m c k n)
/-- The second gains' block. -/
theorem blk6 (c : Dev nD) (t : Fin cfg0.N) (k : Fin 1024) : iblk m c 6 t (ix2 0 k) = m ((c : Thread nD τ).loc main_arg5) (ix2 0 k) :=
  Eq.trans (b := V m c main_v17 (ix2 0 k)) (by blk_ext [iblk, idx t]) (v17_apply m c k)
/-- The query weights' block. -/
theorem blk7 (c : Dev nD) (t : Fin cfg0.N) (k n : Fin 1024) : iblk m c 7 t (ix2 k n) = m ((c : Thread nD τ).loc main_arg6) (ix3 0 k n) :=
  Eq.trans (b := V m c main_v15 (ix2 k n)) (by blk_ext [iblk, idx t]) (v15_apply m c k n)

/-- What grid point `t` computes for the first result is the reference's value at the array index there. -/
theorem point1 (c : Dev nD) (t : Fin cfg0.N) (i : Fin 512) (n : Fin 1024) (r : Fin 512) (hr : r.val = t.val * 512 + i.val) :
    k0_pay2 (F := Ideal) (iblk m c 1 t) (iblk m c 3 t) (iblk m c 0 t) (iblk m c 4 t) (iblk m c 2 t) (iblk m c 5 t) (ix2 i n)
    = REF1 (m ((c : Thread nD τ).loc main_arg0)) (m ((c : Thread nD τ).loc main_arg1)) (m ((c : Thread nD τ).loc main_arg2)) (m ((c : Thread nD τ).loc main_arg3)) (m ((c : Thread nD τ).loc main_arg4)) (ix2 r n) := by
  refine (pay2_apply _ _ _ _ _ _ i n).trans ?_
  rw [ref1_apply, blk0 m c t i n r hr]
  have e1 := fun k => blk1 m c t i k r hr
  have e2 := fun k => blk2 m c t i k r hr
  simp only [e1, e2, blk3, blk4, blk5]
  exact x1_ord _ _ (fun k => m ((c : Thread nD τ).loc main_arg3) (ix2 0 k)) _ (fun k => m ((c : Thread nD τ).loc main_arg4) (ix3 0 (Fin.castAdd 512 k) n)) _

/-- Where a block of the first result lies. -/
theorem emb8 (t : Fin cfg0.N) (i : Fin 512) (n : Fin 1024) (r : Fin 512) (hr : r.val = t.val * 512 + i.val) :
    ((cfg0.win 8).blk t).view.emb (ix2 i n) = ix2 r n := by
  funext k
  match k with
  | ⟨0, _⟩ => refine Fin.ext ?_; blk_simp [idx t, hr]
  | ⟨1, _⟩ => refine Fin.ext ?_; blk_simp [idx t]

/-- Where a block of the second result lies. -/
theorem emb9 (t : Fin cfg0.N) (i : Fin 512) (n : Fin 1024) (r : Fin 512) (hr : r.val = t.val * 512 + i.val) :
    ((cfg0.win 9).blk t).view.emb (ix2 i n) = ix2 r n := by
  funext k
  match k with
  | ⟨0, _⟩ => refine Fin.ext ?_; blk_simp [idx t, hr]
  | ⟨1, _⟩ => refine Fin.ext ?_; blk_simp [idx t]

/-- The row of the array a block row stands at. -/
theorem rowOf (t : Fin cfg0.N) (i : Fin 512) : ∃ r : Fin 512, r.val = t.val * 512 + i.val :=
  ⟨⟨t.val * 512 + i.val, by have := lt_of_lt_of_eq t.isLt N_0; omega⟩, rfl⟩

/-- The first result after the run is the reference's function of the arguments. -/
theorem final8 (c : Dev nD) : (dats m 0 c).arrAt 8 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; frame_out
  obtain ⟨i, n, rfl⟩ : ∃ i n, y = ix2 i n := ⟨_, _, eq_ix2 y⟩
  obtain ⟨r, hr⟩ := rowOf t i
  rw [emb8 t i n r hr]
  exact point1 m c t i n r hr

/-- The second result after the run is the reference's function of the arguments. -/
theorem final9 (c : Dev nD) : (dats m 0 c).arrAt 9 (cfgs 0).N = REFq (REF1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 9 _ (by decide +kernel) fun t _ y => ?_
  blk_simp
  rw [after0_9]; frame_out
  obtain ⟨i, n, rfl⟩ : ∃ i n, y = ix2 i n := ⟨_, _, eq_ix2 y⟩
  obtain ⟨r, hr⟩ := rowOf t i
  rw [emb9 t i n r hr, refq_apply]
  refine (pay1_apply _ _ _ _ _ _ _ _ i n).trans ?_
  have e1 := fun k => point1 m c t i k r hr
  simp only [e1, blk6, blk7]

end Cert.MixoutSIdeal.Value

end
-- ==== Proof.MixoutS.Claim.lean ====
module

public import proofs.«01_k».proof.Defs
public import proofs.«01_k».proof.Proof.MixoutS.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem

namespace Cert.MixoutSIdeal.Value

/-- The reference runs to the end, leaves its arguments as they were and every semaphore counter at zero. -/
theorem still : Cert.quiescent_MixoutSRefIdeal := by
  intro m g _
  refine (θ_run _ _ _).mono (fun r h => ⟨fun c => ?_, sem_eq_zero_of_no_sems (sig := Cert.MixoutSRefIdeal.sig) (by decide) r.2⟩) (Cert.MixoutSRefIdeal.Value.run m g)
  obtain ⟨_, _, kr⟩ := h c
  exact kr

/-- Over the extended reals the kernel and the reference, started on the same arguments, both run to the end, leave
    the arguments as they were and end with equal results. -/
theorem agree : Cert.algebraic_MixoutSIdeal_MixoutSRefIdeal := by
  intro m g m' g' _ hag
  refine ⟨fun c => Cert.MixoutSRefIdeal.Value.REF1 (m ((c.tc : Thread Cert.MixoutSIdeal.nD Cert.MixoutSIdeal.τ).loc Cert.MixoutSIdeal.main_arg0)) (m ((c.tc : Thread Cert.MixoutSIdeal.nD Cert.MixoutSIdeal.τ).loc Cert.MixoutSIdeal.main_arg1)) (m ((c.tc : Thread Cert.MixoutSIdeal.nD Cert.MixoutSIdeal.τ).loc Cert.MixoutSIdeal.main_arg2)) (m ((c.tc : Thread Cert.MixoutSIdeal.nD Cert.MixoutSIdeal.τ).loc Cert.MixoutSIdeal.main_arg3)) (m ((c.tc : Thread Cert.MixoutSIdeal.nD Cert.MixoutSIdeal.τ).loc Cert.MixoutSIdeal.main_arg4)), fun c => Cert.MixoutSRefIdeal.Value.REFq (Cert.MixoutSRefIdeal.Value.REF1 (m ((c.tc : Thread Cert.MixoutSIdeal.nD Cert.MixoutSIdeal.τ).loc Cert.MixoutSIdeal.main_arg0)) (m ((c.tc : Thread Cert.MixoutSIdeal.nD Cert.MixoutSIdeal.τ).loc Cert.MixoutSIdeal.main_arg1)) (m ((c.tc : Thread Cert.MixoutSIdeal.nD Cert.MixoutSIdeal.τ).loc Cert.MixoutSIdeal.main_arg2)) (m ((c.tc : Thread Cert.MixoutSIdeal.nD Cert.MixoutSIdeal.τ).loc Cert.MixoutSIdeal.main_arg3)) (m ((c.tc : Thread Cert.MixoutSIdeal.nD Cert.MixoutSIdeal.τ).loc Cert.MixoutSIdeal.main_arg4))) (m ((c.tc : Thread Cert.MixoutSIdeal.nD Cert.MixoutSIdeal.τ).loc Cert.MixoutSIdeal.main_arg5)) (m ((c.tc : Thread Cert.MixoutSIdeal.nD Cert.MixoutSIdeal.τ).loc Cert.MixoutSIdeal.main_arg6)),
    (θ_run _ _ _).mono (fun _ h c => ?_) (Cert.MixoutSIdeal.Value.run_blocks m g),
    (θ_run _ _ _).mono (fun _ h c => ?_) (Cert.MixoutSRefIdeal.Value.run m' g')⟩
  · obtain ⟨k0, k1, kr⟩ := h c
    exact ⟨k0.trans (final8 m c), k1.trans (final9 m c), kr⟩
  · obtain ⟨k0, k1, kr⟩ := h c
    obtain ⟨h0, h1, h2, h3, h4, h5, h6⟩ := hag c
    have ek0 : Cert.MixoutSRefIdeal.Value.REF1 (m' ((c.tc : Thread Cert.MixoutSRefIdeal.nD Cert.MixoutSRefIdeal.τ).loc Cert.MixoutSRefIdeal.main_arg0)) (m' ((c.tc : Thread Cert.MixoutSRefIdeal.nD Cert.MixoutSRefIdeal.τ).loc Cert.MixoutSRefIdeal.main_arg1)) (m' ((c.tc : Thread Cert.MixoutSRefIdeal.nD Cert.MixoutSRefIdeal.τ).loc Cert.MixoutSRefIdeal.main_arg2)) (m' ((c.tc : Thread Cert.MixoutSRefIdeal.nD Cert.MixoutSRefIdeal.τ).loc Cert.MixoutSRefIdeal.main_arg3)) (m' ((c.tc : Thread Cert.MixoutSRefIdeal.nD Cert.MixoutSRefIdeal.τ).loc Cert.MixoutSRefIdeal.main_arg4))
        = Cert.MixoutSRefIdeal.Value.REF1 (m ((c.tc : Thread Cert.MixoutSIdeal.nD Cert.MixoutSIdeal.τ).loc Cert.MixoutSIdeal.main_arg0)) (m ((c.tc : Thread Cert.MixoutSIdeal.nD Cert.MixoutSIdeal.τ).loc Cert.MixoutSIdeal.main_arg1)) (m ((c.tc : Thread Cert.MixoutSIdeal.nD Cert.MixoutSIdeal.τ).loc Cert.MixoutSIdeal.main_arg2)) (m ((c.tc : Thread Cert.MixoutSIdeal.nD Cert.MixoutSIdeal.τ).loc Cert.MixoutSIdeal.main_arg3)) (m ((c.tc : Thread Cert.MixoutSIdeal.nD Cert.MixoutSIdeal.τ).loc Cert.MixoutSIdeal.main_arg4)) := by
      rw [h0, h1, h2, h3, h4]
    have ek1 : Cert.MixoutSRefIdeal.Value.REFq (Cert.MixoutSRefIdeal.Value.REF1 (m' ((c.tc : Thread Cert.MixoutSRefIdeal.nD Cert.MixoutSRefIdeal.τ).loc Cert.MixoutSRefIdeal.main_arg0)) (m' ((c.tc : Thread Cert.MixoutSRefIdeal.nD Cert.MixoutSRefIdeal.τ).loc Cert.MixoutSRefIdeal.main_arg1)) (m' ((c.tc : Thread Cert.MixoutSRefIdeal.nD Cert.MixoutSRefIdeal.τ).loc Cert.MixoutSRefIdeal.main_arg2)) (m' ((c.tc : Thread Cert.MixoutSRefIdeal.nD Cert.MixoutSRefIdeal.τ).loc Cert.MixoutSRefIdeal.main_arg3)) (m' ((c.tc : Thread Cert.MixoutSRefIdeal.nD Cert.MixoutSRefIdeal.τ).loc Cert.MixoutSRefIdeal.main_arg4))) (m' ((c.tc : Thread Cert.MixoutSRefIdeal.nD Cert.MixoutSRefIdeal.τ).loc Cert.MixoutSRefIdeal.main_arg5)) (m' ((c.tc : Thread Cert.MixoutSRefIdeal.nD Cert.MixoutSRefIdeal.τ).loc Cert.MixoutSRefIdeal.main_arg6))
        = Cert.MixoutSRefIdeal.Value.REFq (Cert.MixoutSRefIdeal.Value.REF1 (m ((c.tc : Thread Cert.MixoutSIdeal.nD Cert.MixoutSIdeal.τ).loc Cert.MixoutSIdeal.main_arg0)) (m ((c.tc : Thread Cert.MixoutSIdeal.nD Cert.MixoutSIdeal.τ).loc Cert.MixoutSIdeal.main_arg1)) (m ((c.tc : Thread Cert.MixoutSIdeal.nD Cert.MixoutSIdeal.τ).loc Cert.MixoutSIdeal.main_arg2)) (m ((c.tc : Thread Cert.MixoutSIdeal.nD Cert.MixoutSIdeal.τ).loc Cert.MixoutSIdeal.main_arg3)) (m ((c.tc : Thread Cert.MixoutSIdeal.nD Cert.MixoutSIdeal.τ).loc Cert.MixoutSIdeal.main_arg4))) (m ((c.tc : Thread Cert.MixoutSIdeal.nD Cert.MixoutSIdeal.τ).loc Cert.MixoutSIdeal.main_arg5)) (m ((c.tc : Thread Cert.MixoutSIdeal.nD Cert.MixoutSIdeal.τ).loc Cert.MixoutSIdeal.main_arg6)) := by
      rw [h0, h1, h2, h3, h4, h5, h6]
    exact ⟨(k0.trans (by rfl)).trans ek0, (k1.trans (by rfl)).trans ek1, kr⟩

end Cert.MixoutSIdeal.Value

end
-- ==== Proof.CaS.Value.lean ====
module

public import proofs.«01_k».proof.Proof.Gen.CaSIdeal.Value
public import proofs.«01_k».proof.Proof.Gen.CaSRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CaSRefIdeal.Value

open Cert.CaSRefIdeal Cert.CaSRefIdeal.Gen

/-- The scores of every query against every memory row, per batch and head. -/
def SC (Q : FVec Ideal S128x16x1024 .bf16) (K : FVec Ideal S128x256x1024 .f32) : FVec Ideal S128x4x16x256 .f32 :=
  Host.dotGeneral (F := Ideal) (φ₁ := .f32) (φ₂ := .f32) dot_S128x16x4x256_S128x256x4x256_S128x4x16x256_3_3_1_1_02_02 none
    (shapeCast _ (extf .f32 Q bitsLt_bf16_f32) shapeCasts_S128x16x1024_S128x16x4x256)
    (shapeCast _ K shapeCasts_S128x256x1024_S128x256x4x256)

/-- The exponentials of the scores less their row's maximum. -/
def EX (s : FVec Ideal S128x4x16x256 .f32) : FVec Ideal S128x4x16x256 .f32 :=
  Host.exp (subf s (broadcastInDim S128x4x16x256 ![0, 1, 2, 3] bcast_S128x4x16x1_S128x4x16x256_0_1_2_3
    (broadcastInDim S128x4x16x1 ![0, 1, 2] bcast_S128x4x16_S128x4x16x1_0_1_2
      (maximumf (broadcastInDim S128x4x16 ![] bcast_S_S128x4x16 (constant S_ .f32 0xFF800000#32))
        (Host.reduce FloatOps.maximumf s (constant S_ .f32 0xFF800000#32) reducesTo_S128x4x16x256_S128x4x16_d3 h_S_)))))

/-- The softmax weights: the exponentials over their row's sum. -/
def SM (e : FVec Ideal S128x4x16x256 .f32) : FVec Ideal S128x4x16x256 .f32 :=
  Host.divf e (broadcastInDim S128x4x16x256 ![0, 1, 2, 3] bcast_S128x4x16x1_S128x4x16x256_0_1_2_3
    (broadcastInDim S128x4x16x1 ![0, 1, 2] bcast_S128x4x16_S128x4x16x1_0_1_2
      (Host.reduceAdd e (constant S_ .f32 0x00000000#32) reducesTo_S128x4x16x256_S128x4x16_d3 h_S_)))

/-- The reference's result: the weighted sums of the value rows, heads side by side. -/
def REF (Q : FVec Ideal S128x16x1024 .bf16) (K V : FVec Ideal S128x256x1024 .f32) : FVec Ideal S128x16x1024 .bf16 :=
  truncf .bf16 (shapeCast _ (transpose S128x16x4x256 [0, 3, 1, 2]
    (Host.dotGeneral (F := Ideal) (φ₁ := .f32) (φ₂ := .f32) dot_S128x256x4x256_S128x4x16x256_S128x4x256x16_1_3_3_2_02_01 none
      (shapeCast _ V shapeCasts_S128x256x1024_S128x256x4x256) (SM (EX (SC Q K))))
    transposes_S128x4x256x16_S128x16x4x256_0_3_1_2) shapeCasts_S128x16x4x256_S128x16x1024) bitsLt_bf16_f32

/-- The greatest of a start value and a fold of `max` from that start value is the fold. -/
theorem max_fold {ι : Type} (b : EReal) (f : ι → EReal) (s : Finset ι) :
    max b (Finset.fold max b f s) = Finset.fold max b f s :=
  max_eq_right ((Finset.le_fold_max _).2 (Or.inl le_rfl))

/-- The softmax weight of entry `x` of a row of scores. -/
def wt (s : Fin 256 → EReal) (x : Fin 256) : EReal :=
  Ideal.div (Ideal.exp (s x - Finset.fold max (Ideal.ofBits FTy.f32 0xFF800000#32) s Finset.univ))
    (∑ x, Ideal.exp (s x - Finset.fold max (Ideal.ofBits FTy.f32 0xFF800000#32) s Finset.univ))

/-- One output of attention: the query row `q` against the memory rows `k`, softmax over the rows, and the
    weighted sum of the rows' values `v`. -/
def att (q : Fin 256 → EReal) (k : Fin 256 → Fin 256 → EReal) (v : Fin 256 → EReal) : EReal :=
  ∑ x, wt (fun x => ∑ d, q d * k x d) x * v x

/-- The column of lane `d` of head `h`. -/
def hcol (h : Fin 4) (d : Fin 256) : Fin 1024 := ⟨h.val * 256 + d.val, by omega⟩

/-- The score products at an index, from the head-split operands. -/
theorem qk_apply (A : FVec Ideal S128x16x4x256 .f32) (B : FVec Ideal S128x256x4x256 .f32) (b : Fin 128) (h : Fin 4) (i : Fin 16) (x : Fin 256) :
    Host.dotGeneral (F := Ideal) (φ₁ := .f32) (φ₂ := .f32) dot_S128x16x4x256_S128x256x4x256_S128x4x16x256_3_3_1_1_02_02 none
      A B (ix4 b h i x) = ∑ d, A (ix4 b i h d) * B (ix4 b x h d) := by
  pointwise

/-- The head-split queries at an index. -/
theorem q_apply (Q : FVec Ideal S128x16x1024 .bf16) (b : Fin 128) (h : Fin 4) (i : Fin 16) (d : Fin 256) :
    shapeCast S128x16x4x256 (extf .f32 Q bitsLt_bf16_f32) shapeCasts_S128x16x1024_S128x16x4x256 (ix4 b i h d) = Q (ix3 b i (hcol h d)) := by
  pointwise [hcol]

/-- The head-split memory rows at an index. -/
theorem k_apply (K : FVec Ideal S128x256x1024 .f32) (b : Fin 128) (h : Fin 4) (x : Fin 256) (d : Fin 256) :
    shapeCast S128x256x4x256 K shapeCasts_S128x256x1024_S128x256x4x256 (ix4 b x h d) = K (ix3 b x (hcol h d)) := by
  pointwise [hcol]

/-- The scores at an index. -/
theorem sc_apply (Q : FVec Ideal S128x16x1024 .bf16) (K : FVec Ideal S128x256x1024 .f32) (b : Fin 128) (h : Fin 4) (i : Fin 16) (x : Fin 256) :
    SC Q K (ix4 b h i x) = ∑ d, Q (ix3 b i (hcol h d)) * K (ix3 b x (hcol h d)) := by
  rw [SC, qk_apply]
  simp only [q_apply, k_apply]

/-- The row maximum at an index. -/
theorem red_apply (s : FVec Ideal S128x4x16x256 .f32) (b : Fin 128) (h : Fin 4) (i : Fin 16) :
    Host.reduce FloatOps.maximumf s (constant S_ .f32 0xFF800000#32) reducesTo_S128x4x16x256_S128x4x16_d3 h_S_ (ix3 b h i)
    = Finset.fold max (Ideal.ofBits FTy.f32 0xFF800000#32) (fun x => s (ix4 b h i x)) Finset.univ := by
  pointwise

/-- The maximum with a filled array at an index. -/
theorem mx_apply (r : FVec Ideal S128x4x16 .f32) (b : Fin 128) (h : Fin 4) (i : Fin 16) :
    maximumf (broadcastInDim S128x4x16 ![] bcast_S_S128x4x16 (constant (F := Ideal) S_ .f32 0xFF800000#32)) r (ix3 b h i)
    = max (Ideal.ofBits FTy.f32 0xFF800000#32) (r (ix3 b h i)) := by
  pointwise

/-- A value per row, repeated along the row, at an index. -/
theorem bb_apply (r : FVec Ideal S128x4x16 .f32) (b : Fin 128) (h : Fin 4) (i : Fin 16) (x : Fin 256) :
    broadcastInDim S128x4x16x256 ![0, 1, 2, 3] bcast_S128x4x16x1_S128x4x16x256_0_1_2_3
      (broadcastInDim S128x4x16x1 ![0, 1, 2] bcast_S128x4x16_S128x4x16x1_0_1_2 r) (ix4 b h i x) = r (ix3 b h i) := by
  pointwise

/-- The exponential of a difference at an index. -/
theorem xs_apply (s r : FVec Ideal S128x4x16x256 .f32) (j : S128x4x16x256.Idx) :
    Host.exp (subf s r) j = Ideal.exp (s j - r j) := rfl

/-- The exponentials at an index. -/
theorem ex_apply (s : FVec Ideal S128x4x16x256 .f32) (b : Fin 128) (h : Fin 4) (i : Fin 16) (x : Fin 256) :
    EX s (ix4 b h i x) = Ideal.exp (s (ix4 b h i x) - Finset.fold max (Ideal.ofBits FTy.f32 0xFF800000#32) (fun x => s (ix4 b h i x)) Finset.univ) := by
  rw [EX, xs_apply, bb_apply, mx_apply, red_apply, max_fold]

/-- The softmax weights at an index. -/
theorem sm_apply (e : FVec Ideal S128x4x16x256 .f32) (b : Fin 128) (h : Fin 4) (i : Fin 16) (x : Fin 256) :
    SM e (ix4 b h i x) = Ideal.div (e (ix4 b h i x)) (∑ x, e (ix4 b h i x)) := by
  pointwise [SM]

/-- The softmax of the scores at an index, as one `wt`. -/
theorem w_apply (Q : FVec Ideal S128x16x1024 .bf16) (K : FVec Ideal S128x256x1024 .f32) (b : Fin 128) (h : Fin 4) (i : Fin 16) (x : Fin 256) :
    SM (EX (SC Q K)) (ix4 b h i x) = wt (fun x => ∑ d, Q (ix3 b i (hcol h d)) * K (ix3 b x (hcol h d))) x := by
  rw [sm_apply]
  simp only [ex_apply, sc_apply]
  rfl

/-- The value products and the reference's trailing layout at an index. -/
theorem pv_apply (V : FVec Ideal S128x256x1024 .f32) (w : FVec Ideal S128x4x16x256 .f32) (b : Fin 128) (h : Fin 4) (i : Fin 16) (d : Fin 256) :
    truncf .bf16 (shapeCast S128x16x1024 (transpose S128x16x4x256 [0, 3, 1, 2]
    (Host.dotGeneral (F := Ideal) (φ₁ := .f32) (φ₂ := .f32) dot_S128x256x4x256_S128x4x16x256_S128x4x256x16_1_3_3_2_02_01 none
      (shapeCast _ V shapeCasts_S128x256x1024_S128x256x4x256) w)
    transposes_S128x4x256x16_S128x16x4x256_0_3_1_2) shapeCasts_S128x16x4x256_S128x16x1024) bitsLt_bf16_f32 (ix3 b i (hcol h d))
    = ∑ x, w (ix4 b h i x) * V (ix3 b x (hcol h d)) := by
  pointwise [hcol]
  refine Finset.sum_congr rfl fun x _ => ?_
  rw [mul_comm]
  blk_ext

/-- The reference's result at an index, as one `att`. -/
theorem ref_apply (Q : FVec Ideal S128x16x1024 .bf16) (K V : FVec Ideal S128x256x1024 .f32) (b : Fin 128) (i : Fin 16) (h : Fin 4) (d : Fin 256) :
    REF Q K V (ix3 b i (hcol h d)) = att (fun d => Q (ix3 b i (hcol h d))) (fun x d => K (ix3 b x (hcol h d))) (fun x => V (ix3 b x (hcol h d))) := by
  unfold REF
  rw [pv_apply]
  simp only [w_apply]
  rfl

end Cert.CaSRefIdeal.Value

namespace Cert.CaSIdeal.Value

open Cert.CaSIdeal Cert.CaSIdeal.Gen Cert.CaSRefIdeal.Value

variable (m : (ℓ : Loc nD τ sig) → Buf (Elt Ideal) ℓ)

/-- The block index of every window at every grid point. -/
theorem idx : ∀ t : Fin cfg0.N, win0_0.index t = ![t.val, 0, 0] ∧ win0_1.index t = ![t.val, 0, 0]
    ∧ win0_2.index t = ![t.val, 0, 0] ∧ win0_3.index t = ![t.val, 0, 0] :=
  (by decide +kernel : ∀ t : Fin grid0.N, _)

/-- One head of the kernel's block at an index: the first head. -/
theorem pay2_apply (a b v) (i : Fin 16) (j : Fin 256) : k0_pay2 (F := Ideal) a b v (ix2 i j)
    = att (fun d => a (ix3 0 i d)) (fun x d => b (ix3 0 x d)) (fun x => v (ix3 0 x j)) := by
  pointwise [k0_pay2]
  rfl

/-- The second head. -/
theorem pay4_apply (a b v) (i : Fin 16) (j : Fin 256) : k0_pay4 (F := Ideal) (k0_pay3 a b) v (ix2 i j)
    = att (fun d => a (ix3 0 i d)) (fun x d => b (ix3 0 x d)) (fun x => v (ix3 0 x j)) := by
  pointwise [k0_pay4, k0_pay3]
  rfl

/-- The third head. -/
theorem pay5_apply (a b v) (i : Fin 16) (j : Fin 256) : k0_pay5 (F := Ideal) a b v (ix2 i j)
    = att (fun d => a (ix3 0 i d)) (fun x d => b (ix3 0 x d)) (fun x => v (ix3 0 x j)) := by
  pointwise [k0_pay5]
  rfl

/-- The four heads side by side: the fourth head is finished here. -/
theorem pay1_apply (p q r e v) (i : Fin 16) (h : Fin 4) (j : Fin 256) : k0_pay1 (F := Ideal) p q r e v (ix3 0 i (hcol h j))
    = (if h.val = 0 then p (ix2 i j) else if h.val = 1 then q (ix2 i j) else if h.val = 2 then r (ix2 i j)
        else ∑ x, Ideal.div (e (ix2 i x)) (∑ x, e (ix2 i x)) * v (ix3 0 x j)) := by
  pointwise [k0_pay1, hcol]
  have hj := j.isLt
  by_cases h0 : h.val = 0
  · rw [dif_pos (by omega), if_pos h0]; blk_ext
  by_cases h1 : h.val = 1
  · rw [dif_neg (by omega), dif_pos (by omega), if_neg h0, if_pos h1]; blk_ext
  by_cases h2 : h.val = 2
  · rw [dif_neg (by omega), dif_neg (by omega), dif_pos (by omega), if_neg h0, if_neg h1, if_pos h2]; blk_ext
  rw [dif_neg (by omega), dif_neg (by omega), dif_neg (by omega), if_neg h0, if_neg h1, if_neg h2]
  refine Finset.sum_congr rfl fun x _ => ?_
  rw [show (⟨h.val * 256 + j.val - 256 - 256 - 256, by omega⟩ : Fin 256) = j from Fin.ext (by dsimp only; omega)]

/-- The fourth head's exponentials. -/
theorem pay6_apply (a b) (i : Fin 16) (x : Fin 256) : k0_pay6 (F := Ideal) a b (ix2 i x)
    = Ideal.exp (∑ d, a (ix3 0 i d) * b (ix3 0 x d)
      - Finset.fold max (Ideal.ofBits FTy.f32 0xFF800000#32) (fun x => ∑ d, a (ix3 0 i d) * b (ix3 0 x d)) Finset.univ) := by
  pointwise [k0_pay6]

/-- What grid point `t` stores, at row `i` and lane `j` of head `h`, from its blocks. -/
theorem block (c : Dev nD) (t : Fin cfg0.N) (i : Fin 16) (h : Fin 4) (j : Fin 256) :
    k0_pay1 (F := Ideal) (k0_pay2 (View.ld (iblk m c 0 t) r0_0) (View.ld (iblk m c 1 t) r0_1) (View.ld (iblk m c 2 t) r0_1)) (k0_pay4 (k0_pay3 (View.ld (iblk m c 0 t) r0_2) (View.ld (iblk m c 1 t) r0_3)) (View.ld (iblk m c 2 t) r0_3)) (k0_pay5 (View.ld (iblk m c 0 t) r0_4) (View.ld (iblk m c 1 t) r0_5) (View.ld (iblk m c 2 t) r0_5)) (k0_pay6 (View.ld (iblk m c 0 t) r0_6) (View.ld (iblk m c 1 t) r0_7)) (View.ld (iblk m c 2 t) r0_7) (ix3 0 i (hcol h j))
    = att (fun d => iblk m c 0 t (ix3 0 i (hcol h d))) (fun x d => iblk m c 1 t (ix3 0 x (hcol h d))) (fun x => iblk m c 2 t (ix3 0 x (hcol h j))) := by
  rw [pay1_apply, pay2_apply, pay4_apply, pay5_apply]
  simp only [pay6_apply]
  have hh : h = 0 ∨ h = 1 ∨ h = 2 ∨ h = 3 := by omega
  rcases hh with rfl | rfl | rfl | rfl
  · refine (if_pos rfl).trans ?_
    pointwise
    simp only [hcol]
    congr 1 <;> funext x <;> first | (funext d; blk_ext) | blk_ext
  · refine (if_neg (by decide)).trans ((if_pos rfl).trans ?_)
    pointwise
    congr 1 <;> funext x <;> first | (funext d; blk_ext) | blk_ext
  · refine (if_neg (by decide)).trans ((if_neg (by decide)).trans ((if_pos rfl).trans ?_))
    pointwise
    congr 1 <;> funext x <;> first | (funext d; blk_ext) | blk_ext
  · refine (if_neg (by decide)).trans ((if_neg (by decide)).trans ((if_neg (by decide)).trans ?_))
    pointwise
    refine Finset.sum_congr rfl fun x _ => ?_
    rfl

/-- Every column is a lane of a head. -/
theorem col_cases (n : Fin 1024) : ∃ h d, n = hcol h d :=
  ⟨⟨n.val / 256, by omega⟩, ⟨n.val % 256, by omega⟩, Fin.ext (by dsimp only [hcol]; omega)⟩

/-- The result array after the run is the reference's function of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨a, i, n, rfl⟩ : ∃ a i n, y = ix3 a i n := ⟨_, _, _, eq_ix3 y⟩
  obtain ⟨h, d, rfl⟩ := col_cases n
  obtain rfl : a = 0 := by omega
  refine (block m c t i h d).trans ?_
  have hd : ∃ (b : Fin 128) (r : Fin 16), ((cfg0.win 3).blk t).view.emb (ix3 0 i (hcol h d)) = ix3 b r (hcol h d) ∧ b.val = t.val ∧ r.val = i.val := by
    have ht : t.val < 128 := lt_of_lt_of_eq t.isLt N_0
    refine ⟨⟨t.val, by omega⟩, ⟨i.val, by omega⟩, ?_, rfl, rfl⟩
    funext k
    match k with
    | ⟨0, _⟩ => refine Fin.ext ?_; blk_simp [idx t]; exact Nat.add_zero _
    | ⟨1, _⟩ => refine Fin.ext ?_; blk_simp [idx t]
    | ⟨2, _⟩ => refine Fin.ext ?_; blk_simp [idx t]
  obtain ⟨b, r, e, hb, hr⟩ := hd
  rw [e, ref_apply]
  congr 1
  · funext k; blk_point [iblk, V, idx t]
  · funext x k; blk_point [iblk, V, idx t]
  · funext x; blk_point [iblk, V, idx t]

end Cert.CaSIdeal.Value

end
-- ==== Proof.CaS.Claim.lean ====
module

public import proofs.«01_k».proof.Defs
public import proofs.«01_k».proof.Proof.CaS.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem

namespace Cert.CaSIdeal.Value

/-- The reference runs to the end, leaves its arguments as they were and every semaphore counter at zero. -/
theorem still : Cert.quiescent_CaSRefIdeal := by
  intro m g _
  refine (θ_run _ _ _).mono (fun r h => ⟨fun c => ?_, sem_eq_zero_of_no_sems (sig := Cert.CaSRefIdeal.sig) (by decide) r.2⟩) (Cert.CaSRefIdeal.Value.run m g)
  obtain ⟨_, kr⟩ := h c
  exact kr

/-- Over the extended reals the kernel and the reference, started on the same arguments, both run to the end, leave
    the arguments as they were and end with equal results. -/
theorem agree : Cert.algebraic_CaSIdeal_CaSRefIdeal := by
  intro m g m' g' _ hag
  refine ⟨fun c => Cert.CaSRefIdeal.Value.REF (m ((c.tc : Thread Cert.CaSIdeal.nD Cert.CaSIdeal.τ).loc Cert.CaSIdeal.main_arg0)) (m ((c.tc : Thread Cert.CaSIdeal.nD Cert.CaSIdeal.τ).loc Cert.CaSIdeal.main_arg1)) (m ((c.tc : Thread Cert.CaSIdeal.nD Cert.CaSIdeal.τ).loc Cert.CaSIdeal.main_arg2)),
    (θ_run _ _ _).mono (fun _ h c => ?_) (Cert.CaSIdeal.Value.run_blocks m g),
    (θ_run _ _ _).mono (fun _ h c => ?_) (Cert.CaSRefIdeal.Value.run m' g')⟩
  · obtain ⟨k0, kr⟩ := h c
    exact ⟨k0.trans (final m c), kr⟩
  · obtain ⟨k0, kr⟩ := h c
    obtain ⟨h0, h1, h2⟩ := hag c
    have ek0 : Cert.CaSRefIdeal.Value.REF (m' ((c.tc : Thread Cert.CaSRefIdeal.nD Cert.CaSRefIdeal.τ).loc Cert.CaSRefIdeal.main_arg0)) (m' ((c.tc : Thread Cert.CaSRefIdeal.nD Cert.CaSRefIdeal.τ).loc Cert.CaSRefIdeal.main_arg1)) (m' ((c.tc : Thread Cert.CaSRefIdeal.nD Cert.CaSRefIdeal.τ).loc Cert.CaSRefIdeal.main_arg2))
        = Cert.CaSRefIdeal.Value.REF (m ((c.tc : Thread Cert.CaSIdeal.nD Cert.CaSIdeal.τ).loc Cert.CaSIdeal.main_arg0)) (m ((c.tc : Thread Cert.CaSIdeal.nD Cert.CaSIdeal.τ).loc Cert.CaSIdeal.main_arg1)) (m ((c.tc : Thread Cert.CaSIdeal.nD Cert.CaSIdeal.τ).loc Cert.CaSIdeal.main_arg2)) := by
      rw [h0, h1, h2]
    exact ⟨(k0.trans (by rfl)).trans ek0, kr⟩

end Cert.CaSIdeal.Value

end
-- ==== Proof.MmResS.Value.lean ====
module

public import proofs.«01_k».proof.Proof.Gen.MmResSIdeal.Value
public import proofs.«01_k».proof.Proof.Gen.MmResSRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MmResSIdeal.Value

open Cert.MmResSIdeal Cert.MmResSIdeal.Gen

variable (m : (ℓ : Loc nD τ sig) → Buf (Elt Ideal) ℓ)

/-- The reference's result as a function of the three argument arrays: residual plus product. -/
def REF (A : FVec Ideal S512x1024 .bf16) (W : FVec Ideal S1x1024x1024 .f32) (R : FVec Ideal S512x1024 .f32) :
    FVec Ideal S512x1024 .f32 :=
  addf R (Host.dotGeneral (F := Ideal) (φ₁ := .f32) (φ₂ := .f32) Cert.MmResSRefIdeal.dot_S512x1024_S1024x1024_S512x1024_1_0_0_1_n_n none
    (extf .f32 A Cert.MmResSRefIdeal.Gen.bitsLt_bf16_f32)
    (shapeCast _ W Cert.MmResSRefIdeal.Gen.shapeCasts_S1x1024x1024_S1024x1024))

/-- The block index of every window at every grid point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- What grid point `t` stores at index `y` of its block is the reference's value at the array index there. -/
theorem point (c : Dev nD) (t : Fin cfg0.N) (y : S512x1024.Idx) :
    k0_pay1 (F := Ideal) (iblk m c 2 t) (iblk m c 0 t) (iblk m c 1 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The result array after the run is the reference's function of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.MmResSIdeal.Value

end
-- ==== Proof.MmResS.Claim.lean ====
module

public import proofs.«01_k».proof.Defs
public import proofs.«01_k».proof.Proof.MmResS.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem

namespace Cert.MmResSIdeal.Value

/-- The reference runs to the end, leaves its arguments as they were and every semaphore counter at zero. -/
theorem still : Cert.quiescent_MmResSRefIdeal := by
  intro m g _
  refine (θ_run _ _ _).mono (fun r h => ⟨fun c => ?_, sem_eq_zero_of_no_sems (sig := Cert.MmResSRefIdeal.sig) (by decide) r.2⟩) (Cert.MmResSRefIdeal.Value.run m g)
  obtain ⟨_, kr⟩ := h c
  exact kr

/-- Over the extended reals the kernel and the reference, started on the same arguments, both run to the end, leave
    the arguments as they were and end with equal results. -/
theorem agree : Cert.algebraic_MmResSIdeal_MmResSRefIdeal := by
  intro m g m' g' _ hag
  refine ⟨fun c => Cert.MmResSIdeal.Value.REF (m ((c.tc : Thread Cert.MmResSIdeal.nD Cert.MmResSIdeal.τ).loc Cert.MmResSIdeal.main_arg0)) (m ((c.tc : Thread Cert.MmResSIdeal.nD Cert.MmResSIdeal.τ).loc Cert.MmResSIdeal.main_arg1)) (m ((c.tc : Thread Cert.MmResSIdeal.nD Cert.MmResSIdeal.τ).loc Cert.MmResSIdeal.main_arg2)),
    (θ_run _ _ _).mono (fun _ h c => ?_) (Cert.MmResSIdeal.Value.run_blocks m g),
    (θ_run _ _ _).mono (fun _ h c => ?_) (Cert.MmResSRefIdeal.Value.run m' g')⟩
  · obtain ⟨k0, kr⟩ := h c
    exact ⟨k0.trans (final m c), kr⟩
  · obtain ⟨k0, kr⟩ := h c
    obtain ⟨h0, h1, h2⟩ := hag c
    have ek0 : Cert.MmResSIdeal.Value.REF (m' ((c.tc : Thread Cert.MmResSRefIdeal.nD Cert.MmResSRefIdeal.τ).loc Cert.MmResSRefIdeal.main_arg0)) (m' ((c.tc : Thread Cert.MmResSRefIdeal.nD Cert.MmResSRefIdeal.τ).loc Cert.MmResSRefIdeal.main_arg1)) (m' ((c.tc : Thread Cert.MmResSRefIdeal.nD Cert.MmResSRefIdeal.τ).loc Cert.MmResSRefIdeal.main_arg2))
        = Cert.MmResSIdeal.Value.REF (m ((c.tc : Thread Cert.MmResSIdeal.nD Cert.MmResSIdeal.τ).loc Cert.MmResSIdeal.main_arg0)) (m ((c.tc : Thread Cert.MmResSIdeal.nD Cert.MmResSIdeal.τ).loc Cert.MmResSIdeal.main_arg1)) (m ((c.tc : Thread Cert.MmResSIdeal.nD Cert.MmResSIdeal.τ).loc Cert.MmResSIdeal.main_arg2)) := by
      rw [h0, h1, h2]
    exact ⟨(k0.trans (by rfl)).trans ek0, kr⟩

end Cert.MmResSIdeal.Value

end
-- ==== Proof.FfnS.Value.lean ====
module

public import proofs.«01_k».proof.Proof.Gen.FfnSIdeal.Value
public import proofs.«01_k».proof.Proof.Gen.FfnSRefIdeal.Run
public import Idealize.ShloMosaic.Lib.Pipeline.ValueKit
public import Idealize.ShloMosaic.Lib.Pointwise
public import Idealize.ShloMosaic.Lib.Pipeline.ReadBack
@[expose] public section

set_option maxRecDepth 16384

noncomputable section

open Idealize.ShloMosaic Idealize.ShloMosaic.TcCoe Idealize.SL.Sem
open Idealize.ShloMosaic.Pipeline (Dat)

namespace Cert.FfnSRefIdeal.Value

open Cert.FfnSRefIdeal Cert.FfnSRefIdeal.Gen

/-- Every row divided by its root mean square. -/
def RMS (X : FVec Ideal S512x1024 .f32) : FVec Ideal S512x1024 .f32 :=
  mulf X (broadcastInDim S512x1024 ![0, 1] bcast_S512x1_S512x1024_0_1 (Host.rsqrt (addf (Host.divf (broadcastInDim S512x1 ![0] bcast_S512_S512x1_0 (Host.reduceAdd (mulf X X) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))

/-- Rows scaled by the gains. -/
def SCL (X : FVec Ideal S512x1024 .f32) (g : FVec Ideal S1024 .f32) : FVec Ideal S512x1024 .f32 :=
  mulf X (broadcastInDim S512x1024 ![0, 1] bcast_S1x1024_S512x1024_0_1 (broadcastInDim S1x1024 ![1] bcast_S1024_S1x1024_1 g))

/-- The product of rows with the gate or the up weight. -/
def UP (X : FVec Ideal S512x1024 .f32) (W : FVec Ideal S1x1024x2816 .f32) : FVec Ideal S512x2816 .f32 :=
  Host.dotGeneral (F := Ideal) (φ₁ := .f32) (φ₂ := .f32) dot_S512x1024_S1024x2816_S512x2816_1_0_0_1_n_n none X (shapeCast _ W shapeCasts_S1x1024x2816_S1024x2816)

/-- The product of the hidden rows with the down weight. -/
def DOWN (X : FVec Ideal S512x2816 .f32) (W : FVec Ideal S1x2816x1024 .f32) : FVec Ideal S512x1024 .f32 :=
  Host.dotGeneral (F := Ideal) (φ₁ := .f32) (φ₂ := .f32) dot_S512x2816_S2816x1024_S512x1024_1_0_0_1_n_n none X (shapeCast _ W shapeCasts_S1x2816x1024_S2816x1024)

/-- The gated hidden rows, from the gate's and the up products. -/
def ACT (G U : FVec Ideal S512x2816 .f32) : FVec Ideal S512x2816 .f32 :=
  mulf (mulf G (Host.divf (broadcastInDim S512x2816 ![] bcast_S_S512x2816 (constant S_ .f32 0x3F800000#32)) (addf (broadcastInDim S512x2816 ![] bcast_S_S512x2816 (constant S_ .f32 0x3F800000#32)) (Host.exp (Host.negf G))))) U

/-- The rows after the feed-forward layer and its residual. -/
def Y (x : FVec Ideal S512x1024 .f32) (g : FVec Ideal S1x1024 .f32) (wg wu : FVec Ideal S1x1024x2816 .f32) (wd : FVec Ideal S1x2816x1024 .f32) : FVec Ideal S512x1024 .f32 :=
  addf x (DOWN (ACT (UP (SCL (RMS x) (shapeCast _ g shapeCasts_S1x1024_S1024)) wg) (UP (SCL (RMS x) (shapeCast _ g shapeCasts_S1x1024_S1024)) wu)) wd)

/-- The reference's result: the feed-forward layer with its residual and the final normalization. -/
def REF (x : FVec Ideal S512x1024 .f32) (g : FVec Ideal S1x1024 .f32) (wg wu : FVec Ideal S1x1024x2816 .f32) (wd : FVec Ideal S1x2816x1024 .f32) (gf : FVec Ideal S1024 .f32) :
    FVec Ideal S512x1024 .f32 :=
  SCL (RMS (Y x g wg wu wd)) gf

/-- The run's result is `REF` of the arguments. -/
theorem res_eq (m : (ℓ : Loc nD τ sig) → Buf (Elt Ideal) ℓ) (c : Dev nD) : res_main_v35 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-- A normalized, scaled entry of a row. -/
def nrm (x g : Fin 1024 → EReal) (k : Fin 1024) : EReal :=
  x k * Ideal.rsqrt (Ideal.div (∑ k, x k * x k) (Ideal.ofBits .f32 0x44800000#32) + Ideal.ofBits .f32 0x358637BD#32) * g k

/-- A hidden entry, from a normalized row and the columns of the gate and the up weight. -/
def hu (h wg wu : Fin 1024 → EReal) : EReal :=
  (∑ k, h k * wg k) * Ideal.logistic (∑ k, h k * wg k) * ∑ k, h k * wu k

/-- The normalization at an index. -/
theorem rms_apply (X r d) : RMS X (ix2 r d) = X (ix2 r d) * Ideal.rsqrt (Ideal.div (∑ k, X (ix2 r k) * X (ix2 r k)) (Ideal.ofBits .f32 0x44800000#32) + Ideal.ofBits .f32 0x358637BD#32) := by
  pointwise [RMS]
/-- The scaling at an index. -/
theorem scl_apply (X g r d) : SCL X g (ix2 r d) = X (ix2 r d) * g (ix1 d) := by
  pointwise [SCL]
/-- The gains as a vector. -/
theorem vec_apply (g : FVec Ideal S1x1024 .f32) (k : Fin 1024) : (shapeCast S1024 g shapeCasts_S1x1024_S1024) (ix1 k) = g (ix2 0 k) := by
  pointwise
/-- The product at an index. -/
theorem up_apply (X W r n) : UP X W (ix2 r n) = ∑ k, X (ix2 r k) * W (ix3 0 k n) := by
  pointwise [UP]
/-- The product at an index. -/
theorem down_apply (X W r n) : DOWN X W (ix2 r n) = ∑ k, X (ix2 r k) * W (ix3 0 k n) := by
  pointwise [DOWN]
/-- The gated entry at an index. -/
theorem act_apply (G U r n) : ACT G U (ix2 r n) = G (ix2 r n) * Ideal.logistic (G (ix2 r n)) * U (ix2 r n) := by
  pointwise [ACT]
  rfl
/-- The layer with its residual at an index. -/
theorem y_apply (x g wg wu wd r n) : Y x g wg wu wd (ix2 r n)
    = x (ix2 r n) + ∑ l, hu (nrm (fun k => x (ix2 r k)) (fun k => g (ix2 0 k))) (fun k => wg (ix3 0 k l)) (fun k => wu (ix3 0 k l)) * wd (ix3 0 l n) := by
  refine Eq.trans (b := x (ix2 r n) + DOWN _ wd (ix2 r n)) rfl ?_
  simp only [down_apply, act_apply, up_apply, scl_apply, rms_apply, vec_apply]
  rfl
/-- The result at an index. -/
theorem ref_apply (x g wg wu wd gf r n) : REF x g wg wu wd gf (ix2 r n) = nrm (fun n => Y x g wg wu wd (ix2 r n)) (fun k => gf (ix1 k)) n := by
  unfold REF
  rw [scl_apply, rms_apply]
  rfl

end Cert.FfnSRefIdeal.Value

namespace Cert.FfnSIdeal.Value

open Cert.FfnSIdeal Cert.FfnSIdeal.Gen Cert.FfnSRefIdeal.Value

variable (m : (ℓ : Loc nD τ sig) → Buf (Elt Ideal) ℓ)

/-- The block index of every window at every grid point. -/
theorem idx : ∀ t : Fin cfg0.N, win0_0.index t = ![t.val / 2, 0] ∧ win0_1.index t = ![0, 0] ∧ win0_2.index t = ![0, t.val % 2]
    ∧ win0_3.index t = ![0, t.val % 2] ∧ win0_4.index t = ![t.val % 2, 0] ∧ win0_5.index t = ![0, 0] ∧ win0_6.index t = ![t.val / 2, 0] :=
  (by decide +kernel : ∀ t : Fin grid0.N, _)

/-- The normalized block at an index. -/
theorem pay1_apply (x g i n) : k0_pay1 (F := Ideal) x g (ix2 i n) = nrm (fun k => x (ix2 i k)) (fun k => g (ix2 0 k)) n := by
  pointwise [k0_pay1]
  rfl
/-- The accumulator's initial value. -/
theorem pay2_apply (i n) : k0_pay2 (F := Ideal) (ix2 i n) = 0 := by
  pointwise [k0_pay2]
/-- One accumulation at an index. -/
theorem pay3_apply (h wg wu acc wd i n) : k0_pay3 (F := Ideal) h wg wu acc wd (ix2 i n)
    = acc (ix2 i n) + ∑ l, hu (fun k => h (ix2 i k)) (fun k => wg (ix2 k l)) (fun k => wu (ix2 k l)) * wd (ix2 l n) := by
  pointwise [k0_pay3]
  rfl
/-- The written block at an index. -/
theorem pay4_apply (x acc g i n) : k0_pay4 (F := Ideal) x acc g (ix2 i n)
    = nrm (fun k => x (ix2 i k) + acc (ix2 i k)) (fun k => g (ix2 0 k)) n := by
  pointwise [k0_pay4]
  rfl

/-- The gate weight without its unit axis. -/
theorem v1_apply (c : Dev nD) (k : Fin 1024) (n : Fin 2816) : V m c main_v1 (ix2 k n) = m ((c : Thread nD τ).loc main_arg2) (ix3 0 k n) := by
  entry_read; pointwise
/-- The up weight without its unit axis. -/
theorem v3_apply (c : Dev nD) (k : Fin 1024) (n : Fin 2816) : V m c main_v3 (ix2 k n) = m ((c : Thread nD τ).loc main_arg3) (ix3 0 k n) := by
  entry_read; pointwise
/-- The down weight without its unit axis. -/
theorem v5_apply (c : Dev nD) (k : Fin 2816) (n : Fin 1024) : V m c main_v5 (ix2 k n) = m ((c : Thread nD τ).loc main_arg4) (ix3 0 k n) := by
  entry_read; pointwise
/-- The gains. -/
theorem v7_apply (c : Dev nD) (k : Fin 1024) : V m c main_v7 (ix2 0 k) = m ((c : Thread nD τ).loc main_arg1) (ix2 0 k) := by
  entry_read; pointwise
/-- The final gains. -/
theorem v8_apply (c : Dev nD) (k : Fin 1024) : V m c main_v8 (ix2 0 k) = m ((c : Thread nD τ).loc main_arg5) (ix1 k) := by
  entry_read; pointwise

/-- The rows' block. -/
theorem blk0 (c : Dev nD) (t : Fin cfg0.N) (i : Fin 512) (k : Fin 1024) (r : Fin 512) (hr : r.val = t.val / 2 * 512 + i.val) :
    iblk m c 0 t (ix2 i k) = m ((c : Thread nD τ).loc main_arg0) (ix2 r k) := by
  blk_ext [iblk, V, idx t, hr]
/-- The gains' block. -/
theorem blk1 (c : Dev nD) (t : Fin cfg0.N) (k : Fin 1024) : iblk m c 1 t (ix2 0 k) = m ((c : Thread nD τ).loc main_arg1) (ix2 0 k) :=
  Eq.trans (b := V m c main_v7 (ix2 0 k)) (by blk_ext [iblk, idx t]) (v7_apply m c k)
/-- The gate weight's block. -/
theorem blk2 (c : Dev nD) (t : Fin cfg0.N) (k : Fin 1024) (l : Fin 1408) (q : Fin 2816) (hq : q.val = t.val % 2 * 1408 + l.val) :
    iblk m c 2 t (ix2 k l) = m ((c : Thread nD τ).loc main_arg2) (ix3 0 k q) :=
  Eq.trans (b := V m c main_v1 (ix2 k q)) (by blk_ext [iblk, idx t, hq]) (v1_apply m c k q)
/-- The up weight's block. -/
theorem blk3 (c : Dev nD) (t : Fin cfg0.N) (k : Fin 1024) (l : Fin 1408) (q : Fin 2816) (hq : q.val = t.val % 2 * 1408 + l.val) :
    iblk m c 3 t (ix2 k l) = m ((c : Thread nD τ).loc main_arg3) (ix3 0 k q) :=
  Eq.trans (b := V m c main_v3 (ix2 k q)) (by blk_ext [iblk, idx t, hq]) (v3_apply m c k q)
/-- The down weight's block. -/
theorem blk4 (c : Dev nD) (t : Fin cfg0.N) (l : Fin 1408) (n : Fin 1024) (q : Fin 2816) (hq : q.val = t.val % 2 * 1408 + l.val) :
    iblk m c 4 t (ix2 l n) = m ((c : Thread nD τ).loc main_arg4) (ix3 0 q n) :=
  Eq.trans (b := V m c main_v5 (ix2 q n)) (by blk_ext [iblk, idx t, hq]) (v5_apply m c q n)
/-- The final gains' block. -/
theorem blk5 (c : Dev nD) (t : Fin cfg0.N) (k : Fin 1024) : iblk m c 5 t (ix2 0 k) = m ((c : Thread nD τ).loc main_arg5) (ix1 k) :=
  Eq.trans (b := V m c main_v8 (ix2 0 k)) (by blk_ext [iblk, idx t]) (v8_apply m c k)

/-- What an even point leaves in the normalized rows' scratch. -/
theorem sc_A1 (c : Dev nD) (t : Fin cfg0.N) (h0 : t.val % 2 = 0) :
    (outsAt0 m c t.val t.isLt).2.1 = k0_pay1 (F := Ideal) (iblk m c 0 t) (iblk m c 1 t) := by
  rw [outsAt0_A m c t h0 (by omega)]; frame_out
/-- What an even point leaves in the accumulator. -/
theorem sc_A2 (c : Dev nD) (t : Fin cfg0.N) (h0 : t.val % 2 = 0) :
    (outsAt0 m c t.val t.isLt).2.2 = k0_pay3 (F := Ideal) (k0_pay1 (F := Ideal) (iblk m c 0 t) (iblk m c 1 t)) (iblk m c 2 t) (iblk m c 3 t) (k0_pay2 (F := Ideal)) (iblk m c 4 t) := by
  rw [outsAt0_A m c t h0 (by omega)]; frame_out
/-- What an odd point writes, from the two scratches the point before left. -/
theorem out_B (c : Dev nD) (t : Fin cfg0.N) (h1 : t.val % 2 = 1) :
    (outsAt0 m c t.val t.isLt).1 = k0_pay4 (F := Ideal) (iblk m c 0 t)
      (k0_pay3 (F := Ideal) (outsAt0 m c (t.val - 1) (Nat.lt_of_le_of_lt (Nat.sub_le _ _) t.isLt)).2.1 (iblk m c 2 t) (iblk m c 3 t)
        (outsAt0 m c (t.val - 1) (Nat.lt_of_le_of_lt (Nat.sub_le _ _) t.isLt)).2.2 (iblk m c 4 t)) (iblk m c 5 t) := by
  rw [outsAt0_B m c t (by omega) h1]; frame_out
  rw [read_unread_whole, read_unread_whole]

/-- One point's part of the hidden contraction, in the arguments. -/
theorem part (c : Dev nD) (t : Fin cfg0.N) (h : Fin 1024 → EReal) (n : Fin 1024) (e : Fin 1408 → Fin 2816) (he : ∀ l, (e l).val = t.val % 2 * 1408 + l.val) :
    (∑ l, hu h (fun k => iblk m c 2 t (ix2 k l)) (fun k => iblk m c 3 t (ix2 k l)) * iblk m c 4 t (ix2 l n) : EReal)
    = ∑ l, hu h (fun k => m ((c : Thread nD τ).loc main_arg2) (ix3 0 k (e l))) (fun k => m ((c : Thread nD τ).loc main_arg3) (ix3 0 k (e l)))
        * m ((c : Thread nD τ).loc main_arg4) (ix3 0 (e l) n) := by
  refine Fin.sum_fin_congr fun l => ?_
  have e2 := fun k => blk2 m c t k l (e l) (he l)
  have e3 := fun k => blk3 m c t k l (e l) (he l)
  simp only [e2, e3, blk4 m c t l n (e l) (he l)]

/-- What an odd point writes is the reference's value at the array index there. -/
theorem point (c : Dev nD) (t : Fin cfg0.N) (h1 : t.val % 2 = 1) (i : Fin 512) (n : Fin 1024) (r : Fin 512) (hr : r.val = t.val / 2 * 512 + i.val) :
    (outsAt0 m c t.val t.isLt).1 (ix2 i n) = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r n) := by
  obtain ⟨s, hs⟩ : ∃ s : Fin cfg0.N, s.val = t.val - 1 := ⟨⟨t.val - 1, Nat.lt_of_le_of_lt (Nat.sub_le _ _) t.isLt⟩, rfl⟩
  have a1 := sc_A1 m c s (by omega)
  have a2 := sc_A2 m c s (by omega)
  simp only [hs] at a1 a2
  rw [out_B m c t h1, a1, a2, ref_apply]
  refine (pay4_apply _ _ _ i n).trans ?_
  have e0 := fun k => blk0 m c t i k r hr
  have e0' := fun k => blk0 m c s i k r (by omega)
  simp only [e0, blk5, y_apply, pay3_apply, pay2_apply, pay1_apply, e0', blk1, zero_add]
  congr 1; funext k; refine congrArg _ ?_
  rw [part m c s _ k (Fin.castAdd 1408) (fun l => by have := Fin.val_castAdd 1408 l; omega), part m c t _ k (Fin.natAdd 1408) (fun l => by have := Fin.val_natAdd 1408 l; omega)]
  exact (Fin.sum_univ_add (M := EReal) (a := 1408) (b := 1408) fun l =>
    hu (nrm (fun k => m ((c : Thread nD τ).loc main_arg0) (ix2 r k)) (fun k => m ((c : Thread nD τ).loc main_arg1) (ix2 0 k)))
      (fun k => m ((c : Thread nD τ).loc main_arg2) (ix3 0 k l)) (fun k => m ((c : Thread nD τ).loc main_arg3) (ix3 0 k l))
      * m ((c : Thread nD τ).loc main_arg4) (ix3 0 l k)).symm

/-- The result after the run is the reference's function of the arguments. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  obtain ⟨i, n, rfl⟩ : ∃ i n, y = ix2 i n := ⟨_, _, eq_ix2 y⟩
  have ht := lt_of_lt_of_eq t.isLt N_0
  have he : ((cfg0.win 6).blk t).view.emb (ix2 i n) = ix2 ⟨t.val / 2 * 512 + i.val, by omega⟩ n := by
    funext k
    match k with
    | ⟨0, _⟩ => refine Fin.ext ?_; blk_simp [idx t]
    | ⟨1, _⟩ => refine Fin.ext ?_; blk_simp [idx t]
  rw [he]
  exact point m c t ((flush0_6 t).mp hf) i n _ rfl

end Cert.FfnSIdeal.Value

end
-- ==== Proof.FfnS.Claim.lean ====
module

public import proofs.«01_k».proof.Defs
public import proofs.«01_k».proof.Proof.FfnS.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem

namespace Cert.FfnSIdeal.Value

/-- The reference runs to the end, leaves its arguments as they were and every semaphore counter at zero. -/
theorem still : Cert.quiescent_FfnSRefIdeal := by
  intro m g _
  refine (θ_run _ _ _).mono (fun r h => ⟨fun c => ?_, sem_eq_zero_of_no_sems (sig := Cert.FfnSRefIdeal.sig) (by decide) r.2⟩) (Cert.FfnSRefIdeal.Value.run m g)
  obtain ⟨_, kr⟩ := h c
  exact kr

/-- Over the extended reals the kernel and the reference, started on the same arguments, both run to the end, leave
    the arguments as they were and end with equal results. -/
theorem agree : Cert.algebraic_FfnSIdeal_FfnSRefIdeal := by
  intro m g m' g' _ hag
  refine ⟨fun c => Cert.FfnSRefIdeal.Value.REF (m ((c.tc : Thread Cert.FfnSIdeal.nD Cert.FfnSIdeal.τ).loc Cert.FfnSIdeal.main_arg0)) (m ((c.tc : Thread Cert.FfnSIdeal.nD Cert.FfnSIdeal.τ).loc Cert.FfnSIdeal.main_arg1)) (m ((c.tc : Thread Cert.FfnSIdeal.nD Cert.FfnSIdeal.τ).loc Cert.FfnSIdeal.main_arg2)) (m ((c.tc : Thread Cert.FfnSIdeal.nD Cert.FfnSIdeal.τ).loc Cert.FfnSIdeal.main_arg3)) (m ((c.tc : Thread Cert.FfnSIdeal.nD Cert.FfnSIdeal.τ).loc Cert.FfnSIdeal.main_arg4)) (m ((c.tc : Thread Cert.FfnSIdeal.nD Cert.FfnSIdeal.τ).loc Cert.FfnSIdeal.main_arg5)),
    (θ_run _ _ _).mono (fun _ h c => ?_) (Cert.FfnSIdeal.Value.run_blocks m g),
    (θ_run _ _ _).mono (fun _ h c => ?_) (Cert.FfnSRefIdeal.Value.run m' g')⟩
  · obtain ⟨k0, kr⟩ := h c
    exact ⟨k0.trans (final m c), kr⟩
  · obtain ⟨k0, kr⟩ := h c
    obtain ⟨h0, h1, h2, h3, h4, h5⟩ := hag c
    have ek0 : Cert.FfnSRefIdeal.Value.REF (m' ((c.tc : Thread Cert.FfnSRefIdeal.nD Cert.FfnSRefIdeal.τ).loc Cert.FfnSRefIdeal.main_arg0)) (m' ((c.tc : Thread Cert.FfnSRefIdeal.nD Cert.FfnSRefIdeal.τ).loc Cert.FfnSRefIdeal.main_arg1)) (m' ((c.tc : Thread Cert.FfnSRefIdeal.nD Cert.FfnSRefIdeal.τ).loc Cert.FfnSRefIdeal.main_arg2)) (m' ((c.tc : Thread Cert.FfnSRefIdeal.nD Cert.FfnSRefIdeal.τ).loc Cert.FfnSRefIdeal.main_arg3)) (m' ((c.tc : Thread Cert.FfnSRefIdeal.nD Cert.FfnSRefIdeal.τ).loc Cert.FfnSRefIdeal.main_arg4)) (m' ((c.tc : Thread Cert.FfnSRefIdeal.nD Cert.FfnSRefIdeal.τ).loc Cert.FfnSRefIdeal.main_arg5))
        = Cert.FfnSRefIdeal.Value.REF (m ((c.tc : Thread Cert.FfnSIdeal.nD Cert.FfnSIdeal.τ).loc Cert.FfnSIdeal.main_arg0)) (m ((c.tc : Thread Cert.FfnSIdeal.nD Cert.FfnSIdeal.τ).loc Cert.FfnSIdeal.main_arg1)) (m ((c.tc : Thread Cert.FfnSIdeal.nD Cert.FfnSIdeal.τ).loc Cert.FfnSIdeal.main_arg2)) (m ((c.tc : Thread Cert.FfnSIdeal.nD Cert.FfnSIdeal.τ).loc Cert.FfnSIdeal.main_arg3)) (m ((c.tc : Thread Cert.FfnSIdeal.nD Cert.FfnSIdeal.τ).loc Cert.FfnSIdeal.main_arg4)) (m ((c.tc : Thread Cert.FfnSIdeal.nD Cert.FfnSIdeal.τ).loc Cert.FfnSIdeal.main_arg5)) := by
      rw [h0, h1, h2, h3, h4, h5]
    exact ⟨(k0.trans (by rfl)).trans ek0, kr⟩

end Cert.FfnSIdeal.Value

end
-- ==== Proof.lean ====
module

public import proofs.«01_k».proof.Defs
public import proofs.«01_k».proof.Proof.Gen.MmRes.Frame
public import proofs.«01_k».proof.Proof.MmRes.Claim
public import proofs.«01_k».proof.Proof.Gen.NormMm.Frame
public import proofs.«01_k».proof.Proof.NormMm.Claim
public import proofs.«01_k».proof.Proof.Gen.Ca.Frame
public import proofs.«01_k».proof.Proof.Ca.Claim
public import proofs.«01_k».proof.Proof.Gen.Ffn.Frame
public import proofs.«01_k».proof.Proof.Ffn.Claim
public import proofs.«01_k».proof.Proof.Gen.Mixout.Frame
public import proofs.«01_k».proof.Proof.Mixout.Claim
public import proofs.«01_k».proof.Proof.Gen.Hgrn.Frame
public import proofs.«01_k».proof.Proof.Hgrn.Claim
public import proofs.«01_k».proof.Proof.Gen.Proj.Frame
public import proofs.«01_k».proof.Proof.Proj.Claim
public import proofs.«01_k».proof.Proof.Gen.ProjS.Frame
public import proofs.«01_k».proof.Proof.ProjS.Claim
public import proofs.«01_k».proof.Proof.Gen.MixoutS.Frame
public import proofs.«01_k».proof.Proof.MixoutS.Claim
public import proofs.«01_k».proof.Proof.Gen.CaS.Frame
public import proofs.«01_k».proof.Proof.CaS.Claim
public import proofs.«01_k».proof.Proof.Gen.MmResS.Frame
public import proofs.«01_k».proof.Proof.MmResS.Claim
public import proofs.«01_k».proof.Proof.Gen.FfnS.Frame
public import proofs.«01_k».proof.Proof.FfnS.Claim
public import proofs.«01_k».proof.Proof.Gen.HgrnP.Frame
public import proofs.«01_k».proof.Proof.Gen.HgrnPIdeal.Frame
public import proofs.«01_k».proof.Proof.Gen.NsaP.Frame
public import proofs.«01_k».proof.Proof.Gen.NsaPIdeal.Frame
public import Idealize.ShloMosaic.Adequacy
public import Idealize.ShloMosaic.Init

@[expose] public section

noncomputable section

namespace Cert.Proof

open Idealize.ShloMosaic Idealize.SL.Sem

/-- Every claim of the certificate: the frames of the kernels, of their idealizations and of the references, the
    idealizations (which rewrite nothing), and the equality of every kernel's results with its reference's. -/
theorem claim : Cert.Claim :=
  ⟨Cert.MmRes.Gen.facts,
    Cert.MmResIdeal.Gen.facts,
    Cert.MmResRefIdeal.Gen.facts,
    Cert.NormMm.Gen.facts,
    Cert.NormMmIdeal.Gen.facts,
    Cert.NormMmRefIdeal.Gen.facts,
    Cert.Ca.Gen.facts,
    Cert.CaIdeal.Gen.facts,
    Cert.CaRefIdeal.Gen.facts,
    Cert.Ffn.Gen.facts,
    Cert.FfnIdeal.Gen.facts,
    Cert.FfnRefIdeal.Gen.facts,
    Cert.Mixout.Gen.facts,
    Cert.MixoutIdeal.Gen.facts,
    Cert.MixoutRefIdeal.Gen.facts,
    Cert.Hgrn.Gen.facts,
    Cert.HgrnIdeal.Gen.facts,
    Cert.HgrnRefIdeal.Gen.facts,
    Cert.Proj.Gen.facts,
    Cert.ProjIdeal.Gen.facts,
    Cert.ProjRefIdeal.Gen.facts,
    Cert.ProjS.Gen.facts,
    Cert.ProjSIdeal.Gen.facts,
    Cert.ProjSRefIdeal.Gen.facts,
    Cert.MixoutS.Gen.facts,
    Cert.MixoutSIdeal.Gen.facts,
    Cert.MixoutSRefIdeal.Gen.facts,
    Cert.CaS.Gen.facts,
    Cert.CaSIdeal.Gen.facts,
    Cert.CaSRefIdeal.Gen.facts,
    Cert.MmResS.Gen.facts,
    Cert.MmResSIdeal.Gen.facts,
    Cert.MmResSRefIdeal.Gen.facts,
    Cert.FfnS.Gen.facts,
    Cert.FfnSIdeal.Gen.facts,
    Cert.FfnSRefIdeal.Gen.facts,
    Cert.HgrnP.Gen.facts,
    Cert.HgrnPIdeal.Gen.facts,
    Cert.NsaP.Gen.facts,
    Cert.NsaPIdeal.Gen.facts,
    fun m ρ _ => Cert.MmRes.Gen.frame m ρ,
    fun m ρ _ => Cert.MmResIdeal.Gen.frame m ρ,
    Cert.MmResIdeal.Value.still,
    fun m ρ _ => Cert.NormMm.Gen.frame m ρ,
    fun m ρ _ => Cert.NormMmIdeal.Gen.frame m ρ,
    Cert.NormMmIdeal.Value.still,
    fun m ρ _ => Cert.Ca.Gen.frame m ρ,
    fun m ρ _ => Cert.CaIdeal.Gen.frame m ρ,
    Cert.CaIdeal.Value.still,
    fun m ρ _ => Cert.Ffn.Gen.frame m ρ,
    fun m ρ _ => Cert.FfnIdeal.Gen.frame m ρ,
    Cert.FfnIdeal.Value.still,
    fun m ρ _ => Cert.Mixout.Gen.frame m ρ,
    fun m ρ _ => Cert.MixoutIdeal.Gen.frame m ρ,
    Cert.MixoutIdeal.Value.still,
    fun m ρ _ => Cert.Hgrn.Gen.frame m ρ,
    fun m ρ _ => Cert.HgrnIdeal.Gen.frame m ρ,
    Cert.HgrnIdeal.Value.still,
    fun m ρ _ => Cert.Proj.Gen.frame m ρ,
    fun m ρ _ => Cert.ProjIdeal.Gen.frame m ρ,
    Cert.ProjIdeal.Value.still,
    fun m ρ _ => Cert.ProjS.Gen.frame m ρ,
    fun m ρ _ => Cert.ProjSIdeal.Gen.frame m ρ,
    Cert.ProjSIdeal.Value.still,
    fun m ρ _ => Cert.MixoutS.Gen.frame m ρ,
    fun m ρ _ => Cert.MixoutSIdeal.Gen.frame m ρ,
    Cert.MixoutSIdeal.Value.still,
    fun m ρ _ => Cert.CaS.Gen.frame m ρ,
    fun m ρ _ => Cert.CaSIdeal.Gen.frame m ρ,
    Cert.CaSIdeal.Value.still,
    fun m ρ _ => Cert.MmResS.Gen.frame m ρ,
    fun m ρ _ => Cert.MmResSIdeal.Gen.frame m ρ,
    Cert.MmResSIdeal.Value.still,
    fun m ρ _ => Cert.FfnS.Gen.frame m ρ,
    fun m ρ _ => Cert.FfnSIdeal.Gen.frame m ρ,
    Cert.FfnSIdeal.Value.still,
    fun m ρ _ => Cert.HgrnP.Gen.frame m ρ,
    fun m ρ _ => Cert.HgrnPIdeal.Gen.frame m ρ,
    fun m ρ _ => Cert.NsaP.Gen.frame m ρ,
    fun m ρ _ => Cert.NsaPIdeal.Gen.frame m ρ,
    trivial,
    Cert.MmResIdeal.Value.agree,
    trivial,
    Cert.NormMmIdeal.Value.agree,
    trivial,
    Cert.CaIdeal.Value.agree,
    trivial,
    Cert.FfnIdeal.Value.agree,
    trivial,
    Cert.MixoutIdeal.Value.agree,
    trivial,
    Cert.HgrnIdeal.Value.agree,
    trivial,
    Cert.ProjIdeal.Value.agree,
    trivial,
    Cert.ProjSIdeal.Value.agree,
    trivial,
    Cert.MixoutSIdeal.Value.agree,
    trivial,
    Cert.CaSIdeal.Value.agree,
    trivial,
    Cert.MmResSIdeal.Value.agree,
    trivial,
    Cert.FfnSIdeal.Value.agree,
    trivial,
    trivial⟩

end Cert.Proof

end
